-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_edges_in_range_and_finite [hPre_edges_in_range_and_finite : Cert.Pre_edges_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range_and_finite [hPre_edges_in_range_and_finite : Cert.Pre_edges_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerReferenceIdeal (m : (ℓ : Loc Cert.LayerReferenceIdeal.nD Cert.LayerReferenceIdeal.τ Cert.LayerReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_column_sums [hPre_column_sums : Cert.Pre_column_sums.Facts] (m : (ℓ : Loc Cert.NormIdeal.nD Cert.NormIdeal.τ Cert.NormIdeal.sig) → Buf (Elt Ideal) ℓ) : Prop :=
  ∀ c : Dev Cert.NormIdeal.nD,
    (Cert.Pre_column_sums.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_column_sums [hPre_column_sums : Cert.Pre_column_sums.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_column_sums.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_edges_in_range_and_finite [hKernelIdeal : Cert.KernelIdeal.Facts] [hPre_edges_in_range_and_finite : Cert.Pre_edges_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_edges_in_range_and_finite [hReferenceIdeal : Cert.ReferenceIdeal.Facts] [hPre_edges_in_range_and_finite : Cert.Pre_edges_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_column_sums [hNormIdeal : Cert.NormIdeal.Facts] [hPre_column_sums : Cert.Pre_column_sums.Facts] : Prop :=
  ∀ (m : (ℓ : Loc Cert.NormIdeal.nD Cert.NormIdeal.τ Cert.NormIdeal.sig) → Buf (Elt Ideal) ℓ) (g : Dev Cert.NormIdeal.nD → PrngReg), Pre_NormIdeal_column_sums m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormReferenceIdeal_pre_column_sums [hNormReferenceIdeal : Cert.NormReferenceIdeal.Facts] [hPre_column_sums : Cert.Pre_column_sums.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_column_sums m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6))
      ∧ r.2.sem = fun _ => 0)

def preserves_Kernel_KernelIdeal : Prop :=
  IdealRules.named_const.Statement Cert.KernelIdeal.κ "neg" .f32 0xFF61B1E6#32 ⊥
  ∧ IdealRules.named_const.Statement Cert.KernelIdeal.κ "low" .f32 0xFCF0BDC2#32 ⊥

def algebraic_KernelIdeal_ReferenceIdeal_pre_edges_in_range_and_finite [hKernelIdeal : Cert.KernelIdeal.Facts] [hReferenceIdeal : Cert.ReferenceIdeal.Facts] [hPre_edges_in_range_and_finite : Cert.Pre_edges_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v16)) (v6 : (c : Dev Cert.KernelIdeal.nD) → Buf (Elt Ideal) ((c.tc : Thread Cert.KernelIdeal.nD Cert.KernelIdeal.τ).loc Cert.KernelIdeal.main_v18)) (v7 : (c : Dev Cert.KernelIdeal.nD) → Buf (Elt Ideal) ((c.tc : Thread Cert.KernelIdeal.nD Cert.KernelIdeal.τ).loc Cert.KernelIdeal.main_v20)) (v8 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_v20) = v7 c
          ∧ r.2.mem ((c.tc : Thread Cert.KernelIdeal.nD Cert.KernelIdeal.τ).loc Cert.KernelIdeal.main_v22) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_v17) = v6 c
          ∧ r.2.mem ((c.tc : Thread Cert.ReferenceIdeal.nD Cert.ReferenceIdeal.τ).loc Cert.ReferenceIdeal.main_v18) = v7 c
          ∧ r.2.mem ((c.tc : Thread Cert.ReferenceIdeal.nD Cert.ReferenceIdeal.τ).loc Cert.ReferenceIdeal.main_v19) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Layer_LayerIdeal : Prop :=
  True

def algebraic_LayerIdeal_LayerReferenceIdeal [hLayerIdeal : Cert.LayerIdeal.Facts] [hLayerReferenceIdeal : Cert.LayerReferenceIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)) →
    ∃ (v0 : (c : Dev Cert.LayerIdeal.nD) → Buf (Elt Ideal) ((c.tc : Thread Cert.LayerIdeal.nD Cert.LayerIdeal.τ).loc Cert.LayerIdeal.main_v1_0)) (v1 : (c : Dev Cert.LayerIdeal.nD) → Buf (Elt Ideal) ((c.tc : Thread Cert.LayerIdeal.nD Cert.LayerIdeal.τ).loc Cert.LayerIdeal.main_v1_1)) (v2 : (c : Dev Cert.LayerIdeal.nD) → Buf (Elt Ideal) ((c.tc : Thread Cert.LayerIdeal.nD Cert.LayerIdeal.τ).loc Cert.LayerIdeal.main_v1_2)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v1_0) = v0 c
          ∧ r.2.mem ((c.tc : Thread Cert.LayerIdeal.nD Cert.LayerIdeal.τ).loc Cert.LayerIdeal.main_v1_1) = v1 c
          ∧ r.2.mem ((c.tc : Thread Cert.LayerIdeal.nD Cert.LayerIdeal.τ).loc Cert.LayerIdeal.main_v1_2) = v2 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v7) = v0 c
          ∧ r.2.mem ((c.tc : Thread Cert.LayerReferenceIdeal.nD Cert.LayerReferenceIdeal.τ).loc Cert.LayerReferenceIdeal.main_v9) = v1 c
          ∧ r.2.mem ((c.tc : Thread Cert.LayerReferenceIdeal.nD Cert.LayerReferenceIdeal.τ).loc Cert.LayerReferenceIdeal.main_v12) = v2 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4))

def preserves_Norm_NormIdeal : Prop :=
  IdealRules.named_const.Statement Cert.NormIdeal.κ "inv_n" .f32 0x38D1B717#32 ((1 / 10000 : ℝ) : EReal)

def algebraic_NormIdeal_NormReferenceIdeal_pre_column_sums [hNormIdeal : Cert.NormIdeal.Facts] [hNormReferenceIdeal : Cert.NormReferenceIdeal.Facts] [hPre_column_sums : Cert.Pre_column_sums.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_column_sums m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v28) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v12) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6))

def Claim : Prop :=
  ∃ (hKernel : Cert.Kernel.Facts) (hKernelIdeal : Cert.KernelIdeal.Facts) (hReferenceIdeal : Cert.ReferenceIdeal.Facts) (hLayer : Cert.Layer.Facts) (hLayerIdeal : Cert.LayerIdeal.Facts) (hLayerReferenceIdeal : Cert.LayerReferenceIdeal.Facts) (hNorm : Cert.Norm.Facts) (hNormIdeal : Cert.NormIdeal.Facts) (hNormReferenceIdeal : Cert.NormReferenceIdeal.Facts) (hTail : Cert.Tail.Facts) (hTailIdeal : Cert.TailIdeal.Facts) (hTailReferenceIdeal : Cert.TailReferenceIdeal.Facts) (hPre_edges_in_range : Cert.Pre_edges_in_range.Facts) (hPre_edges_in_range_and_finite : Cert.Pre_edges_in_range_and_finite.Facts) (hPre_column_sums : Cert.Pre_column_sums.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_edges_in_range_and_finite (hKernelIdeal := hKernelIdeal) (hPre_edges_in_range_and_finite := hPre_edges_in_range_and_finite)
    ∧ quiescent_ReferenceIdeal (hReferenceIdeal := hReferenceIdeal)
    ∧ quiescent_ReferenceIdeal_pre_edges_in_range_and_finite (hReferenceIdeal := hReferenceIdeal) (hPre_edges_in_range_and_finite := hPre_edges_in_range_and_finite)
    ∧ quiescent_Layer (hLayer := hLayer)
    ∧ quiescent_LayerIdeal (hLayerIdeal := hLayerIdeal)
    ∧ quiescent_LayerReferenceIdeal (hLayerReferenceIdeal := hLayerReferenceIdeal)
    ∧ quiescent_Norm (hNorm := hNorm)
    ∧ quiescent_NormIdeal (hNormIdeal := hNormIdeal)
    ∧ quiescent_NormIdeal_pre_column_sums (hNormIdeal := hNormIdeal) (hPre_column_sums := hPre_column_sums)
    ∧ quiescent_NormReferenceIdeal (hNormReferenceIdeal := hNormReferenceIdeal)
    ∧ quiescent_NormReferenceIdeal_pre_column_sums (hNormReferenceIdeal := hNormReferenceIdeal) (hPre_column_sums := hPre_column_sums)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ algebraic_KernelIdeal_ReferenceIdeal_pre_edges_in_range_and_finite (hKernelIdeal := hKernelIdeal) (hReferenceIdeal := hReferenceIdeal) (hPre_edges_in_range_and_finite := hPre_edges_in_range_and_finite)
    ∧ preserves_Layer_LayerIdeal
    ∧ algebraic_LayerIdeal_LayerReferenceIdeal (hLayerIdeal := hLayerIdeal) (hLayerReferenceIdeal := hLayerReferenceIdeal)
    ∧ preserves_Norm_NormIdeal
    ∧ algebraic_NormIdeal_NormReferenceIdeal_pre_column_sums (hNormIdeal := hNormIdeal) (hNormReferenceIdeal := hNormReferenceIdeal) (hPre_column_sums := hPre_column_sums)
    ∧ preserves_Tail_TailIdeal
    ∧ algebraic_TailIdeal_TailReferenceIdeal (hTailIdeal := hTailIdeal) (hTailReferenceIdeal := hTailReferenceIdeal)
-- ==== Pre_column_sums.lean ====
abbrev S10000x128 : Shape := ⟨2, ![10000, 128]⟩
abbrev S1x128 : Shape := ⟨2, ![1, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  reducesTo_S10000x128_S128_d0 : S10000x128.ReducesTo [0] S128
  bcast_S128_S1x128_1 : S128.BroadcastsInDim S1x128 (![1] : Fin 1 → Fin S1x128.rank)
  reducesTo_S1x128_S_d0_1 : S1x128.ReducesTo [0, 1] S_

variable [Facts]

def fn_part1 {F : FTy → Type} [FloatOps F] (main_v8 : IVec S_ 1) (main_v12 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v12 main_v17
  let main_v19 : IVec S_ 1 := andi main_v8 main_v18
  main_v19

def fn {F : FTy → Type} [FloatOps F] (main_arg0 : FVec F S10000x128 .f32) (main_arg1 : FVec F S1x128 .f32) (main_arg2 : FVec F S1x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg5
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_cst_2 : FVec F S_ .f32 := constant S_ .f32 0x00000000#32
  let main_v9 : FVec F S128 .f32 := (fun x v => Host.reduceAdd x v reducesTo_S10000x128_S128_d0 h_S_) main_arg0 main_cst_2
  let main_v10 : FVec F S1x128 .f32 := broadcastInDim S1x128 ![1] bcast_S128_S1x128_1 main_v9
  let main_v11 : IVec S1x128 1 := cmpf .oeq main_arg1 main_v10
  let main_c_3 : IVec S_ 1 := constantI S_ 1 1#1
  let main_v12 : IVec S_ 1 := (fun x v => Host.reduce IntOp.andi x v reducesTo_S1x128_S_d0_1 h_S_) main_v11 main_c_3
  let main_v13 : FVec F S10000x128 .f32 := mulf main_arg0 main_arg0
  let main_cst_4 : FVec F S_ .f32 := constant S_ .f32 0x00000000#32
  let main_v14 : FVec F S128 .f32 := (fun x v => Host.reduceAdd x v reducesTo_S10000x128_S128_d0 h_S_) main_v13 main_cst_4
  let main_v15 : FVec F S1x128 .f32 := broadcastInDim S1x128 ![1] bcast_S128_S1x128_1 main_v14
  let main_v16 : IVec S1x128 1 := cmpf .oeq main_arg2 main_v15
  fn_part1 (F := F) main_v8 main_v12 main_v16
-- ==== Pre_edges_in_range.lean ====
abbrev S10000x128 : Shape := ⟨2, ![10000, 128]⟩
abbrev S2x320000 : Shape := ⟨2, ![2, 320000]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : FVec F S10000x128 .f32) (main_arg2 : FVec F S10000x128 .f32) (main_arg3 : FVec F S10000x128 .f32) (main_arg4 : FVec F S10000x128 .f32) (main_arg5 : FVec F S10000x128 .f32) (main_arg6 : FVec F S10000x128 .f32) (main_arg7 : FVec F S10000x128 .f32) (main_arg8 : FVec F S10000x128 .f32) (main_arg9 : IVec S2x320000 32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg9 main_v0
  let main_c_0 : IVec S_ 32 := constantI S_ 32 10000#32
  let main_v2 : IVec S2x320000 32 := broadcastInDim S2x320000 ![] bcast_S_S2x320000 main_c_0
  let main_v3 : IVec S2x320000 1 := cmpi .slt main_arg9 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  main_v5
-- ==== Pre_edges_in_range_and_finite.lean ====
abbrev S10000x128 : Shape := ⟨2, ![10000, 128]⟩
abbrev S2x320000 : Shape := ⟨2, ![2, 320000]⟩
abbrev S10000x1152 : Shape := ⟨2, ![10000, 1152]⟩
abbrev S_ : Shape := ⟨0, ![]⟩

class Facts : Prop where
  concatenates_S10000x128_S10000x128_S10000x128_S10000x128_S10000x128_S10000x128_S10000x128_S10000x128_S10000x128_S10000x1152_d1 : Shape.Concatenates [S10000x128, S10000x128, S10000x128, S10000x128, S10000x128, S10000x128, S10000x128, S10000x128, S10000x128] S10000x1152 1
  bcast_S_S10000x1152 : S_.BroadcastsInDim S10000x1152 (![] : Fin 0 → Fin S10000x1152.rank)
  reducesTo_S10000x1152_S_d0_1 : S10000x1152.ReducesTo [0, 1] S_
  h_S_ : 0 < S_.numel
  bcast_S_S2x320000 : S_.BroadcastsInDim S2x320000 (![] : Fin 0 → Fin S2x320000.rank)
  reducesTo_S2x320000_S_d0_1 : S2x320000.ReducesTo [0, 1] S_

variable [Facts]

def fn {F : FTy → Type} [FloatOps F] (main_arg0 : FVec F S10000x128 .f32) (main_arg1 : FVec F S10000x128 .f32) (main_arg2 : FVec F S10000x128 .f32) (main_arg3 : FVec F S10000x128 .f32) (main_arg4 : FVec F S10000x128 .f32) (main_arg5 : FVec F S10000x128 .f32) (main_arg6 : FVec F S10000x128 .f32) (main_arg7 : FVec F S10000x128 .f32) (main_arg8 : FVec F S10000x128 .f32) (main_arg9 : IVec S2x320000 32) : IVec S_ 1 :=
  let main_v0 : FVec F S10000x1152 .f32 := concatenate S10000x1152 1 [⟨S10000x128, main_arg0⟩, ⟨S10000x128, main_arg1⟩, ⟨S10000x128, main_arg2⟩, ⟨S10000x128, main_arg3⟩, ⟨S10000x128, main_arg4⟩, ⟨S10000x128, main_arg5⟩, ⟨S10000x128, main_arg6⟩, ⟨S10000x128, main_arg7⟩, ⟨S10000x128, main_arg8⟩] concatenates_S10000x128_S10000x128_S10000x128_S10000x128_S10000x128_S10000x128_S10000x128_S10000x128_S10000x128_S10000x1152_d1
  let main_v1 : FVec F S10000x1152 .f32 := Host.absf main_v0
  let main_cst : FVec F S_ .f32 := constant S_ .f32 0x7F800000#32
  let main_v2 : FVec F S10000x1152 .f32 := broadcastInDim S10000x1152 ![] bcast_S_S10000x1152 main_cst
  let main_v3 : IVec S10000x1152 1 := cmpf .olt main_v1 main_v2
  let main_c : IVec S_ 1 := constantI S_ 1 1#1
  let main_v4 : IVec S_ 1 := (fun x v => Host.reduce IntOp.andi x v reducesTo_S10000x1152_S_d0_1 h_S_) main_v3 main_c
  let main_c_0 : IVec S_ 32 := constantI S_ 32 0#32
  let main_v5 : IVec S2x320000 32 := broadcastInDim S2x320000 ![] bcast_S_S2x320000 main_c_0
  let main_v6 : IVec S2x320000 1 := cmpi .sge main_arg9 main_v5
  let main_c_1 : IVec S_ 32 := constantI S_ 32 10000#32
  let main_v7 : IVec S2x320000 32 := broadcastInDim S2x320000 ![] bcast_S_S2x320000 main_c_1
  let main_v8 : IVec S2x320000 1 := cmpi .slt main_arg9 main_v7
  let main_v9 : IVec S2x320000 1 := andi main_v6 main_v8
  let main_c_2 : IVec S_ 1 := constantI S_ 1 1#1
  let main_v10 : IVec S_ 1 := (fun x v => Host.reduce IntOp.andi x v reducesTo_S2x320000_S_d0_1 h_S_) main_v9 main_c_2
  let main_v11 : IVec S_ 1 := andi main_v4 main_v10
  main_v11
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S32x323584 : Shape := ⟨2, ![32, 323584]⟩
abbrev S32x16 : Shape := ⟨2, ![32, 16]⟩
abbrev S4000 : Shape := ⟨1, ![4000]⟩
abbrev S8192 : Shape := ⟨1, ![8192]⟩
abbrev S16 : Shape := ⟨1, ![16]⟩
abbrev S_ : Shape := ⟨0, ![]⟩
abbrev S4096 : Shape := ⟨1, ![4096]⟩
abbrev S1x4096 : Shape := ⟨2, ![1, 4096]⟩
abbrev S1x16 : Shape := ⟨2, ![1, 16]⟩
abbrev S1280000 : Shape := ⟨1, ![1280000]⟩
abbrev S40192 : Shape := ⟨1, ![40192]⟩
abbrev S2048 : Shape := ⟨1, ![2048]⟩
abbrev S128 : Shape := ⟨1, ![128]⟩
abbrev S128x128 : Shape := ⟨2, ![128, 128]⟩
abbrev S1 : Shape := ⟨1, ![1]⟩
abbrev S1x2048 : Shape := ⟨2, ![1, 2048]⟩
abbrev S40064 : Shape := ⟨1, ![40064]⟩
abbrev S38016 : Shape := ⟨1, ![38016]⟩

abbrev nBuf : Table → Nat
  | .hbm => 34
  | .local .scVector .vmem => 49
  | _ => 0

abbrev bufTy : (tb : Table) → Fin (nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S2x320000, .i32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S32x323584, .i32⟩
  | .hbm, ⟨15, _⟩ => ⟨S32x16, .i32⟩
  | .hbm, ⟨16, _⟩ => ⟨S1280000, .f32⟩
  | .hbm, ⟨17, _⟩ => ⟨S10000x128, .f32⟩
  | .hbm, ⟨18, _⟩ => ⟨S1280000, .f32⟩
  | .hbm, ⟨19, _⟩ => ⟨S10000x128, .f32⟩
  | .hbm, ⟨20, _⟩ => ⟨S1280000, .f32⟩
  | .hbm, ⟨21, _⟩ => ⟨S10000x128, .f32⟩
  | .hbm, ⟨22, _⟩ => ⟨S1280000, .f32⟩
  | .hbm, ⟨23, _⟩ => ⟨S10000x128, .f32⟩
  | .hbm, ⟨24, _⟩ => ⟨S1280000, .f32⟩
  | .hbm, ⟨25, _⟩ => ⟨S10000x128, .f32⟩
  | .hbm, ⟨26, _⟩ => ⟨S1280000, .f32⟩
  | .hbm, ⟨27, _⟩ => ⟨S10000x128, .f32⟩
  | .hbm, ⟨28, _⟩ => ⟨S1280000, .f32⟩
  | .hbm, ⟨29, _⟩ => ⟨S10000x128, .f32⟩
  | .hbm, ⟨30, _⟩ => ⟨S1280000, .f32⟩
  | .hbm, ⟨31, _⟩ => ⟨S10000x128, .f32⟩
  | .hbm, ⟨32, _⟩ => ⟨S1280000, .f32⟩
  | .hbm, ⟨33, _⟩ => ⟨S10000x128, .f32⟩
  | .local .scVector .vmem, ⟨0, _⟩ => ⟨S4000, .i32⟩
  | .local .scVector .vmem, ⟨1, _⟩ => ⟨S4000, .i32⟩
  | .local .scVector .vmem, ⟨2, _⟩ => ⟨S8192, .i32⟩
  | .local .scVector .vmem, ⟨3, _⟩ => ⟨S16, .i32⟩
  | .local .scVector .vmem, ⟨4, _⟩ => ⟨S40192, .f32⟩
  | .local .scVector .vmem, ⟨5, _⟩ => ⟨S2048, .i32⟩
  | .local .scVector .vmem, ⟨6, _⟩ => ⟨S128, .i32⟩
  | .local .scVector .vmem, ⟨7, _⟩ => ⟨S128x128, .f32⟩
  | .local .scVector .vmem, ⟨8, _⟩ => ⟨S16, .i32⟩
  | .local .scVector .vmem, ⟨9, _⟩ => ⟨S40192, .f32⟩
  | .local .scVector .vmem, ⟨10, _⟩ => ⟨S2048, .i32⟩
  | .local .scVector .vmem, ⟨11, _⟩ => ⟨S128, .i32⟩
  | .local .scVector .vmem, ⟨12, _⟩ => ⟨S128x128, .f32⟩
  | .local .scVector .vmem, ⟨13, _⟩ => ⟨S16, .i32⟩
  | .local .scVector .vmem, ⟨14, _⟩ => ⟨S40192, .f32⟩
  | .local .scVector .vmem, ⟨15, _⟩ => ⟨S2048, .i32⟩
  | .local .scVector .vmem, ⟨16, _⟩ => ⟨S128, .i32⟩
  | .local .scVector .vmem, ⟨17, _⟩ => ⟨S128x128, .f32⟩
  | .local .scVector .vmem, ⟨18, _⟩ => ⟨S16, .i32⟩
  | .local .scVector .vmem, ⟨19, _⟩ => ⟨S40192, .f32⟩
  | .local .scVector .vmem, ⟨20, _⟩ => ⟨S2048, .i32⟩
  | .local .scVector .vmem, ⟨21, _⟩ => ⟨S128, .i32⟩
  | .local .scVector .vmem, ⟨22, _⟩ => ⟨S128x128, .f32⟩
  | .local .scVector .vmem, ⟨23, _⟩ => ⟨S16, .i32⟩
  | .local .scVector .vmem, ⟨24, _⟩ => ⟨S40192, .f32⟩
  | .local .scVector .vmem, ⟨25, _⟩ => ⟨S2048, .i32⟩
  | .local .scVector .vmem, ⟨26, _⟩ => ⟨S128, .i32⟩
  | .local .scVector .vmem, ⟨27, _⟩ => ⟨S128x128, .f32⟩
  | .local .scVector .vmem, ⟨28, _⟩ => ⟨S16, .i32⟩
  | .local .scVector .vmem, ⟨29, _⟩ => ⟨S40192, .f32⟩
  | .local .scVector .vmem, ⟨30, _⟩ => ⟨S2048, .i32⟩
  | .local .scVector .vmem, ⟨31, _⟩ => ⟨S128, .i32⟩
  | .local .scVector .vmem, ⟨32, _⟩ => ⟨S128x128, .f32⟩
  | .local .scVector .vmem, ⟨33, _⟩ => ⟨S16, .i32⟩
  | .local .scVector .vmem, ⟨34, _⟩ => ⟨S40192, .f32⟩
  | .local .scVector .vmem, ⟨35, _⟩ => ⟨S2048, .i32⟩
  | .local .scVector .vmem, ⟨36, _⟩ => ⟨S128, .i32⟩
  | .local .scVector .vmem, ⟨37, _⟩ => ⟨S128x128, .f32⟩
  | .local .scVector .vmem, ⟨38, _⟩ => ⟨S16, .i32⟩
  | .local .scVector .vmem, ⟨39, _⟩ => ⟨S40192, .f32⟩
  | .local .scVector .vmem, ⟨40, _⟩ => ⟨S2048, .i32⟩
  | .local .scVector .vmem, ⟨41, _⟩ => ⟨S128, .i32⟩
  | .local .scVector .vmem, ⟨42, _⟩ => ⟨S128x128, .f32⟩
  | .local .scVector .vmem, ⟨43, _⟩ => ⟨S16, .i32⟩
  | .local .scVector .vmem, ⟨44, _⟩ => ⟨S40192, .f32⟩
  | .local .scVector .vmem, ⟨45, _⟩ => ⟨S2048, .i32⟩
  | .local .scVector .vmem, ⟨46, _⟩ => ⟨S128, .i32⟩
  | .local .scVector .vmem, ⟨47, _⟩ => ⟨S128x128, .f32⟩
  | .local .scVector .vmem, ⟨48, _⟩ => ⟨S16, .i32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v1_scv : Ref sig .scVector := ⟨.hbm, 11, rfl⟩
abbrev main_v3_scv : Ref sig .scVector := ⟨.hbm, 13, rfl⟩
abbrev main_v4_0_scv : Ref sig .scVector := ⟨.hbm, 14, rfl⟩
abbrev main_v4_1_scv : Ref sig .scVector := ⟨.hbm, 15, rfl⟩
abbrev main_arg0_scv : Ref sig .scVector := ⟨.hbm, 0, rfl⟩
abbrev main_v5_scv : Ref sig .scVector := ⟨.hbm, 16, rfl⟩
abbrev main_arg1_scv : Ref sig .scVector := ⟨.hbm, 1, rfl⟩
abbrev main_v7_scv : Ref sig .scVector := ⟨.hbm, 18, rfl⟩
abbrev main_arg2_scv : Ref sig .scVector := ⟨.hbm, 2, rfl⟩
abbrev main_v9_scv : Ref sig .scVector := ⟨.hbm, 20, rfl⟩
abbrev main_arg3_scv : Ref sig .scVector := ⟨.hbm, 3, rfl⟩
abbrev main_v11_scv : Ref sig .scVector := ⟨.hbm, 22, rfl⟩
abbrev main_arg4_scv : Ref sig .scVector := ⟨.hbm, 4, rfl⟩
abbrev main_v13_scv : Ref sig .scVector := ⟨.hbm, 24, rfl⟩
abbrev main_arg5_scv : Ref sig .scVector := ⟨.hbm, 5, rfl⟩
abbrev main_v15_scv : Ref sig .scVector := ⟨.hbm, 26, rfl⟩
abbrev main_arg6_scv : Ref sig .scVector := ⟨.hbm, 6, rfl⟩
abbrev main_v17_scv : Ref sig .scVector := ⟨.hbm, 28, rfl⟩
abbrev main_arg7_scv : Ref sig .scVector := ⟨.hbm, 7, rfl⟩
abbrev main_v19_scv : Ref sig .scVector := ⟨.hbm, 30, rfl⟩
abbrev main_arg8_scv : Ref sig .scVector := ⟨.hbm, 8, rfl⟩
abbrev main_v21_scv : Ref sig .scVector := ⟨.hbm, 32, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc2_scratch0 : Ref sig .scVector := ⟨.vmem, 9, rfl⟩
abbrev cc2_scratch1 : Ref sig .scVector := ⟨.vmem, 10, rfl⟩
abbrev cc2_scratch2 : Ref sig .scVector := ⟨.vmem, 11, rfl⟩
abbrev cc2_scratch3 : Ref sig .scVector := ⟨.vmem, 12, rfl⟩
abbrev cc2_scratch4 : Ref sig .scVector := ⟨.vmem, 13, rfl⟩
abbrev cc3_scratch0 : Ref sig .scVector := ⟨.vmem, 14, rfl⟩
abbrev cc3_scratch1 : Ref sig .scVector := ⟨.vmem, 15, rfl⟩
abbrev cc3_scratch2 : Ref sig .scVector := ⟨.vmem, 16, rfl⟩
abbrev cc3_scratch3 : Ref sig .scVector := ⟨.vmem, 17, rfl⟩
abbrev cc3_scratch4 : Ref sig .scVector := ⟨.vmem, 18, rfl⟩
abbrev cc4_scratch0 : Ref sig .scVector := ⟨.vmem, 19, rfl⟩
abbrev cc4_scratch1 : Ref sig .scVector := ⟨.vmem, 20, rfl⟩
abbrev cc4_scratch2 : Ref sig .scVector := ⟨.vmem, 21, rfl⟩
abbrev cc4_scratch3 : Ref sig .scVector := ⟨.vmem, 22, rfl⟩
abbrev cc4_scratch4 : Ref sig .scVector := ⟨.vmem, 23, rfl⟩
abbrev cc5_scratch0 : Ref sig .scVector := ⟨.vmem, 24, rfl⟩
abbrev cc5_scratch1 : Ref sig .scVector := ⟨.vmem, 25, rfl⟩
abbrev cc5_scratch2 : Ref sig .scVector := ⟨.vmem, 26, rfl⟩
abbrev cc5_scratch3 : Ref sig .scVector := ⟨.vmem, 27, rfl⟩
abbrev cc5_scratch4 : Ref sig .scVector := ⟨.vmem, 28, rfl⟩
abbrev cc6_scratch0 : Ref sig .scVector := ⟨.vmem, 29, rfl⟩
abbrev cc6_scratch1 : Ref sig .scVector := ⟨.vmem, 30, rfl⟩
abbrev cc6_scratch2 : Ref sig .scVector := ⟨.vmem, 31, rfl⟩
abbrev cc6_scratch3 : Ref sig .scVector := ⟨.vmem, 32, rfl⟩
abbrev cc6_scratch4 : Ref sig .scVector := ⟨.vmem, 33, rfl⟩
abbrev cc7_scratch0 : Ref sig .scVector := ⟨.vmem, 34, rfl⟩
abbrev cc7_scratch1 : Ref sig .scVector := ⟨.vmem, 35, rfl⟩
abbrev cc7_scratch2 : Ref sig .scVector := ⟨.vmem, 36, rfl⟩
abbrev cc7_scratch3 : Ref sig .scVector := ⟨.vmem, 37, rfl⟩
abbrev cc7_scratch4 : Ref sig .scVector := ⟨.vmem, 38, rfl⟩
abbrev cc8_scratch0 : Ref sig .scVector := ⟨.vmem, 39, rfl⟩
abbrev cc8_scratch1 : Ref sig .scVector := ⟨.vmem, 40, rfl⟩
abbrev cc8_scratch2 : Ref sig .scVector := ⟨.vmem, 41, rfl⟩
abbrev cc8_scratch3 : Ref sig .scVector := ⟨.vmem, 42, rfl⟩
abbrev cc8_scratch4 : Ref sig .scVector := ⟨.vmem, 43, rfl⟩
abbrev cc9_scratch0 : Ref sig .scVector := ⟨.vmem, 44, rfl⟩
abbrev cc9_scratch1 : Ref sig .scVector := ⟨.vmem, 45, rfl⟩
abbrev cc9_scratch2 : Ref sig .scVector := ⟨.vmem, 46, rfl⟩
abbrev cc9_scratch3 : Ref sig .scVector := ⟨.vmem, 47, rfl⟩
abbrev cc9_scratch4 : Ref sig .scVector := ⟨.vmem, 48, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c80_i32 : BitVec 32 := 80#32
  let v3 : BitVec 32 := Scalar.addi c0_i32_1 c80_i32
  let c1_i32 : BitVec 32 := 1#32
  ⟨c0_i32_1, v3, c1_i32⟩
def k0_off1 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c4000_i32 : BitVec 32 := 4000#32
  let v56 : BitVec 32 := Scalar.muli arg10 c4000_i32
  ![v56.toNat]
@[reducible] def k0_t2_loop : Scf.Loop 32 :=
  let c0_i32_15 : BitVec 32 := 0#32
  let c250_i32 : BitVec 32 := 250#32
  let v58 : BitVec 32 := Scalar.addi c0_i32_15 c250_i32
  let c1_i32_16 : BitVec 32 := 1#32
  ⟨c0_i32_15, v58, c1_i32_16⟩
def k0_off2 (k0_t2 : Fin k0_t2_loop.trips) : Fin 1 → Nat :=
  let c0_i32_15 : BitVec 32 := 0#32
  let c1_i32_16 : BitVec 32 := 1#32
  let arg13 : BitVec 32 := Scf.iv c0_i32_15 c1_i32_16 k0_t2
  let c16_i32_21 : BitVec 32 := 16#32
  let v67 : BitVec 32 := Scalar.muli arg13 c16_i32_21
  let v68 : Index := Scalar.indexCast v67
  ![v68.toNat]

def k0_chk1 (v84 : IVec S16 32) : Prop :=
  (∀ a x, ((![v84] : Fin 1 → IVec S16 32) a x).toNat < S8192.size a)
theorem k0_idx1_inb : ∀ (v84 : IVec S16 32) (k0_hw1 : k0_chk1 v84), ∀ a x, ((![v84] : Fin 1 → IVec S16 32) a x).toNat < S8192.size a := fun v84 k0_hw1 => k0_hw1
def k0_off3 (i : grid0.Coords) (arg12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_21 : BitVec 32 := 4096#32
  let v67 : BitVec 32 := Scalar.muli arg12 c4096_i32_21
  ![v1.toNat, v67.toNat]
def k0_cond1 (v59 : BitVec 32) : BitVec 1 :=
  let c4096_i32_18 : BitVec 32 := 4096#32
  let v60 : BitVec 1 := Scalar.cmpi .sge v59 c4096_i32_18
  let v61 : BitVec 32 := Scalar.extui v60
  let c0_i32_19 : BitVec 32 := 0#32
  let v62 : BitVec 1 := Scalar.cmpi .ne v61 c0_i32_19
  v62

def k0_chk2 (i : grid0.Coords) (arg12 : BitVec 32) (v59 : BitVec 32) : Prop :=
  (∀ (k0_h1 : k0_cond1 v59 = 1#1), ∀ a, (k0_off3 i arg12) a + S1x4096.size a ≤ S32x323584.size a)
theorem k0_off3_inb : ∀ (i : grid0.Coords) (arg12 : BitVec 32) (v59 : BitVec 32) (k0_hw2 : k0_chk2 i arg12 v59), ∀ (k0_h1 : k0_cond1 v59 = 1#1), ∀ a, (k0_off3 i arg12) a + S1x4096.size a ≤ S32x323584.size a := fun i arg12 v59 k0_hw2 k0_h1 => k0_hw2 k0_h1

@[reducible] def k0_t3_loop : Scf.Loop 32 :=
  let c0_i32_23 : BitVec 32 := 0#32
  let c256_i32 : BitVec 32 := 256#32
  let v68 : BitVec 32 := Scalar.addi c0_i32_23 c256_i32
  let c1_i32_24 : BitVec 32 := 1#32
  ⟨c0_i32_23, v68, c1_i32_24⟩
def k0_off4 (k0_t3 : Fin k0_t3_loop.trips) : Fin 1 → Nat :=
  let c4096_i32_27 : BitVec 32 := 4096#32
  let c0_i32_23 : BitVec 32 := 0#32
  let c1_i32_24 : BitVec 32 := 1#32
  let arg13 : BitVec 32 := Scf.iv c0_i32_23 c1_i32_24 k0_t3
  let c16_i32_26 : BitVec 32 := 16#32
  let v69 : BitVec 32 := Scalar.muli arg13 c16_i32_26
  let v70 : BitVec 32 := Scalar.addi c4096_i32_27 v69
  let v71 : Index := Scalar.indexCast v70
  ![v71.toNat]
def k0_off5 (k0_t3 : Fin k0_t3_loop.trips) : Fin 1 → Nat :=
  let c0_i32_23 : BitVec 32 := 0#32
  let c1_i32_24 : BitVec 32 := 1#32
  let arg13 : BitVec 32 := Scf.iv c0_i32_23 c1_i32_24 k0_t3
  let c16_i32_28 : BitVec 32 := 16#32
  let v73 : BitVec 32 := Scalar.muli arg13 c16_i32_28
  let v74 : Index := Scalar.indexCast v73
  ![v74.toNat]
def k0_off6 (v4_0 : BitVec 32) (c0_i32_3 : BitVec 32) : Fin 1 → Nat :=
  let v6 : BitVec 32 := Scalar.addi v4_0 c0_i32_3
  let v7 : Index := Scalar.indexCast v6
  ![v7.toNat]

def k0_chk3 (v4_0 : BitVec 32) : Prop :=
  (∀ (r : Fin 8), ∀ a, (k0_off6 v4_0 (BitVec.ofNat 32 (16 * r.val))) a + S16.size a ≤ S8192.size a)
theorem k0_off6_inb : ∀ (v4_0 : BitVec 32) (k0_hw3 : k0_chk3 v4_0), ∀ (r : Fin 8), ∀ a, (k0_off6 v4_0 (BitVec.ofNat 32 (16 * r.val))) a + S16.size a ≤ S8192.size a := fun v4_0 k0_hw3 r => k0_hw3 r

def k0_off7 (i : grid0.Coords) (v4_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v30 : BitVec 32 := Scalar.muli v4_1 c4096_i32
  ![v1.toNat, v30.toNat]

def k0_chk4 (i : grid0.Coords) (v4_1 : BitVec 32) : Prop :=
  (∀ a, (k0_off7 i v4_1) a + S1x4096.size a ≤ S32x323584.size a)
theorem k0_off7_inb : ∀ (i : grid0.Coords) (v4_1 : BitVec 32) (k0_hw4 : k0_chk4 i v4_1), ∀ a, (k0_off7 i v4_1) a + S1x4096.size a ≤ S32x323584.size a := fun i v4_1 k0_hw4 => k0_hw4

def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r4 : BitVec 32 := 0#32
  ![v1.toNat, 0]
abbrev grid1 : Pipeline.Grid := ⟨2, ![2, 16], ![false, false]⟩

@[reducible] def k1_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k1_off1 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32 : BitVec 32 := 16#32
  let v38 : BitVec 32 := Scalar.muli arg12 c16_i32
  let v39 : Index := Scalar.indexCast v38
  ![v39.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k1_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k1_off3 (i : grid1.Coords) (v6 : BitVec 32) (k1_t2 : Fin (k1_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k1_t2
  let c2048_i32_22 : BitVec 32 := 2048#32
  let v38 : BitVec 32 := Scalar.muli arg12 c2048_i32_22
  ![v1.toNat, v38.toNat]
@[reducible] def k1_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k1_off4 (k1_t3 : Fin k1_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k1_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k1_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k1_off5 (k1_t3 : Fin k1_t3_loop.trips) (k1_t4 : Fin k1_t4_loop.trips) : Fin 1 → Nat :=
  let c0_i32_24 : BitVec 32 := 0#32
  let c1_i32_25 : BitVec 32 := 1#32
  let arg13 : BitVec 32 := Scf.iv c0_i32_24 c1_i32_25 k1_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k1_t4
  let c16_i32_56 : BitVec 32 := 16#32
  let v106 : BitVec 32 := Scalar.muli arg14 c16_i32_56
  let v107 : BitVec 32 := Scalar.addi v105 v106
  let v108 : Index := Scalar.indexCast v107
  ![v108.toNat]
def k1_off6 (v115 : BitVec 32) (c0_i32_61 : BitVec 32) : Fin 1 → Nat :=
  let v118 : BitVec 32 := Scalar.addi v115 c0_i32_61
  let v119 : Index := Scalar.indexCast v118
  ![v119.toNat]
def k1_cond1 (v6 : BitVec 32) (k1_t2 : Fin (k1_t2_loop v6).trips) (k1_t3 : Fin k1_t3_loop.trips) : BitVec 1 :=
  let c0_i32_11 : BitVec 32 := 0#32
  let c1_i32_13 : BitVec 32 := 1#32
  let arg12 : BitVec 32 := Scf.iv c0_i32_11 c1_i32_13 k1_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k1_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k1_chk2 (v6 : BitVec 32) (k1_t2 : Fin (k1_t2_loop v6).trips) (k1_t3 : Fin k1_t3_loop.trips) (v115 : BitVec 32) : Prop :=
  (∀ (k1_h1 : k1_cond1 v6 k1_t2 k1_t3 = 1#1), ∀ (r : Fin 8), ∀ a, (k1_off6 v115 (BitVec.ofNat 32 (16 * r.val))) a + S16.size a ≤ S40192.size a)
theorem k1_off6_inb : ∀ (v6 : BitVec 32) (k1_t2 : Fin (k1_t2_loop v6).trips) (k1_t3 : Fin k1_t3_loop.trips) (v115 : BitVec 32) (k1_hw2 : k1_chk2 v6 k1_t2 k1_t3 v115), ∀ (k1_h1 : k1_cond1 v6 k1_t2 k1_t3 = 1#1), ∀ (r : Fin 8), ∀ a, (k1_off6 v115 (BitVec.ofNat 32 (16 * r.val))) a + S16.size a ≤ S40192.size a := fun v6 k1_t2 k1_t3 v115 k1_hw2 k1_h1 r => k1_hw2 k1_h1 r

def k1_off7 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k1_off8 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k1_off9 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k1_off10 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k1_off11 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k1_off12 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k1_off13 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k1_off14 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k1_off15 (v183 : BitVec 32) (c0_i32_79 : BitVec 32) : Fin 1 → Nat :=
  let v186 : BitVec 32 := Scalar.addi v183 c0_i32_79
  let v187 : Index := Scalar.indexCast v186
  ![v187.toNat]

def k1_chk3 (v6 : BitVec 32) (k1_t2 : Fin (k1_t2_loop v6).trips) (k1_t3 : Fin k1_t3_loop.trips) (v183 : BitVec 32) : Prop :=
  (∀ (k1_h1 : k1_cond1 v6 k1_t2 k1_t3 = 1#1), ∀ (r : Fin 8), ∀ a, (k1_off15 v183 (BitVec.ofNat 32 (16 * r.val))) a + S16.size a ≤ S40192.size a)
theorem k1_off15_inb : ∀ (v6 : BitVec 32) (k1_t2 : Fin (k1_t2_loop v6).trips) (k1_t3 : Fin k1_t3_loop.trips) (v183 : BitVec 32) (k1_hw3 : k1_chk3 v6 k1_t2 k1_t3 v183), ∀ (k1_h1 : k1_cond1 v6 k1_t2 k1_t3 = 1#1), ∀ (r : Fin 8), ∀ a, (k1_off15 v183 (BitVec.ofNat 32 (16 * r.val))) a + S16.size a ≤ S40192.size a := fun v6 k1_t2 k1_t3 v183 k1_hw3 k1_h1 r => k1_hw3 k1_h1 r

def k1_off16 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k1_off17 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k1_off18 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k1_off19 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k1_off20 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k1_off21 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k1_off22 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k1_off23 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k1_off24 (v251 : BitVec 32) (c0_i32_97 : BitVec 32) : Fin 1 → Nat :=
  let v254 : BitVec 32 := Scalar.addi v251 c0_i32_97
  let v255 : Index := Scalar.indexCast v254
  ![v255.toNat]

def k1_chk4 (v6 : BitVec 32) (k1_t2 : Fin (k1_t2_loop v6).trips) (k1_t3 : Fin k1_t3_loop.trips) (v251 : BitVec 32) : Prop :=
  (∀ (k1_h1 : k1_cond1 v6 k1_t2 k1_t3 = 1#1), ∀ (r : Fin 8), ∀ a, (k1_off24 v251 (BitVec.ofNat 32 (16 * r.val))) a + S16.size a ≤ S40192.size a)
theorem k1_off24_inb : ∀ (v6 : BitVec 32) (k1_t2 : Fin (k1_t2_loop v6).trips) (k1_t3 : Fin k1_t3_loop.trips) (v251 : BitVec 32) (k1_hw4 : k1_chk4 v6 k1_t2 k1_t3 v251), ∀ (k1_h1 : k1_cond1 v6 k1_t2 k1_t3 = 1#1), ∀ (r : Fin 8), ∀ a, (k1_off24 v251 (BitVec.ofNat 32 (16 * r.val))) a + S16.size a ≤ S40192.size a := fun v6 k1_t2 k1_t3 v251 k1_hw4 k1_h1 r => k1_hw4 k1_h1 r

def k1_off25 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k1_off26 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k1_off27 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k1_off28 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k1_off29 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k1_off30 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k1_off31 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k1_off32 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k1_off33 (v319 : BitVec 32) (c0_i32_114 : BitVec 32) : Fin 1 → Nat :=
  let v322 : BitVec 32 := Scalar.addi v319 c0_i32_114
  let v323 : Index := Scalar.indexCast v322
  ![v323.toNat]

def k1_chk5 (v6 : BitVec 32) (k1_t2 : Fin (k1_t2_loop v6).trips) (k1_t3 : Fin k1_t3_loop.trips) (v319 : BitVec 32) : Prop :=
  (∀ (k1_h1 : k1_cond1 v6 k1_t2 k1_t3 = 1#1), ∀ (r : Fin 8), ∀ a, (k1_off33 v319 (BitVec.ofNat 32 (16 * r.val))) a + S16.size a ≤ S40192.size a)
theorem k1_off33_inb : ∀ (v6 : BitVec 32) (k1_t2 : Fin (k1_t2_loop v6).trips) (k1_t3 : Fin k1_t3_loop.trips) (v319 : BitVec 32) (k1_hw5 : k1_chk5 v6 k1_t2 k1_t3 v319), ∀ (k1_h1 : k1_cond1 v6 k1_t2 k1_t3 = 1#1), ∀ (r : Fin 8), ∀ a, (k1_off33 v319 (BitVec.ofNat 32 (16 * r.val))) a + S16.size a ≤ S40192.size a := fun v6 k1_t2 k1_t3 v319 k1_hw5 k1_h1 r => k1_hw5 k1_h1 r

def k1_off34 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k1_off35 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k1_off36 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k1_off37 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k1_off38 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k1_off39 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k1_off40 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k1_off41 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k1_off42 (v387 : BitVec 32) (c0_i32_131 : BitVec 32) : Fin 1 → Nat :=
  let v390 : BitVec 32 := Scalar.addi v387 c0_i32_131
  let v391 : Index := Scalar.indexCast v390
  ![v391.toNat]

def k1_chk6 (v6 : BitVec 32) (k1_t2 : Fin (k1_t2_loop v6).trips) (k1_t3 : Fin k1_t3_loop.trips) (v387 : BitVec 32) : Prop :=
  (∀ (k1_h1 : k1_cond1 v6 k1_t2 k1_t3 = 1#1), ∀ (r : Fin 8), ∀ a, (k1_off42 v387 (BitVec.ofNat 32 (16 * r.val))) a + S16.size a ≤ S40192.size a)
theorem k1_off42_inb : ∀ (v6 : BitVec 32) (k1_t2 : Fin (k1_t2_loop v6).trips) (k1_t3 : Fin k1_t3_loop.trips) (v387 : BitVec 32) (k1_hw6 : k1_chk6 v6 k1_t2 k1_t3 v387), ∀ (k1_h1 : k1_cond1 v6 k1_t2 k1_t3 = 1#1), ∀ (r : Fin 8), ∀ a, (k1_off42 v387 (BitVec.ofNat 32 (16 * r.val))) a + S16.size a ≤ S40192.size a := fun v6 k1_t2 k1_t3 v387 k1_hw6 k1_h1 r => k1_hw6 k1_h1 r

def k1_off43 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k1_off44 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k1_off45 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k1_off46 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k1_off47 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k1_off48 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k1_off49 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k1_off50 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k1_off51 (v455 : BitVec 32) (c0_i32_148 : BitVec 32) : Fin 1 → Nat :=
  let v458 : BitVec 32 := Scalar.addi v455 c0_i32_148
  let v459 : Index := Scalar.indexCast v458
  ![v459.toNat]

def k1_chk7 (v6 : BitVec 32) (k1_t2 : Fin (k1_t2_loop v6).trips) (k1_t3 : Fin k1_t3_loop.trips) (v455 : BitVec 32) : Prop :=
  (∀ (k1_h1 : k1_cond1 v6 k1_t2 k1_t3 = 1#1), ∀ (r : Fin 8), ∀ a, (k1_off51 v455 (BitVec.ofNat 32 (16 * r.val))) a + S16.size a ≤ S40192.size a)
theorem k1_off51_inb : ∀ (v6 : BitVec 32) (k1_t2 : Fin (k1_t2_loop v6).trips) (k1_t3 : Fin k1_t3_loop.trips) (v455 : BitVec 32) (k1_hw7 : k1_chk7 v6 k1_t2 k1_t3 v455), ∀ (k1_h1 : k1_cond1 v6 k1_t2 k1_t3 = 1#1), ∀ (r : Fin 8), ∀ a, (k1_off51 v455 (BitVec.ofNat 32 (16 * r.val))) a + S16.size a ≤ S40192.size a := fun v6 k1_t2 k1_t3 v455 k1_hw7 k1_h1 r => k1_hw7 k1_h1 r

def k1_off52 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k1_off53 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k1_off54 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k1_off55 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k1_off56 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k1_off57 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k1_off58 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k1_off59 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k1_off60 (v523 : BitVec 32) (c0_i32_165 : BitVec 32) : Fin 1 → Nat :=
  let v526 : BitVec 32 := Scalar.addi v523 c0_i32_165
  let v527 : Index := Scalar.indexCast v526
  ![v527.toNat]

def k1_chk8 (v6 : BitVec 32) (k1_t2 : Fin (k1_t2_loop v6).trips) (k1_t3 : Fin k1_t3_loop.trips) (v523 : BitVec 32) : Prop :=
  (∀ (k1_h1 : k1_cond1 v6 k1_t2 k1_t3 = 1#1), ∀ (r : Fin 8), ∀ a, (k1_off60 v523 (BitVec.ofNat 32 (16 * r.val))) a + S16.size a ≤ S40192.size a)
theorem k1_off60_inb : ∀ (v6 : BitVec 32) (k1_t2 : Fin (k1_t2_loop v6).trips) (k1_t3 : Fin k1_t3_loop.trips) (v523 : BitVec 32) (k1_hw8 : k1_chk8 v6 k1_t2 k1_t3 v523), ∀ (k1_h1 : k1_cond1 v6 k1_t2 k1_t3 = 1#1), ∀ (r : Fin 8), ∀ a, (k1_off60 v523 (BitVec.ofNat 32 (16 * r.val))) a + S16.size a ≤ S40192.size a := fun v6 k1_t2 k1_t3 v523 k1_hw8 k1_h1 r => k1_hw8 k1_h1 r

def k1_off61 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k1_off62 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k1_off63 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k1_off64 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k1_off65 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k1_off66 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k1_off67 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k1_off68 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k1_off69 (v591 : BitVec 32) (c0_i32_182 : BitVec 32) : Fin 1 → Nat :=
  let v594 : BitVec 32 := Scalar.addi v591 c0_i32_182
  let v595 : Index := Scalar.indexCast v594
  ![v595.toNat]

def k1_chk9 (v6 : BitVec 32) (k1_t2 : Fin (k1_t2_loop v6).trips) (k1_t3 : Fin k1_t3_loop.trips) (v591 : BitVec 32) : Prop :=
  (∀ (k1_h1 : k1_cond1 v6 k1_t2 k1_t3 = 1#1), ∀ (r : Fin 8), ∀ a, (k1_off69 v591 (BitVec.ofNat 32 (16 * r.val))) a + S16.size a ≤ S40192.size a)
theorem k1_off69_inb : ∀ (v6 : BitVec 32) (k1_t2 : Fin (k1_t2_loop v6).trips) (k1_t3 : Fin k1_t3_loop.trips) (v591 : BitVec 32) (k1_hw9 : k1_chk9 v6 k1_t2 k1_t3 v591), ∀ (k1_h1 : k1_cond1 v6 k1_t2 k1_t3 = 1#1), ∀ (r : Fin 8), ∀ a, (k1_off69 v591 (BitVec.ofNat 32 (16 * r.val))) a + S16.size a ≤ S40192.size a := fun v6 k1_t2 k1_t3 v591 k1_hw9 k1_h1 r => k1_hw9 k1_h1 r

def k1_off70 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k1_off71 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k1_off72 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k1_off73 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k1_off74 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k1_off75 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k1_off76 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k1_off77 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k1_off78 (v659 : BitVec 32) (c0_i32_200 : BitVec 32) : Fin 1 → Nat :=
  let v662 : BitVec 32 := Scalar.addi v659 c0_i32_200
  let v663 : Index := Scalar.indexCast v662
  ![v663.toNat]

def k1_chk10 (v6 : BitVec 32) (k1_t2 : Fin (k1_t2_loop v6).trips) (k1_t3 : Fin k1_t3_loop.trips) (v659 : BitVec 32) : Prop :=
  (∀ (k1_h1 : k1_cond1 v6 k1_t2 k1_t3 = 1#1), ∀ (r : Fin 8), ∀ a, (k1_off78 v659 (BitVec.ofNat 32 (16 * r.val))) a + S16.size a ≤ S40192.size a)
theorem k1_off78_inb : ∀ (v6 : BitVec 32) (k1_t2 : Fin (k1_t2_loop v6).trips) (k1_t3 : Fin k1_t3_loop.trips) (v659 : BitVec 32) (k1_hw10 : k1_chk10 v6 k1_t2 k1_t3 v659), ∀ (k1_h1 : k1_cond1 v6 k1_t2 k1_t3 = 1#1), ∀ (r : Fin 8), ∀ a, (k1_off78 v659 (BitVec.ofNat 32 (16 * r.val))) a + S16.size a ≤ S40192.size a := fun v6 k1_t2 k1_t3 v659 k1_hw10 k1_h1 r => k1_hw10 k1_h1 r

def k1_off79 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k1_off80 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k1_off81 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k1_off82 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k1_off83 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k1_off84 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k1_off85 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k1_off86 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k1_off87 (v727 : BitVec 32) (c0_i32_217 : BitVec 32) : Fin 1 → Nat :=
  let v730 : BitVec 32 := Scalar.addi v727 c0_i32_217
  let v731 : Index := Scalar.indexCast v730
  ![v731.toNat]

def k1_chk11 (v6 : BitVec 32) (k1_t2 : Fin (k1_t2_loop v6).trips) (k1_t3 : Fin k1_t3_loop.trips) (v727 : BitVec 32) : Prop :=
  (∀ (k1_h1 : k1_cond1 v6 k1_t2 k1_t3 = 1#1), ∀ (r : Fin 8), ∀ a, (k1_off87 v727 (BitVec.ofNat 32 (16 * r.val))) a + S16.size a ≤ S40192.size a)
theorem k1_off87_inb : ∀ (v6 : BitVec 32) (k1_t2 : Fin (k1_t2_loop v6).trips) (k1_t3 : Fin k1_t3_loop.trips) (v727 : BitVec 32) (k1_hw11 : k1_chk11 v6 k1_t2 k1_t3 v727), ∀ (k1_h1 : k1_cond1 v6 k1_t2 k1_t3 = 1#1), ∀ (r : Fin 8), ∀ a, (k1_off87 v727 (BitVec.ofNat 32 (16 * r.val))) a + S16.size a ≤ S40192.size a := fun v6 k1_t2 k1_t3 v727 k1_hw11 k1_h1 r => k1_hw11 k1_h1 r

def k1_off88 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k1_off89 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k1_off90 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k1_off91 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k1_off92 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k1_off93 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k1_off94 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k1_off95 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k1_off96 (v795 : BitVec 32) (c0_i32_234 : BitVec 32) : Fin 1 → Nat :=
  let v798 : BitVec 32 := Scalar.addi v795 c0_i32_234
  let v799 : Index := Scalar.indexCast v798
  ![v799.toNat]

def k1_chk12 (v6 : BitVec 32) (k1_t2 : Fin (k1_t2_loop v6).trips) (k1_t3 : Fin k1_t3_loop.trips) (v795 : BitVec 32) : Prop :=
  (∀ (k1_h1 : k1_cond1 v6 k1_t2 k1_t3 = 1#1), ∀ (r : Fin 8), ∀ a, (k1_off96 v795 (BitVec.ofNat 32 (16 * r.val))) a + S16.size a ≤ S40192.size a)
theorem k1_off96_inb : ∀ (v6 : BitVec 32) (k1_t2 : Fin (k1_t2_loop v6).trips) (k1_t3 : Fin k1_t3_loop.trips) (v795 : BitVec 32) (k1_hw12 : k1_chk12 v6 k1_t2 k1_t3 v795), ∀ (k1_h1 : k1_cond1 v6 k1_t2 k1_t3 = 1#1), ∀ (r : Fin 8), ∀ a, (k1_off96 v795 (BitVec.ofNat 32 (16 * r.val))) a + S16.size a ≤ S40192.size a := fun v6 k1_t2 k1_t3 v795 k1_hw12 k1_h1 r => k1_hw12 k1_h1 r

def k1_off97 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k1_off98 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k1_off99 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k1_off100 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k1_off101 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k1_off102 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k1_off103 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k1_off104 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k1_off105 (v863 : BitVec 32) (c0_i32_251 : BitVec 32) : Fin 1 → Nat :=
  let v866 : BitVec 32 := Scalar.addi v863 c0_i32_251
  let v867 : Index := Scalar.indexCast v866
  ![v867.toNat]

def k1_chk13 (v6 : BitVec 32) (k1_t2 : Fin (k1_t2_loop v6).trips) (k1_t3 : Fin k1_t3_loop.trips) (v863 : BitVec 32) : Prop :=
  (∀ (k1_h1 : k1_cond1 v6 k1_t2 k1_t3 = 1#1), ∀ (r : Fin 8), ∀ a, (k1_off105 v863 (BitVec.ofNat 32 (16 * r.val))) a + S16.size a ≤ S40192.size a)
theorem k1_off105_inb : ∀ (v6 : BitVec 32) (k1_t2 : Fin (k1_t2_loop v6).trips) (k1_t3 : Fin k1_t3_loop.trips) (v863 : BitVec 32) (k1_hw13 : k1_chk13 v6 k1_t2 k1_t3 v863), ∀ (k1_h1 : k1_cond1 v6 k1_t2 k1_t3 = 1#1), ∀ (r : Fin 8), ∀ a, (k1_off105 v863 (BitVec.ofNat 32 (16 * r.val))) a + S16.size a ≤ S40192.size a := fun v6 k1_t2 k1_t3 v863 k1_hw13 k1_h1 r => k1_hw13 k1_h1 r

def k1_off106 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k1_off107 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k1_off108 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k1_off109 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k1_off110 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k1_off111 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k1_off112 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k1_off113 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k1_off114 (v931 : BitVec 32) (c0_i32_268 : BitVec 32) : Fin 1 → Nat :=
  let v934 : BitVec 32 := Scalar.addi v931 c0_i32_268
  let v935 : Index := Scalar.indexCast v934
  ![v935.toNat]

def k1_chk14 (v6 : BitVec 32) (k1_t2 : Fin (k1_t2_loop v6).trips) (k1_t3 : Fin k1_t3_loop.trips) (v931 : BitVec 32) : Prop :=
  (∀ (k1_h1 : k1_cond1 v6 k1_t2 k1_t3 = 1#1), ∀ (r : Fin 8), ∀ a, (k1_off114 v931 (BitVec.ofNat 32 (16 * r.val))) a + S16.size a ≤ S40192.size a)
theorem k1_off114_inb : ∀ (v6 : BitVec 32) (k1_t2 : Fin (k1_t2_loop v6).trips) (k1_t3 : Fin k1_t3_loop.trips) (v931 : BitVec 32) (k1_hw14 : k1_chk14 v6 k1_t2 k1_t3 v931), ∀ (k1_h1 : k1_cond1 v6 k1_t2 k1_t3 = 1#1), ∀ (r : Fin 8), ∀ a, (k1_off114 v931 (BitVec.ofNat 32 (16 * r.val))) a + S16.size a ≤ S40192.size a := fun v6 k1_t2 k1_t3 v931 k1_hw14 k1_h1 r => k1_hw14 k1_h1 r

def k1_off115 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k1_off116 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k1_off117 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k1_off118 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k1_off119 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k1_off120 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k1_off121 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k1_off122 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k1_off123 (v999 : BitVec 32) (c0_i32_285 : BitVec 32) : Fin 1 → Nat :=
  let v1002 : BitVec 32 := Scalar.addi v999 c0_i32_285
  let v1003 : Index := Scalar.indexCast v1002
  ![v1003.toNat]

def k1_chk15 (v6 : BitVec 32) (k1_t2 : Fin (k1_t2_loop v6).trips) (k1_t3 : Fin k1_t3_loop.trips) (v999 : BitVec 32) : Prop :=
  (∀ (k1_h1 : k1_cond1 v6 k1_t2 k1_t3 = 1#1), ∀ (r : Fin 8), ∀ a, (k1_off123 v999 (BitVec.ofNat 32 (16 * r.val))) a + S16.size a ≤ S40192.size a)
theorem k1_off123_inb : ∀ (v6 : BitVec 32) (k1_t2 : Fin (k1_t2_loop v6).trips) (k1_t3 : Fin k1_t3_loop.trips) (v999 : BitVec 32) (k1_hw15 : k1_chk15 v6 k1_t2 k1_t3 v999), ∀ (k1_h1 : k1_cond1 v6 k1_t2 k1_t3 = 1#1), ∀ (r : Fin 8), ∀ a, (k1_off123 v999 (BitVec.ofNat 32 (16 * r.val))) a + S16.size a ≤ S40192.size a := fun v6 k1_t2 k1_t3 v999 k1_hw15 k1_h1 r => k1_hw15 k1_h1 r

def k1_off124 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k1_off125 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k1_off126 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k1_off127 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k1_off128 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k1_off129 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k1_off130 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k1_off131 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k1_off132 (v1067 : BitVec 32) (c0_i32_302 : BitVec 32) : Fin 1 → Nat :=
  let v1070 : BitVec 32 := Scalar.addi v1067 c0_i32_302
  let v1071 : Index := Scalar.indexCast v1070
  ![v1071.toNat]

def k1_chk16 (v6 : BitVec 32) (k1_t2 : Fin (k1_t2_loop v6).trips) (k1_t3 : Fin k1_t3_loop.trips) (v1067 : BitVec 32) : Prop :=
  (∀ (k1_h1 : k1_cond1 v6 k1_t2 k1_t3 = 1#1), ∀ (r : Fin 8), ∀ a, (k1_off132 v1067 (BitVec.ofNat 32 (16 * r.val))) a + S16.size a ≤ S40192.size a)
theorem k1_off132_inb : ∀ (v6 : BitVec 32) (k1_t2 : Fin (k1_t2_loop v6).trips) (k1_t3 : Fin k1_t3_loop.trips) (v1067 : BitVec 32) (k1_hw16 : k1_chk16 v6 k1_t2 k1_t3 v1067), ∀ (k1_h1 : k1_cond1 v6 k1_t2 k1_t3 = 1#1), ∀ (r : Fin 8), ∀ a, (k1_off132 v1067 (BitVec.ofNat 32 (16 * r.val))) a + S16.size a ≤ S40192.size a := fun v6 k1_t2 k1_t3 v1067 k1_hw16 k1_h1 r => k1_hw16 k1_h1 r

def k1_off133 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k1_off134 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k1_off135 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k1_off136 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k1_off137 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k1_off138 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k1_off139 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k1_off140 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k1_off141 (v1135 : BitVec 32) (c0_i32_319 : BitVec 32) : Fin 1 → Nat :=
  let v1138 : BitVec 32 := Scalar.addi v1135 c0_i32_319
  let v1139 : Index := Scalar.indexCast v1138
  ![v1139.toNat]

def k1_chk17 (v6 : BitVec 32) (k1_t2 : Fin (k1_t2_loop v6).trips) (k1_t3 : Fin k1_t3_loop.trips) (v1135 : BitVec 32) : Prop :=
  (∀ (k1_h1 : k1_cond1 v6 k1_t2 k1_t3 = 1#1), ∀ (r : Fin 8), ∀ a, (k1_off141 v1135 (BitVec.ofNat 32 (16 * r.val))) a + S16.size a ≤ S40192.size a)
theorem k1_off141_inb : ∀ (v6 : BitVec 32) (k1_t2 : Fin (k1_t2_loop v6).trips) (k1_t3 : Fin k1_t3_loop.trips) (v1135 : BitVec 32) (k1_hw17 : k1_chk17 v6 k1_t2 k1_t3 v1135), ∀ (k1_h1 : k1_cond1 v6 k1_t2 k1_t3 = 1#1), ∀ (r : Fin 8), ∀ a, (k1_off141 v1135 (BitVec.ofNat 32 (16 * r.val))) a + S16.size a ≤ S40192.size a := fun v6 k1_t2 k1_t3 v1135 k1_hw17 k1_h1 r => k1_hw17 k1_h1 r

def k1_off142 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k1_off143 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k1_off144 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k1_off145 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k1_off146 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k1_off147 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k1_off148 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k1_off149 (k1_t4 : Fin k1_t4_loop.trips) : Fin 2 → Nat :=
  let c0_i32_52 : BitVec 32 := 0#32
  let c1_i32_53 : BitVec 32 := 1#32
  let arg14 : BitVec 32 := Scf.iv c0_i32_52 c1_i32_53 k1_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k1_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k1_off150 (i : grid1.Coords) (v6 : BitVec 32) (k1_t5 : Fin (k1_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k1_t5
  let c2048_i32_22 : BitVec 32 := 2048#32
  let v38 : BitVec 32 := Scalar.muli arg12 c2048_i32_22
  ![v1.toNat, v38.toNat]

def k1_chk1 (i : grid1.Coords) (v6 : BitVec 32) : Prop :=
  ((k1_t2_loop v6).OK) ∧
  (∀ k1_t2 : Fin (k1_t2_loop v6).trips, ∀ a, (k1_off3 i v6 k1_t2) a + S1x2048.size a ≤ S32x323584.size a) ∧
  ((k1_t5_loop v6).OK) ∧
  (∀ k1_t5 : Fin (k1_t5_loop v6).trips, ∀ a, (k1_off150 i v6 k1_t5) a + S1x2048.size a ≤ S32x323584.size a)
theorem k1_t2_ok : ∀ (i : grid1.Coords) (v6 : BitVec 32) (k1_hw1 : k1_chk1 i v6), (k1_t2_loop v6).OK := fun i v6 k1_hw1 => k1_hw1.1
theorem k1_off3_inb : ∀ (i : grid1.Coords) (v6 : BitVec 32) (k1_hw1 : k1_chk1 i v6) (k1_t2 : Fin (k1_t2_loop v6).trips), ∀ a, (k1_off3 i v6 k1_t2) a + S1x2048.size a ≤ S32x323584.size a := fun i v6 k1_hw1 k1_t2 => k1_hw1.2.1 k1_t2
theorem k1_t5_ok : ∀ (i : grid1.Coords) (v6 : BitVec 32) (k1_hw1 : k1_chk1 i v6), (k1_t5_loop v6).OK := fun i v6 k1_hw1 => k1_hw1.2.2.1
theorem k1_off150_inb : ∀ (i : grid1.Coords) (v6 : BitVec 32) (k1_hw1 : k1_chk1 i v6) (k1_t5 : Fin (k1_t5_loop v6).trips), ∀ a, (k1_off150 i v6 k1_t5) a + S1x2048.size a ≤ S32x323584.size a := fun i v6 k1_hw1 k1_t5 => k1_hw1.2.2.2 k1_t5

@[reducible] def k1_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k1_off151 (k1_t6 : Fin k1_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k1_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k1_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k1_off152 (k1_t6 : Fin k1_t6_loop.trips) (k1_t7 : Fin k1_t7_loop.trips) : Fin 1 → Nat :=
  let c0_i32_24 : BitVec 32 := 0#32
  let c1_i32_25 : BitVec 32 := 1#32
  let arg13 : BitVec 32 := Scf.iv c0_i32_24 c1_i32_25 k1_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k1_t7
  let c16_i32_56 : BitVec 32 := 16#32
  let v106 : BitVec 32 := Scalar.muli arg14 c16_i32_56
  let v107 : BitVec 32 := Scalar.addi v105 v106
  let v108 : Index := Scalar.indexCast v107
  ![v108.toNat]
def k1_off153 (v115 : BitVec 32) (c0_i32_61 : BitVec 32) : Fin 1 → Nat :=
  let v118 : BitVec 32 := Scalar.addi v115 c0_i32_61
  let v119 : Index := Scalar.indexCast v118
  ![v119.toNat]
def k1_cond2 (v6 : BitVec 32) (k1_t5 : Fin (k1_t5_loop v6).trips) (k1_t6 : Fin k1_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k1_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k1_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k1_chk18 (v6 : BitVec 32) (k1_t5 : Fin (k1_t5_loop v6).trips) (k1_t6 : Fin k1_t6_loop.trips) (v115 : BitVec 32) : Prop :=
  (∀ (k1_h2 : k1_cond2 v6 k1_t5 k1_t6 = 1#1), ∀ (r : Fin 8), ∀ a, (k1_off153 v115 (BitVec.ofNat 32 (16 * r.val))) a + S16.size a ≤ S40192.size a)
theorem k1_off153_inb : ∀ (v6 : BitVec 32) (k1_t5 : Fin (k1_t5_loop v6).trips) (k1_t6 : Fin k1_t6_loop.trips) (v115 : BitVec 32) (k1_hw18 : k1_chk18 v6 k1_t5 k1_t6 v115), ∀ (k1_h2 : k1_cond2 v6 k1_t5 k1_t6 = 1#1), ∀ (r : Fin 8), ∀ a, (k1_off153 v115 (BitVec.ofNat 32 (16 * r.val))) a + S16.size a ≤ S40192.size a := fun v6 k1_t5 k1_t6 v115 k1_hw18 k1_h2 r => k1_hw18 k1_h2 r

def k1_off154 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k1_off155 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k1_off156 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k1_off157 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k1_off158 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k1_off159 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k1_off160 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k1_off161 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k1_off162 (v183 : BitVec 32) (c0_i32_79 : BitVec 32) : Fin 1 → Nat :=
  let v186 : BitVec 32 := Scalar.addi v183 c0_i32_79
  let v187 : Index := Scalar.indexCast v186
  ![v187.toNat]

def k1_chk19 (v6 : BitVec 32) (k1_t5 : Fin (k1_t5_loop v6).trips) (k1_t6 : Fin k1_t6_loop.trips) (v183 : BitVec 32) : Prop :=
  (∀ (k1_h2 : k1_cond2 v6 k1_t5 k1_t6 = 1#1), ∀ (r : Fin 8), ∀ a, (k1_off162 v183 (BitVec.ofNat 32 (16 * r.val))) a + S16.size a ≤ S40192.size a)
theorem k1_off162_inb : ∀ (v6 : BitVec 32) (k1_t5 : Fin (k1_t5_loop v6).trips) (k1_t6 : Fin k1_t6_loop.trips) (v183 : BitVec 32) (k1_hw19 : k1_chk19 v6 k1_t5 k1_t6 v183), ∀ (k1_h2 : k1_cond2 v6 k1_t5 k1_t6 = 1#1), ∀ (r : Fin 8), ∀ a, (k1_off162 v183 (BitVec.ofNat 32 (16 * r.val))) a + S16.size a ≤ S40192.size a := fun v6 k1_t5 k1_t6 v183 k1_hw19 k1_h2 r => k1_hw19 k1_h2 r

def k1_off163 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k1_off164 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k1_off165 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k1_off166 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k1_off167 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k1_off168 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k1_off169 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k1_off170 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k1_off171 (v251 : BitVec 32) (c0_i32_97 : BitVec 32) : Fin 1 → Nat :=
  let v254 : BitVec 32 := Scalar.addi v251 c0_i32_97
  let v255 : Index := Scalar.indexCast v254
  ![v255.toNat]

def k1_chk20 (v6 : BitVec 32) (k1_t5 : Fin (k1_t5_loop v6).trips) (k1_t6 : Fin k1_t6_loop.trips) (v251 : BitVec 32) : Prop :=
  (∀ (k1_h2 : k1_cond2 v6 k1_t5 k1_t6 = 1#1), ∀ (r : Fin 8), ∀ a, (k1_off171 v251 (BitVec.ofNat 32 (16 * r.val))) a + S16.size a ≤ S40192.size a)
theorem k1_off171_inb : ∀ (v6 : BitVec 32) (k1_t5 : Fin (k1_t5_loop v6).trips) (k1_t6 : Fin k1_t6_loop.trips) (v251 : BitVec 32) (k1_hw20 : k1_chk20 v6 k1_t5 k1_t6 v251), ∀ (k1_h2 : k1_cond2 v6 k1_t5 k1_t6 = 1#1), ∀ (r : Fin 8), ∀ a, (k1_off171 v251 (BitVec.ofNat 32 (16 * r.val))) a + S16.size a ≤ S40192.size a := fun v6 k1_t5 k1_t6 v251 k1_hw20 k1_h2 r => k1_hw20 k1_h2 r

def k1_off172 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k1_off173 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k1_off174 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k1_off175 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k1_off176 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k1_off177 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k1_off178 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k1_off179 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k1_off180 (v319 : BitVec 32) (c0_i32_114 : BitVec 32) : Fin 1 → Nat :=
  let v322 : BitVec 32 := Scalar.addi v319 c0_i32_114
  let v323 : Index := Scalar.indexCast v322
  ![v323.toNat]

def k1_chk21 (v6 : BitVec 32) (k1_t5 : Fin (k1_t5_loop v6).trips) (k1_t6 : Fin k1_t6_loop.trips) (v319 : BitVec 32) : Prop :=
  (∀ (k1_h2 : k1_cond2 v6 k1_t5 k1_t6 = 1#1), ∀ (r : Fin 8), ∀ a, (k1_off180 v319 (BitVec.ofNat 32 (16 * r.val))) a + S16.size a ≤ S40192.size a)
theorem k1_off180_inb : ∀ (v6 : BitVec 32) (k1_t5 : Fin (k1_t5_loop v6).trips) (k1_t6 : Fin k1_t6_loop.trips) (v319 : BitVec 32) (k1_hw21 : k1_chk21 v6 k1_t5 k1_t6 v319), ∀ (k1_h2 : k1_cond2 v6 k1_t5 k1_t6 = 1#1), ∀ (r : Fin 8), ∀ a, (k1_off180 v319 (BitVec.ofNat 32 (16 * r.val))) a + S16.size a ≤ S40192.size a := fun v6 k1_t5 k1_t6 v319 k1_hw21 k1_h2 r => k1_hw21 k1_h2 r

def k1_off181 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k1_off182 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k1_off183 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k1_off184 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k1_off185 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k1_off186 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k1_off187 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k1_off188 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k1_off189 (v387 : BitVec 32) (c0_i32_131 : BitVec 32) : Fin 1 → Nat :=
  let v390 : BitVec 32 := Scalar.addi v387 c0_i32_131
  let v391 : Index := Scalar.indexCast v390
  ![v391.toNat]

def k1_chk22 (v6 : BitVec 32) (k1_t5 : Fin (k1_t5_loop v6).trips) (k1_t6 : Fin k1_t6_loop.trips) (v387 : BitVec 32) : Prop :=
  (∀ (k1_h2 : k1_cond2 v6 k1_t5 k1_t6 = 1#1), ∀ (r : Fin 8), ∀ a, (k1_off189 v387 (BitVec.ofNat 32 (16 * r.val))) a + S16.size a ≤ S40192.size a)
theorem k1_off189_inb : ∀ (v6 : BitVec 32) (k1_t5 : Fin (k1_t5_loop v6).trips) (k1_t6 : Fin k1_t6_loop.trips) (v387 : BitVec 32) (k1_hw22 : k1_chk22 v6 k1_t5 k1_t6 v387), ∀ (k1_h2 : k1_cond2 v6 k1_t5 k1_t6 = 1#1), ∀ (r : Fin 8), ∀ a, (k1_off189 v387 (BitVec.ofNat 32 (16 * r.val))) a + S16.size a ≤ S40192.size a := fun v6 k1_t5 k1_t6 v387 k1_hw22 k1_h2 r => k1_hw22 k1_h2 r

def k1_off190 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k1_off191 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k1_off192 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k1_off193 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k1_off194 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k1_off195 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k1_off196 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k1_off197 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k1_off198 (v455 : BitVec 32) (c0_i32_148 : BitVec 32) : Fin 1 → Nat :=
  let v458 : BitVec 32 := Scalar.addi v455 c0_i32_148
  let v459 : Index := Scalar.indexCast v458
  ![v459.toNat]

def k1_chk23 (v6 : BitVec 32) (k1_t5 : Fin (k1_t5_loop v6).trips) (k1_t6 : Fin k1_t6_loop.trips) (v455 : BitVec 32) : Prop :=
  (∀ (k1_h2 : k1_cond2 v6 k1_t5 k1_t6 = 1#1), ∀ (r : Fin 8), ∀ a, (k1_off198 v455 (BitVec.ofNat 32 (16 * r.val))) a + S16.size a ≤ S40192.size a)
theorem k1_off198_inb : ∀ (v6 : BitVec 32) (k1_t5 : Fin (k1_t5_loop v6).trips) (k1_t6 : Fin k1_t6_loop.trips) (v455 : BitVec 32) (k1_hw23 : k1_chk23 v6 k1_t5 k1_t6 v455), ∀ (k1_h2 : k1_cond2 v6 k1_t5 k1_t6 = 1#1), ∀ (r : Fin 8), ∀ a, (k1_off198 v455 (BitVec.ofNat 32 (16 * r.val))) a + S16.size a ≤ S40192.size a := fun v6 k1_t5 k1_t6 v455 k1_hw23 k1_h2 r => k1_hw23 k1_h2 r

def k1_off199 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k1_off200 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k1_off201 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k1_off202 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k1_off203 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k1_off204 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k1_off205 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k1_off206 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k1_off207 (v523 : BitVec 32) (c0_i32_165 : BitVec 32) : Fin 1 → Nat :=
  let v526 : BitVec 32 := Scalar.addi v523 c0_i32_165
  let v527 : Index := Scalar.indexCast v526
  ![v527.toNat]

def k1_chk24 (v6 : BitVec 32) (k1_t5 : Fin (k1_t5_loop v6).trips) (k1_t6 : Fin k1_t6_loop.trips) (v523 : BitVec 32) : Prop :=
  (∀ (k1_h2 : k1_cond2 v6 k1_t5 k1_t6 = 1#1), ∀ (r : Fin 8), ∀ a, (k1_off207 v523 (BitVec.ofNat 32 (16 * r.val))) a + S16.size a ≤ S40192.size a)
theorem k1_off207_inb : ∀ (v6 : BitVec 32) (k1_t5 : Fin (k1_t5_loop v6).trips) (k1_t6 : Fin k1_t6_loop.trips) (v523 : BitVec 32) (k1_hw24 : k1_chk24 v6 k1_t5 k1_t6 v523), ∀ (k1_h2 : k1_cond2 v6 k1_t5 k1_t6 = 1#1), ∀ (r : Fin 8), ∀ a, (k1_off207 v523 (BitVec.ofNat 32 (16 * r.val))) a + S16.size a ≤ S40192.size a := fun v6 k1_t5 k1_t6 v523 k1_hw24 k1_h2 r => k1_hw24 k1_h2 r

def k1_off208 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k1_off209 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k1_off210 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k1_off211 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k1_off212 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k1_off213 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k1_off214 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k1_off215 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k1_off216 (v591 : BitVec 32) (c0_i32_182 : BitVec 32) : Fin 1 → Nat :=
  let v594 : BitVec 32 := Scalar.addi v591 c0_i32_182
  let v595 : Index := Scalar.indexCast v594
  ![v595.toNat]

def k1_chk25 (v6 : BitVec 32) (k1_t5 : Fin (k1_t5_loop v6).trips) (k1_t6 : Fin k1_t6_loop.trips) (v591 : BitVec 32) : Prop :=
  (∀ (k1_h2 : k1_cond2 v6 k1_t5 k1_t6 = 1#1), ∀ (r : Fin 8), ∀ a, (k1_off216 v591 (BitVec.ofNat 32 (16 * r.val))) a + S16.size a ≤ S40192.size a)
theorem k1_off216_inb : ∀ (v6 : BitVec 32) (k1_t5 : Fin (k1_t5_loop v6).trips) (k1_t6 : Fin k1_t6_loop.trips) (v591 : BitVec 32) (k1_hw25 : k1_chk25 v6 k1_t5 k1_t6 v591), ∀ (k1_h2 : k1_cond2 v6 k1_t5 k1_t6 = 1#1), ∀ (r : Fin 8), ∀ a, (k1_off216 v591 (BitVec.ofNat 32 (16 * r.val))) a + S16.size a ≤ S40192.size a := fun v6 k1_t5 k1_t6 v591 k1_hw25 k1_h2 r => k1_hw25 k1_h2 r

def k1_off217 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k1_off218 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k1_off219 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k1_off220 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k1_off221 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k1_off222 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k1_off223 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k1_off224 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k1_off225 (v659 : BitVec 32) (c0_i32_200 : BitVec 32) : Fin 1 → Nat :=
  let v662 : BitVec 32 := Scalar.addi v659 c0_i32_200
  let v663 : Index := Scalar.indexCast v662
  ![v663.toNat]

def k1_chk26 (v6 : BitVec 32) (k1_t5 : Fin (k1_t5_loop v6).trips) (k1_t6 : Fin k1_t6_loop.trips) (v659 : BitVec 32) : Prop :=
  (∀ (k1_h2 : k1_cond2 v6 k1_t5 k1_t6 = 1#1), ∀ (r : Fin 8), ∀ a, (k1_off225 v659 (BitVec.ofNat 32 (16 * r.val))) a + S16.size a ≤ S40192.size a)
theorem k1_off225_inb : ∀ (v6 : BitVec 32) (k1_t5 : Fin (k1_t5_loop v6).trips) (k1_t6 : Fin k1_t6_loop.trips) (v659 : BitVec 32) (k1_hw26 : k1_chk26 v6 k1_t5 k1_t6 v659), ∀ (k1_h2 : k1_cond2 v6 k1_t5 k1_t6 = 1#1), ∀ (r : Fin 8), ∀ a, (k1_off225 v659 (BitVec.ofNat 32 (16 * r.val))) a + S16.size a ≤ S40192.size a := fun v6 k1_t5 k1_t6 v659 k1_hw26 k1_h2 r => k1_hw26 k1_h2 r

def k1_off226 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k1_off227 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k1_off228 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k1_off229 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k1_off230 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k1_off231 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k1_off232 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k1_off233 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k1_off234 (v727 : BitVec 32) (c0_i32_217 : BitVec 32) : Fin 1 → Nat :=
  let v730 : BitVec 32 := Scalar.addi v727 c0_i32_217
  let v731 : Index := Scalar.indexCast v730
  ![v731.toNat]

def k1_chk27 (v6 : BitVec 32) (k1_t5 : Fin (k1_t5_loop v6).trips) (k1_t6 : Fin k1_t6_loop.trips) (v727 : BitVec 32) : Prop :=
  (∀ (k1_h2 : k1_cond2 v6 k1_t5 k1_t6 = 1#1), ∀ (r : Fin 8), ∀ a, (k1_off234 v727 (BitVec.ofNat 32 (16 * r.val))) a + S16.size a ≤ S40192.size a)
theorem k1_off234_inb : ∀ (v6 : BitVec 32) (k1_t5 : Fin (k1_t5_loop v6).trips) (k1_t6 : Fin k1_t6_loop.trips) (v727 : BitVec 32) (k1_hw27 : k1_chk27 v6 k1_t5 k1_t6 v727), ∀ (k1_h2 : k1_cond2 v6 k1_t5 k1_t6 = 1#1), ∀ (r : Fin 8), ∀ a, (k1_off234 v727 (BitVec.ofNat 32 (16 * r.val))) a + S16.size a ≤ S40192.size a := fun v6 k1_t5 k1_t6 v727 k1_hw27 k1_h2 r => k1_hw27 k1_h2 r

def k1_off235 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k1_off236 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k1_off237 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k1_off238 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k1_off239 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k1_off240 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k1_off241 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k1_off242 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k1_off243 (v795 : BitVec 32) (c0_i32_234 : BitVec 32) : Fin 1 → Nat :=
  let v798 : BitVec 32 := Scalar.addi v795 c0_i32_234
  let v799 : Index := Scalar.indexCast v798
  ![v799.toNat]

def k1_chk28 (v6 : BitVec 32) (k1_t5 : Fin (k1_t5_loop v6).trips) (k1_t6 : Fin k1_t6_loop.trips) (v795 : BitVec 32) : Prop :=
  (∀ (k1_h2 : k1_cond2 v6 k1_t5 k1_t6 = 1#1), ∀ (r : Fin 8), ∀ a, (k1_off243 v795 (BitVec.ofNat 32 (16 * r.val))) a + S16.size a ≤ S40192.size a)
theorem k1_off243_inb : ∀ (v6 : BitVec 32) (k1_t5 : Fin (k1_t5_loop v6).trips) (k1_t6 : Fin k1_t6_loop.trips) (v795 : BitVec 32) (k1_hw28 : k1_chk28 v6 k1_t5 k1_t6 v795), ∀ (k1_h2 : k1_cond2 v6 k1_t5 k1_t6 = 1#1), ∀ (r : Fin 8), ∀ a, (k1_off243 v795 (BitVec.ofNat 32 (16 * r.val))) a + S16.size a ≤ S40192.size a := fun v6 k1_t5 k1_t6 v795 k1_hw28 k1_h2 r => k1_hw28 k1_h2 r

def k1_off244 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k1_off245 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k1_off246 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k1_off247 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k1_off248 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k1_off249 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k1_off250 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k1_off251 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k1_off252 (v863 : BitVec 32) (c0_i32_251 : BitVec 32) : Fin 1 → Nat :=
  let v866 : BitVec 32 := Scalar.addi v863 c0_i32_251
  let v867 : Index := Scalar.indexCast v866
  ![v867.toNat]

def k1_chk29 (v6 : BitVec 32) (k1_t5 : Fin (k1_t5_loop v6).trips) (k1_t6 : Fin k1_t6_loop.trips) (v863 : BitVec 32) : Prop :=
  (∀ (k1_h2 : k1_cond2 v6 k1_t5 k1_t6 = 1#1), ∀ (r : Fin 8), ∀ a, (k1_off252 v863 (BitVec.ofNat 32 (16 * r.val))) a + S16.size a ≤ S40192.size a)
theorem k1_off252_inb : ∀ (v6 : BitVec 32) (k1_t5 : Fin (k1_t5_loop v6).trips) (k1_t6 : Fin k1_t6_loop.trips) (v863 : BitVec 32) (k1_hw29 : k1_chk29 v6 k1_t5 k1_t6 v863), ∀ (k1_h2 : k1_cond2 v6 k1_t5 k1_t6 = 1#1), ∀ (r : Fin 8), ∀ a, (k1_off252 v863 (BitVec.ofNat 32 (16 * r.val))) a + S16.size a ≤ S40192.size a := fun v6 k1_t5 k1_t6 v863 k1_hw29 k1_h2 r => k1_hw29 k1_h2 r

def k1_off253 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k1_off254 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k1_off255 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k1_off256 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k1_off257 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k1_off258 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k1_off259 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k1_off260 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k1_off261 (v931 : BitVec 32) (c0_i32_268 : BitVec 32) : Fin 1 → Nat :=
  let v934 : BitVec 32 := Scalar.addi v931 c0_i32_268
  let v935 : Index := Scalar.indexCast v934
  ![v935.toNat]

def k1_chk30 (v6 : BitVec 32) (k1_t5 : Fin (k1_t5_loop v6).trips) (k1_t6 : Fin k1_t6_loop.trips) (v931 : BitVec 32) : Prop :=
  (∀ (k1_h2 : k1_cond2 v6 k1_t5 k1_t6 = 1#1), ∀ (r : Fin 8), ∀ a, (k1_off261 v931 (BitVec.ofNat 32 (16 * r.val))) a + S16.size a ≤ S40192.size a)
theorem k1_off261_inb : ∀ (v6 : BitVec 32) (k1_t5 : Fin (k1_t5_loop v6).trips) (k1_t6 : Fin k1_t6_loop.trips) (v931 : BitVec 32) (k1_hw30 : k1_chk30 v6 k1_t5 k1_t6 v931), ∀ (k1_h2 : k1_cond2 v6 k1_t5 k1_t6 = 1#1), ∀ (r : Fin 8), ∀ a, (k1_off261 v931 (BitVec.ofNat 32 (16 * r.val))) a + S16.size a ≤ S40192.size a := fun v6 k1_t5 k1_t6 v931 k1_hw30 k1_h2 r => k1_hw30 k1_h2 r

def k1_off262 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k1_off263 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k1_off264 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k1_off265 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k1_off266 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k1_off267 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k1_off268 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k1_off269 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k1_off270 (v999 : BitVec 32) (c0_i32_285 : BitVec 32) : Fin 1 → Nat :=
  let v1002 : BitVec 32 := Scalar.addi v999 c0_i32_285
  let v1003 : Index := Scalar.indexCast v1002
  ![v1003.toNat]

def k1_chk31 (v6 : BitVec 32) (k1_t5 : Fin (k1_t5_loop v6).trips) (k1_t6 : Fin k1_t6_loop.trips) (v999 : BitVec 32) : Prop :=
  (∀ (k1_h2 : k1_cond2 v6 k1_t5 k1_t6 = 1#1), ∀ (r : Fin 8), ∀ a, (k1_off270 v999 (BitVec.ofNat 32 (16 * r.val))) a + S16.size a ≤ S40192.size a)
theorem k1_off270_inb : ∀ (v6 : BitVec 32) (k1_t5 : Fin (k1_t5_loop v6).trips) (k1_t6 : Fin k1_t6_loop.trips) (v999 : BitVec 32) (k1_hw31 : k1_chk31 v6 k1_t5 k1_t6 v999), ∀ (k1_h2 : k1_cond2 v6 k1_t5 k1_t6 = 1#1), ∀ (r : Fin 8), ∀ a, (k1_off270 v999 (BitVec.ofNat 32 (16 * r.val))) a + S16.size a ≤ S40192.size a := fun v6 k1_t5 k1_t6 v999 k1_hw31 k1_h2 r => k1_hw31 k1_h2 r

def k1_off271 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k1_off272 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k1_off273 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k1_off274 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k1_off275 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k1_off276 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k1_off277 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k1_off278 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k1_off279 (v1067 : BitVec 32) (c0_i32_302 : BitVec 32) : Fin 1 → Nat :=
  let v1070 : BitVec 32 := Scalar.addi v1067 c0_i32_302
  let v1071 : Index := Scalar.indexCast v1070
  ![v1071.toNat]

def k1_chk32 (v6 : BitVec 32) (k1_t5 : Fin (k1_t5_loop v6).trips) (k1_t6 : Fin k1_t6_loop.trips) (v1067 : BitVec 32) : Prop :=
  (∀ (k1_h2 : k1_cond2 v6 k1_t5 k1_t6 = 1#1), ∀ (r : Fin 8), ∀ a, (k1_off279 v1067 (BitVec.ofNat 32 (16 * r.val))) a + S16.size a ≤ S40192.size a)
theorem k1_off279_inb : ∀ (v6 : BitVec 32) (k1_t5 : Fin (k1_t5_loop v6).trips) (k1_t6 : Fin k1_t6_loop.trips) (v1067 : BitVec 32) (k1_hw32 : k1_chk32 v6 k1_t5 k1_t6 v1067), ∀ (k1_h2 : k1_cond2 v6 k1_t5 k1_t6 = 1#1), ∀ (r : Fin 8), ∀ a, (k1_off279 v1067 (BitVec.ofNat 32 (16 * r.val))) a + S16.size a ≤ S40192.size a := fun v6 k1_t5 k1_t6 v1067 k1_hw32 k1_h2 r => k1_hw32 k1_h2 r

def k1_off280 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k1_off281 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k1_off282 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k1_off283 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k1_off284 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k1_off285 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k1_off286 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k1_off287 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k1_off288 (v1135 : BitVec 32) (c0_i32_319 : BitVec 32) : Fin 1 → Nat :=
  let v1138 : BitVec 32 := Scalar.addi v1135 c0_i32_319
  let v1139 : Index := Scalar.indexCast v1138
  ![v1139.toNat]

def k1_chk33 (v6 : BitVec 32) (k1_t5 : Fin (k1_t5_loop v6).trips) (k1_t6 : Fin k1_t6_loop.trips) (v1135 : BitVec 32) : Prop :=
  (∀ (k1_h2 : k1_cond2 v6 k1_t5 k1_t6 = 1#1), ∀ (r : Fin 8), ∀ a, (k1_off288 v1135 (BitVec.ofNat 32 (16 * r.val))) a + S16.size a ≤ S40192.size a)
theorem k1_off288_inb : ∀ (v6 : BitVec 32) (k1_t5 : Fin (k1_t5_loop v6).trips) (k1_t6 : Fin k1_t6_loop.trips) (v1135 : BitVec 32) (k1_hw33 : k1_chk33 v6 k1_t5 k1_t6 v1135), ∀ (k1_h2 : k1_cond2 v6 k1_t5 k1_t6 = 1#1), ∀ (r : Fin 8), ∀ a, (k1_off288 v1135 (BitVec.ofNat 32 (16 * r.val))) a + S16.size a ≤ S40192.size a := fun v6 k1_t5 k1_t6 v1135 k1_hw33 k1_h2 r => k1_hw33 k1_h2 r

def k1_off289 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k1_off290 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k1_off291 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k1_off292 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k1_off293 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k1_off294 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k1_off295 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k1_off296 (k1_t7 : Fin k1_t7_loop.trips) : Fin 2 → Nat :=
  let c0_i32_52 : BitVec 32 := 0#32
  let c1_i32_53 : BitVec 32 := 1#32
  let arg14 : BitVec 32 := Scf.iv c0_i32_52 c1_i32_53 k1_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k1_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k1_off297 (k1_t8 : Fin k1_t8_loop.trips) : Fin 1 → Nat :=
  let c0_i32_16 : BitVec 32 := 0#32
  let c1_i32_17 : BitVec 32 := 1#32
  let arg12 : BitVec 32 := Scf.iv c0_i32_16 c1_i32_17 k1_t8
  let c16_i32 : BitVec 32 := 16#32
  let v38 : BitVec 32 := Scalar.muli arg12 c16_i32
  let v39 : Index := Scalar.indexCast v38
  ![v39.toNat]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k1_off298 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid2 : Pipeline.Grid := ⟨2, ![2, 16], ![false, false]⟩

@[reducible] def k2_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k2_off1 (k2_t1 : Fin k2_t1_loop.trips) : Fin 1 → Nat :=
  let c0_i32_0 : BitVec 32 := 0#32
  let c1_i32 : BitVec 32 := 1#32
  let arg12 : BitVec 32 := Scf.iv c0_i32_0 c1_i32 k2_t1
  let c16_i32 : BitVec 32 := 16#32
  let v38 : BitVec 32 := Scalar.muli arg12 c16_i32
  let v39 : Index := Scalar.indexCast v38
  ![v39.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k2_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k2_off3 (i : grid2.Coords) (v6 : BitVec 32) (k2_t2 : Fin (k2_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k2_t2
  let c2048_i32_22 : BitVec 32 := 2048#32
  let v38 : BitVec 32 := Scalar.muli arg12 c2048_i32_22
  ![v1.toNat, v38.toNat]
@[reducible] def k2_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k2_off4 (k2_t3 : Fin k2_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k2_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k2_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k2_off5 (k2_t3 : Fin k2_t3_loop.trips) (k2_t4 : Fin k2_t4_loop.trips) : Fin 1 → Nat :=
  let c0_i32_24 : BitVec 32 := 0#32
  let c1_i32_25 : BitVec 32 := 1#32
  let arg13 : BitVec 32 := Scf.iv c0_i32_24 c1_i32_25 k2_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k2_t4
  let c16_i32_56 : BitVec 32 := 16#32
  let v106 : BitVec 32 := Scalar.muli arg14 c16_i32_56
  let v107 : BitVec 32 := Scalar.addi v105 v106
  let v108 : Index := Scalar.indexCast v107
  ![v108.toNat]
def k2_off6 (v115 : BitVec 32) (c0_i32_61 : BitVec 32) : Fin 1 → Nat :=
  let v118 : BitVec 32 := Scalar.addi v115 c0_i32_61
  let v119 : Index := Scalar.indexCast v118
  ![v119.toNat]
def k2_cond1 (v6 : BitVec 32) (k2_t2 : Fin (k2_t2_loop v6).trips) (k2_t3 : Fin k2_t3_loop.trips) : BitVec 1 :=
  let c0_i32_11 : BitVec 32 := 0#32
  let c1_i32_13 : BitVec 32 := 1#32
  let arg12 : BitVec 32 := Scf.iv c0_i32_11 c1_i32_13 k2_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k2_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k2_chk2 (v6 : BitVec 32) (k2_t2 : Fin (k2_t2_loop v6).trips) (k2_t3 : Fin k2_t3_loop.trips) (v115 : BitVec 32) : Prop :=
  (∀ (k2_h1 : k2_cond1 v6 k2_t2 k2_t3 = 1#1), ∀ (r : Fin 8), ∀ a, (k2_off6 v115 (BitVec.ofNat 32 (16 * r.val))) a + S16.size a ≤ S40192.size a)
theorem k2_off6_inb : ∀ (v6 : BitVec 32) (k2_t2 : Fin (k2_t2_loop v6).trips) (k2_t3 : Fin k2_t3_loop.trips) (v115 : BitVec 32) (k2_hw2 : k2_chk2 v6 k2_t2 k2_t3 v115), ∀ (k2_h1 : k2_cond1 v6 k2_t2 k2_t3 = 1#1), ∀ (r : Fin 8), ∀ a, (k2_off6 v115 (BitVec.ofNat 32 (16 * r.val))) a + S16.size a ≤ S40192.size a := fun v6 k2_t2 k2_t3 v115 k2_hw2 k2_h1 r => k2_hw2 k2_h1 r

def k2_off7 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k2_off8 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k2_off9 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k2_off10 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k2_off11 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k2_off12 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k2_off13 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k2_off14 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k2_off15 (v183 : BitVec 32) (c0_i32_79 : BitVec 32) : Fin 1 → Nat :=
  let v186 : BitVec 32 := Scalar.addi v183 c0_i32_79
  let v187 : Index := Scalar.indexCast v186
  ![v187.toNat]

def k2_chk3 (v6 : BitVec 32) (k2_t2 : Fin (k2_t2_loop v6).trips) (k2_t3 : Fin k2_t3_loop.trips) (v183 : BitVec 32) : Prop :=
  (∀ (k2_h1 : k2_cond1 v6 k2_t2 k2_t3 = 1#1), ∀ (r : Fin 8), ∀ a, (k2_off15 v183 (BitVec.ofNat 32 (16 * r.val))) a + S16.size a ≤ S40192.size a)
theorem k2_off15_inb : ∀ (v6 : BitVec 32) (k2_t2 : Fin (k2_t2_loop v6).trips) (k2_t3 : Fin k2_t3_loop.trips) (v183 : BitVec 32) (k2_hw3 : k2_chk3 v6 k2_t2 k2_t3 v183), ∀ (k2_h1 : k2_cond1 v6 k2_t2 k2_t3 = 1#1), ∀ (r : Fin 8), ∀ a, (k2_off15 v183 (BitVec.ofNat 32 (16 * r.val))) a + S16.size a ≤ S40192.size a := fun v6 k2_t2 k2_t3 v183 k2_hw3 k2_h1 r => k2_hw3 k2_h1 r

def k2_off16 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k2_off17 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k2_off18 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k2_off19 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k2_off20 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k2_off21 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k2_off22 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k2_off23 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k2_off24 (v251 : BitVec 32) (c0_i32_97 : BitVec 32) : Fin 1 → Nat :=
  let v254 : BitVec 32 := Scalar.addi v251 c0_i32_97
  let v255 : Index := Scalar.indexCast v254
  ![v255.toNat]

def k2_chk4 (v6 : BitVec 32) (k2_t2 : Fin (k2_t2_loop v6).trips) (k2_t3 : Fin k2_t3_loop.trips) (v251 : BitVec 32) : Prop :=
  (∀ (k2_h1 : k2_cond1 v6 k2_t2 k2_t3 = 1#1), ∀ (r : Fin 8), ∀ a, (k2_off24 v251 (BitVec.ofNat 32 (16 * r.val))) a + S16.size a ≤ S40192.size a)
theorem k2_off24_inb : ∀ (v6 : BitVec 32) (k2_t2 : Fin (k2_t2_loop v6).trips) (k2_t3 : Fin k2_t3_loop.trips) (v251 : BitVec 32) (k2_hw4 : k2_chk4 v6 k2_t2 k2_t3 v251), ∀ (k2_h1 : k2_cond1 v6 k2_t2 k2_t3 = 1#1), ∀ (r : Fin 8), ∀ a, (k2_off24 v251 (BitVec.ofNat 32 (16 * r.val))) a + S16.size a ≤ S40192.size a := fun v6 k2_t2 k2_t3 v251 k2_hw4 k2_h1 r => k2_hw4 k2_h1 r

def k2_off25 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k2_off26 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k2_off27 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k2_off28 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k2_off29 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k2_off30 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k2_off31 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k2_off32 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k2_off33 (v319 : BitVec 32) (c0_i32_114 : BitVec 32) : Fin 1 → Nat :=
  let v322 : BitVec 32 := Scalar.addi v319 c0_i32_114
  let v323 : Index := Scalar.indexCast v322
  ![v323.toNat]

def k2_chk5 (v6 : BitVec 32) (k2_t2 : Fin (k2_t2_loop v6).trips) (k2_t3 : Fin k2_t3_loop.trips) (v319 : BitVec 32) : Prop :=
  (∀ (k2_h1 : k2_cond1 v6 k2_t2 k2_t3 = 1#1), ∀ (r : Fin 8), ∀ a, (k2_off33 v319 (BitVec.ofNat 32 (16 * r.val))) a + S16.size a ≤ S40192.size a)
theorem k2_off33_inb : ∀ (v6 : BitVec 32) (k2_t2 : Fin (k2_t2_loop v6).trips) (k2_t3 : Fin k2_t3_loop.trips) (v319 : BitVec 32) (k2_hw5 : k2_chk5 v6 k2_t2 k2_t3 v319), ∀ (k2_h1 : k2_cond1 v6 k2_t2 k2_t3 = 1#1), ∀ (r : Fin 8), ∀ a, (k2_off33 v319 (BitVec.ofNat 32 (16 * r.val))) a + S16.size a ≤ S40192.size a := fun v6 k2_t2 k2_t3 v319 k2_hw5 k2_h1 r => k2_hw5 k2_h1 r

def k2_off34 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k2_off35 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k2_off36 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k2_off37 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k2_off38 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k2_off39 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k2_off40 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k2_off41 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k2_off42 (v387 : BitVec 32) (c0_i32_131 : BitVec 32) : Fin 1 → Nat :=
  let v390 : BitVec 32 := Scalar.addi v387 c0_i32_131
  let v391 : Index := Scalar.indexCast v390
  ![v391.toNat]

def k2_chk6 (v6 : BitVec 32) (k2_t2 : Fin (k2_t2_loop v6).trips) (k2_t3 : Fin k2_t3_loop.trips) (v387 : BitVec 32) : Prop :=
  (∀ (k2_h1 : k2_cond1 v6 k2_t2 k2_t3 = 1#1), ∀ (r : Fin 8), ∀ a, (k2_off42 v387 (BitVec.ofNat 32 (16 * r.val))) a + S16.size a ≤ S40192.size a)
theorem k2_off42_inb : ∀ (v6 : BitVec 32) (k2_t2 : Fin (k2_t2_loop v6).trips) (k2_t3 : Fin k2_t3_loop.trips) (v387 : BitVec 32) (k2_hw6 : k2_chk6 v6 k2_t2 k2_t3 v387), ∀ (k2_h1 : k2_cond1 v6 k2_t2 k2_t3 = 1#1), ∀ (r : Fin 8), ∀ a, (k2_off42 v387 (BitVec.ofNat 32 (16 * r.val))) a + S16.size a ≤ S40192.size a := fun v6 k2_t2 k2_t3 v387 k2_hw6 k2_h1 r => k2_hw6 k2_h1 r

def k2_off43 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k2_off44 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k2_off45 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k2_off46 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k2_off47 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k2_off48 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k2_off49 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k2_off50 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k2_off51 (v455 : BitVec 32) (c0_i32_148 : BitVec 32) : Fin 1 → Nat :=
  let v458 : BitVec 32 := Scalar.addi v455 c0_i32_148
  let v459 : Index := Scalar.indexCast v458
  ![v459.toNat]

def k2_chk7 (v6 : BitVec 32) (k2_t2 : Fin (k2_t2_loop v6).trips) (k2_t3 : Fin k2_t3_loop.trips) (v455 : BitVec 32) : Prop :=
  (∀ (k2_h1 : k2_cond1 v6 k2_t2 k2_t3 = 1#1), ∀ (r : Fin 8), ∀ a, (k2_off51 v455 (BitVec.ofNat 32 (16 * r.val))) a + S16.size a ≤ S40192.size a)
theorem k2_off51_inb : ∀ (v6 : BitVec 32) (k2_t2 : Fin (k2_t2_loop v6).trips) (k2_t3 : Fin k2_t3_loop.trips) (v455 : BitVec 32) (k2_hw7 : k2_chk7 v6 k2_t2 k2_t3 v455), ∀ (k2_h1 : k2_cond1 v6 k2_t2 k2_t3 = 1#1), ∀ (r : Fin 8), ∀ a, (k2_off51 v455 (BitVec.ofNat 32 (16 * r.val))) a + S16.size a ≤ S40192.size a := fun v6 k2_t2 k2_t3 v455 k2_hw7 k2_h1 r => k2_hw7 k2_h1 r

def k2_off52 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k2_off53 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k2_off54 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k2_off55 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k2_off56 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k2_off57 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k2_off58 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k2_off59 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k2_off60 (v523 : BitVec 32) (c0_i32_165 : BitVec 32) : Fin 1 → Nat :=
  let v526 : BitVec 32 := Scalar.addi v523 c0_i32_165
  let v527 : Index := Scalar.indexCast v526
  ![v527.toNat]

def k2_chk8 (v6 : BitVec 32) (k2_t2 : Fin (k2_t2_loop v6).trips) (k2_t3 : Fin k2_t3_loop.trips) (v523 : BitVec 32) : Prop :=
  (∀ (k2_h1 : k2_cond1 v6 k2_t2 k2_t3 = 1#1), ∀ (r : Fin 8), ∀ a, (k2_off60 v523 (BitVec.ofNat 32 (16 * r.val))) a + S16.size a ≤ S40192.size a)
theorem k2_off60_inb : ∀ (v6 : BitVec 32) (k2_t2 : Fin (k2_t2_loop v6).trips) (k2_t3 : Fin k2_t3_loop.trips) (v523 : BitVec 32) (k2_hw8 : k2_chk8 v6 k2_t2 k2_t3 v523), ∀ (k2_h1 : k2_cond1 v6 k2_t2 k2_t3 = 1#1), ∀ (r : Fin 8), ∀ a, (k2_off60 v523 (BitVec.ofNat 32 (16 * r.val))) a + S16.size a ≤ S40192.size a := fun v6 k2_t2 k2_t3 v523 k2_hw8 k2_h1 r => k2_hw8 k2_h1 r

def k2_off61 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k2_off62 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k2_off63 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k2_off64 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k2_off65 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k2_off66 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k2_off67 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k2_off68 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k2_off69 (v591 : BitVec 32) (c0_i32_182 : BitVec 32) : Fin 1 → Nat :=
  let v594 : BitVec 32 := Scalar.addi v591 c0_i32_182
  let v595 : Index := Scalar.indexCast v594
  ![v595.toNat]

def k2_chk9 (v6 : BitVec 32) (k2_t2 : Fin (k2_t2_loop v6).trips) (k2_t3 : Fin k2_t3_loop.trips) (v591 : BitVec 32) : Prop :=
  (∀ (k2_h1 : k2_cond1 v6 k2_t2 k2_t3 = 1#1), ∀ (r : Fin 8), ∀ a, (k2_off69 v591 (BitVec.ofNat 32 (16 * r.val))) a + S16.size a ≤ S40192.size a)
theorem k2_off69_inb : ∀ (v6 : BitVec 32) (k2_t2 : Fin (k2_t2_loop v6).trips) (k2_t3 : Fin k2_t3_loop.trips) (v591 : BitVec 32) (k2_hw9 : k2_chk9 v6 k2_t2 k2_t3 v591), ∀ (k2_h1 : k2_cond1 v6 k2_t2 k2_t3 = 1#1), ∀ (r : Fin 8), ∀ a, (k2_off69 v591 (BitVec.ofNat 32 (16 * r.val))) a + S16.size a ≤ S40192.size a := fun v6 k2_t2 k2_t3 v591 k2_hw9 k2_h1 r => k2_hw9 k2_h1 r

def k2_off70 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k2_off71 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k2_off72 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k2_off73 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k2_off74 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k2_off75 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k2_off76 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k2_off77 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k2_off78 (v659 : BitVec 32) (c0_i32_200 : BitVec 32) : Fin 1 → Nat :=
  let v662 : BitVec 32 := Scalar.addi v659 c0_i32_200
  let v663 : Index := Scalar.indexCast v662
  ![v663.toNat]

def k2_chk10 (v6 : BitVec 32) (k2_t2 : Fin (k2_t2_loop v6).trips) (k2_t3 : Fin k2_t3_loop.trips) (v659 : BitVec 32) : Prop :=
  (∀ (k2_h1 : k2_cond1 v6 k2_t2 k2_t3 = 1#1), ∀ (r : Fin 8), ∀ a, (k2_off78 v659 (BitVec.ofNat 32 (16 * r.val))) a + S16.size a ≤ S40192.size a)
theorem k2_off78_inb : ∀ (v6 : BitVec 32) (k2_t2 : Fin (k2_t2_loop v6).trips) (k2_t3 : Fin k2_t3_loop.trips) (v659 : BitVec 32) (k2_hw10 : k2_chk10 v6 k2_t2 k2_t3 v659), ∀ (k2_h1 : k2_cond1 v6 k2_t2 k2_t3 = 1#1), ∀ (r : Fin 8), ∀ a, (k2_off78 v659 (BitVec.ofNat 32 (16 * r.val))) a + S16.size a ≤ S40192.size a := fun v6 k2_t2 k2_t3 v659 k2_hw10 k2_h1 r => k2_hw10 k2_h1 r

def k2_off79 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k2_off80 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k2_off81 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k2_off82 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k2_off83 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k2_off84 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k2_off85 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k2_off86 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k2_off87 (v727 : BitVec 32) (c0_i32_217 : BitVec 32) : Fin 1 → Nat :=
  let v730 : BitVec 32 := Scalar.addi v727 c0_i32_217
  let v731 : Index := Scalar.indexCast v730
  ![v731.toNat]

def k2_chk11 (v6 : BitVec 32) (k2_t2 : Fin (k2_t2_loop v6).trips) (k2_t3 : Fin k2_t3_loop.trips) (v727 : BitVec 32) : Prop :=
  (∀ (k2_h1 : k2_cond1 v6 k2_t2 k2_t3 = 1#1), ∀ (r : Fin 8), ∀ a, (k2_off87 v727 (BitVec.ofNat 32 (16 * r.val))) a + S16.size a ≤ S40192.size a)
theorem k2_off87_inb : ∀ (v6 : BitVec 32) (k2_t2 : Fin (k2_t2_loop v6).trips) (k2_t3 : Fin k2_t3_loop.trips) (v727 : BitVec 32) (k2_hw11 : k2_chk11 v6 k2_t2 k2_t3 v727), ∀ (k2_h1 : k2_cond1 v6 k2_t2 k2_t3 = 1#1), ∀ (r : Fin 8), ∀ a, (k2_off87 v727 (BitVec.ofNat 32 (16 * r.val))) a + S16.size a ≤ S40192.size a := fun v6 k2_t2 k2_t3 v727 k2_hw11 k2_h1 r => k2_hw11 k2_h1 r

def k2_off88 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k2_off89 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k2_off90 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k2_off91 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k2_off92 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k2_off93 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k2_off94 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k2_off95 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k2_off96 (v795 : BitVec 32) (c0_i32_234 : BitVec 32) : Fin 1 → Nat :=
  let v798 : BitVec 32 := Scalar.addi v795 c0_i32_234
  let v799 : Index := Scalar.indexCast v798
  ![v799.toNat]

def k2_chk12 (v6 : BitVec 32) (k2_t2 : Fin (k2_t2_loop v6).trips) (k2_t3 : Fin k2_t3_loop.trips) (v795 : BitVec 32) : Prop :=
  (∀ (k2_h1 : k2_cond1 v6 k2_t2 k2_t3 = 1#1), ∀ (r : Fin 8), ∀ a, (k2_off96 v795 (BitVec.ofNat 32 (16 * r.val))) a + S16.size a ≤ S40192.size a)
theorem k2_off96_inb : ∀ (v6 : BitVec 32) (k2_t2 : Fin (k2_t2_loop v6).trips) (k2_t3 : Fin k2_t3_loop.trips) (v795 : BitVec 32) (k2_hw12 : k2_chk12 v6 k2_t2 k2_t3 v795), ∀ (k2_h1 : k2_cond1 v6 k2_t2 k2_t3 = 1#1), ∀ (r : Fin 8), ∀ a, (k2_off96 v795 (BitVec.ofNat 32 (16 * r.val))) a + S16.size a ≤ S40192.size a := fun v6 k2_t2 k2_t3 v795 k2_hw12 k2_h1 r => k2_hw12 k2_h1 r

def k2_off97 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k2_off98 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k2_off99 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k2_off100 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k2_off101 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k2_off102 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k2_off103 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k2_off104 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k2_off105 (v863 : BitVec 32) (c0_i32_251 : BitVec 32) : Fin 1 → Nat :=
  let v866 : BitVec 32 := Scalar.addi v863 c0_i32_251
  let v867 : Index := Scalar.indexCast v866
  ![v867.toNat]

def k2_chk13 (v6 : BitVec 32) (k2_t2 : Fin (k2_t2_loop v6).trips) (k2_t3 : Fin k2_t3_loop.trips) (v863 : BitVec 32) : Prop :=
  (∀ (k2_h1 : k2_cond1 v6 k2_t2 k2_t3 = 1#1), ∀ (r : Fin 8), ∀ a, (k2_off105 v863 (BitVec.ofNat 32 (16 * r.val))) a + S16.size a ≤ S40192.size a)
theorem k2_off105_inb : ∀ (v6 : BitVec 32) (k2_t2 : Fin (k2_t2_loop v6).trips) (k2_t3 : Fin k2_t3_loop.trips) (v863 : BitVec 32) (k2_hw13 : k2_chk13 v6 k2_t2 k2_t3 v863), ∀ (k2_h1 : k2_cond1 v6 k2_t2 k2_t3 = 1#1), ∀ (r : Fin 8), ∀ a, (k2_off105 v863 (BitVec.ofNat 32 (16 * r.val))) a + S16.size a ≤ S40192.size a := fun v6 k2_t2 k2_t3 v863 k2_hw13 k2_h1 r => k2_hw13 k2_h1 r

def k2_off106 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k2_off107 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k2_off108 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k2_off109 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k2_off110 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k2_off111 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k2_off112 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k2_off113 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k2_off114 (v931 : BitVec 32) (c0_i32_268 : BitVec 32) : Fin 1 → Nat :=
  let v934 : BitVec 32 := Scalar.addi v931 c0_i32_268
  let v935 : Index := Scalar.indexCast v934
  ![v935.toNat]

def k2_chk14 (v6 : BitVec 32) (k2_t2 : Fin (k2_t2_loop v6).trips) (k2_t3 : Fin k2_t3_loop.trips) (v931 : BitVec 32) : Prop :=
  (∀ (k2_h1 : k2_cond1 v6 k2_t2 k2_t3 = 1#1), ∀ (r : Fin 8), ∀ a, (k2_off114 v931 (BitVec.ofNat 32 (16 * r.val))) a + S16.size a ≤ S40192.size a)
theorem k2_off114_inb : ∀ (v6 : BitVec 32) (k2_t2 : Fin (k2_t2_loop v6).trips) (k2_t3 : Fin k2_t3_loop.trips) (v931 : BitVec 32) (k2_hw14 : k2_chk14 v6 k2_t2 k2_t3 v931), ∀ (k2_h1 : k2_cond1 v6 k2_t2 k2_t3 = 1#1), ∀ (r : Fin 8), ∀ a, (k2_off114 v931 (BitVec.ofNat 32 (16 * r.val))) a + S16.size a ≤ S40192.size a := fun v6 k2_t2 k2_t3 v931 k2_hw14 k2_h1 r => k2_hw14 k2_h1 r

def k2_off115 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k2_off116 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k2_off117 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k2_off118 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k2_off119 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k2_off120 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k2_off121 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k2_off122 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k2_off123 (v999 : BitVec 32) (c0_i32_285 : BitVec 32) : Fin 1 → Nat :=
  let v1002 : BitVec 32 := Scalar.addi v999 c0_i32_285
  let v1003 : Index := Scalar.indexCast v1002
  ![v1003.toNat]

def k2_chk15 (v6 : BitVec 32) (k2_t2 : Fin (k2_t2_loop v6).trips) (k2_t3 : Fin k2_t3_loop.trips) (v999 : BitVec 32) : Prop :=
  (∀ (k2_h1 : k2_cond1 v6 k2_t2 k2_t3 = 1#1), ∀ (r : Fin 8), ∀ a, (k2_off123 v999 (BitVec.ofNat 32 (16 * r.val))) a + S16.size a ≤ S40192.size a)
theorem k2_off123_inb : ∀ (v6 : BitVec 32) (k2_t2 : Fin (k2_t2_loop v6).trips) (k2_t3 : Fin k2_t3_loop.trips) (v999 : BitVec 32) (k2_hw15 : k2_chk15 v6 k2_t2 k2_t3 v999), ∀ (k2_h1 : k2_cond1 v6 k2_t2 k2_t3 = 1#1), ∀ (r : Fin 8), ∀ a, (k2_off123 v999 (BitVec.ofNat 32 (16 * r.val))) a + S16.size a ≤ S40192.size a := fun v6 k2_t2 k2_t3 v999 k2_hw15 k2_h1 r => k2_hw15 k2_h1 r

def k2_off124 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k2_off125 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k2_off126 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k2_off127 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k2_off128 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k2_off129 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k2_off130 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k2_off131 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k2_off132 (v1067 : BitVec 32) (c0_i32_302 : BitVec 32) : Fin 1 → Nat :=
  let v1070 : BitVec 32 := Scalar.addi v1067 c0_i32_302
  let v1071 : Index := Scalar.indexCast v1070
  ![v1071.toNat]

def k2_chk16 (v6 : BitVec 32) (k2_t2 : Fin (k2_t2_loop v6).trips) (k2_t3 : Fin k2_t3_loop.trips) (v1067 : BitVec 32) : Prop :=
  (∀ (k2_h1 : k2_cond1 v6 k2_t2 k2_t3 = 1#1), ∀ (r : Fin 8), ∀ a, (k2_off132 v1067 (BitVec.ofNat 32 (16 * r.val))) a + S16.size a ≤ S40192.size a)
theorem k2_off132_inb : ∀ (v6 : BitVec 32) (k2_t2 : Fin (k2_t2_loop v6).trips) (k2_t3 : Fin k2_t3_loop.trips) (v1067 : BitVec 32) (k2_hw16 : k2_chk16 v6 k2_t2 k2_t3 v1067), ∀ (k2_h1 : k2_cond1 v6 k2_t2 k2_t3 = 1#1), ∀ (r : Fin 8), ∀ a, (k2_off132 v1067 (BitVec.ofNat 32 (16 * r.val))) a + S16.size a ≤ S40192.size a := fun v6 k2_t2 k2_t3 v1067 k2_hw16 k2_h1 r => k2_hw16 k2_h1 r

def k2_off133 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k2_off134 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k2_off135 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k2_off136 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k2_off137 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k2_off138 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k2_off139 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k2_off140 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k2_off141 (v1135 : BitVec 32) (c0_i32_319 : BitVec 32) : Fin 1 → Nat :=
  let v1138 : BitVec 32 := Scalar.addi v1135 c0_i32_319
  let v1139 : Index := Scalar.indexCast v1138
  ![v1139.toNat]

def k2_chk17 (v6 : BitVec 32) (k2_t2 : Fin (k2_t2_loop v6).trips) (k2_t3 : Fin k2_t3_loop.trips) (v1135 : BitVec 32) : Prop :=
  (∀ (k2_h1 : k2_cond1 v6 k2_t2 k2_t3 = 1#1), ∀ (r : Fin 8), ∀ a, (k2_off141 v1135 (BitVec.ofNat 32 (16 * r.val))) a + S16.size a ≤ S40192.size a)
theorem k2_off141_inb : ∀ (v6 : BitVec 32) (k2_t2 : Fin (k2_t2_loop v6).trips) (k2_t3 : Fin k2_t3_loop.trips) (v1135 : BitVec 32) (k2_hw17 : k2_chk17 v6 k2_t2 k2_t3 v1135), ∀ (k2_h1 : k2_cond1 v6 k2_t2 k2_t3 = 1#1), ∀ (r : Fin 8), ∀ a, (k2_off141 v1135 (BitVec.ofNat 32 (16 * r.val))) a + S16.size a ≤ S40192.size a := fun v6 k2_t2 k2_t3 v1135 k2_hw17 k2_h1 r => k2_hw17 k2_h1 r

def k2_off142 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k2_off143 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k2_off144 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k2_off145 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k2_off146 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k2_off147 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k2_off148 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k2_off149 (k2_t4 : Fin k2_t4_loop.trips) : Fin 2 → Nat :=
  let c0_i32_52 : BitVec 32 := 0#32
  let c1_i32_53 : BitVec 32 := 1#32
  let arg14 : BitVec 32 := Scf.iv c0_i32_52 c1_i32_53 k2_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k2_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k2_off150 (i : grid2.Coords) (v6 : BitVec 32) (k2_t5 : Fin (k2_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k2_t5
  let c2048_i32_22 : BitVec 32 := 2048#32
  let v38 : BitVec 32 := Scalar.muli arg12 c2048_i32_22
  ![v1.toNat, v38.toNat]

def k2_chk1 (i : grid2.Coords) (v6 : BitVec 32) : Prop :=
  ((k2_t2_loop v6).OK) ∧
  (∀ k2_t2 : Fin (k2_t2_loop v6).trips, ∀ a, (k2_off3 i v6 k2_t2) a + S1x2048.size a ≤ S32x323584.size a) ∧
  ((k2_t5_loop v6).OK) ∧
  (∀ k2_t5 : Fin (k2_t5_loop v6).trips, ∀ a, (k2_off150 i v6 k2_t5) a + S1x2048.size a ≤ S32x323584.size a)
theorem k2_t2_ok : ∀ (i : grid2.Coords) (v6 : BitVec 32) (k2_hw1 : k2_chk1 i v6), (k2_t2_loop v6).OK := fun i v6 k2_hw1 => k2_hw1.1
theorem k2_off3_inb : ∀ (i : grid2.Coords) (v6 : BitVec 32) (k2_hw1 : k2_chk1 i v6) (k2_t2 : Fin (k2_t2_loop v6).trips), ∀ a, (k2_off3 i v6 k2_t2) a + S1x2048.size a ≤ S32x323584.size a := fun i v6 k2_hw1 k2_t2 => k2_hw1.2.1 k2_t2
theorem k2_t5_ok : ∀ (i : grid2.Coords) (v6 : BitVec 32) (k2_hw1 : k2_chk1 i v6), (k2_t5_loop v6).OK := fun i v6 k2_hw1 => k2_hw1.2.2.1
theorem k2_off150_inb : ∀ (i : grid2.Coords) (v6 : BitVec 32) (k2_hw1 : k2_chk1 i v6) (k2_t5 : Fin (k2_t5_loop v6).trips), ∀ a, (k2_off150 i v6 k2_t5) a + S1x2048.size a ≤ S32x323584.size a := fun i v6 k2_hw1 k2_t5 => k2_hw1.2.2.2 k2_t5

@[reducible] def k2_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k2_off151 (k2_t6 : Fin k2_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k2_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k2_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k2_off152 (k2_t6 : Fin k2_t6_loop.trips) (k2_t7 : Fin k2_t7_loop.trips) : Fin 1 → Nat :=
  let c0_i32_24 : BitVec 32 := 0#32
  let c1_i32_25 : BitVec 32 := 1#32
  let arg13 : BitVec 32 := Scf.iv c0_i32_24 c1_i32_25 k2_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k2_t7
  let c16_i32_56 : BitVec 32 := 16#32
  let v106 : BitVec 32 := Scalar.muli arg14 c16_i32_56
  let v107 : BitVec 32 := Scalar.addi v105 v106
  let v108 : Index := Scalar.indexCast v107
  ![v108.toNat]
def k2_off153 (v115 : BitVec 32) (c0_i32_61 : BitVec 32) : Fin 1 → Nat :=
  let v118 : BitVec 32 := Scalar.addi v115 c0_i32_61
  let v119 : Index := Scalar.indexCast v118
  ![v119.toNat]
def k2_cond2 (v6 : BitVec 32) (k2_t5 : Fin (k2_t5_loop v6).trips) (k2_t6 : Fin k2_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k2_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k2_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k2_chk18 (v6 : BitVec 32) (k2_t5 : Fin (k2_t5_loop v6).trips) (k2_t6 : Fin k2_t6_loop.trips) (v115 : BitVec 32) : Prop :=
  (∀ (k2_h2 : k2_cond2 v6 k2_t5 k2_t6 = 1#1), ∀ (r : Fin 8), ∀ a, (k2_off153 v115 (BitVec.ofNat 32 (16 * r.val))) a + S16.size a ≤ S40192.size a)
theorem k2_off153_inb : ∀ (v6 : BitVec 32) (k2_t5 : Fin (k2_t5_loop v6).trips) (k2_t6 : Fin k2_t6_loop.trips) (v115 : BitVec 32) (k2_hw18 : k2_chk18 v6 k2_t5 k2_t6 v115), ∀ (k2_h2 : k2_cond2 v6 k2_t5 k2_t6 = 1#1), ∀ (r : Fin 8), ∀ a, (k2_off153 v115 (BitVec.ofNat 32 (16 * r.val))) a + S16.size a ≤ S40192.size a := fun v6 k2_t5 k2_t6 v115 k2_hw18 k2_h2 r => k2_hw18 k2_h2 r

def k2_off154 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k2_off155 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k2_off156 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k2_off157 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k2_off158 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k2_off159 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k2_off160 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k2_off161 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k2_off162 (v183 : BitVec 32) (c0_i32_79 : BitVec 32) : Fin 1 → Nat :=
  let v186 : BitVec 32 := Scalar.addi v183 c0_i32_79
  let v187 : Index := Scalar.indexCast v186
  ![v187.toNat]

def k2_chk19 (v6 : BitVec 32) (k2_t5 : Fin (k2_t5_loop v6).trips) (k2_t6 : Fin k2_t6_loop.trips) (v183 : BitVec 32) : Prop :=
  (∀ (k2_h2 : k2_cond2 v6 k2_t5 k2_t6 = 1#1), ∀ (r : Fin 8), ∀ a, (k2_off162 v183 (BitVec.ofNat 32 (16 * r.val))) a + S16.size a ≤ S40192.size a)
theorem k2_off162_inb : ∀ (v6 : BitVec 32) (k2_t5 : Fin (k2_t5_loop v6).trips) (k2_t6 : Fin k2_t6_loop.trips) (v183 : BitVec 32) (k2_hw19 : k2_chk19 v6 k2_t5 k2_t6 v183), ∀ (k2_h2 : k2_cond2 v6 k2_t5 k2_t6 = 1#1), ∀ (r : Fin 8), ∀ a, (k2_off162 v183 (BitVec.ofNat 32 (16 * r.val))) a + S16.size a ≤ S40192.size a := fun v6 k2_t5 k2_t6 v183 k2_hw19 k2_h2 r => k2_hw19 k2_h2 r

def k2_off163 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k2_off164 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k2_off165 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k2_off166 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k2_off167 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k2_off168 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k2_off169 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k2_off170 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k2_off171 (v251 : BitVec 32) (c0_i32_97 : BitVec 32) : Fin 1 → Nat :=
  let v254 : BitVec 32 := Scalar.addi v251 c0_i32_97
  let v255 : Index := Scalar.indexCast v254
  ![v255.toNat]

def k2_chk20 (v6 : BitVec 32) (k2_t5 : Fin (k2_t5_loop v6).trips) (k2_t6 : Fin k2_t6_loop.trips) (v251 : BitVec 32) : Prop :=
  (∀ (k2_h2 : k2_cond2 v6 k2_t5 k2_t6 = 1#1), ∀ (r : Fin 8), ∀ a, (k2_off171 v251 (BitVec.ofNat 32 (16 * r.val))) a + S16.size a ≤ S40192.size a)
theorem k2_off171_inb : ∀ (v6 : BitVec 32) (k2_t5 : Fin (k2_t5_loop v6).trips) (k2_t6 : Fin k2_t6_loop.trips) (v251 : BitVec 32) (k2_hw20 : k2_chk20 v6 k2_t5 k2_t6 v251), ∀ (k2_h2 : k2_cond2 v6 k2_t5 k2_t6 = 1#1), ∀ (r : Fin 8), ∀ a, (k2_off171 v251 (BitVec.ofNat 32 (16 * r.val))) a + S16.size a ≤ S40192.size a := fun v6 k2_t5 k2_t6 v251 k2_hw20 k2_h2 r => k2_hw20 k2_h2 r

def k2_off172 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k2_off173 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k2_off174 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k2_off175 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k2_off176 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k2_off177 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k2_off178 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k2_off179 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k2_off180 (v319 : BitVec 32) (c0_i32_114 : BitVec 32) : Fin 1 → Nat :=
  let v322 : BitVec 32 := Scalar.addi v319 c0_i32_114
  let v323 : Index := Scalar.indexCast v322
  ![v323.toNat]

def k2_chk21 (v6 : BitVec 32) (k2_t5 : Fin (k2_t5_loop v6).trips) (k2_t6 : Fin k2_t6_loop.trips) (v319 : BitVec 32) : Prop :=
  (∀ (k2_h2 : k2_cond2 v6 k2_t5 k2_t6 = 1#1), ∀ (r : Fin 8), ∀ a, (k2_off180 v319 (BitVec.ofNat 32 (16 * r.val))) a + S16.size a ≤ S40192.size a)
theorem k2_off180_inb : ∀ (v6 : BitVec 32) (k2_t5 : Fin (k2_t5_loop v6).trips) (k2_t6 : Fin k2_t6_loop.trips) (v319 : BitVec 32) (k2_hw21 : k2_chk21 v6 k2_t5 k2_t6 v319), ∀ (k2_h2 : k2_cond2 v6 k2_t5 k2_t6 = 1#1), ∀ (r : Fin 8), ∀ a, (k2_off180 v319 (BitVec.ofNat 32 (16 * r.val))) a + S16.size a ≤ S40192.size a := fun v6 k2_t5 k2_t6 v319 k2_hw21 k2_h2 r => k2_hw21 k2_h2 r

def k2_off181 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k2_off182 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k2_off183 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k2_off184 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k2_off185 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k2_off186 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k2_off187 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k2_off188 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k2_off189 (v387 : BitVec 32) (c0_i32_131 : BitVec 32) : Fin 1 → Nat :=
  let v390 : BitVec 32 := Scalar.addi v387 c0_i32_131
  let v391 : Index := Scalar.indexCast v390
  ![v391.toNat]

def k2_chk22 (v6 : BitVec 32) (k2_t5 : Fin (k2_t5_loop v6).trips) (k2_t6 : Fin k2_t6_loop.trips) (v387 : BitVec 32) : Prop :=
  (∀ (k2_h2 : k2_cond2 v6 k2_t5 k2_t6 = 1#1), ∀ (r : Fin 8), ∀ a, (k2_off189 v387 (BitVec.ofNat 32 (16 * r.val))) a + S16.size a ≤ S40192.size a)
theorem k2_off189_inb : ∀ (v6 : BitVec 32) (k2_t5 : Fin (k2_t5_loop v6).trips) (k2_t6 : Fin k2_t6_loop.trips) (v387 : BitVec 32) (k2_hw22 : k2_chk22 v6 k2_t5 k2_t6 v387), ∀ (k2_h2 : k2_cond2 v6 k2_t5 k2_t6 = 1#1), ∀ (r : Fin 8), ∀ a, (k2_off189 v387 (BitVec.ofNat 32 (16 * r.val))) a + S16.size a ≤ S40192.size a := fun v6 k2_t5 k2_t6 v387 k2_hw22 k2_h2 r => k2_hw22 k2_h2 r

def k2_off190 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k2_off191 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k2_off192 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k2_off193 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k2_off194 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k2_off195 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k2_off196 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k2_off197 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k2_off198 (v455 : BitVec 32) (c0_i32_148 : BitVec 32) : Fin 1 → Nat :=
  let v458 : BitVec 32 := Scalar.addi v455 c0_i32_148
  let v459 : Index := Scalar.indexCast v458
  ![v459.toNat]

def k2_chk23 (v6 : BitVec 32) (k2_t5 : Fin (k2_t5_loop v6).trips) (k2_t6 : Fin k2_t6_loop.trips) (v455 : BitVec 32) : Prop :=
  (∀ (k2_h2 : k2_cond2 v6 k2_t5 k2_t6 = 1#1), ∀ (r : Fin 8), ∀ a, (k2_off198 v455 (BitVec.ofNat 32 (16 * r.val))) a + S16.size a ≤ S40192.size a)
theorem k2_off198_inb : ∀ (v6 : BitVec 32) (k2_t5 : Fin (k2_t5_loop v6).trips) (k2_t6 : Fin k2_t6_loop.trips) (v455 : BitVec 32) (k2_hw23 : k2_chk23 v6 k2_t5 k2_t6 v455), ∀ (k2_h2 : k2_cond2 v6 k2_t5 k2_t6 = 1#1), ∀ (r : Fin 8), ∀ a, (k2_off198 v455 (BitVec.ofNat 32 (16 * r.val))) a + S16.size a ≤ S40192.size a := fun v6 k2_t5 k2_t6 v455 k2_hw23 k2_h2 r => k2_hw23 k2_h2 r

def k2_off199 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k2_off200 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k2_off201 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k2_off202 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k2_off203 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k2_off204 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k2_off205 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k2_off206 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k2_off207 (v523 : BitVec 32) (c0_i32_165 : BitVec 32) : Fin 1 → Nat :=
  let v526 : BitVec 32 := Scalar.addi v523 c0_i32_165
  let v527 : Index := Scalar.indexCast v526
  ![v527.toNat]

def k2_chk24 (v6 : BitVec 32) (k2_t5 : Fin (k2_t5_loop v6).trips) (k2_t6 : Fin k2_t6_loop.trips) (v523 : BitVec 32) : Prop :=
  (∀ (k2_h2 : k2_cond2 v6 k2_t5 k2_t6 = 1#1), ∀ (r : Fin 8), ∀ a, (k2_off207 v523 (BitVec.ofNat 32 (16 * r.val))) a + S16.size a ≤ S40192.size a)
theorem k2_off207_inb : ∀ (v6 : BitVec 32) (k2_t5 : Fin (k2_t5_loop v6).trips) (k2_t6 : Fin k2_t6_loop.trips) (v523 : BitVec 32) (k2_hw24 : k2_chk24 v6 k2_t5 k2_t6 v523), ∀ (k2_h2 : k2_cond2 v6 k2_t5 k2_t6 = 1#1), ∀ (r : Fin 8), ∀ a, (k2_off207 v523 (BitVec.ofNat 32 (16 * r.val))) a + S16.size a ≤ S40192.size a := fun v6 k2_t5 k2_t6 v523 k2_hw24 k2_h2 r => k2_hw24 k2_h2 r

def k2_off208 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k2_off209 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k2_off210 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k2_off211 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k2_off212 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k2_off213 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k2_off214 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k2_off215 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k2_off216 (v591 : BitVec 32) (c0_i32_182 : BitVec 32) : Fin 1 → Nat :=
  let v594 : BitVec 32 := Scalar.addi v591 c0_i32_182
  let v595 : Index := Scalar.indexCast v594
  ![v595.toNat]

def k2_chk25 (v6 : BitVec 32) (k2_t5 : Fin (k2_t5_loop v6).trips) (k2_t6 : Fin k2_t6_loop.trips) (v591 : BitVec 32) : Prop :=
  (∀ (k2_h2 : k2_cond2 v6 k2_t5 k2_t6 = 1#1), ∀ (r : Fin 8), ∀ a, (k2_off216 v591 (BitVec.ofNat 32 (16 * r.val))) a + S16.size a ≤ S40192.size a)
theorem k2_off216_inb : ∀ (v6 : BitVec 32) (k2_t5 : Fin (k2_t5_loop v6).trips) (k2_t6 : Fin k2_t6_loop.trips) (v591 : BitVec 32) (k2_hw25 : k2_chk25 v6 k2_t5 k2_t6 v591), ∀ (k2_h2 : k2_cond2 v6 k2_t5 k2_t6 = 1#1), ∀ (r : Fin 8), ∀ a, (k2_off216 v591 (BitVec.ofNat 32 (16 * r.val))) a + S16.size a ≤ S40192.size a := fun v6 k2_t5 k2_t6 v591 k2_hw25 k2_h2 r => k2_hw25 k2_h2 r

def k2_off217 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k2_off218 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k2_off219 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k2_off220 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k2_off221 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k2_off222 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k2_off223 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k2_off224 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k2_off225 (v659 : BitVec 32) (c0_i32_200 : BitVec 32) : Fin 1 → Nat :=
  let v662 : BitVec 32 := Scalar.addi v659 c0_i32_200
  let v663 : Index := Scalar.indexCast v662
  ![v663.toNat]

def k2_chk26 (v6 : BitVec 32) (k2_t5 : Fin (k2_t5_loop v6).trips) (k2_t6 : Fin k2_t6_loop.trips) (v659 : BitVec 32) : Prop :=
  (∀ (k2_h2 : k2_cond2 v6 k2_t5 k2_t6 = 1#1), ∀ (r : Fin 8), ∀ a, (k2_off225 v659 (BitVec.ofNat 32 (16 * r.val))) a + S16.size a ≤ S40192.size a)
theorem k2_off225_inb : ∀ (v6 : BitVec 32) (k2_t5 : Fin (k2_t5_loop v6).trips) (k2_t6 : Fin k2_t6_loop.trips) (v659 : BitVec 32) (k2_hw26 : k2_chk26 v6 k2_t5 k2_t6 v659), ∀ (k2_h2 : k2_cond2 v6 k2_t5 k2_t6 = 1#1), ∀ (r : Fin 8), ∀ a, (k2_off225 v659 (BitVec.ofNat 32 (16 * r.val))) a + S16.size a ≤ S40192.size a := fun v6 k2_t5 k2_t6 v659 k2_hw26 k2_h2 r => k2_hw26 k2_h2 r

def k2_off226 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k2_off227 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k2_off228 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k2_off229 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k2_off230 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k2_off231 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k2_off232 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k2_off233 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k2_off234 (v727 : BitVec 32) (c0_i32_217 : BitVec 32) : Fin 1 → Nat :=
  let v730 : BitVec 32 := Scalar.addi v727 c0_i32_217
  let v731 : Index := Scalar.indexCast v730
  ![v731.toNat]

def k2_chk27 (v6 : BitVec 32) (k2_t5 : Fin (k2_t5_loop v6).trips) (k2_t6 : Fin k2_t6_loop.trips) (v727 : BitVec 32) : Prop :=
  (∀ (k2_h2 : k2_cond2 v6 k2_t5 k2_t6 = 1#1), ∀ (r : Fin 8), ∀ a, (k2_off234 v727 (BitVec.ofNat 32 (16 * r.val))) a + S16.size a ≤ S40192.size a)
theorem k2_off234_inb : ∀ (v6 : BitVec 32) (k2_t5 : Fin (k2_t5_loop v6).trips) (k2_t6 : Fin k2_t6_loop.trips) (v727 : BitVec 32) (k2_hw27 : k2_chk27 v6 k2_t5 k2_t6 v727), ∀ (k2_h2 : k2_cond2 v6 k2_t5 k2_t6 = 1#1), ∀ (r : Fin 8), ∀ a, (k2_off234 v727 (BitVec.ofNat 32 (16 * r.val))) a + S16.size a ≤ S40192.size a := fun v6 k2_t5 k2_t6 v727 k2_hw27 k2_h2 r => k2_hw27 k2_h2 r

def k2_off235 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k2_off236 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k2_off237 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k2_off238 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k2_off239 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k2_off240 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k2_off241 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k2_off242 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k2_off243 (v795 : BitVec 32) (c0_i32_234 : BitVec 32) : Fin 1 → Nat :=
  let v798 : BitVec 32 := Scalar.addi v795 c0_i32_234
  let v799 : Index := Scalar.indexCast v798
  ![v799.toNat]

def k2_chk28 (v6 : BitVec 32) (k2_t5 : Fin (k2_t5_loop v6).trips) (k2_t6 : Fin k2_t6_loop.trips) (v795 : BitVec 32) : Prop :=
  (∀ (k2_h2 : k2_cond2 v6 k2_t5 k2_t6 = 1#1), ∀ (r : Fin 8), ∀ a, (k2_off243 v795 (BitVec.ofNat 32 (16 * r.val))) a + S16.size a ≤ S40192.size a)
theorem k2_off243_inb : ∀ (v6 : BitVec 32) (k2_t5 : Fin (k2_t5_loop v6).trips) (k2_t6 : Fin k2_t6_loop.trips) (v795 : BitVec 32) (k2_hw28 : k2_chk28 v6 k2_t5 k2_t6 v795), ∀ (k2_h2 : k2_cond2 v6 k2_t5 k2_t6 = 1#1), ∀ (r : Fin 8), ∀ a, (k2_off243 v795 (BitVec.ofNat 32 (16 * r.val))) a + S16.size a ≤ S40192.size a := fun v6 k2_t5 k2_t6 v795 k2_hw28 k2_h2 r => k2_hw28 k2_h2 r

def k2_off244 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k2_off245 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k2_off246 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k2_off247 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k2_off248 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k2_off249 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k2_off250 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k2_off251 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k2_off252 (v863 : BitVec 32) (c0_i32_251 : BitVec 32) : Fin 1 → Nat :=
  let v866 : BitVec 32 := Scalar.addi v863 c0_i32_251
  let v867 : Index := Scalar.indexCast v866
  ![v867.toNat]

def k2_chk29 (v6 : BitVec 32) (k2_t5 : Fin (k2_t5_loop v6).trips) (k2_t6 : Fin k2_t6_loop.trips) (v863 : BitVec 32) : Prop :=
  (∀ (k2_h2 : k2_cond2 v6 k2_t5 k2_t6 = 1#1), ∀ (r : Fin 8), ∀ a, (k2_off252 v863 (BitVec.ofNat 32 (16 * r.val))) a + S16.size a ≤ S40192.size a)
theorem k2_off252_inb : ∀ (v6 : BitVec 32) (k2_t5 : Fin (k2_t5_loop v6).trips) (k2_t6 : Fin k2_t6_loop.trips) (v863 : BitVec 32) (k2_hw29 : k2_chk29 v6 k2_t5 k2_t6 v863), ∀ (k2_h2 : k2_cond2 v6 k2_t5 k2_t6 = 1#1), ∀ (r : Fin 8), ∀ a, (k2_off252 v863 (BitVec.ofNat 32 (16 * r.val))) a + S16.size a ≤ S40192.size a := fun v6 k2_t5 k2_t6 v863 k2_hw29 k2_h2 r => k2_hw29 k2_h2 r

def k2_off253 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k2_off254 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k2_off255 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k2_off256 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k2_off257 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k2_off258 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k2_off259 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k2_off260 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k2_off261 (v931 : BitVec 32) (c0_i32_268 : BitVec 32) : Fin 1 → Nat :=
  let v934 : BitVec 32 := Scalar.addi v931 c0_i32_268
  let v935 : Index := Scalar.indexCast v934
  ![v935.toNat]

def k2_chk30 (v6 : BitVec 32) (k2_t5 : Fin (k2_t5_loop v6).trips) (k2_t6 : Fin k2_t6_loop.trips) (v931 : BitVec 32) : Prop :=
  (∀ (k2_h2 : k2_cond2 v6 k2_t5 k2_t6 = 1#1), ∀ (r : Fin 8), ∀ a, (k2_off261 v931 (BitVec.ofNat 32 (16 * r.val))) a + S16.size a ≤ S40192.size a)
theorem k2_off261_inb : ∀ (v6 : BitVec 32) (k2_t5 : Fin (k2_t5_loop v6).trips) (k2_t6 : Fin k2_t6_loop.trips) (v931 : BitVec 32) (k2_hw30 : k2_chk30 v6 k2_t5 k2_t6 v931), ∀ (k2_h2 : k2_cond2 v6 k2_t5 k2_t6 = 1#1), ∀ (r : Fin 8), ∀ a, (k2_off261 v931 (BitVec.ofNat 32 (16 * r.val))) a + S16.size a ≤ S40192.size a := fun v6 k2_t5 k2_t6 v931 k2_hw30 k2_h2 r => k2_hw30 k2_h2 r

def k2_off262 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k2_off263 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k2_off264 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k2_off265 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k2_off266 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k2_off267 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k2_off268 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k2_off269 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k2_off270 (v999 : BitVec 32) (c0_i32_285 : BitVec 32) : Fin 1 → Nat :=
  let v1002 : BitVec 32 := Scalar.addi v999 c0_i32_285
  let v1003 : Index := Scalar.indexCast v1002
  ![v1003.toNat]

def k2_chk31 (v6 : BitVec 32) (k2_t5 : Fin (k2_t5_loop v6).trips) (k2_t6 : Fin k2_t6_loop.trips) (v999 : BitVec 32) : Prop :=
  (∀ (k2_h2 : k2_cond2 v6 k2_t5 k2_t6 = 1#1), ∀ (r : Fin 8), ∀ a, (k2_off270 v999 (BitVec.ofNat 32 (16 * r.val))) a + S16.size a ≤ S40192.size a)
theorem k2_off270_inb : ∀ (v6 : BitVec 32) (k2_t5 : Fin (k2_t5_loop v6).trips) (k2_t6 : Fin k2_t6_loop.trips) (v999 : BitVec 32) (k2_hw31 : k2_chk31 v6 k2_t5 k2_t6 v999), ∀ (k2_h2 : k2_cond2 v6 k2_t5 k2_t6 = 1#1), ∀ (r : Fin 8), ∀ a, (k2_off270 v999 (BitVec.ofNat 32 (16 * r.val))) a + S16.size a ≤ S40192.size a := fun v6 k2_t5 k2_t6 v999 k2_hw31 k2_h2 r => k2_hw31 k2_h2 r

def k2_off271 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k2_off272 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k2_off273 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k2_off274 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k2_off275 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k2_off276 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k2_off277 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k2_off278 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k2_off279 (v1067 : BitVec 32) (c0_i32_302 : BitVec 32) : Fin 1 → Nat :=
  let v1070 : BitVec 32 := Scalar.addi v1067 c0_i32_302
  let v1071 : Index := Scalar.indexCast v1070
  ![v1071.toNat]

def k2_chk32 (v6 : BitVec 32) (k2_t5 : Fin (k2_t5_loop v6).trips) (k2_t6 : Fin k2_t6_loop.trips) (v1067 : BitVec 32) : Prop :=
  (∀ (k2_h2 : k2_cond2 v6 k2_t5 k2_t6 = 1#1), ∀ (r : Fin 8), ∀ a, (k2_off279 v1067 (BitVec.ofNat 32 (16 * r.val))) a + S16.size a ≤ S40192.size a)
theorem k2_off279_inb : ∀ (v6 : BitVec 32) (k2_t5 : Fin (k2_t5_loop v6).trips) (k2_t6 : Fin k2_t6_loop.trips) (v1067 : BitVec 32) (k2_hw32 : k2_chk32 v6 k2_t5 k2_t6 v1067), ∀ (k2_h2 : k2_cond2 v6 k2_t5 k2_t6 = 1#1), ∀ (r : Fin 8), ∀ a, (k2_off279 v1067 (BitVec.ofNat 32 (16 * r.val))) a + S16.size a ≤ S40192.size a := fun v6 k2_t5 k2_t6 v1067 k2_hw32 k2_h2 r => k2_hw32 k2_h2 r

def k2_off280 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k2_off281 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k2_off282 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k2_off283 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k2_off284 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k2_off285 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k2_off286 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k2_off287 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k2_off288 (v1135 : BitVec 32) (c0_i32_319 : BitVec 32) : Fin 1 → Nat :=
  let v1138 : BitVec 32 := Scalar.addi v1135 c0_i32_319
  let v1139 : Index := Scalar.indexCast v1138
  ![v1139.toNat]

def k2_chk33 (v6 : BitVec 32) (k2_t5 : Fin (k2_t5_loop v6).trips) (k2_t6 : Fin k2_t6_loop.trips) (v1135 : BitVec 32) : Prop :=
  (∀ (k2_h2 : k2_cond2 v6 k2_t5 k2_t6 = 1#1), ∀ (r : Fin 8), ∀ a, (k2_off288 v1135 (BitVec.ofNat 32 (16 * r.val))) a + S16.size a ≤ S40192.size a)
theorem k2_off288_inb : ∀ (v6 : BitVec 32) (k2_t5 : Fin (k2_t5_loop v6).trips) (k2_t6 : Fin k2_t6_loop.trips) (v1135 : BitVec 32) (k2_hw33 : k2_chk33 v6 k2_t5 k2_t6 v1135), ∀ (k2_h2 : k2_cond2 v6 k2_t5 k2_t6 = 1#1), ∀ (r : Fin 8), ∀ a, (k2_off288 v1135 (BitVec.ofNat 32 (16 * r.val))) a + S16.size a ≤ S40192.size a := fun v6 k2_t5 k2_t6 v1135 k2_hw33 k2_h2 r => k2_hw33 k2_h2 r

def k2_off289 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k2_off290 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k2_off291 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k2_off292 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k2_off293 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k2_off294 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k2_off295 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k2_off296 (k2_t7 : Fin k2_t7_loop.trips) : Fin 2 → Nat :=
  let c0_i32_52 : BitVec 32 := 0#32
  let c1_i32_53 : BitVec 32 := 1#32
  let arg14 : BitVec 32 := Scf.iv c0_i32_52 c1_i32_53 k2_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k2_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k2_off297 (k2_t8 : Fin k2_t8_loop.trips) : Fin 1 → Nat :=
  let c0_i32_16 : BitVec 32 := 0#32
  let c1_i32_17 : BitVec 32 := 1#32
  let arg12 : BitVec 32 := Scf.iv c0_i32_16 c1_i32_17 k2_t8
  let c16_i32 : BitVec 32 := 16#32
  let v38 : BitVec 32 := Scalar.muli arg12 c16_i32
  let v39 : Index := Scalar.indexCast v38
  ![v39.toNat]
def k2_cond3 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k2_off298 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid3 : Pipeline.Grid := ⟨2, ![2, 16], ![false, false]⟩

@[reducible] def k3_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k3_off1 (k3_t1 : Fin k3_t1_loop.trips) : Fin 1 → Nat :=
  let c0_i32_0 : BitVec 32 := 0#32
  let c1_i32 : BitVec 32 := 1#32
  let arg12 : BitVec 32 := Scf.iv c0_i32_0 c1_i32 k3_t1
  let c16_i32 : BitVec 32 := 16#32
  let v38 : BitVec 32 := Scalar.muli arg12 c16_i32
  let v39 : Index := Scalar.indexCast v38
  ![v39.toNat]
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k3_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k3_off3 (i : grid3.Coords) (v6 : BitVec 32) (k3_t2 : Fin (k3_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k3_t2
  let c2048_i32_22 : BitVec 32 := 2048#32
  let v38 : BitVec 32 := Scalar.muli arg12 c2048_i32_22
  ![v1.toNat, v38.toNat]
@[reducible] def k3_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k3_off4 (k3_t3 : Fin k3_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k3_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k3_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k3_off5 (k3_t3 : Fin k3_t3_loop.trips) (k3_t4 : Fin k3_t4_loop.trips) : Fin 1 → Nat :=
  let c0_i32_24 : BitVec 32 := 0#32
  let c1_i32_25 : BitVec 32 := 1#32
  let arg13 : BitVec 32 := Scf.iv c0_i32_24 c1_i32_25 k3_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k3_t4
  let c16_i32_56 : BitVec 32 := 16#32
  let v106 : BitVec 32 := Scalar.muli arg14 c16_i32_56
  let v107 : BitVec 32 := Scalar.addi v105 v106
  let v108 : Index := Scalar.indexCast v107
  ![v108.toNat]
def k3_off6 (v115 : BitVec 32) (c0_i32_61 : BitVec 32) : Fin 1 → Nat :=
  let v118 : BitVec 32 := Scalar.addi v115 c0_i32_61
  let v119 : Index := Scalar.indexCast v118
  ![v119.toNat]
def k3_cond1 (v6 : BitVec 32) (k3_t2 : Fin (k3_t2_loop v6).trips) (k3_t3 : Fin k3_t3_loop.trips) : BitVec 1 :=
  let c0_i32_11 : BitVec 32 := 0#32
  let c1_i32_13 : BitVec 32 := 1#32
  let arg12 : BitVec 32 := Scf.iv c0_i32_11 c1_i32_13 k3_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k3_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k3_chk2 (v6 : BitVec 32) (k3_t2 : Fin (k3_t2_loop v6).trips) (k3_t3 : Fin k3_t3_loop.trips) (v115 : BitVec 32) : Prop :=
  (∀ (k3_h1 : k3_cond1 v6 k3_t2 k3_t3 = 1#1), ∀ (r : Fin 8), ∀ a, (k3_off6 v115 (BitVec.ofNat 32 (16 * r.val))) a + S16.size a ≤ S40192.size a)
theorem k3_off6_inb : ∀ (v6 : BitVec 32) (k3_t2 : Fin (k3_t2_loop v6).trips) (k3_t3 : Fin k3_t3_loop.trips) (v115 : BitVec 32) (k3_hw2 : k3_chk2 v6 k3_t2 k3_t3 v115), ∀ (k3_h1 : k3_cond1 v6 k3_t2 k3_t3 = 1#1), ∀ (r : Fin 8), ∀ a, (k3_off6 v115 (BitVec.ofNat 32 (16 * r.val))) a + S16.size a ≤ S40192.size a := fun v6 k3_t2 k3_t3 v115 k3_hw2 k3_h1 r => k3_hw2 k3_h1 r

def k3_off7 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k3_off8 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k3_off9 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k3_off10 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k3_off11 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k3_off12 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k3_off13 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k3_off14 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k3_off15 (v183 : BitVec 32) (c0_i32_79 : BitVec 32) : Fin 1 → Nat :=
  let v186 : BitVec 32 := Scalar.addi v183 c0_i32_79
  let v187 : Index := Scalar.indexCast v186
  ![v187.toNat]

def k3_chk3 (v6 : BitVec 32) (k3_t2 : Fin (k3_t2_loop v6).trips) (k3_t3 : Fin k3_t3_loop.trips) (v183 : BitVec 32) : Prop :=
  (∀ (k3_h1 : k3_cond1 v6 k3_t2 k3_t3 = 1#1), ∀ (r : Fin 8), ∀ a, (k3_off15 v183 (BitVec.ofNat 32 (16 * r.val))) a + S16.size a ≤ S40192.size a)
theorem k3_off15_inb : ∀ (v6 : BitVec 32) (k3_t2 : Fin (k3_t2_loop v6).trips) (k3_t3 : Fin k3_t3_loop.trips) (v183 : BitVec 32) (k3_hw3 : k3_chk3 v6 k3_t2 k3_t3 v183), ∀ (k3_h1 : k3_cond1 v6 k3_t2 k3_t3 = 1#1), ∀ (r : Fin 8), ∀ a, (k3_off15 v183 (BitVec.ofNat 32 (16 * r.val))) a + S16.size a ≤ S40192.size a := fun v6 k3_t2 k3_t3 v183 k3_hw3 k3_h1 r => k3_hw3 k3_h1 r

def k3_off16 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k3_off17 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k3_off18 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k3_off19 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k3_off20 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k3_off21 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k3_off22 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k3_off23 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k3_off24 (v251 : BitVec 32) (c0_i32_97 : BitVec 32) : Fin 1 → Nat :=
  let v254 : BitVec 32 := Scalar.addi v251 c0_i32_97
  let v255 : Index := Scalar.indexCast v254
  ![v255.toNat]

def k3_chk4 (v6 : BitVec 32) (k3_t2 : Fin (k3_t2_loop v6).trips) (k3_t3 : Fin k3_t3_loop.trips) (v251 : BitVec 32) : Prop :=
  (∀ (k3_h1 : k3_cond1 v6 k3_t2 k3_t3 = 1#1), ∀ (r : Fin 8), ∀ a, (k3_off24 v251 (BitVec.ofNat 32 (16 * r.val))) a + S16.size a ≤ S40192.size a)
theorem k3_off24_inb : ∀ (v6 : BitVec 32) (k3_t2 : Fin (k3_t2_loop v6).trips) (k3_t3 : Fin k3_t3_loop.trips) (v251 : BitVec 32) (k3_hw4 : k3_chk4 v6 k3_t2 k3_t3 v251), ∀ (k3_h1 : k3_cond1 v6 k3_t2 k3_t3 = 1#1), ∀ (r : Fin 8), ∀ a, (k3_off24 v251 (BitVec.ofNat 32 (16 * r.val))) a + S16.size a ≤ S40192.size a := fun v6 k3_t2 k3_t3 v251 k3_hw4 k3_h1 r => k3_hw4 k3_h1 r

def k3_off25 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k3_off26 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k3_off27 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k3_off28 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k3_off29 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k3_off30 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k3_off31 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k3_off32 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k3_off33 (v319 : BitVec 32) (c0_i32_114 : BitVec 32) : Fin 1 → Nat :=
  let v322 : BitVec 32 := Scalar.addi v319 c0_i32_114
  let v323 : Index := Scalar.indexCast v322
  ![v323.toNat]

def k3_chk5 (v6 : BitVec 32) (k3_t2 : Fin (k3_t2_loop v6).trips) (k3_t3 : Fin k3_t3_loop.trips) (v319 : BitVec 32) : Prop :=
  (∀ (k3_h1 : k3_cond1 v6 k3_t2 k3_t3 = 1#1), ∀ (r : Fin 8), ∀ a, (k3_off33 v319 (BitVec.ofNat 32 (16 * r.val))) a + S16.size a ≤ S40192.size a)
theorem k3_off33_inb : ∀ (v6 : BitVec 32) (k3_t2 : Fin (k3_t2_loop v6).trips) (k3_t3 : Fin k3_t3_loop.trips) (v319 : BitVec 32) (k3_hw5 : k3_chk5 v6 k3_t2 k3_t3 v319), ∀ (k3_h1 : k3_cond1 v6 k3_t2 k3_t3 = 1#1), ∀ (r : Fin 8), ∀ a, (k3_off33 v319 (BitVec.ofNat 32 (16 * r.val))) a + S16.size a ≤ S40192.size a := fun v6 k3_t2 k3_t3 v319 k3_hw5 k3_h1 r => k3_hw5 k3_h1 r

def k3_off34 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k3_off35 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k3_off36 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k3_off37 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k3_off38 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k3_off39 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k3_off40 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k3_off41 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k3_off42 (v387 : BitVec 32) (c0_i32_131 : BitVec 32) : Fin 1 → Nat :=
  let v390 : BitVec 32 := Scalar.addi v387 c0_i32_131
  let v391 : Index := Scalar.indexCast v390
  ![v391.toNat]

def k3_chk6 (v6 : BitVec 32) (k3_t2 : Fin (k3_t2_loop v6).trips) (k3_t3 : Fin k3_t3_loop.trips) (v387 : BitVec 32) : Prop :=
  (∀ (k3_h1 : k3_cond1 v6 k3_t2 k3_t3 = 1#1), ∀ (r : Fin 8), ∀ a, (k3_off42 v387 (BitVec.ofNat 32 (16 * r.val))) a + S16.size a ≤ S40192.size a)
theorem k3_off42_inb : ∀ (v6 : BitVec 32) (k3_t2 : Fin (k3_t2_loop v6).trips) (k3_t3 : Fin k3_t3_loop.trips) (v387 : BitVec 32) (k3_hw6 : k3_chk6 v6 k3_t2 k3_t3 v387), ∀ (k3_h1 : k3_cond1 v6 k3_t2 k3_t3 = 1#1), ∀ (r : Fin 8), ∀ a, (k3_off42 v387 (BitVec.ofNat 32 (16 * r.val))) a + S16.size a ≤ S40192.size a := fun v6 k3_t2 k3_t3 v387 k3_hw6 k3_h1 r => k3_hw6 k3_h1 r

def k3_off43 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k3_off44 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k3_off45 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k3_off46 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k3_off47 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k3_off48 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k3_off49 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k3_off50 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k3_off51 (v455 : BitVec 32) (c0_i32_148 : BitVec 32) : Fin 1 → Nat :=
  let v458 : BitVec 32 := Scalar.addi v455 c0_i32_148
  let v459 : Index := Scalar.indexCast v458
  ![v459.toNat]

def k3_chk7 (v6 : BitVec 32) (k3_t2 : Fin (k3_t2_loop v6).trips) (k3_t3 : Fin k3_t3_loop.trips) (v455 : BitVec 32) : Prop :=
  (∀ (k3_h1 : k3_cond1 v6 k3_t2 k3_t3 = 1#1), ∀ (r : Fin 8), ∀ a, (k3_off51 v455 (BitVec.ofNat 32 (16 * r.val))) a + S16.size a ≤ S40192.size a)
theorem k3_off51_inb : ∀ (v6 : BitVec 32) (k3_t2 : Fin (k3_t2_loop v6).trips) (k3_t3 : Fin k3_t3_loop.trips) (v455 : BitVec 32) (k3_hw7 : k3_chk7 v6 k3_t2 k3_t3 v455), ∀ (k3_h1 : k3_cond1 v6 k3_t2 k3_t3 = 1#1), ∀ (r : Fin 8), ∀ a, (k3_off51 v455 (BitVec.ofNat 32 (16 * r.val))) a + S16.size a ≤ S40192.size a := fun v6 k3_t2 k3_t3 v455 k3_hw7 k3_h1 r => k3_hw7 k3_h1 r

def k3_off52 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k3_off53 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k3_off54 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k3_off55 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k3_off56 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k3_off57 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k3_off58 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k3_off59 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k3_off60 (v523 : BitVec 32) (c0_i32_165 : BitVec 32) : Fin 1 → Nat :=
  let v526 : BitVec 32 := Scalar.addi v523 c0_i32_165
  let v527 : Index := Scalar.indexCast v526
  ![v527.toNat]

def k3_chk8 (v6 : BitVec 32) (k3_t2 : Fin (k3_t2_loop v6).trips) (k3_t3 : Fin k3_t3_loop.trips) (v523 : BitVec 32) : Prop :=
  (∀ (k3_h1 : k3_cond1 v6 k3_t2 k3_t3 = 1#1), ∀ (r : Fin 8), ∀ a, (k3_off60 v523 (BitVec.ofNat 32 (16 * r.val))) a + S16.size a ≤ S40192.size a)
theorem k3_off60_inb : ∀ (v6 : BitVec 32) (k3_t2 : Fin (k3_t2_loop v6).trips) (k3_t3 : Fin k3_t3_loop.trips) (v523 : BitVec 32) (k3_hw8 : k3_chk8 v6 k3_t2 k3_t3 v523), ∀ (k3_h1 : k3_cond1 v6 k3_t2 k3_t3 = 1#1), ∀ (r : Fin 8), ∀ a, (k3_off60 v523 (BitVec.ofNat 32 (16 * r.val))) a + S16.size a ≤ S40192.size a := fun v6 k3_t2 k3_t3 v523 k3_hw8 k3_h1 r => k3_hw8 k3_h1 r

def k3_off61 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k3_off62 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k3_off63 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k3_off64 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k3_off65 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k3_off66 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k3_off67 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k3_off68 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k3_off69 (v591 : BitVec 32) (c0_i32_182 : BitVec 32) : Fin 1 → Nat :=
  let v594 : BitVec 32 := Scalar.addi v591 c0_i32_182
  let v595 : Index := Scalar.indexCast v594
  ![v595.toNat]

def k3_chk9 (v6 : BitVec 32) (k3_t2 : Fin (k3_t2_loop v6).trips) (k3_t3 : Fin k3_t3_loop.trips) (v591 : BitVec 32) : Prop :=
  (∀ (k3_h1 : k3_cond1 v6 k3_t2 k3_t3 = 1#1), ∀ (r : Fin 8), ∀ a, (k3_off69 v591 (BitVec.ofNat 32 (16 * r.val))) a + S16.size a ≤ S40192.size a)
theorem k3_off69_inb : ∀ (v6 : BitVec 32) (k3_t2 : Fin (k3_t2_loop v6).trips) (k3_t3 : Fin k3_t3_loop.trips) (v591 : BitVec 32) (k3_hw9 : k3_chk9 v6 k3_t2 k3_t3 v591), ∀ (k3_h1 : k3_cond1 v6 k3_t2 k3_t3 = 1#1), ∀ (r : Fin 8), ∀ a, (k3_off69 v591 (BitVec.ofNat 32 (16 * r.val))) a + S16.size a ≤ S40192.size a := fun v6 k3_t2 k3_t3 v591 k3_hw9 k3_h1 r => k3_hw9 k3_h1 r

def k3_off70 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k3_off71 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k3_off72 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k3_off73 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k3_off74 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k3_off75 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k3_off76 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k3_off77 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k3_off78 (v659 : BitVec 32) (c0_i32_200 : BitVec 32) : Fin 1 → Nat :=
  let v662 : BitVec 32 := Scalar.addi v659 c0_i32_200
  let v663 : Index := Scalar.indexCast v662
  ![v663.toNat]

def k3_chk10 (v6 : BitVec 32) (k3_t2 : Fin (k3_t2_loop v6).trips) (k3_t3 : Fin k3_t3_loop.trips) (v659 : BitVec 32) : Prop :=
  (∀ (k3_h1 : k3_cond1 v6 k3_t2 k3_t3 = 1#1), ∀ (r : Fin 8), ∀ a, (k3_off78 v659 (BitVec.ofNat 32 (16 * r.val))) a + S16.size a ≤ S40192.size a)
theorem k3_off78_inb : ∀ (v6 : BitVec 32) (k3_t2 : Fin (k3_t2_loop v6).trips) (k3_t3 : Fin k3_t3_loop.trips) (v659 : BitVec 32) (k3_hw10 : k3_chk10 v6 k3_t2 k3_t3 v659), ∀ (k3_h1 : k3_cond1 v6 k3_t2 k3_t3 = 1#1), ∀ (r : Fin 8), ∀ a, (k3_off78 v659 (BitVec.ofNat 32 (16 * r.val))) a + S16.size a ≤ S40192.size a := fun v6 k3_t2 k3_t3 v659 k3_hw10 k3_h1 r => k3_hw10 k3_h1 r

def k3_off79 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k3_off80 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k3_off81 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k3_off82 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k3_off83 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k3_off84 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k3_off85 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k3_off86 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k3_off87 (v727 : BitVec 32) (c0_i32_217 : BitVec 32) : Fin 1 → Nat :=
  let v730 : BitVec 32 := Scalar.addi v727 c0_i32_217
  let v731 : Index := Scalar.indexCast v730
  ![v731.toNat]

def k3_chk11 (v6 : BitVec 32) (k3_t2 : Fin (k3_t2_loop v6).trips) (k3_t3 : Fin k3_t3_loop.trips) (v727 : BitVec 32) : Prop :=
  (∀ (k3_h1 : k3_cond1 v6 k3_t2 k3_t3 = 1#1), ∀ (r : Fin 8), ∀ a, (k3_off87 v727 (BitVec.ofNat 32 (16 * r.val))) a + S16.size a ≤ S40192.size a)
theorem k3_off87_inb : ∀ (v6 : BitVec 32) (k3_t2 : Fin (k3_t2_loop v6).trips) (k3_t3 : Fin k3_t3_loop.trips) (v727 : BitVec 32) (k3_hw11 : k3_chk11 v6 k3_t2 k3_t3 v727), ∀ (k3_h1 : k3_cond1 v6 k3_t2 k3_t3 = 1#1), ∀ (r : Fin 8), ∀ a, (k3_off87 v727 (BitVec.ofNat 32 (16 * r.val))) a + S16.size a ≤ S40192.size a := fun v6 k3_t2 k3_t3 v727 k3_hw11 k3_h1 r => k3_hw11 k3_h1 r

def k3_off88 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k3_off89 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k3_off90 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k3_off91 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k3_off92 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k3_off93 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k3_off94 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k3_off95 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k3_off96 (v795 : BitVec 32) (c0_i32_234 : BitVec 32) : Fin 1 → Nat :=
  let v798 : BitVec 32 := Scalar.addi v795 c0_i32_234
  let v799 : Index := Scalar.indexCast v798
  ![v799.toNat]

def k3_chk12 (v6 : BitVec 32) (k3_t2 : Fin (k3_t2_loop v6).trips) (k3_t3 : Fin k3_t3_loop.trips) (v795 : BitVec 32) : Prop :=
  (∀ (k3_h1 : k3_cond1 v6 k3_t2 k3_t3 = 1#1), ∀ (r : Fin 8), ∀ a, (k3_off96 v795 (BitVec.ofNat 32 (16 * r.val))) a + S16.size a ≤ S40192.size a)
theorem k3_off96_inb : ∀ (v6 : BitVec 32) (k3_t2 : Fin (k3_t2_loop v6).trips) (k3_t3 : Fin k3_t3_loop.trips) (v795 : BitVec 32) (k3_hw12 : k3_chk12 v6 k3_t2 k3_t3 v795), ∀ (k3_h1 : k3_cond1 v6 k3_t2 k3_t3 = 1#1), ∀ (r : Fin 8), ∀ a, (k3_off96 v795 (BitVec.ofNat 32 (16 * r.val))) a + S16.size a ≤ S40192.size a := fun v6 k3_t2 k3_t3 v795 k3_hw12 k3_h1 r => k3_hw12 k3_h1 r

def k3_off97 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k3_off98 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k3_off99 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k3_off100 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k3_off101 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k3_off102 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k3_off103 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k3_off104 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k3_off105 (v863 : BitVec 32) (c0_i32_251 : BitVec 32) : Fin 1 → Nat :=
  let v866 : BitVec 32 := Scalar.addi v863 c0_i32_251
  let v867 : Index := Scalar.indexCast v866
  ![v867.toNat]

def k3_chk13 (v6 : BitVec 32) (k3_t2 : Fin (k3_t2_loop v6).trips) (k3_t3 : Fin k3_t3_loop.trips) (v863 : BitVec 32) : Prop :=
  (∀ (k3_h1 : k3_cond1 v6 k3_t2 k3_t3 = 1#1), ∀ (r : Fin 8), ∀ a, (k3_off105 v863 (BitVec.ofNat 32 (16 * r.val))) a + S16.size a ≤ S40192.size a)
theorem k3_off105_inb : ∀ (v6 : BitVec 32) (k3_t2 : Fin (k3_t2_loop v6).trips) (k3_t3 : Fin k3_t3_loop.trips) (v863 : BitVec 32) (k3_hw13 : k3_chk13 v6 k3_t2 k3_t3 v863), ∀ (k3_h1 : k3_cond1 v6 k3_t2 k3_t3 = 1#1), ∀ (r : Fin 8), ∀ a, (k3_off105 v863 (BitVec.ofNat 32 (16 * r.val))) a + S16.size a ≤ S40192.size a := fun v6 k3_t2 k3_t3 v863 k3_hw13 k3_h1 r => k3_hw13 k3_h1 r

def k3_off106 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k3_off107 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k3_off108 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k3_off109 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k3_off110 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k3_off111 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k3_off112 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k3_off113 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k3_off114 (v931 : BitVec 32) (c0_i32_268 : BitVec 32) : Fin 1 → Nat :=
  let v934 : BitVec 32 := Scalar.addi v931 c0_i32_268
  let v935 : Index := Scalar.indexCast v934
  ![v935.toNat]

def k3_chk14 (v6 : BitVec 32) (k3_t2 : Fin (k3_t2_loop v6).trips) (k3_t3 : Fin k3_t3_loop.trips) (v931 : BitVec 32) : Prop :=
  (∀ (k3_h1 : k3_cond1 v6 k3_t2 k3_t3 = 1#1), ∀ (r : Fin 8), ∀ a, (k3_off114 v931 (BitVec.ofNat 32 (16 * r.val))) a + S16.size a ≤ S40192.size a)
theorem k3_off114_inb : ∀ (v6 : BitVec 32) (k3_t2 : Fin (k3_t2_loop v6).trips) (k3_t3 : Fin k3_t3_loop.trips) (v931 : BitVec 32) (k3_hw14 : k3_chk14 v6 k3_t2 k3_t3 v931), ∀ (k3_h1 : k3_cond1 v6 k3_t2 k3_t3 = 1#1), ∀ (r : Fin 8), ∀ a, (k3_off114 v931 (BitVec.ofNat 32 (16 * r.val))) a + S16.size a ≤ S40192.size a := fun v6 k3_t2 k3_t3 v931 k3_hw14 k3_h1 r => k3_hw14 k3_h1 r

def k3_off115 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k3_off116 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k3_off117 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k3_off118 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k3_off119 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k3_off120 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k3_off121 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k3_off122 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k3_off123 (v999 : BitVec 32) (c0_i32_285 : BitVec 32) : Fin 1 → Nat :=
  let v1002 : BitVec 32 := Scalar.addi v999 c0_i32_285
  let v1003 : Index := Scalar.indexCast v1002
  ![v1003.toNat]

def k3_chk15 (v6 : BitVec 32) (k3_t2 : Fin (k3_t2_loop v6).trips) (k3_t3 : Fin k3_t3_loop.trips) (v999 : BitVec 32) : Prop :=
  (∀ (k3_h1 : k3_cond1 v6 k3_t2 k3_t3 = 1#1), ∀ (r : Fin 8), ∀ a, (k3_off123 v999 (BitVec.ofNat 32 (16 * r.val))) a + S16.size a ≤ S40192.size a)
theorem k3_off123_inb : ∀ (v6 : BitVec 32) (k3_t2 : Fin (k3_t2_loop v6).trips) (k3_t3 : Fin k3_t3_loop.trips) (v999 : BitVec 32) (k3_hw15 : k3_chk15 v6 k3_t2 k3_t3 v999), ∀ (k3_h1 : k3_cond1 v6 k3_t2 k3_t3 = 1#1), ∀ (r : Fin 8), ∀ a, (k3_off123 v999 (BitVec.ofNat 32 (16 * r.val))) a + S16.size a ≤ S40192.size a := fun v6 k3_t2 k3_t3 v999 k3_hw15 k3_h1 r => k3_hw15 k3_h1 r

def k3_off124 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k3_off125 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k3_off126 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k3_off127 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k3_off128 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k3_off129 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k3_off130 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k3_off131 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k3_off132 (v1067 : BitVec 32) (c0_i32_302 : BitVec 32) : Fin 1 → Nat :=
  let v1070 : BitVec 32 := Scalar.addi v1067 c0_i32_302
  let v1071 : Index := Scalar.indexCast v1070
  ![v1071.toNat]

def k3_chk16 (v6 : BitVec 32) (k3_t2 : Fin (k3_t2_loop v6).trips) (k3_t3 : Fin k3_t3_loop.trips) (v1067 : BitVec 32) : Prop :=
  (∀ (k3_h1 : k3_cond1 v6 k3_t2 k3_t3 = 1#1), ∀ (r : Fin 8), ∀ a, (k3_off132 v1067 (BitVec.ofNat 32 (16 * r.val))) a + S16.size a ≤ S40192.size a)
theorem k3_off132_inb : ∀ (v6 : BitVec 32) (k3_t2 : Fin (k3_t2_loop v6).trips) (k3_t3 : Fin k3_t3_loop.trips) (v1067 : BitVec 32) (k3_hw16 : k3_chk16 v6 k3_t2 k3_t3 v1067), ∀ (k3_h1 : k3_cond1 v6 k3_t2 k3_t3 = 1#1), ∀ (r : Fin 8), ∀ a, (k3_off132 v1067 (BitVec.ofNat 32 (16 * r.val))) a + S16.size a ≤ S40192.size a := fun v6 k3_t2 k3_t3 v1067 k3_hw16 k3_h1 r => k3_hw16 k3_h1 r

def k3_off133 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k3_off134 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k3_off135 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k3_off136 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k3_off137 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k3_off138 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k3_off139 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k3_off140 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k3_off141 (v1135 : BitVec 32) (c0_i32_319 : BitVec 32) : Fin 1 → Nat :=
  let v1138 : BitVec 32 := Scalar.addi v1135 c0_i32_319
  let v1139 : Index := Scalar.indexCast v1138
  ![v1139.toNat]

def k3_chk17 (v6 : BitVec 32) (k3_t2 : Fin (k3_t2_loop v6).trips) (k3_t3 : Fin k3_t3_loop.trips) (v1135 : BitVec 32) : Prop :=
  (∀ (k3_h1 : k3_cond1 v6 k3_t2 k3_t3 = 1#1), ∀ (r : Fin 8), ∀ a, (k3_off141 v1135 (BitVec.ofNat 32 (16 * r.val))) a + S16.size a ≤ S40192.size a)
theorem k3_off141_inb : ∀ (v6 : BitVec 32) (k3_t2 : Fin (k3_t2_loop v6).trips) (k3_t3 : Fin k3_t3_loop.trips) (v1135 : BitVec 32) (k3_hw17 : k3_chk17 v6 k3_t2 k3_t3 v1135), ∀ (k3_h1 : k3_cond1 v6 k3_t2 k3_t3 = 1#1), ∀ (r : Fin 8), ∀ a, (k3_off141 v1135 (BitVec.ofNat 32 (16 * r.val))) a + S16.size a ≤ S40192.size a := fun v6 k3_t2 k3_t3 v1135 k3_hw17 k3_h1 r => k3_hw17 k3_h1 r

def k3_off142 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k3_off143 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k3_off144 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k3_off145 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k3_off146 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k3_off147 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k3_off148 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k3_off149 (k3_t4 : Fin k3_t4_loop.trips) : Fin 2 → Nat :=
  let c0_i32_52 : BitVec 32 := 0#32
  let c1_i32_53 : BitVec 32 := 1#32
  let arg14 : BitVec 32 := Scf.iv c0_i32_52 c1_i32_53 k3_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k3_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k3_off150 (i : grid3.Coords) (v6 : BitVec 32) (k3_t5 : Fin (k3_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k3_t5
  let c2048_i32_22 : BitVec 32 := 2048#32
  let v38 : BitVec 32 := Scalar.muli arg12 c2048_i32_22
  ![v1.toNat, v38.toNat]

def k3_chk1 (i : grid3.Coords) (v6 : BitVec 32) : Prop :=
  ((k3_t2_loop v6).OK) ∧
  (∀ k3_t2 : Fin (k3_t2_loop v6).trips, ∀ a, (k3_off3 i v6 k3_t2) a + S1x2048.size a ≤ S32x323584.size a) ∧
  ((k3_t5_loop v6).OK) ∧
  (∀ k3_t5 : Fin (k3_t5_loop v6).trips, ∀ a, (k3_off150 i v6 k3_t5) a + S1x2048.size a ≤ S32x323584.size a)
theorem k3_t2_ok : ∀ (i : grid3.Coords) (v6 : BitVec 32) (k3_hw1 : k3_chk1 i v6), (k3_t2_loop v6).OK := fun i v6 k3_hw1 => k3_hw1.1
theorem k3_off3_inb : ∀ (i : grid3.Coords) (v6 : BitVec 32) (k3_hw1 : k3_chk1 i v6) (k3_t2 : Fin (k3_t2_loop v6).trips), ∀ a, (k3_off3 i v6 k3_t2) a + S1x2048.size a ≤ S32x323584.size a := fun i v6 k3_hw1 k3_t2 => k3_hw1.2.1 k3_t2
theorem k3_t5_ok : ∀ (i : grid3.Coords) (v6 : BitVec 32) (k3_hw1 : k3_chk1 i v6), (k3_t5_loop v6).OK := fun i v6 k3_hw1 => k3_hw1.2.2.1
theorem k3_off150_inb : ∀ (i : grid3.Coords) (v6 : BitVec 32) (k3_hw1 : k3_chk1 i v6) (k3_t5 : Fin (k3_t5_loop v6).trips), ∀ a, (k3_off150 i v6 k3_t5) a + S1x2048.size a ≤ S32x323584.size a := fun i v6 k3_hw1 k3_t5 => k3_hw1.2.2.2 k3_t5

@[reducible] def k3_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k3_off151 (k3_t6 : Fin k3_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k3_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k3_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k3_off152 (k3_t6 : Fin k3_t6_loop.trips) (k3_t7 : Fin k3_t7_loop.trips) : Fin 1 → Nat :=
  let c0_i32_24 : BitVec 32 := 0#32
  let c1_i32_25 : BitVec 32 := 1#32
  let arg13 : BitVec 32 := Scf.iv c0_i32_24 c1_i32_25 k3_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k3_t7
  let c16_i32_56 : BitVec 32 := 16#32
  let v106 : BitVec 32 := Scalar.muli arg14 c16_i32_56
  let v107 : BitVec 32 := Scalar.addi v105 v106
  let v108 : Index := Scalar.indexCast v107
  ![v108.toNat]
def k3_off153 (v115 : BitVec 32) (c0_i32_61 : BitVec 32) : Fin 1 → Nat :=
  let v118 : BitVec 32 := Scalar.addi v115 c0_i32_61
  let v119 : Index := Scalar.indexCast v118
  ![v119.toNat]
def k3_cond2 (v6 : BitVec 32) (k3_t5 : Fin (k3_t5_loop v6).trips) (k3_t6 : Fin k3_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k3_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k3_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k3_chk18 (v6 : BitVec 32) (k3_t5 : Fin (k3_t5_loop v6).trips) (k3_t6 : Fin k3_t6_loop.trips) (v115 : BitVec 32) : Prop :=
  (∀ (k3_h2 : k3_cond2 v6 k3_t5 k3_t6 = 1#1), ∀ (r : Fin 8), ∀ a, (k3_off153 v115 (BitVec.ofNat 32 (16 * r.val))) a + S16.size a ≤ S40192.size a)
theorem k3_off153_inb : ∀ (v6 : BitVec 32) (k3_t5 : Fin (k3_t5_loop v6).trips) (k3_t6 : Fin k3_t6_loop.trips) (v115 : BitVec 32) (k3_hw18 : k3_chk18 v6 k3_t5 k3_t6 v115), ∀ (k3_h2 : k3_cond2 v6 k3_t5 k3_t6 = 1#1), ∀ (r : Fin 8), ∀ a, (k3_off153 v115 (BitVec.ofNat 32 (16 * r.val))) a + S16.size a ≤ S40192.size a := fun v6 k3_t5 k3_t6 v115 k3_hw18 k3_h2 r => k3_hw18 k3_h2 r

def k3_off154 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k3_off155 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k3_off156 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k3_off157 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k3_off158 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k3_off159 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k3_off160 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k3_off161 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k3_off162 (v183 : BitVec 32) (c0_i32_79 : BitVec 32) : Fin 1 → Nat :=
  let v186 : BitVec 32 := Scalar.addi v183 c0_i32_79
  let v187 : Index := Scalar.indexCast v186
  ![v187.toNat]

def k3_chk19 (v6 : BitVec 32) (k3_t5 : Fin (k3_t5_loop v6).trips) (k3_t6 : Fin k3_t6_loop.trips) (v183 : BitVec 32) : Prop :=
  (∀ (k3_h2 : k3_cond2 v6 k3_t5 k3_t6 = 1#1), ∀ (r : Fin 8), ∀ a, (k3_off162 v183 (BitVec.ofNat 32 (16 * r.val))) a + S16.size a ≤ S40192.size a)
theorem k3_off162_inb : ∀ (v6 : BitVec 32) (k3_t5 : Fin (k3_t5_loop v6).trips) (k3_t6 : Fin k3_t6_loop.trips) (v183 : BitVec 32) (k3_hw19 : k3_chk19 v6 k3_t5 k3_t6 v183), ∀ (k3_h2 : k3_cond2 v6 k3_t5 k3_t6 = 1#1), ∀ (r : Fin 8), ∀ a, (k3_off162 v183 (BitVec.ofNat 32 (16 * r.val))) a + S16.size a ≤ S40192.size a := fun v6 k3_t5 k3_t6 v183 k3_hw19 k3_h2 r => k3_hw19 k3_h2 r

def k3_off163 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k3_off164 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k3_off165 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k3_off166 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k3_off167 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k3_off168 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k3_off169 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k3_off170 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k3_off171 (v251 : BitVec 32) (c0_i32_97 : BitVec 32) : Fin 1 → Nat :=
  let v254 : BitVec 32 := Scalar.addi v251 c0_i32_97
  let v255 : Index := Scalar.indexCast v254
  ![v255.toNat]

def k3_chk20 (v6 : BitVec 32) (k3_t5 : Fin (k3_t5_loop v6).trips) (k3_t6 : Fin k3_t6_loop.trips) (v251 : BitVec 32) : Prop :=
  (∀ (k3_h2 : k3_cond2 v6 k3_t5 k3_t6 = 1#1), ∀ (r : Fin 8), ∀ a, (k3_off171 v251 (BitVec.ofNat 32 (16 * r.val))) a + S16.size a ≤ S40192.size a)
theorem k3_off171_inb : ∀ (v6 : BitVec 32) (k3_t5 : Fin (k3_t5_loop v6).trips) (k3_t6 : Fin k3_t6_loop.trips) (v251 : BitVec 32) (k3_hw20 : k3_chk20 v6 k3_t5 k3_t6 v251), ∀ (k3_h2 : k3_cond2 v6 k3_t5 k3_t6 = 1#1), ∀ (r : Fin 8), ∀ a, (k3_off171 v251 (BitVec.ofNat 32 (16 * r.val))) a + S16.size a ≤ S40192.size a := fun v6 k3_t5 k3_t6 v251 k3_hw20 k3_h2 r => k3_hw20 k3_h2 r

def k3_off172 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k3_off173 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k3_off174 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k3_off175 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k3_off176 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k3_off177 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k3_off178 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k3_off179 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k3_off180 (v319 : BitVec 32) (c0_i32_114 : BitVec 32) : Fin 1 → Nat :=
  let v322 : BitVec 32 := Scalar.addi v319 c0_i32_114
  let v323 : Index := Scalar.indexCast v322
  ![v323.toNat]

def k3_chk21 (v6 : BitVec 32) (k3_t5 : Fin (k3_t5_loop v6).trips) (k3_t6 : Fin k3_t6_loop.trips) (v319 : BitVec 32) : Prop :=
  (∀ (k3_h2 : k3_cond2 v6 k3_t5 k3_t6 = 1#1), ∀ (r : Fin 8), ∀ a, (k3_off180 v319 (BitVec.ofNat 32 (16 * r.val))) a + S16.size a ≤ S40192.size a)
theorem k3_off180_inb : ∀ (v6 : BitVec 32) (k3_t5 : Fin (k3_t5_loop v6).trips) (k3_t6 : Fin k3_t6_loop.trips) (v319 : BitVec 32) (k3_hw21 : k3_chk21 v6 k3_t5 k3_t6 v319), ∀ (k3_h2 : k3_cond2 v6 k3_t5 k3_t6 = 1#1), ∀ (r : Fin 8), ∀ a, (k3_off180 v319 (BitVec.ofNat 32 (16 * r.val))) a + S16.size a ≤ S40192.size a := fun v6 k3_t5 k3_t6 v319 k3_hw21 k3_h2 r => k3_hw21 k3_h2 r

def k3_off181 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k3_off182 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k3_off183 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k3_off184 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k3_off185 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k3_off186 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k3_off187 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k3_off188 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k3_off189 (v387 : BitVec 32) (c0_i32_131 : BitVec 32) : Fin 1 → Nat :=
  let v390 : BitVec 32 := Scalar.addi v387 c0_i32_131
  let v391 : Index := Scalar.indexCast v390
  ![v391.toNat]

def k3_chk22 (v6 : BitVec 32) (k3_t5 : Fin (k3_t5_loop v6).trips) (k3_t6 : Fin k3_t6_loop.trips) (v387 : BitVec 32) : Prop :=
  (∀ (k3_h2 : k3_cond2 v6 k3_t5 k3_t6 = 1#1), ∀ (r : Fin 8), ∀ a, (k3_off189 v387 (BitVec.ofNat 32 (16 * r.val))) a + S16.size a ≤ S40192.size a)
theorem k3_off189_inb : ∀ (v6 : BitVec 32) (k3_t5 : Fin (k3_t5_loop v6).trips) (k3_t6 : Fin k3_t6_loop.trips) (v387 : BitVec 32) (k3_hw22 : k3_chk22 v6 k3_t5 k3_t6 v387), ∀ (k3_h2 : k3_cond2 v6 k3_t5 k3_t6 = 1#1), ∀ (r : Fin 8), ∀ a, (k3_off189 v387 (BitVec.ofNat 32 (16 * r.val))) a + S16.size a ≤ S40192.size a := fun v6 k3_t5 k3_t6 v387 k3_hw22 k3_h2 r => k3_hw22 k3_h2 r

def k3_off190 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k3_off191 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k3_off192 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k3_off193 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k3_off194 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k3_off195 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k3_off196 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k3_off197 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k3_off198 (v455 : BitVec 32) (c0_i32_148 : BitVec 32) : Fin 1 → Nat :=
  let v458 : BitVec 32 := Scalar.addi v455 c0_i32_148
  let v459 : Index := Scalar.indexCast v458
  ![v459.toNat]

def k3_chk23 (v6 : BitVec 32) (k3_t5 : Fin (k3_t5_loop v6).trips) (k3_t6 : Fin k3_t6_loop.trips) (v455 : BitVec 32) : Prop :=
  (∀ (k3_h2 : k3_cond2 v6 k3_t5 k3_t6 = 1#1), ∀ (r : Fin 8), ∀ a, (k3_off198 v455 (BitVec.ofNat 32 (16 * r.val))) a + S16.size a ≤ S40192.size a)
theorem k3_off198_inb : ∀ (v6 : BitVec 32) (k3_t5 : Fin (k3_t5_loop v6).trips) (k3_t6 : Fin k3_t6_loop.trips) (v455 : BitVec 32) (k3_hw23 : k3_chk23 v6 k3_t5 k3_t6 v455), ∀ (k3_h2 : k3_cond2 v6 k3_t5 k3_t6 = 1#1), ∀ (r : Fin 8), ∀ a, (k3_off198 v455 (BitVec.ofNat 32 (16 * r.val))) a + S16.size a ≤ S40192.size a := fun v6 k3_t5 k3_t6 v455 k3_hw23 k3_h2 r => k3_hw23 k3_h2 r

def k3_off199 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k3_off200 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k3_off201 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k3_off202 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k3_off203 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k3_off204 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k3_off205 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k3_off206 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k3_off207 (v523 : BitVec 32) (c0_i32_165 : BitVec 32) : Fin 1 → Nat :=
  let v526 : BitVec 32 := Scalar.addi v523 c0_i32_165
  let v527 : Index := Scalar.indexCast v526
  ![v527.toNat]

def k3_chk24 (v6 : BitVec 32) (k3_t5 : Fin (k3_t5_loop v6).trips) (k3_t6 : Fin k3_t6_loop.trips) (v523 : BitVec 32) : Prop :=
  (∀ (k3_h2 : k3_cond2 v6 k3_t5 k3_t6 = 1#1), ∀ (r : Fin 8), ∀ a, (k3_off207 v523 (BitVec.ofNat 32 (16 * r.val))) a + S16.size a ≤ S40192.size a)
theorem k3_off207_inb : ∀ (v6 : BitVec 32) (k3_t5 : Fin (k3_t5_loop v6).trips) (k3_t6 : Fin k3_t6_loop.trips) (v523 : BitVec 32) (k3_hw24 : k3_chk24 v6 k3_t5 k3_t6 v523), ∀ (k3_h2 : k3_cond2 v6 k3_t5 k3_t6 = 1#1), ∀ (r : Fin 8), ∀ a, (k3_off207 v523 (BitVec.ofNat 32 (16 * r.val))) a + S16.size a ≤ S40192.size a := fun v6 k3_t5 k3_t6 v523 k3_hw24 k3_h2 r => k3_hw24 k3_h2 r

def k3_off208 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k3_off209 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k3_off210 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k3_off211 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k3_off212 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k3_off213 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k3_off214 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k3_off215 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k3_off216 (v591 : BitVec 32) (c0_i32_182 : BitVec 32) : Fin 1 → Nat :=
  let v594 : BitVec 32 := Scalar.addi v591 c0_i32_182
  let v595 : Index := Scalar.indexCast v594
  ![v595.toNat]

def k3_chk25 (v6 : BitVec 32) (k3_t5 : Fin (k3_t5_loop v6).trips) (k3_t6 : Fin k3_t6_loop.trips) (v591 : BitVec 32) : Prop :=
  (∀ (k3_h2 : k3_cond2 v6 k3_t5 k3_t6 = 1#1), ∀ (r : Fin 8), ∀ a, (k3_off216 v591 (BitVec.ofNat 32 (16 * r.val))) a + S16.size a ≤ S40192.size a)
theorem k3_off216_inb : ∀ (v6 : BitVec 32) (k3_t5 : Fin (k3_t5_loop v6).trips) (k3_t6 : Fin k3_t6_loop.trips) (v591 : BitVec 32) (k3_hw25 : k3_chk25 v6 k3_t5 k3_t6 v591), ∀ (k3_h2 : k3_cond2 v6 k3_t5 k3_t6 = 1#1), ∀ (r : Fin 8), ∀ a, (k3_off216 v591 (BitVec.ofNat 32 (16 * r.val))) a + S16.size a ≤ S40192.size a := fun v6 k3_t5 k3_t6 v591 k3_hw25 k3_h2 r => k3_hw25 k3_h2 r

def k3_off217 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k3_off218 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k3_off219 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k3_off220 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k3_off221 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k3_off222 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k3_off223 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k3_off224 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k3_off225 (v659 : BitVec 32) (c0_i32_200 : BitVec 32) : Fin 1 → Nat :=
  let v662 : BitVec 32 := Scalar.addi v659 c0_i32_200
  let v663 : Index := Scalar.indexCast v662
  ![v663.toNat]

def k3_chk26 (v6 : BitVec 32) (k3_t5 : Fin (k3_t5_loop v6).trips) (k3_t6 : Fin k3_t6_loop.trips) (v659 : BitVec 32) : Prop :=
  (∀ (k3_h2 : k3_cond2 v6 k3_t5 k3_t6 = 1#1), ∀ (r : Fin 8), ∀ a, (k3_off225 v659 (BitVec.ofNat 32 (16 * r.val))) a + S16.size a ≤ S40192.size a)
theorem k3_off225_inb : ∀ (v6 : BitVec 32) (k3_t5 : Fin (k3_t5_loop v6).trips) (k3_t6 : Fin k3_t6_loop.trips) (v659 : BitVec 32) (k3_hw26 : k3_chk26 v6 k3_t5 k3_t6 v659), ∀ (k3_h2 : k3_cond2 v6 k3_t5 k3_t6 = 1#1), ∀ (r : Fin 8), ∀ a, (k3_off225 v659 (BitVec.ofNat 32 (16 * r.val))) a + S16.size a ≤ S40192.size a := fun v6 k3_t5 k3_t6 v659 k3_hw26 k3_h2 r => k3_hw26 k3_h2 r

def k3_off226 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k3_off227 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k3_off228 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k3_off229 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k3_off230 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k3_off231 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k3_off232 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k3_off233 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k3_off234 (v727 : BitVec 32) (c0_i32_217 : BitVec 32) : Fin 1 → Nat :=
  let v730 : BitVec 32 := Scalar.addi v727 c0_i32_217
  let v731 : Index := Scalar.indexCast v730
  ![v731.toNat]

def k3_chk27 (v6 : BitVec 32) (k3_t5 : Fin (k3_t5_loop v6).trips) (k3_t6 : Fin k3_t6_loop.trips) (v727 : BitVec 32) : Prop :=
  (∀ (k3_h2 : k3_cond2 v6 k3_t5 k3_t6 = 1#1), ∀ (r : Fin 8), ∀ a, (k3_off234 v727 (BitVec.ofNat 32 (16 * r.val))) a + S16.size a ≤ S40192.size a)
theorem k3_off234_inb : ∀ (v6 : BitVec 32) (k3_t5 : Fin (k3_t5_loop v6).trips) (k3_t6 : Fin k3_t6_loop.trips) (v727 : BitVec 32) (k3_hw27 : k3_chk27 v6 k3_t5 k3_t6 v727), ∀ (k3_h2 : k3_cond2 v6 k3_t5 k3_t6 = 1#1), ∀ (r : Fin 8), ∀ a, (k3_off234 v727 (BitVec.ofNat 32 (16 * r.val))) a + S16.size a ≤ S40192.size a := fun v6 k3_t5 k3_t6 v727 k3_hw27 k3_h2 r => k3_hw27 k3_h2 r

def k3_off235 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k3_off236 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k3_off237 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k3_off238 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k3_off239 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k3_off240 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k3_off241 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k3_off242 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k3_off243 (v795 : BitVec 32) (c0_i32_234 : BitVec 32) : Fin 1 → Nat :=
  let v798 : BitVec 32 := Scalar.addi v795 c0_i32_234
  let v799 : Index := Scalar.indexCast v798
  ![v799.toNat]

def k3_chk28 (v6 : BitVec 32) (k3_t5 : Fin (k3_t5_loop v6).trips) (k3_t6 : Fin k3_t6_loop.trips) (v795 : BitVec 32) : Prop :=
  (∀ (k3_h2 : k3_cond2 v6 k3_t5 k3_t6 = 1#1), ∀ (r : Fin 8), ∀ a, (k3_off243 v795 (BitVec.ofNat 32 (16 * r.val))) a + S16.size a ≤ S40192.size a)
theorem k3_off243_inb : ∀ (v6 : BitVec 32) (k3_t5 : Fin (k3_t5_loop v6).trips) (k3_t6 : Fin k3_t6_loop.trips) (v795 : BitVec 32) (k3_hw28 : k3_chk28 v6 k3_t5 k3_t6 v795), ∀ (k3_h2 : k3_cond2 v6 k3_t5 k3_t6 = 1#1), ∀ (r : Fin 8), ∀ a, (k3_off243 v795 (BitVec.ofNat 32 (16 * r.val))) a + S16.size a ≤ S40192.size a := fun v6 k3_t5 k3_t6 v795 k3_hw28 k3_h2 r => k3_hw28 k3_h2 r

def k3_off244 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k3_off245 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k3_off246 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k3_off247 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k3_off248 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k3_off249 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k3_off250 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k3_off251 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k3_off252 (v863 : BitVec 32) (c0_i32_251 : BitVec 32) : Fin 1 → Nat :=
  let v866 : BitVec 32 := Scalar.addi v863 c0_i32_251
  let v867 : Index := Scalar.indexCast v866
  ![v867.toNat]

def k3_chk29 (v6 : BitVec 32) (k3_t5 : Fin (k3_t5_loop v6).trips) (k3_t6 : Fin k3_t6_loop.trips) (v863 : BitVec 32) : Prop :=
  (∀ (k3_h2 : k3_cond2 v6 k3_t5 k3_t6 = 1#1), ∀ (r : Fin 8), ∀ a, (k3_off252 v863 (BitVec.ofNat 32 (16 * r.val))) a + S16.size a ≤ S40192.size a)
theorem k3_off252_inb : ∀ (v6 : BitVec 32) (k3_t5 : Fin (k3_t5_loop v6).trips) (k3_t6 : Fin k3_t6_loop.trips) (v863 : BitVec 32) (k3_hw29 : k3_chk29 v6 k3_t5 k3_t6 v863), ∀ (k3_h2 : k3_cond2 v6 k3_t5 k3_t6 = 1#1), ∀ (r : Fin 8), ∀ a, (k3_off252 v863 (BitVec.ofNat 32 (16 * r.val))) a + S16.size a ≤ S40192.size a := fun v6 k3_t5 k3_t6 v863 k3_hw29 k3_h2 r => k3_hw29 k3_h2 r

def k3_off253 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k3_off254 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k3_off255 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k3_off256 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k3_off257 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k3_off258 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k3_off259 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k3_off260 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k3_off261 (v931 : BitVec 32) (c0_i32_268 : BitVec 32) : Fin 1 → Nat :=
  let v934 : BitVec 32 := Scalar.addi v931 c0_i32_268
  let v935 : Index := Scalar.indexCast v934
  ![v935.toNat]

def k3_chk30 (v6 : BitVec 32) (k3_t5 : Fin (k3_t5_loop v6).trips) (k3_t6 : Fin k3_t6_loop.trips) (v931 : BitVec 32) : Prop :=
  (∀ (k3_h2 : k3_cond2 v6 k3_t5 k3_t6 = 1#1), ∀ (r : Fin 8), ∀ a, (k3_off261 v931 (BitVec.ofNat 32 (16 * r.val))) a + S16.size a ≤ S40192.size a)
theorem k3_off261_inb : ∀ (v6 : BitVec 32) (k3_t5 : Fin (k3_t5_loop v6).trips) (k3_t6 : Fin k3_t6_loop.trips) (v931 : BitVec 32) (k3_hw30 : k3_chk30 v6 k3_t5 k3_t6 v931), ∀ (k3_h2 : k3_cond2 v6 k3_t5 k3_t6 = 1#1), ∀ (r : Fin 8), ∀ a, (k3_off261 v931 (BitVec.ofNat 32 (16 * r.val))) a + S16.size a ≤ S40192.size a := fun v6 k3_t5 k3_t6 v931 k3_hw30 k3_h2 r => k3_hw30 k3_h2 r

def k3_off262 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k3_off263 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k3_off264 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k3_off265 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k3_off266 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k3_off267 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k3_off268 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k3_off269 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k3_off270 (v999 : BitVec 32) (c0_i32_285 : BitVec 32) : Fin 1 → Nat :=
  let v1002 : BitVec 32 := Scalar.addi v999 c0_i32_285
  let v1003 : Index := Scalar.indexCast v1002
  ![v1003.toNat]

def k3_chk31 (v6 : BitVec 32) (k3_t5 : Fin (k3_t5_loop v6).trips) (k3_t6 : Fin k3_t6_loop.trips) (v999 : BitVec 32) : Prop :=
  (∀ (k3_h2 : k3_cond2 v6 k3_t5 k3_t6 = 1#1), ∀ (r : Fin 8), ∀ a, (k3_off270 v999 (BitVec.ofNat 32 (16 * r.val))) a + S16.size a ≤ S40192.size a)
theorem k3_off270_inb : ∀ (v6 : BitVec 32) (k3_t5 : Fin (k3_t5_loop v6).trips) (k3_t6 : Fin k3_t6_loop.trips) (v999 : BitVec 32) (k3_hw31 : k3_chk31 v6 k3_t5 k3_t6 v999), ∀ (k3_h2 : k3_cond2 v6 k3_t5 k3_t6 = 1#1), ∀ (r : Fin 8), ∀ a, (k3_off270 v999 (BitVec.ofNat 32 (16 * r.val))) a + S16.size a ≤ S40192.size a := fun v6 k3_t5 k3_t6 v999 k3_hw31 k3_h2 r => k3_hw31 k3_h2 r

def k3_off271 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k3_off272 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k3_off273 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k3_off274 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k3_off275 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k3_off276 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k3_off277 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k3_off278 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k3_off279 (v1067 : BitVec 32) (c0_i32_302 : BitVec 32) : Fin 1 → Nat :=
  let v1070 : BitVec 32 := Scalar.addi v1067 c0_i32_302
  let v1071 : Index := Scalar.indexCast v1070
  ![v1071.toNat]

def k3_chk32 (v6 : BitVec 32) (k3_t5 : Fin (k3_t5_loop v6).trips) (k3_t6 : Fin k3_t6_loop.trips) (v1067 : BitVec 32) : Prop :=
  (∀ (k3_h2 : k3_cond2 v6 k3_t5 k3_t6 = 1#1), ∀ (r : Fin 8), ∀ a, (k3_off279 v1067 (BitVec.ofNat 32 (16 * r.val))) a + S16.size a ≤ S40192.size a)
theorem k3_off279_inb : ∀ (v6 : BitVec 32) (k3_t5 : Fin (k3_t5_loop v6).trips) (k3_t6 : Fin k3_t6_loop.trips) (v1067 : BitVec 32) (k3_hw32 : k3_chk32 v6 k3_t5 k3_t6 v1067), ∀ (k3_h2 : k3_cond2 v6 k3_t5 k3_t6 = 1#1), ∀ (r : Fin 8), ∀ a, (k3_off279 v1067 (BitVec.ofNat 32 (16 * r.val))) a + S16.size a ≤ S40192.size a := fun v6 k3_t5 k3_t6 v1067 k3_hw32 k3_h2 r => k3_hw32 k3_h2 r

def k3_off280 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k3_off281 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k3_off282 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k3_off283 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k3_off284 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k3_off285 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k3_off286 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k3_off287 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k3_off288 (v1135 : BitVec 32) (c0_i32_319 : BitVec 32) : Fin 1 → Nat :=
  let v1138 : BitVec 32 := Scalar.addi v1135 c0_i32_319
  let v1139 : Index := Scalar.indexCast v1138
  ![v1139.toNat]

def k3_chk33 (v6 : BitVec 32) (k3_t5 : Fin (k3_t5_loop v6).trips) (k3_t6 : Fin k3_t6_loop.trips) (v1135 : BitVec 32) : Prop :=
  (∀ (k3_h2 : k3_cond2 v6 k3_t5 k3_t6 = 1#1), ∀ (r : Fin 8), ∀ a, (k3_off288 v1135 (BitVec.ofNat 32 (16 * r.val))) a + S16.size a ≤ S40192.size a)
theorem k3_off288_inb : ∀ (v6 : BitVec 32) (k3_t5 : Fin (k3_t5_loop v6).trips) (k3_t6 : Fin k3_t6_loop.trips) (v1135 : BitVec 32) (k3_hw33 : k3_chk33 v6 k3_t5 k3_t6 v1135), ∀ (k3_h2 : k3_cond2 v6 k3_t5 k3_t6 = 1#1), ∀ (r : Fin 8), ∀ a, (k3_off288 v1135 (BitVec.ofNat 32 (16 * r.val))) a + S16.size a ≤ S40192.size a := fun v6 k3_t5 k3_t6 v1135 k3_hw33 k3_h2 r => k3_hw33 k3_h2 r

def k3_off289 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k3_off290 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k3_off291 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k3_off292 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k3_off293 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k3_off294 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k3_off295 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k3_off296 (k3_t7 : Fin k3_t7_loop.trips) : Fin 2 → Nat :=
  let c0_i32_52 : BitVec 32 := 0#32
  let c1_i32_53 : BitVec 32 := 1#32
  let arg14 : BitVec 32 := Scf.iv c0_i32_52 c1_i32_53 k3_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k3_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k3_off297 (k3_t8 : Fin k3_t8_loop.trips) : Fin 1 → Nat :=
  let c0_i32_16 : BitVec 32 := 0#32
  let c1_i32_17 : BitVec 32 := 1#32
  let arg12 : BitVec 32 := Scf.iv c0_i32_16 c1_i32_17 k3_t8
  let c16_i32 : BitVec 32 := 16#32
  let v38 : BitVec 32 := Scalar.muli arg12 c16_i32
  let v39 : Index := Scalar.indexCast v38
  ![v39.toNat]
def k3_cond3 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k3_off298 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid4 : Pipeline.Grid := ⟨2, ![2, 16], ![false, false]⟩

@[reducible] def k4_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k4_off1 (k4_t1 : Fin k4_t1_loop.trips) : Fin 1 → Nat :=
  let c0_i32_0 : BitVec 32 := 0#32
  let c1_i32 : BitVec 32 := 1#32
  let arg12 : BitVec 32 := Scf.iv c0_i32_0 c1_i32 k4_t1
  let c16_i32 : BitVec 32 := 16#32
  let v38 : BitVec 32 := Scalar.muli arg12 c16_i32
  let v39 : Index := Scalar.indexCast v38
  ![v39.toNat]
def k4_off2 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k4_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k4_off3 (i : grid4.Coords) (v6 : BitVec 32) (k4_t2 : Fin (k4_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k4_t2
  let c2048_i32_22 : BitVec 32 := 2048#32
  let v38 : BitVec 32 := Scalar.muli arg12 c2048_i32_22
  ![v1.toNat, v38.toNat]
@[reducible] def k4_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k4_off4 (k4_t3 : Fin k4_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k4_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k4_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k4_off5 (k4_t3 : Fin k4_t3_loop.trips) (k4_t4 : Fin k4_t4_loop.trips) : Fin 1 → Nat :=
  let c0_i32_24 : BitVec 32 := 0#32
  let c1_i32_25 : BitVec 32 := 1#32
  let arg13 : BitVec 32 := Scf.iv c0_i32_24 c1_i32_25 k4_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k4_t4
  let c16_i32_56 : BitVec 32 := 16#32
  let v106 : BitVec 32 := Scalar.muli arg14 c16_i32_56
  let v107 : BitVec 32 := Scalar.addi v105 v106
  let v108 : Index := Scalar.indexCast v107
  ![v108.toNat]
def k4_off6 (v115 : BitVec 32) (c0_i32_61 : BitVec 32) : Fin 1 → Nat :=
  let v118 : BitVec 32 := Scalar.addi v115 c0_i32_61
  let v119 : Index := Scalar.indexCast v118
  ![v119.toNat]
def k4_cond1 (v6 : BitVec 32) (k4_t2 : Fin (k4_t2_loop v6).trips) (k4_t3 : Fin k4_t3_loop.trips) : BitVec 1 :=
  let c0_i32_11 : BitVec 32 := 0#32
  let c1_i32_13 : BitVec 32 := 1#32
  let arg12 : BitVec 32 := Scf.iv c0_i32_11 c1_i32_13 k4_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k4_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k4_chk2 (v6 : BitVec 32) (k4_t2 : Fin (k4_t2_loop v6).trips) (k4_t3 : Fin k4_t3_loop.trips) (v115 : BitVec 32) : Prop :=
  (∀ (k4_h1 : k4_cond1 v6 k4_t2 k4_t3 = 1#1), ∀ (r : Fin 8), ∀ a, (k4_off6 v115 (BitVec.ofNat 32 (16 * r.val))) a + S16.size a ≤ S40192.size a)
theorem k4_off6_inb : ∀ (v6 : BitVec 32) (k4_t2 : Fin (k4_t2_loop v6).trips) (k4_t3 : Fin k4_t3_loop.trips) (v115 : BitVec 32) (k4_hw2 : k4_chk2 v6 k4_t2 k4_t3 v115), ∀ (k4_h1 : k4_cond1 v6 k4_t2 k4_t3 = 1#1), ∀ (r : Fin 8), ∀ a, (k4_off6 v115 (BitVec.ofNat 32 (16 * r.val))) a + S16.size a ≤ S40192.size a := fun v6 k4_t2 k4_t3 v115 k4_hw2 k4_h1 r => k4_hw2 k4_h1 r

def k4_off7 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k4_off8 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k4_off9 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k4_off10 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k4_off11 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k4_off12 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k4_off13 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k4_off14 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k4_off15 (v183 : BitVec 32) (c0_i32_79 : BitVec 32) : Fin 1 → Nat :=
  let v186 : BitVec 32 := Scalar.addi v183 c0_i32_79
  let v187 : Index := Scalar.indexCast v186
  ![v187.toNat]

def k4_chk3 (v6 : BitVec 32) (k4_t2 : Fin (k4_t2_loop v6).trips) (k4_t3 : Fin k4_t3_loop.trips) (v183 : BitVec 32) : Prop :=
  (∀ (k4_h1 : k4_cond1 v6 k4_t2 k4_t3 = 1#1), ∀ (r : Fin 8), ∀ a, (k4_off15 v183 (BitVec.ofNat 32 (16 * r.val))) a + S16.size a ≤ S40192.size a)
theorem k4_off15_inb : ∀ (v6 : BitVec 32) (k4_t2 : Fin (k4_t2_loop v6).trips) (k4_t3 : Fin k4_t3_loop.trips) (v183 : BitVec 32) (k4_hw3 : k4_chk3 v6 k4_t2 k4_t3 v183), ∀ (k4_h1 : k4_cond1 v6 k4_t2 k4_t3 = 1#1), ∀ (r : Fin 8), ∀ a, (k4_off15 v183 (BitVec.ofNat 32 (16 * r.val))) a + S16.size a ≤ S40192.size a := fun v6 k4_t2 k4_t3 v183 k4_hw3 k4_h1 r => k4_hw3 k4_h1 r

def k4_off16 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k4_off17 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k4_off18 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k4_off19 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k4_off20 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k4_off21 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k4_off22 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k4_off23 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k4_off24 (v251 : BitVec 32) (c0_i32_97 : BitVec 32) : Fin 1 → Nat :=
  let v254 : BitVec 32 := Scalar.addi v251 c0_i32_97
  let v255 : Index := Scalar.indexCast v254
  ![v255.toNat]

def k4_chk4 (v6 : BitVec 32) (k4_t2 : Fin (k4_t2_loop v6).trips) (k4_t3 : Fin k4_t3_loop.trips) (v251 : BitVec 32) : Prop :=
  (∀ (k4_h1 : k4_cond1 v6 k4_t2 k4_t3 = 1#1), ∀ (r : Fin 8), ∀ a, (k4_off24 v251 (BitVec.ofNat 32 (16 * r.val))) a + S16.size a ≤ S40192.size a)
theorem k4_off24_inb : ∀ (v6 : BitVec 32) (k4_t2 : Fin (k4_t2_loop v6).trips) (k4_t3 : Fin k4_t3_loop.trips) (v251 : BitVec 32) (k4_hw4 : k4_chk4 v6 k4_t2 k4_t3 v251), ∀ (k4_h1 : k4_cond1 v6 k4_t2 k4_t3 = 1#1), ∀ (r : Fin 8), ∀ a, (k4_off24 v251 (BitVec.ofNat 32 (16 * r.val))) a + S16.size a ≤ S40192.size a := fun v6 k4_t2 k4_t3 v251 k4_hw4 k4_h1 r => k4_hw4 k4_h1 r

def k4_off25 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k4_off26 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k4_off27 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k4_off28 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k4_off29 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k4_off30 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k4_off31 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k4_off32 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k4_off33 (v319 : BitVec 32) (c0_i32_114 : BitVec 32) : Fin 1 → Nat :=
  let v322 : BitVec 32 := Scalar.addi v319 c0_i32_114
  let v323 : Index := Scalar.indexCast v322
  ![v323.toNat]

def k4_chk5 (v6 : BitVec 32) (k4_t2 : Fin (k4_t2_loop v6).trips) (k4_t3 : Fin k4_t3_loop.trips) (v319 : BitVec 32) : Prop :=
  (∀ (k4_h1 : k4_cond1 v6 k4_t2 k4_t3 = 1#1), ∀ (r : Fin 8), ∀ a, (k4_off33 v319 (BitVec.ofNat 32 (16 * r.val))) a + S16.size a ≤ S40192.size a)
theorem k4_off33_inb : ∀ (v6 : BitVec 32) (k4_t2 : Fin (k4_t2_loop v6).trips) (k4_t3 : Fin k4_t3_loop.trips) (v319 : BitVec 32) (k4_hw5 : k4_chk5 v6 k4_t2 k4_t3 v319), ∀ (k4_h1 : k4_cond1 v6 k4_t2 k4_t3 = 1#1), ∀ (r : Fin 8), ∀ a, (k4_off33 v319 (BitVec.ofNat 32 (16 * r.val))) a + S16.size a ≤ S40192.size a := fun v6 k4_t2 k4_t3 v319 k4_hw5 k4_h1 r => k4_hw5 k4_h1 r

def k4_off34 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k4_off35 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k4_off36 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k4_off37 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k4_off38 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k4_off39 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k4_off40 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k4_off41 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k4_off42 (v387 : BitVec 32) (c0_i32_131 : BitVec 32) : Fin 1 → Nat :=
  let v390 : BitVec 32 := Scalar.addi v387 c0_i32_131
  let v391 : Index := Scalar.indexCast v390
  ![v391.toNat]

def k4_chk6 (v6 : BitVec 32) (k4_t2 : Fin (k4_t2_loop v6).trips) (k4_t3 : Fin k4_t3_loop.trips) (v387 : BitVec 32) : Prop :=
  (∀ (k4_h1 : k4_cond1 v6 k4_t2 k4_t3 = 1#1), ∀ (r : Fin 8), ∀ a, (k4_off42 v387 (BitVec.ofNat 32 (16 * r.val))) a + S16.size a ≤ S40192.size a)
theorem k4_off42_inb : ∀ (v6 : BitVec 32) (k4_t2 : Fin (k4_t2_loop v6).trips) (k4_t3 : Fin k4_t3_loop.trips) (v387 : BitVec 32) (k4_hw6 : k4_chk6 v6 k4_t2 k4_t3 v387), ∀ (k4_h1 : k4_cond1 v6 k4_t2 k4_t3 = 1#1), ∀ (r : Fin 8), ∀ a, (k4_off42 v387 (BitVec.ofNat 32 (16 * r.val))) a + S16.size a ≤ S40192.size a := fun v6 k4_t2 k4_t3 v387 k4_hw6 k4_h1 r => k4_hw6 k4_h1 r

def k4_off43 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k4_off44 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k4_off45 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k4_off46 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k4_off47 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k4_off48 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k4_off49 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k4_off50 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k4_off51 (v455 : BitVec 32) (c0_i32_148 : BitVec 32) : Fin 1 → Nat :=
  let v458 : BitVec 32 := Scalar.addi v455 c0_i32_148
  let v459 : Index := Scalar.indexCast v458
  ![v459.toNat]

def k4_chk7 (v6 : BitVec 32) (k4_t2 : Fin (k4_t2_loop v6).trips) (k4_t3 : Fin k4_t3_loop.trips) (v455 : BitVec 32) : Prop :=
  (∀ (k4_h1 : k4_cond1 v6 k4_t2 k4_t3 = 1#1), ∀ (r : Fin 8), ∀ a, (k4_off51 v455 (BitVec.ofNat 32 (16 * r.val))) a + S16.size a ≤ S40192.size a)
theorem k4_off51_inb : ∀ (v6 : BitVec 32) (k4_t2 : Fin (k4_t2_loop v6).trips) (k4_t3 : Fin k4_t3_loop.trips) (v455 : BitVec 32) (k4_hw7 : k4_chk7 v6 k4_t2 k4_t3 v455), ∀ (k4_h1 : k4_cond1 v6 k4_t2 k4_t3 = 1#1), ∀ (r : Fin 8), ∀ a, (k4_off51 v455 (BitVec.ofNat 32 (16 * r.val))) a + S16.size a ≤ S40192.size a := fun v6 k4_t2 k4_t3 v455 k4_hw7 k4_h1 r => k4_hw7 k4_h1 r

def k4_off52 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k4_off53 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k4_off54 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k4_off55 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k4_off56 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k4_off57 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k4_off58 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k4_off59 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k4_off60 (v523 : BitVec 32) (c0_i32_165 : BitVec 32) : Fin 1 → Nat :=
  let v526 : BitVec 32 := Scalar.addi v523 c0_i32_165
  let v527 : Index := Scalar.indexCast v526
  ![v527.toNat]

def k4_chk8 (v6 : BitVec 32) (k4_t2 : Fin (k4_t2_loop v6).trips) (k4_t3 : Fin k4_t3_loop.trips) (v523 : BitVec 32) : Prop :=
  (∀ (k4_h1 : k4_cond1 v6 k4_t2 k4_t3 = 1#1), ∀ (r : Fin 8), ∀ a, (k4_off60 v523 (BitVec.ofNat 32 (16 * r.val))) a + S16.size a ≤ S40192.size a)
theorem k4_off60_inb : ∀ (v6 : BitVec 32) (k4_t2 : Fin (k4_t2_loop v6).trips) (k4_t3 : Fin k4_t3_loop.trips) (v523 : BitVec 32) (k4_hw8 : k4_chk8 v6 k4_t2 k4_t3 v523), ∀ (k4_h1 : k4_cond1 v6 k4_t2 k4_t3 = 1#1), ∀ (r : Fin 8), ∀ a, (k4_off60 v523 (BitVec.ofNat 32 (16 * r.val))) a + S16.size a ≤ S40192.size a := fun v6 k4_t2 k4_t3 v523 k4_hw8 k4_h1 r => k4_hw8 k4_h1 r

def k4_off61 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k4_off62 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k4_off63 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k4_off64 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k4_off65 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k4_off66 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k4_off67 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k4_off68 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k4_off69 (v591 : BitVec 32) (c0_i32_182 : BitVec 32) : Fin 1 → Nat :=
  let v594 : BitVec 32 := Scalar.addi v591 c0_i32_182
  let v595 : Index := Scalar.indexCast v594
  ![v595.toNat]

def k4_chk9 (v6 : BitVec 32) (k4_t2 : Fin (k4_t2_loop v6).trips) (k4_t3 : Fin k4_t3_loop.trips) (v591 : BitVec 32) : Prop :=
  (∀ (k4_h1 : k4_cond1 v6 k4_t2 k4_t3 = 1#1), ∀ (r : Fin 8), ∀ a, (k4_off69 v591 (BitVec.ofNat 32 (16 * r.val))) a + S16.size a ≤ S40192.size a)
theorem k4_off69_inb : ∀ (v6 : BitVec 32) (k4_t2 : Fin (k4_t2_loop v6).trips) (k4_t3 : Fin k4_t3_loop.trips) (v591 : BitVec 32) (k4_hw9 : k4_chk9 v6 k4_t2 k4_t3 v591), ∀ (k4_h1 : k4_cond1 v6 k4_t2 k4_t3 = 1#1), ∀ (r : Fin 8), ∀ a, (k4_off69 v591 (BitVec.ofNat 32 (16 * r.val))) a + S16.size a ≤ S40192.size a := fun v6 k4_t2 k4_t3 v591 k4_hw9 k4_h1 r => k4_hw9 k4_h1 r

def k4_off70 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k4_off71 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k4_off72 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k4_off73 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k4_off74 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k4_off75 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k4_off76 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k4_off77 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k4_off78 (v659 : BitVec 32) (c0_i32_200 : BitVec 32) : Fin 1 → Nat :=
  let v662 : BitVec 32 := Scalar.addi v659 c0_i32_200
  let v663 : Index := Scalar.indexCast v662
  ![v663.toNat]

def k4_chk10 (v6 : BitVec 32) (k4_t2 : Fin (k4_t2_loop v6).trips) (k4_t3 : Fin k4_t3_loop.trips) (v659 : BitVec 32) : Prop :=
  (∀ (k4_h1 : k4_cond1 v6 k4_t2 k4_t3 = 1#1), ∀ (r : Fin 8), ∀ a, (k4_off78 v659 (BitVec.ofNat 32 (16 * r.val))) a + S16.size a ≤ S40192.size a)
theorem k4_off78_inb : ∀ (v6 : BitVec 32) (k4_t2 : Fin (k4_t2_loop v6).trips) (k4_t3 : Fin k4_t3_loop.trips) (v659 : BitVec 32) (k4_hw10 : k4_chk10 v6 k4_t2 k4_t3 v659), ∀ (k4_h1 : k4_cond1 v6 k4_t2 k4_t3 = 1#1), ∀ (r : Fin 8), ∀ a, (k4_off78 v659 (BitVec.ofNat 32 (16 * r.val))) a + S16.size a ≤ S40192.size a := fun v6 k4_t2 k4_t3 v659 k4_hw10 k4_h1 r => k4_hw10 k4_h1 r

def k4_off79 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k4_off80 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k4_off81 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k4_off82 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k4_off83 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k4_off84 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k4_off85 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k4_off86 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k4_off87 (v727 : BitVec 32) (c0_i32_217 : BitVec 32) : Fin 1 → Nat :=
  let v730 : BitVec 32 := Scalar.addi v727 c0_i32_217
  let v731 : Index := Scalar.indexCast v730
  ![v731.toNat]

def k4_chk11 (v6 : BitVec 32) (k4_t2 : Fin (k4_t2_loop v6).trips) (k4_t3 : Fin k4_t3_loop.trips) (v727 : BitVec 32) : Prop :=
  (∀ (k4_h1 : k4_cond1 v6 k4_t2 k4_t3 = 1#1), ∀ (r : Fin 8), ∀ a, (k4_off87 v727 (BitVec.ofNat 32 (16 * r.val))) a + S16.size a ≤ S40192.size a)
theorem k4_off87_inb : ∀ (v6 : BitVec 32) (k4_t2 : Fin (k4_t2_loop v6).trips) (k4_t3 : Fin k4_t3_loop.trips) (v727 : BitVec 32) (k4_hw11 : k4_chk11 v6 k4_t2 k4_t3 v727), ∀ (k4_h1 : k4_cond1 v6 k4_t2 k4_t3 = 1#1), ∀ (r : Fin 8), ∀ a, (k4_off87 v727 (BitVec.ofNat 32 (16 * r.val))) a + S16.size a ≤ S40192.size a := fun v6 k4_t2 k4_t3 v727 k4_hw11 k4_h1 r => k4_hw11 k4_h1 r

def k4_off88 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k4_off89 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k4_off90 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k4_off91 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k4_off92 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k4_off93 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k4_off94 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k4_off95 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k4_off96 (v795 : BitVec 32) (c0_i32_234 : BitVec 32) : Fin 1 → Nat :=
  let v798 : BitVec 32 := Scalar.addi v795 c0_i32_234
  let v799 : Index := Scalar.indexCast v798
  ![v799.toNat]

def k4_chk12 (v6 : BitVec 32) (k4_t2 : Fin (k4_t2_loop v6).trips) (k4_t3 : Fin k4_t3_loop.trips) (v795 : BitVec 32) : Prop :=
  (∀ (k4_h1 : k4_cond1 v6 k4_t2 k4_t3 = 1#1), ∀ (r : Fin 8), ∀ a, (k4_off96 v795 (BitVec.ofNat 32 (16 * r.val))) a + S16.size a ≤ S40192.size a)
theorem k4_off96_inb : ∀ (v6 : BitVec 32) (k4_t2 : Fin (k4_t2_loop v6).trips) (k4_t3 : Fin k4_t3_loop.trips) (v795 : BitVec 32) (k4_hw12 : k4_chk12 v6 k4_t2 k4_t3 v795), ∀ (k4_h1 : k4_cond1 v6 k4_t2 k4_t3 = 1#1), ∀ (r : Fin 8), ∀ a, (k4_off96 v795 (BitVec.ofNat 32 (16 * r.val))) a + S16.size a ≤ S40192.size a := fun v6 k4_t2 k4_t3 v795 k4_hw12 k4_h1 r => k4_hw12 k4_h1 r

def k4_off97 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k4_off98 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k4_off99 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k4_off100 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k4_off101 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k4_off102 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k4_off103 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k4_off104 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k4_off105 (v863 : BitVec 32) (c0_i32_251 : BitVec 32) : Fin 1 → Nat :=
  let v866 : BitVec 32 := Scalar.addi v863 c0_i32_251
  let v867 : Index := Scalar.indexCast v866
  ![v867.toNat]

def k4_chk13 (v6 : BitVec 32) (k4_t2 : Fin (k4_t2_loop v6).trips) (k4_t3 : Fin k4_t3_loop.trips) (v863 : BitVec 32) : Prop :=
  (∀ (k4_h1 : k4_cond1 v6 k4_t2 k4_t3 = 1#1), ∀ (r : Fin 8), ∀ a, (k4_off105 v863 (BitVec.ofNat 32 (16 * r.val))) a + S16.size a ≤ S40192.size a)
theorem k4_off105_inb : ∀ (v6 : BitVec 32) (k4_t2 : Fin (k4_t2_loop v6).trips) (k4_t3 : Fin k4_t3_loop.trips) (v863 : BitVec 32) (k4_hw13 : k4_chk13 v6 k4_t2 k4_t3 v863), ∀ (k4_h1 : k4_cond1 v6 k4_t2 k4_t3 = 1#1), ∀ (r : Fin 8), ∀ a, (k4_off105 v863 (BitVec.ofNat 32 (16 * r.val))) a + S16.size a ≤ S40192.size a := fun v6 k4_t2 k4_t3 v863 k4_hw13 k4_h1 r => k4_hw13 k4_h1 r

def k4_off106 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k4_off107 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k4_off108 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k4_off109 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k4_off110 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k4_off111 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k4_off112 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k4_off113 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k4_off114 (v931 : BitVec 32) (c0_i32_268 : BitVec 32) : Fin 1 → Nat :=
  let v934 : BitVec 32 := Scalar.addi v931 c0_i32_268
  let v935 : Index := Scalar.indexCast v934
  ![v935.toNat]

def k4_chk14 (v6 : BitVec 32) (k4_t2 : Fin (k4_t2_loop v6).trips) (k4_t3 : Fin k4_t3_loop.trips) (v931 : BitVec 32) : Prop :=
  (∀ (k4_h1 : k4_cond1 v6 k4_t2 k4_t3 = 1#1), ∀ (r : Fin 8), ∀ a, (k4_off114 v931 (BitVec.ofNat 32 (16 * r.val))) a + S16.size a ≤ S40192.size a)
theorem k4_off114_inb : ∀ (v6 : BitVec 32) (k4_t2 : Fin (k4_t2_loop v6).trips) (k4_t3 : Fin k4_t3_loop.trips) (v931 : BitVec 32) (k4_hw14 : k4_chk14 v6 k4_t2 k4_t3 v931), ∀ (k4_h1 : k4_cond1 v6 k4_t2 k4_t3 = 1#1), ∀ (r : Fin 8), ∀ a, (k4_off114 v931 (BitVec.ofNat 32 (16 * r.val))) a + S16.size a ≤ S40192.size a := fun v6 k4_t2 k4_t3 v931 k4_hw14 k4_h1 r => k4_hw14 k4_h1 r

def k4_off115 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k4_off116 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k4_off117 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k4_off118 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k4_off119 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k4_off120 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k4_off121 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k4_off122 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k4_off123 (v999 : BitVec 32) (c0_i32_285 : BitVec 32) : Fin 1 → Nat :=
  let v1002 : BitVec 32 := Scalar.addi v999 c0_i32_285
  let v1003 : Index := Scalar.indexCast v1002
  ![v1003.toNat]

def k4_chk15 (v6 : BitVec 32) (k4_t2 : Fin (k4_t2_loop v6).trips) (k4_t3 : Fin k4_t3_loop.trips) (v999 : BitVec 32) : Prop :=
  (∀ (k4_h1 : k4_cond1 v6 k4_t2 k4_t3 = 1#1), ∀ (r : Fin 8), ∀ a, (k4_off123 v999 (BitVec.ofNat 32 (16 * r.val))) a + S16.size a ≤ S40192.size a)
theorem k4_off123_inb : ∀ (v6 : BitVec 32) (k4_t2 : Fin (k4_t2_loop v6).trips) (k4_t3 : Fin k4_t3_loop.trips) (v999 : BitVec 32) (k4_hw15 : k4_chk15 v6 k4_t2 k4_t3 v999), ∀ (k4_h1 : k4_cond1 v6 k4_t2 k4_t3 = 1#1), ∀ (r : Fin 8), ∀ a, (k4_off123 v999 (BitVec.ofNat 32 (16 * r.val))) a + S16.size a ≤ S40192.size a := fun v6 k4_t2 k4_t3 v999 k4_hw15 k4_h1 r => k4_hw15 k4_h1 r

def k4_off124 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k4_off125 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k4_off126 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k4_off127 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k4_off128 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k4_off129 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k4_off130 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k4_off131 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k4_off132 (v1067 : BitVec 32) (c0_i32_302 : BitVec 32) : Fin 1 → Nat :=
  let v1070 : BitVec 32 := Scalar.addi v1067 c0_i32_302
  let v1071 : Index := Scalar.indexCast v1070
  ![v1071.toNat]

def k4_chk16 (v6 : BitVec 32) (k4_t2 : Fin (k4_t2_loop v6).trips) (k4_t3 : Fin k4_t3_loop.trips) (v1067 : BitVec 32) : Prop :=
  (∀ (k4_h1 : k4_cond1 v6 k4_t2 k4_t3 = 1#1), ∀ (r : Fin 8), ∀ a, (k4_off132 v1067 (BitVec.ofNat 32 (16 * r.val))) a + S16.size a ≤ S40192.size a)
theorem k4_off132_inb : ∀ (v6 : BitVec 32) (k4_t2 : Fin (k4_t2_loop v6).trips) (k4_t3 : Fin k4_t3_loop.trips) (v1067 : BitVec 32) (k4_hw16 : k4_chk16 v6 k4_t2 k4_t3 v1067), ∀ (k4_h1 : k4_cond1 v6 k4_t2 k4_t3 = 1#1), ∀ (r : Fin 8), ∀ a, (k4_off132 v1067 (BitVec.ofNat 32 (16 * r.val))) a + S16.size a ≤ S40192.size a := fun v6 k4_t2 k4_t3 v1067 k4_hw16 k4_h1 r => k4_hw16 k4_h1 r

def k4_off133 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k4_off134 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k4_off135 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k4_off136 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k4_off137 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k4_off138 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k4_off139 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k4_off140 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k4_off141 (v1135 : BitVec 32) (c0_i32_319 : BitVec 32) : Fin 1 → Nat :=
  let v1138 : BitVec 32 := Scalar.addi v1135 c0_i32_319
  let v1139 : Index := Scalar.indexCast v1138
  ![v1139.toNat]

def k4_chk17 (v6 : BitVec 32) (k4_t2 : Fin (k4_t2_loop v6).trips) (k4_t3 : Fin k4_t3_loop.trips) (v1135 : BitVec 32) : Prop :=
  (∀ (k4_h1 : k4_cond1 v6 k4_t2 k4_t3 = 1#1), ∀ (r : Fin 8), ∀ a, (k4_off141 v1135 (BitVec.ofNat 32 (16 * r.val))) a + S16.size a ≤ S40192.size a)
theorem k4_off141_inb : ∀ (v6 : BitVec 32) (k4_t2 : Fin (k4_t2_loop v6).trips) (k4_t3 : Fin k4_t3_loop.trips) (v1135 : BitVec 32) (k4_hw17 : k4_chk17 v6 k4_t2 k4_t3 v1135), ∀ (k4_h1 : k4_cond1 v6 k4_t2 k4_t3 = 1#1), ∀ (r : Fin 8), ∀ a, (k4_off141 v1135 (BitVec.ofNat 32 (16 * r.val))) a + S16.size a ≤ S40192.size a := fun v6 k4_t2 k4_t3 v1135 k4_hw17 k4_h1 r => k4_hw17 k4_h1 r

def k4_off142 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k4_off143 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k4_off144 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k4_off145 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k4_off146 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k4_off147 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k4_off148 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k4_off149 (k4_t4 : Fin k4_t4_loop.trips) : Fin 2 → Nat :=
  let c0_i32_52 : BitVec 32 := 0#32
  let c1_i32_53 : BitVec 32 := 1#32
  let arg14 : BitVec 32 := Scf.iv c0_i32_52 c1_i32_53 k4_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k4_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k4_off150 (i : grid4.Coords) (v6 : BitVec 32) (k4_t5 : Fin (k4_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k4_t5
  let c2048_i32_22 : BitVec 32 := 2048#32
  let v38 : BitVec 32 := Scalar.muli arg12 c2048_i32_22
  ![v1.toNat, v38.toNat]

def k4_chk1 (i : grid4.Coords) (v6 : BitVec 32) : Prop :=
  ((k4_t2_loop v6).OK) ∧
  (∀ k4_t2 : Fin (k4_t2_loop v6).trips, ∀ a, (k4_off3 i v6 k4_t2) a + S1x2048.size a ≤ S32x323584.size a) ∧
  ((k4_t5_loop v6).OK) ∧
  (∀ k4_t5 : Fin (k4_t5_loop v6).trips, ∀ a, (k4_off150 i v6 k4_t5) a + S1x2048.size a ≤ S32x323584.size a)
theorem k4_t2_ok : ∀ (i : grid4.Coords) (v6 : BitVec 32) (k4_hw1 : k4_chk1 i v6), (k4_t2_loop v6).OK := fun i v6 k4_hw1 => k4_hw1.1
theorem k4_off3_inb : ∀ (i : grid4.Coords) (v6 : BitVec 32) (k4_hw1 : k4_chk1 i v6) (k4_t2 : Fin (k4_t2_loop v6).trips), ∀ a, (k4_off3 i v6 k4_t2) a + S1x2048.size a ≤ S32x323584.size a := fun i v6 k4_hw1 k4_t2 => k4_hw1.2.1 k4_t2
theorem k4_t5_ok : ∀ (i : grid4.Coords) (v6 : BitVec 32) (k4_hw1 : k4_chk1 i v6), (k4_t5_loop v6).OK := fun i v6 k4_hw1 => k4_hw1.2.2.1
theorem k4_off150_inb : ∀ (i : grid4.Coords) (v6 : BitVec 32) (k4_hw1 : k4_chk1 i v6) (k4_t5 : Fin (k4_t5_loop v6).trips), ∀ a, (k4_off150 i v6 k4_t5) a + S1x2048.size a ≤ S32x323584.size a := fun i v6 k4_hw1 k4_t5 => k4_hw1.2.2.2 k4_t5

@[reducible] def k4_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k4_off151 (k4_t6 : Fin k4_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k4_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k4_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k4_off152 (k4_t6 : Fin k4_t6_loop.trips) (k4_t7 : Fin k4_t7_loop.trips) : Fin 1 → Nat :=
  let c0_i32_24 : BitVec 32 := 0#32
  let c1_i32_25 : BitVec 32 := 1#32
  let arg13 : BitVec 32 := Scf.iv c0_i32_24 c1_i32_25 k4_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k4_t7
  let c16_i32_56 : BitVec 32 := 16#32
  let v106 : BitVec 32 := Scalar.muli arg14 c16_i32_56
  let v107 : BitVec 32 := Scalar.addi v105 v106
  let v108 : Index := Scalar.indexCast v107
  ![v108.toNat]
def k4_off153 (v115 : BitVec 32) (c0_i32_61 : BitVec 32) : Fin 1 → Nat :=
  let v118 : BitVec 32 := Scalar.addi v115 c0_i32_61
  let v119 : Index := Scalar.indexCast v118
  ![v119.toNat]
def k4_cond2 (v6 : BitVec 32) (k4_t5 : Fin (k4_t5_loop v6).trips) (k4_t6 : Fin k4_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k4_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k4_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k4_chk18 (v6 : BitVec 32) (k4_t5 : Fin (k4_t5_loop v6).trips) (k4_t6 : Fin k4_t6_loop.trips) (v115 : BitVec 32) : Prop :=
  (∀ (k4_h2 : k4_cond2 v6 k4_t5 k4_t6 = 1#1), ∀ (r : Fin 8), ∀ a, (k4_off153 v115 (BitVec.ofNat 32 (16 * r.val))) a + S16.size a ≤ S40192.size a)
theorem k4_off153_inb : ∀ (v6 : BitVec 32) (k4_t5 : Fin (k4_t5_loop v6).trips) (k4_t6 : Fin k4_t6_loop.trips) (v115 : BitVec 32) (k4_hw18 : k4_chk18 v6 k4_t5 k4_t6 v115), ∀ (k4_h2 : k4_cond2 v6 k4_t5 k4_t6 = 1#1), ∀ (r : Fin 8), ∀ a, (k4_off153 v115 (BitVec.ofNat 32 (16 * r.val))) a + S16.size a ≤ S40192.size a := fun v6 k4_t5 k4_t6 v115 k4_hw18 k4_h2 r => k4_hw18 k4_h2 r

def k4_off154 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k4_off155 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k4_off156 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k4_off157 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k4_off158 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k4_off159 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k4_off160 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k4_off161 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k4_off162 (v183 : BitVec 32) (c0_i32_79 : BitVec 32) : Fin 1 → Nat :=
  let v186 : BitVec 32 := Scalar.addi v183 c0_i32_79
  let v187 : Index := Scalar.indexCast v186
  ![v187.toNat]

def k4_chk19 (v6 : BitVec 32) (k4_t5 : Fin (k4_t5_loop v6).trips) (k4_t6 : Fin k4_t6_loop.trips) (v183 : BitVec 32) : Prop :=
  (∀ (k4_h2 : k4_cond2 v6 k4_t5 k4_t6 = 1#1), ∀ (r : Fin 8), ∀ a, (k4_off162 v183 (BitVec.ofNat 32 (16 * r.val))) a + S16.size a ≤ S40192.size a)
theorem k4_off162_inb : ∀ (v6 : BitVec 32) (k4_t5 : Fin (k4_t5_loop v6).trips) (k4_t6 : Fin k4_t6_loop.trips) (v183 : BitVec 32) (k4_hw19 : k4_chk19 v6 k4_t5 k4_t6 v183), ∀ (k4_h2 : k4_cond2 v6 k4_t5 k4_t6 = 1#1), ∀ (r : Fin 8), ∀ a, (k4_off162 v183 (BitVec.ofNat 32 (16 * r.val))) a + S16.size a ≤ S40192.size a := fun v6 k4_t5 k4_t6 v183 k4_hw19 k4_h2 r => k4_hw19 k4_h2 r

def k4_off163 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k4_off164 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k4_off165 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k4_off166 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k4_off167 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k4_off168 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k4_off169 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k4_off170 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k4_off171 (v251 : BitVec 32) (c0_i32_97 : BitVec 32) : Fin 1 → Nat :=
  let v254 : BitVec 32 := Scalar.addi v251 c0_i32_97
  let v255 : Index := Scalar.indexCast v254
  ![v255.toNat]

def k4_chk20 (v6 : BitVec 32) (k4_t5 : Fin (k4_t5_loop v6).trips) (k4_t6 : Fin k4_t6_loop.trips) (v251 : BitVec 32) : Prop :=
  (∀ (k4_h2 : k4_cond2 v6 k4_t5 k4_t6 = 1#1), ∀ (r : Fin 8), ∀ a, (k4_off171 v251 (BitVec.ofNat 32 (16 * r.val))) a + S16.size a ≤ S40192.size a)
theorem k4_off171_inb : ∀ (v6 : BitVec 32) (k4_t5 : Fin (k4_t5_loop v6).trips) (k4_t6 : Fin k4_t6_loop.trips) (v251 : BitVec 32) (k4_hw20 : k4_chk20 v6 k4_t5 k4_t6 v251), ∀ (k4_h2 : k4_cond2 v6 k4_t5 k4_t6 = 1#1), ∀ (r : Fin 8), ∀ a, (k4_off171 v251 (BitVec.ofNat 32 (16 * r.val))) a + S16.size a ≤ S40192.size a := fun v6 k4_t5 k4_t6 v251 k4_hw20 k4_h2 r => k4_hw20 k4_h2 r

def k4_off172 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k4_off173 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k4_off174 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k4_off175 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k4_off176 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k4_off177 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k4_off178 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k4_off179 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k4_off180 (v319 : BitVec 32) (c0_i32_114 : BitVec 32) : Fin 1 → Nat :=
  let v322 : BitVec 32 := Scalar.addi v319 c0_i32_114
  let v323 : Index := Scalar.indexCast v322
  ![v323.toNat]

def k4_chk21 (v6 : BitVec 32) (k4_t5 : Fin (k4_t5_loop v6).trips) (k4_t6 : Fin k4_t6_loop.trips) (v319 : BitVec 32) : Prop :=
  (∀ (k4_h2 : k4_cond2 v6 k4_t5 k4_t6 = 1#1), ∀ (r : Fin 8), ∀ a, (k4_off180 v319 (BitVec.ofNat 32 (16 * r.val))) a + S16.size a ≤ S40192.size a)
theorem k4_off180_inb : ∀ (v6 : BitVec 32) (k4_t5 : Fin (k4_t5_loop v6).trips) (k4_t6 : Fin k4_t6_loop.trips) (v319 : BitVec 32) (k4_hw21 : k4_chk21 v6 k4_t5 k4_t6 v319), ∀ (k4_h2 : k4_cond2 v6 k4_t5 k4_t6 = 1#1), ∀ (r : Fin 8), ∀ a, (k4_off180 v319 (BitVec.ofNat 32 (16 * r.val))) a + S16.size a ≤ S40192.size a := fun v6 k4_t5 k4_t6 v319 k4_hw21 k4_h2 r => k4_hw21 k4_h2 r

def k4_off181 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k4_off182 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k4_off183 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k4_off184 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k4_off185 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k4_off186 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k4_off187 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k4_off188 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k4_off189 (v387 : BitVec 32) (c0_i32_131 : BitVec 32) : Fin 1 → Nat :=
  let v390 : BitVec 32 := Scalar.addi v387 c0_i32_131
  let v391 : Index := Scalar.indexCast v390
  ![v391.toNat]

def k4_chk22 (v6 : BitVec 32) (k4_t5 : Fin (k4_t5_loop v6).trips) (k4_t6 : Fin k4_t6_loop.trips) (v387 : BitVec 32) : Prop :=
  (∀ (k4_h2 : k4_cond2 v6 k4_t5 k4_t6 = 1#1), ∀ (r : Fin 8), ∀ a, (k4_off189 v387 (BitVec.ofNat 32 (16 * r.val))) a + S16.size a ≤ S40192.size a)
theorem k4_off189_inb : ∀ (v6 : BitVec 32) (k4_t5 : Fin (k4_t5_loop v6).trips) (k4_t6 : Fin k4_t6_loop.trips) (v387 : BitVec 32) (k4_hw22 : k4_chk22 v6 k4_t5 k4_t6 v387), ∀ (k4_h2 : k4_cond2 v6 k4_t5 k4_t6 = 1#1), ∀ (r : Fin 8), ∀ a, (k4_off189 v387 (BitVec.ofNat 32 (16 * r.val))) a + S16.size a ≤ S40192.size a := fun v6 k4_t5 k4_t6 v387 k4_hw22 k4_h2 r => k4_hw22 k4_h2 r

def k4_off190 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k4_off191 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k4_off192 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k4_off193 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k4_off194 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k4_off195 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k4_off196 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k4_off197 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k4_off198 (v455 : BitVec 32) (c0_i32_148 : BitVec 32) : Fin 1 → Nat :=
  let v458 : BitVec 32 := Scalar.addi v455 c0_i32_148
  let v459 : Index := Scalar.indexCast v458
  ![v459.toNat]

def k4_chk23 (v6 : BitVec 32) (k4_t5 : Fin (k4_t5_loop v6).trips) (k4_t6 : Fin k4_t6_loop.trips) (v455 : BitVec 32) : Prop :=
  (∀ (k4_h2 : k4_cond2 v6 k4_t5 k4_t6 = 1#1), ∀ (r : Fin 8), ∀ a, (k4_off198 v455 (BitVec.ofNat 32 (16 * r.val))) a + S16.size a ≤ S40192.size a)
theorem k4_off198_inb : ∀ (v6 : BitVec 32) (k4_t5 : Fin (k4_t5_loop v6).trips) (k4_t6 : Fin k4_t6_loop.trips) (v455 : BitVec 32) (k4_hw23 : k4_chk23 v6 k4_t5 k4_t6 v455), ∀ (k4_h2 : k4_cond2 v6 k4_t5 k4_t6 = 1#1), ∀ (r : Fin 8), ∀ a, (k4_off198 v455 (BitVec.ofNat 32 (16 * r.val))) a + S16.size a ≤ S40192.size a := fun v6 k4_t5 k4_t6 v455 k4_hw23 k4_h2 r => k4_hw23 k4_h2 r

def k4_off199 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k4_off200 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k4_off201 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k4_off202 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k4_off203 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k4_off204 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k4_off205 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k4_off206 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k4_off207 (v523 : BitVec 32) (c0_i32_165 : BitVec 32) : Fin 1 → Nat :=
  let v526 : BitVec 32 := Scalar.addi v523 c0_i32_165
  let v527 : Index := Scalar.indexCast v526
  ![v527.toNat]

def k4_chk24 (v6 : BitVec 32) (k4_t5 : Fin (k4_t5_loop v6).trips) (k4_t6 : Fin k4_t6_loop.trips) (v523 : BitVec 32) : Prop :=
  (∀ (k4_h2 : k4_cond2 v6 k4_t5 k4_t6 = 1#1), ∀ (r : Fin 8), ∀ a, (k4_off207 v523 (BitVec.ofNat 32 (16 * r.val))) a + S16.size a ≤ S40192.size a)
theorem k4_off207_inb : ∀ (v6 : BitVec 32) (k4_t5 : Fin (k4_t5_loop v6).trips) (k4_t6 : Fin k4_t6_loop.trips) (v523 : BitVec 32) (k4_hw24 : k4_chk24 v6 k4_t5 k4_t6 v523), ∀ (k4_h2 : k4_cond2 v6 k4_t5 k4_t6 = 1#1), ∀ (r : Fin 8), ∀ a, (k4_off207 v523 (BitVec.ofNat 32 (16 * r.val))) a + S16.size a ≤ S40192.size a := fun v6 k4_t5 k4_t6 v523 k4_hw24 k4_h2 r => k4_hw24 k4_h2 r

def k4_off208 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k4_off209 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k4_off210 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k4_off211 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k4_off212 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k4_off213 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k4_off214 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k4_off215 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k4_off216 (v591 : BitVec 32) (c0_i32_182 : BitVec 32) : Fin 1 → Nat :=
  let v594 : BitVec 32 := Scalar.addi v591 c0_i32_182
  let v595 : Index := Scalar.indexCast v594
  ![v595.toNat]

def k4_chk25 (v6 : BitVec 32) (k4_t5 : Fin (k4_t5_loop v6).trips) (k4_t6 : Fin k4_t6_loop.trips) (v591 : BitVec 32) : Prop :=
  (∀ (k4_h2 : k4_cond2 v6 k4_t5 k4_t6 = 1#1), ∀ (r : Fin 8), ∀ a, (k4_off216 v591 (BitVec.ofNat 32 (16 * r.val))) a + S16.size a ≤ S40192.size a)
theorem k4_off216_inb : ∀ (v6 : BitVec 32) (k4_t5 : Fin (k4_t5_loop v6).trips) (k4_t6 : Fin k4_t6_loop.trips) (v591 : BitVec 32) (k4_hw25 : k4_chk25 v6 k4_t5 k4_t6 v591), ∀ (k4_h2 : k4_cond2 v6 k4_t5 k4_t6 = 1#1), ∀ (r : Fin 8), ∀ a, (k4_off216 v591 (BitVec.ofNat 32 (16 * r.val))) a + S16.size a ≤ S40192.size a := fun v6 k4_t5 k4_t6 v591 k4_hw25 k4_h2 r => k4_hw25 k4_h2 r

def k4_off217 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k4_off218 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k4_off219 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k4_off220 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k4_off221 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k4_off222 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k4_off223 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k4_off224 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k4_off225 (v659 : BitVec 32) (c0_i32_200 : BitVec 32) : Fin 1 → Nat :=
  let v662 : BitVec 32 := Scalar.addi v659 c0_i32_200
  let v663 : Index := Scalar.indexCast v662
  ![v663.toNat]

def k4_chk26 (v6 : BitVec 32) (k4_t5 : Fin (k4_t5_loop v6).trips) (k4_t6 : Fin k4_t6_loop.trips) (v659 : BitVec 32) : Prop :=
  (∀ (k4_h2 : k4_cond2 v6 k4_t5 k4_t6 = 1#1), ∀ (r : Fin 8), ∀ a, (k4_off225 v659 (BitVec.ofNat 32 (16 * r.val))) a + S16.size a ≤ S40192.size a)
theorem k4_off225_inb : ∀ (v6 : BitVec 32) (k4_t5 : Fin (k4_t5_loop v6).trips) (k4_t6 : Fin k4_t6_loop.trips) (v659 : BitVec 32) (k4_hw26 : k4_chk26 v6 k4_t5 k4_t6 v659), ∀ (k4_h2 : k4_cond2 v6 k4_t5 k4_t6 = 1#1), ∀ (r : Fin 8), ∀ a, (k4_off225 v659 (BitVec.ofNat 32 (16 * r.val))) a + S16.size a ≤ S40192.size a := fun v6 k4_t5 k4_t6 v659 k4_hw26 k4_h2 r => k4_hw26 k4_h2 r

def k4_off226 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k4_off227 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k4_off228 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k4_off229 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k4_off230 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k4_off231 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k4_off232 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k4_off233 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k4_off234 (v727 : BitVec 32) (c0_i32_217 : BitVec 32) : Fin 1 → Nat :=
  let v730 : BitVec 32 := Scalar.addi v727 c0_i32_217
  let v731 : Index := Scalar.indexCast v730
  ![v731.toNat]

def k4_chk27 (v6 : BitVec 32) (k4_t5 : Fin (k4_t5_loop v6).trips) (k4_t6 : Fin k4_t6_loop.trips) (v727 : BitVec 32) : Prop :=
  (∀ (k4_h2 : k4_cond2 v6 k4_t5 k4_t6 = 1#1), ∀ (r : Fin 8), ∀ a, (k4_off234 v727 (BitVec.ofNat 32 (16 * r.val))) a + S16.size a ≤ S40192.size a)
theorem k4_off234_inb : ∀ (v6 : BitVec 32) (k4_t5 : Fin (k4_t5_loop v6).trips) (k4_t6 : Fin k4_t6_loop.trips) (v727 : BitVec 32) (k4_hw27 : k4_chk27 v6 k4_t5 k4_t6 v727), ∀ (k4_h2 : k4_cond2 v6 k4_t5 k4_t6 = 1#1), ∀ (r : Fin 8), ∀ a, (k4_off234 v727 (BitVec.ofNat 32 (16 * r.val))) a + S16.size a ≤ S40192.size a := fun v6 k4_t5 k4_t6 v727 k4_hw27 k4_h2 r => k4_hw27 k4_h2 r

def k4_off235 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k4_off236 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k4_off237 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k4_off238 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k4_off239 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k4_off240 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k4_off241 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k4_off242 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k4_off243 (v795 : BitVec 32) (c0_i32_234 : BitVec 32) : Fin 1 → Nat :=
  let v798 : BitVec 32 := Scalar.addi v795 c0_i32_234
  let v799 : Index := Scalar.indexCast v798
  ![v799.toNat]

def k4_chk28 (v6 : BitVec 32) (k4_t5 : Fin (k4_t5_loop v6).trips) (k4_t6 : Fin k4_t6_loop.trips) (v795 : BitVec 32) : Prop :=
  (∀ (k4_h2 : k4_cond2 v6 k4_t5 k4_t6 = 1#1), ∀ (r : Fin 8), ∀ a, (k4_off243 v795 (BitVec.ofNat 32 (16 * r.val))) a + S16.size a ≤ S40192.size a)
theorem k4_off243_inb : ∀ (v6 : BitVec 32) (k4_t5 : Fin (k4_t5_loop v6).trips) (k4_t6 : Fin k4_t6_loop.trips) (v795 : BitVec 32) (k4_hw28 : k4_chk28 v6 k4_t5 k4_t6 v795), ∀ (k4_h2 : k4_cond2 v6 k4_t5 k4_t6 = 1#1), ∀ (r : Fin 8), ∀ a, (k4_off243 v795 (BitVec.ofNat 32 (16 * r.val))) a + S16.size a ≤ S40192.size a := fun v6 k4_t5 k4_t6 v795 k4_hw28 k4_h2 r => k4_hw28 k4_h2 r

def k4_off244 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k4_off245 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k4_off246 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k4_off247 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k4_off248 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k4_off249 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k4_off250 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k4_off251 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k4_off252 (v863 : BitVec 32) (c0_i32_251 : BitVec 32) : Fin 1 → Nat :=
  let v866 : BitVec 32 := Scalar.addi v863 c0_i32_251
  let v867 : Index := Scalar.indexCast v866
  ![v867.toNat]

def k4_chk29 (v6 : BitVec 32) (k4_t5 : Fin (k4_t5_loop v6).trips) (k4_t6 : Fin k4_t6_loop.trips) (v863 : BitVec 32) : Prop :=
  (∀ (k4_h2 : k4_cond2 v6 k4_t5 k4_t6 = 1#1), ∀ (r : Fin 8), ∀ a, (k4_off252 v863 (BitVec.ofNat 32 (16 * r.val))) a + S16.size a ≤ S40192.size a)
theorem k4_off252_inb : ∀ (v6 : BitVec 32) (k4_t5 : Fin (k4_t5_loop v6).trips) (k4_t6 : Fin k4_t6_loop.trips) (v863 : BitVec 32) (k4_hw29 : k4_chk29 v6 k4_t5 k4_t6 v863), ∀ (k4_h2 : k4_cond2 v6 k4_t5 k4_t6 = 1#1), ∀ (r : Fin 8), ∀ a, (k4_off252 v863 (BitVec.ofNat 32 (16 * r.val))) a + S16.size a ≤ S40192.size a := fun v6 k4_t5 k4_t6 v863 k4_hw29 k4_h2 r => k4_hw29 k4_h2 r

def k4_off253 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k4_off254 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k4_off255 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k4_off256 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k4_off257 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k4_off258 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k4_off259 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k4_off260 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k4_off261 (v931 : BitVec 32) (c0_i32_268 : BitVec 32) : Fin 1 → Nat :=
  let v934 : BitVec 32 := Scalar.addi v931 c0_i32_268
  let v935 : Index := Scalar.indexCast v934
  ![v935.toNat]

def k4_chk30 (v6 : BitVec 32) (k4_t5 : Fin (k4_t5_loop v6).trips) (k4_t6 : Fin k4_t6_loop.trips) (v931 : BitVec 32) : Prop :=
  (∀ (k4_h2 : k4_cond2 v6 k4_t5 k4_t6 = 1#1), ∀ (r : Fin 8), ∀ a, (k4_off261 v931 (BitVec.ofNat 32 (16 * r.val))) a + S16.size a ≤ S40192.size a)
theorem k4_off261_inb : ∀ (v6 : BitVec 32) (k4_t5 : Fin (k4_t5_loop v6).trips) (k4_t6 : Fin k4_t6_loop.trips) (v931 : BitVec 32) (k4_hw30 : k4_chk30 v6 k4_t5 k4_t6 v931), ∀ (k4_h2 : k4_cond2 v6 k4_t5 k4_t6 = 1#1), ∀ (r : Fin 8), ∀ a, (k4_off261 v931 (BitVec.ofNat 32 (16 * r.val))) a + S16.size a ≤ S40192.size a := fun v6 k4_t5 k4_t6 v931 k4_hw30 k4_h2 r => k4_hw30 k4_h2 r

def k4_off262 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k4_off263 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k4_off264 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k4_off265 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k4_off266 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k4_off267 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k4_off268 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k4_off269 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k4_off270 (v999 : BitVec 32) (c0_i32_285 : BitVec 32) : Fin 1 → Nat :=
  let v1002 : BitVec 32 := Scalar.addi v999 c0_i32_285
  let v1003 : Index := Scalar.indexCast v1002
  ![v1003.toNat]

def k4_chk31 (v6 : BitVec 32) (k4_t5 : Fin (k4_t5_loop v6).trips) (k4_t6 : Fin k4_t6_loop.trips) (v999 : BitVec 32) : Prop :=
  (∀ (k4_h2 : k4_cond2 v6 k4_t5 k4_t6 = 1#1), ∀ (r : Fin 8), ∀ a, (k4_off270 v999 (BitVec.ofNat 32 (16 * r.val))) a + S16.size a ≤ S40192.size a)
theorem k4_off270_inb : ∀ (v6 : BitVec 32) (k4_t5 : Fin (k4_t5_loop v6).trips) (k4_t6 : Fin k4_t6_loop.trips) (v999 : BitVec 32) (k4_hw31 : k4_chk31 v6 k4_t5 k4_t6 v999), ∀ (k4_h2 : k4_cond2 v6 k4_t5 k4_t6 = 1#1), ∀ (r : Fin 8), ∀ a, (k4_off270 v999 (BitVec.ofNat 32 (16 * r.val))) a + S16.size a ≤ S40192.size a := fun v6 k4_t5 k4_t6 v999 k4_hw31 k4_h2 r => k4_hw31 k4_h2 r

def k4_off271 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k4_off272 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k4_off273 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k4_off274 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k4_off275 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k4_off276 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k4_off277 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k4_off278 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k4_off279 (v1067 : BitVec 32) (c0_i32_302 : BitVec 32) : Fin 1 → Nat :=
  let v1070 : BitVec 32 := Scalar.addi v1067 c0_i32_302
  let v1071 : Index := Scalar.indexCast v1070
  ![v1071.toNat]

def k4_chk32 (v6 : BitVec 32) (k4_t5 : Fin (k4_t5_loop v6).trips) (k4_t6 : Fin k4_t6_loop.trips) (v1067 : BitVec 32) : Prop :=
  (∀ (k4_h2 : k4_cond2 v6 k4_t5 k4_t6 = 1#1), ∀ (r : Fin 8), ∀ a, (k4_off279 v1067 (BitVec.ofNat 32 (16 * r.val))) a + S16.size a ≤ S40192.size a)
theorem k4_off279_inb : ∀ (v6 : BitVec 32) (k4_t5 : Fin (k4_t5_loop v6).trips) (k4_t6 : Fin k4_t6_loop.trips) (v1067 : BitVec 32) (k4_hw32 : k4_chk32 v6 k4_t5 k4_t6 v1067), ∀ (k4_h2 : k4_cond2 v6 k4_t5 k4_t6 = 1#1), ∀ (r : Fin 8), ∀ a, (k4_off279 v1067 (BitVec.ofNat 32 (16 * r.val))) a + S16.size a ≤ S40192.size a := fun v6 k4_t5 k4_t6 v1067 k4_hw32 k4_h2 r => k4_hw32 k4_h2 r

def k4_off280 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k4_off281 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k4_off282 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k4_off283 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k4_off284 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k4_off285 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k4_off286 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k4_off287 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k4_off288 (v1135 : BitVec 32) (c0_i32_319 : BitVec 32) : Fin 1 → Nat :=
  let v1138 : BitVec 32 := Scalar.addi v1135 c0_i32_319
  let v1139 : Index := Scalar.indexCast v1138
  ![v1139.toNat]

def k4_chk33 (v6 : BitVec 32) (k4_t5 : Fin (k4_t5_loop v6).trips) (k4_t6 : Fin k4_t6_loop.trips) (v1135 : BitVec 32) : Prop :=
  (∀ (k4_h2 : k4_cond2 v6 k4_t5 k4_t6 = 1#1), ∀ (r : Fin 8), ∀ a, (k4_off288 v1135 (BitVec.ofNat 32 (16 * r.val))) a + S16.size a ≤ S40192.size a)
theorem k4_off288_inb : ∀ (v6 : BitVec 32) (k4_t5 : Fin (k4_t5_loop v6).trips) (k4_t6 : Fin k4_t6_loop.trips) (v1135 : BitVec 32) (k4_hw33 : k4_chk33 v6 k4_t5 k4_t6 v1135), ∀ (k4_h2 : k4_cond2 v6 k4_t5 k4_t6 = 1#1), ∀ (r : Fin 8), ∀ a, (k4_off288 v1135 (BitVec.ofNat 32 (16 * r.val))) a + S16.size a ≤ S40192.size a := fun v6 k4_t5 k4_t6 v1135 k4_hw33 k4_h2 r => k4_hw33 k4_h2 r

def k4_off289 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k4_off290 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k4_off291 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k4_off292 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k4_off293 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k4_off294 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k4_off295 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k4_off296 (k4_t7 : Fin k4_t7_loop.trips) : Fin 2 → Nat :=
  let c0_i32_52 : BitVec 32 := 0#32
  let c1_i32_53 : BitVec 32 := 1#32
  let arg14 : BitVec 32 := Scf.iv c0_i32_52 c1_i32_53 k4_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k4_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k4_off297 (k4_t8 : Fin k4_t8_loop.trips) : Fin 1 → Nat :=
  let c0_i32_16 : BitVec 32 := 0#32
  let c1_i32_17 : BitVec 32 := 1#32
  let arg12 : BitVec 32 := Scf.iv c0_i32_16 c1_i32_17 k4_t8
  let c16_i32 : BitVec 32 := 16#32
  let v38 : BitVec 32 := Scalar.muli arg12 c16_i32
  let v39 : Index := Scalar.indexCast v38
  ![v39.toNat]
def k4_cond3 (i : grid4.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k4_off298 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid5 : Pipeline.Grid := ⟨2, ![2, 16], ![false, false]⟩

@[reducible] def k5_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k5_off1 (k5_t1 : Fin k5_t1_loop.trips) : Fin 1 → Nat :=
  let c0_i32_0 : BitVec 32 := 0#32
  let c1_i32 : BitVec 32 := 1#32
  let arg12 : BitVec 32 := Scf.iv c0_i32_0 c1_i32 k5_t1
  let c16_i32 : BitVec 32 := 16#32
  let v38 : BitVec 32 := Scalar.muli arg12 c16_i32
  let v39 : Index := Scalar.indexCast v38
  ![v39.toNat]
def k5_off2 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k5_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k5_off3 (i : grid5.Coords) (v6 : BitVec 32) (k5_t2 : Fin (k5_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k5_t2
  let c2048_i32_22 : BitVec 32 := 2048#32
  let v38 : BitVec 32 := Scalar.muli arg12 c2048_i32_22
  ![v1.toNat, v38.toNat]
@[reducible] def k5_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k5_off4 (k5_t3 : Fin k5_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k5_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k5_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k5_off5 (k5_t3 : Fin k5_t3_loop.trips) (k5_t4 : Fin k5_t4_loop.trips) : Fin 1 → Nat :=
  let c0_i32_24 : BitVec 32 := 0#32
  let c1_i32_25 : BitVec 32 := 1#32
  let arg13 : BitVec 32 := Scf.iv c0_i32_24 c1_i32_25 k5_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k5_t4
  let c16_i32_56 : BitVec 32 := 16#32
  let v106 : BitVec 32 := Scalar.muli arg14 c16_i32_56
  let v107 : BitVec 32 := Scalar.addi v105 v106
  let v108 : Index := Scalar.indexCast v107
  ![v108.toNat]
def k5_off6 (v115 : BitVec 32) (c0_i32_61 : BitVec 32) : Fin 1 → Nat :=
  let v118 : BitVec 32 := Scalar.addi v115 c0_i32_61
  let v119 : Index := Scalar.indexCast v118
  ![v119.toNat]
def k5_cond1 (v6 : BitVec 32) (k5_t2 : Fin (k5_t2_loop v6).trips) (k5_t3 : Fin k5_t3_loop.trips) : BitVec 1 :=
  let c0_i32_11 : BitVec 32 := 0#32
  let c1_i32_13 : BitVec 32 := 1#32
  let arg12 : BitVec 32 := Scf.iv c0_i32_11 c1_i32_13 k5_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k5_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k5_chk2 (v6 : BitVec 32) (k5_t2 : Fin (k5_t2_loop v6).trips) (k5_t3 : Fin k5_t3_loop.trips) (v115 : BitVec 32) : Prop :=
  (∀ (k5_h1 : k5_cond1 v6 k5_t2 k5_t3 = 1#1), ∀ (r : Fin 8), ∀ a, (k5_off6 v115 (BitVec.ofNat 32 (16 * r.val))) a + S16.size a ≤ S40192.size a)
theorem k5_off6_inb : ∀ (v6 : BitVec 32) (k5_t2 : Fin (k5_t2_loop v6).trips) (k5_t3 : Fin k5_t3_loop.trips) (v115 : BitVec 32) (k5_hw2 : k5_chk2 v6 k5_t2 k5_t3 v115), ∀ (k5_h1 : k5_cond1 v6 k5_t2 k5_t3 = 1#1), ∀ (r : Fin 8), ∀ a, (k5_off6 v115 (BitVec.ofNat 32 (16 * r.val))) a + S16.size a ≤ S40192.size a := fun v6 k5_t2 k5_t3 v115 k5_hw2 k5_h1 r => k5_hw2 k5_h1 r

def k5_off7 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k5_off8 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k5_off9 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k5_off10 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k5_off11 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k5_off12 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k5_off13 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k5_off14 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k5_off15 (v183 : BitVec 32) (c0_i32_79 : BitVec 32) : Fin 1 → Nat :=
  let v186 : BitVec 32 := Scalar.addi v183 c0_i32_79
  let v187 : Index := Scalar.indexCast v186
  ![v187.toNat]

def k5_chk3 (v6 : BitVec 32) (k5_t2 : Fin (k5_t2_loop v6).trips) (k5_t3 : Fin k5_t3_loop.trips) (v183 : BitVec 32) : Prop :=
  (∀ (k5_h1 : k5_cond1 v6 k5_t2 k5_t3 = 1#1), ∀ (r : Fin 8), ∀ a, (k5_off15 v183 (BitVec.ofNat 32 (16 * r.val))) a + S16.size a ≤ S40192.size a)
theorem k5_off15_inb : ∀ (v6 : BitVec 32) (k5_t2 : Fin (k5_t2_loop v6).trips) (k5_t3 : Fin k5_t3_loop.trips) (v183 : BitVec 32) (k5_hw3 : k5_chk3 v6 k5_t2 k5_t3 v183), ∀ (k5_h1 : k5_cond1 v6 k5_t2 k5_t3 = 1#1), ∀ (r : Fin 8), ∀ a, (k5_off15 v183 (BitVec.ofNat 32 (16 * r.val))) a + S16.size a ≤ S40192.size a := fun v6 k5_t2 k5_t3 v183 k5_hw3 k5_h1 r => k5_hw3 k5_h1 r

def k5_off16 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k5_off17 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k5_off18 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k5_off19 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k5_off20 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k5_off21 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k5_off22 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k5_off23 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k5_off24 (v251 : BitVec 32) (c0_i32_97 : BitVec 32) : Fin 1 → Nat :=
  let v254 : BitVec 32 := Scalar.addi v251 c0_i32_97
  let v255 : Index := Scalar.indexCast v254
  ![v255.toNat]

def k5_chk4 (v6 : BitVec 32) (k5_t2 : Fin (k5_t2_loop v6).trips) (k5_t3 : Fin k5_t3_loop.trips) (v251 : BitVec 32) : Prop :=
  (∀ (k5_h1 : k5_cond1 v6 k5_t2 k5_t3 = 1#1), ∀ (r : Fin 8), ∀ a, (k5_off24 v251 (BitVec.ofNat 32 (16 * r.val))) a + S16.size a ≤ S40192.size a)
theorem k5_off24_inb : ∀ (v6 : BitVec 32) (k5_t2 : Fin (k5_t2_loop v6).trips) (k5_t3 : Fin k5_t3_loop.trips) (v251 : BitVec 32) (k5_hw4 : k5_chk4 v6 k5_t2 k5_t3 v251), ∀ (k5_h1 : k5_cond1 v6 k5_t2 k5_t3 = 1#1), ∀ (r : Fin 8), ∀ a, (k5_off24 v251 (BitVec.ofNat 32 (16 * r.val))) a + S16.size a ≤ S40192.size a := fun v6 k5_t2 k5_t3 v251 k5_hw4 k5_h1 r => k5_hw4 k5_h1 r

def k5_off25 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k5_off26 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k5_off27 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k5_off28 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k5_off29 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k5_off30 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k5_off31 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k5_off32 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k5_off33 (v319 : BitVec 32) (c0_i32_114 : BitVec 32) : Fin 1 → Nat :=
  let v322 : BitVec 32 := Scalar.addi v319 c0_i32_114
  let v323 : Index := Scalar.indexCast v322
  ![v323.toNat]

def k5_chk5 (v6 : BitVec 32) (k5_t2 : Fin (k5_t2_loop v6).trips) (k5_t3 : Fin k5_t3_loop.trips) (v319 : BitVec 32) : Prop :=
  (∀ (k5_h1 : k5_cond1 v6 k5_t2 k5_t3 = 1#1), ∀ (r : Fin 8), ∀ a, (k5_off33 v319 (BitVec.ofNat 32 (16 * r.val))) a + S16.size a ≤ S40192.size a)
theorem k5_off33_inb : ∀ (v6 : BitVec 32) (k5_t2 : Fin (k5_t2_loop v6).trips) (k5_t3 : Fin k5_t3_loop.trips) (v319 : BitVec 32) (k5_hw5 : k5_chk5 v6 k5_t2 k5_t3 v319), ∀ (k5_h1 : k5_cond1 v6 k5_t2 k5_t3 = 1#1), ∀ (r : Fin 8), ∀ a, (k5_off33 v319 (BitVec.ofNat 32 (16 * r.val))) a + S16.size a ≤ S40192.size a := fun v6 k5_t2 k5_t3 v319 k5_hw5 k5_h1 r => k5_hw5 k5_h1 r

def k5_off34 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k5_off35 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k5_off36 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k5_off37 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k5_off38 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k5_off39 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k5_off40 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k5_off41 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k5_off42 (v387 : BitVec 32) (c0_i32_131 : BitVec 32) : Fin 1 → Nat :=
  let v390 : BitVec 32 := Scalar.addi v387 c0_i32_131
  let v391 : Index := Scalar.indexCast v390
  ![v391.toNat]

def k5_chk6 (v6 : BitVec 32) (k5_t2 : Fin (k5_t2_loop v6).trips) (k5_t3 : Fin k5_t3_loop.trips) (v387 : BitVec 32) : Prop :=
  (∀ (k5_h1 : k5_cond1 v6 k5_t2 k5_t3 = 1#1), ∀ (r : Fin 8), ∀ a, (k5_off42 v387 (BitVec.ofNat 32 (16 * r.val))) a + S16.size a ≤ S40192.size a)
theorem k5_off42_inb : ∀ (v6 : BitVec 32) (k5_t2 : Fin (k5_t2_loop v6).trips) (k5_t3 : Fin k5_t3_loop.trips) (v387 : BitVec 32) (k5_hw6 : k5_chk6 v6 k5_t2 k5_t3 v387), ∀ (k5_h1 : k5_cond1 v6 k5_t2 k5_t3 = 1#1), ∀ (r : Fin 8), ∀ a, (k5_off42 v387 (BitVec.ofNat 32 (16 * r.val))) a + S16.size a ≤ S40192.size a := fun v6 k5_t2 k5_t3 v387 k5_hw6 k5_h1 r => k5_hw6 k5_h1 r

def k5_off43 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k5_off44 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k5_off45 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k5_off46 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k5_off47 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k5_off48 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k5_off49 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k5_off50 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k5_off51 (v455 : BitVec 32) (c0_i32_148 : BitVec 32) : Fin 1 → Nat :=
  let v458 : BitVec 32 := Scalar.addi v455 c0_i32_148
  let v459 : Index := Scalar.indexCast v458
  ![v459.toNat]

def k5_chk7 (v6 : BitVec 32) (k5_t2 : Fin (k5_t2_loop v6).trips) (k5_t3 : Fin k5_t3_loop.trips) (v455 : BitVec 32) : Prop :=
  (∀ (k5_h1 : k5_cond1 v6 k5_t2 k5_t3 = 1#1), ∀ (r : Fin 8), ∀ a, (k5_off51 v455 (BitVec.ofNat 32 (16 * r.val))) a + S16.size a ≤ S40192.size a)
theorem k5_off51_inb : ∀ (v6 : BitVec 32) (k5_t2 : Fin (k5_t2_loop v6).trips) (k5_t3 : Fin k5_t3_loop.trips) (v455 : BitVec 32) (k5_hw7 : k5_chk7 v6 k5_t2 k5_t3 v455), ∀ (k5_h1 : k5_cond1 v6 k5_t2 k5_t3 = 1#1), ∀ (r : Fin 8), ∀ a, (k5_off51 v455 (BitVec.ofNat 32 (16 * r.val))) a + S16.size a ≤ S40192.size a := fun v6 k5_t2 k5_t3 v455 k5_hw7 k5_h1 r => k5_hw7 k5_h1 r

def k5_off52 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k5_off53 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k5_off54 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k5_off55 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k5_off56 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k5_off57 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k5_off58 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k5_off59 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k5_off60 (v523 : BitVec 32) (c0_i32_165 : BitVec 32) : Fin 1 → Nat :=
  let v526 : BitVec 32 := Scalar.addi v523 c0_i32_165
  let v527 : Index := Scalar.indexCast v526
  ![v527.toNat]

def k5_chk8 (v6 : BitVec 32) (k5_t2 : Fin (k5_t2_loop v6).trips) (k5_t3 : Fin k5_t3_loop.trips) (v523 : BitVec 32) : Prop :=
  (∀ (k5_h1 : k5_cond1 v6 k5_t2 k5_t3 = 1#1), ∀ (r : Fin 8), ∀ a, (k5_off60 v523 (BitVec.ofNat 32 (16 * r.val))) a + S16.size a ≤ S40192.size a)
theorem k5_off60_inb : ∀ (v6 : BitVec 32) (k5_t2 : Fin (k5_t2_loop v6).trips) (k5_t3 : Fin k5_t3_loop.trips) (v523 : BitVec 32) (k5_hw8 : k5_chk8 v6 k5_t2 k5_t3 v523), ∀ (k5_h1 : k5_cond1 v6 k5_t2 k5_t3 = 1#1), ∀ (r : Fin 8), ∀ a, (k5_off60 v523 (BitVec.ofNat 32 (16 * r.val))) a + S16.size a ≤ S40192.size a := fun v6 k5_t2 k5_t3 v523 k5_hw8 k5_h1 r => k5_hw8 k5_h1 r

def k5_off61 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k5_off62 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k5_off63 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k5_off64 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k5_off65 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k5_off66 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k5_off67 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k5_off68 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k5_off69 (v591 : BitVec 32) (c0_i32_182 : BitVec 32) : Fin 1 → Nat :=
  let v594 : BitVec 32 := Scalar.addi v591 c0_i32_182
  let v595 : Index := Scalar.indexCast v594
  ![v595.toNat]

def k5_chk9 (v6 : BitVec 32) (k5_t2 : Fin (k5_t2_loop v6).trips) (k5_t3 : Fin k5_t3_loop.trips) (v591 : BitVec 32) : Prop :=
  (∀ (k5_h1 : k5_cond1 v6 k5_t2 k5_t3 = 1#1), ∀ (r : Fin 8), ∀ a, (k5_off69 v591 (BitVec.ofNat 32 (16 * r.val))) a + S16.size a ≤ S40192.size a)
theorem k5_off69_inb : ∀ (v6 : BitVec 32) (k5_t2 : Fin (k5_t2_loop v6).trips) (k5_t3 : Fin k5_t3_loop.trips) (v591 : BitVec 32) (k5_hw9 : k5_chk9 v6 k5_t2 k5_t3 v591), ∀ (k5_h1 : k5_cond1 v6 k5_t2 k5_t3 = 1#1), ∀ (r : Fin 8), ∀ a, (k5_off69 v591 (BitVec.ofNat 32 (16 * r.val))) a + S16.size a ≤ S40192.size a := fun v6 k5_t2 k5_t3 v591 k5_hw9 k5_h1 r => k5_hw9 k5_h1 r

def k5_off70 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k5_off71 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k5_off72 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k5_off73 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k5_off74 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k5_off75 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k5_off76 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k5_off77 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k5_off78 (v659 : BitVec 32) (c0_i32_200 : BitVec 32) : Fin 1 → Nat :=
  let v662 : BitVec 32 := Scalar.addi v659 c0_i32_200
  let v663 : Index := Scalar.indexCast v662
  ![v663.toNat]

def k5_chk10 (v6 : BitVec 32) (k5_t2 : Fin (k5_t2_loop v6).trips) (k5_t3 : Fin k5_t3_loop.trips) (v659 : BitVec 32) : Prop :=
  (∀ (k5_h1 : k5_cond1 v6 k5_t2 k5_t3 = 1#1), ∀ (r : Fin 8), ∀ a, (k5_off78 v659 (BitVec.ofNat 32 (16 * r.val))) a + S16.size a ≤ S40192.size a)
theorem k5_off78_inb : ∀ (v6 : BitVec 32) (k5_t2 : Fin (k5_t2_loop v6).trips) (k5_t3 : Fin k5_t3_loop.trips) (v659 : BitVec 32) (k5_hw10 : k5_chk10 v6 k5_t2 k5_t3 v659), ∀ (k5_h1 : k5_cond1 v6 k5_t2 k5_t3 = 1#1), ∀ (r : Fin 8), ∀ a, (k5_off78 v659 (BitVec.ofNat 32 (16 * r.val))) a + S16.size a ≤ S40192.size a := fun v6 k5_t2 k5_t3 v659 k5_hw10 k5_h1 r => k5_hw10 k5_h1 r

def k5_off79 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k5_off80 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k5_off81 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k5_off82 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k5_off83 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k5_off84 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k5_off85 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k5_off86 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k5_off87 (v727 : BitVec 32) (c0_i32_217 : BitVec 32) : Fin 1 → Nat :=
  let v730 : BitVec 32 := Scalar.addi v727 c0_i32_217
  let v731 : Index := Scalar.indexCast v730
  ![v731.toNat]

def k5_chk11 (v6 : BitVec 32) (k5_t2 : Fin (k5_t2_loop v6).trips) (k5_t3 : Fin k5_t3_loop.trips) (v727 : BitVec 32) : Prop :=
  (∀ (k5_h1 : k5_cond1 v6 k5_t2 k5_t3 = 1#1), ∀ (r : Fin 8), ∀ a, (k5_off87 v727 (BitVec.ofNat 32 (16 * r.val))) a + S16.size a ≤ S40192.size a)
theorem k5_off87_inb : ∀ (v6 : BitVec 32) (k5_t2 : Fin (k5_t2_loop v6).trips) (k5_t3 : Fin k5_t3_loop.trips) (v727 : BitVec 32) (k5_hw11 : k5_chk11 v6 k5_t2 k5_t3 v727), ∀ (k5_h1 : k5_cond1 v6 k5_t2 k5_t3 = 1#1), ∀ (r : Fin 8), ∀ a, (k5_off87 v727 (BitVec.ofNat 32 (16 * r.val))) a + S16.size a ≤ S40192.size a := fun v6 k5_t2 k5_t3 v727 k5_hw11 k5_h1 r => k5_hw11 k5_h1 r

def k5_off88 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k5_off89 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k5_off90 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k5_off91 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k5_off92 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k5_off93 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k5_off94 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k5_off95 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k5_off96 (v795 : BitVec 32) (c0_i32_234 : BitVec 32) : Fin 1 → Nat :=
  let v798 : BitVec 32 := Scalar.addi v795 c0_i32_234
  let v799 : Index := Scalar.indexCast v798
  ![v799.toNat]

def k5_chk12 (v6 : BitVec 32) (k5_t2 : Fin (k5_t2_loop v6).trips) (k5_t3 : Fin k5_t3_loop.trips) (v795 : BitVec 32) : Prop :=
  (∀ (k5_h1 : k5_cond1 v6 k5_t2 k5_t3 = 1#1), ∀ (r : Fin 8), ∀ a, (k5_off96 v795 (BitVec.ofNat 32 (16 * r.val))) a + S16.size a ≤ S40192.size a)
theorem k5_off96_inb : ∀ (v6 : BitVec 32) (k5_t2 : Fin (k5_t2_loop v6).trips) (k5_t3 : Fin k5_t3_loop.trips) (v795 : BitVec 32) (k5_hw12 : k5_chk12 v6 k5_t2 k5_t3 v795), ∀ (k5_h1 : k5_cond1 v6 k5_t2 k5_t3 = 1#1), ∀ (r : Fin 8), ∀ a, (k5_off96 v795 (BitVec.ofNat 32 (16 * r.val))) a + S16.size a ≤ S40192.size a := fun v6 k5_t2 k5_t3 v795 k5_hw12 k5_h1 r => k5_hw12 k5_h1 r

def k5_off97 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k5_off98 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k5_off99 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k5_off100 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k5_off101 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k5_off102 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k5_off103 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k5_off104 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k5_off105 (v863 : BitVec 32) (c0_i32_251 : BitVec 32) : Fin 1 → Nat :=
  let v866 : BitVec 32 := Scalar.addi v863 c0_i32_251
  let v867 : Index := Scalar.indexCast v866
  ![v867.toNat]

def k5_chk13 (v6 : BitVec 32) (k5_t2 : Fin (k5_t2_loop v6).trips) (k5_t3 : Fin k5_t3_loop.trips) (v863 : BitVec 32) : Prop :=
  (∀ (k5_h1 : k5_cond1 v6 k5_t2 k5_t3 = 1#1), ∀ (r : Fin 8), ∀ a, (k5_off105 v863 (BitVec.ofNat 32 (16 * r.val))) a + S16.size a ≤ S40192.size a)
theorem k5_off105_inb : ∀ (v6 : BitVec 32) (k5_t2 : Fin (k5_t2_loop v6).trips) (k5_t3 : Fin k5_t3_loop.trips) (v863 : BitVec 32) (k5_hw13 : k5_chk13 v6 k5_t2 k5_t3 v863), ∀ (k5_h1 : k5_cond1 v6 k5_t2 k5_t3 = 1#1), ∀ (r : Fin 8), ∀ a, (k5_off105 v863 (BitVec.ofNat 32 (16 * r.val))) a + S16.size a ≤ S40192.size a := fun v6 k5_t2 k5_t3 v863 k5_hw13 k5_h1 r => k5_hw13 k5_h1 r

def k5_off106 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k5_off107 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k5_off108 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k5_off109 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k5_off110 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k5_off111 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k5_off112 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k5_off113 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k5_off114 (v931 : BitVec 32) (c0_i32_268 : BitVec 32) : Fin 1 → Nat :=
  let v934 : BitVec 32 := Scalar.addi v931 c0_i32_268
  let v935 : Index := Scalar.indexCast v934
  ![v935.toNat]

def k5_chk14 (v6 : BitVec 32) (k5_t2 : Fin (k5_t2_loop v6).trips) (k5_t3 : Fin k5_t3_loop.trips) (v931 : BitVec 32) : Prop :=
  (∀ (k5_h1 : k5_cond1 v6 k5_t2 k5_t3 = 1#1), ∀ (r : Fin 8), ∀ a, (k5_off114 v931 (BitVec.ofNat 32 (16 * r.val))) a + S16.size a ≤ S40192.size a)
theorem k5_off114_inb : ∀ (v6 : BitVec 32) (k5_t2 : Fin (k5_t2_loop v6).trips) (k5_t3 : Fin k5_t3_loop.trips) (v931 : BitVec 32) (k5_hw14 : k5_chk14 v6 k5_t2 k5_t3 v931), ∀ (k5_h1 : k5_cond1 v6 k5_t2 k5_t3 = 1#1), ∀ (r : Fin 8), ∀ a, (k5_off114 v931 (BitVec.ofNat 32 (16 * r.val))) a + S16.size a ≤ S40192.size a := fun v6 k5_t2 k5_t3 v931 k5_hw14 k5_h1 r => k5_hw14 k5_h1 r

def k5_off115 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k5_off116 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k5_off117 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k5_off118 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k5_off119 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k5_off120 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k5_off121 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k5_off122 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k5_off123 (v999 : BitVec 32) (c0_i32_285 : BitVec 32) : Fin 1 → Nat :=
  let v1002 : BitVec 32 := Scalar.addi v999 c0_i32_285
  let v1003 : Index := Scalar.indexCast v1002
  ![v1003.toNat]

def k5_chk15 (v6 : BitVec 32) (k5_t2 : Fin (k5_t2_loop v6).trips) (k5_t3 : Fin k5_t3_loop.trips) (v999 : BitVec 32) : Prop :=
  (∀ (k5_h1 : k5_cond1 v6 k5_t2 k5_t3 = 1#1), ∀ (r : Fin 8), ∀ a, (k5_off123 v999 (BitVec.ofNat 32 (16 * r.val))) a + S16.size a ≤ S40192.size a)
theorem k5_off123_inb : ∀ (v6 : BitVec 32) (k5_t2 : Fin (k5_t2_loop v6).trips) (k5_t3 : Fin k5_t3_loop.trips) (v999 : BitVec 32) (k5_hw15 : k5_chk15 v6 k5_t2 k5_t3 v999), ∀ (k5_h1 : k5_cond1 v6 k5_t2 k5_t3 = 1#1), ∀ (r : Fin 8), ∀ a, (k5_off123 v999 (BitVec.ofNat 32 (16 * r.val))) a + S16.size a ≤ S40192.size a := fun v6 k5_t2 k5_t3 v999 k5_hw15 k5_h1 r => k5_hw15 k5_h1 r

def k5_off124 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k5_off125 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k5_off126 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k5_off127 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k5_off128 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k5_off129 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k5_off130 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k5_off131 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k5_off132 (v1067 : BitVec 32) (c0_i32_302 : BitVec 32) : Fin 1 → Nat :=
  let v1070 : BitVec 32 := Scalar.addi v1067 c0_i32_302
  let v1071 : Index := Scalar.indexCast v1070
  ![v1071.toNat]

def k5_chk16 (v6 : BitVec 32) (k5_t2 : Fin (k5_t2_loop v6).trips) (k5_t3 : Fin k5_t3_loop.trips) (v1067 : BitVec 32) : Prop :=
  (∀ (k5_h1 : k5_cond1 v6 k5_t2 k5_t3 = 1#1), ∀ (r : Fin 8), ∀ a, (k5_off132 v1067 (BitVec.ofNat 32 (16 * r.val))) a + S16.size a ≤ S40192.size a)
theorem k5_off132_inb : ∀ (v6 : BitVec 32) (k5_t2 : Fin (k5_t2_loop v6).trips) (k5_t3 : Fin k5_t3_loop.trips) (v1067 : BitVec 32) (k5_hw16 : k5_chk16 v6 k5_t2 k5_t3 v1067), ∀ (k5_h1 : k5_cond1 v6 k5_t2 k5_t3 = 1#1), ∀ (r : Fin 8), ∀ a, (k5_off132 v1067 (BitVec.ofNat 32 (16 * r.val))) a + S16.size a ≤ S40192.size a := fun v6 k5_t2 k5_t3 v1067 k5_hw16 k5_h1 r => k5_hw16 k5_h1 r

def k5_off133 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k5_off134 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k5_off135 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k5_off136 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k5_off137 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k5_off138 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k5_off139 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k5_off140 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k5_off141 (v1135 : BitVec 32) (c0_i32_319 : BitVec 32) : Fin 1 → Nat :=
  let v1138 : BitVec 32 := Scalar.addi v1135 c0_i32_319
  let v1139 : Index := Scalar.indexCast v1138
  ![v1139.toNat]

def k5_chk17 (v6 : BitVec 32) (k5_t2 : Fin (k5_t2_loop v6).trips) (k5_t3 : Fin k5_t3_loop.trips) (v1135 : BitVec 32) : Prop :=
  (∀ (k5_h1 : k5_cond1 v6 k5_t2 k5_t3 = 1#1), ∀ (r : Fin 8), ∀ a, (k5_off141 v1135 (BitVec.ofNat 32 (16 * r.val))) a + S16.size a ≤ S40192.size a)
theorem k5_off141_inb : ∀ (v6 : BitVec 32) (k5_t2 : Fin (k5_t2_loop v6).trips) (k5_t3 : Fin k5_t3_loop.trips) (v1135 : BitVec 32) (k5_hw17 : k5_chk17 v6 k5_t2 k5_t3 v1135), ∀ (k5_h1 : k5_cond1 v6 k5_t2 k5_t3 = 1#1), ∀ (r : Fin 8), ∀ a, (k5_off141 v1135 (BitVec.ofNat 32 (16 * r.val))) a + S16.size a ≤ S40192.size a := fun v6 k5_t2 k5_t3 v1135 k5_hw17 k5_h1 r => k5_hw17 k5_h1 r

def k5_off142 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k5_off143 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k5_off144 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k5_off145 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k5_off146 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k5_off147 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k5_off148 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k5_off149 (k5_t4 : Fin k5_t4_loop.trips) : Fin 2 → Nat :=
  let c0_i32_52 : BitVec 32 := 0#32
  let c1_i32_53 : BitVec 32 := 1#32
  let arg14 : BitVec 32 := Scf.iv c0_i32_52 c1_i32_53 k5_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k5_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k5_off150 (i : grid5.Coords) (v6 : BitVec 32) (k5_t5 : Fin (k5_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k5_t5
  let c2048_i32_22 : BitVec 32 := 2048#32
  let v38 : BitVec 32 := Scalar.muli arg12 c2048_i32_22
  ![v1.toNat, v38.toNat]

def k5_chk1 (i : grid5.Coords) (v6 : BitVec 32) : Prop :=
  ((k5_t2_loop v6).OK) ∧
  (∀ k5_t2 : Fin (k5_t2_loop v6).trips, ∀ a, (k5_off3 i v6 k5_t2) a + S1x2048.size a ≤ S32x323584.size a) ∧
  ((k5_t5_loop v6).OK) ∧
  (∀ k5_t5 : Fin (k5_t5_loop v6).trips, ∀ a, (k5_off150 i v6 k5_t5) a + S1x2048.size a ≤ S32x323584.size a)
theorem k5_t2_ok : ∀ (i : grid5.Coords) (v6 : BitVec 32) (k5_hw1 : k5_chk1 i v6), (k5_t2_loop v6).OK := fun i v6 k5_hw1 => k5_hw1.1
theorem k5_off3_inb : ∀ (i : grid5.Coords) (v6 : BitVec 32) (k5_hw1 : k5_chk1 i v6) (k5_t2 : Fin (k5_t2_loop v6).trips), ∀ a, (k5_off3 i v6 k5_t2) a + S1x2048.size a ≤ S32x323584.size a := fun i v6 k5_hw1 k5_t2 => k5_hw1.2.1 k5_t2
theorem k5_t5_ok : ∀ (i : grid5.Coords) (v6 : BitVec 32) (k5_hw1 : k5_chk1 i v6), (k5_t5_loop v6).OK := fun i v6 k5_hw1 => k5_hw1.2.2.1
theorem k5_off150_inb : ∀ (i : grid5.Coords) (v6 : BitVec 32) (k5_hw1 : k5_chk1 i v6) (k5_t5 : Fin (k5_t5_loop v6).trips), ∀ a, (k5_off150 i v6 k5_t5) a + S1x2048.size a ≤ S32x323584.size a := fun i v6 k5_hw1 k5_t5 => k5_hw1.2.2.2 k5_t5

@[reducible] def k5_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k5_off151 (k5_t6 : Fin k5_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k5_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k5_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k5_off152 (k5_t6 : Fin k5_t6_loop.trips) (k5_t7 : Fin k5_t7_loop.trips) : Fin 1 → Nat :=
  let c0_i32_24 : BitVec 32 := 0#32
  let c1_i32_25 : BitVec 32 := 1#32
  let arg13 : BitVec 32 := Scf.iv c0_i32_24 c1_i32_25 k5_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k5_t7
  let c16_i32_56 : BitVec 32 := 16#32
  let v106 : BitVec 32 := Scalar.muli arg14 c16_i32_56
  let v107 : BitVec 32 := Scalar.addi v105 v106
  let v108 : Index := Scalar.indexCast v107
  ![v108.toNat]
def k5_off153 (v115 : BitVec 32) (c0_i32_61 : BitVec 32) : Fin 1 → Nat :=
  let v118 : BitVec 32 := Scalar.addi v115 c0_i32_61
  let v119 : Index := Scalar.indexCast v118
  ![v119.toNat]
def k5_cond2 (v6 : BitVec 32) (k5_t5 : Fin (k5_t5_loop v6).trips) (k5_t6 : Fin k5_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k5_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k5_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k5_chk18 (v6 : BitVec 32) (k5_t5 : Fin (k5_t5_loop v6).trips) (k5_t6 : Fin k5_t6_loop.trips) (v115 : BitVec 32) : Prop :=
  (∀ (k5_h2 : k5_cond2 v6 k5_t5 k5_t6 = 1#1), ∀ (r : Fin 8), ∀ a, (k5_off153 v115 (BitVec.ofNat 32 (16 * r.val))) a + S16.size a ≤ S40192.size a)
theorem k5_off153_inb : ∀ (v6 : BitVec 32) (k5_t5 : Fin (k5_t5_loop v6).trips) (k5_t6 : Fin k5_t6_loop.trips) (v115 : BitVec 32) (k5_hw18 : k5_chk18 v6 k5_t5 k5_t6 v115), ∀ (k5_h2 : k5_cond2 v6 k5_t5 k5_t6 = 1#1), ∀ (r : Fin 8), ∀ a, (k5_off153 v115 (BitVec.ofNat 32 (16 * r.val))) a + S16.size a ≤ S40192.size a := fun v6 k5_t5 k5_t6 v115 k5_hw18 k5_h2 r => k5_hw18 k5_h2 r

def k5_off154 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k5_off155 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k5_off156 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k5_off157 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k5_off158 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k5_off159 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k5_off160 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k5_off161 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k5_off162 (v183 : BitVec 32) (c0_i32_79 : BitVec 32) : Fin 1 → Nat :=
  let v186 : BitVec 32 := Scalar.addi v183 c0_i32_79
  let v187 : Index := Scalar.indexCast v186
  ![v187.toNat]

def k5_chk19 (v6 : BitVec 32) (k5_t5 : Fin (k5_t5_loop v6).trips) (k5_t6 : Fin k5_t6_loop.trips) (v183 : BitVec 32) : Prop :=
  (∀ (k5_h2 : k5_cond2 v6 k5_t5 k5_t6 = 1#1), ∀ (r : Fin 8), ∀ a, (k5_off162 v183 (BitVec.ofNat 32 (16 * r.val))) a + S16.size a ≤ S40192.size a)
theorem k5_off162_inb : ∀ (v6 : BitVec 32) (k5_t5 : Fin (k5_t5_loop v6).trips) (k5_t6 : Fin k5_t6_loop.trips) (v183 : BitVec 32) (k5_hw19 : k5_chk19 v6 k5_t5 k5_t6 v183), ∀ (k5_h2 : k5_cond2 v6 k5_t5 k5_t6 = 1#1), ∀ (r : Fin 8), ∀ a, (k5_off162 v183 (BitVec.ofNat 32 (16 * r.val))) a + S16.size a ≤ S40192.size a := fun v6 k5_t5 k5_t6 v183 k5_hw19 k5_h2 r => k5_hw19 k5_h2 r

def k5_off163 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k5_off164 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k5_off165 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k5_off166 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k5_off167 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k5_off168 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k5_off169 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k5_off170 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k5_off171 (v251 : BitVec 32) (c0_i32_97 : BitVec 32) : Fin 1 → Nat :=
  let v254 : BitVec 32 := Scalar.addi v251 c0_i32_97
  let v255 : Index := Scalar.indexCast v254
  ![v255.toNat]

def k5_chk20 (v6 : BitVec 32) (k5_t5 : Fin (k5_t5_loop v6).trips) (k5_t6 : Fin k5_t6_loop.trips) (v251 : BitVec 32) : Prop :=
  (∀ (k5_h2 : k5_cond2 v6 k5_t5 k5_t6 = 1#1), ∀ (r : Fin 8), ∀ a, (k5_off171 v251 (BitVec.ofNat 32 (16 * r.val))) a + S16.size a ≤ S40192.size a)
theorem k5_off171_inb : ∀ (v6 : BitVec 32) (k5_t5 : Fin (k5_t5_loop v6).trips) (k5_t6 : Fin k5_t6_loop.trips) (v251 : BitVec 32) (k5_hw20 : k5_chk20 v6 k5_t5 k5_t6 v251), ∀ (k5_h2 : k5_cond2 v6 k5_t5 k5_t6 = 1#1), ∀ (r : Fin 8), ∀ a, (k5_off171 v251 (BitVec.ofNat 32 (16 * r.val))) a + S16.size a ≤ S40192.size a := fun v6 k5_t5 k5_t6 v251 k5_hw20 k5_h2 r => k5_hw20 k5_h2 r

def k5_off172 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k5_off173 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k5_off174 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k5_off175 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k5_off176 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k5_off177 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k5_off178 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k5_off179 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k5_off180 (v319 : BitVec 32) (c0_i32_114 : BitVec 32) : Fin 1 → Nat :=
  let v322 : BitVec 32 := Scalar.addi v319 c0_i32_114
  let v323 : Index := Scalar.indexCast v322
  ![v323.toNat]

def k5_chk21 (v6 : BitVec 32) (k5_t5 : Fin (k5_t5_loop v6).trips) (k5_t6 : Fin k5_t6_loop.trips) (v319 : BitVec 32) : Prop :=
  (∀ (k5_h2 : k5_cond2 v6 k5_t5 k5_t6 = 1#1), ∀ (r : Fin 8), ∀ a, (k5_off180 v319 (BitVec.ofNat 32 (16 * r.val))) a + S16.size a ≤ S40192.size a)
theorem k5_off180_inb : ∀ (v6 : BitVec 32) (k5_t5 : Fin (k5_t5_loop v6).trips) (k5_t6 : Fin k5_t6_loop.trips) (v319 : BitVec 32) (k5_hw21 : k5_chk21 v6 k5_t5 k5_t6 v319), ∀ (k5_h2 : k5_cond2 v6 k5_t5 k5_t6 = 1#1), ∀ (r : Fin 8), ∀ a, (k5_off180 v319 (BitVec.ofNat 32 (16 * r.val))) a + S16.size a ≤ S40192.size a := fun v6 k5_t5 k5_t6 v319 k5_hw21 k5_h2 r => k5_hw21 k5_h2 r

def k5_off181 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k5_off182 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k5_off183 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k5_off184 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k5_off185 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k5_off186 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k5_off187 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k5_off188 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k5_off189 (v387 : BitVec 32) (c0_i32_131 : BitVec 32) : Fin 1 → Nat :=
  let v390 : BitVec 32 := Scalar.addi v387 c0_i32_131
  let v391 : Index := Scalar.indexCast v390
  ![v391.toNat]

def k5_chk22 (v6 : BitVec 32) (k5_t5 : Fin (k5_t5_loop v6).trips) (k5_t6 : Fin k5_t6_loop.trips) (v387 : BitVec 32) : Prop :=
  (∀ (k5_h2 : k5_cond2 v6 k5_t5 k5_t6 = 1#1), ∀ (r : Fin 8), ∀ a, (k5_off189 v387 (BitVec.ofNat 32 (16 * r.val))) a + S16.size a ≤ S40192.size a)
theorem k5_off189_inb : ∀ (v6 : BitVec 32) (k5_t5 : Fin (k5_t5_loop v6).trips) (k5_t6 : Fin k5_t6_loop.trips) (v387 : BitVec 32) (k5_hw22 : k5_chk22 v6 k5_t5 k5_t6 v387), ∀ (k5_h2 : k5_cond2 v6 k5_t5 k5_t6 = 1#1), ∀ (r : Fin 8), ∀ a, (k5_off189 v387 (BitVec.ofNat 32 (16 * r.val))) a + S16.size a ≤ S40192.size a := fun v6 k5_t5 k5_t6 v387 k5_hw22 k5_h2 r => k5_hw22 k5_h2 r

def k5_off190 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k5_off191 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k5_off192 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k5_off193 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k5_off194 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k5_off195 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k5_off196 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k5_off197 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k5_off198 (v455 : BitVec 32) (c0_i32_148 : BitVec 32) : Fin 1 → Nat :=
  let v458 : BitVec 32 := Scalar.addi v455 c0_i32_148
  let v459 : Index := Scalar.indexCast v458
  ![v459.toNat]

def k5_chk23 (v6 : BitVec 32) (k5_t5 : Fin (k5_t5_loop v6).trips) (k5_t6 : Fin k5_t6_loop.trips) (v455 : BitVec 32) : Prop :=
  (∀ (k5_h2 : k5_cond2 v6 k5_t5 k5_t6 = 1#1), ∀ (r : Fin 8), ∀ a, (k5_off198 v455 (BitVec.ofNat 32 (16 * r.val))) a + S16.size a ≤ S40192.size a)
theorem k5_off198_inb : ∀ (v6 : BitVec 32) (k5_t5 : Fin (k5_t5_loop v6).trips) (k5_t6 : Fin k5_t6_loop.trips) (v455 : BitVec 32) (k5_hw23 : k5_chk23 v6 k5_t5 k5_t6 v455), ∀ (k5_h2 : k5_cond2 v6 k5_t5 k5_t6 = 1#1), ∀ (r : Fin 8), ∀ a, (k5_off198 v455 (BitVec.ofNat 32 (16 * r.val))) a + S16.size a ≤ S40192.size a := fun v6 k5_t5 k5_t6 v455 k5_hw23 k5_h2 r => k5_hw23 k5_h2 r

def k5_off199 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k5_off200 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k5_off201 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k5_off202 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k5_off203 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k5_off204 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k5_off205 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k5_off206 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k5_off207 (v523 : BitVec 32) (c0_i32_165 : BitVec 32) : Fin 1 → Nat :=
  let v526 : BitVec 32 := Scalar.addi v523 c0_i32_165
  let v527 : Index := Scalar.indexCast v526
  ![v527.toNat]

def k5_chk24 (v6 : BitVec 32) (k5_t5 : Fin (k5_t5_loop v6).trips) (k5_t6 : Fin k5_t6_loop.trips) (v523 : BitVec 32) : Prop :=
  (∀ (k5_h2 : k5_cond2 v6 k5_t5 k5_t6 = 1#1), ∀ (r : Fin 8), ∀ a, (k5_off207 v523 (BitVec.ofNat 32 (16 * r.val))) a + S16.size a ≤ S40192.size a)
theorem k5_off207_inb : ∀ (v6 : BitVec 32) (k5_t5 : Fin (k5_t5_loop v6).trips) (k5_t6 : Fin k5_t6_loop.trips) (v523 : BitVec 32) (k5_hw24 : k5_chk24 v6 k5_t5 k5_t6 v523), ∀ (k5_h2 : k5_cond2 v6 k5_t5 k5_t6 = 1#1), ∀ (r : Fin 8), ∀ a, (k5_off207 v523 (BitVec.ofNat 32 (16 * r.val))) a + S16.size a ≤ S40192.size a := fun v6 k5_t5 k5_t6 v523 k5_hw24 k5_h2 r => k5_hw24 k5_h2 r

def k5_off208 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k5_off209 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k5_off210 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k5_off211 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k5_off212 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k5_off213 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k5_off214 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k5_off215 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k5_off216 (v591 : BitVec 32) (c0_i32_182 : BitVec 32) : Fin 1 → Nat :=
  let v594 : BitVec 32 := Scalar.addi v591 c0_i32_182
  let v595 : Index := Scalar.indexCast v594
  ![v595.toNat]

def k5_chk25 (v6 : BitVec 32) (k5_t5 : Fin (k5_t5_loop v6).trips) (k5_t6 : Fin k5_t6_loop.trips) (v591 : BitVec 32) : Prop :=
  (∀ (k5_h2 : k5_cond2 v6 k5_t5 k5_t6 = 1#1), ∀ (r : Fin 8), ∀ a, (k5_off216 v591 (BitVec.ofNat 32 (16 * r.val))) a + S16.size a ≤ S40192.size a)
theorem k5_off216_inb : ∀ (v6 : BitVec 32) (k5_t5 : Fin (k5_t5_loop v6).trips) (k5_t6 : Fin k5_t6_loop.trips) (v591 : BitVec 32) (k5_hw25 : k5_chk25 v6 k5_t5 k5_t6 v591), ∀ (k5_h2 : k5_cond2 v6 k5_t5 k5_t6 = 1#1), ∀ (r : Fin 8), ∀ a, (k5_off216 v591 (BitVec.ofNat 32 (16 * r.val))) a + S16.size a ≤ S40192.size a := fun v6 k5_t5 k5_t6 v591 k5_hw25 k5_h2 r => k5_hw25 k5_h2 r

def k5_off217 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k5_off218 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k5_off219 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k5_off220 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k5_off221 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k5_off222 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k5_off223 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k5_off224 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k5_off225 (v659 : BitVec 32) (c0_i32_200 : BitVec 32) : Fin 1 → Nat :=
  let v662 : BitVec 32 := Scalar.addi v659 c0_i32_200
  let v663 : Index := Scalar.indexCast v662
  ![v663.toNat]

def k5_chk26 (v6 : BitVec 32) (k5_t5 : Fin (k5_t5_loop v6).trips) (k5_t6 : Fin k5_t6_loop.trips) (v659 : BitVec 32) : Prop :=
  (∀ (k5_h2 : k5_cond2 v6 k5_t5 k5_t6 = 1#1), ∀ (r : Fin 8), ∀ a, (k5_off225 v659 (BitVec.ofNat 32 (16 * r.val))) a + S16.size a ≤ S40192.size a)
theorem k5_off225_inb : ∀ (v6 : BitVec 32) (k5_t5 : Fin (k5_t5_loop v6).trips) (k5_t6 : Fin k5_t6_loop.trips) (v659 : BitVec 32) (k5_hw26 : k5_chk26 v6 k5_t5 k5_t6 v659), ∀ (k5_h2 : k5_cond2 v6 k5_t5 k5_t6 = 1#1), ∀ (r : Fin 8), ∀ a, (k5_off225 v659 (BitVec.ofNat 32 (16 * r.val))) a + S16.size a ≤ S40192.size a := fun v6 k5_t5 k5_t6 v659 k5_hw26 k5_h2 r => k5_hw26 k5_h2 r

def k5_off226 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k5_off227 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k5_off228 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k5_off229 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k5_off230 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k5_off231 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k5_off232 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k5_off233 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k5_off234 (v727 : BitVec 32) (c0_i32_217 : BitVec 32) : Fin 1 → Nat :=
  let v730 : BitVec 32 := Scalar.addi v727 c0_i32_217
  let v731 : Index := Scalar.indexCast v730
  ![v731.toNat]

def k5_chk27 (v6 : BitVec 32) (k5_t5 : Fin (k5_t5_loop v6).trips) (k5_t6 : Fin k5_t6_loop.trips) (v727 : BitVec 32) : Prop :=
  (∀ (k5_h2 : k5_cond2 v6 k5_t5 k5_t6 = 1#1), ∀ (r : Fin 8), ∀ a, (k5_off234 v727 (BitVec.ofNat 32 (16 * r.val))) a + S16.size a ≤ S40192.size a)
theorem k5_off234_inb : ∀ (v6 : BitVec 32) (k5_t5 : Fin (k5_t5_loop v6).trips) (k5_t6 : Fin k5_t6_loop.trips) (v727 : BitVec 32) (k5_hw27 : k5_chk27 v6 k5_t5 k5_t6 v727), ∀ (k5_h2 : k5_cond2 v6 k5_t5 k5_t6 = 1#1), ∀ (r : Fin 8), ∀ a, (k5_off234 v727 (BitVec.ofNat 32 (16 * r.val))) a + S16.size a ≤ S40192.size a := fun v6 k5_t5 k5_t6 v727 k5_hw27 k5_h2 r => k5_hw27 k5_h2 r

def k5_off235 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k5_off236 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k5_off237 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k5_off238 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k5_off239 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k5_off240 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k5_off241 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k5_off242 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k5_off243 (v795 : BitVec 32) (c0_i32_234 : BitVec 32) : Fin 1 → Nat :=
  let v798 : BitVec 32 := Scalar.addi v795 c0_i32_234
  let v799 : Index := Scalar.indexCast v798
  ![v799.toNat]

def k5_chk28 (v6 : BitVec 32) (k5_t5 : Fin (k5_t5_loop v6).trips) (k5_t6 : Fin k5_t6_loop.trips) (v795 : BitVec 32) : Prop :=
  (∀ (k5_h2 : k5_cond2 v6 k5_t5 k5_t6 = 1#1), ∀ (r : Fin 8), ∀ a, (k5_off243 v795 (BitVec.ofNat 32 (16 * r.val))) a + S16.size a ≤ S40192.size a)
theorem k5_off243_inb : ∀ (v6 : BitVec 32) (k5_t5 : Fin (k5_t5_loop v6).trips) (k5_t6 : Fin k5_t6_loop.trips) (v795 : BitVec 32) (k5_hw28 : k5_chk28 v6 k5_t5 k5_t6 v795), ∀ (k5_h2 : k5_cond2 v6 k5_t5 k5_t6 = 1#1), ∀ (r : Fin 8), ∀ a, (k5_off243 v795 (BitVec.ofNat 32 (16 * r.val))) a + S16.size a ≤ S40192.size a := fun v6 k5_t5 k5_t6 v795 k5_hw28 k5_h2 r => k5_hw28 k5_h2 r

def k5_off244 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k5_off245 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k5_off246 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k5_off247 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k5_off248 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k5_off249 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k5_off250 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k5_off251 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k5_off252 (v863 : BitVec 32) (c0_i32_251 : BitVec 32) : Fin 1 → Nat :=
  let v866 : BitVec 32 := Scalar.addi v863 c0_i32_251
  let v867 : Index := Scalar.indexCast v866
  ![v867.toNat]

def k5_chk29 (v6 : BitVec 32) (k5_t5 : Fin (k5_t5_loop v6).trips) (k5_t6 : Fin k5_t6_loop.trips) (v863 : BitVec 32) : Prop :=
  (∀ (k5_h2 : k5_cond2 v6 k5_t5 k5_t6 = 1#1), ∀ (r : Fin 8), ∀ a, (k5_off252 v863 (BitVec.ofNat 32 (16 * r.val))) a + S16.size a ≤ S40192.size a)
theorem k5_off252_inb : ∀ (v6 : BitVec 32) (k5_t5 : Fin (k5_t5_loop v6).trips) (k5_t6 : Fin k5_t6_loop.trips) (v863 : BitVec 32) (k5_hw29 : k5_chk29 v6 k5_t5 k5_t6 v863), ∀ (k5_h2 : k5_cond2 v6 k5_t5 k5_t6 = 1#1), ∀ (r : Fin 8), ∀ a, (k5_off252 v863 (BitVec.ofNat 32 (16 * r.val))) a + S16.size a ≤ S40192.size a := fun v6 k5_t5 k5_t6 v863 k5_hw29 k5_h2 r => k5_hw29 k5_h2 r

def k5_off253 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k5_off254 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k5_off255 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k5_off256 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k5_off257 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k5_off258 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k5_off259 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k5_off260 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k5_off261 (v931 : BitVec 32) (c0_i32_268 : BitVec 32) : Fin 1 → Nat :=
  let v934 : BitVec 32 := Scalar.addi v931 c0_i32_268
  let v935 : Index := Scalar.indexCast v934
  ![v935.toNat]

def k5_chk30 (v6 : BitVec 32) (k5_t5 : Fin (k5_t5_loop v6).trips) (k5_t6 : Fin k5_t6_loop.trips) (v931 : BitVec 32) : Prop :=
  (∀ (k5_h2 : k5_cond2 v6 k5_t5 k5_t6 = 1#1), ∀ (r : Fin 8), ∀ a, (k5_off261 v931 (BitVec.ofNat 32 (16 * r.val))) a + S16.size a ≤ S40192.size a)
theorem k5_off261_inb : ∀ (v6 : BitVec 32) (k5_t5 : Fin (k5_t5_loop v6).trips) (k5_t6 : Fin k5_t6_loop.trips) (v931 : BitVec 32) (k5_hw30 : k5_chk30 v6 k5_t5 k5_t6 v931), ∀ (k5_h2 : k5_cond2 v6 k5_t5 k5_t6 = 1#1), ∀ (r : Fin 8), ∀ a, (k5_off261 v931 (BitVec.ofNat 32 (16 * r.val))) a + S16.size a ≤ S40192.size a := fun v6 k5_t5 k5_t6 v931 k5_hw30 k5_h2 r => k5_hw30 k5_h2 r

def k5_off262 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k5_off263 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k5_off264 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k5_off265 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k5_off266 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k5_off267 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k5_off268 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k5_off269 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k5_off270 (v999 : BitVec 32) (c0_i32_285 : BitVec 32) : Fin 1 → Nat :=
  let v1002 : BitVec 32 := Scalar.addi v999 c0_i32_285
  let v1003 : Index := Scalar.indexCast v1002
  ![v1003.toNat]

def k5_chk31 (v6 : BitVec 32) (k5_t5 : Fin (k5_t5_loop v6).trips) (k5_t6 : Fin k5_t6_loop.trips) (v999 : BitVec 32) : Prop :=
  (∀ (k5_h2 : k5_cond2 v6 k5_t5 k5_t6 = 1#1), ∀ (r : Fin 8), ∀ a, (k5_off270 v999 (BitVec.ofNat 32 (16 * r.val))) a + S16.size a ≤ S40192.size a)
theorem k5_off270_inb : ∀ (v6 : BitVec 32) (k5_t5 : Fin (k5_t5_loop v6).trips) (k5_t6 : Fin k5_t6_loop.trips) (v999 : BitVec 32) (k5_hw31 : k5_chk31 v6 k5_t5 k5_t6 v999), ∀ (k5_h2 : k5_cond2 v6 k5_t5 k5_t6 = 1#1), ∀ (r : Fin 8), ∀ a, (k5_off270 v999 (BitVec.ofNat 32 (16 * r.val))) a + S16.size a ≤ S40192.size a := fun v6 k5_t5 k5_t6 v999 k5_hw31 k5_h2 r => k5_hw31 k5_h2 r

def k5_off271 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k5_off272 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k5_off273 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k5_off274 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k5_off275 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k5_off276 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k5_off277 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k5_off278 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k5_off279 (v1067 : BitVec 32) (c0_i32_302 : BitVec 32) : Fin 1 → Nat :=
  let v1070 : BitVec 32 := Scalar.addi v1067 c0_i32_302
  let v1071 : Index := Scalar.indexCast v1070
  ![v1071.toNat]

def k5_chk32 (v6 : BitVec 32) (k5_t5 : Fin (k5_t5_loop v6).trips) (k5_t6 : Fin k5_t6_loop.trips) (v1067 : BitVec 32) : Prop :=
  (∀ (k5_h2 : k5_cond2 v6 k5_t5 k5_t6 = 1#1), ∀ (r : Fin 8), ∀ a, (k5_off279 v1067 (BitVec.ofNat 32 (16 * r.val))) a + S16.size a ≤ S40192.size a)
theorem k5_off279_inb : ∀ (v6 : BitVec 32) (k5_t5 : Fin (k5_t5_loop v6).trips) (k5_t6 : Fin k5_t6_loop.trips) (v1067 : BitVec 32) (k5_hw32 : k5_chk32 v6 k5_t5 k5_t6 v1067), ∀ (k5_h2 : k5_cond2 v6 k5_t5 k5_t6 = 1#1), ∀ (r : Fin 8), ∀ a, (k5_off279 v1067 (BitVec.ofNat 32 (16 * r.val))) a + S16.size a ≤ S40192.size a := fun v6 k5_t5 k5_t6 v1067 k5_hw32 k5_h2 r => k5_hw32 k5_h2 r

def k5_off280 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k5_off281 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k5_off282 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k5_off283 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k5_off284 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k5_off285 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k5_off286 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k5_off287 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k5_off288 (v1135 : BitVec 32) (c0_i32_319 : BitVec 32) : Fin 1 → Nat :=
  let v1138 : BitVec 32 := Scalar.addi v1135 c0_i32_319
  let v1139 : Index := Scalar.indexCast v1138
  ![v1139.toNat]

def k5_chk33 (v6 : BitVec 32) (k5_t5 : Fin (k5_t5_loop v6).trips) (k5_t6 : Fin k5_t6_loop.trips) (v1135 : BitVec 32) : Prop :=
  (∀ (k5_h2 : k5_cond2 v6 k5_t5 k5_t6 = 1#1), ∀ (r : Fin 8), ∀ a, (k5_off288 v1135 (BitVec.ofNat 32 (16 * r.val))) a + S16.size a ≤ S40192.size a)
theorem k5_off288_inb : ∀ (v6 : BitVec 32) (k5_t5 : Fin (k5_t5_loop v6).trips) (k5_t6 : Fin k5_t6_loop.trips) (v1135 : BitVec 32) (k5_hw33 : k5_chk33 v6 k5_t5 k5_t6 v1135), ∀ (k5_h2 : k5_cond2 v6 k5_t5 k5_t6 = 1#1), ∀ (r : Fin 8), ∀ a, (k5_off288 v1135 (BitVec.ofNat 32 (16 * r.val))) a + S16.size a ≤ S40192.size a := fun v6 k5_t5 k5_t6 v1135 k5_hw33 k5_h2 r => k5_hw33 k5_h2 r

def k5_off289 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k5_off290 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k5_off291 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k5_off292 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k5_off293 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k5_off294 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k5_off295 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k5_off296 (k5_t7 : Fin k5_t7_loop.trips) : Fin 2 → Nat :=
  let c0_i32_52 : BitVec 32 := 0#32
  let c1_i32_53 : BitVec 32 := 1#32
  let arg14 : BitVec 32 := Scf.iv c0_i32_52 c1_i32_53 k5_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k5_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k5_off297 (k5_t8 : Fin k5_t8_loop.trips) : Fin 1 → Nat :=
  let c0_i32_16 : BitVec 32 := 0#32
  let c1_i32_17 : BitVec 32 := 1#32
  let arg12 : BitVec 32 := Scf.iv c0_i32_16 c1_i32_17 k5_t8
  let c16_i32 : BitVec 32 := 16#32
  let v38 : BitVec 32 := Scalar.muli arg12 c16_i32
  let v39 : Index := Scalar.indexCast v38
  ![v39.toNat]
def k5_cond3 (i : grid5.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k5_off298 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid6 : Pipeline.Grid := ⟨2, ![2, 16], ![false, false]⟩

@[reducible] def k6_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k6_off1 (k6_t1 : Fin k6_t1_loop.trips) : Fin 1 → Nat :=
  let c0_i32_0 : BitVec 32 := 0#32
  let c1_i32 : BitVec 32 := 1#32
  let arg12 : BitVec 32 := Scf.iv c0_i32_0 c1_i32 k6_t1
  let c16_i32 : BitVec 32 := 16#32
  let v38 : BitVec 32 := Scalar.muli arg12 c16_i32
  let v39 : Index := Scalar.indexCast v38
  ![v39.toNat]
def k6_off2 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k6_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k6_off3 (i : grid6.Coords) (v6 : BitVec 32) (k6_t2 : Fin (k6_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k6_t2
  let c2048_i32_22 : BitVec 32 := 2048#32
  let v38 : BitVec 32 := Scalar.muli arg12 c2048_i32_22
  ![v1.toNat, v38.toNat]
@[reducible] def k6_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k6_off4 (k6_t3 : Fin k6_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k6_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k6_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k6_off5 (k6_t3 : Fin k6_t3_loop.trips) (k6_t4 : Fin k6_t4_loop.trips) : Fin 1 → Nat :=
  let c0_i32_24 : BitVec 32 := 0#32
  let c1_i32_25 : BitVec 32 := 1#32
  let arg13 : BitVec 32 := Scf.iv c0_i32_24 c1_i32_25 k6_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k6_t4
  let c16_i32_56 : BitVec 32 := 16#32
  let v106 : BitVec 32 := Scalar.muli arg14 c16_i32_56
  let v107 : BitVec 32 := Scalar.addi v105 v106
  let v108 : Index := Scalar.indexCast v107
  ![v108.toNat]
def k6_off6 (v115 : BitVec 32) (c0_i32_61 : BitVec 32) : Fin 1 → Nat :=
  let v118 : BitVec 32 := Scalar.addi v115 c0_i32_61
  let v119 : Index := Scalar.indexCast v118
  ![v119.toNat]
def k6_cond1 (v6 : BitVec 32) (k6_t2 : Fin (k6_t2_loop v6).trips) (k6_t3 : Fin k6_t3_loop.trips) : BitVec 1 :=
  let c0_i32_11 : BitVec 32 := 0#32
  let c1_i32_13 : BitVec 32 := 1#32
  let arg12 : BitVec 32 := Scf.iv c0_i32_11 c1_i32_13 k6_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k6_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k6_chk2 (v6 : BitVec 32) (k6_t2 : Fin (k6_t2_loop v6).trips) (k6_t3 : Fin k6_t3_loop.trips) (v115 : BitVec 32) : Prop :=
  (∀ (k6_h1 : k6_cond1 v6 k6_t2 k6_t3 = 1#1), ∀ (r : Fin 8), ∀ a, (k6_off6 v115 (BitVec.ofNat 32 (16 * r.val))) a + S16.size a ≤ S40192.size a)
theorem k6_off6_inb : ∀ (v6 : BitVec 32) (k6_t2 : Fin (k6_t2_loop v6).trips) (k6_t3 : Fin k6_t3_loop.trips) (v115 : BitVec 32) (k6_hw2 : k6_chk2 v6 k6_t2 k6_t3 v115), ∀ (k6_h1 : k6_cond1 v6 k6_t2 k6_t3 = 1#1), ∀ (r : Fin 8), ∀ a, (k6_off6 v115 (BitVec.ofNat 32 (16 * r.val))) a + S16.size a ≤ S40192.size a := fun v6 k6_t2 k6_t3 v115 k6_hw2 k6_h1 r => k6_hw2 k6_h1 r

def k6_off7 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k6_off8 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k6_off9 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k6_off10 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k6_off11 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k6_off12 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k6_off13 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k6_off14 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k6_off15 (v183 : BitVec 32) (c0_i32_79 : BitVec 32) : Fin 1 → Nat :=
  let v186 : BitVec 32 := Scalar.addi v183 c0_i32_79
  let v187 : Index := Scalar.indexCast v186
  ![v187.toNat]

def k6_chk3 (v6 : BitVec 32) (k6_t2 : Fin (k6_t2_loop v6).trips) (k6_t3 : Fin k6_t3_loop.trips) (v183 : BitVec 32) : Prop :=
  (∀ (k6_h1 : k6_cond1 v6 k6_t2 k6_t3 = 1#1), ∀ (r : Fin 8), ∀ a, (k6_off15 v183 (BitVec.ofNat 32 (16 * r.val))) a + S16.size a ≤ S40192.size a)
theorem k6_off15_inb : ∀ (v6 : BitVec 32) (k6_t2 : Fin (k6_t2_loop v6).trips) (k6_t3 : Fin k6_t3_loop.trips) (v183 : BitVec 32) (k6_hw3 : k6_chk3 v6 k6_t2 k6_t3 v183), ∀ (k6_h1 : k6_cond1 v6 k6_t2 k6_t3 = 1#1), ∀ (r : Fin 8), ∀ a, (k6_off15 v183 (BitVec.ofNat 32 (16 * r.val))) a + S16.size a ≤ S40192.size a := fun v6 k6_t2 k6_t3 v183 k6_hw3 k6_h1 r => k6_hw3 k6_h1 r

def k6_off16 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k6_off17 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k6_off18 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k6_off19 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k6_off20 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k6_off21 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k6_off22 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k6_off23 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k6_off24 (v251 : BitVec 32) (c0_i32_97 : BitVec 32) : Fin 1 → Nat :=
  let v254 : BitVec 32 := Scalar.addi v251 c0_i32_97
  let v255 : Index := Scalar.indexCast v254
  ![v255.toNat]

def k6_chk4 (v6 : BitVec 32) (k6_t2 : Fin (k6_t2_loop v6).trips) (k6_t3 : Fin k6_t3_loop.trips) (v251 : BitVec 32) : Prop :=
  (∀ (k6_h1 : k6_cond1 v6 k6_t2 k6_t3 = 1#1), ∀ (r : Fin 8), ∀ a, (k6_off24 v251 (BitVec.ofNat 32 (16 * r.val))) a + S16.size a ≤ S40192.size a)
theorem k6_off24_inb : ∀ (v6 : BitVec 32) (k6_t2 : Fin (k6_t2_loop v6).trips) (k6_t3 : Fin k6_t3_loop.trips) (v251 : BitVec 32) (k6_hw4 : k6_chk4 v6 k6_t2 k6_t3 v251), ∀ (k6_h1 : k6_cond1 v6 k6_t2 k6_t3 = 1#1), ∀ (r : Fin 8), ∀ a, (k6_off24 v251 (BitVec.ofNat 32 (16 * r.val))) a + S16.size a ≤ S40192.size a := fun v6 k6_t2 k6_t3 v251 k6_hw4 k6_h1 r => k6_hw4 k6_h1 r

def k6_off25 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k6_off26 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k6_off27 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k6_off28 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k6_off29 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k6_off30 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k6_off31 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k6_off32 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k6_off33 (v319 : BitVec 32) (c0_i32_114 : BitVec 32) : Fin 1 → Nat :=
  let v322 : BitVec 32 := Scalar.addi v319 c0_i32_114
  let v323 : Index := Scalar.indexCast v322
  ![v323.toNat]

def k6_chk5 (v6 : BitVec 32) (k6_t2 : Fin (k6_t2_loop v6).trips) (k6_t3 : Fin k6_t3_loop.trips) (v319 : BitVec 32) : Prop :=
  (∀ (k6_h1 : k6_cond1 v6 k6_t2 k6_t3 = 1#1), ∀ (r : Fin 8), ∀ a, (k6_off33 v319 (BitVec.ofNat 32 (16 * r.val))) a + S16.size a ≤ S40192.size a)
theorem k6_off33_inb : ∀ (v6 : BitVec 32) (k6_t2 : Fin (k6_t2_loop v6).trips) (k6_t3 : Fin k6_t3_loop.trips) (v319 : BitVec 32) (k6_hw5 : k6_chk5 v6 k6_t2 k6_t3 v319), ∀ (k6_h1 : k6_cond1 v6 k6_t2 k6_t3 = 1#1), ∀ (r : Fin 8), ∀ a, (k6_off33 v319 (BitVec.ofNat 32 (16 * r.val))) a + S16.size a ≤ S40192.size a := fun v6 k6_t2 k6_t3 v319 k6_hw5 k6_h1 r => k6_hw5 k6_h1 r

def k6_off34 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k6_off35 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k6_off36 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k6_off37 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k6_off38 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k6_off39 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k6_off40 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k6_off41 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k6_off42 (v387 : BitVec 32) (c0_i32_131 : BitVec 32) : Fin 1 → Nat :=
  let v390 : BitVec 32 := Scalar.addi v387 c0_i32_131
  let v391 : Index := Scalar.indexCast v390
  ![v391.toNat]

def k6_chk6 (v6 : BitVec 32) (k6_t2 : Fin (k6_t2_loop v6).trips) (k6_t3 : Fin k6_t3_loop.trips) (v387 : BitVec 32) : Prop :=
  (∀ (k6_h1 : k6_cond1 v6 k6_t2 k6_t3 = 1#1), ∀ (r : Fin 8), ∀ a, (k6_off42 v387 (BitVec.ofNat 32 (16 * r.val))) a + S16.size a ≤ S40192.size a)
theorem k6_off42_inb : ∀ (v6 : BitVec 32) (k6_t2 : Fin (k6_t2_loop v6).trips) (k6_t3 : Fin k6_t3_loop.trips) (v387 : BitVec 32) (k6_hw6 : k6_chk6 v6 k6_t2 k6_t3 v387), ∀ (k6_h1 : k6_cond1 v6 k6_t2 k6_t3 = 1#1), ∀ (r : Fin 8), ∀ a, (k6_off42 v387 (BitVec.ofNat 32 (16 * r.val))) a + S16.size a ≤ S40192.size a := fun v6 k6_t2 k6_t3 v387 k6_hw6 k6_h1 r => k6_hw6 k6_h1 r

def k6_off43 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k6_off44 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k6_off45 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k6_off46 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k6_off47 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k6_off48 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k6_off49 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k6_off50 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k6_off51 (v455 : BitVec 32) (c0_i32_148 : BitVec 32) : Fin 1 → Nat :=
  let v458 : BitVec 32 := Scalar.addi v455 c0_i32_148
  let v459 : Index := Scalar.indexCast v458
  ![v459.toNat]

def k6_chk7 (v6 : BitVec 32) (k6_t2 : Fin (k6_t2_loop v6).trips) (k6_t3 : Fin k6_t3_loop.trips) (v455 : BitVec 32) : Prop :=
  (∀ (k6_h1 : k6_cond1 v6 k6_t2 k6_t3 = 1#1), ∀ (r : Fin 8), ∀ a, (k6_off51 v455 (BitVec.ofNat 32 (16 * r.val))) a + S16.size a ≤ S40192.size a)
theorem k6_off51_inb : ∀ (v6 : BitVec 32) (k6_t2 : Fin (k6_t2_loop v6).trips) (k6_t3 : Fin k6_t3_loop.trips) (v455 : BitVec 32) (k6_hw7 : k6_chk7 v6 k6_t2 k6_t3 v455), ∀ (k6_h1 : k6_cond1 v6 k6_t2 k6_t3 = 1#1), ∀ (r : Fin 8), ∀ a, (k6_off51 v455 (BitVec.ofNat 32 (16 * r.val))) a + S16.size a ≤ S40192.size a := fun v6 k6_t2 k6_t3 v455 k6_hw7 k6_h1 r => k6_hw7 k6_h1 r

def k6_off52 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k6_off53 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k6_off54 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k6_off55 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k6_off56 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k6_off57 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k6_off58 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k6_off59 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k6_off60 (v523 : BitVec 32) (c0_i32_165 : BitVec 32) : Fin 1 → Nat :=
  let v526 : BitVec 32 := Scalar.addi v523 c0_i32_165
  let v527 : Index := Scalar.indexCast v526
  ![v527.toNat]

def k6_chk8 (v6 : BitVec 32) (k6_t2 : Fin (k6_t2_loop v6).trips) (k6_t3 : Fin k6_t3_loop.trips) (v523 : BitVec 32) : Prop :=
  (∀ (k6_h1 : k6_cond1 v6 k6_t2 k6_t3 = 1#1), ∀ (r : Fin 8), ∀ a, (k6_off60 v523 (BitVec.ofNat 32 (16 * r.val))) a + S16.size a ≤ S40192.size a)
theorem k6_off60_inb : ∀ (v6 : BitVec 32) (k6_t2 : Fin (k6_t2_loop v6).trips) (k6_t3 : Fin k6_t3_loop.trips) (v523 : BitVec 32) (k6_hw8 : k6_chk8 v6 k6_t2 k6_t3 v523), ∀ (k6_h1 : k6_cond1 v6 k6_t2 k6_t3 = 1#1), ∀ (r : Fin 8), ∀ a, (k6_off60 v523 (BitVec.ofNat 32 (16 * r.val))) a + S16.size a ≤ S40192.size a := fun v6 k6_t2 k6_t3 v523 k6_hw8 k6_h1 r => k6_hw8 k6_h1 r

def k6_off61 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k6_off62 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k6_off63 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k6_off64 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k6_off65 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k6_off66 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k6_off67 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k6_off68 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k6_off69 (v591 : BitVec 32) (c0_i32_182 : BitVec 32) : Fin 1 → Nat :=
  let v594 : BitVec 32 := Scalar.addi v591 c0_i32_182
  let v595 : Index := Scalar.indexCast v594
  ![v595.toNat]

def k6_chk9 (v6 : BitVec 32) (k6_t2 : Fin (k6_t2_loop v6).trips) (k6_t3 : Fin k6_t3_loop.trips) (v591 : BitVec 32) : Prop :=
  (∀ (k6_h1 : k6_cond1 v6 k6_t2 k6_t3 = 1#1), ∀ (r : Fin 8), ∀ a, (k6_off69 v591 (BitVec.ofNat 32 (16 * r.val))) a + S16.size a ≤ S40192.size a)
theorem k6_off69_inb : ∀ (v6 : BitVec 32) (k6_t2 : Fin (k6_t2_loop v6).trips) (k6_t3 : Fin k6_t3_loop.trips) (v591 : BitVec 32) (k6_hw9 : k6_chk9 v6 k6_t2 k6_t3 v591), ∀ (k6_h1 : k6_cond1 v6 k6_t2 k6_t3 = 1#1), ∀ (r : Fin 8), ∀ a, (k6_off69 v591 (BitVec.ofNat 32 (16 * r.val))) a + S16.size a ≤ S40192.size a := fun v6 k6_t2 k6_t3 v591 k6_hw9 k6_h1 r => k6_hw9 k6_h1 r

def k6_off70 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k6_off71 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k6_off72 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k6_off73 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k6_off74 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k6_off75 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k6_off76 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k6_off77 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k6_off78 (v659 : BitVec 32) (c0_i32_200 : BitVec 32) : Fin 1 → Nat :=
  let v662 : BitVec 32 := Scalar.addi v659 c0_i32_200
  let v663 : Index := Scalar.indexCast v662
  ![v663.toNat]

def k6_chk10 (v6 : BitVec 32) (k6_t2 : Fin (k6_t2_loop v6).trips) (k6_t3 : Fin k6_t3_loop.trips) (v659 : BitVec 32) : Prop :=
  (∀ (k6_h1 : k6_cond1 v6 k6_t2 k6_t3 = 1#1), ∀ (r : Fin 8), ∀ a, (k6_off78 v659 (BitVec.ofNat 32 (16 * r.val))) a + S16.size a ≤ S40192.size a)
theorem k6_off78_inb : ∀ (v6 : BitVec 32) (k6_t2 : Fin (k6_t2_loop v6).trips) (k6_t3 : Fin k6_t3_loop.trips) (v659 : BitVec 32) (k6_hw10 : k6_chk10 v6 k6_t2 k6_t3 v659), ∀ (k6_h1 : k6_cond1 v6 k6_t2 k6_t3 = 1#1), ∀ (r : Fin 8), ∀ a, (k6_off78 v659 (BitVec.ofNat 32 (16 * r.val))) a + S16.size a ≤ S40192.size a := fun v6 k6_t2 k6_t3 v659 k6_hw10 k6_h1 r => k6_hw10 k6_h1 r

def k6_off79 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k6_off80 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k6_off81 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k6_off82 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k6_off83 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k6_off84 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k6_off85 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k6_off86 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k6_off87 (v727 : BitVec 32) (c0_i32_217 : BitVec 32) : Fin 1 → Nat :=
  let v730 : BitVec 32 := Scalar.addi v727 c0_i32_217
  let v731 : Index := Scalar.indexCast v730
  ![v731.toNat]

def k6_chk11 (v6 : BitVec 32) (k6_t2 : Fin (k6_t2_loop v6).trips) (k6_t3 : Fin k6_t3_loop.trips) (v727 : BitVec 32) : Prop :=
  (∀ (k6_h1 : k6_cond1 v6 k6_t2 k6_t3 = 1#1), ∀ (r : Fin 8), ∀ a, (k6_off87 v727 (BitVec.ofNat 32 (16 * r.val))) a + S16.size a ≤ S40192.size a)
theorem k6_off87_inb : ∀ (v6 : BitVec 32) (k6_t2 : Fin (k6_t2_loop v6).trips) (k6_t3 : Fin k6_t3_loop.trips) (v727 : BitVec 32) (k6_hw11 : k6_chk11 v6 k6_t2 k6_t3 v727), ∀ (k6_h1 : k6_cond1 v6 k6_t2 k6_t3 = 1#1), ∀ (r : Fin 8), ∀ a, (k6_off87 v727 (BitVec.ofNat 32 (16 * r.val))) a + S16.size a ≤ S40192.size a := fun v6 k6_t2 k6_t3 v727 k6_hw11 k6_h1 r => k6_hw11 k6_h1 r

def k6_off88 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k6_off89 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k6_off90 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k6_off91 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k6_off92 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k6_off93 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k6_off94 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k6_off95 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k6_off96 (v795 : BitVec 32) (c0_i32_234 : BitVec 32) : Fin 1 → Nat :=
  let v798 : BitVec 32 := Scalar.addi v795 c0_i32_234
  let v799 : Index := Scalar.indexCast v798
  ![v799.toNat]

def k6_chk12 (v6 : BitVec 32) (k6_t2 : Fin (k6_t2_loop v6).trips) (k6_t3 : Fin k6_t3_loop.trips) (v795 : BitVec 32) : Prop :=
  (∀ (k6_h1 : k6_cond1 v6 k6_t2 k6_t3 = 1#1), ∀ (r : Fin 8), ∀ a, (k6_off96 v795 (BitVec.ofNat 32 (16 * r.val))) a + S16.size a ≤ S40192.size a)
theorem k6_off96_inb : ∀ (v6 : BitVec 32) (k6_t2 : Fin (k6_t2_loop v6).trips) (k6_t3 : Fin k6_t3_loop.trips) (v795 : BitVec 32) (k6_hw12 : k6_chk12 v6 k6_t2 k6_t3 v795), ∀ (k6_h1 : k6_cond1 v6 k6_t2 k6_t3 = 1#1), ∀ (r : Fin 8), ∀ a, (k6_off96 v795 (BitVec.ofNat 32 (16 * r.val))) a + S16.size a ≤ S40192.size a := fun v6 k6_t2 k6_t3 v795 k6_hw12 k6_h1 r => k6_hw12 k6_h1 r

def k6_off97 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k6_off98 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k6_off99 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k6_off100 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k6_off101 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k6_off102 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k6_off103 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k6_off104 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k6_off105 (v863 : BitVec 32) (c0_i32_251 : BitVec 32) : Fin 1 → Nat :=
  let v866 : BitVec 32 := Scalar.addi v863 c0_i32_251
  let v867 : Index := Scalar.indexCast v866
  ![v867.toNat]

def k6_chk13 (v6 : BitVec 32) (k6_t2 : Fin (k6_t2_loop v6).trips) (k6_t3 : Fin k6_t3_loop.trips) (v863 : BitVec 32) : Prop :=
  (∀ (k6_h1 : k6_cond1 v6 k6_t2 k6_t3 = 1#1), ∀ (r : Fin 8), ∀ a, (k6_off105 v863 (BitVec.ofNat 32 (16 * r.val))) a + S16.size a ≤ S40192.size a)
theorem k6_off105_inb : ∀ (v6 : BitVec 32) (k6_t2 : Fin (k6_t2_loop v6).trips) (k6_t3 : Fin k6_t3_loop.trips) (v863 : BitVec 32) (k6_hw13 : k6_chk13 v6 k6_t2 k6_t3 v863), ∀ (k6_h1 : k6_cond1 v6 k6_t2 k6_t3 = 1#1), ∀ (r : Fin 8), ∀ a, (k6_off105 v863 (BitVec.ofNat 32 (16 * r.val))) a + S16.size a ≤ S40192.size a := fun v6 k6_t2 k6_t3 v863 k6_hw13 k6_h1 r => k6_hw13 k6_h1 r

def k6_off106 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k6_off107 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k6_off108 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k6_off109 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k6_off110 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k6_off111 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k6_off112 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k6_off113 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k6_off114 (v931 : BitVec 32) (c0_i32_268 : BitVec 32) : Fin 1 → Nat :=
  let v934 : BitVec 32 := Scalar.addi v931 c0_i32_268
  let v935 : Index := Scalar.indexCast v934
  ![v935.toNat]

def k6_chk14 (v6 : BitVec 32) (k6_t2 : Fin (k6_t2_loop v6).trips) (k6_t3 : Fin k6_t3_loop.trips) (v931 : BitVec 32) : Prop :=
  (∀ (k6_h1 : k6_cond1 v6 k6_t2 k6_t3 = 1#1), ∀ (r : Fin 8), ∀ a, (k6_off114 v931 (BitVec.ofNat 32 (16 * r.val))) a + S16.size a ≤ S40192.size a)
theorem k6_off114_inb : ∀ (v6 : BitVec 32) (k6_t2 : Fin (k6_t2_loop v6).trips) (k6_t3 : Fin k6_t3_loop.trips) (v931 : BitVec 32) (k6_hw14 : k6_chk14 v6 k6_t2 k6_t3 v931), ∀ (k6_h1 : k6_cond1 v6 k6_t2 k6_t3 = 1#1), ∀ (r : Fin 8), ∀ a, (k6_off114 v931 (BitVec.ofNat 32 (16 * r.val))) a + S16.size a ≤ S40192.size a := fun v6 k6_t2 k6_t3 v931 k6_hw14 k6_h1 r => k6_hw14 k6_h1 r

def k6_off115 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k6_off116 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k6_off117 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k6_off118 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k6_off119 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k6_off120 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k6_off121 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k6_off122 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k6_off123 (v999 : BitVec 32) (c0_i32_285 : BitVec 32) : Fin 1 → Nat :=
  let v1002 : BitVec 32 := Scalar.addi v999 c0_i32_285
  let v1003 : Index := Scalar.indexCast v1002
  ![v1003.toNat]

def k6_chk15 (v6 : BitVec 32) (k6_t2 : Fin (k6_t2_loop v6).trips) (k6_t3 : Fin k6_t3_loop.trips) (v999 : BitVec 32) : Prop :=
  (∀ (k6_h1 : k6_cond1 v6 k6_t2 k6_t3 = 1#1), ∀ (r : Fin 8), ∀ a, (k6_off123 v999 (BitVec.ofNat 32 (16 * r.val))) a + S16.size a ≤ S40192.size a)
theorem k6_off123_inb : ∀ (v6 : BitVec 32) (k6_t2 : Fin (k6_t2_loop v6).trips) (k6_t3 : Fin k6_t3_loop.trips) (v999 : BitVec 32) (k6_hw15 : k6_chk15 v6 k6_t2 k6_t3 v999), ∀ (k6_h1 : k6_cond1 v6 k6_t2 k6_t3 = 1#1), ∀ (r : Fin 8), ∀ a, (k6_off123 v999 (BitVec.ofNat 32 (16 * r.val))) a + S16.size a ≤ S40192.size a := fun v6 k6_t2 k6_t3 v999 k6_hw15 k6_h1 r => k6_hw15 k6_h1 r

def k6_off124 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k6_off125 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k6_off126 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k6_off127 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k6_off128 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k6_off129 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k6_off130 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k6_off131 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k6_off132 (v1067 : BitVec 32) (c0_i32_302 : BitVec 32) : Fin 1 → Nat :=
  let v1070 : BitVec 32 := Scalar.addi v1067 c0_i32_302
  let v1071 : Index := Scalar.indexCast v1070
  ![v1071.toNat]

def k6_chk16 (v6 : BitVec 32) (k6_t2 : Fin (k6_t2_loop v6).trips) (k6_t3 : Fin k6_t3_loop.trips) (v1067 : BitVec 32) : Prop :=
  (∀ (k6_h1 : k6_cond1 v6 k6_t2 k6_t3 = 1#1), ∀ (r : Fin 8), ∀ a, (k6_off132 v1067 (BitVec.ofNat 32 (16 * r.val))) a + S16.size a ≤ S40192.size a)
theorem k6_off132_inb : ∀ (v6 : BitVec 32) (k6_t2 : Fin (k6_t2_loop v6).trips) (k6_t3 : Fin k6_t3_loop.trips) (v1067 : BitVec 32) (k6_hw16 : k6_chk16 v6 k6_t2 k6_t3 v1067), ∀ (k6_h1 : k6_cond1 v6 k6_t2 k6_t3 = 1#1), ∀ (r : Fin 8), ∀ a, (k6_off132 v1067 (BitVec.ofNat 32 (16 * r.val))) a + S16.size a ≤ S40192.size a := fun v6 k6_t2 k6_t3 v1067 k6_hw16 k6_h1 r => k6_hw16 k6_h1 r

def k6_off133 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k6_off134 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k6_off135 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k6_off136 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k6_off137 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k6_off138 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k6_off139 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k6_off140 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k6_off141 (v1135 : BitVec 32) (c0_i32_319 : BitVec 32) : Fin 1 → Nat :=
  let v1138 : BitVec 32 := Scalar.addi v1135 c0_i32_319
  let v1139 : Index := Scalar.indexCast v1138
  ![v1139.toNat]

def k6_chk17 (v6 : BitVec 32) (k6_t2 : Fin (k6_t2_loop v6).trips) (k6_t3 : Fin k6_t3_loop.trips) (v1135 : BitVec 32) : Prop :=
  (∀ (k6_h1 : k6_cond1 v6 k6_t2 k6_t3 = 1#1), ∀ (r : Fin 8), ∀ a, (k6_off141 v1135 (BitVec.ofNat 32 (16 * r.val))) a + S16.size a ≤ S40192.size a)
theorem k6_off141_inb : ∀ (v6 : BitVec 32) (k6_t2 : Fin (k6_t2_loop v6).trips) (k6_t3 : Fin k6_t3_loop.trips) (v1135 : BitVec 32) (k6_hw17 : k6_chk17 v6 k6_t2 k6_t3 v1135), ∀ (k6_h1 : k6_cond1 v6 k6_t2 k6_t3 = 1#1), ∀ (r : Fin 8), ∀ a, (k6_off141 v1135 (BitVec.ofNat 32 (16 * r.val))) a + S16.size a ≤ S40192.size a := fun v6 k6_t2 k6_t3 v1135 k6_hw17 k6_h1 r => k6_hw17 k6_h1 r

def k6_off142 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k6_off143 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k6_off144 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k6_off145 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k6_off146 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k6_off147 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k6_off148 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k6_off149 (k6_t4 : Fin k6_t4_loop.trips) : Fin 2 → Nat :=
  let c0_i32_52 : BitVec 32 := 0#32
  let c1_i32_53 : BitVec 32 := 1#32
  let arg14 : BitVec 32 := Scf.iv c0_i32_52 c1_i32_53 k6_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k6_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k6_off150 (i : grid6.Coords) (v6 : BitVec 32) (k6_t5 : Fin (k6_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k6_t5
  let c2048_i32_22 : BitVec 32 := 2048#32
  let v38 : BitVec 32 := Scalar.muli arg12 c2048_i32_22
  ![v1.toNat, v38.toNat]

def k6_chk1 (i : grid6.Coords) (v6 : BitVec 32) : Prop :=
  ((k6_t2_loop v6).OK) ∧
  (∀ k6_t2 : Fin (k6_t2_loop v6).trips, ∀ a, (k6_off3 i v6 k6_t2) a + S1x2048.size a ≤ S32x323584.size a) ∧
  ((k6_t5_loop v6).OK) ∧
  (∀ k6_t5 : Fin (k6_t5_loop v6).trips, ∀ a, (k6_off150 i v6 k6_t5) a + S1x2048.size a ≤ S32x323584.size a)
theorem k6_t2_ok : ∀ (i : grid6.Coords) (v6 : BitVec 32) (k6_hw1 : k6_chk1 i v6), (k6_t2_loop v6).OK := fun i v6 k6_hw1 => k6_hw1.1
theorem k6_off3_inb : ∀ (i : grid6.Coords) (v6 : BitVec 32) (k6_hw1 : k6_chk1 i v6) (k6_t2 : Fin (k6_t2_loop v6).trips), ∀ a, (k6_off3 i v6 k6_t2) a + S1x2048.size a ≤ S32x323584.size a := fun i v6 k6_hw1 k6_t2 => k6_hw1.2.1 k6_t2
theorem k6_t5_ok : ∀ (i : grid6.Coords) (v6 : BitVec 32) (k6_hw1 : k6_chk1 i v6), (k6_t5_loop v6).OK := fun i v6 k6_hw1 => k6_hw1.2.2.1
theorem k6_off150_inb : ∀ (i : grid6.Coords) (v6 : BitVec 32) (k6_hw1 : k6_chk1 i v6) (k6_t5 : Fin (k6_t5_loop v6).trips), ∀ a, (k6_off150 i v6 k6_t5) a + S1x2048.size a ≤ S32x323584.size a := fun i v6 k6_hw1 k6_t5 => k6_hw1.2.2.2 k6_t5

@[reducible] def k6_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k6_off151 (k6_t6 : Fin k6_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k6_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k6_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k6_off152 (k6_t6 : Fin k6_t6_loop.trips) (k6_t7 : Fin k6_t7_loop.trips) : Fin 1 → Nat :=
  let c0_i32_24 : BitVec 32 := 0#32
  let c1_i32_25 : BitVec 32 := 1#32
  let arg13 : BitVec 32 := Scf.iv c0_i32_24 c1_i32_25 k6_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k6_t7
  let c16_i32_56 : BitVec 32 := 16#32
  let v106 : BitVec 32 := Scalar.muli arg14 c16_i32_56
  let v107 : BitVec 32 := Scalar.addi v105 v106
  let v108 : Index := Scalar.indexCast v107
  ![v108.toNat]
def k6_off153 (v115 : BitVec 32) (c0_i32_61 : BitVec 32) : Fin 1 → Nat :=
  let v118 : BitVec 32 := Scalar.addi v115 c0_i32_61
  let v119 : Index := Scalar.indexCast v118
  ![v119.toNat]
def k6_cond2 (v6 : BitVec 32) (k6_t5 : Fin (k6_t5_loop v6).trips) (k6_t6 : Fin k6_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k6_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k6_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k6_chk18 (v6 : BitVec 32) (k6_t5 : Fin (k6_t5_loop v6).trips) (k6_t6 : Fin k6_t6_loop.trips) (v115 : BitVec 32) : Prop :=
  (∀ (k6_h2 : k6_cond2 v6 k6_t5 k6_t6 = 1#1), ∀ (r : Fin 8), ∀ a, (k6_off153 v115 (BitVec.ofNat 32 (16 * r.val))) a + S16.size a ≤ S40192.size a)
theorem k6_off153_inb : ∀ (v6 : BitVec 32) (k6_t5 : Fin (k6_t5_loop v6).trips) (k6_t6 : Fin k6_t6_loop.trips) (v115 : BitVec 32) (k6_hw18 : k6_chk18 v6 k6_t5 k6_t6 v115), ∀ (k6_h2 : k6_cond2 v6 k6_t5 k6_t6 = 1#1), ∀ (r : Fin 8), ∀ a, (k6_off153 v115 (BitVec.ofNat 32 (16 * r.val))) a + S16.size a ≤ S40192.size a := fun v6 k6_t5 k6_t6 v115 k6_hw18 k6_h2 r => k6_hw18 k6_h2 r

def k6_off154 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k6_off155 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k6_off156 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k6_off157 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k6_off158 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k6_off159 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k6_off160 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k6_off161 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k6_off162 (v183 : BitVec 32) (c0_i32_79 : BitVec 32) : Fin 1 → Nat :=
  let v186 : BitVec 32 := Scalar.addi v183 c0_i32_79
  let v187 : Index := Scalar.indexCast v186
  ![v187.toNat]

def k6_chk19 (v6 : BitVec 32) (k6_t5 : Fin (k6_t5_loop v6).trips) (k6_t6 : Fin k6_t6_loop.trips) (v183 : BitVec 32) : Prop :=
  (∀ (k6_h2 : k6_cond2 v6 k6_t5 k6_t6 = 1#1), ∀ (r : Fin 8), ∀ a, (k6_off162 v183 (BitVec.ofNat 32 (16 * r.val))) a + S16.size a ≤ S40192.size a)
theorem k6_off162_inb : ∀ (v6 : BitVec 32) (k6_t5 : Fin (k6_t5_loop v6).trips) (k6_t6 : Fin k6_t6_loop.trips) (v183 : BitVec 32) (k6_hw19 : k6_chk19 v6 k6_t5 k6_t6 v183), ∀ (k6_h2 : k6_cond2 v6 k6_t5 k6_t6 = 1#1), ∀ (r : Fin 8), ∀ a, (k6_off162 v183 (BitVec.ofNat 32 (16 * r.val))) a + S16.size a ≤ S40192.size a := fun v6 k6_t5 k6_t6 v183 k6_hw19 k6_h2 r => k6_hw19 k6_h2 r

def k6_off163 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k6_off164 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k6_off165 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k6_off166 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k6_off167 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k6_off168 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k6_off169 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k6_off170 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k6_off171 (v251 : BitVec 32) (c0_i32_97 : BitVec 32) : Fin 1 → Nat :=
  let v254 : BitVec 32 := Scalar.addi v251 c0_i32_97
  let v255 : Index := Scalar.indexCast v254
  ![v255.toNat]

def k6_chk20 (v6 : BitVec 32) (k6_t5 : Fin (k6_t5_loop v6).trips) (k6_t6 : Fin k6_t6_loop.trips) (v251 : BitVec 32) : Prop :=
  (∀ (k6_h2 : k6_cond2 v6 k6_t5 k6_t6 = 1#1), ∀ (r : Fin 8), ∀ a, (k6_off171 v251 (BitVec.ofNat 32 (16 * r.val))) a + S16.size a ≤ S40192.size a)
theorem k6_off171_inb : ∀ (v6 : BitVec 32) (k6_t5 : Fin (k6_t5_loop v6).trips) (k6_t6 : Fin k6_t6_loop.trips) (v251 : BitVec 32) (k6_hw20 : k6_chk20 v6 k6_t5 k6_t6 v251), ∀ (k6_h2 : k6_cond2 v6 k6_t5 k6_t6 = 1#1), ∀ (r : Fin 8), ∀ a, (k6_off171 v251 (BitVec.ofNat 32 (16 * r.val))) a + S16.size a ≤ S40192.size a := fun v6 k6_t5 k6_t6 v251 k6_hw20 k6_h2 r => k6_hw20 k6_h2 r

def k6_off172 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k6_off173 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k6_off174 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k6_off175 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k6_off176 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k6_off177 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k6_off178 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k6_off179 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k6_off180 (v319 : BitVec 32) (c0_i32_114 : BitVec 32) : Fin 1 → Nat :=
  let v322 : BitVec 32 := Scalar.addi v319 c0_i32_114
  let v323 : Index := Scalar.indexCast v322
  ![v323.toNat]

def k6_chk21 (v6 : BitVec 32) (k6_t5 : Fin (k6_t5_loop v6).trips) (k6_t6 : Fin k6_t6_loop.trips) (v319 : BitVec 32) : Prop :=
  (∀ (k6_h2 : k6_cond2 v6 k6_t5 k6_t6 = 1#1), ∀ (r : Fin 8), ∀ a, (k6_off180 v319 (BitVec.ofNat 32 (16 * r.val))) a + S16.size a ≤ S40192.size a)
theorem k6_off180_inb : ∀ (v6 : BitVec 32) (k6_t5 : Fin (k6_t5_loop v6).trips) (k6_t6 : Fin k6_t6_loop.trips) (v319 : BitVec 32) (k6_hw21 : k6_chk21 v6 k6_t5 k6_t6 v319), ∀ (k6_h2 : k6_cond2 v6 k6_t5 k6_t6 = 1#1), ∀ (r : Fin 8), ∀ a, (k6_off180 v319 (BitVec.ofNat 32 (16 * r.val))) a + S16.size a ≤ S40192.size a := fun v6 k6_t5 k6_t6 v319 k6_hw21 k6_h2 r => k6_hw21 k6_h2 r

def k6_off181 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k6_off182 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k6_off183 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k6_off184 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k6_off185 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k6_off186 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k6_off187 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k6_off188 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k6_off189 (v387 : BitVec 32) (c0_i32_131 : BitVec 32) : Fin 1 → Nat :=
  let v390 : BitVec 32 := Scalar.addi v387 c0_i32_131
  let v391 : Index := Scalar.indexCast v390
  ![v391.toNat]

def k6_chk22 (v6 : BitVec 32) (k6_t5 : Fin (k6_t5_loop v6).trips) (k6_t6 : Fin k6_t6_loop.trips) (v387 : BitVec 32) : Prop :=
  (∀ (k6_h2 : k6_cond2 v6 k6_t5 k6_t6 = 1#1), ∀ (r : Fin 8), ∀ a, (k6_off189 v387 (BitVec.ofNat 32 (16 * r.val))) a + S16.size a ≤ S40192.size a)
theorem k6_off189_inb : ∀ (v6 : BitVec 32) (k6_t5 : Fin (k6_t5_loop v6).trips) (k6_t6 : Fin k6_t6_loop.trips) (v387 : BitVec 32) (k6_hw22 : k6_chk22 v6 k6_t5 k6_t6 v387), ∀ (k6_h2 : k6_cond2 v6 k6_t5 k6_t6 = 1#1), ∀ (r : Fin 8), ∀ a, (k6_off189 v387 (BitVec.ofNat 32 (16 * r.val))) a + S16.size a ≤ S40192.size a := fun v6 k6_t5 k6_t6 v387 k6_hw22 k6_h2 r => k6_hw22 k6_h2 r

def k6_off190 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k6_off191 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k6_off192 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k6_off193 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k6_off194 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k6_off195 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k6_off196 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k6_off197 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k6_off198 (v455 : BitVec 32) (c0_i32_148 : BitVec 32) : Fin 1 → Nat :=
  let v458 : BitVec 32 := Scalar.addi v455 c0_i32_148
  let v459 : Index := Scalar.indexCast v458
  ![v459.toNat]

def k6_chk23 (v6 : BitVec 32) (k6_t5 : Fin (k6_t5_loop v6).trips) (k6_t6 : Fin k6_t6_loop.trips) (v455 : BitVec 32) : Prop :=
  (∀ (k6_h2 : k6_cond2 v6 k6_t5 k6_t6 = 1#1), ∀ (r : Fin 8), ∀ a, (k6_off198 v455 (BitVec.ofNat 32 (16 * r.val))) a + S16.size a ≤ S40192.size a)
theorem k6_off198_inb : ∀ (v6 : BitVec 32) (k6_t5 : Fin (k6_t5_loop v6).trips) (k6_t6 : Fin k6_t6_loop.trips) (v455 : BitVec 32) (k6_hw23 : k6_chk23 v6 k6_t5 k6_t6 v455), ∀ (k6_h2 : k6_cond2 v6 k6_t5 k6_t6 = 1#1), ∀ (r : Fin 8), ∀ a, (k6_off198 v455 (BitVec.ofNat 32 (16 * r.val))) a + S16.size a ≤ S40192.size a := fun v6 k6_t5 k6_t6 v455 k6_hw23 k6_h2 r => k6_hw23 k6_h2 r

def k6_off199 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k6_off200 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k6_off201 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k6_off202 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k6_off203 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k6_off204 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k6_off205 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k6_off206 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k6_off207 (v523 : BitVec 32) (c0_i32_165 : BitVec 32) : Fin 1 → Nat :=
  let v526 : BitVec 32 := Scalar.addi v523 c0_i32_165
  let v527 : Index := Scalar.indexCast v526
  ![v527.toNat]

def k6_chk24 (v6 : BitVec 32) (k6_t5 : Fin (k6_t5_loop v6).trips) (k6_t6 : Fin k6_t6_loop.trips) (v523 : BitVec 32) : Prop :=
  (∀ (k6_h2 : k6_cond2 v6 k6_t5 k6_t6 = 1#1), ∀ (r : Fin 8), ∀ a, (k6_off207 v523 (BitVec.ofNat 32 (16 * r.val))) a + S16.size a ≤ S40192.size a)
theorem k6_off207_inb : ∀ (v6 : BitVec 32) (k6_t5 : Fin (k6_t5_loop v6).trips) (k6_t6 : Fin k6_t6_loop.trips) (v523 : BitVec 32) (k6_hw24 : k6_chk24 v6 k6_t5 k6_t6 v523), ∀ (k6_h2 : k6_cond2 v6 k6_t5 k6_t6 = 1#1), ∀ (r : Fin 8), ∀ a, (k6_off207 v523 (BitVec.ofNat 32 (16 * r.val))) a + S16.size a ≤ S40192.size a := fun v6 k6_t5 k6_t6 v523 k6_hw24 k6_h2 r => k6_hw24 k6_h2 r

def k6_off208 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k6_off209 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k6_off210 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k6_off211 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k6_off212 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k6_off213 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k6_off214 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k6_off215 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k6_off216 (v591 : BitVec 32) (c0_i32_182 : BitVec 32) : Fin 1 → Nat :=
  let v594 : BitVec 32 := Scalar.addi v591 c0_i32_182
  let v595 : Index := Scalar.indexCast v594
  ![v595.toNat]

def k6_chk25 (v6 : BitVec 32) (k6_t5 : Fin (k6_t5_loop v6).trips) (k6_t6 : Fin k6_t6_loop.trips) (v591 : BitVec 32) : Prop :=
  (∀ (k6_h2 : k6_cond2 v6 k6_t5 k6_t6 = 1#1), ∀ (r : Fin 8), ∀ a, (k6_off216 v591 (BitVec.ofNat 32 (16 * r.val))) a + S16.size a ≤ S40192.size a)
theorem k6_off216_inb : ∀ (v6 : BitVec 32) (k6_t5 : Fin (k6_t5_loop v6).trips) (k6_t6 : Fin k6_t6_loop.trips) (v591 : BitVec 32) (k6_hw25 : k6_chk25 v6 k6_t5 k6_t6 v591), ∀ (k6_h2 : k6_cond2 v6 k6_t5 k6_t6 = 1#1), ∀ (r : Fin 8), ∀ a, (k6_off216 v591 (BitVec.ofNat 32 (16 * r.val))) a + S16.size a ≤ S40192.size a := fun v6 k6_t5 k6_t6 v591 k6_hw25 k6_h2 r => k6_hw25 k6_h2 r

def k6_off217 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k6_off218 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k6_off219 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k6_off220 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k6_off221 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k6_off222 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k6_off223 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k6_off224 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k6_off225 (v659 : BitVec 32) (c0_i32_200 : BitVec 32) : Fin 1 → Nat :=
  let v662 : BitVec 32 := Scalar.addi v659 c0_i32_200
  let v663 : Index := Scalar.indexCast v662
  ![v663.toNat]

def k6_chk26 (v6 : BitVec 32) (k6_t5 : Fin (k6_t5_loop v6).trips) (k6_t6 : Fin k6_t6_loop.trips) (v659 : BitVec 32) : Prop :=
  (∀ (k6_h2 : k6_cond2 v6 k6_t5 k6_t6 = 1#1), ∀ (r : Fin 8), ∀ a, (k6_off225 v659 (BitVec.ofNat 32 (16 * r.val))) a + S16.size a ≤ S40192.size a)
theorem k6_off225_inb : ∀ (v6 : BitVec 32) (k6_t5 : Fin (k6_t5_loop v6).trips) (k6_t6 : Fin k6_t6_loop.trips) (v659 : BitVec 32) (k6_hw26 : k6_chk26 v6 k6_t5 k6_t6 v659), ∀ (k6_h2 : k6_cond2 v6 k6_t5 k6_t6 = 1#1), ∀ (r : Fin 8), ∀ a, (k6_off225 v659 (BitVec.ofNat 32 (16 * r.val))) a + S16.size a ≤ S40192.size a := fun v6 k6_t5 k6_t6 v659 k6_hw26 k6_h2 r => k6_hw26 k6_h2 r

def k6_off226 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k6_off227 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k6_off228 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k6_off229 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k6_off230 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k6_off231 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k6_off232 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k6_off233 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k6_off234 (v727 : BitVec 32) (c0_i32_217 : BitVec 32) : Fin 1 → Nat :=
  let v730 : BitVec 32 := Scalar.addi v727 c0_i32_217
  let v731 : Index := Scalar.indexCast v730
  ![v731.toNat]

def k6_chk27 (v6 : BitVec 32) (k6_t5 : Fin (k6_t5_loop v6).trips) (k6_t6 : Fin k6_t6_loop.trips) (v727 : BitVec 32) : Prop :=
  (∀ (k6_h2 : k6_cond2 v6 k6_t5 k6_t6 = 1#1), ∀ (r : Fin 8), ∀ a, (k6_off234 v727 (BitVec.ofNat 32 (16 * r.val))) a + S16.size a ≤ S40192.size a)
theorem k6_off234_inb : ∀ (v6 : BitVec 32) (k6_t5 : Fin (k6_t5_loop v6).trips) (k6_t6 : Fin k6_t6_loop.trips) (v727 : BitVec 32) (k6_hw27 : k6_chk27 v6 k6_t5 k6_t6 v727), ∀ (k6_h2 : k6_cond2 v6 k6_t5 k6_t6 = 1#1), ∀ (r : Fin 8), ∀ a, (k6_off234 v727 (BitVec.ofNat 32 (16 * r.val))) a + S16.size a ≤ S40192.size a := fun v6 k6_t5 k6_t6 v727 k6_hw27 k6_h2 r => k6_hw27 k6_h2 r

def k6_off235 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k6_off236 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k6_off237 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k6_off238 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k6_off239 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k6_off240 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k6_off241 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k6_off242 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k6_off243 (v795 : BitVec 32) (c0_i32_234 : BitVec 32) : Fin 1 → Nat :=
  let v798 : BitVec 32 := Scalar.addi v795 c0_i32_234
  let v799 : Index := Scalar.indexCast v798
  ![v799.toNat]

def k6_chk28 (v6 : BitVec 32) (k6_t5 : Fin (k6_t5_loop v6).trips) (k6_t6 : Fin k6_t6_loop.trips) (v795 : BitVec 32) : Prop :=
  (∀ (k6_h2 : k6_cond2 v6 k6_t5 k6_t6 = 1#1), ∀ (r : Fin 8), ∀ a, (k6_off243 v795 (BitVec.ofNat 32 (16 * r.val))) a + S16.size a ≤ S40192.size a)
theorem k6_off243_inb : ∀ (v6 : BitVec 32) (k6_t5 : Fin (k6_t5_loop v6).trips) (k6_t6 : Fin k6_t6_loop.trips) (v795 : BitVec 32) (k6_hw28 : k6_chk28 v6 k6_t5 k6_t6 v795), ∀ (k6_h2 : k6_cond2 v6 k6_t5 k6_t6 = 1#1), ∀ (r : Fin 8), ∀ a, (k6_off243 v795 (BitVec.ofNat 32 (16 * r.val))) a + S16.size a ≤ S40192.size a := fun v6 k6_t5 k6_t6 v795 k6_hw28 k6_h2 r => k6_hw28 k6_h2 r

def k6_off244 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k6_off245 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k6_off246 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k6_off247 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k6_off248 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k6_off249 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k6_off250 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k6_off251 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k6_off252 (v863 : BitVec 32) (c0_i32_251 : BitVec 32) : Fin 1 → Nat :=
  let v866 : BitVec 32 := Scalar.addi v863 c0_i32_251
  let v867 : Index := Scalar.indexCast v866
  ![v867.toNat]

def k6_chk29 (v6 : BitVec 32) (k6_t5 : Fin (k6_t5_loop v6).trips) (k6_t6 : Fin k6_t6_loop.trips) (v863 : BitVec 32) : Prop :=
  (∀ (k6_h2 : k6_cond2 v6 k6_t5 k6_t6 = 1#1), ∀ (r : Fin 8), ∀ a, (k6_off252 v863 (BitVec.ofNat 32 (16 * r.val))) a + S16.size a ≤ S40192.size a)
theorem k6_off252_inb : ∀ (v6 : BitVec 32) (k6_t5 : Fin (k6_t5_loop v6).trips) (k6_t6 : Fin k6_t6_loop.trips) (v863 : BitVec 32) (k6_hw29 : k6_chk29 v6 k6_t5 k6_t6 v863), ∀ (k6_h2 : k6_cond2 v6 k6_t5 k6_t6 = 1#1), ∀ (r : Fin 8), ∀ a, (k6_off252 v863 (BitVec.ofNat 32 (16 * r.val))) a + S16.size a ≤ S40192.size a := fun v6 k6_t5 k6_t6 v863 k6_hw29 k6_h2 r => k6_hw29 k6_h2 r

def k6_off253 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k6_off254 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k6_off255 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k6_off256 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k6_off257 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k6_off258 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k6_off259 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k6_off260 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k6_off261 (v931 : BitVec 32) (c0_i32_268 : BitVec 32) : Fin 1 → Nat :=
  let v934 : BitVec 32 := Scalar.addi v931 c0_i32_268
  let v935 : Index := Scalar.indexCast v934
  ![v935.toNat]

def k6_chk30 (v6 : BitVec 32) (k6_t5 : Fin (k6_t5_loop v6).trips) (k6_t6 : Fin k6_t6_loop.trips) (v931 : BitVec 32) : Prop :=
  (∀ (k6_h2 : k6_cond2 v6 k6_t5 k6_t6 = 1#1), ∀ (r : Fin 8), ∀ a, (k6_off261 v931 (BitVec.ofNat 32 (16 * r.val))) a + S16.size a ≤ S40192.size a)
theorem k6_off261_inb : ∀ (v6 : BitVec 32) (k6_t5 : Fin (k6_t5_loop v6).trips) (k6_t6 : Fin k6_t6_loop.trips) (v931 : BitVec 32) (k6_hw30 : k6_chk30 v6 k6_t5 k6_t6 v931), ∀ (k6_h2 : k6_cond2 v6 k6_t5 k6_t6 = 1#1), ∀ (r : Fin 8), ∀ a, (k6_off261 v931 (BitVec.ofNat 32 (16 * r.val))) a + S16.size a ≤ S40192.size a := fun v6 k6_t5 k6_t6 v931 k6_hw30 k6_h2 r => k6_hw30 k6_h2 r

def k6_off262 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k6_off263 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k6_off264 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k6_off265 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k6_off266 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k6_off267 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k6_off268 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k6_off269 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k6_off270 (v999 : BitVec 32) (c0_i32_285 : BitVec 32) : Fin 1 → Nat :=
  let v1002 : BitVec 32 := Scalar.addi v999 c0_i32_285
  let v1003 : Index := Scalar.indexCast v1002
  ![v1003.toNat]

def k6_chk31 (v6 : BitVec 32) (k6_t5 : Fin (k6_t5_loop v6).trips) (k6_t6 : Fin k6_t6_loop.trips) (v999 : BitVec 32) : Prop :=
  (∀ (k6_h2 : k6_cond2 v6 k6_t5 k6_t6 = 1#1), ∀ (r : Fin 8), ∀ a, (k6_off270 v999 (BitVec.ofNat 32 (16 * r.val))) a + S16.size a ≤ S40192.size a)
theorem k6_off270_inb : ∀ (v6 : BitVec 32) (k6_t5 : Fin (k6_t5_loop v6).trips) (k6_t6 : Fin k6_t6_loop.trips) (v999 : BitVec 32) (k6_hw31 : k6_chk31 v6 k6_t5 k6_t6 v999), ∀ (k6_h2 : k6_cond2 v6 k6_t5 k6_t6 = 1#1), ∀ (r : Fin 8), ∀ a, (k6_off270 v999 (BitVec.ofNat 32 (16 * r.val))) a + S16.size a ≤ S40192.size a := fun v6 k6_t5 k6_t6 v999 k6_hw31 k6_h2 r => k6_hw31 k6_h2 r

def k6_off271 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k6_off272 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k6_off273 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k6_off274 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k6_off275 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k6_off276 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k6_off277 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k6_off278 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k6_off279 (v1067 : BitVec 32) (c0_i32_302 : BitVec 32) : Fin 1 → Nat :=
  let v1070 : BitVec 32 := Scalar.addi v1067 c0_i32_302
  let v1071 : Index := Scalar.indexCast v1070
  ![v1071.toNat]

def k6_chk32 (v6 : BitVec 32) (k6_t5 : Fin (k6_t5_loop v6).trips) (k6_t6 : Fin k6_t6_loop.trips) (v1067 : BitVec 32) : Prop :=
  (∀ (k6_h2 : k6_cond2 v6 k6_t5 k6_t6 = 1#1), ∀ (r : Fin 8), ∀ a, (k6_off279 v1067 (BitVec.ofNat 32 (16 * r.val))) a + S16.size a ≤ S40192.size a)
theorem k6_off279_inb : ∀ (v6 : BitVec 32) (k6_t5 : Fin (k6_t5_loop v6).trips) (k6_t6 : Fin k6_t6_loop.trips) (v1067 : BitVec 32) (k6_hw32 : k6_chk32 v6 k6_t5 k6_t6 v1067), ∀ (k6_h2 : k6_cond2 v6 k6_t5 k6_t6 = 1#1), ∀ (r : Fin 8), ∀ a, (k6_off279 v1067 (BitVec.ofNat 32 (16 * r.val))) a + S16.size a ≤ S40192.size a := fun v6 k6_t5 k6_t6 v1067 k6_hw32 k6_h2 r => k6_hw32 k6_h2 r

def k6_off280 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k6_off281 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k6_off282 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k6_off283 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k6_off284 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k6_off285 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k6_off286 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k6_off287 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k6_off288 (v1135 : BitVec 32) (c0_i32_319 : BitVec 32) : Fin 1 → Nat :=
  let v1138 : BitVec 32 := Scalar.addi v1135 c0_i32_319
  let v1139 : Index := Scalar.indexCast v1138
  ![v1139.toNat]

def k6_chk33 (v6 : BitVec 32) (k6_t5 : Fin (k6_t5_loop v6).trips) (k6_t6 : Fin k6_t6_loop.trips) (v1135 : BitVec 32) : Prop :=
  (∀ (k6_h2 : k6_cond2 v6 k6_t5 k6_t6 = 1#1), ∀ (r : Fin 8), ∀ a, (k6_off288 v1135 (BitVec.ofNat 32 (16 * r.val))) a + S16.size a ≤ S40192.size a)
theorem k6_off288_inb : ∀ (v6 : BitVec 32) (k6_t5 : Fin (k6_t5_loop v6).trips) (k6_t6 : Fin k6_t6_loop.trips) (v1135 : BitVec 32) (k6_hw33 : k6_chk33 v6 k6_t5 k6_t6 v1135), ∀ (k6_h2 : k6_cond2 v6 k6_t5 k6_t6 = 1#1), ∀ (r : Fin 8), ∀ a, (k6_off288 v1135 (BitVec.ofNat 32 (16 * r.val))) a + S16.size a ≤ S40192.size a := fun v6 k6_t5 k6_t6 v1135 k6_hw33 k6_h2 r => k6_hw33 k6_h2 r

def k6_off289 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k6_off290 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k6_off291 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k6_off292 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k6_off293 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k6_off294 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k6_off295 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k6_off296 (k6_t7 : Fin k6_t7_loop.trips) : Fin 2 → Nat :=
  let c0_i32_52 : BitVec 32 := 0#32
  let c1_i32_53 : BitVec 32 := 1#32
  let arg14 : BitVec 32 := Scf.iv c0_i32_52 c1_i32_53 k6_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k6_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k6_off297 (k6_t8 : Fin k6_t8_loop.trips) : Fin 1 → Nat :=
  let c0_i32_16 : BitVec 32 := 0#32
  let c1_i32_17 : BitVec 32 := 1#32
  let arg12 : BitVec 32 := Scf.iv c0_i32_16 c1_i32_17 k6_t8
  let c16_i32 : BitVec 32 := 16#32
  let v38 : BitVec 32 := Scalar.muli arg12 c16_i32
  let v39 : Index := Scalar.indexCast v38
  ![v39.toNat]
def k6_cond3 (i : grid6.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k6_off298 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid7 : Pipeline.Grid := ⟨2, ![2, 16], ![false, false]⟩

@[reducible] def k7_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k7_off1 (k7_t1 : Fin k7_t1_loop.trips) : Fin 1 → Nat :=
  let c0_i32_0 : BitVec 32 := 0#32
  let c1_i32 : BitVec 32 := 1#32
  let arg12 : BitVec 32 := Scf.iv c0_i32_0 c1_i32 k7_t1
  let c16_i32 : BitVec 32 := 16#32
  let v38 : BitVec 32 := Scalar.muli arg12 c16_i32
  let v39 : Index := Scalar.indexCast v38
  ![v39.toNat]
def k7_off2 (i : grid7.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k7_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k7_off3 (i : grid7.Coords) (v6 : BitVec 32) (k7_t2 : Fin (k7_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k7_t2
  let c2048_i32_22 : BitVec 32 := 2048#32
  let v38 : BitVec 32 := Scalar.muli arg12 c2048_i32_22
  ![v1.toNat, v38.toNat]
@[reducible] def k7_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k7_off4 (k7_t3 : Fin k7_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k7_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k7_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k7_off5 (k7_t3 : Fin k7_t3_loop.trips) (k7_t4 : Fin k7_t4_loop.trips) : Fin 1 → Nat :=
  let c0_i32_24 : BitVec 32 := 0#32
  let c1_i32_25 : BitVec 32 := 1#32
  let arg13 : BitVec 32 := Scf.iv c0_i32_24 c1_i32_25 k7_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k7_t4
  let c16_i32_56 : BitVec 32 := 16#32
  let v106 : BitVec 32 := Scalar.muli arg14 c16_i32_56
  let v107 : BitVec 32 := Scalar.addi v105 v106
  let v108 : Index := Scalar.indexCast v107
  ![v108.toNat]
def k7_off6 (v115 : BitVec 32) (c0_i32_61 : BitVec 32) : Fin 1 → Nat :=
  let v118 : BitVec 32 := Scalar.addi v115 c0_i32_61
  let v119 : Index := Scalar.indexCast v118
  ![v119.toNat]
def k7_cond1 (v6 : BitVec 32) (k7_t2 : Fin (k7_t2_loop v6).trips) (k7_t3 : Fin k7_t3_loop.trips) : BitVec 1 :=
  let c0_i32_11 : BitVec 32 := 0#32
  let c1_i32_13 : BitVec 32 := 1#32
  let arg12 : BitVec 32 := Scf.iv c0_i32_11 c1_i32_13 k7_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k7_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k7_chk2 (v6 : BitVec 32) (k7_t2 : Fin (k7_t2_loop v6).trips) (k7_t3 : Fin k7_t3_loop.trips) (v115 : BitVec 32) : Prop :=
  (∀ (k7_h1 : k7_cond1 v6 k7_t2 k7_t3 = 1#1), ∀ (r : Fin 8), ∀ a, (k7_off6 v115 (BitVec.ofNat 32 (16 * r.val))) a + S16.size a ≤ S40192.size a)
theorem k7_off6_inb : ∀ (v6 : BitVec 32) (k7_t2 : Fin (k7_t2_loop v6).trips) (k7_t3 : Fin k7_t3_loop.trips) (v115 : BitVec 32) (k7_hw2 : k7_chk2 v6 k7_t2 k7_t3 v115), ∀ (k7_h1 : k7_cond1 v6 k7_t2 k7_t3 = 1#1), ∀ (r : Fin 8), ∀ a, (k7_off6 v115 (BitVec.ofNat 32 (16 * r.val))) a + S16.size a ≤ S40192.size a := fun v6 k7_t2 k7_t3 v115 k7_hw2 k7_h1 r => k7_hw2 k7_h1 r

def k7_off7 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k7_off8 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k7_off9 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k7_off10 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k7_off11 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k7_off12 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k7_off13 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k7_off14 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k7_off15 (v183 : BitVec 32) (c0_i32_79 : BitVec 32) : Fin 1 → Nat :=
  let v186 : BitVec 32 := Scalar.addi v183 c0_i32_79
  let v187 : Index := Scalar.indexCast v186
  ![v187.toNat]

def k7_chk3 (v6 : BitVec 32) (k7_t2 : Fin (k7_t2_loop v6).trips) (k7_t3 : Fin k7_t3_loop.trips) (v183 : BitVec 32) : Prop :=
  (∀ (k7_h1 : k7_cond1 v6 k7_t2 k7_t3 = 1#1), ∀ (r : Fin 8), ∀ a, (k7_off15 v183 (BitVec.ofNat 32 (16 * r.val))) a + S16.size a ≤ S40192.size a)
theorem k7_off15_inb : ∀ (v6 : BitVec 32) (k7_t2 : Fin (k7_t2_loop v6).trips) (k7_t3 : Fin k7_t3_loop.trips) (v183 : BitVec 32) (k7_hw3 : k7_chk3 v6 k7_t2 k7_t3 v183), ∀ (k7_h1 : k7_cond1 v6 k7_t2 k7_t3 = 1#1), ∀ (r : Fin 8), ∀ a, (k7_off15 v183 (BitVec.ofNat 32 (16 * r.val))) a + S16.size a ≤ S40192.size a := fun v6 k7_t2 k7_t3 v183 k7_hw3 k7_h1 r => k7_hw3 k7_h1 r

def k7_off16 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k7_off17 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k7_off18 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k7_off19 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k7_off20 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k7_off21 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k7_off22 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k7_off23 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k7_off24 (v251 : BitVec 32) (c0_i32_97 : BitVec 32) : Fin 1 → Nat :=
  let v254 : BitVec 32 := Scalar.addi v251 c0_i32_97
  let v255 : Index := Scalar.indexCast v254
  ![v255.toNat]

def k7_chk4 (v6 : BitVec 32) (k7_t2 : Fin (k7_t2_loop v6).trips) (k7_t3 : Fin k7_t3_loop.trips) (v251 : BitVec 32) : Prop :=
  (∀ (k7_h1 : k7_cond1 v6 k7_t2 k7_t3 = 1#1), ∀ (r : Fin 8), ∀ a, (k7_off24 v251 (BitVec.ofNat 32 (16 * r.val))) a + S16.size a ≤ S40192.size a)
theorem k7_off24_inb : ∀ (v6 : BitVec 32) (k7_t2 : Fin (k7_t2_loop v6).trips) (k7_t3 : Fin k7_t3_loop.trips) (v251 : BitVec 32) (k7_hw4 : k7_chk4 v6 k7_t2 k7_t3 v251), ∀ (k7_h1 : k7_cond1 v6 k7_t2 k7_t3 = 1#1), ∀ (r : Fin 8), ∀ a, (k7_off24 v251 (BitVec.ofNat 32 (16 * r.val))) a + S16.size a ≤ S40192.size a := fun v6 k7_t2 k7_t3 v251 k7_hw4 k7_h1 r => k7_hw4 k7_h1 r

def k7_off25 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k7_off26 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k7_off27 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k7_off28 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k7_off29 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k7_off30 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k7_off31 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k7_off32 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k7_off33 (v319 : BitVec 32) (c0_i32_114 : BitVec 32) : Fin 1 → Nat :=
  let v322 : BitVec 32 := Scalar.addi v319 c0_i32_114
  let v323 : Index := Scalar.indexCast v322
  ![v323.toNat]

def k7_chk5 (v6 : BitVec 32) (k7_t2 : Fin (k7_t2_loop v6).trips) (k7_t3 : Fin k7_t3_loop.trips) (v319 : BitVec 32) : Prop :=
  (∀ (k7_h1 : k7_cond1 v6 k7_t2 k7_t3 = 1#1), ∀ (r : Fin 8), ∀ a, (k7_off33 v319 (BitVec.ofNat 32 (16 * r.val))) a + S16.size a ≤ S40192.size a)
theorem k7_off33_inb : ∀ (v6 : BitVec 32) (k7_t2 : Fin (k7_t2_loop v6).trips) (k7_t3 : Fin k7_t3_loop.trips) (v319 : BitVec 32) (k7_hw5 : k7_chk5 v6 k7_t2 k7_t3 v319), ∀ (k7_h1 : k7_cond1 v6 k7_t2 k7_t3 = 1#1), ∀ (r : Fin 8), ∀ a, (k7_off33 v319 (BitVec.ofNat 32 (16 * r.val))) a + S16.size a ≤ S40192.size a := fun v6 k7_t2 k7_t3 v319 k7_hw5 k7_h1 r => k7_hw5 k7_h1 r

def k7_off34 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k7_off35 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k7_off36 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k7_off37 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k7_off38 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k7_off39 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k7_off40 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k7_off41 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k7_off42 (v387 : BitVec 32) (c0_i32_131 : BitVec 32) : Fin 1 → Nat :=
  let v390 : BitVec 32 := Scalar.addi v387 c0_i32_131
  let v391 : Index := Scalar.indexCast v390
  ![v391.toNat]

def k7_chk6 (v6 : BitVec 32) (k7_t2 : Fin (k7_t2_loop v6).trips) (k7_t3 : Fin k7_t3_loop.trips) (v387 : BitVec 32) : Prop :=
  (∀ (k7_h1 : k7_cond1 v6 k7_t2 k7_t3 = 1#1), ∀ (r : Fin 8), ∀ a, (k7_off42 v387 (BitVec.ofNat 32 (16 * r.val))) a + S16.size a ≤ S40192.size a)
theorem k7_off42_inb : ∀ (v6 : BitVec 32) (k7_t2 : Fin (k7_t2_loop v6).trips) (k7_t3 : Fin k7_t3_loop.trips) (v387 : BitVec 32) (k7_hw6 : k7_chk6 v6 k7_t2 k7_t3 v387), ∀ (k7_h1 : k7_cond1 v6 k7_t2 k7_t3 = 1#1), ∀ (r : Fin 8), ∀ a, (k7_off42 v387 (BitVec.ofNat 32 (16 * r.val))) a + S16.size a ≤ S40192.size a := fun v6 k7_t2 k7_t3 v387 k7_hw6 k7_h1 r => k7_hw6 k7_h1 r

def k7_off43 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k7_off44 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k7_off45 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k7_off46 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k7_off47 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k7_off48 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k7_off49 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k7_off50 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k7_off51 (v455 : BitVec 32) (c0_i32_148 : BitVec 32) : Fin 1 → Nat :=
  let v458 : BitVec 32 := Scalar.addi v455 c0_i32_148
  let v459 : Index := Scalar.indexCast v458
  ![v459.toNat]

def k7_chk7 (v6 : BitVec 32) (k7_t2 : Fin (k7_t2_loop v6).trips) (k7_t3 : Fin k7_t3_loop.trips) (v455 : BitVec 32) : Prop :=
  (∀ (k7_h1 : k7_cond1 v6 k7_t2 k7_t3 = 1#1), ∀ (r : Fin 8), ∀ a, (k7_off51 v455 (BitVec.ofNat 32 (16 * r.val))) a + S16.size a ≤ S40192.size a)
theorem k7_off51_inb : ∀ (v6 : BitVec 32) (k7_t2 : Fin (k7_t2_loop v6).trips) (k7_t3 : Fin k7_t3_loop.trips) (v455 : BitVec 32) (k7_hw7 : k7_chk7 v6 k7_t2 k7_t3 v455), ∀ (k7_h1 : k7_cond1 v6 k7_t2 k7_t3 = 1#1), ∀ (r : Fin 8), ∀ a, (k7_off51 v455 (BitVec.ofNat 32 (16 * r.val))) a + S16.size a ≤ S40192.size a := fun v6 k7_t2 k7_t3 v455 k7_hw7 k7_h1 r => k7_hw7 k7_h1 r

def k7_off52 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k7_off53 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k7_off54 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k7_off55 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k7_off56 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k7_off57 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k7_off58 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k7_off59 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k7_off60 (v523 : BitVec 32) (c0_i32_165 : BitVec 32) : Fin 1 → Nat :=
  let v526 : BitVec 32 := Scalar.addi v523 c0_i32_165
  let v527 : Index := Scalar.indexCast v526
  ![v527.toNat]

def k7_chk8 (v6 : BitVec 32) (k7_t2 : Fin (k7_t2_loop v6).trips) (k7_t3 : Fin k7_t3_loop.trips) (v523 : BitVec 32) : Prop :=
  (∀ (k7_h1 : k7_cond1 v6 k7_t2 k7_t3 = 1#1), ∀ (r : Fin 8), ∀ a, (k7_off60 v523 (BitVec.ofNat 32 (16 * r.val))) a + S16.size a ≤ S40192.size a)
theorem k7_off60_inb : ∀ (v6 : BitVec 32) (k7_t2 : Fin (k7_t2_loop v6).trips) (k7_t3 : Fin k7_t3_loop.trips) (v523 : BitVec 32) (k7_hw8 : k7_chk8 v6 k7_t2 k7_t3 v523), ∀ (k7_h1 : k7_cond1 v6 k7_t2 k7_t3 = 1#1), ∀ (r : Fin 8), ∀ a, (k7_off60 v523 (BitVec.ofNat 32 (16 * r.val))) a + S16.size a ≤ S40192.size a := fun v6 k7_t2 k7_t3 v523 k7_hw8 k7_h1 r => k7_hw8 k7_h1 r

def k7_off61 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k7_off62 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k7_off63 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k7_off64 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k7_off65 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k7_off66 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k7_off67 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k7_off68 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k7_off69 (v591 : BitVec 32) (c0_i32_182 : BitVec 32) : Fin 1 → Nat :=
  let v594 : BitVec 32 := Scalar.addi v591 c0_i32_182
  let v595 : Index := Scalar.indexCast v594
  ![v595.toNat]

def k7_chk9 (v6 : BitVec 32) (k7_t2 : Fin (k7_t2_loop v6).trips) (k7_t3 : Fin k7_t3_loop.trips) (v591 : BitVec 32) : Prop :=
  (∀ (k7_h1 : k7_cond1 v6 k7_t2 k7_t3 = 1#1), ∀ (r : Fin 8), ∀ a, (k7_off69 v591 (BitVec.ofNat 32 (16 * r.val))) a + S16.size a ≤ S40192.size a)
theorem k7_off69_inb : ∀ (v6 : BitVec 32) (k7_t2 : Fin (k7_t2_loop v6).trips) (k7_t3 : Fin k7_t3_loop.trips) (v591 : BitVec 32) (k7_hw9 : k7_chk9 v6 k7_t2 k7_t3 v591), ∀ (k7_h1 : k7_cond1 v6 k7_t2 k7_t3 = 1#1), ∀ (r : Fin 8), ∀ a, (k7_off69 v591 (BitVec.ofNat 32 (16 * r.val))) a + S16.size a ≤ S40192.size a := fun v6 k7_t2 k7_t3 v591 k7_hw9 k7_h1 r => k7_hw9 k7_h1 r

def k7_off70 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k7_off71 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k7_off72 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k7_off73 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k7_off74 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k7_off75 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k7_off76 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k7_off77 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k7_off78 (v659 : BitVec 32) (c0_i32_200 : BitVec 32) : Fin 1 → Nat :=
  let v662 : BitVec 32 := Scalar.addi v659 c0_i32_200
  let v663 : Index := Scalar.indexCast v662
  ![v663.toNat]

def k7_chk10 (v6 : BitVec 32) (k7_t2 : Fin (k7_t2_loop v6).trips) (k7_t3 : Fin k7_t3_loop.trips) (v659 : BitVec 32) : Prop :=
  (∀ (k7_h1 : k7_cond1 v6 k7_t2 k7_t3 = 1#1), ∀ (r : Fin 8), ∀ a, (k7_off78 v659 (BitVec.ofNat 32 (16 * r.val))) a + S16.size a ≤ S40192.size a)
theorem k7_off78_inb : ∀ (v6 : BitVec 32) (k7_t2 : Fin (k7_t2_loop v6).trips) (k7_t3 : Fin k7_t3_loop.trips) (v659 : BitVec 32) (k7_hw10 : k7_chk10 v6 k7_t2 k7_t3 v659), ∀ (k7_h1 : k7_cond1 v6 k7_t2 k7_t3 = 1#1), ∀ (r : Fin 8), ∀ a, (k7_off78 v659 (BitVec.ofNat 32 (16 * r.val))) a + S16.size a ≤ S40192.size a := fun v6 k7_t2 k7_t3 v659 k7_hw10 k7_h1 r => k7_hw10 k7_h1 r

def k7_off79 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k7_off80 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k7_off81 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k7_off82 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k7_off83 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k7_off84 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k7_off85 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k7_off86 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k7_off87 (v727 : BitVec 32) (c0_i32_217 : BitVec 32) : Fin 1 → Nat :=
  let v730 : BitVec 32 := Scalar.addi v727 c0_i32_217
  let v731 : Index := Scalar.indexCast v730
  ![v731.toNat]

def k7_chk11 (v6 : BitVec 32) (k7_t2 : Fin (k7_t2_loop v6).trips) (k7_t3 : Fin k7_t3_loop.trips) (v727 : BitVec 32) : Prop :=
  (∀ (k7_h1 : k7_cond1 v6 k7_t2 k7_t3 = 1#1), ∀ (r : Fin 8), ∀ a, (k7_off87 v727 (BitVec.ofNat 32 (16 * r.val))) a + S16.size a ≤ S40192.size a)
theorem k7_off87_inb : ∀ (v6 : BitVec 32) (k7_t2 : Fin (k7_t2_loop v6).trips) (k7_t3 : Fin k7_t3_loop.trips) (v727 : BitVec 32) (k7_hw11 : k7_chk11 v6 k7_t2 k7_t3 v727), ∀ (k7_h1 : k7_cond1 v6 k7_t2 k7_t3 = 1#1), ∀ (r : Fin 8), ∀ a, (k7_off87 v727 (BitVec.ofNat 32 (16 * r.val))) a + S16.size a ≤ S40192.size a := fun v6 k7_t2 k7_t3 v727 k7_hw11 k7_h1 r => k7_hw11 k7_h1 r

def k7_off88 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k7_off89 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k7_off90 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k7_off91 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k7_off92 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k7_off93 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k7_off94 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k7_off95 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k7_off96 (v795 : BitVec 32) (c0_i32_234 : BitVec 32) : Fin 1 → Nat :=
  let v798 : BitVec 32 := Scalar.addi v795 c0_i32_234
  let v799 : Index := Scalar.indexCast v798
  ![v799.toNat]

def k7_chk12 (v6 : BitVec 32) (k7_t2 : Fin (k7_t2_loop v6).trips) (k7_t3 : Fin k7_t3_loop.trips) (v795 : BitVec 32) : Prop :=
  (∀ (k7_h1 : k7_cond1 v6 k7_t2 k7_t3 = 1#1), ∀ (r : Fin 8), ∀ a, (k7_off96 v795 (BitVec.ofNat 32 (16 * r.val))) a + S16.size a ≤ S40192.size a)
theorem k7_off96_inb : ∀ (v6 : BitVec 32) (k7_t2 : Fin (k7_t2_loop v6).trips) (k7_t3 : Fin k7_t3_loop.trips) (v795 : BitVec 32) (k7_hw12 : k7_chk12 v6 k7_t2 k7_t3 v795), ∀ (k7_h1 : k7_cond1 v6 k7_t2 k7_t3 = 1#1), ∀ (r : Fin 8), ∀ a, (k7_off96 v795 (BitVec.ofNat 32 (16 * r.val))) a + S16.size a ≤ S40192.size a := fun v6 k7_t2 k7_t3 v795 k7_hw12 k7_h1 r => k7_hw12 k7_h1 r

def k7_off97 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k7_off98 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k7_off99 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k7_off100 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k7_off101 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k7_off102 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k7_off103 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k7_off104 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k7_off105 (v863 : BitVec 32) (c0_i32_251 : BitVec 32) : Fin 1 → Nat :=
  let v866 : BitVec 32 := Scalar.addi v863 c0_i32_251
  let v867 : Index := Scalar.indexCast v866
  ![v867.toNat]

def k7_chk13 (v6 : BitVec 32) (k7_t2 : Fin (k7_t2_loop v6).trips) (k7_t3 : Fin k7_t3_loop.trips) (v863 : BitVec 32) : Prop :=
  (∀ (k7_h1 : k7_cond1 v6 k7_t2 k7_t3 = 1#1), ∀ (r : Fin 8), ∀ a, (k7_off105 v863 (BitVec.ofNat 32 (16 * r.val))) a + S16.size a ≤ S40192.size a)
theorem k7_off105_inb : ∀ (v6 : BitVec 32) (k7_t2 : Fin (k7_t2_loop v6).trips) (k7_t3 : Fin k7_t3_loop.trips) (v863 : BitVec 32) (k7_hw13 : k7_chk13 v6 k7_t2 k7_t3 v863), ∀ (k7_h1 : k7_cond1 v6 k7_t2 k7_t3 = 1#1), ∀ (r : Fin 8), ∀ a, (k7_off105 v863 (BitVec.ofNat 32 (16 * r.val))) a + S16.size a ≤ S40192.size a := fun v6 k7_t2 k7_t3 v863 k7_hw13 k7_h1 r => k7_hw13 k7_h1 r

def k7_off106 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k7_off107 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k7_off108 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k7_off109 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k7_off110 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k7_off111 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k7_off112 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k7_off113 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k7_off114 (v931 : BitVec 32) (c0_i32_268 : BitVec 32) : Fin 1 → Nat :=
  let v934 : BitVec 32 := Scalar.addi v931 c0_i32_268
  let v935 : Index := Scalar.indexCast v934
  ![v935.toNat]

def k7_chk14 (v6 : BitVec 32) (k7_t2 : Fin (k7_t2_loop v6).trips) (k7_t3 : Fin k7_t3_loop.trips) (v931 : BitVec 32) : Prop :=
  (∀ (k7_h1 : k7_cond1 v6 k7_t2 k7_t3 = 1#1), ∀ (r : Fin 8), ∀ a, (k7_off114 v931 (BitVec.ofNat 32 (16 * r.val))) a + S16.size a ≤ S40192.size a)
theorem k7_off114_inb : ∀ (v6 : BitVec 32) (k7_t2 : Fin (k7_t2_loop v6).trips) (k7_t3 : Fin k7_t3_loop.trips) (v931 : BitVec 32) (k7_hw14 : k7_chk14 v6 k7_t2 k7_t3 v931), ∀ (k7_h1 : k7_cond1 v6 k7_t2 k7_t3 = 1#1), ∀ (r : Fin 8), ∀ a, (k7_off114 v931 (BitVec.ofNat 32 (16 * r.val))) a + S16.size a ≤ S40192.size a := fun v6 k7_t2 k7_t3 v931 k7_hw14 k7_h1 r => k7_hw14 k7_h1 r

def k7_off115 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k7_off116 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k7_off117 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k7_off118 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k7_off119 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k7_off120 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k7_off121 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k7_off122 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k7_off123 (v999 : BitVec 32) (c0_i32_285 : BitVec 32) : Fin 1 → Nat :=
  let v1002 : BitVec 32 := Scalar.addi v999 c0_i32_285
  let v1003 : Index := Scalar.indexCast v1002
  ![v1003.toNat]

def k7_chk15 (v6 : BitVec 32) (k7_t2 : Fin (k7_t2_loop v6).trips) (k7_t3 : Fin k7_t3_loop.trips) (v999 : BitVec 32) : Prop :=
  (∀ (k7_h1 : k7_cond1 v6 k7_t2 k7_t3 = 1#1), ∀ (r : Fin 8), ∀ a, (k7_off123 v999 (BitVec.ofNat 32 (16 * r.val))) a + S16.size a ≤ S40192.size a)
theorem k7_off123_inb : ∀ (v6 : BitVec 32) (k7_t2 : Fin (k7_t2_loop v6).trips) (k7_t3 : Fin k7_t3_loop.trips) (v999 : BitVec 32) (k7_hw15 : k7_chk15 v6 k7_t2 k7_t3 v999), ∀ (k7_h1 : k7_cond1 v6 k7_t2 k7_t3 = 1#1), ∀ (r : Fin 8), ∀ a, (k7_off123 v999 (BitVec.ofNat 32 (16 * r.val))) a + S16.size a ≤ S40192.size a := fun v6 k7_t2 k7_t3 v999 k7_hw15 k7_h1 r => k7_hw15 k7_h1 r

def k7_off124 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k7_off125 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k7_off126 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k7_off127 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k7_off128 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k7_off129 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k7_off130 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k7_off131 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k7_off132 (v1067 : BitVec 32) (c0_i32_302 : BitVec 32) : Fin 1 → Nat :=
  let v1070 : BitVec 32 := Scalar.addi v1067 c0_i32_302
  let v1071 : Index := Scalar.indexCast v1070
  ![v1071.toNat]

def k7_chk16 (v6 : BitVec 32) (k7_t2 : Fin (k7_t2_loop v6).trips) (k7_t3 : Fin k7_t3_loop.trips) (v1067 : BitVec 32) : Prop :=
  (∀ (k7_h1 : k7_cond1 v6 k7_t2 k7_t3 = 1#1), ∀ (r : Fin 8), ∀ a, (k7_off132 v1067 (BitVec.ofNat 32 (16 * r.val))) a + S16.size a ≤ S40192.size a)
theorem k7_off132_inb : ∀ (v6 : BitVec 32) (k7_t2 : Fin (k7_t2_loop v6).trips) (k7_t3 : Fin k7_t3_loop.trips) (v1067 : BitVec 32) (k7_hw16 : k7_chk16 v6 k7_t2 k7_t3 v1067), ∀ (k7_h1 : k7_cond1 v6 k7_t2 k7_t3 = 1#1), ∀ (r : Fin 8), ∀ a, (k7_off132 v1067 (BitVec.ofNat 32 (16 * r.val))) a + S16.size a ≤ S40192.size a := fun v6 k7_t2 k7_t3 v1067 k7_hw16 k7_h1 r => k7_hw16 k7_h1 r

def k7_off133 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k7_off134 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k7_off135 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k7_off136 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k7_off137 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k7_off138 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k7_off139 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k7_off140 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k7_off141 (v1135 : BitVec 32) (c0_i32_319 : BitVec 32) : Fin 1 → Nat :=
  let v1138 : BitVec 32 := Scalar.addi v1135 c0_i32_319
  let v1139 : Index := Scalar.indexCast v1138
  ![v1139.toNat]

def k7_chk17 (v6 : BitVec 32) (k7_t2 : Fin (k7_t2_loop v6).trips) (k7_t3 : Fin k7_t3_loop.trips) (v1135 : BitVec 32) : Prop :=
  (∀ (k7_h1 : k7_cond1 v6 k7_t2 k7_t3 = 1#1), ∀ (r : Fin 8), ∀ a, (k7_off141 v1135 (BitVec.ofNat 32 (16 * r.val))) a + S16.size a ≤ S40192.size a)
theorem k7_off141_inb : ∀ (v6 : BitVec 32) (k7_t2 : Fin (k7_t2_loop v6).trips) (k7_t3 : Fin k7_t3_loop.trips) (v1135 : BitVec 32) (k7_hw17 : k7_chk17 v6 k7_t2 k7_t3 v1135), ∀ (k7_h1 : k7_cond1 v6 k7_t2 k7_t3 = 1#1), ∀ (r : Fin 8), ∀ a, (k7_off141 v1135 (BitVec.ofNat 32 (16 * r.val))) a + S16.size a ≤ S40192.size a := fun v6 k7_t2 k7_t3 v1135 k7_hw17 k7_h1 r => k7_hw17 k7_h1 r

def k7_off142 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k7_off143 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k7_off144 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k7_off145 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k7_off146 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k7_off147 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k7_off148 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k7_off149 (k7_t4 : Fin k7_t4_loop.trips) : Fin 2 → Nat :=
  let c0_i32_52 : BitVec 32 := 0#32
  let c1_i32_53 : BitVec 32 := 1#32
  let arg14 : BitVec 32 := Scf.iv c0_i32_52 c1_i32_53 k7_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k7_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k7_off150 (i : grid7.Coords) (v6 : BitVec 32) (k7_t5 : Fin (k7_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k7_t5
  let c2048_i32_22 : BitVec 32 := 2048#32
  let v38 : BitVec 32 := Scalar.muli arg12 c2048_i32_22
  ![v1.toNat, v38.toNat]

def k7_chk1 (i : grid7.Coords) (v6 : BitVec 32) : Prop :=
  ((k7_t2_loop v6).OK) ∧
  (∀ k7_t2 : Fin (k7_t2_loop v6).trips, ∀ a, (k7_off3 i v6 k7_t2) a + S1x2048.size a ≤ S32x323584.size a) ∧
  ((k7_t5_loop v6).OK) ∧
  (∀ k7_t5 : Fin (k7_t5_loop v6).trips, ∀ a, (k7_off150 i v6 k7_t5) a + S1x2048.size a ≤ S32x323584.size a)
theorem k7_t2_ok : ∀ (i : grid7.Coords) (v6 : BitVec 32) (k7_hw1 : k7_chk1 i v6), (k7_t2_loop v6).OK := fun i v6 k7_hw1 => k7_hw1.1
theorem k7_off3_inb : ∀ (i : grid7.Coords) (v6 : BitVec 32) (k7_hw1 : k7_chk1 i v6) (k7_t2 : Fin (k7_t2_loop v6).trips), ∀ a, (k7_off3 i v6 k7_t2) a + S1x2048.size a ≤ S32x323584.size a := fun i v6 k7_hw1 k7_t2 => k7_hw1.2.1 k7_t2
theorem k7_t5_ok : ∀ (i : grid7.Coords) (v6 : BitVec 32) (k7_hw1 : k7_chk1 i v6), (k7_t5_loop v6).OK := fun i v6 k7_hw1 => k7_hw1.2.2.1
theorem k7_off150_inb : ∀ (i : grid7.Coords) (v6 : BitVec 32) (k7_hw1 : k7_chk1 i v6) (k7_t5 : Fin (k7_t5_loop v6).trips), ∀ a, (k7_off150 i v6 k7_t5) a + S1x2048.size a ≤ S32x323584.size a := fun i v6 k7_hw1 k7_t5 => k7_hw1.2.2.2 k7_t5

@[reducible] def k7_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k7_off151 (k7_t6 : Fin k7_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k7_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k7_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k7_off152 (k7_t6 : Fin k7_t6_loop.trips) (k7_t7 : Fin k7_t7_loop.trips) : Fin 1 → Nat :=
  let c0_i32_24 : BitVec 32 := 0#32
  let c1_i32_25 : BitVec 32 := 1#32
  let arg13 : BitVec 32 := Scf.iv c0_i32_24 c1_i32_25 k7_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k7_t7
  let c16_i32_56 : BitVec 32 := 16#32
  let v106 : BitVec 32 := Scalar.muli arg14 c16_i32_56
  let v107 : BitVec 32 := Scalar.addi v105 v106
  let v108 : Index := Scalar.indexCast v107
  ![v108.toNat]
def k7_off153 (v115 : BitVec 32) (c0_i32_61 : BitVec 32) : Fin 1 → Nat :=
  let v118 : BitVec 32 := Scalar.addi v115 c0_i32_61
  let v119 : Index := Scalar.indexCast v118
  ![v119.toNat]
def k7_cond2 (v6 : BitVec 32) (k7_t5 : Fin (k7_t5_loop v6).trips) (k7_t6 : Fin k7_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k7_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k7_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k7_chk18 (v6 : BitVec 32) (k7_t5 : Fin (k7_t5_loop v6).trips) (k7_t6 : Fin k7_t6_loop.trips) (v115 : BitVec 32) : Prop :=
  (∀ (k7_h2 : k7_cond2 v6 k7_t5 k7_t6 = 1#1), ∀ (r : Fin 8), ∀ a, (k7_off153 v115 (BitVec.ofNat 32 (16 * r.val))) a + S16.size a ≤ S40192.size a)
theorem k7_off153_inb : ∀ (v6 : BitVec 32) (k7_t5 : Fin (k7_t5_loop v6).trips) (k7_t6 : Fin k7_t6_loop.trips) (v115 : BitVec 32) (k7_hw18 : k7_chk18 v6 k7_t5 k7_t6 v115), ∀ (k7_h2 : k7_cond2 v6 k7_t5 k7_t6 = 1#1), ∀ (r : Fin 8), ∀ a, (k7_off153 v115 (BitVec.ofNat 32 (16 * r.val))) a + S16.size a ≤ S40192.size a := fun v6 k7_t5 k7_t6 v115 k7_hw18 k7_h2 r => k7_hw18 k7_h2 r

def k7_off154 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k7_off155 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k7_off156 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k7_off157 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k7_off158 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k7_off159 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k7_off160 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k7_off161 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k7_off162 (v183 : BitVec 32) (c0_i32_79 : BitVec 32) : Fin 1 → Nat :=
  let v186 : BitVec 32 := Scalar.addi v183 c0_i32_79
  let v187 : Index := Scalar.indexCast v186
  ![v187.toNat]

def k7_chk19 (v6 : BitVec 32) (k7_t5 : Fin (k7_t5_loop v6).trips) (k7_t6 : Fin k7_t6_loop.trips) (v183 : BitVec 32) : Prop :=
  (∀ (k7_h2 : k7_cond2 v6 k7_t5 k7_t6 = 1#1), ∀ (r : Fin 8), ∀ a, (k7_off162 v183 (BitVec.ofNat 32 (16 * r.val))) a + S16.size a ≤ S40192.size a)
theorem k7_off162_inb : ∀ (v6 : BitVec 32) (k7_t5 : Fin (k7_t5_loop v6).trips) (k7_t6 : Fin k7_t6_loop.trips) (v183 : BitVec 32) (k7_hw19 : k7_chk19 v6 k7_t5 k7_t6 v183), ∀ (k7_h2 : k7_cond2 v6 k7_t5 k7_t6 = 1#1), ∀ (r : Fin 8), ∀ a, (k7_off162 v183 (BitVec.ofNat 32 (16 * r.val))) a + S16.size a ≤ S40192.size a := fun v6 k7_t5 k7_t6 v183 k7_hw19 k7_h2 r => k7_hw19 k7_h2 r

def k7_off163 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k7_off164 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k7_off165 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k7_off166 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k7_off167 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k7_off168 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k7_off169 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k7_off170 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k7_off171 (v251 : BitVec 32) (c0_i32_97 : BitVec 32) : Fin 1 → Nat :=
  let v254 : BitVec 32 := Scalar.addi v251 c0_i32_97
  let v255 : Index := Scalar.indexCast v254
  ![v255.toNat]

def k7_chk20 (v6 : BitVec 32) (k7_t5 : Fin (k7_t5_loop v6).trips) (k7_t6 : Fin k7_t6_loop.trips) (v251 : BitVec 32) : Prop :=
  (∀ (k7_h2 : k7_cond2 v6 k7_t5 k7_t6 = 1#1), ∀ (r : Fin 8), ∀ a, (k7_off171 v251 (BitVec.ofNat 32 (16 * r.val))) a + S16.size a ≤ S40192.size a)
theorem k7_off171_inb : ∀ (v6 : BitVec 32) (k7_t5 : Fin (k7_t5_loop v6).trips) (k7_t6 : Fin k7_t6_loop.trips) (v251 : BitVec 32) (k7_hw20 : k7_chk20 v6 k7_t5 k7_t6 v251), ∀ (k7_h2 : k7_cond2 v6 k7_t5 k7_t6 = 1#1), ∀ (r : Fin 8), ∀ a, (k7_off171 v251 (BitVec.ofNat 32 (16 * r.val))) a + S16.size a ≤ S40192.size a := fun v6 k7_t5 k7_t6 v251 k7_hw20 k7_h2 r => k7_hw20 k7_h2 r

def k7_off172 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k7_off173 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k7_off174 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k7_off175 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k7_off176 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k7_off177 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k7_off178 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k7_off179 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k7_off180 (v319 : BitVec 32) (c0_i32_114 : BitVec 32) : Fin 1 → Nat :=
  let v322 : BitVec 32 := Scalar.addi v319 c0_i32_114
  let v323 : Index := Scalar.indexCast v322
  ![v323.toNat]

def k7_chk21 (v6 : BitVec 32) (k7_t5 : Fin (k7_t5_loop v6).trips) (k7_t6 : Fin k7_t6_loop.trips) (v319 : BitVec 32) : Prop :=
  (∀ (k7_h2 : k7_cond2 v6 k7_t5 k7_t6 = 1#1), ∀ (r : Fin 8), ∀ a, (k7_off180 v319 (BitVec.ofNat 32 (16 * r.val))) a + S16.size a ≤ S40192.size a)
theorem k7_off180_inb : ∀ (v6 : BitVec 32) (k7_t5 : Fin (k7_t5_loop v6).trips) (k7_t6 : Fin k7_t6_loop.trips) (v319 : BitVec 32) (k7_hw21 : k7_chk21 v6 k7_t5 k7_t6 v319), ∀ (k7_h2 : k7_cond2 v6 k7_t5 k7_t6 = 1#1), ∀ (r : Fin 8), ∀ a, (k7_off180 v319 (BitVec.ofNat 32 (16 * r.val))) a + S16.size a ≤ S40192.size a := fun v6 k7_t5 k7_t6 v319 k7_hw21 k7_h2 r => k7_hw21 k7_h2 r

def k7_off181 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k7_off182 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k7_off183 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k7_off184 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k7_off185 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k7_off186 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k7_off187 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k7_off188 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k7_off189 (v387 : BitVec 32) (c0_i32_131 : BitVec 32) : Fin 1 → Nat :=
  let v390 : BitVec 32 := Scalar.addi v387 c0_i32_131
  let v391 : Index := Scalar.indexCast v390
  ![v391.toNat]

def k7_chk22 (v6 : BitVec 32) (k7_t5 : Fin (k7_t5_loop v6).trips) (k7_t6 : Fin k7_t6_loop.trips) (v387 : BitVec 32) : Prop :=
  (∀ (k7_h2 : k7_cond2 v6 k7_t5 k7_t6 = 1#1), ∀ (r : Fin 8), ∀ a, (k7_off189 v387 (BitVec.ofNat 32 (16 * r.val))) a + S16.size a ≤ S40192.size a)
theorem k7_off189_inb : ∀ (v6 : BitVec 32) (k7_t5 : Fin (k7_t5_loop v6).trips) (k7_t6 : Fin k7_t6_loop.trips) (v387 : BitVec 32) (k7_hw22 : k7_chk22 v6 k7_t5 k7_t6 v387), ∀ (k7_h2 : k7_cond2 v6 k7_t5 k7_t6 = 1#1), ∀ (r : Fin 8), ∀ a, (k7_off189 v387 (BitVec.ofNat 32 (16 * r.val))) a + S16.size a ≤ S40192.size a := fun v6 k7_t5 k7_t6 v387 k7_hw22 k7_h2 r => k7_hw22 k7_h2 r

def k7_off190 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k7_off191 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k7_off192 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k7_off193 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k7_off194 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k7_off195 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k7_off196 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k7_off197 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k7_off198 (v455 : BitVec 32) (c0_i32_148 : BitVec 32) : Fin 1 → Nat :=
  let v458 : BitVec 32 := Scalar.addi v455 c0_i32_148
  let v459 : Index := Scalar.indexCast v458
  ![v459.toNat]

def k7_chk23 (v6 : BitVec 32) (k7_t5 : Fin (k7_t5_loop v6).trips) (k7_t6 : Fin k7_t6_loop.trips) (v455 : BitVec 32) : Prop :=
  (∀ (k7_h2 : k7_cond2 v6 k7_t5 k7_t6 = 1#1), ∀ (r : Fin 8), ∀ a, (k7_off198 v455 (BitVec.ofNat 32 (16 * r.val))) a + S16.size a ≤ S40192.size a)
theorem k7_off198_inb : ∀ (v6 : BitVec 32) (k7_t5 : Fin (k7_t5_loop v6).trips) (k7_t6 : Fin k7_t6_loop.trips) (v455 : BitVec 32) (k7_hw23 : k7_chk23 v6 k7_t5 k7_t6 v455), ∀ (k7_h2 : k7_cond2 v6 k7_t5 k7_t6 = 1#1), ∀ (r : Fin 8), ∀ a, (k7_off198 v455 (BitVec.ofNat 32 (16 * r.val))) a + S16.size a ≤ S40192.size a := fun v6 k7_t5 k7_t6 v455 k7_hw23 k7_h2 r => k7_hw23 k7_h2 r

def k7_off199 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k7_off200 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k7_off201 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k7_off202 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k7_off203 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k7_off204 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k7_off205 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k7_off206 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k7_off207 (v523 : BitVec 32) (c0_i32_165 : BitVec 32) : Fin 1 → Nat :=
  let v526 : BitVec 32 := Scalar.addi v523 c0_i32_165
  let v527 : Index := Scalar.indexCast v526
  ![v527.toNat]

def k7_chk24 (v6 : BitVec 32) (k7_t5 : Fin (k7_t5_loop v6).trips) (k7_t6 : Fin k7_t6_loop.trips) (v523 : BitVec 32) : Prop :=
  (∀ (k7_h2 : k7_cond2 v6 k7_t5 k7_t6 = 1#1), ∀ (r : Fin 8), ∀ a, (k7_off207 v523 (BitVec.ofNat 32 (16 * r.val))) a + S16.size a ≤ S40192.size a)
theorem k7_off207_inb : ∀ (v6 : BitVec 32) (k7_t5 : Fin (k7_t5_loop v6).trips) (k7_t6 : Fin k7_t6_loop.trips) (v523 : BitVec 32) (k7_hw24 : k7_chk24 v6 k7_t5 k7_t6 v523), ∀ (k7_h2 : k7_cond2 v6 k7_t5 k7_t6 = 1#1), ∀ (r : Fin 8), ∀ a, (k7_off207 v523 (BitVec.ofNat 32 (16 * r.val))) a + S16.size a ≤ S40192.size a := fun v6 k7_t5 k7_t6 v523 k7_hw24 k7_h2 r => k7_hw24 k7_h2 r

def k7_off208 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k7_off209 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k7_off210 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k7_off211 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k7_off212 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k7_off213 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k7_off214 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k7_off215 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k7_off216 (v591 : BitVec 32) (c0_i32_182 : BitVec 32) : Fin 1 → Nat :=
  let v594 : BitVec 32 := Scalar.addi v591 c0_i32_182
  let v595 : Index := Scalar.indexCast v594
  ![v595.toNat]

def k7_chk25 (v6 : BitVec 32) (k7_t5 : Fin (k7_t5_loop v6).trips) (k7_t6 : Fin k7_t6_loop.trips) (v591 : BitVec 32) : Prop :=
  (∀ (k7_h2 : k7_cond2 v6 k7_t5 k7_t6 = 1#1), ∀ (r : Fin 8), ∀ a, (k7_off216 v591 (BitVec.ofNat 32 (16 * r.val))) a + S16.size a ≤ S40192.size a)
theorem k7_off216_inb : ∀ (v6 : BitVec 32) (k7_t5 : Fin (k7_t5_loop v6).trips) (k7_t6 : Fin k7_t6_loop.trips) (v591 : BitVec 32) (k7_hw25 : k7_chk25 v6 k7_t5 k7_t6 v591), ∀ (k7_h2 : k7_cond2 v6 k7_t5 k7_t6 = 1#1), ∀ (r : Fin 8), ∀ a, (k7_off216 v591 (BitVec.ofNat 32 (16 * r.val))) a + S16.size a ≤ S40192.size a := fun v6 k7_t5 k7_t6 v591 k7_hw25 k7_h2 r => k7_hw25 k7_h2 r

def k7_off217 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k7_off218 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k7_off219 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k7_off220 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k7_off221 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k7_off222 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k7_off223 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k7_off224 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k7_off225 (v659 : BitVec 32) (c0_i32_200 : BitVec 32) : Fin 1 → Nat :=
  let v662 : BitVec 32 := Scalar.addi v659 c0_i32_200
  let v663 : Index := Scalar.indexCast v662
  ![v663.toNat]

def k7_chk26 (v6 : BitVec 32) (k7_t5 : Fin (k7_t5_loop v6).trips) (k7_t6 : Fin k7_t6_loop.trips) (v659 : BitVec 32) : Prop :=
  (∀ (k7_h2 : k7_cond2 v6 k7_t5 k7_t6 = 1#1), ∀ (r : Fin 8), ∀ a, (k7_off225 v659 (BitVec.ofNat 32 (16 * r.val))) a + S16.size a ≤ S40192.size a)
theorem k7_off225_inb : ∀ (v6 : BitVec 32) (k7_t5 : Fin (k7_t5_loop v6).trips) (k7_t6 : Fin k7_t6_loop.trips) (v659 : BitVec 32) (k7_hw26 : k7_chk26 v6 k7_t5 k7_t6 v659), ∀ (k7_h2 : k7_cond2 v6 k7_t5 k7_t6 = 1#1), ∀ (r : Fin 8), ∀ a, (k7_off225 v659 (BitVec.ofNat 32 (16 * r.val))) a + S16.size a ≤ S40192.size a := fun v6 k7_t5 k7_t6 v659 k7_hw26 k7_h2 r => k7_hw26 k7_h2 r

def k7_off226 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k7_off227 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k7_off228 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k7_off229 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k7_off230 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k7_off231 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k7_off232 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k7_off233 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k7_off234 (v727 : BitVec 32) (c0_i32_217 : BitVec 32) : Fin 1 → Nat :=
  let v730 : BitVec 32 := Scalar.addi v727 c0_i32_217
  let v731 : Index := Scalar.indexCast v730
  ![v731.toNat]

def k7_chk27 (v6 : BitVec 32) (k7_t5 : Fin (k7_t5_loop v6).trips) (k7_t6 : Fin k7_t6_loop.trips) (v727 : BitVec 32) : Prop :=
  (∀ (k7_h2 : k7_cond2 v6 k7_t5 k7_t6 = 1#1), ∀ (r : Fin 8), ∀ a, (k7_off234 v727 (BitVec.ofNat 32 (16 * r.val))) a + S16.size a ≤ S40192.size a)
theorem k7_off234_inb : ∀ (v6 : BitVec 32) (k7_t5 : Fin (k7_t5_loop v6).trips) (k7_t6 : Fin k7_t6_loop.trips) (v727 : BitVec 32) (k7_hw27 : k7_chk27 v6 k7_t5 k7_t6 v727), ∀ (k7_h2 : k7_cond2 v6 k7_t5 k7_t6 = 1#1), ∀ (r : Fin 8), ∀ a, (k7_off234 v727 (BitVec.ofNat 32 (16 * r.val))) a + S16.size a ≤ S40192.size a := fun v6 k7_t5 k7_t6 v727 k7_hw27 k7_h2 r => k7_hw27 k7_h2 r

def k7_off235 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k7_off236 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k7_off237 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k7_off238 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k7_off239 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k7_off240 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k7_off241 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k7_off242 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k7_off243 (v795 : BitVec 32) (c0_i32_234 : BitVec 32) : Fin 1 → Nat :=
  let v798 : BitVec 32 := Scalar.addi v795 c0_i32_234
  let v799 : Index := Scalar.indexCast v798
  ![v799.toNat]

def k7_chk28 (v6 : BitVec 32) (k7_t5 : Fin (k7_t5_loop v6).trips) (k7_t6 : Fin k7_t6_loop.trips) (v795 : BitVec 32) : Prop :=
  (∀ (k7_h2 : k7_cond2 v6 k7_t5 k7_t6 = 1#1), ∀ (r : Fin 8), ∀ a, (k7_off243 v795 (BitVec.ofNat 32 (16 * r.val))) a + S16.size a ≤ S40192.size a)
theorem k7_off243_inb : ∀ (v6 : BitVec 32) (k7_t5 : Fin (k7_t5_loop v6).trips) (k7_t6 : Fin k7_t6_loop.trips) (v795 : BitVec 32) (k7_hw28 : k7_chk28 v6 k7_t5 k7_t6 v795), ∀ (k7_h2 : k7_cond2 v6 k7_t5 k7_t6 = 1#1), ∀ (r : Fin 8), ∀ a, (k7_off243 v795 (BitVec.ofNat 32 (16 * r.val))) a + S16.size a ≤ S40192.size a := fun v6 k7_t5 k7_t6 v795 k7_hw28 k7_h2 r => k7_hw28 k7_h2 r

def k7_off244 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k7_off245 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k7_off246 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k7_off247 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k7_off248 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k7_off249 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]

variable {F : FTy → Type} [FloatOps F]

def k7_off250 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k7_off251 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k7_off252 (v863 : BitVec 32) (c0_i32_251 : BitVec 32) : Fin 1 → Nat :=
  let v866 : BitVec 32 := Scalar.addi v863 c0_i32_251
  let v867 : Index := Scalar.indexCast v866
  ![v867.toNat]

def k7_chk29 (v6 : BitVec 32) (k7_t5 : Fin (k7_t5_loop v6).trips) (k7_t6 : Fin k7_t6_loop.trips) (v863 : BitVec 32) : Prop :=
  (∀ (k7_h2 : k7_cond2 v6 k7_t5 k7_t6 = 1#1), ∀ (r : Fin 8), ∀ a, (k7_off252 v863 (BitVec.ofNat 32 (16 * r.val))) a + S16.size a ≤ S40192.size a)
theorem k7_off252_inb : ∀ (v6 : BitVec 32) (k7_t5 : Fin (k7_t5_loop v6).trips) (k7_t6 : Fin k7_t6_loop.trips) (v863 : BitVec 32) (k7_hw29 : k7_chk29 v6 k7_t5 k7_t6 v863), ∀ (k7_h2 : k7_cond2 v6 k7_t5 k7_t6 = 1#1), ∀ (r : Fin 8), ∀ a, (k7_off252 v863 (BitVec.ofNat 32 (16 * r.val))) a + S16.size a ≤ S40192.size a := fun v6 k7_t5 k7_t6 v863 k7_hw29 k7_h2 r => k7_hw29 k7_h2 r

def k7_off253 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k7_off254 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k7_off255 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k7_off256 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k7_off257 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k7_off258 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k7_off259 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k7_off260 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k7_off261 (v931 : BitVec 32) (c0_i32_268 : BitVec 32) : Fin 1 → Nat :=
  let v934 : BitVec 32 := Scalar.addi v931 c0_i32_268
  let v935 : Index := Scalar.indexCast v934
  ![v935.toNat]

def k7_chk30 (v6 : BitVec 32) (k7_t5 : Fin (k7_t5_loop v6).trips) (k7_t6 : Fin k7_t6_loop.trips) (v931 : BitVec 32) : Prop :=
  (∀ (k7_h2 : k7_cond2 v6 k7_t5 k7_t6 = 1#1), ∀ (r : Fin 8), ∀ a, (k7_off261 v931 (BitVec.ofNat 32 (16 * r.val))) a + S16.size a ≤ S40192.size a)
theorem k7_off261_inb : ∀ (v6 : BitVec 32) (k7_t5 : Fin (k7_t5_loop v6).trips) (k7_t6 : Fin k7_t6_loop.trips) (v931 : BitVec 32) (k7_hw30 : k7_chk30 v6 k7_t5 k7_t6 v931), ∀ (k7_h2 : k7_cond2 v6 k7_t5 k7_t6 = 1#1), ∀ (r : Fin 8), ∀ a, (k7_off261 v931 (BitVec.ofNat 32 (16 * r.val))) a + S16.size a ≤ S40192.size a := fun v6 k7_t5 k7_t6 v931 k7_hw30 k7_h2 r => k7_hw30 k7_h2 r

def k7_off262 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k7_off263 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k7_off264 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k7_off265 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k7_off266 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k7_off267 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k7_off268 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k7_off269 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k7_off270 (v999 : BitVec 32) (c0_i32_285 : BitVec 32) : Fin 1 → Nat :=
  let v1002 : BitVec 32 := Scalar.addi v999 c0_i32_285
  let v1003 : Index := Scalar.indexCast v1002
  ![v1003.toNat]

def k7_chk31 (v6 : BitVec 32) (k7_t5 : Fin (k7_t5_loop v6).trips) (k7_t6 : Fin k7_t6_loop.trips) (v999 : BitVec 32) : Prop :=
  (∀ (k7_h2 : k7_cond2 v6 k7_t5 k7_t6 = 1#1), ∀ (r : Fin 8), ∀ a, (k7_off270 v999 (BitVec.ofNat 32 (16 * r.val))) a + S16.size a ≤ S40192.size a)
theorem k7_off270_inb : ∀ (v6 : BitVec 32) (k7_t5 : Fin (k7_t5_loop v6).trips) (k7_t6 : Fin k7_t6_loop.trips) (v999 : BitVec 32) (k7_hw31 : k7_chk31 v6 k7_t5 k7_t6 v999), ∀ (k7_h2 : k7_cond2 v6 k7_t5 k7_t6 = 1#1), ∀ (r : Fin 8), ∀ a, (k7_off270 v999 (BitVec.ofNat 32 (16 * r.val))) a + S16.size a ≤ S40192.size a := fun v6 k7_t5 k7_t6 v999 k7_hw31 k7_h2 r => k7_hw31 k7_h2 r

def k7_off271 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k7_off272 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k7_off273 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k7_off274 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k7_off275 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k7_off276 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k7_off277 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k7_off278 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k7_off279 (v1067 : BitVec 32) (c0_i32_302 : BitVec 32) : Fin 1 → Nat :=
  let v1070 : BitVec 32 := Scalar.addi v1067 c0_i32_302
  let v1071 : Index := Scalar.indexCast v1070
  ![v1071.toNat]

def k7_chk32 (v6 : BitVec 32) (k7_t5 : Fin (k7_t5_loop v6).trips) (k7_t6 : Fin k7_t6_loop.trips) (v1067 : BitVec 32) : Prop :=
  (∀ (k7_h2 : k7_cond2 v6 k7_t5 k7_t6 = 1#1), ∀ (r : Fin 8), ∀ a, (k7_off279 v1067 (BitVec.ofNat 32 (16 * r.val))) a + S16.size a ≤ S40192.size a)
theorem k7_off279_inb : ∀ (v6 : BitVec 32) (k7_t5 : Fin (k7_t5_loop v6).trips) (k7_t6 : Fin k7_t6_loop.trips) (v1067 : BitVec 32) (k7_hw32 : k7_chk32 v6 k7_t5 k7_t6 v1067), ∀ (k7_h2 : k7_cond2 v6 k7_t5 k7_t6 = 1#1), ∀ (r : Fin 8), ∀ a, (k7_off279 v1067 (BitVec.ofNat 32 (16 * r.val))) a + S16.size a ≤ S40192.size a := fun v6 k7_t5 k7_t6 v1067 k7_hw32 k7_h2 r => k7_hw32 k7_h2 r

def k7_off280 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k7_off281 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k7_off282 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k7_off283 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k7_off284 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k7_off285 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k7_off286 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k7_off287 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k7_off288 (v1135 : BitVec 32) (c0_i32_319 : BitVec 32) : Fin 1 → Nat :=
  let v1138 : BitVec 32 := Scalar.addi v1135 c0_i32_319
  let v1139 : Index := Scalar.indexCast v1138
  ![v1139.toNat]

def k7_chk33 (v6 : BitVec 32) (k7_t5 : Fin (k7_t5_loop v6).trips) (k7_t6 : Fin k7_t6_loop.trips) (v1135 : BitVec 32) : Prop :=
  (∀ (k7_h2 : k7_cond2 v6 k7_t5 k7_t6 = 1#1), ∀ (r : Fin 8), ∀ a, (k7_off288 v1135 (BitVec.ofNat 32 (16 * r.val))) a + S16.size a ≤ S40192.size a)
theorem k7_off288_inb : ∀ (v6 : BitVec 32) (k7_t5 : Fin (k7_t5_loop v6).trips) (k7_t6 : Fin k7_t6_loop.trips) (v1135 : BitVec 32) (k7_hw33 : k7_chk33 v6 k7_t5 k7_t6 v1135), ∀ (k7_h2 : k7_cond2 v6 k7_t5 k7_t6 = 1#1), ∀ (r : Fin 8), ∀ a, (k7_off288 v1135 (BitVec.ofNat 32 (16 * r.val))) a + S16.size a ≤ S40192.size a := fun v6 k7_t5 k7_t6 v1135 k7_hw33 k7_h2 r => k7_hw33 k7_h2 r

def k7_off289 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k7_off290 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k7_off291 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k7_off292 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k7_off293 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k7_off294 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k7_off295 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k7_off296 (k7_t7 : Fin k7_t7_loop.trips) : Fin 2 → Nat :=
  let c0_i32_52 : BitVec 32 := 0#32
  let c1_i32_53 : BitVec 32 := 1#32
  let arg14 : BitVec 32 := Scf.iv c0_i32_52 c1_i32_53 k7_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k7_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k7_off297 (k7_t8 : Fin k7_t8_loop.trips) : Fin 1 → Nat :=
  let c0_i32_16 : BitVec 32 := 0#32
  let c1_i32_17 : BitVec 32 := 1#32
  let arg12 : BitVec 32 := Scf.iv c0_i32_16 c1_i32_17 k7_t8
  let c16_i32 : BitVec 32 := 16#32
  let v38 : BitVec 32 := Scalar.muli arg12 c16_i32
  let v39 : Index := Scalar.indexCast v38
  ![v39.toNat]
def k7_cond3 (i : grid7.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k7_off298 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid8 : Pipeline.Grid := ⟨2, ![2, 16], ![false, false]⟩

@[reducible] def k8_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k8_off1 (k8_t1 : Fin k8_t1_loop.trips) : Fin 1 → Nat :=
  let c0_i32_0 : BitVec 32 := 0#32
  let c1_i32 : BitVec 32 := 1#32
  let arg12 : BitVec 32 := Scf.iv c0_i32_0 c1_i32 k8_t1
  let c16_i32 : BitVec 32 := 16#32
  let v38 : BitVec 32 := Scalar.muli arg12 c16_i32
  let v39 : Index := Scalar.indexCast v38
  ![v39.toNat]
def k8_off2 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k8_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k8_off3 (i : grid8.Coords) (v6 : BitVec 32) (k8_t2 : Fin (k8_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k8_t2
  let c2048_i32_22 : BitVec 32 := 2048#32
  let v38 : BitVec 32 := Scalar.muli arg12 c2048_i32_22
  ![v1.toNat, v38.toNat]
@[reducible] def k8_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k8_off4 (k8_t3 : Fin k8_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k8_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k8_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k8_off5 (k8_t3 : Fin k8_t3_loop.trips) (k8_t4 : Fin k8_t4_loop.trips) : Fin 1 → Nat :=
  let c0_i32_24 : BitVec 32 := 0#32
  let c1_i32_25 : BitVec 32 := 1#32
  let arg13 : BitVec 32 := Scf.iv c0_i32_24 c1_i32_25 k8_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k8_t4
  let c16_i32_56 : BitVec 32 := 16#32
  let v106 : BitVec 32 := Scalar.muli arg14 c16_i32_56
  let v107 : BitVec 32 := Scalar.addi v105 v106
  let v108 : Index := Scalar.indexCast v107
  ![v108.toNat]
def k8_off6 (v115 : BitVec 32) (c0_i32_61 : BitVec 32) : Fin 1 → Nat :=
  let v118 : BitVec 32 := Scalar.addi v115 c0_i32_61
  let v119 : Index := Scalar.indexCast v118
  ![v119.toNat]
def k8_cond1 (v6 : BitVec 32) (k8_t2 : Fin (k8_t2_loop v6).trips) (k8_t3 : Fin k8_t3_loop.trips) : BitVec 1 :=
  let c0_i32_11 : BitVec 32 := 0#32
  let c1_i32_13 : BitVec 32 := 1#32
  let arg12 : BitVec 32 := Scf.iv c0_i32_11 c1_i32_13 k8_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k8_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k8_chk2 (v6 : BitVec 32) (k8_t2 : Fin (k8_t2_loop v6).trips) (k8_t3 : Fin k8_t3_loop.trips) (v115 : BitVec 32) : Prop :=
  (∀ (k8_h1 : k8_cond1 v6 k8_t2 k8_t3 = 1#1), ∀ (r : Fin 8), ∀ a, (k8_off6 v115 (BitVec.ofNat 32 (16 * r.val))) a + S16.size a ≤ S40192.size a)
theorem k8_off6_inb : ∀ (v6 : BitVec 32) (k8_t2 : Fin (k8_t2_loop v6).trips) (k8_t3 : Fin k8_t3_loop.trips) (v115 : BitVec 32) (k8_hw2 : k8_chk2 v6 k8_t2 k8_t3 v115), ∀ (k8_h1 : k8_cond1 v6 k8_t2 k8_t3 = 1#1), ∀ (r : Fin 8), ∀ a, (k8_off6 v115 (BitVec.ofNat 32 (16 * r.val))) a + S16.size a ≤ S40192.size a := fun v6 k8_t2 k8_t3 v115 k8_hw2 k8_h1 r => k8_hw2 k8_h1 r

def k8_off7 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k8_off8 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k8_off9 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k8_off10 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k8_off11 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k8_off12 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k8_off13 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k8_off14 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k8_off15 (v183 : BitVec 32) (c0_i32_79 : BitVec 32) : Fin 1 → Nat :=
  let v186 : BitVec 32 := Scalar.addi v183 c0_i32_79
  let v187 : Index := Scalar.indexCast v186
  ![v187.toNat]

def k8_chk3 (v6 : BitVec 32) (k8_t2 : Fin (k8_t2_loop v6).trips) (k8_t3 : Fin k8_t3_loop.trips) (v183 : BitVec 32) : Prop :=
  (∀ (k8_h1 : k8_cond1 v6 k8_t2 k8_t3 = 1#1), ∀ (r : Fin 8), ∀ a, (k8_off15 v183 (BitVec.ofNat 32 (16 * r.val))) a + S16.size a ≤ S40192.size a)
theorem k8_off15_inb : ∀ (v6 : BitVec 32) (k8_t2 : Fin (k8_t2_loop v6).trips) (k8_t3 : Fin k8_t3_loop.trips) (v183 : BitVec 32) (k8_hw3 : k8_chk3 v6 k8_t2 k8_t3 v183), ∀ (k8_h1 : k8_cond1 v6 k8_t2 k8_t3 = 1#1), ∀ (r : Fin 8), ∀ a, (k8_off15 v183 (BitVec.ofNat 32 (16 * r.val))) a + S16.size a ≤ S40192.size a := fun v6 k8_t2 k8_t3 v183 k8_hw3 k8_h1 r => k8_hw3 k8_h1 r

def k8_off16 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k8_off17 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k8_off18 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k8_off19 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k8_off20 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k8_off21 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k8_off22 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k8_off23 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k8_off24 (v251 : BitVec 32) (c0_i32_97 : BitVec 32) : Fin 1 → Nat :=
  let v254 : BitVec 32 := Scalar.addi v251 c0_i32_97
  let v255 : Index := Scalar.indexCast v254
  ![v255.toNat]

def k8_chk4 (v6 : BitVec 32) (k8_t2 : Fin (k8_t2_loop v6).trips) (k8_t3 : Fin k8_t3_loop.trips) (v251 : BitVec 32) : Prop :=
  (∀ (k8_h1 : k8_cond1 v6 k8_t2 k8_t3 = 1#1), ∀ (r : Fin 8), ∀ a, (k8_off24 v251 (BitVec.ofNat 32 (16 * r.val))) a + S16.size a ≤ S40192.size a)
theorem k8_off24_inb : ∀ (v6 : BitVec 32) (k8_t2 : Fin (k8_t2_loop v6).trips) (k8_t3 : Fin k8_t3_loop.trips) (v251 : BitVec 32) (k8_hw4 : k8_chk4 v6 k8_t2 k8_t3 v251), ∀ (k8_h1 : k8_cond1 v6 k8_t2 k8_t3 = 1#1), ∀ (r : Fin 8), ∀ a, (k8_off24 v251 (BitVec.ofNat 32 (16 * r.val))) a + S16.size a ≤ S40192.size a := fun v6 k8_t2 k8_t3 v251 k8_hw4 k8_h1 r => k8_hw4 k8_h1 r

def k8_off25 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k8_off26 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k8_off27 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k8_off28 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k8_off29 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k8_off30 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k8_off31 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k8_off32 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k8_off33 (v319 : BitVec 32) (c0_i32_114 : BitVec 32) : Fin 1 → Nat :=
  let v322 : BitVec 32 := Scalar.addi v319 c0_i32_114
  let v323 : Index := Scalar.indexCast v322
  ![v323.toNat]

def k8_chk5 (v6 : BitVec 32) (k8_t2 : Fin (k8_t2_loop v6).trips) (k8_t3 : Fin k8_t3_loop.trips) (v319 : BitVec 32) : Prop :=
  (∀ (k8_h1 : k8_cond1 v6 k8_t2 k8_t3 = 1#1), ∀ (r : Fin 8), ∀ a, (k8_off33 v319 (BitVec.ofNat 32 (16 * r.val))) a + S16.size a ≤ S40192.size a)
theorem k8_off33_inb : ∀ (v6 : BitVec 32) (k8_t2 : Fin (k8_t2_loop v6).trips) (k8_t3 : Fin k8_t3_loop.trips) (v319 : BitVec 32) (k8_hw5 : k8_chk5 v6 k8_t2 k8_t3 v319), ∀ (k8_h1 : k8_cond1 v6 k8_t2 k8_t3 = 1#1), ∀ (r : Fin 8), ∀ a, (k8_off33 v319 (BitVec.ofNat 32 (16 * r.val))) a + S16.size a ≤ S40192.size a := fun v6 k8_t2 k8_t3 v319 k8_hw5 k8_h1 r => k8_hw5 k8_h1 r

def k8_off34 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k8_off35 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k8_off36 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k8_off37 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k8_off38 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k8_off39 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k8_off40 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k8_off41 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k8_off42 (v387 : BitVec 32) (c0_i32_131 : BitVec 32) : Fin 1 → Nat :=
  let v390 : BitVec 32 := Scalar.addi v387 c0_i32_131
  let v391 : Index := Scalar.indexCast v390
  ![v391.toNat]

def k8_chk6 (v6 : BitVec 32) (k8_t2 : Fin (k8_t2_loop v6).trips) (k8_t3 : Fin k8_t3_loop.trips) (v387 : BitVec 32) : Prop :=
  (∀ (k8_h1 : k8_cond1 v6 k8_t2 k8_t3 = 1#1), ∀ (r : Fin 8), ∀ a, (k8_off42 v387 (BitVec.ofNat 32 (16 * r.val))) a + S16.size a ≤ S40192.size a)
theorem k8_off42_inb : ∀ (v6 : BitVec 32) (k8_t2 : Fin (k8_t2_loop v6).trips) (k8_t3 : Fin k8_t3_loop.trips) (v387 : BitVec 32) (k8_hw6 : k8_chk6 v6 k8_t2 k8_t3 v387), ∀ (k8_h1 : k8_cond1 v6 k8_t2 k8_t3 = 1#1), ∀ (r : Fin 8), ∀ a, (k8_off42 v387 (BitVec.ofNat 32 (16 * r.val))) a + S16.size a ≤ S40192.size a := fun v6 k8_t2 k8_t3 v387 k8_hw6 k8_h1 r => k8_hw6 k8_h1 r

def k8_off43 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k8_off44 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k8_off45 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k8_off46 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k8_off47 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k8_off48 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k8_off49 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k8_off50 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k8_off51 (v455 : BitVec 32) (c0_i32_148 : BitVec 32) : Fin 1 → Nat :=
  let v458 : BitVec 32 := Scalar.addi v455 c0_i32_148
  let v459 : Index := Scalar.indexCast v458
  ![v459.toNat]

def k8_chk7 (v6 : BitVec 32) (k8_t2 : Fin (k8_t2_loop v6).trips) (k8_t3 : Fin k8_t3_loop.trips) (v455 : BitVec 32) : Prop :=
  (∀ (k8_h1 : k8_cond1 v6 k8_t2 k8_t3 = 1#1), ∀ (r : Fin 8), ∀ a, (k8_off51 v455 (BitVec.ofNat 32 (16 * r.val))) a + S16.size a ≤ S40192.size a)
theorem k8_off51_inb : ∀ (v6 : BitVec 32) (k8_t2 : Fin (k8_t2_loop v6).trips) (k8_t3 : Fin k8_t3_loop.trips) (v455 : BitVec 32) (k8_hw7 : k8_chk7 v6 k8_t2 k8_t3 v455), ∀ (k8_h1 : k8_cond1 v6 k8_t2 k8_t3 = 1#1), ∀ (r : Fin 8), ∀ a, (k8_off51 v455 (BitVec.ofNat 32 (16 * r.val))) a + S16.size a ≤ S40192.size a := fun v6 k8_t2 k8_t3 v455 k8_hw7 k8_h1 r => k8_hw7 k8_h1 r

def k8_off52 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k8_off53 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k8_off54 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k8_off55 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k8_off56 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k8_off57 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k8_off58 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k8_off59 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k8_off60 (v523 : BitVec 32) (c0_i32_165 : BitVec 32) : Fin 1 → Nat :=
  let v526 : BitVec 32 := Scalar.addi v523 c0_i32_165
  let v527 : Index := Scalar.indexCast v526
  ![v527.toNat]

def k8_chk8 (v6 : BitVec 32) (k8_t2 : Fin (k8_t2_loop v6).trips) (k8_t3 : Fin k8_t3_loop.trips) (v523 : BitVec 32) : Prop :=
  (∀ (k8_h1 : k8_cond1 v6 k8_t2 k8_t3 = 1#1), ∀ (r : Fin 8), ∀ a, (k8_off60 v523 (BitVec.ofNat 32 (16 * r.val))) a + S16.size a ≤ S40192.size a)
theorem k8_off60_inb : ∀ (v6 : BitVec 32) (k8_t2 : Fin (k8_t2_loop v6).trips) (k8_t3 : Fin k8_t3_loop.trips) (v523 : BitVec 32) (k8_hw8 : k8_chk8 v6 k8_t2 k8_t3 v523), ∀ (k8_h1 : k8_cond1 v6 k8_t2 k8_t3 = 1#1), ∀ (r : Fin 8), ∀ a, (k8_off60 v523 (BitVec.ofNat 32 (16 * r.val))) a + S16.size a ≤ S40192.size a := fun v6 k8_t2 k8_t3 v523 k8_hw8 k8_h1 r => k8_hw8 k8_h1 r

def k8_off61 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k8_off62 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k8_off63 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k8_off64 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k8_off65 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k8_off66 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k8_off67 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k8_off68 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k8_off69 (v591 : BitVec 32) (c0_i32_182 : BitVec 32) : Fin 1 → Nat :=
  let v594 : BitVec 32 := Scalar.addi v591 c0_i32_182
  let v595 : Index := Scalar.indexCast v594
  ![v595.toNat]

def k8_chk9 (v6 : BitVec 32) (k8_t2 : Fin (k8_t2_loop v6).trips) (k8_t3 : Fin k8_t3_loop.trips) (v591 : BitVec 32) : Prop :=
  (∀ (k8_h1 : k8_cond1 v6 k8_t2 k8_t3 = 1#1), ∀ (r : Fin 8), ∀ a, (k8_off69 v591 (BitVec.ofNat 32 (16 * r.val))) a + S16.size a ≤ S40192.size a)
theorem k8_off69_inb : ∀ (v6 : BitVec 32) (k8_t2 : Fin (k8_t2_loop v6).trips) (k8_t3 : Fin k8_t3_loop.trips) (v591 : BitVec 32) (k8_hw9 : k8_chk9 v6 k8_t2 k8_t3 v591), ∀ (k8_h1 : k8_cond1 v6 k8_t2 k8_t3 = 1#1), ∀ (r : Fin 8), ∀ a, (k8_off69 v591 (BitVec.ofNat 32 (16 * r.val))) a + S16.size a ≤ S40192.size a := fun v6 k8_t2 k8_t3 v591 k8_hw9 k8_h1 r => k8_hw9 k8_h1 r

def k8_off70 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k8_off71 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k8_off72 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k8_off73 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k8_off74 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k8_off75 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k8_off76 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k8_off77 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k8_off78 (v659 : BitVec 32) (c0_i32_200 : BitVec 32) : Fin 1 → Nat :=
  let v662 : BitVec 32 := Scalar.addi v659 c0_i32_200
  let v663 : Index := Scalar.indexCast v662
  ![v663.toNat]

def k8_chk10 (v6 : BitVec 32) (k8_t2 : Fin (k8_t2_loop v6).trips) (k8_t3 : Fin k8_t3_loop.trips) (v659 : BitVec 32) : Prop :=
  (∀ (k8_h1 : k8_cond1 v6 k8_t2 k8_t3 = 1#1), ∀ (r : Fin 8), ∀ a, (k8_off78 v659 (BitVec.ofNat 32 (16 * r.val))) a + S16.size a ≤ S40192.size a)
theorem k8_off78_inb : ∀ (v6 : BitVec 32) (k8_t2 : Fin (k8_t2_loop v6).trips) (k8_t3 : Fin k8_t3_loop.trips) (v659 : BitVec 32) (k8_hw10 : k8_chk10 v6 k8_t2 k8_t3 v659), ∀ (k8_h1 : k8_cond1 v6 k8_t2 k8_t3 = 1#1), ∀ (r : Fin 8), ∀ a, (k8_off78 v659 (BitVec.ofNat 32 (16 * r.val))) a + S16.size a ≤ S40192.size a := fun v6 k8_t2 k8_t3 v659 k8_hw10 k8_h1 r => k8_hw10 k8_h1 r

def k8_off79 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k8_off80 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k8_off81 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k8_off82 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k8_off83 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k8_off84 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k8_off85 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k8_off86 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k8_off87 (v727 : BitVec 32) (c0_i32_217 : BitVec 32) : Fin 1 → Nat :=
  let v730 : BitVec 32 := Scalar.addi v727 c0_i32_217
  let v731 : Index := Scalar.indexCast v730
  ![v731.toNat]

def k8_chk11 (v6 : BitVec 32) (k8_t2 : Fin (k8_t2_loop v6).trips) (k8_t3 : Fin k8_t3_loop.trips) (v727 : BitVec 32) : Prop :=
  (∀ (k8_h1 : k8_cond1 v6 k8_t2 k8_t3 = 1#1), ∀ (r : Fin 8), ∀ a, (k8_off87 v727 (BitVec.ofNat 32 (16 * r.val))) a + S16.size a ≤ S40192.size a)
theorem k8_off87_inb : ∀ (v6 : BitVec 32) (k8_t2 : Fin (k8_t2_loop v6).trips) (k8_t3 : Fin k8_t3_loop.trips) (v727 : BitVec 32) (k8_hw11 : k8_chk11 v6 k8_t2 k8_t3 v727), ∀ (k8_h1 : k8_cond1 v6 k8_t2 k8_t3 = 1#1), ∀ (r : Fin 8), ∀ a, (k8_off87 v727 (BitVec.ofNat 32 (16 * r.val))) a + S16.size a ≤ S40192.size a := fun v6 k8_t2 k8_t3 v727 k8_hw11 k8_h1 r => k8_hw11 k8_h1 r

def k8_off88 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k8_off89 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k8_off90 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k8_off91 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k8_off92 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k8_off93 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k8_off94 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k8_off95 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k8_off96 (v795 : BitVec 32) (c0_i32_234 : BitVec 32) : Fin 1 → Nat :=
  let v798 : BitVec 32 := Scalar.addi v795 c0_i32_234
  let v799 : Index := Scalar.indexCast v798
  ![v799.toNat]

def k8_chk12 (v6 : BitVec 32) (k8_t2 : Fin (k8_t2_loop v6).trips) (k8_t3 : Fin k8_t3_loop.trips) (v795 : BitVec 32) : Prop :=
  (∀ (k8_h1 : k8_cond1 v6 k8_t2 k8_t3 = 1#1), ∀ (r : Fin 8), ∀ a, (k8_off96 v795 (BitVec.ofNat 32 (16 * r.val))) a + S16.size a ≤ S40192.size a)
theorem k8_off96_inb : ∀ (v6 : BitVec 32) (k8_t2 : Fin (k8_t2_loop v6).trips) (k8_t3 : Fin k8_t3_loop.trips) (v795 : BitVec 32) (k8_hw12 : k8_chk12 v6 k8_t2 k8_t3 v795), ∀ (k8_h1 : k8_cond1 v6 k8_t2 k8_t3 = 1#1), ∀ (r : Fin 8), ∀ a, (k8_off96 v795 (BitVec.ofNat 32 (16 * r.val))) a + S16.size a ≤ S40192.size a := fun v6 k8_t2 k8_t3 v795 k8_hw12 k8_h1 r => k8_hw12 k8_h1 r

def k8_off97 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k8_off98 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k8_off99 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k8_off100 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k8_off101 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k8_off102 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k8_off103 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k8_off104 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k8_off105 (v863 : BitVec 32) (c0_i32_251 : BitVec 32) : Fin 1 → Nat :=
  let v866 : BitVec 32 := Scalar.addi v863 c0_i32_251
  let v867 : Index := Scalar.indexCast v866
  ![v867.toNat]

def k8_chk13 (v6 : BitVec 32) (k8_t2 : Fin (k8_t2_loop v6).trips) (k8_t3 : Fin k8_t3_loop.trips) (v863 : BitVec 32) : Prop :=
  (∀ (k8_h1 : k8_cond1 v6 k8_t2 k8_t3 = 1#1), ∀ (r : Fin 8), ∀ a, (k8_off105 v863 (BitVec.ofNat 32 (16 * r.val))) a + S16.size a ≤ S40192.size a)
theorem k8_off105_inb : ∀ (v6 : BitVec 32) (k8_t2 : Fin (k8_t2_loop v6).trips) (k8_t3 : Fin k8_t3_loop.trips) (v863 : BitVec 32) (k8_hw13 : k8_chk13 v6 k8_t2 k8_t3 v863), ∀ (k8_h1 : k8_cond1 v6 k8_t2 k8_t3 = 1#1), ∀ (r : Fin 8), ∀ a, (k8_off105 v863 (BitVec.ofNat 32 (16 * r.val))) a + S16.size a ≤ S40192.size a := fun v6 k8_t2 k8_t3 v863 k8_hw13 k8_h1 r => k8_hw13 k8_h1 r

def k8_off106 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k8_off107 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k8_off108 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k8_off109 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k8_off110 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k8_off111 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k8_off112 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k8_off113 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k8_off114 (v931 : BitVec 32) (c0_i32_268 : BitVec 32) : Fin 1 → Nat :=
  let v934 : BitVec 32 := Scalar.addi v931 c0_i32_268
  let v935 : Index := Scalar.indexCast v934
  ![v935.toNat]

def k8_chk14 (v6 : BitVec 32) (k8_t2 : Fin (k8_t2_loop v6).trips) (k8_t3 : Fin k8_t3_loop.trips) (v931 : BitVec 32) : Prop :=
  (∀ (k8_h1 : k8_cond1 v6 k8_t2 k8_t3 = 1#1), ∀ (r : Fin 8), ∀ a, (k8_off114 v931 (BitVec.ofNat 32 (16 * r.val))) a + S16.size a ≤ S40192.size a)
theorem k8_off114_inb : ∀ (v6 : BitVec 32) (k8_t2 : Fin (k8_t2_loop v6).trips) (k8_t3 : Fin k8_t3_loop.trips) (v931 : BitVec 32) (k8_hw14 : k8_chk14 v6 k8_t2 k8_t3 v931), ∀ (k8_h1 : k8_cond1 v6 k8_t2 k8_t3 = 1#1), ∀ (r : Fin 8), ∀ a, (k8_off114 v931 (BitVec.ofNat 32 (16 * r.val))) a + S16.size a ≤ S40192.size a := fun v6 k8_t2 k8_t3 v931 k8_hw14 k8_h1 r => k8_hw14 k8_h1 r

def k8_off115 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k8_off116 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k8_off117 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k8_off118 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k8_off119 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k8_off120 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k8_off121 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k8_off122 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k8_off123 (v999 : BitVec 32) (c0_i32_285 : BitVec 32) : Fin 1 → Nat :=
  let v1002 : BitVec 32 := Scalar.addi v999 c0_i32_285
  let v1003 : Index := Scalar.indexCast v1002
  ![v1003.toNat]

def k8_chk15 (v6 : BitVec 32) (k8_t2 : Fin (k8_t2_loop v6).trips) (k8_t3 : Fin k8_t3_loop.trips) (v999 : BitVec 32) : Prop :=
  (∀ (k8_h1 : k8_cond1 v6 k8_t2 k8_t3 = 1#1), ∀ (r : Fin 8), ∀ a, (k8_off123 v999 (BitVec.ofNat 32 (16 * r.val))) a + S16.size a ≤ S40192.size a)
theorem k8_off123_inb : ∀ (v6 : BitVec 32) (k8_t2 : Fin (k8_t2_loop v6).trips) (k8_t3 : Fin k8_t3_loop.trips) (v999 : BitVec 32) (k8_hw15 : k8_chk15 v6 k8_t2 k8_t3 v999), ∀ (k8_h1 : k8_cond1 v6 k8_t2 k8_t3 = 1#1), ∀ (r : Fin 8), ∀ a, (k8_off123 v999 (BitVec.ofNat 32 (16 * r.val))) a + S16.size a ≤ S40192.size a := fun v6 k8_t2 k8_t3 v999 k8_hw15 k8_h1 r => k8_hw15 k8_h1 r

def k8_off124 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k8_off125 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k8_off126 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k8_off127 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k8_off128 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k8_off129 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k8_off130 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k8_off131 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k8_off132 (v1067 : BitVec 32) (c0_i32_302 : BitVec 32) : Fin 1 → Nat :=
  let v1070 : BitVec 32 := Scalar.addi v1067 c0_i32_302
  let v1071 : Index := Scalar.indexCast v1070
  ![v1071.toNat]

def k8_chk16 (v6 : BitVec 32) (k8_t2 : Fin (k8_t2_loop v6).trips) (k8_t3 : Fin k8_t3_loop.trips) (v1067 : BitVec 32) : Prop :=
  (∀ (k8_h1 : k8_cond1 v6 k8_t2 k8_t3 = 1#1), ∀ (r : Fin 8), ∀ a, (k8_off132 v1067 (BitVec.ofNat 32 (16 * r.val))) a + S16.size a ≤ S40192.size a)
theorem k8_off132_inb : ∀ (v6 : BitVec 32) (k8_t2 : Fin (k8_t2_loop v6).trips) (k8_t3 : Fin k8_t3_loop.trips) (v1067 : BitVec 32) (k8_hw16 : k8_chk16 v6 k8_t2 k8_t3 v1067), ∀ (k8_h1 : k8_cond1 v6 k8_t2 k8_t3 = 1#1), ∀ (r : Fin 8), ∀ a, (k8_off132 v1067 (BitVec.ofNat 32 (16 * r.val))) a + S16.size a ≤ S40192.size a := fun v6 k8_t2 k8_t3 v1067 k8_hw16 k8_h1 r => k8_hw16 k8_h1 r

def k8_off133 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k8_off134 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k8_off135 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k8_off136 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k8_off137 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k8_off138 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k8_off139 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k8_off140 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k8_off141 (v1135 : BitVec 32) (c0_i32_319 : BitVec 32) : Fin 1 → Nat :=
  let v1138 : BitVec 32 := Scalar.addi v1135 c0_i32_319
  let v1139 : Index := Scalar.indexCast v1138
  ![v1139.toNat]

def k8_chk17 (v6 : BitVec 32) (k8_t2 : Fin (k8_t2_loop v6).trips) (k8_t3 : Fin k8_t3_loop.trips) (v1135 : BitVec 32) : Prop :=
  (∀ (k8_h1 : k8_cond1 v6 k8_t2 k8_t3 = 1#1), ∀ (r : Fin 8), ∀ a, (k8_off141 v1135 (BitVec.ofNat 32 (16 * r.val))) a + S16.size a ≤ S40192.size a)
theorem k8_off141_inb : ∀ (v6 : BitVec 32) (k8_t2 : Fin (k8_t2_loop v6).trips) (k8_t3 : Fin k8_t3_loop.trips) (v1135 : BitVec 32) (k8_hw17 : k8_chk17 v6 k8_t2 k8_t3 v1135), ∀ (k8_h1 : k8_cond1 v6 k8_t2 k8_t3 = 1#1), ∀ (r : Fin 8), ∀ a, (k8_off141 v1135 (BitVec.ofNat 32 (16 * r.val))) a + S16.size a ≤ S40192.size a := fun v6 k8_t2 k8_t3 v1135 k8_hw17 k8_h1 r => k8_hw17 k8_h1 r

def k8_off142 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k8_off143 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k8_off144 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k8_off145 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k8_off146 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k8_off147 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k8_off148 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k8_off149 (k8_t4 : Fin k8_t4_loop.trips) : Fin 2 → Nat :=
  let c0_i32_52 : BitVec 32 := 0#32
  let c1_i32_53 : BitVec 32 := 1#32
  let arg14 : BitVec 32 := Scf.iv c0_i32_52 c1_i32_53 k8_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k8_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k8_off150 (i : grid8.Coords) (v6 : BitVec 32) (k8_t5 : Fin (k8_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k8_t5
  let c2048_i32_22 : BitVec 32 := 2048#32
  let v38 : BitVec 32 := Scalar.muli arg12 c2048_i32_22
  ![v1.toNat, v38.toNat]

def k8_chk1 (i : grid8.Coords) (v6 : BitVec 32) : Prop :=
  ((k8_t2_loop v6).OK) ∧
  (∀ k8_t2 : Fin (k8_t2_loop v6).trips, ∀ a, (k8_off3 i v6 k8_t2) a + S1x2048.size a ≤ S32x323584.size a) ∧
  ((k8_t5_loop v6).OK) ∧
  (∀ k8_t5 : Fin (k8_t5_loop v6).trips, ∀ a, (k8_off150 i v6 k8_t5) a + S1x2048.size a ≤ S32x323584.size a)
theorem k8_t2_ok : ∀ (i : grid8.Coords) (v6 : BitVec 32) (k8_hw1 : k8_chk1 i v6), (k8_t2_loop v6).OK := fun i v6 k8_hw1 => k8_hw1.1
theorem k8_off3_inb : ∀ (i : grid8.Coords) (v6 : BitVec 32) (k8_hw1 : k8_chk1 i v6) (k8_t2 : Fin (k8_t2_loop v6).trips), ∀ a, (k8_off3 i v6 k8_t2) a + S1x2048.size a ≤ S32x323584.size a := fun i v6 k8_hw1 k8_t2 => k8_hw1.2.1 k8_t2
theorem k8_t5_ok : ∀ (i : grid8.Coords) (v6 : BitVec 32) (k8_hw1 : k8_chk1 i v6), (k8_t5_loop v6).OK := fun i v6 k8_hw1 => k8_hw1.2.2.1
theorem k8_off150_inb : ∀ (i : grid8.Coords) (v6 : BitVec 32) (k8_hw1 : k8_chk1 i v6) (k8_t5 : Fin (k8_t5_loop v6).trips), ∀ a, (k8_off150 i v6 k8_t5) a + S1x2048.size a ≤ S32x323584.size a := fun i v6 k8_hw1 k8_t5 => k8_hw1.2.2.2 k8_t5

@[reducible] def k8_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k8_off151 (k8_t6 : Fin k8_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k8_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k8_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k8_off152 (k8_t6 : Fin k8_t6_loop.trips) (k8_t7 : Fin k8_t7_loop.trips) : Fin 1 → Nat :=
  let c0_i32_24 : BitVec 32 := 0#32
  let c1_i32_25 : BitVec 32 := 1#32
  let arg13 : BitVec 32 := Scf.iv c0_i32_24 c1_i32_25 k8_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k8_t7
  let c16_i32_56 : BitVec 32 := 16#32
  let v106 : BitVec 32 := Scalar.muli arg14 c16_i32_56
  let v107 : BitVec 32 := Scalar.addi v105 v106
  let v108 : Index := Scalar.indexCast v107
  ![v108.toNat]
def k8_off153 (v115 : BitVec 32) (c0_i32_61 : BitVec 32) : Fin 1 → Nat :=
  let v118 : BitVec 32 := Scalar.addi v115 c0_i32_61
  let v119 : Index := Scalar.indexCast v118
  ![v119.toNat]
def k8_cond2 (v6 : BitVec 32) (k8_t5 : Fin (k8_t5_loop v6).trips) (k8_t6 : Fin k8_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k8_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k8_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k8_chk18 (v6 : BitVec 32) (k8_t5 : Fin (k8_t5_loop v6).trips) (k8_t6 : Fin k8_t6_loop.trips) (v115 : BitVec 32) : Prop :=
  (∀ (k8_h2 : k8_cond2 v6 k8_t5 k8_t6 = 1#1), ∀ (r : Fin 8), ∀ a, (k8_off153 v115 (BitVec.ofNat 32 (16 * r.val))) a + S16.size a ≤ S40192.size a)
theorem k8_off153_inb : ∀ (v6 : BitVec 32) (k8_t5 : Fin (k8_t5_loop v6).trips) (k8_t6 : Fin k8_t6_loop.trips) (v115 : BitVec 32) (k8_hw18 : k8_chk18 v6 k8_t5 k8_t6 v115), ∀ (k8_h2 : k8_cond2 v6 k8_t5 k8_t6 = 1#1), ∀ (r : Fin 8), ∀ a, (k8_off153 v115 (BitVec.ofNat 32 (16 * r.val))) a + S16.size a ≤ S40192.size a := fun v6 k8_t5 k8_t6 v115 k8_hw18 k8_h2 r => k8_hw18 k8_h2 r

def k8_off154 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k8_off155 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k8_off156 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k8_off157 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k8_off158 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k8_off159 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k8_off160 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k8_off161 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k8_off162 (v183 : BitVec 32) (c0_i32_79 : BitVec 32) : Fin 1 → Nat :=
  let v186 : BitVec 32 := Scalar.addi v183 c0_i32_79
  let v187 : Index := Scalar.indexCast v186
  ![v187.toNat]

def k8_chk19 (v6 : BitVec 32) (k8_t5 : Fin (k8_t5_loop v6).trips) (k8_t6 : Fin k8_t6_loop.trips) (v183 : BitVec 32) : Prop :=
  (∀ (k8_h2 : k8_cond2 v6 k8_t5 k8_t6 = 1#1), ∀ (r : Fin 8), ∀ a, (k8_off162 v183 (BitVec.ofNat 32 (16 * r.val))) a + S16.size a ≤ S40192.size a)
theorem k8_off162_inb : ∀ (v6 : BitVec 32) (k8_t5 : Fin (k8_t5_loop v6).trips) (k8_t6 : Fin k8_t6_loop.trips) (v183 : BitVec 32) (k8_hw19 : k8_chk19 v6 k8_t5 k8_t6 v183), ∀ (k8_h2 : k8_cond2 v6 k8_t5 k8_t6 = 1#1), ∀ (r : Fin 8), ∀ a, (k8_off162 v183 (BitVec.ofNat 32 (16 * r.val))) a + S16.size a ≤ S40192.size a := fun v6 k8_t5 k8_t6 v183 k8_hw19 k8_h2 r => k8_hw19 k8_h2 r

def k8_off163 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k8_off164 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k8_off165 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k8_off166 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k8_off167 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k8_off168 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k8_off169 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k8_off170 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k8_off171 (v251 : BitVec 32) (c0_i32_97 : BitVec 32) : Fin 1 → Nat :=
  let v254 : BitVec 32 := Scalar.addi v251 c0_i32_97
  let v255 : Index := Scalar.indexCast v254
  ![v255.toNat]

def k8_chk20 (v6 : BitVec 32) (k8_t5 : Fin (k8_t5_loop v6).trips) (k8_t6 : Fin k8_t6_loop.trips) (v251 : BitVec 32) : Prop :=
  (∀ (k8_h2 : k8_cond2 v6 k8_t5 k8_t6 = 1#1), ∀ (r : Fin 8), ∀ a, (k8_off171 v251 (BitVec.ofNat 32 (16 * r.val))) a + S16.size a ≤ S40192.size a)
theorem k8_off171_inb : ∀ (v6 : BitVec 32) (k8_t5 : Fin (k8_t5_loop v6).trips) (k8_t6 : Fin k8_t6_loop.trips) (v251 : BitVec 32) (k8_hw20 : k8_chk20 v6 k8_t5 k8_t6 v251), ∀ (k8_h2 : k8_cond2 v6 k8_t5 k8_t6 = 1#1), ∀ (r : Fin 8), ∀ a, (k8_off171 v251 (BitVec.ofNat 32 (16 * r.val))) a + S16.size a ≤ S40192.size a := fun v6 k8_t5 k8_t6 v251 k8_hw20 k8_h2 r => k8_hw20 k8_h2 r

def k8_off172 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k8_off173 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k8_off174 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k8_off175 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k8_off176 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k8_off177 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k8_off178 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k8_off179 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k8_off180 (v319 : BitVec 32) (c0_i32_114 : BitVec 32) : Fin 1 → Nat :=
  let v322 : BitVec 32 := Scalar.addi v319 c0_i32_114
  let v323 : Index := Scalar.indexCast v322
  ![v323.toNat]

def k8_chk21 (v6 : BitVec 32) (k8_t5 : Fin (k8_t5_loop v6).trips) (k8_t6 : Fin k8_t6_loop.trips) (v319 : BitVec 32) : Prop :=
  (∀ (k8_h2 : k8_cond2 v6 k8_t5 k8_t6 = 1#1), ∀ (r : Fin 8), ∀ a, (k8_off180 v319 (BitVec.ofNat 32 (16 * r.val))) a + S16.size a ≤ S40192.size a)
theorem k8_off180_inb : ∀ (v6 : BitVec 32) (k8_t5 : Fin (k8_t5_loop v6).trips) (k8_t6 : Fin k8_t6_loop.trips) (v319 : BitVec 32) (k8_hw21 : k8_chk21 v6 k8_t5 k8_t6 v319), ∀ (k8_h2 : k8_cond2 v6 k8_t5 k8_t6 = 1#1), ∀ (r : Fin 8), ∀ a, (k8_off180 v319 (BitVec.ofNat 32 (16 * r.val))) a + S16.size a ≤ S40192.size a := fun v6 k8_t5 k8_t6 v319 k8_hw21 k8_h2 r => k8_hw21 k8_h2 r

def k8_off181 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k8_off182 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k8_off183 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k8_off184 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k8_off185 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k8_off186 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k8_off187 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k8_off188 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k8_off189 (v387 : BitVec 32) (c0_i32_131 : BitVec 32) : Fin 1 → Nat :=
  let v390 : BitVec 32 := Scalar.addi v387 c0_i32_131
  let v391 : Index := Scalar.indexCast v390
  ![v391.toNat]

def k8_chk22 (v6 : BitVec 32) (k8_t5 : Fin (k8_t5_loop v6).trips) (k8_t6 : Fin k8_t6_loop.trips) (v387 : BitVec 32) : Prop :=
  (∀ (k8_h2 : k8_cond2 v6 k8_t5 k8_t6 = 1#1), ∀ (r : Fin 8), ∀ a, (k8_off189 v387 (BitVec.ofNat 32 (16 * r.val))) a + S16.size a ≤ S40192.size a)
theorem k8_off189_inb : ∀ (v6 : BitVec 32) (k8_t5 : Fin (k8_t5_loop v6).trips) (k8_t6 : Fin k8_t6_loop.trips) (v387 : BitVec 32) (k8_hw22 : k8_chk22 v6 k8_t5 k8_t6 v387), ∀ (k8_h2 : k8_cond2 v6 k8_t5 k8_t6 = 1#1), ∀ (r : Fin 8), ∀ a, (k8_off189 v387 (BitVec.ofNat 32 (16 * r.val))) a + S16.size a ≤ S40192.size a := fun v6 k8_t5 k8_t6 v387 k8_hw22 k8_h2 r => k8_hw22 k8_h2 r

def k8_off190 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k8_off191 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k8_off192 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k8_off193 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k8_off194 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k8_off195 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k8_off196 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k8_off197 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k8_off198 (v455 : BitVec 32) (c0_i32_148 : BitVec 32) : Fin 1 → Nat :=
  let v458 : BitVec 32 := Scalar.addi v455 c0_i32_148
  let v459 : Index := Scalar.indexCast v458
  ![v459.toNat]

def k8_chk23 (v6 : BitVec 32) (k8_t5 : Fin (k8_t5_loop v6).trips) (k8_t6 : Fin k8_t6_loop.trips) (v455 : BitVec 32) : Prop :=
  (∀ (k8_h2 : k8_cond2 v6 k8_t5 k8_t6 = 1#1), ∀ (r : Fin 8), ∀ a, (k8_off198 v455 (BitVec.ofNat 32 (16 * r.val))) a + S16.size a ≤ S40192.size a)
theorem k8_off198_inb : ∀ (v6 : BitVec 32) (k8_t5 : Fin (k8_t5_loop v6).trips) (k8_t6 : Fin k8_t6_loop.trips) (v455 : BitVec 32) (k8_hw23 : k8_chk23 v6 k8_t5 k8_t6 v455), ∀ (k8_h2 : k8_cond2 v6 k8_t5 k8_t6 = 1#1), ∀ (r : Fin 8), ∀ a, (k8_off198 v455 (BitVec.ofNat 32 (16 * r.val))) a + S16.size a ≤ S40192.size a := fun v6 k8_t5 k8_t6 v455 k8_hw23 k8_h2 r => k8_hw23 k8_h2 r

def k8_off199 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k8_off200 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k8_off201 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k8_off202 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k8_off203 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k8_off204 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k8_off205 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k8_off206 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k8_off207 (v523 : BitVec 32) (c0_i32_165 : BitVec 32) : Fin 1 → Nat :=
  let v526 : BitVec 32 := Scalar.addi v523 c0_i32_165
  let v527 : Index := Scalar.indexCast v526
  ![v527.toNat]

def k8_chk24 (v6 : BitVec 32) (k8_t5 : Fin (k8_t5_loop v6).trips) (k8_t6 : Fin k8_t6_loop.trips) (v523 : BitVec 32) : Prop :=
  (∀ (k8_h2 : k8_cond2 v6 k8_t5 k8_t6 = 1#1), ∀ (r : Fin 8), ∀ a, (k8_off207 v523 (BitVec.ofNat 32 (16 * r.val))) a + S16.size a ≤ S40192.size a)
theorem k8_off207_inb : ∀ (v6 : BitVec 32) (k8_t5 : Fin (k8_t5_loop v6).trips) (k8_t6 : Fin k8_t6_loop.trips) (v523 : BitVec 32) (k8_hw24 : k8_chk24 v6 k8_t5 k8_t6 v523), ∀ (k8_h2 : k8_cond2 v6 k8_t5 k8_t6 = 1#1), ∀ (r : Fin 8), ∀ a, (k8_off207 v523 (BitVec.ofNat 32 (16 * r.val))) a + S16.size a ≤ S40192.size a := fun v6 k8_t5 k8_t6 v523 k8_hw24 k8_h2 r => k8_hw24 k8_h2 r

def k8_off208 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k8_off209 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k8_off210 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k8_off211 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k8_off212 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k8_off213 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k8_off214 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k8_off215 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k8_off216 (v591 : BitVec 32) (c0_i32_182 : BitVec 32) : Fin 1 → Nat :=
  let v594 : BitVec 32 := Scalar.addi v591 c0_i32_182
  let v595 : Index := Scalar.indexCast v594
  ![v595.toNat]

def k8_chk25 (v6 : BitVec 32) (k8_t5 : Fin (k8_t5_loop v6).trips) (k8_t6 : Fin k8_t6_loop.trips) (v591 : BitVec 32) : Prop :=
  (∀ (k8_h2 : k8_cond2 v6 k8_t5 k8_t6 = 1#1), ∀ (r : Fin 8), ∀ a, (k8_off216 v591 (BitVec.ofNat 32 (16 * r.val))) a + S16.size a ≤ S40192.size a)
theorem k8_off216_inb : ∀ (v6 : BitVec 32) (k8_t5 : Fin (k8_t5_loop v6).trips) (k8_t6 : Fin k8_t6_loop.trips) (v591 : BitVec 32) (k8_hw25 : k8_chk25 v6 k8_t5 k8_t6 v591), ∀ (k8_h2 : k8_cond2 v6 k8_t5 k8_t6 = 1#1), ∀ (r : Fin 8), ∀ a, (k8_off216 v591 (BitVec.ofNat 32 (16 * r.val))) a + S16.size a ≤ S40192.size a := fun v6 k8_t5 k8_t6 v591 k8_hw25 k8_h2 r => k8_hw25 k8_h2 r

def k8_off217 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k8_off218 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k8_off219 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k8_off220 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k8_off221 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k8_off222 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k8_off223 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k8_off224 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k8_off225 (v659 : BitVec 32) (c0_i32_200 : BitVec 32) : Fin 1 → Nat :=
  let v662 : BitVec 32 := Scalar.addi v659 c0_i32_200
  let v663 : Index := Scalar.indexCast v662
  ![v663.toNat]

def k8_chk26 (v6 : BitVec 32) (k8_t5 : Fin (k8_t5_loop v6).trips) (k8_t6 : Fin k8_t6_loop.trips) (v659 : BitVec 32) : Prop :=
  (∀ (k8_h2 : k8_cond2 v6 k8_t5 k8_t6 = 1#1), ∀ (r : Fin 8), ∀ a, (k8_off225 v659 (BitVec.ofNat 32 (16 * r.val))) a + S16.size a ≤ S40192.size a)
theorem k8_off225_inb : ∀ (v6 : BitVec 32) (k8_t5 : Fin (k8_t5_loop v6).trips) (k8_t6 : Fin k8_t6_loop.trips) (v659 : BitVec 32) (k8_hw26 : k8_chk26 v6 k8_t5 k8_t6 v659), ∀ (k8_h2 : k8_cond2 v6 k8_t5 k8_t6 = 1#1), ∀ (r : Fin 8), ∀ a, (k8_off225 v659 (BitVec.ofNat 32 (16 * r.val))) a + S16.size a ≤ S40192.size a := fun v6 k8_t5 k8_t6 v659 k8_hw26 k8_h2 r => k8_hw26 k8_h2 r

def k8_off226 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k8_off227 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k8_off228 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k8_off229 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k8_off230 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k8_off231 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k8_off232 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k8_off233 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k8_off234 (v727 : BitVec 32) (c0_i32_217 : BitVec 32) : Fin 1 → Nat :=
  let v730 : BitVec 32 := Scalar.addi v727 c0_i32_217
  let v731 : Index := Scalar.indexCast v730
  ![v731.toNat]

def k8_chk27 (v6 : BitVec 32) (k8_t5 : Fin (k8_t5_loop v6).trips) (k8_t6 : Fin k8_t6_loop.trips) (v727 : BitVec 32) : Prop :=
  (∀ (k8_h2 : k8_cond2 v6 k8_t5 k8_t6 = 1#1), ∀ (r : Fin 8), ∀ a, (k8_off234 v727 (BitVec.ofNat 32 (16 * r.val))) a + S16.size a ≤ S40192.size a)
theorem k8_off234_inb : ∀ (v6 : BitVec 32) (k8_t5 : Fin (k8_t5_loop v6).trips) (k8_t6 : Fin k8_t6_loop.trips) (v727 : BitVec 32) (k8_hw27 : k8_chk27 v6 k8_t5 k8_t6 v727), ∀ (k8_h2 : k8_cond2 v6 k8_t5 k8_t6 = 1#1), ∀ (r : Fin 8), ∀ a, (k8_off234 v727 (BitVec.ofNat 32 (16 * r.val))) a + S16.size a ≤ S40192.size a := fun v6 k8_t5 k8_t6 v727 k8_hw27 k8_h2 r => k8_hw27 k8_h2 r

def k8_off235 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k8_off236 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k8_off237 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k8_off238 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k8_off239 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k8_off240 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k8_off241 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k8_off242 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k8_off243 (v795 : BitVec 32) (c0_i32_234 : BitVec 32) : Fin 1 → Nat :=
  let v798 : BitVec 32 := Scalar.addi v795 c0_i32_234
  let v799 : Index := Scalar.indexCast v798
  ![v799.toNat]

def k8_chk28 (v6 : BitVec 32) (k8_t5 : Fin (k8_t5_loop v6).trips) (k8_t6 : Fin k8_t6_loop.trips) (v795 : BitVec 32) : Prop :=
  (∀ (k8_h2 : k8_cond2 v6 k8_t5 k8_t6 = 1#1), ∀ (r : Fin 8), ∀ a, (k8_off243 v795 (BitVec.ofNat 32 (16 * r.val))) a + S16.size a ≤ S40192.size a)
theorem k8_off243_inb : ∀ (v6 : BitVec 32) (k8_t5 : Fin (k8_t5_loop v6).trips) (k8_t6 : Fin k8_t6_loop.trips) (v795 : BitVec 32) (k8_hw28 : k8_chk28 v6 k8_t5 k8_t6 v795), ∀ (k8_h2 : k8_cond2 v6 k8_t5 k8_t6 = 1#1), ∀ (r : Fin 8), ∀ a, (k8_off243 v795 (BitVec.ofNat 32 (16 * r.val))) a + S16.size a ≤ S40192.size a := fun v6 k8_t5 k8_t6 v795 k8_hw28 k8_h2 r => k8_hw28 k8_h2 r

def k8_off244 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k8_off245 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k8_off246 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k8_off247 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k8_off248 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k8_off249 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k8_off250 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k8_off251 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k8_off252 (v863 : BitVec 32) (c0_i32_251 : BitVec 32) : Fin 1 → Nat :=
  let v866 : BitVec 32 := Scalar.addi v863 c0_i32_251
  let v867 : Index := Scalar.indexCast v866
  ![v867.toNat]

def k8_chk29 (v6 : BitVec 32) (k8_t5 : Fin (k8_t5_loop v6).trips) (k8_t6 : Fin k8_t6_loop.trips) (v863 : BitVec 32) : Prop :=
  (∀ (k8_h2 : k8_cond2 v6 k8_t5 k8_t6 = 1#1), ∀ (r : Fin 8), ∀ a, (k8_off252 v863 (BitVec.ofNat 32 (16 * r.val))) a + S16.size a ≤ S40192.size a)
theorem k8_off252_inb : ∀ (v6 : BitVec 32) (k8_t5 : Fin (k8_t5_loop v6).trips) (k8_t6 : Fin k8_t6_loop.trips) (v863 : BitVec 32) (k8_hw29 : k8_chk29 v6 k8_t5 k8_t6 v863), ∀ (k8_h2 : k8_cond2 v6 k8_t5 k8_t6 = 1#1), ∀ (r : Fin 8), ∀ a, (k8_off252 v863 (BitVec.ofNat 32 (16 * r.val))) a + S16.size a ≤ S40192.size a := fun v6 k8_t5 k8_t6 v863 k8_hw29 k8_h2 r => k8_hw29 k8_h2 r

def k8_off253 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k8_off254 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k8_off255 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k8_off256 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k8_off257 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k8_off258 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k8_off259 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k8_off260 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k8_off261 (v931 : BitVec 32) (c0_i32_268 : BitVec 32) : Fin 1 → Nat :=
  let v934 : BitVec 32 := Scalar.addi v931 c0_i32_268
  let v935 : Index := Scalar.indexCast v934
  ![v935.toNat]

def k8_chk30 (v6 : BitVec 32) (k8_t5 : Fin (k8_t5_loop v6).trips) (k8_t6 : Fin k8_t6_loop.trips) (v931 : BitVec 32) : Prop :=
  (∀ (k8_h2 : k8_cond2 v6 k8_t5 k8_t6 = 1#1), ∀ (r : Fin 8), ∀ a, (k8_off261 v931 (BitVec.ofNat 32 (16 * r.val))) a + S16.size a ≤ S40192.size a)
theorem k8_off261_inb : ∀ (v6 : BitVec 32) (k8_t5 : Fin (k8_t5_loop v6).trips) (k8_t6 : Fin k8_t6_loop.trips) (v931 : BitVec 32) (k8_hw30 : k8_chk30 v6 k8_t5 k8_t6 v931), ∀ (k8_h2 : k8_cond2 v6 k8_t5 k8_t6 = 1#1), ∀ (r : Fin 8), ∀ a, (k8_off261 v931 (BitVec.ofNat 32 (16 * r.val))) a + S16.size a ≤ S40192.size a := fun v6 k8_t5 k8_t6 v931 k8_hw30 k8_h2 r => k8_hw30 k8_h2 r

def k8_off262 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k8_off263 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k8_off264 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k8_off265 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k8_off266 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k8_off267 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k8_off268 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k8_off269 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k8_off270 (v999 : BitVec 32) (c0_i32_285 : BitVec 32) : Fin 1 → Nat :=
  let v1002 : BitVec 32 := Scalar.addi v999 c0_i32_285
  let v1003 : Index := Scalar.indexCast v1002
  ![v1003.toNat]

def k8_chk31 (v6 : BitVec 32) (k8_t5 : Fin (k8_t5_loop v6).trips) (k8_t6 : Fin k8_t6_loop.trips) (v999 : BitVec 32) : Prop :=
  (∀ (k8_h2 : k8_cond2 v6 k8_t5 k8_t6 = 1#1), ∀ (r : Fin 8), ∀ a, (k8_off270 v999 (BitVec.ofNat 32 (16 * r.val))) a + S16.size a ≤ S40192.size a)
theorem k8_off270_inb : ∀ (v6 : BitVec 32) (k8_t5 : Fin (k8_t5_loop v6).trips) (k8_t6 : Fin k8_t6_loop.trips) (v999 : BitVec 32) (k8_hw31 : k8_chk31 v6 k8_t5 k8_t6 v999), ∀ (k8_h2 : k8_cond2 v6 k8_t5 k8_t6 = 1#1), ∀ (r : Fin 8), ∀ a, (k8_off270 v999 (BitVec.ofNat 32 (16 * r.val))) a + S16.size a ≤ S40192.size a := fun v6 k8_t5 k8_t6 v999 k8_hw31 k8_h2 r => k8_hw31 k8_h2 r

def k8_off271 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k8_off272 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k8_off273 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k8_off274 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k8_off275 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k8_off276 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k8_off277 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k8_off278 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k8_off279 (v1067 : BitVec 32) (c0_i32_302 : BitVec 32) : Fin 1 → Nat :=
  let v1070 : BitVec 32 := Scalar.addi v1067 c0_i32_302
  let v1071 : Index := Scalar.indexCast v1070
  ![v1071.toNat]

def k8_chk32 (v6 : BitVec 32) (k8_t5 : Fin (k8_t5_loop v6).trips) (k8_t6 : Fin k8_t6_loop.trips) (v1067 : BitVec 32) : Prop :=
  (∀ (k8_h2 : k8_cond2 v6 k8_t5 k8_t6 = 1#1), ∀ (r : Fin 8), ∀ a, (k8_off279 v1067 (BitVec.ofNat 32 (16 * r.val))) a + S16.size a ≤ S40192.size a)
theorem k8_off279_inb : ∀ (v6 : BitVec 32) (k8_t5 : Fin (k8_t5_loop v6).trips) (k8_t6 : Fin k8_t6_loop.trips) (v1067 : BitVec 32) (k8_hw32 : k8_chk32 v6 k8_t5 k8_t6 v1067), ∀ (k8_h2 : k8_cond2 v6 k8_t5 k8_t6 = 1#1), ∀ (r : Fin 8), ∀ a, (k8_off279 v1067 (BitVec.ofNat 32 (16 * r.val))) a + S16.size a ≤ S40192.size a := fun v6 k8_t5 k8_t6 v1067 k8_hw32 k8_h2 r => k8_hw32 k8_h2 r

def k8_off280 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k8_off281 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k8_off282 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k8_off283 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k8_off284 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k8_off285 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k8_off286 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k8_off287 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k8_off288 (v1135 : BitVec 32) (c0_i32_319 : BitVec 32) : Fin 1 → Nat :=
  let v1138 : BitVec 32 := Scalar.addi v1135 c0_i32_319
  let v1139 : Index := Scalar.indexCast v1138
  ![v1139.toNat]

def k8_chk33 (v6 : BitVec 32) (k8_t5 : Fin (k8_t5_loop v6).trips) (k8_t6 : Fin k8_t6_loop.trips) (v1135 : BitVec 32) : Prop :=
  (∀ (k8_h2 : k8_cond2 v6 k8_t5 k8_t6 = 1#1), ∀ (r : Fin 8), ∀ a, (k8_off288 v1135 (BitVec.ofNat 32 (16 * r.val))) a + S16.size a ≤ S40192.size a)
theorem k8_off288_inb : ∀ (v6 : BitVec 32) (k8_t5 : Fin (k8_t5_loop v6).trips) (k8_t6 : Fin k8_t6_loop.trips) (v1135 : BitVec 32) (k8_hw33 : k8_chk33 v6 k8_t5 k8_t6 v1135), ∀ (k8_h2 : k8_cond2 v6 k8_t5 k8_t6 = 1#1), ∀ (r : Fin 8), ∀ a, (k8_off288 v1135 (BitVec.ofNat 32 (16 * r.val))) a + S16.size a ≤ S40192.size a := fun v6 k8_t5 k8_t6 v1135 k8_hw33 k8_h2 r => k8_hw33 k8_h2 r

def k8_off289 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k8_off290 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k8_off291 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k8_off292 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k8_off293 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k8_off294 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k8_off295 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k8_off296 (k8_t7 : Fin k8_t7_loop.trips) : Fin 2 → Nat :=
  let c0_i32_52 : BitVec 32 := 0#32
  let c1_i32_53 : BitVec 32 := 1#32
  let arg14 : BitVec 32 := Scf.iv c0_i32_52 c1_i32_53 k8_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k8_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k8_off297 (k8_t8 : Fin k8_t8_loop.trips) : Fin 1 → Nat :=
  let c0_i32_16 : BitVec 32 := 0#32
  let c1_i32_17 : BitVec 32 := 1#32
  let arg12 : BitVec 32 := Scf.iv c0_i32_16 c1_i32_17 k8_t8
  let c16_i32 : BitVec 32 := 16#32
  let v38 : BitVec 32 := Scalar.muli arg12 c16_i32
  let v39 : Index := Scalar.indexCast v38
  ![v39.toNat]
def k8_cond3 (i : grid8.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k8_off298 (i : grid8.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev grid9 : Pipeline.Grid := ⟨2, ![2, 16], ![false, false]⟩

@[reducible] def k9_t1_loop : Scf.Loop 32 :=
  let c0_i32_0 : BitVec 32 := 0#32
  let c2512_i32 : BitVec 32 := 2512#32
  let v3 : BitVec 32 := Scalar.addi c0_i32_0 c2512_i32
  let c1_i32 : BitVec 32 := 1#32
  ⟨c0_i32_0, v3, c1_i32⟩
def k9_off1 (k9_t1 : Fin k9_t1_loop.trips) : Fin 1 → Nat :=
  let c0_i32_0 : BitVec 32 := 0#32
  let c1_i32 : BitVec 32 := 1#32
  let arg12 : BitVec 32 := Scf.iv c0_i32_0 c1_i32 k9_t1
  let c16_i32 : BitVec 32 := 16#32
  let v38 : BitVec 32 := Scalar.muli arg12 c16_i32
  let v39 : Index := Scalar.indexCast v38
  ![v39.toNat]
def k9_off2 (i : grid9.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
@[reducible] def k9_t2_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩

def k9_off3 (i : grid9.Coords) (v6 : BitVec 32) (k9_t2 : Fin (k9_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c1_i32_13 : BitVec 32 := 1#32
  let arg12 : BitVec 32 := Scf.iv c0_i32_11 c1_i32_13 k9_t2
  let c2048_i32_22 : BitVec 32 := 2048#32
  let v38 : BitVec 32 := Scalar.muli arg12 c2048_i32_22
  ![v1.toNat, v38.toNat]
@[reducible] def k9_t3_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k9_off4 (k9_t3 : Fin k9_t3_loop.trips) (c0_i32_30 : BitVec 32) : Fin 1 → Nat :=
  let c0_i32_24 : BitVec 32 := 0#32
  let c1_i32_25 : BitVec 32 := 1#32
  let arg13 : BitVec 32 := Scf.iv c0_i32_24 c1_i32_25 k9_t3
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k9_t4_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k9_off5 (k9_t3 : Fin k9_t3_loop.trips) (k9_t4 : Fin k9_t4_loop.trips) : Fin 1 → Nat :=
  let c0_i32_24 : BitVec 32 := 0#32
  let c1_i32_25 : BitVec 32 := 1#32
  let arg13 : BitVec 32 := Scf.iv c0_i32_24 c1_i32_25 k9_t3
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k9_t4
  let c16_i32_56 : BitVec 32 := 16#32
  let v106 : BitVec 32 := Scalar.muli arg14 c16_i32_56
  let v107 : BitVec 32 := Scalar.addi v105 v106
  let v108 : Index := Scalar.indexCast v107
  ![v108.toNat]
def k9_off6 (v115 : BitVec 32) (c0_i32_61 : BitVec 32) : Fin 1 → Nat :=
  let v118 : BitVec 32 := Scalar.addi v115 c0_i32_61
  let v119 : Index := Scalar.indexCast v118
  ![v119.toNat]
def k9_cond1 (v6 : BitVec 32) (k9_t2 : Fin (k9_t2_loop v6).trips) (k9_t3 : Fin k9_t3_loop.trips) : BitVec 1 :=
  let c0_i32_11 : BitVec 32 := 0#32
  let c1_i32_13 : BitVec 32 := 1#32
  let arg12 : BitVec 32 := Scf.iv c0_i32_11 c1_i32_13 k9_t2
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k9_t3
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k9_chk2 (v6 : BitVec 32) (k9_t2 : Fin (k9_t2_loop v6).trips) (k9_t3 : Fin k9_t3_loop.trips) (v115 : BitVec 32) : Prop :=
  (∀ (k9_h1 : k9_cond1 v6 k9_t2 k9_t3 = 1#1), ∀ (r : Fin 8), ∀ a, (k9_off6 v115 (BitVec.ofNat 32 (16 * r.val))) a + S16.size a ≤ S40192.size a)
theorem k9_off6_inb : ∀ (v6 : BitVec 32) (k9_t2 : Fin (k9_t2_loop v6).trips) (k9_t3 : Fin k9_t3_loop.trips) (v115 : BitVec 32) (k9_hw2 : k9_chk2 v6 k9_t2 k9_t3 v115), ∀ (k9_h1 : k9_cond1 v6 k9_t2 k9_t3 = 1#1), ∀ (r : Fin 8), ∀ a, (k9_off6 v115 (BitVec.ofNat 32 (16 * r.val))) a + S16.size a ≤ S40192.size a := fun v6 k9_t2 k9_t3 v115 k9_hw2 k9_h1 r => k9_hw2 k9_h1 r

def k9_off7 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k9_off8 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k9_off9 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k9_off10 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k9_off11 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k9_off12 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k9_off13 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k9_off14 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k9_off15 (v183 : BitVec 32) (c0_i32_79 : BitVec 32) : Fin 1 → Nat :=
  let v186 : BitVec 32 := Scalar.addi v183 c0_i32_79
  let v187 : Index := Scalar.indexCast v186
  ![v187.toNat]

def k9_chk3 (v6 : BitVec 32) (k9_t2 : Fin (k9_t2_loop v6).trips) (k9_t3 : Fin k9_t3_loop.trips) (v183 : BitVec 32) : Prop :=
  (∀ (k9_h1 : k9_cond1 v6 k9_t2 k9_t3 = 1#1), ∀ (r : Fin 8), ∀ a, (k9_off15 v183 (BitVec.ofNat 32 (16 * r.val))) a + S16.size a ≤ S40192.size a)
theorem k9_off15_inb : ∀ (v6 : BitVec 32) (k9_t2 : Fin (k9_t2_loop v6).trips) (k9_t3 : Fin k9_t3_loop.trips) (v183 : BitVec 32) (k9_hw3 : k9_chk3 v6 k9_t2 k9_t3 v183), ∀ (k9_h1 : k9_cond1 v6 k9_t2 k9_t3 = 1#1), ∀ (r : Fin 8), ∀ a, (k9_off15 v183 (BitVec.ofNat 32 (16 * r.val))) a + S16.size a ≤ S40192.size a := fun v6 k9_t2 k9_t3 v183 k9_hw3 k9_h1 r => k9_hw3 k9_h1 r

def k9_off16 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k9_off17 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k9_off18 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k9_off19 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k9_off20 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k9_off21 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k9_off22 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k9_off23 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k9_off24 (v251 : BitVec 32) (c0_i32_97 : BitVec 32) : Fin 1 → Nat :=
  let v254 : BitVec 32 := Scalar.addi v251 c0_i32_97
  let v255 : Index := Scalar.indexCast v254
  ![v255.toNat]

def k9_chk4 (v6 : BitVec 32) (k9_t2 : Fin (k9_t2_loop v6).trips) (k9_t3 : Fin k9_t3_loop.trips) (v251 : BitVec 32) : Prop :=
  (∀ (k9_h1 : k9_cond1 v6 k9_t2 k9_t3 = 1#1), ∀ (r : Fin 8), ∀ a, (k9_off24 v251 (BitVec.ofNat 32 (16 * r.val))) a + S16.size a ≤ S40192.size a)
theorem k9_off24_inb : ∀ (v6 : BitVec 32) (k9_t2 : Fin (k9_t2_loop v6).trips) (k9_t3 : Fin k9_t3_loop.trips) (v251 : BitVec 32) (k9_hw4 : k9_chk4 v6 k9_t2 k9_t3 v251), ∀ (k9_h1 : k9_cond1 v6 k9_t2 k9_t3 = 1#1), ∀ (r : Fin 8), ∀ a, (k9_off24 v251 (BitVec.ofNat 32 (16 * r.val))) a + S16.size a ≤ S40192.size a := fun v6 k9_t2 k9_t3 v251 k9_hw4 k9_h1 r => k9_hw4 k9_h1 r

def k9_off25 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k9_off26 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k9_off27 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k9_off28 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k9_off29 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k9_off30 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k9_off31 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k9_off32 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k9_off33 (v319 : BitVec 32) (c0_i32_114 : BitVec 32) : Fin 1 → Nat :=
  let v322 : BitVec 32 := Scalar.addi v319 c0_i32_114
  let v323 : Index := Scalar.indexCast v322
  ![v323.toNat]

def k9_chk5 (v6 : BitVec 32) (k9_t2 : Fin (k9_t2_loop v6).trips) (k9_t3 : Fin k9_t3_loop.trips) (v319 : BitVec 32) : Prop :=
  (∀ (k9_h1 : k9_cond1 v6 k9_t2 k9_t3 = 1#1), ∀ (r : Fin 8), ∀ a, (k9_off33 v319 (BitVec.ofNat 32 (16 * r.val))) a + S16.size a ≤ S40192.size a)
theorem k9_off33_inb : ∀ (v6 : BitVec 32) (k9_t2 : Fin (k9_t2_loop v6).trips) (k9_t3 : Fin k9_t3_loop.trips) (v319 : BitVec 32) (k9_hw5 : k9_chk5 v6 k9_t2 k9_t3 v319), ∀ (k9_h1 : k9_cond1 v6 k9_t2 k9_t3 = 1#1), ∀ (r : Fin 8), ∀ a, (k9_off33 v319 (BitVec.ofNat 32 (16 * r.val))) a + S16.size a ≤ S40192.size a := fun v6 k9_t2 k9_t3 v319 k9_hw5 k9_h1 r => k9_hw5 k9_h1 r

def k9_off34 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k9_off35 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k9_off36 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k9_off37 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k9_off38 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k9_off39 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k9_off40 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k9_off41 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k9_off42 (v387 : BitVec 32) (c0_i32_131 : BitVec 32) : Fin 1 → Nat :=
  let v390 : BitVec 32 := Scalar.addi v387 c0_i32_131
  let v391 : Index := Scalar.indexCast v390
  ![v391.toNat]

def k9_chk6 (v6 : BitVec 32) (k9_t2 : Fin (k9_t2_loop v6).trips) (k9_t3 : Fin k9_t3_loop.trips) (v387 : BitVec 32) : Prop :=
  (∀ (k9_h1 : k9_cond1 v6 k9_t2 k9_t3 = 1#1), ∀ (r : Fin 8), ∀ a, (k9_off42 v387 (BitVec.ofNat 32 (16 * r.val))) a + S16.size a ≤ S40192.size a)
theorem k9_off42_inb : ∀ (v6 : BitVec 32) (k9_t2 : Fin (k9_t2_loop v6).trips) (k9_t3 : Fin k9_t3_loop.trips) (v387 : BitVec 32) (k9_hw6 : k9_chk6 v6 k9_t2 k9_t3 v387), ∀ (k9_h1 : k9_cond1 v6 k9_t2 k9_t3 = 1#1), ∀ (r : Fin 8), ∀ a, (k9_off42 v387 (BitVec.ofNat 32 (16 * r.val))) a + S16.size a ≤ S40192.size a := fun v6 k9_t2 k9_t3 v387 k9_hw6 k9_h1 r => k9_hw6 k9_h1 r

def k9_off43 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k9_off44 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k9_off45 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k9_off46 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k9_off47 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k9_off48 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k9_off49 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k9_off50 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k9_off51 (v455 : BitVec 32) (c0_i32_148 : BitVec 32) : Fin 1 → Nat :=
  let v458 : BitVec 32 := Scalar.addi v455 c0_i32_148
  let v459 : Index := Scalar.indexCast v458
  ![v459.toNat]

def k9_chk7 (v6 : BitVec 32) (k9_t2 : Fin (k9_t2_loop v6).trips) (k9_t3 : Fin k9_t3_loop.trips) (v455 : BitVec 32) : Prop :=
  (∀ (k9_h1 : k9_cond1 v6 k9_t2 k9_t3 = 1#1), ∀ (r : Fin 8), ∀ a, (k9_off51 v455 (BitVec.ofNat 32 (16 * r.val))) a + S16.size a ≤ S40192.size a)
theorem k9_off51_inb : ∀ (v6 : BitVec 32) (k9_t2 : Fin (k9_t2_loop v6).trips) (k9_t3 : Fin k9_t3_loop.trips) (v455 : BitVec 32) (k9_hw7 : k9_chk7 v6 k9_t2 k9_t3 v455), ∀ (k9_h1 : k9_cond1 v6 k9_t2 k9_t3 = 1#1), ∀ (r : Fin 8), ∀ a, (k9_off51 v455 (BitVec.ofNat 32 (16 * r.val))) a + S16.size a ≤ S40192.size a := fun v6 k9_t2 k9_t3 v455 k9_hw7 k9_h1 r => k9_hw7 k9_h1 r

def k9_off52 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k9_off53 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k9_off54 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k9_off55 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k9_off56 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k9_off57 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k9_off58 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k9_off59 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k9_off60 (v523 : BitVec 32) (c0_i32_165 : BitVec 32) : Fin 1 → Nat :=
  let v526 : BitVec 32 := Scalar.addi v523 c0_i32_165
  let v527 : Index := Scalar.indexCast v526
  ![v527.toNat]

def k9_chk8 (v6 : BitVec 32) (k9_t2 : Fin (k9_t2_loop v6).trips) (k9_t3 : Fin k9_t3_loop.trips) (v523 : BitVec 32) : Prop :=
  (∀ (k9_h1 : k9_cond1 v6 k9_t2 k9_t3 = 1#1), ∀ (r : Fin 8), ∀ a, (k9_off60 v523 (BitVec.ofNat 32 (16 * r.val))) a + S16.size a ≤ S40192.size a)
theorem k9_off60_inb : ∀ (v6 : BitVec 32) (k9_t2 : Fin (k9_t2_loop v6).trips) (k9_t3 : Fin k9_t3_loop.trips) (v523 : BitVec 32) (k9_hw8 : k9_chk8 v6 k9_t2 k9_t3 v523), ∀ (k9_h1 : k9_cond1 v6 k9_t2 k9_t3 = 1#1), ∀ (r : Fin 8), ∀ a, (k9_off60 v523 (BitVec.ofNat 32 (16 * r.val))) a + S16.size a ≤ S40192.size a := fun v6 k9_t2 k9_t3 v523 k9_hw8 k9_h1 r => k9_hw8 k9_h1 r

def k9_off61 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k9_off62 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k9_off63 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k9_off64 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k9_off65 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k9_off66 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k9_off67 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k9_off68 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k9_off69 (v591 : BitVec 32) (c0_i32_182 : BitVec 32) : Fin 1 → Nat :=
  let v594 : BitVec 32 := Scalar.addi v591 c0_i32_182
  let v595 : Index := Scalar.indexCast v594
  ![v595.toNat]

def k9_chk9 (v6 : BitVec 32) (k9_t2 : Fin (k9_t2_loop v6).trips) (k9_t3 : Fin k9_t3_loop.trips) (v591 : BitVec 32) : Prop :=
  (∀ (k9_h1 : k9_cond1 v6 k9_t2 k9_t3 = 1#1), ∀ (r : Fin 8), ∀ a, (k9_off69 v591 (BitVec.ofNat 32 (16 * r.val))) a + S16.size a ≤ S40192.size a)
theorem k9_off69_inb : ∀ (v6 : BitVec 32) (k9_t2 : Fin (k9_t2_loop v6).trips) (k9_t3 : Fin k9_t3_loop.trips) (v591 : BitVec 32) (k9_hw9 : k9_chk9 v6 k9_t2 k9_t3 v591), ∀ (k9_h1 : k9_cond1 v6 k9_t2 k9_t3 = 1#1), ∀ (r : Fin 8), ∀ a, (k9_off69 v591 (BitVec.ofNat 32 (16 * r.val))) a + S16.size a ≤ S40192.size a := fun v6 k9_t2 k9_t3 v591 k9_hw9 k9_h1 r => k9_hw9 k9_h1 r

def k9_off70 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k9_off71 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k9_off72 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k9_off73 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k9_off74 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k9_off75 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k9_off76 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k9_off77 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k9_off78 (v659 : BitVec 32) (c0_i32_200 : BitVec 32) : Fin 1 → Nat :=
  let v662 : BitVec 32 := Scalar.addi v659 c0_i32_200
  let v663 : Index := Scalar.indexCast v662
  ![v663.toNat]

def k9_chk10 (v6 : BitVec 32) (k9_t2 : Fin (k9_t2_loop v6).trips) (k9_t3 : Fin k9_t3_loop.trips) (v659 : BitVec 32) : Prop :=
  (∀ (k9_h1 : k9_cond1 v6 k9_t2 k9_t3 = 1#1), ∀ (r : Fin 8), ∀ a, (k9_off78 v659 (BitVec.ofNat 32 (16 * r.val))) a + S16.size a ≤ S40192.size a)
theorem k9_off78_inb : ∀ (v6 : BitVec 32) (k9_t2 : Fin (k9_t2_loop v6).trips) (k9_t3 : Fin k9_t3_loop.trips) (v659 : BitVec 32) (k9_hw10 : k9_chk10 v6 k9_t2 k9_t3 v659), ∀ (k9_h1 : k9_cond1 v6 k9_t2 k9_t3 = 1#1), ∀ (r : Fin 8), ∀ a, (k9_off78 v659 (BitVec.ofNat 32 (16 * r.val))) a + S16.size a ≤ S40192.size a := fun v6 k9_t2 k9_t3 v659 k9_hw10 k9_h1 r => k9_hw10 k9_h1 r

def k9_off79 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k9_off80 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k9_off81 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k9_off82 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k9_off83 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k9_off84 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k9_off85 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k9_off86 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k9_off87 (v727 : BitVec 32) (c0_i32_217 : BitVec 32) : Fin 1 → Nat :=
  let v730 : BitVec 32 := Scalar.addi v727 c0_i32_217
  let v731 : Index := Scalar.indexCast v730
  ![v731.toNat]

def k9_chk11 (v6 : BitVec 32) (k9_t2 : Fin (k9_t2_loop v6).trips) (k9_t3 : Fin k9_t3_loop.trips) (v727 : BitVec 32) : Prop :=
  (∀ (k9_h1 : k9_cond1 v6 k9_t2 k9_t3 = 1#1), ∀ (r : Fin 8), ∀ a, (k9_off87 v727 (BitVec.ofNat 32 (16 * r.val))) a + S16.size a ≤ S40192.size a)
theorem k9_off87_inb : ∀ (v6 : BitVec 32) (k9_t2 : Fin (k9_t2_loop v6).trips) (k9_t3 : Fin k9_t3_loop.trips) (v727 : BitVec 32) (k9_hw11 : k9_chk11 v6 k9_t2 k9_t3 v727), ∀ (k9_h1 : k9_cond1 v6 k9_t2 k9_t3 = 1#1), ∀ (r : Fin 8), ∀ a, (k9_off87 v727 (BitVec.ofNat 32 (16 * r.val))) a + S16.size a ≤ S40192.size a := fun v6 k9_t2 k9_t3 v727 k9_hw11 k9_h1 r => k9_hw11 k9_h1 r

def k9_off88 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k9_off89 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k9_off90 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k9_off91 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k9_off92 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k9_off93 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k9_off94 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k9_off95 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k9_off96 (v795 : BitVec 32) (c0_i32_234 : BitVec 32) : Fin 1 → Nat :=
  let v798 : BitVec 32 := Scalar.addi v795 c0_i32_234
  let v799 : Index := Scalar.indexCast v798
  ![v799.toNat]

def k9_chk12 (v6 : BitVec 32) (k9_t2 : Fin (k9_t2_loop v6).trips) (k9_t3 : Fin k9_t3_loop.trips) (v795 : BitVec 32) : Prop :=
  (∀ (k9_h1 : k9_cond1 v6 k9_t2 k9_t3 = 1#1), ∀ (r : Fin 8), ∀ a, (k9_off96 v795 (BitVec.ofNat 32 (16 * r.val))) a + S16.size a ≤ S40192.size a)
theorem k9_off96_inb : ∀ (v6 : BitVec 32) (k9_t2 : Fin (k9_t2_loop v6).trips) (k9_t3 : Fin k9_t3_loop.trips) (v795 : BitVec 32) (k9_hw12 : k9_chk12 v6 k9_t2 k9_t3 v795), ∀ (k9_h1 : k9_cond1 v6 k9_t2 k9_t3 = 1#1), ∀ (r : Fin 8), ∀ a, (k9_off96 v795 (BitVec.ofNat 32 (16 * r.val))) a + S16.size a ≤ S40192.size a := fun v6 k9_t2 k9_t3 v795 k9_hw12 k9_h1 r => k9_hw12 k9_h1 r

def k9_off97 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k9_off98 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k9_off99 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k9_off100 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k9_off101 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k9_off102 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k9_off103 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k9_off104 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k9_off105 (v863 : BitVec 32) (c0_i32_251 : BitVec 32) : Fin 1 → Nat :=
  let v866 : BitVec 32 := Scalar.addi v863 c0_i32_251
  let v867 : Index := Scalar.indexCast v866
  ![v867.toNat]

def k9_chk13 (v6 : BitVec 32) (k9_t2 : Fin (k9_t2_loop v6).trips) (k9_t3 : Fin k9_t3_loop.trips) (v863 : BitVec 32) : Prop :=
  (∀ (k9_h1 : k9_cond1 v6 k9_t2 k9_t3 = 1#1), ∀ (r : Fin 8), ∀ a, (k9_off105 v863 (BitVec.ofNat 32 (16 * r.val))) a + S16.size a ≤ S40192.size a)
theorem k9_off105_inb : ∀ (v6 : BitVec 32) (k9_t2 : Fin (k9_t2_loop v6).trips) (k9_t3 : Fin k9_t3_loop.trips) (v863 : BitVec 32) (k9_hw13 : k9_chk13 v6 k9_t2 k9_t3 v863), ∀ (k9_h1 : k9_cond1 v6 k9_t2 k9_t3 = 1#1), ∀ (r : Fin 8), ∀ a, (k9_off105 v863 (BitVec.ofNat 32 (16 * r.val))) a + S16.size a ≤ S40192.size a := fun v6 k9_t2 k9_t3 v863 k9_hw13 k9_h1 r => k9_hw13 k9_h1 r

def k9_off106 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k9_off107 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k9_off108 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k9_off109 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k9_off110 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k9_off111 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k9_off112 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k9_off113 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k9_off114 (v931 : BitVec 32) (c0_i32_268 : BitVec 32) : Fin 1 → Nat :=
  let v934 : BitVec 32 := Scalar.addi v931 c0_i32_268
  let v935 : Index := Scalar.indexCast v934
  ![v935.toNat]

def k9_chk14 (v6 : BitVec 32) (k9_t2 : Fin (k9_t2_loop v6).trips) (k9_t3 : Fin k9_t3_loop.trips) (v931 : BitVec 32) : Prop :=
  (∀ (k9_h1 : k9_cond1 v6 k9_t2 k9_t3 = 1#1), ∀ (r : Fin 8), ∀ a, (k9_off114 v931 (BitVec.ofNat 32 (16 * r.val))) a + S16.size a ≤ S40192.size a)
theorem k9_off114_inb : ∀ (v6 : BitVec 32) (k9_t2 : Fin (k9_t2_loop v6).trips) (k9_t3 : Fin k9_t3_loop.trips) (v931 : BitVec 32) (k9_hw14 : k9_chk14 v6 k9_t2 k9_t3 v931), ∀ (k9_h1 : k9_cond1 v6 k9_t2 k9_t3 = 1#1), ∀ (r : Fin 8), ∀ a, (k9_off114 v931 (BitVec.ofNat 32 (16 * r.val))) a + S16.size a ≤ S40192.size a := fun v6 k9_t2 k9_t3 v931 k9_hw14 k9_h1 r => k9_hw14 k9_h1 r

def k9_off115 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k9_off116 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k9_off117 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k9_off118 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k9_off119 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k9_off120 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k9_off121 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k9_off122 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k9_off123 (v999 : BitVec 32) (c0_i32_285 : BitVec 32) : Fin 1 → Nat :=
  let v1002 : BitVec 32 := Scalar.addi v999 c0_i32_285
  let v1003 : Index := Scalar.indexCast v1002
  ![v1003.toNat]

def k9_chk15 (v6 : BitVec 32) (k9_t2 : Fin (k9_t2_loop v6).trips) (k9_t3 : Fin k9_t3_loop.trips) (v999 : BitVec 32) : Prop :=
  (∀ (k9_h1 : k9_cond1 v6 k9_t2 k9_t3 = 1#1), ∀ (r : Fin 8), ∀ a, (k9_off123 v999 (BitVec.ofNat 32 (16 * r.val))) a + S16.size a ≤ S40192.size a)
theorem k9_off123_inb : ∀ (v6 : BitVec 32) (k9_t2 : Fin (k9_t2_loop v6).trips) (k9_t3 : Fin k9_t3_loop.trips) (v999 : BitVec 32) (k9_hw15 : k9_chk15 v6 k9_t2 k9_t3 v999), ∀ (k9_h1 : k9_cond1 v6 k9_t2 k9_t3 = 1#1), ∀ (r : Fin 8), ∀ a, (k9_off123 v999 (BitVec.ofNat 32 (16 * r.val))) a + S16.size a ≤ S40192.size a := fun v6 k9_t2 k9_t3 v999 k9_hw15 k9_h1 r => k9_hw15 k9_h1 r

def k9_off124 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k9_off125 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k9_off126 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k9_off127 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k9_off128 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k9_off129 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k9_off130 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k9_off131 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k9_off132 (v1067 : BitVec 32) (c0_i32_302 : BitVec 32) : Fin 1 → Nat :=
  let v1070 : BitVec 32 := Scalar.addi v1067 c0_i32_302
  let v1071 : Index := Scalar.indexCast v1070
  ![v1071.toNat]

def k9_chk16 (v6 : BitVec 32) (k9_t2 : Fin (k9_t2_loop v6).trips) (k9_t3 : Fin k9_t3_loop.trips) (v1067 : BitVec 32) : Prop :=
  (∀ (k9_h1 : k9_cond1 v6 k9_t2 k9_t3 = 1#1), ∀ (r : Fin 8), ∀ a, (k9_off132 v1067 (BitVec.ofNat 32 (16 * r.val))) a + S16.size a ≤ S40192.size a)
theorem k9_off132_inb : ∀ (v6 : BitVec 32) (k9_t2 : Fin (k9_t2_loop v6).trips) (k9_t3 : Fin k9_t3_loop.trips) (v1067 : BitVec 32) (k9_hw16 : k9_chk16 v6 k9_t2 k9_t3 v1067), ∀ (k9_h1 : k9_cond1 v6 k9_t2 k9_t3 = 1#1), ∀ (r : Fin 8), ∀ a, (k9_off132 v1067 (BitVec.ofNat 32 (16 * r.val))) a + S16.size a ≤ S40192.size a := fun v6 k9_t2 k9_t3 v1067 k9_hw16 k9_h1 r => k9_hw16 k9_h1 r

def k9_off133 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k9_off134 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k9_off135 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k9_off136 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k9_off137 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k9_off138 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k9_off139 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k9_off140 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k9_off141 (v1135 : BitVec 32) (c0_i32_319 : BitVec 32) : Fin 1 → Nat :=
  let v1138 : BitVec 32 := Scalar.addi v1135 c0_i32_319
  let v1139 : Index := Scalar.indexCast v1138
  ![v1139.toNat]

def k9_chk17 (v6 : BitVec 32) (k9_t2 : Fin (k9_t2_loop v6).trips) (k9_t3 : Fin k9_t3_loop.trips) (v1135 : BitVec 32) : Prop :=
  (∀ (k9_h1 : k9_cond1 v6 k9_t2 k9_t3 = 1#1), ∀ (r : Fin 8), ∀ a, (k9_off141 v1135 (BitVec.ofNat 32 (16 * r.val))) a + S16.size a ≤ S40192.size a)
theorem k9_off141_inb : ∀ (v6 : BitVec 32) (k9_t2 : Fin (k9_t2_loop v6).trips) (k9_t3 : Fin k9_t3_loop.trips) (v1135 : BitVec 32) (k9_hw17 : k9_chk17 v6 k9_t2 k9_t3 v1135), ∀ (k9_h1 : k9_cond1 v6 k9_t2 k9_t3 = 1#1), ∀ (r : Fin 8), ∀ a, (k9_off141 v1135 (BitVec.ofNat 32 (16 * r.val))) a + S16.size a ≤ S40192.size a := fun v6 k9_t2 k9_t3 v1135 k9_hw17 k9_h1 r => k9_hw17 k9_h1 r

def k9_off142 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k9_off143 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k9_off144 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k9_off145 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k9_off146 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k9_off147 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k9_off148 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k9_off149 (k9_t4 : Fin k9_t4_loop.trips) : Fin 2 → Nat :=
  let c0_i32_52 : BitVec 32 := 0#32
  let c1_i32_53 : BitVec 32 := 1#32
  let arg14 : BitVec 32 := Scf.iv c0_i32_52 c1_i32_53 k9_t4
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k9_t5_loop (v6 : BitVec 32) : Scf.Loop 32 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k9_off150 (i : grid9.Coords) (v6 : BitVec 32) (k9_t5 : Fin (k9_t5_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k9_t5
  let c2048_i32_22 : BitVec 32 := 2048#32
  let v38 : BitVec 32 := Scalar.muli arg12 c2048_i32_22
  ![v1.toNat, v38.toNat]

def k9_chk1 (i : grid9.Coords) (v6 : BitVec 32) : Prop :=
  ((k9_t2_loop v6).OK) ∧
  (∀ k9_t2 : Fin (k9_t2_loop v6).trips, ∀ a, (k9_off3 i v6 k9_t2) a + S1x2048.size a ≤ S32x323584.size a) ∧
  ((k9_t5_loop v6).OK) ∧
  (∀ k9_t5 : Fin (k9_t5_loop v6).trips, ∀ a, (k9_off150 i v6 k9_t5) a + S1x2048.size a ≤ S32x323584.size a)
theorem k9_t2_ok : ∀ (i : grid9.Coords) (v6 : BitVec 32) (k9_hw1 : k9_chk1 i v6), (k9_t2_loop v6).OK := fun i v6 k9_hw1 => k9_hw1.1
theorem k9_off3_inb : ∀ (i : grid9.Coords) (v6 : BitVec 32) (k9_hw1 : k9_chk1 i v6) (k9_t2 : Fin (k9_t2_loop v6).trips), ∀ a, (k9_off3 i v6 k9_t2) a + S1x2048.size a ≤ S32x323584.size a := fun i v6 k9_hw1 k9_t2 => k9_hw1.2.1 k9_t2
theorem k9_t5_ok : ∀ (i : grid9.Coords) (v6 : BitVec 32) (k9_hw1 : k9_chk1 i v6), (k9_t5_loop v6).OK := fun i v6 k9_hw1 => k9_hw1.2.2.1
theorem k9_off150_inb : ∀ (i : grid9.Coords) (v6 : BitVec 32) (k9_hw1 : k9_chk1 i v6) (k9_t5 : Fin (k9_t5_loop v6).trips), ∀ a, (k9_off150 i v6 k9_t5) a + S1x2048.size a ≤ S32x323584.size a := fun i v6 k9_hw1 k9_t5 => k9_hw1.2.2.2 k9_t5

@[reducible] def k9_t6_loop : Scf.Loop 32 :=
  let c0_i32_24 : BitVec 32 := 0#32
  let c16_i32 : BitVec 32 := 16#32
  let v39 : BitVec 32 := Scalar.addi c0_i32_24 c16_i32
  let c1_i32_25 : BitVec 32 := 1#32
  ⟨c0_i32_24, v39, c1_i32_25⟩
def k9_off151 (k9_t6 : Fin k9_t6_loop.trips) (c0_i32_30 : BitVec 32) : Fin 1 → Nat :=
  let c0_i32_24 : BitVec 32 := 0#32
  let c1_i32_25 : BitVec 32 := 1#32
  let arg13 : BitVec 32 := Scf.iv c0_i32_24 c1_i32_25 k9_t6
  let c128_i32_29 : BitVec 32 := 128#32
  let v46 : BitVec 32 := Scalar.muli arg13 c128_i32_29
  let v47 : BitVec 32 := Scalar.addi v46 c0_i32_30
  let v48 : Index := Scalar.indexCast v47
  ![v48.toNat]
@[reducible] def k9_t7_loop : Scf.Loop 32 :=
  let c0_i32_52 : BitVec 32 := 0#32
  let c8_i32 : BitVec 32 := 8#32
  let v104 : BitVec 32 := Scalar.addi c0_i32_52 c8_i32
  let c1_i32_53 : BitVec 32 := 1#32
  ⟨c0_i32_52, v104, c1_i32_53⟩
def k9_off152 (k9_t6 : Fin k9_t6_loop.trips) (k9_t7 : Fin k9_t7_loop.trips) : Fin 1 → Nat :=
  let c0_i32_24 : BitVec 32 := 0#32
  let c1_i32_25 : BitVec 32 := 1#32
  let arg13 : BitVec 32 := Scf.iv c0_i32_24 c1_i32_25 k9_t6
  let c128_i32_55 : BitVec 32 := 128#32
  let v105 : BitVec 32 := Scalar.muli arg13 c128_i32_55
  let c0_i32_52 : BitVec 32 := 0#32
  let c1_i32_53 : BitVec 32 := 1#32
  let arg14 : BitVec 32 := Scf.iv c0_i32_52 c1_i32_53 k9_t7
  let c16_i32_56 : BitVec 32 := 16#32
  let v106 : BitVec 32 := Scalar.muli arg14 c16_i32_56
  let v107 : BitVec 32 := Scalar.addi v105 v106
  let v108 : Index := Scalar.indexCast v107
  ![v108.toNat]
def k9_off153 (v115 : BitVec 32) (c0_i32_61 : BitVec 32) : Fin 1 → Nat :=
  let v118 : BitVec 32 := Scalar.addi v115 c0_i32_61
  let v119 : Index := Scalar.indexCast v118
  ![v119.toNat]
def k9_cond2 (v6 : BitVec 32) (k9_t5 : Fin (k9_t5_loop v6).trips) (k9_t6 : Fin k9_t6_loop.trips) : BitVec 1 :=
  let c0_i32_11 : BitVec 32 := 0#32
  let c2048_i32 : BitVec 32 := 2048#32
  let v7 : BitVec 32 := Scalar.addi v6 c2048_i32
  let c1_i32_2 : BitVec 32 := 1#32
  let v8 : BitVec 32 := Scalar.subi v7 c1_i32_2
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c2048_i32_3 : BitVec 32 := 2048#32
  let c0_i32_6 : BitVec 32 := 0#32
  let v15 : BitVec 1 := Scalar.cmpi .sgt c2048_i32_3 c0_i32_6
  let v16 : BitVec 32 := Scalar.extui v15
  let c0_i32_7 : BitVec 32 := 0#32
  let v17 : BitVec 1 := Scalar.cmpi .slt c2048_i32_3 c0_i32_7
  let v18 : BitVec 32 := Scalar.extui v17
  let v19 : BitVec 32 := Scalar.subi v16 v18
  let v20 : BitVec 1 := Scalar.cmpi .ne v14 v19
  let v21 : BitVec 32 := Scalar.remsi v8 c2048_i32_3
  let c0_i32_8 : BitVec 32 := 0#32
  let v22 : BitVec 1 := Scalar.cmpi .ne v21 c0_i32_8
  let v23 : BitVec 1 := Scalar.andi v20 v22
  let v9 : BitVec 32 := Scalar.divsi v8 c2048_i32_3
  let c1_i32_9 : BitVec 32 := 1#32
  let v24 : BitVec 32 := Scalar.subi v9 c1_i32_9
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg12 : BitVec 32 := Scf.iv v30 c1_i32_14 k9_t5
  let c2048_i32_27 : BitVec 32 := 2048#32
  let v40 : BitVec 32 := Scalar.muli arg12 c2048_i32_27
  let c0_i32_24 : BitVec 32 := 0#32
  let c1_i32_25 : BitVec 32 := 1#32
  let arg13 : BitVec 32 := Scf.iv c0_i32_24 c1_i32_25 k9_t6
  let c128_i32 : BitVec 32 := 128#32
  let v41 : BitVec 32 := Scalar.muli arg13 c128_i32
  let v42 : BitVec 32 := Scalar.addi v40 v41
  let v43 : BitVec 1 := Scalar.cmpi .slt v42 v6
  let v44 : BitVec 32 := Scalar.extui v43
  let c0_i32_28 : BitVec 32 := 0#32
  let v45 : BitVec 1 := Scalar.cmpi .ne v44 c0_i32_28
  v45

def k9_chk18 (v6 : BitVec 32) (k9_t5 : Fin (k9_t5_loop v6).trips) (k9_t6 : Fin k9_t6_loop.trips) (v115 : BitVec 32) : Prop :=
  (∀ (k9_h2 : k9_cond2 v6 k9_t5 k9_t6 = 1#1), ∀ (r : Fin 8), ∀ a, (k9_off153 v115 (BitVec.ofNat 32 (16 * r.val))) a + S16.size a ≤ S40192.size a)
theorem k9_off153_inb : ∀ (v6 : BitVec 32) (k9_t5 : Fin (k9_t5_loop v6).trips) (k9_t6 : Fin k9_t6_loop.trips) (v115 : BitVec 32) (k9_hw18 : k9_chk18 v6 k9_t5 k9_t6 v115), ∀ (k9_h2 : k9_cond2 v6 k9_t5 k9_t6 = 1#1), ∀ (r : Fin 8), ∀ a, (k9_off153 v115 (BitVec.ofNat 32 (16 * r.val))) a + S16.size a ≤ S40192.size a := fun v6 k9_t5 k9_t6 v115 k9_hw18 k9_h2 r => k9_hw18 k9_h2 r

def k9_off154 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v121 : Index := Scalar.indexCast v117
  let c0_62 : Index := 0#32
  ![v121.toNat, 0]
def k9_off155 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v129 : Index := Scalar.indexCast v117
  let c16_64 : Index := 16#32
  ![v129.toNat, 16]
def k9_off156 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v137 : Index := Scalar.indexCast v117
  let c32_66 : Index := 32#32
  ![v137.toNat, 32]
def k9_off157 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v145 : Index := Scalar.indexCast v117
  let c48_68 : Index := 48#32
  ![v145.toNat, 48]
def k9_off158 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v153 : Index := Scalar.indexCast v117
  let c64_70 : Index := 64#32
  ![v153.toNat, 64]
def k9_off159 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v161 : Index := Scalar.indexCast v117
  let c80_72 : Index := 80#32
  ![v161.toNat, 80]
def k9_off160 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v169 : Index := Scalar.indexCast v117
  let c96_74 : Index := 96#32
  ![v169.toNat, 96]
def k9_off161 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_59 : BitVec 32 := 16#32
  let v116 : BitVec 32 := Scalar.muli arg14 c16_i32_59
  let c0_i32_60 : BitVec 32 := 0#32
  let v117 : BitVec 32 := Scalar.addi v116 c0_i32_60
  let v177 : Index := Scalar.indexCast v117
  let c112_76 : Index := 112#32
  ![v177.toNat, 112]
def k9_off162 (v183 : BitVec 32) (c0_i32_79 : BitVec 32) : Fin 1 → Nat :=
  let v186 : BitVec 32 := Scalar.addi v183 c0_i32_79
  let v187 : Index := Scalar.indexCast v186
  ![v187.toNat]

def k9_chk19 (v6 : BitVec 32) (k9_t5 : Fin (k9_t5_loop v6).trips) (k9_t6 : Fin k9_t6_loop.trips) (v183 : BitVec 32) : Prop :=
  (∀ (k9_h2 : k9_cond2 v6 k9_t5 k9_t6 = 1#1), ∀ (r : Fin 8), ∀ a, (k9_off162 v183 (BitVec.ofNat 32 (16 * r.val))) a + S16.size a ≤ S40192.size a)
theorem k9_off162_inb : ∀ (v6 : BitVec 32) (k9_t5 : Fin (k9_t5_loop v6).trips) (k9_t6 : Fin k9_t6_loop.trips) (v183 : BitVec 32) (k9_hw19 : k9_chk19 v6 k9_t5 k9_t6 v183), ∀ (k9_h2 : k9_cond2 v6 k9_t5 k9_t6 = 1#1), ∀ (r : Fin 8), ∀ a, (k9_off162 v183 (BitVec.ofNat 32 (16 * r.val))) a + S16.size a ≤ S40192.size a := fun v6 k9_t5 k9_t6 v183 k9_hw19 k9_h2 r => k9_hw19 k9_h2 r

def k9_off163 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v189 : Index := Scalar.indexCast v185
  let c0_80 : Index := 0#32
  ![v189.toNat, 0]
def k9_off164 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v197 : Index := Scalar.indexCast v185
  let c16_82 : Index := 16#32
  ![v197.toNat, 16]
def k9_off165 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v205 : Index := Scalar.indexCast v185
  let c32_84 : Index := 32#32
  ![v205.toNat, 32]
def k9_off166 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v213 : Index := Scalar.indexCast v185
  let c48_86 : Index := 48#32
  ![v213.toNat, 48]
def k9_off167 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v221 : Index := Scalar.indexCast v185
  let c64_88 : Index := 64#32
  ![v221.toNat, 64]
def k9_off168 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v229 : Index := Scalar.indexCast v185
  let c80_90 : Index := 80#32
  ![v229.toNat, 80]
def k9_off169 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v237 : Index := Scalar.indexCast v185
  let c96_92 : Index := 96#32
  ![v237.toNat, 96]
def k9_off170 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_77 : BitVec 32 := 16#32
  let v184 : BitVec 32 := Scalar.muli arg14 c16_i32_77
  let c1_i32_78 : BitVec 32 := 1#32
  let v185 : BitVec 32 := Scalar.addi v184 c1_i32_78
  let v245 : Index := Scalar.indexCast v185
  let c112_94 : Index := 112#32
  ![v245.toNat, 112]
def k9_off171 (v251 : BitVec 32) (c0_i32_97 : BitVec 32) : Fin 1 → Nat :=
  let v254 : BitVec 32 := Scalar.addi v251 c0_i32_97
  let v255 : Index := Scalar.indexCast v254
  ![v255.toNat]

def k9_chk20 (v6 : BitVec 32) (k9_t5 : Fin (k9_t5_loop v6).trips) (k9_t6 : Fin k9_t6_loop.trips) (v251 : BitVec 32) : Prop :=
  (∀ (k9_h2 : k9_cond2 v6 k9_t5 k9_t6 = 1#1), ∀ (r : Fin 8), ∀ a, (k9_off171 v251 (BitVec.ofNat 32 (16 * r.val))) a + S16.size a ≤ S40192.size a)
theorem k9_off171_inb : ∀ (v6 : BitVec 32) (k9_t5 : Fin (k9_t5_loop v6).trips) (k9_t6 : Fin k9_t6_loop.trips) (v251 : BitVec 32) (k9_hw20 : k9_chk20 v6 k9_t5 k9_t6 v251), ∀ (k9_h2 : k9_cond2 v6 k9_t5 k9_t6 = 1#1), ∀ (r : Fin 8), ∀ a, (k9_off171 v251 (BitVec.ofNat 32 (16 * r.val))) a + S16.size a ≤ S40192.size a := fun v6 k9_t5 k9_t6 v251 k9_hw20 k9_h2 r => k9_hw20 k9_h2 r

def k9_off172 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v257 : Index := Scalar.indexCast v253
  let c0_98 : Index := 0#32
  ![v257.toNat, 0]
def k9_off173 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v265 : Index := Scalar.indexCast v253
  let c16_100 : Index := 16#32
  ![v265.toNat, 16]
def k9_off174 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v273 : Index := Scalar.indexCast v253
  let c32_102 : Index := 32#32
  ![v273.toNat, 32]
def k9_off175 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v281 : Index := Scalar.indexCast v253
  let c48_104 : Index := 48#32
  ![v281.toNat, 48]
def k9_off176 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v289 : Index := Scalar.indexCast v253
  let c64_106 : Index := 64#32
  ![v289.toNat, 64]
def k9_off177 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v297 : Index := Scalar.indexCast v253
  let c80_108 : Index := 80#32
  ![v297.toNat, 80]
def k9_off178 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v305 : Index := Scalar.indexCast v253
  let c96_110 : Index := 96#32
  ![v305.toNat, 96]
def k9_off179 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_95 : BitVec 32 := 16#32
  let v252 : BitVec 32 := Scalar.muli arg14 c16_i32_95
  let c2_i32_96 : BitVec 32 := 2#32
  let v253 : BitVec 32 := Scalar.addi v252 c2_i32_96
  let v313 : Index := Scalar.indexCast v253
  let c112_112 : Index := 112#32
  ![v313.toNat, 112]
def k9_off180 (v319 : BitVec 32) (c0_i32_114 : BitVec 32) : Fin 1 → Nat :=
  let v322 : BitVec 32 := Scalar.addi v319 c0_i32_114
  let v323 : Index := Scalar.indexCast v322
  ![v323.toNat]

def k9_chk21 (v6 : BitVec 32) (k9_t5 : Fin (k9_t5_loop v6).trips) (k9_t6 : Fin k9_t6_loop.trips) (v319 : BitVec 32) : Prop :=
  (∀ (k9_h2 : k9_cond2 v6 k9_t5 k9_t6 = 1#1), ∀ (r : Fin 8), ∀ a, (k9_off180 v319 (BitVec.ofNat 32 (16 * r.val))) a + S16.size a ≤ S40192.size a)
theorem k9_off180_inb : ∀ (v6 : BitVec 32) (k9_t5 : Fin (k9_t5_loop v6).trips) (k9_t6 : Fin k9_t6_loop.trips) (v319 : BitVec 32) (k9_hw21 : k9_chk21 v6 k9_t5 k9_t6 v319), ∀ (k9_h2 : k9_cond2 v6 k9_t5 k9_t6 = 1#1), ∀ (r : Fin 8), ∀ a, (k9_off180 v319 (BitVec.ofNat 32 (16 * r.val))) a + S16.size a ≤ S40192.size a := fun v6 k9_t5 k9_t6 v319 k9_hw21 k9_h2 r => k9_hw21 k9_h2 r

def k9_off181 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v325 : Index := Scalar.indexCast v321
  let c0_115 : Index := 0#32
  ![v325.toNat, 0]
def k9_off182 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v333 : Index := Scalar.indexCast v321
  let c16_117 : Index := 16#32
  ![v333.toNat, 16]
def k9_off183 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v341 : Index := Scalar.indexCast v321
  let c32_119 : Index := 32#32
  ![v341.toNat, 32]
def k9_off184 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v349 : Index := Scalar.indexCast v321
  let c48_121 : Index := 48#32
  ![v349.toNat, 48]
def k9_off185 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v357 : Index := Scalar.indexCast v321
  let c64_123 : Index := 64#32
  ![v357.toNat, 64]
def k9_off186 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v365 : Index := Scalar.indexCast v321
  let c80_125 : Index := 80#32
  ![v365.toNat, 80]
def k9_off187 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v373 : Index := Scalar.indexCast v321
  let c96_127 : Index := 96#32
  ![v373.toNat, 96]
def k9_off188 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_113 : BitVec 32 := 16#32
  let v320 : BitVec 32 := Scalar.muli arg14 c16_i32_113
  let c3_i32 : BitVec 32 := 3#32
  let v321 : BitVec 32 := Scalar.addi v320 c3_i32
  let v381 : Index := Scalar.indexCast v321
  let c112_129 : Index := 112#32
  ![v381.toNat, 112]
def k9_off189 (v387 : BitVec 32) (c0_i32_131 : BitVec 32) : Fin 1 → Nat :=
  let v390 : BitVec 32 := Scalar.addi v387 c0_i32_131
  let v391 : Index := Scalar.indexCast v390
  ![v391.toNat]

def k9_chk22 (v6 : BitVec 32) (k9_t5 : Fin (k9_t5_loop v6).trips) (k9_t6 : Fin k9_t6_loop.trips) (v387 : BitVec 32) : Prop :=
  (∀ (k9_h2 : k9_cond2 v6 k9_t5 k9_t6 = 1#1), ∀ (r : Fin 8), ∀ a, (k9_off189 v387 (BitVec.ofNat 32 (16 * r.val))) a + S16.size a ≤ S40192.size a)
theorem k9_off189_inb : ∀ (v6 : BitVec 32) (k9_t5 : Fin (k9_t5_loop v6).trips) (k9_t6 : Fin k9_t6_loop.trips) (v387 : BitVec 32) (k9_hw22 : k9_chk22 v6 k9_t5 k9_t6 v387), ∀ (k9_h2 : k9_cond2 v6 k9_t5 k9_t6 = 1#1), ∀ (r : Fin 8), ∀ a, (k9_off189 v387 (BitVec.ofNat 32 (16 * r.val))) a + S16.size a ≤ S40192.size a := fun v6 k9_t5 k9_t6 v387 k9_hw22 k9_h2 r => k9_hw22 k9_h2 r

def k9_off190 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v393 : Index := Scalar.indexCast v389
  let c0_132 : Index := 0#32
  ![v393.toNat, 0]
def k9_off191 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v401 : Index := Scalar.indexCast v389
  let c16_134 : Index := 16#32
  ![v401.toNat, 16]
def k9_off192 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v409 : Index := Scalar.indexCast v389
  let c32_136 : Index := 32#32
  ![v409.toNat, 32]
def k9_off193 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v417 : Index := Scalar.indexCast v389
  let c48_138 : Index := 48#32
  ![v417.toNat, 48]
def k9_off194 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v425 : Index := Scalar.indexCast v389
  let c64_140 : Index := 64#32
  ![v425.toNat, 64]
def k9_off195 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v433 : Index := Scalar.indexCast v389
  let c80_142 : Index := 80#32
  ![v433.toNat, 80]
def k9_off196 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v441 : Index := Scalar.indexCast v389
  let c96_144 : Index := 96#32
  ![v441.toNat, 96]
def k9_off197 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_130 : BitVec 32 := 16#32
  let v388 : BitVec 32 := Scalar.muli arg14 c16_i32_130
  let c4_i32 : BitVec 32 := 4#32
  let v389 : BitVec 32 := Scalar.addi v388 c4_i32
  let v449 : Index := Scalar.indexCast v389
  let c112_146 : Index := 112#32
  ![v449.toNat, 112]
def k9_off198 (v455 : BitVec 32) (c0_i32_148 : BitVec 32) : Fin 1 → Nat :=
  let v458 : BitVec 32 := Scalar.addi v455 c0_i32_148
  let v459 : Index := Scalar.indexCast v458
  ![v459.toNat]

def k9_chk23 (v6 : BitVec 32) (k9_t5 : Fin (k9_t5_loop v6).trips) (k9_t6 : Fin k9_t6_loop.trips) (v455 : BitVec 32) : Prop :=
  (∀ (k9_h2 : k9_cond2 v6 k9_t5 k9_t6 = 1#1), ∀ (r : Fin 8), ∀ a, (k9_off198 v455 (BitVec.ofNat 32 (16 * r.val))) a + S16.size a ≤ S40192.size a)
theorem k9_off198_inb : ∀ (v6 : BitVec 32) (k9_t5 : Fin (k9_t5_loop v6).trips) (k9_t6 : Fin k9_t6_loop.trips) (v455 : BitVec 32) (k9_hw23 : k9_chk23 v6 k9_t5 k9_t6 v455), ∀ (k9_h2 : k9_cond2 v6 k9_t5 k9_t6 = 1#1), ∀ (r : Fin 8), ∀ a, (k9_off198 v455 (BitVec.ofNat 32 (16 * r.val))) a + S16.size a ≤ S40192.size a := fun v6 k9_t5 k9_t6 v455 k9_hw23 k9_h2 r => k9_hw23 k9_h2 r

def k9_off199 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v461 : Index := Scalar.indexCast v457
  let c0_149 : Index := 0#32
  ![v461.toNat, 0]
def k9_off200 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v469 : Index := Scalar.indexCast v457
  let c16_151 : Index := 16#32
  ![v469.toNat, 16]
def k9_off201 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v477 : Index := Scalar.indexCast v457
  let c32_153 : Index := 32#32
  ![v477.toNat, 32]
def k9_off202 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v485 : Index := Scalar.indexCast v457
  let c48_155 : Index := 48#32
  ![v485.toNat, 48]
def k9_off203 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v493 : Index := Scalar.indexCast v457
  let c64_157 : Index := 64#32
  ![v493.toNat, 64]
def k9_off204 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v501 : Index := Scalar.indexCast v457
  let c80_159 : Index := 80#32
  ![v501.toNat, 80]
def k9_off205 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v509 : Index := Scalar.indexCast v457
  let c96_161 : Index := 96#32
  ![v509.toNat, 96]
def k9_off206 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_147 : BitVec 32 := 16#32
  let v456 : BitVec 32 := Scalar.muli arg14 c16_i32_147
  let c5_i32 : BitVec 32 := 5#32
  let v457 : BitVec 32 := Scalar.addi v456 c5_i32
  let v517 : Index := Scalar.indexCast v457
  let c112_163 : Index := 112#32
  ![v517.toNat, 112]
def k9_off207 (v523 : BitVec 32) (c0_i32_165 : BitVec 32) : Fin 1 → Nat :=
  let v526 : BitVec 32 := Scalar.addi v523 c0_i32_165
  let v527 : Index := Scalar.indexCast v526
  ![v527.toNat]

def k9_chk24 (v6 : BitVec 32) (k9_t5 : Fin (k9_t5_loop v6).trips) (k9_t6 : Fin k9_t6_loop.trips) (v523 : BitVec 32) : Prop :=
  (∀ (k9_h2 : k9_cond2 v6 k9_t5 k9_t6 = 1#1), ∀ (r : Fin 8), ∀ a, (k9_off207 v523 (BitVec.ofNat 32 (16 * r.val))) a + S16.size a ≤ S40192.size a)
theorem k9_off207_inb : ∀ (v6 : BitVec 32) (k9_t5 : Fin (k9_t5_loop v6).trips) (k9_t6 : Fin k9_t6_loop.trips) (v523 : BitVec 32) (k9_hw24 : k9_chk24 v6 k9_t5 k9_t6 v523), ∀ (k9_h2 : k9_cond2 v6 k9_t5 k9_t6 = 1#1), ∀ (r : Fin 8), ∀ a, (k9_off207 v523 (BitVec.ofNat 32 (16 * r.val))) a + S16.size a ≤ S40192.size a := fun v6 k9_t5 k9_t6 v523 k9_hw24 k9_h2 r => k9_hw24 k9_h2 r

def k9_off208 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v529 : Index := Scalar.indexCast v525
  let c0_166 : Index := 0#32
  ![v529.toNat, 0]
def k9_off209 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v537 : Index := Scalar.indexCast v525
  let c16_168 : Index := 16#32
  ![v537.toNat, 16]
def k9_off210 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v545 : Index := Scalar.indexCast v525
  let c32_170 : Index := 32#32
  ![v545.toNat, 32]
def k9_off211 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v553 : Index := Scalar.indexCast v525
  let c48_172 : Index := 48#32
  ![v553.toNat, 48]
def k9_off212 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v561 : Index := Scalar.indexCast v525
  let c64_174 : Index := 64#32
  ![v561.toNat, 64]
def k9_off213 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v569 : Index := Scalar.indexCast v525
  let c80_176 : Index := 80#32
  ![v569.toNat, 80]
def k9_off214 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v577 : Index := Scalar.indexCast v525
  let c96_178 : Index := 96#32
  ![v577.toNat, 96]
def k9_off215 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_164 : BitVec 32 := 16#32
  let v524 : BitVec 32 := Scalar.muli arg14 c16_i32_164
  let c6_i32 : BitVec 32 := 6#32
  let v525 : BitVec 32 := Scalar.addi v524 c6_i32
  let v585 : Index := Scalar.indexCast v525
  let c112_180 : Index := 112#32
  ![v585.toNat, 112]
def k9_off216 (v591 : BitVec 32) (c0_i32_182 : BitVec 32) : Fin 1 → Nat :=
  let v594 : BitVec 32 := Scalar.addi v591 c0_i32_182
  let v595 : Index := Scalar.indexCast v594
  ![v595.toNat]

def k9_chk25 (v6 : BitVec 32) (k9_t5 : Fin (k9_t5_loop v6).trips) (k9_t6 : Fin k9_t6_loop.trips) (v591 : BitVec 32) : Prop :=
  (∀ (k9_h2 : k9_cond2 v6 k9_t5 k9_t6 = 1#1), ∀ (r : Fin 8), ∀ a, (k9_off216 v591 (BitVec.ofNat 32 (16 * r.val))) a + S16.size a ≤ S40192.size a)
theorem k9_off216_inb : ∀ (v6 : BitVec 32) (k9_t5 : Fin (k9_t5_loop v6).trips) (k9_t6 : Fin k9_t6_loop.trips) (v591 : BitVec 32) (k9_hw25 : k9_chk25 v6 k9_t5 k9_t6 v591), ∀ (k9_h2 : k9_cond2 v6 k9_t5 k9_t6 = 1#1), ∀ (r : Fin 8), ∀ a, (k9_off216 v591 (BitVec.ofNat 32 (16 * r.val))) a + S16.size a ≤ S40192.size a := fun v6 k9_t5 k9_t6 v591 k9_hw25 k9_h2 r => k9_hw25 k9_h2 r

def k9_off217 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v597 : Index := Scalar.indexCast v593
  let c0_183 : Index := 0#32
  ![v597.toNat, 0]
def k9_off218 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v605 : Index := Scalar.indexCast v593
  let c16_185 : Index := 16#32
  ![v605.toNat, 16]
def k9_off219 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v613 : Index := Scalar.indexCast v593
  let c32_187 : Index := 32#32
  ![v613.toNat, 32]
def k9_off220 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v621 : Index := Scalar.indexCast v593
  let c48_189 : Index := 48#32
  ![v621.toNat, 48]
def k9_off221 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v629 : Index := Scalar.indexCast v593
  let c64_191 : Index := 64#32
  ![v629.toNat, 64]
def k9_off222 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v637 : Index := Scalar.indexCast v593
  let c80_193 : Index := 80#32
  ![v637.toNat, 80]
def k9_off223 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v645 : Index := Scalar.indexCast v593
  let c96_195 : Index := 96#32
  ![v645.toNat, 96]
def k9_off224 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_181 : BitVec 32 := 16#32
  let v592 : BitVec 32 := Scalar.muli arg14 c16_i32_181
  let c7_i32 : BitVec 32 := 7#32
  let v593 : BitVec 32 := Scalar.addi v592 c7_i32
  let v653 : Index := Scalar.indexCast v593
  let c112_197 : Index := 112#32
  ![v653.toNat, 112]
def k9_off225 (v659 : BitVec 32) (c0_i32_200 : BitVec 32) : Fin 1 → Nat :=
  let v662 : BitVec 32 := Scalar.addi v659 c0_i32_200
  let v663 : Index := Scalar.indexCast v662
  ![v663.toNat]

def k9_chk26 (v6 : BitVec 32) (k9_t5 : Fin (k9_t5_loop v6).trips) (k9_t6 : Fin k9_t6_loop.trips) (v659 : BitVec 32) : Prop :=
  (∀ (k9_h2 : k9_cond2 v6 k9_t5 k9_t6 = 1#1), ∀ (r : Fin 8), ∀ a, (k9_off225 v659 (BitVec.ofNat 32 (16 * r.val))) a + S16.size a ≤ S40192.size a)
theorem k9_off225_inb : ∀ (v6 : BitVec 32) (k9_t5 : Fin (k9_t5_loop v6).trips) (k9_t6 : Fin k9_t6_loop.trips) (v659 : BitVec 32) (k9_hw26 : k9_chk26 v6 k9_t5 k9_t6 v659), ∀ (k9_h2 : k9_cond2 v6 k9_t5 k9_t6 = 1#1), ∀ (r : Fin 8), ∀ a, (k9_off225 v659 (BitVec.ofNat 32 (16 * r.val))) a + S16.size a ≤ S40192.size a := fun v6 k9_t5 k9_t6 v659 k9_hw26 k9_h2 r => k9_hw26 k9_h2 r

def k9_off226 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v665 : Index := Scalar.indexCast v661
  let c0_201 : Index := 0#32
  ![v665.toNat, 0]
def k9_off227 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v673 : Index := Scalar.indexCast v661
  let c16_203 : Index := 16#32
  ![v673.toNat, 16]
def k9_off228 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v681 : Index := Scalar.indexCast v661
  let c32_205 : Index := 32#32
  ![v681.toNat, 32]
def k9_off229 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v689 : Index := Scalar.indexCast v661
  let c48_207 : Index := 48#32
  ![v689.toNat, 48]
def k9_off230 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v697 : Index := Scalar.indexCast v661
  let c64_209 : Index := 64#32
  ![v697.toNat, 64]
def k9_off231 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v705 : Index := Scalar.indexCast v661
  let c80_211 : Index := 80#32
  ![v705.toNat, 80]
def k9_off232 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v713 : Index := Scalar.indexCast v661
  let c96_213 : Index := 96#32
  ![v713.toNat, 96]
def k9_off233 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_198 : BitVec 32 := 16#32
  let v660 : BitVec 32 := Scalar.muli arg14 c16_i32_198
  let c8_i32_199 : BitVec 32 := 8#32
  let v661 : BitVec 32 := Scalar.addi v660 c8_i32_199
  let v721 : Index := Scalar.indexCast v661
  let c112_215 : Index := 112#32
  ![v721.toNat, 112]
def k9_off234 (v727 : BitVec 32) (c0_i32_217 : BitVec 32) : Fin 1 → Nat :=
  let v730 : BitVec 32 := Scalar.addi v727 c0_i32_217
  let v731 : Index := Scalar.indexCast v730
  ![v731.toNat]

def k9_chk27 (v6 : BitVec 32) (k9_t5 : Fin (k9_t5_loop v6).trips) (k9_t6 : Fin k9_t6_loop.trips) (v727 : BitVec 32) : Prop :=
  (∀ (k9_h2 : k9_cond2 v6 k9_t5 k9_t6 = 1#1), ∀ (r : Fin 8), ∀ a, (k9_off234 v727 (BitVec.ofNat 32 (16 * r.val))) a + S16.size a ≤ S40192.size a)
theorem k9_off234_inb : ∀ (v6 : BitVec 32) (k9_t5 : Fin (k9_t5_loop v6).trips) (k9_t6 : Fin k9_t6_loop.trips) (v727 : BitVec 32) (k9_hw27 : k9_chk27 v6 k9_t5 k9_t6 v727), ∀ (k9_h2 : k9_cond2 v6 k9_t5 k9_t6 = 1#1), ∀ (r : Fin 8), ∀ a, (k9_off234 v727 (BitVec.ofNat 32 (16 * r.val))) a + S16.size a ≤ S40192.size a := fun v6 k9_t5 k9_t6 v727 k9_hw27 k9_h2 r => k9_hw27 k9_h2 r

def k9_off235 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v733 : Index := Scalar.indexCast v729
  let c0_218 : Index := 0#32
  ![v733.toNat, 0]
def k9_off236 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v741 : Index := Scalar.indexCast v729
  let c16_220 : Index := 16#32
  ![v741.toNat, 16]
def k9_off237 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v749 : Index := Scalar.indexCast v729
  let c32_222 : Index := 32#32
  ![v749.toNat, 32]
def k9_off238 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v757 : Index := Scalar.indexCast v729
  let c48_224 : Index := 48#32
  ![v757.toNat, 48]
def k9_off239 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v765 : Index := Scalar.indexCast v729
  let c64_226 : Index := 64#32
  ![v765.toNat, 64]
def k9_off240 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v773 : Index := Scalar.indexCast v729
  let c80_228 : Index := 80#32
  ![v773.toNat, 80]
def k9_off241 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v781 : Index := Scalar.indexCast v729
  let c96_230 : Index := 96#32
  ![v781.toNat, 96]
def k9_off242 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_216 : BitVec 32 := 16#32
  let v728 : BitVec 32 := Scalar.muli arg14 c16_i32_216
  let c9_i32 : BitVec 32 := 9#32
  let v729 : BitVec 32 := Scalar.addi v728 c9_i32
  let v789 : Index := Scalar.indexCast v729
  let c112_232 : Index := 112#32
  ![v789.toNat, 112]
def k9_off243 (v795 : BitVec 32) (c0_i32_234 : BitVec 32) : Fin 1 → Nat :=
  let v798 : BitVec 32 := Scalar.addi v795 c0_i32_234
  let v799 : Index := Scalar.indexCast v798
  ![v799.toNat]

def k9_chk28 (v6 : BitVec 32) (k9_t5 : Fin (k9_t5_loop v6).trips) (k9_t6 : Fin k9_t6_loop.trips) (v795 : BitVec 32) : Prop :=
  (∀ (k9_h2 : k9_cond2 v6 k9_t5 k9_t6 = 1#1), ∀ (r : Fin 8), ∀ a, (k9_off243 v795 (BitVec.ofNat 32 (16 * r.val))) a + S16.size a ≤ S40192.size a)
theorem k9_off243_inb : ∀ (v6 : BitVec 32) (k9_t5 : Fin (k9_t5_loop v6).trips) (k9_t6 : Fin k9_t6_loop.trips) (v795 : BitVec 32) (k9_hw28 : k9_chk28 v6 k9_t5 k9_t6 v795), ∀ (k9_h2 : k9_cond2 v6 k9_t5 k9_t6 = 1#1), ∀ (r : Fin 8), ∀ a, (k9_off243 v795 (BitVec.ofNat 32 (16 * r.val))) a + S16.size a ≤ S40192.size a := fun v6 k9_t5 k9_t6 v795 k9_hw28 k9_h2 r => k9_hw28 k9_h2 r

def k9_off244 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v801 : Index := Scalar.indexCast v797
  let c0_235 : Index := 0#32
  ![v801.toNat, 0]
def k9_off245 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v809 : Index := Scalar.indexCast v797
  let c16_237 : Index := 16#32
  ![v809.toNat, 16]
def k9_off246 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v817 : Index := Scalar.indexCast v797
  let c32_239 : Index := 32#32
  ![v817.toNat, 32]
def k9_off247 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v825 : Index := Scalar.indexCast v797
  let c48_241 : Index := 48#32
  ![v825.toNat, 48]
def k9_off248 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v833 : Index := Scalar.indexCast v797
  let c64_243 : Index := 64#32
  ![v833.toNat, 64]
def k9_off249 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v841 : Index := Scalar.indexCast v797
  let c80_245 : Index := 80#32
  ![v841.toNat, 80]
def k9_off250 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v849 : Index := Scalar.indexCast v797
  let c96_247 : Index := 96#32
  ![v849.toNat, 96]
def k9_off251 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_233 : BitVec 32 := 16#32
  let v796 : BitVec 32 := Scalar.muli arg14 c16_i32_233
  let c10_i32 : BitVec 32 := 10#32
  let v797 : BitVec 32 := Scalar.addi v796 c10_i32
  let v857 : Index := Scalar.indexCast v797
  let c112_249 : Index := 112#32
  ![v857.toNat, 112]
def k9_off252 (v863 : BitVec 32) (c0_i32_251 : BitVec 32) : Fin 1 → Nat :=
  let v866 : BitVec 32 := Scalar.addi v863 c0_i32_251
  let v867 : Index := Scalar.indexCast v866
  ![v867.toNat]

def k9_chk29 (v6 : BitVec 32) (k9_t5 : Fin (k9_t5_loop v6).trips) (k9_t6 : Fin k9_t6_loop.trips) (v863 : BitVec 32) : Prop :=
  (∀ (k9_h2 : k9_cond2 v6 k9_t5 k9_t6 = 1#1), ∀ (r : Fin 8), ∀ a, (k9_off252 v863 (BitVec.ofNat 32 (16 * r.val))) a + S16.size a ≤ S40192.size a)
theorem k9_off252_inb : ∀ (v6 : BitVec 32) (k9_t5 : Fin (k9_t5_loop v6).trips) (k9_t6 : Fin k9_t6_loop.trips) (v863 : BitVec 32) (k9_hw29 : k9_chk29 v6 k9_t5 k9_t6 v863), ∀ (k9_h2 : k9_cond2 v6 k9_t5 k9_t6 = 1#1), ∀ (r : Fin 8), ∀ a, (k9_off252 v863 (BitVec.ofNat 32 (16 * r.val))) a + S16.size a ≤ S40192.size a := fun v6 k9_t5 k9_t6 v863 k9_hw29 k9_h2 r => k9_hw29 k9_h2 r

def k9_off253 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v869 : Index := Scalar.indexCast v865
  let c0_252 : Index := 0#32
  ![v869.toNat, 0]
def k9_off254 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v877 : Index := Scalar.indexCast v865
  let c16_254 : Index := 16#32
  ![v877.toNat, 16]
def k9_off255 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v885 : Index := Scalar.indexCast v865
  let c32_256 : Index := 32#32
  ![v885.toNat, 32]
def k9_off256 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v893 : Index := Scalar.indexCast v865
  let c48_258 : Index := 48#32
  ![v893.toNat, 48]
def k9_off257 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v901 : Index := Scalar.indexCast v865
  let c64_260 : Index := 64#32
  ![v901.toNat, 64]
def k9_off258 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v909 : Index := Scalar.indexCast v865
  let c80_262 : Index := 80#32
  ![v909.toNat, 80]
def k9_off259 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v917 : Index := Scalar.indexCast v865
  let c96_264 : Index := 96#32
  ![v917.toNat, 96]
def k9_off260 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_250 : BitVec 32 := 16#32
  let v864 : BitVec 32 := Scalar.muli arg14 c16_i32_250
  let c11_i32 : BitVec 32 := 11#32
  let v865 : BitVec 32 := Scalar.addi v864 c11_i32
  let v925 : Index := Scalar.indexCast v865
  let c112_266 : Index := 112#32
  ![v925.toNat, 112]
def k9_off261 (v931 : BitVec 32) (c0_i32_268 : BitVec 32) : Fin 1 → Nat :=
  let v934 : BitVec 32 := Scalar.addi v931 c0_i32_268
  let v935 : Index := Scalar.indexCast v934
  ![v935.toNat]

def k9_chk30 (v6 : BitVec 32) (k9_t5 : Fin (k9_t5_loop v6).trips) (k9_t6 : Fin k9_t6_loop.trips) (v931 : BitVec 32) : Prop :=
  (∀ (k9_h2 : k9_cond2 v6 k9_t5 k9_t6 = 1#1), ∀ (r : Fin 8), ∀ a, (k9_off261 v931 (BitVec.ofNat 32 (16 * r.val))) a + S16.size a ≤ S40192.size a)
theorem k9_off261_inb : ∀ (v6 : BitVec 32) (k9_t5 : Fin (k9_t5_loop v6).trips) (k9_t6 : Fin k9_t6_loop.trips) (v931 : BitVec 32) (k9_hw30 : k9_chk30 v6 k9_t5 k9_t6 v931), ∀ (k9_h2 : k9_cond2 v6 k9_t5 k9_t6 = 1#1), ∀ (r : Fin 8), ∀ a, (k9_off261 v931 (BitVec.ofNat 32 (16 * r.val))) a + S16.size a ≤ S40192.size a := fun v6 k9_t5 k9_t6 v931 k9_hw30 k9_h2 r => k9_hw30 k9_h2 r

def k9_off262 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v937 : Index := Scalar.indexCast v933
  let c0_269 : Index := 0#32
  ![v937.toNat, 0]
def k9_off263 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v945 : Index := Scalar.indexCast v933
  let c16_271 : Index := 16#32
  ![v945.toNat, 16]
def k9_off264 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v953 : Index := Scalar.indexCast v933
  let c32_273 : Index := 32#32
  ![v953.toNat, 32]
def k9_off265 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v961 : Index := Scalar.indexCast v933
  let c48_275 : Index := 48#32
  ![v961.toNat, 48]
def k9_off266 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v969 : Index := Scalar.indexCast v933
  let c64_277 : Index := 64#32
  ![v969.toNat, 64]
def k9_off267 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v977 : Index := Scalar.indexCast v933
  let c80_279 : Index := 80#32
  ![v977.toNat, 80]
def k9_off268 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v985 : Index := Scalar.indexCast v933
  let c96_281 : Index := 96#32
  ![v985.toNat, 96]
def k9_off269 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_267 : BitVec 32 := 16#32
  let v932 : BitVec 32 := Scalar.muli arg14 c16_i32_267
  let c12_i32 : BitVec 32 := 12#32
  let v933 : BitVec 32 := Scalar.addi v932 c12_i32
  let v993 : Index := Scalar.indexCast v933
  let c112_283 : Index := 112#32
  ![v993.toNat, 112]
def k9_off270 (v999 : BitVec 32) (c0_i32_285 : BitVec 32) : Fin 1 → Nat :=
  let v1002 : BitVec 32 := Scalar.addi v999 c0_i32_285
  let v1003 : Index := Scalar.indexCast v1002
  ![v1003.toNat]

def k9_chk31 (v6 : BitVec 32) (k9_t5 : Fin (k9_t5_loop v6).trips) (k9_t6 : Fin k9_t6_loop.trips) (v999 : BitVec 32) : Prop :=
  (∀ (k9_h2 : k9_cond2 v6 k9_t5 k9_t6 = 1#1), ∀ (r : Fin 8), ∀ a, (k9_off270 v999 (BitVec.ofNat 32 (16 * r.val))) a + S16.size a ≤ S40192.size a)
theorem k9_off270_inb : ∀ (v6 : BitVec 32) (k9_t5 : Fin (k9_t5_loop v6).trips) (k9_t6 : Fin k9_t6_loop.trips) (v999 : BitVec 32) (k9_hw31 : k9_chk31 v6 k9_t5 k9_t6 v999), ∀ (k9_h2 : k9_cond2 v6 k9_t5 k9_t6 = 1#1), ∀ (r : Fin 8), ∀ a, (k9_off270 v999 (BitVec.ofNat 32 (16 * r.val))) a + S16.size a ≤ S40192.size a := fun v6 k9_t5 k9_t6 v999 k9_hw31 k9_h2 r => k9_hw31 k9_h2 r

def k9_off271 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1005 : Index := Scalar.indexCast v1001
  let c0_286 : Index := 0#32
  ![v1005.toNat, 0]
def k9_off272 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1013 : Index := Scalar.indexCast v1001
  let c16_288 : Index := 16#32
  ![v1013.toNat, 16]
def k9_off273 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1021 : Index := Scalar.indexCast v1001
  let c32_290 : Index := 32#32
  ![v1021.toNat, 32]
def k9_off274 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1029 : Index := Scalar.indexCast v1001
  let c48_292 : Index := 48#32
  ![v1029.toNat, 48]
def k9_off275 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1037 : Index := Scalar.indexCast v1001
  let c64_294 : Index := 64#32
  ![v1037.toNat, 64]
def k9_off276 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1045 : Index := Scalar.indexCast v1001
  let c80_296 : Index := 80#32
  ![v1045.toNat, 80]
def k9_off277 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1053 : Index := Scalar.indexCast v1001
  let c96_298 : Index := 96#32
  ![v1053.toNat, 96]
def k9_off278 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_284 : BitVec 32 := 16#32
  let v1000 : BitVec 32 := Scalar.muli arg14 c16_i32_284
  let c13_i32 : BitVec 32 := 13#32
  let v1001 : BitVec 32 := Scalar.addi v1000 c13_i32
  let v1061 : Index := Scalar.indexCast v1001
  let c112_300 : Index := 112#32
  ![v1061.toNat, 112]
def k9_off279 (v1067 : BitVec 32) (c0_i32_302 : BitVec 32) : Fin 1 → Nat :=
  let v1070 : BitVec 32 := Scalar.addi v1067 c0_i32_302
  let v1071 : Index := Scalar.indexCast v1070
  ![v1071.toNat]

def k9_chk32 (v6 : BitVec 32) (k9_t5 : Fin (k9_t5_loop v6).trips) (k9_t6 : Fin k9_t6_loop.trips) (v1067 : BitVec 32) : Prop :=
  (∀ (k9_h2 : k9_cond2 v6 k9_t5 k9_t6 = 1#1), ∀ (r : Fin 8), ∀ a, (k9_off279 v1067 (BitVec.ofNat 32 (16 * r.val))) a + S16.size a ≤ S40192.size a)
theorem k9_off279_inb : ∀ (v6 : BitVec 32) (k9_t5 : Fin (k9_t5_loop v6).trips) (k9_t6 : Fin k9_t6_loop.trips) (v1067 : BitVec 32) (k9_hw32 : k9_chk32 v6 k9_t5 k9_t6 v1067), ∀ (k9_h2 : k9_cond2 v6 k9_t5 k9_t6 = 1#1), ∀ (r : Fin 8), ∀ a, (k9_off279 v1067 (BitVec.ofNat 32 (16 * r.val))) a + S16.size a ≤ S40192.size a := fun v6 k9_t5 k9_t6 v1067 k9_hw32 k9_h2 r => k9_hw32 k9_h2 r

def k9_off280 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1073 : Index := Scalar.indexCast v1069
  let c0_303 : Index := 0#32
  ![v1073.toNat, 0]
def k9_off281 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1081 : Index := Scalar.indexCast v1069
  let c16_305 : Index := 16#32
  ![v1081.toNat, 16]
def k9_off282 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1089 : Index := Scalar.indexCast v1069
  let c32_307 : Index := 32#32
  ![v1089.toNat, 32]
def k9_off283 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1097 : Index := Scalar.indexCast v1069
  let c48_309 : Index := 48#32
  ![v1097.toNat, 48]
def k9_off284 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1105 : Index := Scalar.indexCast v1069
  let c64_311 : Index := 64#32
  ![v1105.toNat, 64]
def k9_off285 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1113 : Index := Scalar.indexCast v1069
  let c80_313 : Index := 80#32
  ![v1113.toNat, 80]
def k9_off286 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1121 : Index := Scalar.indexCast v1069
  let c96_315 : Index := 96#32
  ![v1121.toNat, 96]
def k9_off287 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_301 : BitVec 32 := 16#32
  let v1068 : BitVec 32 := Scalar.muli arg14 c16_i32_301
  let c14_i32 : BitVec 32 := 14#32
  let v1069 : BitVec 32 := Scalar.addi v1068 c14_i32
  let v1129 : Index := Scalar.indexCast v1069
  let c112_317 : Index := 112#32
  ![v1129.toNat, 112]
def k9_off288 (v1135 : BitVec 32) (c0_i32_319 : BitVec 32) : Fin 1 → Nat :=
  let v1138 : BitVec 32 := Scalar.addi v1135 c0_i32_319
  let v1139 : Index := Scalar.indexCast v1138
  ![v1139.toNat]

def k9_chk33 (v6 : BitVec 32) (k9_t5 : Fin (k9_t5_loop v6).trips) (k9_t6 : Fin k9_t6_loop.trips) (v1135 : BitVec 32) : Prop :=
  (∀ (k9_h2 : k9_cond2 v6 k9_t5 k9_t6 = 1#1), ∀ (r : Fin 8), ∀ a, (k9_off288 v1135 (BitVec.ofNat 32 (16 * r.val))) a + S16.size a ≤ S40192.size a)
theorem k9_off288_inb : ∀ (v6 : BitVec 32) (k9_t5 : Fin (k9_t5_loop v6).trips) (k9_t6 : Fin k9_t6_loop.trips) (v1135 : BitVec 32) (k9_hw33 : k9_chk33 v6 k9_t5 k9_t6 v1135), ∀ (k9_h2 : k9_cond2 v6 k9_t5 k9_t6 = 1#1), ∀ (r : Fin 8), ∀ a, (k9_off288 v1135 (BitVec.ofNat 32 (16 * r.val))) a + S16.size a ≤ S40192.size a := fun v6 k9_t5 k9_t6 v1135 k9_hw33 k9_h2 r => k9_hw33 k9_h2 r

def k9_off289 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1141 : Index := Scalar.indexCast v1137
  let c0_320 : Index := 0#32
  ![v1141.toNat, 0]
def k9_off290 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1149 : Index := Scalar.indexCast v1137
  let c16_322 : Index := 16#32
  ![v1149.toNat, 16]
def k9_off291 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1157 : Index := Scalar.indexCast v1137
  let c32_324 : Index := 32#32
  ![v1157.toNat, 32]
def k9_off292 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1165 : Index := Scalar.indexCast v1137
  let c48_326 : Index := 48#32
  ![v1165.toNat, 48]
def k9_off293 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1173 : Index := Scalar.indexCast v1137
  let c64_328 : Index := 64#32
  ![v1173.toNat, 64]
def k9_off294 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1181 : Index := Scalar.indexCast v1137
  let c80_330 : Index := 80#32
  ![v1181.toNat, 80]
def k9_off295 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1189 : Index := Scalar.indexCast v1137
  let c96_332 : Index := 96#32
  ![v1189.toNat, 96]
def k9_off296 (k9_t7 : Fin k9_t7_loop.trips) : Fin 2 → Nat :=
  let c0_i32_52 : BitVec 32 := 0#32
  let c1_i32_53 : BitVec 32 := 1#32
  let arg14 : BitVec 32 := Scf.iv c0_i32_52 c1_i32_53 k9_t7
  let c16_i32_318 : BitVec 32 := 16#32
  let v1136 : BitVec 32 := Scalar.muli arg14 c16_i32_318
  let c15_i32 : BitVec 32 := 15#32
  let v1137 : BitVec 32 := Scalar.addi v1136 c15_i32
  let v1197 : Index := Scalar.indexCast v1137
  let c112_334 : Index := 112#32
  ![v1197.toNat, 112]
@[reducible] def k9_t8_loop : Scf.Loop 32 :=
  let c0_i32_16 : BitVec 32 := 0#32
  let c2504_i32 : BitVec 32 := 2504#32
  let v31 : BitVec 32 := Scalar.addi c0_i32_16 c2504_i32
  let c1_i32_17 : BitVec 32 := 1#32
  ⟨c0_i32_16, v31, c1_i32_17⟩
def k9_off297 (k9_t8 : Fin k9_t8_loop.trips) : Fin 1 → Nat :=
  let c0_i32_16 : BitVec 32 := 0#32
  let c1_i32_17 : BitVec 32 := 1#32
  let arg12 : BitVec 32 := Scf.iv c0_i32_16 c1_i32_17 k9_t8
  let c16_i32 : BitVec 32 := 16#32
  let v38 : BitVec 32 := Scalar.muli arg12 c16_i32
  let v39 : Index := Scalar.indexCast v38
  ![v39.toNat]
def k9_cond3 (i : grid9.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v32 : BitVec 1 := Scalar.cmpi .slt v1 c31_i32
  let v33 : BitVec 32 := Scalar.extui v32
  let c0_i32_19 : BitVec 32 := 0#32
  let v34 : BitVec 1 := Scalar.cmpi .ne v33 c0_i32_19
  v34

def k9_off298 (i : grid9.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v38 : BitVec 32 := Scalar.muli v1 c313_i32
  let c128_i32 : BitVec 32 := 128#32
  let v39 : BitVec 32 := Scalar.muli v38 c128_i32
  ![v39.toNat]
abbrev scKind : Fin 10 → Kind := fun | 0 => .scVector | 1 => .scVector | 2 => .scVector | 3 => .scVector | 4 => .scVector | 5 => .scVector | 6 => .scVector | 7 => .scVector | 8 => .scVector | 9 => .scVector | ⟨_ + 10, h⟩ => absurd h (Nat.not_lt.2 (Nat.le_add_left _ _))
abbrev scNCore : Fin 10 → Nat := fun | 0 => 2 | 1 => 2 | 2 => 2 | 3 => 2 | 4 => 2 | 5 => 2 | 6 => 2 | 7 => 2 | 8 => 2 | 9 => 2 | ⟨_ + 10, h⟩ => absurd h (Nat.not_lt.2 (Nat.le_add_left _ _))
abbrev scNSub : Fin 10 → Nat := fun | 0 => 16 | 1 => 16 | 2 => 16 | 3 => 16 | 4 => 16 | 5 => 16 | 6 => 16 | 7 => 16 | 8 => 16 | 9 => 16 | ⟨_ + 10, h⟩ => absurd h (Nat.not_lt.2 (Nat.le_add_left _ _))
-- ==== KernelIdeal.lean ====
variable {F : FTy → Type} [FloatOps F] [Named F]
def κ : String → Option EReal := fun
  | "low" => some ⊥
  | "neg" => some ⊥
  | _ => none
variable {F : FTy → Type} [FloatOps F] [Named F]
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S10000x1152 : Shape := ⟨2, ![10000, 1152]⟩
abbrev S_ : Shape := ⟨0, ![]⟩
abbrev S1 : Shape := ⟨1, ![1]⟩
abbrev S1x1152 : Shape := ⟨2, ![1, 1152]⟩

abbrev nBuf : Space → Nat
  | .hbm => 94
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S2x320000, .i32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S10000x1152, .f32⟩
  | .hbm, ⟨15, _⟩ => ⟨S_, .f32⟩
  | .hbm, ⟨16, _⟩ => ⟨S10000x1152, .f32⟩
  | .hbm, ⟨17, _⟩ => ⟨S_, .i32⟩
  | .hbm, ⟨18, _⟩ => ⟨S_, .i32⟩
  | .hbm, ⟨19, _⟩ => ⟨S320000, .i32⟩
  | .hbm, ⟨20, _⟩ => ⟨S10000x1152, .f32⟩
  | .hbm, ⟨21, _⟩ => ⟨S320000, .i32⟩
  | .hbm, ⟨22, _⟩ => ⟨S_, .i32⟩
  | .hbm, ⟨23, _⟩ => ⟨S_, .i32⟩
  | .hbm, ⟨24, _⟩ => ⟨S10000x1152, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x1152, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1152, .f32⟩
  | .hbm, ⟨59, _⟩ => ⟨S1x1152, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S10000x1152, .f32⟩
  | .hbm, ⟨75, _⟩ => ⟨S_, .i32⟩
  | .hbm, ⟨76, _⟩ => ⟨S_, .i32⟩
  | .hbm, ⟨77, _⟩ => ⟨S10000x1152, .f32⟩
  | .hbm, ⟨78, _⟩ => ⟨S_, .f32⟩
  | .hbm, ⟨79, _⟩ => ⟨S10000x1152, .f32⟩
  | .hbm, ⟨80, _⟩ => ⟨S10000x1152, .i1⟩
  | .hbm, ⟨81, _⟩ => ⟨S_, .f32⟩
  | .hbm, ⟨82, _⟩ => ⟨S_, .f32⟩
  | .hbm, ⟨83, _⟩ => ⟨S10000x1152, .f32⟩
  | .hbm, ⟨84, _⟩ => ⟨S10000x1152, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S10000x128, .f32⟩
  | .hbm, ⟨90, _⟩ => ⟨S10000x128, .f32⟩
  | .hbm, ⟨91, _⟩ => ⟨S10000x128, .f32⟩
  | .hbm, ⟨92, _⟩ => ⟨S10000x128, .f32⟩
  | .hbm, ⟨93, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_c_0 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_while0c_c_8 : Ref sig .tc := ⟨.hbm, 25, rfl⟩
abbrev main_while0c_v20 : Ref sig .tc := ⟨.hbm, 26, rfl⟩
abbrev main_while0b_c_8 : Ref sig .tc := ⟨.hbm, 27, rfl⟩
abbrev main_while0b_v20 : Ref sig .tc := ⟨.hbm, 28, rfl⟩
abbrev main_while0b_c_9 : Ref sig .tc := ⟨.hbm, 29, rfl⟩
abbrev main_while0b_v21 : Ref sig .tc := ⟨.hbm, 30, rfl⟩
abbrev main_while0b_v22 : Ref sig .tc := ⟨.hbm, 31, rfl⟩
abbrev main_while0b_c_10 : Ref sig .tc := ⟨.hbm, 32, rfl⟩
abbrev main_while0b_v23 : Ref sig .tc := ⟨.hbm, 33, rfl⟩
abbrev main_while0b_v24 : Ref sig .tc := ⟨.hbm, 34, rfl⟩
abbrev main_while0b_v25 : Ref sig .tc := ⟨.hbm, 35, rfl⟩
abbrev main_while0b_v26 : Ref sig .tc := ⟨.hbm, 36, rfl⟩
abbrev main_while0b_c_11 : Ref sig .tc := ⟨.hbm, 37, rfl⟩
abbrev main_while0b_v27 : Ref sig .tc := ⟨.hbm, 38, rfl⟩
abbrev main_while0b_c_12 : Ref sig .tc := ⟨.hbm, 39, rfl⟩
abbrev main_while0b_v28 : Ref sig .tc := ⟨.hbm, 40, rfl⟩
abbrev main_while0b_v29 : Ref sig .tc := ⟨.hbm, 41, rfl⟩
abbrev main_while0b_c_13 : Ref sig .tc := ⟨.hbm, 42, rfl⟩
abbrev main_while0b_v30 : Ref sig .tc := ⟨.hbm, 43, rfl⟩
abbrev main_while0b_c_14 : Ref sig .tc := ⟨.hbm, 44, rfl⟩
abbrev main_while0b_v31 : Ref sig .tc := ⟨.hbm, 45, rfl⟩
abbrev main_while0b_v32 : Ref sig .tc := ⟨.hbm, 46, rfl⟩
abbrev main_while0b_c_15 : Ref sig .tc := ⟨.hbm, 47, rfl⟩
abbrev main_while0b_v33 : Ref sig .tc := ⟨.hbm, 48, rfl⟩
abbrev main_while0b_v34 : Ref sig .tc := ⟨.hbm, 49, rfl⟩
abbrev main_while0b_v35 : Ref sig .tc := ⟨.hbm, 50, rfl⟩
abbrev main_while0b_v36 : Ref sig .tc := ⟨.hbm, 51, rfl⟩
abbrev main_while0b_c_16 : Ref sig .tc := ⟨.hbm, 52, rfl⟩
abbrev main_while0b_v37 : Ref sig .tc := ⟨.hbm, 53, rfl⟩
abbrev main_while0b_c_17 : Ref sig .tc := ⟨.hbm, 54, rfl⟩
abbrev main_while0b_v38 : Ref sig .tc := ⟨.hbm, 55, rfl⟩
abbrev main_while0b_v39 : Ref sig .tc := ⟨.hbm, 56, rfl⟩
abbrev main_while0b_c_18 : Ref sig .tc := ⟨.hbm, 57, rfl⟩
abbrev main_while0b_v40 : Ref sig .tc := ⟨.hbm, 58, rfl⟩
abbrev main_while0b_v41 : Ref sig .tc := ⟨.hbm, 59, rfl⟩
abbrev main_while0b_c_19 : Ref sig .tc := ⟨.hbm, 60, rfl⟩
abbrev main_while0b_v42 : Ref sig .tc := ⟨.hbm, 61, rfl⟩
abbrev main_while0b_v43 : Ref sig .tc := ⟨.hbm, 62, rfl⟩
abbrev main_while0b_c_20 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_c_21 : Ref sig .tc := ⟨.hbm, 68, rfl⟩
abbrev main_while0b_v48 : Ref sig .tc := ⟨.hbm, 69, rfl⟩
abbrev main_while0b_c_22 : Ref sig .tc := ⟨.hbm, 70, rfl⟩
abbrev main_while0b_v49 : Ref sig .tc := ⟨.hbm, 71, rfl⟩
abbrev main_while0b_v50 : Ref sig .tc := ⟨.hbm, 72, rfl⟩
abbrev main_while0b_c_23 : Ref sig .tc := ⟨.hbm, 73, rfl⟩
abbrev main_while0b_v51 : Ref sig .tc := ⟨.hbm, 74, rfl⟩
abbrev main_while0b_c_24 : Ref sig .tc := ⟨.hbm, 75, rfl⟩
abbrev main_while0b_v52 : Ref sig .tc := ⟨.hbm, 76, rfl⟩
abbrev main_v7 : Ref sig .tc := ⟨.hbm, 77, rfl⟩
abbrev main_cst_1 : Ref sig .tc := ⟨.hbm, 78, rfl⟩
abbrev main_v8 : Ref sig .tc := ⟨.hbm, 79, rfl⟩
abbrev main_v9 : Ref sig .tc := ⟨.hbm, 80, rfl⟩
abbrev main_cst_2 : Ref sig .tc := ⟨.hbm, 81, rfl⟩
abbrev main_call0_v0 : Ref sig .tc := ⟨.hbm, 82, rfl⟩
abbrev main_call0_v1 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩

abbrev nD : Nat := 1
abbrev τ : Topo := Topo.v7x

variable {F : FTy → Type} [FloatOps F]

abbrev main_while0_count : Scf.Loop 32 := ⟨0#32, 320000#32, 1#32⟩
-- ==== Layer.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S10000x128, .f32⟩
  | .hbm, ⟨7, _⟩ => ⟨S1x128, .f32⟩
  | .hbm, ⟨8, _⟩ => ⟨S1x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LayerReferenceIdeal.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S128x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S10000x128, .f32⟩
  | .hbm, ⟨17, _⟩ => ⟨S_, .f32⟩
  | .hbm, ⟨18, _⟩ => ⟨S128, .f32⟩
  | .hbm, ⟨19, _⟩ => ⟨S1x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Norm.lean ====
abbrev S10000x128 : Shape := ⟨2, ![10000, 128]⟩
abbrev S1x128 : Shape := ⟨2, ![1, 128]⟩
abbrev S128 : Shape := ⟨1, ![128]⟩
abbrev S2000x128 : Shape := ⟨2, ![2000, 128]⟩

abbrev nBuf : Space → Nat
  | .hbm => 10
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormIdeal.lean ====
variable {F : FTy → Type} [FloatOps F] [Named F]
def κ : String → Option EReal := fun
  | "inv_n" => some ((1 / 10000 : ℝ) : EReal)
  | _ => none
-- ==== NormReferenceIdeal.lean ====
abbrev S10000x128 : Shape := ⟨2, ![10000, 128]⟩
abbrev S1x128 : Shape := ⟨2, ![1, 128]⟩
abbrev S128 : Shape := ⟨1, ![128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .i1⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Tail.lean ====
abbrev S10000x128 : Shape := ⟨2, ![10000, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2000x128 : Shape := ⟨2, ![2000, 128]⟩

abbrev nBuf : Space → Nat
  | .hbm => 13
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailReferenceIdeal.lean ====
abbrev S10000x128 : Shape := ⟨2, ![10000, 128]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S10000x256, .f32⟩
  | .hbm, ⟨8, _⟩ => ⟨S256x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x256, .f32⟩
  | .hbm, ⟨14, _⟩ => ⟨S256x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Lists.lean ====
/-
  The mathematics of the edge lists, over the natural numbers: which edges a worker takes, in what order it lists
  them, and what one sixteen-lane step of the list building does to the list under construction. Worker `w` owns the
  313 nodes from `313 * w`; it takes the edges whose destination is one of them, in edge order, each packed as its
  local destination times 16384 plus its source. The list is then padded to a multiple of 128 with the entry of the
  local destination 313 and the source 0.
-/
module

public import proofs.«01_k».proof.Defs
public import Mathlib.Data.Nat.Count

@[expose] public section

noncomputable section

namespace Cert.Proof.Lists

open Idealize.ShloMosaic

/-! ## A fold over the lanes, by an invariant indexed by the lanes passed -/

/-- A fold over `Fin n` in order keeps what each step takes from one index to the next. -/
theorem foldl_lanes {β : Type} (n : ℕ) (P : ℕ → β → Prop) (step : β → Fin n → β) (b : β) (h0 : P 0 b)
    (hs : ∀ (k : Fin n) (g : β), P k.val g → P (k.val + 1) (step g k)) : P n ((List.finRange n).foldl step b) := by
  have key : ∀ (m : ℕ) (hm : m ≤ n), P m (((List.finRange n).take m).foldl step b) := by
    intro m
    induction m with
    | zero => intro _; simpa using h0
    | succ m ih =>
      intro hm
      have hlt : m < (List.finRange n).length := by rw [List.length_finRange]; omega
      rw [List.take_succ_eq_append_getElem hlt, List.foldl_append]
      have := hs ⟨m, by omega⟩ _ (ih (by omega))
      simpa using this
  have := key n le_rfl
  rwa [List.take_of_length_le (by rw [List.length_finRange])] at this

/-! ## A worker's edges -/

/-- Edge `e` goes to one of the 313 nodes of worker `w`. -/
def Mt (dE : ℕ → ℕ) (w e : ℕ) : Prop := e < 320000 ∧ 313 * w ≤ dE e ∧ dE e < 313 * w + 313

instance (dE : ℕ → ℕ) (w : ℕ) : DecidablePred (Mt dE w) := fun e => by unfold Mt; infer_instance

/-- How many of the first `n` edges are worker `w`'s. -/
def cnt (dE : ℕ → ℕ) (w n : ℕ) : ℕ := Nat.count (Mt dE w) n

/-- Edge `e` as worker `w` packs it. -/
def pk (dE sE : ℕ → ℕ) (w e : ℕ) : ℕ := (dE e - 313 * w) * 16384 + sE e

open Classical in
/-- The edge of worker `w` that has `p` of its edges before it (0 when there is none). -/
def nthE (dE : ℕ → ℕ) (w p : ℕ) : ℕ := if h : ∃ e, Mt dE w e ∧ cnt dE w e = p then h.choose else 0

/-- The `p`-th entry of worker `w`'s list, from its edges in order. -/
def lst (dE sE : ℕ → ℕ) (w p : ℕ) : ℕ := pk dE sE w (nthE dE w p)

/-- How many edges worker `w` has. -/
def tot (dE : ℕ → ℕ) (w : ℕ) : ℕ := cnt dE w 320000

/-- The length of the padded list. -/
def len (dE : ℕ → ℕ) (w : ℕ) : ℕ := (tot dE w + 127) / 128 * 128

/-- The `p`-th entry of the padded list. -/
def ent (dE sE : ℕ → ℕ) (w p : ℕ) : ℕ := if p < tot dE w then lst dE sE w p else 5128192

section

variable (dE sE : ℕ → ℕ) (w : ℕ)

/-- No edge, none of the worker's. -/
theorem cnt_zero : cnt dE w 0 = 0 := Nat.count_zero _

/-- One edge more counts if it is the worker's. -/
theorem cnt_succ (n : ℕ) : cnt dE w (n + 1) = cnt dE w n + if Mt dE w n then 1 else 0 := Nat.count_succ _ _

/-- The count grows with the edges passed. -/
theorem cnt_mono {a b : ℕ} (h : a ≤ b) : cnt dE w a ≤ cnt dE w b := Nat.count_monotone _ h

/-- The count grows by at most the number of edges passed. -/
theorem cnt_le_add (a k : ℕ) : cnt dE w (a + k) ≤ cnt dE w a + k := by
  induction k with
  | zero => simp
  | succ k ih => rw [← Nat.add_assoc, cnt_succ]; split <;> omega

/-- A worker's edge is the one with its number of edges before it. -/
theorem nthE_cnt {e : ℕ} (h : Mt dE w e) : nthE dE w (cnt dE w e) = e := by
  have hex : ∃ e', Mt dE w e' ∧ cnt dE w e' = cnt dE w e := ⟨e, h, rfl⟩
  unfold nthE
  rw [dif_pos hex]
  obtain ⟨h1, h2⟩ := hex.choose_spec
  generalize hex.choose = e' at h1 h2
  rcases Nat.lt_trichotomy e' e with h3 | h3 | h3
  · have := cnt_mono dE w (show e' + 1 ≤ e by omega)
    rw [cnt_succ, if_pos h1] at this; omega
  · exact h3
  · have := cnt_mono dE w (show e + 1 ≤ e' by omega)
    rw [cnt_succ, if_pos h] at this; omega

/-- A worker's edge stands in its list at the number of the worker's edges before it. -/
theorem lst_cnt {e : ℕ} (h : Mt dE w e) : lst dE sE w (cnt dE w e) = pk dE sE w e := by
  unfold lst; rw [nthE_cnt dE w h]

/-- There are no more of a worker's edges than edges. -/
theorem cnt_le (n : ℕ) : cnt dE w n ≤ n := by
  have := cnt_le_add dE w 0 n
  rw [cnt_zero] at this; simpa using this

/-- Every entry's edge is one of the worker's. -/
theorem nth_mt {p : ℕ} (h : p < tot dE w) : Mt dE w (nthE dE w p) := by
  obtain ⟨e, he, hm, hc⟩ : ∃ e, e < 320000 ∧ Mt dE w e ∧ cnt dE w e = p := by
    have : ∀ n, p < cnt dE w n → ∃ e, e < n ∧ Mt dE w e ∧ cnt dE w e = p := by
      intro n
      induction n with
      | zero => intro h; rw [cnt_zero] at h; omega
      | succ n ih =>
        intro h
        by_cases h2 : p < cnt dE w n
        · obtain ⟨e, h3, h4⟩ := ih h2; exact ⟨e, by omega, h4⟩
        · rw [cnt_succ] at h
          split at h
          · rename_i hm; exact ⟨n, by omega, hm, by omega⟩
          · omega
    exact this _ h
  rw [← hc, nthE_cnt dE w hm]; exact hm

/-- An entry of the padded list is at most the padding's. -/
theorem ent_le (hs : ∀ e, e < 320000 → sE e < 10000) (p : ℕ) : ent dE sE w p ≤ 5128192 := by
  unfold ent
  split
  · rename_i h
    have hm := nth_mt dE w h
    unfold lst pk
    have := hs _ hm.1
    obtain ⟨_, h1, h2⟩ := hm
    omega
  · omega

/-- The source in an entry of the padded list is a node. -/
theorem ent_src (hs : ∀ e, e < 320000 → sE e < 10000) (p : ℕ) : ent dE sE w p % 16384 < 10000 := by
  unfold ent
  split
  · rename_i h
    have hm := nth_mt dE w h
    unfold lst pk
    have := hs _ hm.1
    omega
  · omega

end

/-! ## One sixteen-lane step -/

section

variable (dE sE : ℕ → ℕ) (w b f c : ℕ)

/-- The sixteen lanes' numbers: how far the scatter's offset of a lane is. The inclusive running sum of the lanes'
    zero-or-one words counts the worker's edges among the lanes up to it. -/
theorem scan_cnt {d : Fin 1 → ℕ} (hd : d 0 = 16) (v : IVec ⟨1, d⟩ 32)
    (hv : ∀ l : Fin (d 0), v (Shape.ofLane l) = if Mt dE w (b + l.val) then 1#32 else 0#32) (i : (⟨1, d⟩ : Shape).Idx) :
    (scan .sum v i).toNat + cnt dE w b = cnt dE w (b + (i 0).val + 1) := by
  unfold scan
  rw [List.foldl_filter]
  have hi : (i 0).val < 16 := lt_of_lt_of_eq (i 0).isLt hd
  have key := foldl_lanes (d 0) (fun n (r : BitVec 32) => r.toNat + cnt dE w b = cnt dE w (b + max 1 (min n ((i 0).val + 1))))
    (fun x y => if decide (0 < y.val ∧ y.val ≤ (i 0).val) = true then ScanKind.sum.step x (v (Shape.ofLane y)) else x)
    (v (Shape.ofLane ⟨0, by omega⟩)) ?_ ?_
  · rw [key]; congr 1; omega
  · rw [hv]
    rw [show max 1 (min 0 ((i 0).val + 1)) = 1 by omega, cnt_succ]
    rw [show b + (⟨0, by omega⟩ : Fin (d 0)).val = b from rfl]
    by_cases h0 : Mt dE w b
    · rw [if_pos h0, if_pos h0, Nat.add_comm]; rfl
    · rw [if_neg h0, if_neg h0, Nat.add_comm]; rfl
  · intro k g hg
    have hk : k.val < 16 := lt_of_lt_of_eq k.isLt hd
    dsimp only
    split
    · rename_i h
      have h := of_decide_eq_true h
      rw [show max 1 (min k.val ((i 0).val + 1)) = k.val by omega] at hg
      rw [show max 1 (min (k.val + 1) ((i 0).val + 1)) = k.val + 1 by omega, ← Nat.add_assoc, cnt_succ, hv]
      have hle := cnt_le_add dE w b k.val
      show (g + _).toNat + _ = _
      rw [BitVec.toNat_add]
      split <;> simp <;> omega
    · rename_i h
      have h : ¬(0 < k.val ∧ k.val ≤ (i 0).val) := fun h' => h (decide_eq_true h')
      rw [hg]; congr 2; omega

/-- Scattering the worker's edges of sixteen lanes, each to the place its number gives, extends the list under
    construction by them. -/
theorem store_step {F : FTy → Type} [FloatOps F] {d n : Fin 1 → ℕ} (hd : d 0 = 16) (buf : Vec F ⟨1, n⟩ .i32)
    (offs : IVec ⟨1, d⟩ 32) (v : Vec F ⟨1, d⟩ .i32) (mask : IVec ⟨1, d⟩ 1)
    (h : ∀ a x, ((![offs] : Fin 1 → IVec ⟨1, d⟩ 32) a x).toNat < (⟨1, n⟩ : Shape).size a)
    (hm : ∀ l : Fin (d 0), mask (Shape.ofLane l) = 1 ↔ Mt dE w (b + l.val))
    (ho : ∀ l : Fin (d 0), Mt dE w (b + l.val) → (offs (Shape.ofLane l)).toNat + 4096 * f = cnt dE w (b + l.val))
    (hv : ∀ l : Fin (d 0), Mt dE w (b + l.val) → BitVec.toNat (v (Shape.ofLane l)) = pk dE sE w (b + l.val))
    (hbuf : ∀ q : (⟨1, n⟩ : Shape).Idx, (q 0).val + 4096 * f < cnt dE w b → BitVec.toNat (buf q) = lst dE sE w ((q 0).val + 4096 * f))
    (q : (⟨1, n⟩ : Shape).Idx) (hq : (q 0).val + 4096 * f < cnt dE w (b + 16)) :
    BitVec.toNat (storeIdx (F := F) (e := .i32) buf ![offs] v mask false h q) = lst dE sE w ((q 0).val + 4096 * f) := by
  unfold storeIdx
  refine foldl_lanes (d 0) (fun n (g : Vec F ⟨1, _⟩ .i32) => ∀ q, (q 0).val + 4096 * f < cnt dE w (b + n) →
    BitVec.toNat (g q) = lst dE sE w ((q 0).val + 4096 * f)) _ buf hbuf ?_ q (by rw [hd]; exact hq)
  intro k g hg q hq
  rw [← Nat.add_assoc, cnt_succ] at hq
  dsimp only
  by_cases hk : mask (Shape.ofLane k) = 1
  · have hM := (hm k).1 hk
    rw [if_pos hk]
    by_cases hj : ∀ a, (q a).val = (idxAt ![offs] h (Shape.ofLane k) a).val
    · rw [if_pos hj, if_neg Bool.false_ne_true]
      have h0 : (q 0).val = (offs (Shape.ofLane k)).toNat := hj 0
      rw [hv k hM, h0, ho k hM, lst_cnt dE sE w hM]
    · rw [if_neg hj]
      refine hg q ?_
      rw [if_pos hM] at hq
      rcases Nat.lt_or_ge ((q 0).val + 4096 * f) (cnt dE w (b + k.val)) with h2 | h2
      · exact h2
      · refine absurd ?_ hj
        intro a
        rw [Subsingleton.elim a 0]
        show (q 0).val = (offs (Shape.ofLane k)).toNat
        have := ho k hM
        omega
  · rw [if_neg hk]
    rw [if_neg (fun h' => hk ((hm k).2 h')), Nat.add_zero] at hq
    exact hg q hq

end

end Cert.Proof.Lists

end
-- ==== Proof.Geometry.lean ====
/-
  Which element of a whole buffer a rectangle's read or write meets, coordinate by coordinate; and the same for a
  one-row slice of a rank-two buffer with its row axis squeezed away.
-/
module

public import proofs.«01_k».proof.Defs
public import Idealize.ShloMosaic.Lib.ViewIndex

@[expose] public section

noncomputable section

namespace Cert.Proof.Geometry

open Idealize.ShloMosaic

variable {Val : EltTy → Type} {sig : RefSig} {κ : Kind} (b : Ref sig κ)

section

variable {off sz : Fin b.ty.shape.rank → ℕ} (inb : ∀ a, off a + sz a ≤ b.ty.shape.size a)

/-- A rectangle of a whole buffer holds, at `x`, the buffer's element at the offsets plus `x`. -/
theorem emb_eq (x : (Rect.unit (s := b.ty.shape) off sz inb).shape.Idx) (j : b.ty.shape.Idx)
    (h : ∀ a, (j a).val = off a + (x a).val) :
    ((Memref.whole b).access (Rect.unit (s := b.ty.shape) off sz inb)).emb x = j := by
  funext a
  apply Fin.ext
  rw [h a]
  show off a + 1 * (x a).val = _
  omega

/-- What a rectangle of a whole buffer reads. -/
theorem read_eq (f : b.ty.Contents Val) (x : (Rect.unit (s := b.ty.shape) off sz inb).shape.Idx) (j : b.ty.shape.Idx)
    (h : ∀ a, (j a).val = off a + (x a).val) :
    ((Memref.whole b).access (Rect.unit (s := b.ty.shape) off sz inb)).read Val f x = f j := by
  rw [← emb_eq b inb x j h]; exact (View.read_apply _ _).trans (cast_eq _ _)

/-- What a buffer holds where a rectangle of it was written. -/
theorem write_hit (f : b.ty.Contents Val) (w : (Rect.unit (s := b.ty.shape) off sz inb).shape.Idx → Val b.ty.elt)
    (x : (Rect.unit (s := b.ty.shape) off sz inb).shape.Idx) (j : b.ty.shape.Idx) (h : ∀ a, (j a).val = off a + (x a).val) :
    ((Memref.whole b).access (Rect.unit (s := b.ty.shape) off sz inb)).write Val f w Finset.univ j = w x := by
  rw [← emb_eq b inb x j h]; exact (View.write_emb_of_mem (v := (Memref.whole b).access (Rect.unit (s := b.ty.shape) off sz inb)) f w (Finset.mem_univ x)).trans rfl

/-- What a buffer holds outside the rectangle written. -/
theorem write_miss (f : b.ty.Contents Val) (w : (Rect.unit (s := b.ty.shape) off sz inb).shape.Idx → Val b.ty.elt)
    (j : b.ty.shape.Idx) (a : Fin b.ty.shape.rank) (h : (j a).val < off a ∨ off a + sz a ≤ (j a).val) :
    ((Memref.whole b).access (Rect.unit (s := b.ty.shape) off sz inb)).write Val f w Finset.univ j = f j := by
  apply View.write_of_not_mem
  intro hm
  obtain ⟨x, -, hx⟩ := Finset.mem_map.mp hm
  have h2 : (j a).val = off a + 1 * (x a).val := by rw [← hx]; rfl
  have h3 : (x a).val < sz a := (x a).isLt
  omega

end

section

variable {sp : Space} {s : Shape} {e : EltTy} (M : Memref sig κ sp s e) {off sz : Fin s.rank → ℕ} (inb : ∀ a, off a + sz a ≤ s.size a)

/-- A rectangle's element, by its coordinates. -/
theorem remb_eq (x : (Rect.unit (s := s) off sz inb).shape.Idx) (j : s.Idx) (h : ∀ a, (j a).val = off a + (x a).val) :
    (Rect.unit (s := s) off sz inb).emb x = j := by
  funext a
  apply Fin.ext
  rw [h a]
  show off a + 1 * (x a).val = _
  omega

/-- What a rectangle of a memref reads is what the memref reads there. -/
theorem vread_eq (f : M.view.ty.Contents Val) (x : (Rect.unit (s := s) off sz inb).shape.Idx) (j : s.Idx)
    (h : ∀ a, (j a).val = off a + (x a).val) :
    (M.access (Rect.unit (s := s) off sz inb)).read Val f x = M.view.read Val f j := by
  rw [← remb_eq inb x j h]; rfl

/-- What a memref reads where a rectangle of it was written. -/
theorem vwrite_hit (f : M.view.ty.Contents Val) (w : (Rect.unit (s := s) off sz inb).shape.Idx → Val e)
    (x : (Rect.unit (s := s) off sz inb).shape.Idx) (j : s.Idx) (h : ∀ a, (j a).val = off a + (x a).val) :
    M.view.read Val ((M.access (Rect.unit (s := s) off sz inb)).write Val f w Finset.univ) j = w x := by
  rw [← remb_eq inb x j h]; exact View.read_slice_write_emb (v := M.view) (Rect.unit (s := s) off sz inb) f w (Finset.mem_univ x)

/-- What a memref reads outside the rectangle written. -/
theorem vwrite_miss (f : M.view.ty.Contents Val) (w : (Rect.unit (s := s) off sz inb).shape.Idx → Val e)
    (j : s.Idx) (a : Fin s.rank) (h : (j a).val < off a ∨ off a + sz a ≤ (j a).val) :
    M.view.read Val ((M.access (Rect.unit (s := s) off sz inb)).write Val f w Finset.univ) j = M.view.read Val f j := by
  refine View.read_slice_write_of_not_mem (v := M.view) (Rect.unit (s := s) off sz inb) f w Finset.univ ?_
  intro hm
  obtain ⟨x, -, hx⟩ := Finset.mem_map.mp hm
  have h2 : (j a).val = off a + 1 * (x a).val := by rw [← hx]; rfl
  have h3 : (x a).val < sz a := (x a).isLt
  omega

end

/-- The row axis of a one-row shape squeezed away: the index that stays. -/
theorem squeeze_idx {n : ℕ} (h : (⟨2, ![1, n]⟩ : Shape).numel = (⟨1, ![n]⟩ : Shape).numel) (x : (⟨1, ![n]⟩ : Shape).Idx) (y : (⟨2, ![1, n]⟩ : Shape).Idx)
    (hy : (y 1).val = (x 0).val) : Shape.reshapeEquiv h.symm x = y := by
  apply Shape.reshapeEquiv_eq_of_rowMajor
  rw [Shape.rowMajor_val_one, Shape.rowMajor_val_two, hy]
  have : (y 0).val < 1 := (y 0).isLt
  have : (y 0).val = 0 := by omega
  rw [this]; simp

end Cert.Proof.Geometry

end
-- ==== Proof.Words.lean ====
/-
  What the list-building kernel's integer words are at a step: which lanes are the worker's, where their entries go,
  what they hold, how many there are; and the count it leaves.
-/
module

public import proofs.«01_k».proof.Defs
public import proofs.«01_k».proof.Proof.Gen.KernelIdeal
public import proofs.«01_k».proof.Proof.Gen.KernelIdeal.Skeleton
public import proofs.«01_k».proof.Proof.Lists

@[expose] public section

noncomputable section

namespace Cert.Proof.Words

open Cert.KernelIdeal Cert.KernelIdeal.Gen Cert.Proof.Lists
open Idealize.ShloMosaic

variable {F : FTy → Type} [FloatOps F] [Named F]

/-- Signed division of a non-negative word by a positive one is division. -/
theorem divsi_nat (u : ArithUnit) (x k : BitVec 32) (hx : x.toNat < 2147483648) (hk : 0 < k.toNat) (hk2 : k.toNat < 2147483648) :
    (IntOp.divsi u x k).toNat = x.toNat / k.toNat := by
  have m1 : x.msb = false := by rw [BitVec.msb_eq_false_iff_two_mul_lt]; omega
  have m2 : k.msb = false := by rw [BitVec.msb_eq_false_iff_two_mul_lt]; omega
  unfold IntOp.divsi
  rw [if_neg, BitVec.sdiv_eq, m1, m2]
  · exact BitVec.toNat_udiv
  · unfold IntOp.SDivCorner
    rintro (h | ⟨h, -⟩)
    · rw [h] at hk; simp at hk
    · rw [h] at m1; revert m1; decide

/-- The signed remainder of a non-negative word by a positive one is the remainder. -/
theorem remsi_nat (u : ArithUnit) (x k : BitVec 32) (hx : x.toNat < 2147483648) (hk : 0 < k.toNat) (hk2 : k.toNat < 2147483648) :
    (IntOp.remsi u x k).toNat = x.toNat % k.toNat := by
  have m1 : x.msb = false := by rw [BitVec.msb_eq_false_iff_two_mul_lt]; omega
  have m2 : k.msb = false := by rw [BitVec.msb_eq_false_iff_two_mul_lt]; omega
  unfold IntOp.remsi
  rw [if_neg, BitVec.srem_eq, m1, m2]
  · exact BitVec.toNat_umod
  · unfold IntOp.SDivCorner
    rintro (h | ⟨h, -⟩)
    · rw [h] at hk; simp at hk
    · rw [h] at m1; revert m1; decide

/-- The worker's number of a tile: twice its subcore plus its core. -/
def wk (i : grid0.Coords) : ℕ := 2 * (i 1).val + (i 0).val

/-- There are thirty-two workers. -/
theorem wk_lt (i : grid0.Coords) : wk i < 32 := by
  have h0 : (i 0).val < 2 := (i 0).isLt
  have h1 : (i 1).val < 16 := (i 1).isLt
  unfold wk; omega

/-- The word the kernel computes for the worker's number. -/
theorem wk_word (i : grid0.Coords) :
    Scalar.addi (Scalar.muli (BitVec.ofNat 32 (i 1).val) 2#32) (BitVec.ofNat 32 (i 0).val) = BitVec.ofNat 32 (wk i) := by
  have h0 : (i 0).val < 2 := (i 0).isLt
  have h1 : (i 1).val < 16 := (i 1).isLt
  apply BitVec.eq_of_toNat_eq
  show (BitVec.ofNat 32 (i 1).val * 2#32 + BitVec.ofNat 32 (i 0).val).toNat = _
  unfold wk
  simp only [BitVec.toNat_add, BitVec.toNat_mul, BitVec.toNat_ofNat]
  omega

/-- The word of the worker's first node. -/
theorem lo_word (i : grid0.Coords) : Scalar.muli (BitVec.ofNat 32 (wk i)) 313#32 = BitVec.ofNat 32 (313 * wk i) := by
  have := wk_lt i
  apply BitVec.eq_of_toNat_eq
  show (BitVec.ofNat 32 (wk i) * 313#32).toNat = _
  simp only [BitVec.toNat_mul, BitVec.toNat_ofNat]
  omega

/-- A lane's mask is set just when its destination is one of the worker's nodes. -/
theorem mask_iff (i : grid0.Coords) (v : Vec F S16 .i32) (x : S16.Idx) (h : BitVec.toNat (v x) < 10000) :
    k0_pay1 i v x = 1 ↔ 313 * wk i ≤ BitVec.toNat (v x) ∧ BitVec.toNat (v x) < 313 * wk i + 313 := by
  have hw := wk_lt i
  unfold k0_pay1
  simp only [wk_word, lo_word]
  show IntOp.andi (IntOp.cmpi .sge (v x) (BitVec.ofNat 32 (313 * wk i))) (IntOp.cmpi .slt (v x) (BitVec.ofNat 32 (313 * wk i) + 313#32)) = 1#1 ↔ _
  generalize hn : (v x : BitVec 32) = y at h ⊢
  have e1 : (BitVec.ofNat 32 (313 * wk i)).toNat = 313 * wk i := by rw [BitVec.toNat_ofNat]; omega
  have e2 : (BitVec.ofNat 32 (313 * wk i) + 313#32).toNat = 313 * wk i + 313 := by rw [BitVec.toNat_add, e1, BitVec.toNat_ofNat]; omega
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, e1, e2]
  omega

/-- The mask as a word: one or zero. -/
theorem maskw (i : grid0.Coords) (v : Vec F S16 .i32) (x : S16.Idx) (p : Prop) [Decidable p] (h : k0_pay1 i v x = 1 ↔ p) :
    k0_pay2 i v x = if p then 1#32 else 0#32 := by
  show ((k0_pay1 i v x : BitVec 1).setWidth 32) = _
  generalize (k0_pay1 i v x : BitVec 1) = y at h ⊢
  by_cases hp : p
  · rw [if_pos hp, h.2 hp]; decide
  · rw [if_neg hp]
    have hy : y ≠ 1 := fun e => hp (h.1 e)
    have : y = 0#1 := by
      rcases BitVec.eq_zero_or_eq_one y with h0 | h1
      · exact h0
      · exact absurd h1 hy
    rw [this]; decide

section Step

variable (dE sE : ℕ → ℕ) (hd : ∀ e, dE e < 10000) (hs : ∀ e, sE e < 10000) (i : grid0.Coords) (b : ℕ) (hb : b + 16 ≤ 320000)
  (vd vs : Vec F S16 .i32) (hvd : ∀ x : S16.Idx, BitVec.toNat (vd x) = dE (b + (x 0).val))
  (hvs : ∀ x : S16.Idx, BitVec.toNat (vs x) = sE (b + (x 0).val))

include hd hb hvd

/-- A lane's mask says whether its edge is the worker's. -/
theorem mask_mt (x : S16.Idx) : k0_pay1 i vd x = 1 ↔ Mt dE (wk i) (b + (x 0).val) := by
  have hx : (x 0).val < 16 := (x 0).isLt
  rw [mask_iff i vd x (by rw [hvd]; exact hd _), hvd]
  unfold Mt
  constructor
  · rintro ⟨h1, h2⟩; exact ⟨by omega, h1, h2⟩
  · rintro ⟨-, h1, h2⟩; exact ⟨h1, h2⟩

/-- The running sum of the masks counts the worker's edges up to a lane. -/
theorem sum_cnt (x : S16.Idx) :
    (scan .sum (k0_pay2 i vd) x).toNat + cnt dE (wk i) b = cnt dE (wk i) (b + (x 0).val + 1) :=
  scan_cnt dE (wk i) b rfl (k0_pay2 i vd) (fun l => maskw i vd _ _ (mask_mt dE hd i b hb vd hvd _)) x

/-- How many edges of the worker's the sixteen lanes held. -/
theorem total_cnt : BitVec.toNat (extractAt ![15] (k0_pay5 i vd) inpos_S16_p15) + cnt dE (wk i) b = cnt dE (wk i) (b + 16) := by
  have e : extractAt ![15] (k0_pay5 i vd) inpos_S16_p15 = scan .sum (k0_pay2 i vd) (Shape.ofLane (d := ![16]) ⟨15, by decide⟩) := by
    unfold extractAt k0_pay5
    refine congrArg (scan .sum (k0_pay2 i vd)) (funext fun a => ?_)
    fin_cases a; rfl
  rw [e]
  exact sum_cnt dE hd i b hb vd hvd _

/-- Where a lane's entry goes: past the entries so far and the lanes' before it. -/
theorem offs_cnt (c : BitVec 32) (f : ℕ) (hc : c.toNat + 4096 * f = cnt dE (wk i) b) (hc2 : c.toNat < 8112) (x : S16.Idx) :
    BitVec.toNat (k0_pay3 i c vd x) + 4096 * f = cnt dE (wk i) (b + (x 0).val) := by
  have hx : (x 0).val < 16 := (x 0).isLt
  have hsum := sum_cnt dE hd i b hb vd hvd x
  have hle := cnt_le_add dE (wk i) b (x 0).val
  have hmono := cnt_mono dE (wk i) (show b ≤ b + (x 0).val by omega)
  rw [cnt_succ] at hsum
  show ((c + scan .sum (k0_pay2 i vd) x) - k0_pay2 i vd x : BitVec 32).toNat + _ = _
  rw [maskw i vd x _ (mask_mt dE hd i b hb vd hvd x), BitVec.toNat_sub, BitVec.toNat_add]
  split at hsum
  · rename_i hp
    rw [if_pos hp]
    simp only [BitVec.toNat_ofNat]
    omega
  · rename_i hp
    rw [if_neg hp]
    simp only [BitVec.toNat_ofNat]
    omega

include hs hvs in
/-- What a lane's entry is. -/
theorem packed (x : S16.Idx) (hm : Mt dE (wk i) (b + (x 0).val)) :
    BitVec.toNat (k0_pay4 i vd vs x) = pk dE sE (wk i) (b + (x 0).val) := by
  have hw := wk_lt i
  unfold k0_pay4
  simp only [wk_word, lo_word]
  show (((vd x : BitVec 32) - BitVec.ofNat 32 (313 * wk i)) * 16384#32 + (vs x : BitVec 32)).toNat = _
  have h1 := hvd x
  have h2 := hvs x
  obtain ⟨-, h3, h4⟩ := hm
  have h5 := hd (b + (x 0).val)
  have h6 := hs (b + (x 0).val)
  unfold pk
  simp only [BitVec.toNat_add, BitVec.toNat_mul, BitVec.toNat_sub, BitVec.toNat_ofNat]
  rw [show (vd x : BitVec 32).toNat = _ from h1, show (vs x : BitVec 32).toNat = _ from h2]
  omega

end Step

/-- The count the kernel leaves: the flushed entries and the rest, rounded up to a multiple of 128. -/
theorem count_word (c f : BitVec 32) (hc : c.toNat < 4096) (hf : f.toNat < 79) (x : S16.Idx) :
    BitVec.toNat (k0_pay7 c f x) = 4096 * f.toNat + (c.toNat + 127) / 128 * 128 := by
  have hy : (Scalar.addi c 127#32).toNat = c.toNat + 127 := by
    show (c + 127#32).toNat = _
    rw [BitVec.toNat_add, BitVec.toNat_ofNat]; omega
  unfold k0_pay7
  generalize Scalar.addi c 127#32 = y at hy ⊢
  have hpos : Scalar.cmpi .sgt y 0#32 = 1#1 := by
    show BitVec.ofBool (BitVec.slt 0#32 y) = 1#1
    rw [BitVec.slt_eq_decide, BitVec.toInt_eq_toNat_cond, BitVec.toInt_eq_toNat_cond, hy]
    simp only [BitVec.toNat_ofNat]
    rw [decide_eq_true]; · rfl
    omega
  have hneg : Scalar.cmpi .slt y 0#32 = 0#1 := by
    show BitVec.ofBool (BitVec.slt y 0#32) = 0#1
    rw [BitVec.slt_eq_decide, BitVec.toInt_eq_toNat_cond, BitVec.toInt_eq_toNat_cond, hy]
    simp only [BitVec.toNat_ofNat]
    rw [decide_eq_false]; · rfl
    omega
  have hdiv : (Scalar.divsi y 128#32).toNat = (c.toNat + 127) / 128 := by
    rw [← hy]; exact divsi_nat .scalar y 128#32 (by omega) (by decide) (by decide)
  rw [hpos, hneg]
  have h43 : Scalar.cmpi .ne (Scalar.subi (Scalar.extui 1#1) (Scalar.extui 0#1) : BitVec 32)
      (Scalar.subi (Scalar.extui (Scalar.cmpi .sgt 128#32 0#32)) (Scalar.extui (Scalar.cmpi .slt 128#32 0#32))) = 0#1 := by decide
  rw [h43]
  have h46 : ∀ z : BitVec 1, Scalar.andi 0#1 z = 0#1 := by decide
  rw [h46]
  show (0#32 + (f * 4096#32 + Scalar.divsi y 128#32 * 128#32)).toNat = _
  simp only [BitVec.toNat_add, BitVec.toNat_mul, BitVec.toNat_ofNat, hdiv]
  omega

end Cert.Proof.Words

end
-- ==== Proof.Setup.lean ====
/-
  The program as the launch theorem sees it, and the names the two kernels' proofs share: the buffers the tasks
  address, the coordinates of a task, and the edge arrays read as functions on natural numbers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.KernelIdeal
public import proofs.«01_k».proof.Proof.Gen.KernelIdeal.Skeleton
public import proofs.«01_k».proof.Proof.Lists
public import proofs.«01_k».proof.Proof.Geometry
public import proofs.«01_k».proof.Proof.Words

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev D [FloatOps F] [Named F] : Defs nD τ sig (Elt F) (ΛP (F := F)) := Pipeline.defs pcfgs defs₀
abbrev K [FloatOps F] [Named F] : SparseCore.Cfg τ sig (ΛP (F := F)) 10 := sc (F := F)
abbrev 𝒱₀ : Variants := Variants.none
abbrev 𝒱 : Variants := 𝒱₀.lift
abbrev v₀ : 𝒱.V := Sum.inl none

/-- The handshakes' ledger and the transfers' counters. -/
abbrev UH : Type := URounds (GSem nD τ sig) ℕ
abbrev UU : Type := UH × Counters

/-- The assertions' resource algebra. -/
abbrev RR (F : FTy → Type) : Type _ := MT nD τ sig (HIx 10) (Elt F) ℕ UU ℕ

abbrev EH : Emb UH (RR F) := embL

/-! ## The buffers the tasks address -/

abbrev srcM : Memref sig .scVector .hbm S320000 .i32 := Memref.whole main_v1_scv
abbrev dstM : Memref sig .scVector .hbm S320000 .i32 := Memref.whole main_v3_scv
abbrev lstM : Memref sig .scVector .hbm S32x323584 .i32 := Memref.whole main_v4_0_scv
abbrev cntM : Memref sig .scVector .hbm S32x16 .i32 := Memref.whole main_v4_1_scv
abbrev sbM : Memref sig .scVector .vmem S4000 .i32 := Memref.whole cc0_scratch0
abbrev dbM : Memref sig .scVector .vmem S4000 .i32 := Memref.whole cc0_scratch1
abbrev pkM : Memref sig .scVector .vmem S8192 .i32 := Memref.whole cc0_scratch2
abbrev cbM : Memref sig .scVector .vmem S16 .i32 := Memref.whole cc0_scratch3

/-- What one aggregating call addresses beside the lists and the counts: its features, its output, its scratch buffers and its semaphores. -/
structure Bufs where
  xM : Memref sig .scVector .hbm S10000x128 .f32
  hx : xM.IsWhole
  outM : Memref sig .scVector .hbm S1280000 .f32
  ho : outM.IsWhole
  agM : Memref sig .scVector .vmem S40192 .f32
  ha : agM.IsWhole
  pcM : Memref sig .scVector .vmem S2048 .i32
  hp : pcM.IsWhole
  siM : Memref sig .scVector .vmem S128 .i32
  hs : siM.IsWhole
  rwM : Memref sig .scVector .vmem S128x128 .f32
  hr : rwM.IsWhole
  tbM : Memref sig .scVector .vmem S16 .i32
  ht : tbM.IsWhole
  s5 : DmaSems sig S_
  p0 : DmaSems sig S_
  p1 : DmaSems sig S_
  p2 : DmaSems sig S_
  p3 : DmaSems sig S_
  p4 : DmaSems sig S_
  credit : ∀ h : S10000x128.Gathers 0 S128x128, ∑ j, ((rwM).slice (S128x128.rowRect h.axis' j) (S128x128.stride_rowRect h.axis' j)).view.dmaCredit
    = (rwM).view.dmaCredit

/-- What a view of a buffer's contents reads, as a function of the view's indices. -/
abbrev rd {sp : Space} {s : Shape} {e : EltTy} (M : Memref sig .scVector sp s e) (f : M.view.ty.Contents (Elt F)) : s.Idx → Elt F e := M.view.read (Elt F) f

/-! ## A task's place -/

abbrev cV (L : grid0.Coords) : Fin τ.nSC := (L 0).castLE hcore0
abbrev jV (L : grid0.Coords) : Fin τ.nSub := (L 1).castLE hsub0
abbrev cV1 (L : grid1.Coords) : Fin τ.nSC := (L 0).castLE hcore1
abbrev jV1 (L : grid1.Coords) : Fin τ.nSub := (L 1).castLE hsub1

set_option maxRecDepth 65536 in
/-- The launch's side conditions. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The index `n` of a rank-one shape. -/
abbrev ix {N : Fin 1 → ℕ} (n : ℕ) (h : n < N 0) : (⟨1, N⟩ : Shape).Idx := Shape.ofLane ⟨n, h⟩

/-- An index's number. -/
theorem ix_zero {N : Fin 1 → ℕ} (n : ℕ) (h : n < N 0) : ((ix (N := N) n h) 0).val = n := rfl

/-- An index is the one of its number. -/
theorem ix_eq {N : Fin 1 → ℕ} (j : (⟨1, N⟩ : Shape).Idx) (n : ℕ) (h : n < N 0) (e : (j 0).val = n) : j = ix n h := by
  funext a; rw [Subsingleton.elim a 0]; exact Fin.ext e

/-! ## The edge arrays as functions on natural numbers -/

/-- Word `e` of an edge array, read unsigned. -/
def wd (A : S320000.Idx → BitVec 32) (e : ℕ) : ℕ := if h : e < 320000 then (A (Shape.ofLane ⟨e, h⟩)).toNat else 0

/-- An edge array's word by its number. -/
theorem wd_eq (A : S320000.Idx → BitVec 32) (j : S320000.Idx) (e : ℕ) (h : (j 0).val = e) : (A j).toNat = wd A e := by
  subst h
  unfold wd
  rw [dif_pos (show (j 0).val < 320000 from (j 0).isLt)]
  exact congrArg (fun t => (A t).toNat) (funext fun a => by fin_cases a; rfl)

/-- The words are node numbers. -/
theorem wd_lt (A : S320000.Idx → BitVec 32) (h : ∀ j, (A j).toNat < 10000) (e : ℕ) : wd A e < 10000 := by
  unfold wd
  split
  · exact h _
  · decide

end Cert.Proof.Setup

end
-- ==== Proof.Access.lean ====
/-
  What a box of each of the tasks' scratch buffers reads, and what a store through it leaves at each element.
-/
module

public import proofs.«01_k».proof.Proof.Setup

@[expose] public section

noncomputable section

namespace Cert.Proof.Access

open Cert.KernelIdeal Cert.KernelIdeal.Gen Cert.Proof.Setup Cert.Proof.Geometry

open Idealize.ShloMosaic

variable {F : FTy → Type} [FloatOps F] [Named F]

/-- A read of the source words of a block. -/
theorem rd_sb {off sz : Fin 1 → ℕ} (inb : ∀ a, off a + sz a ≤ S4000.size a) (f : S4000.Idx → BitVec 32)
    (x : (⟨1, sz⟩ : Shape).Idx) (j : S4000.Idx) (h : (j 0).val = off 0 + (x 0).val) :
    (((sbM).access (Rect.unit (s := S4000) off sz inb)).read (Elt F) f x : BitVec 32) = f j :=
  read_eq (Val := Elt F) cc0_scratch0 inb f x j (fun a => match a with | ⟨0, _⟩ => h)

/-- A read of the destination words of a block. -/
theorem rd_db {off sz : Fin 1 → ℕ} (inb : ∀ a, off a + sz a ≤ S4000.size a) (f : S4000.Idx → BitVec 32)
    (x : (⟨1, sz⟩ : Shape).Idx) (j : S4000.Idx) (h : (j 0).val = off 0 + (x 0).val) :
    (((dbM).access (Rect.unit (s := S4000) off sz inb)).read (Elt F) f x : BitVec 32) = f j :=
  read_eq (Val := Elt F) cc0_scratch1 inb f x j (fun a => match a with | ⟨0, _⟩ => h)

/-- A read of the pack buffer. -/
theorem rd_pk {off sz : Fin 1 → ℕ} (inb : ∀ a, off a + sz a ≤ S8192.size a) (f : S8192.Idx → BitVec 32)
    (x : (⟨1, sz⟩ : Shape).Idx) (j : S8192.Idx) (h : (j 0).val = off 0 + (x 0).val) :
    (((pkM).access (Rect.unit (s := S8192) off sz inb)).read (Elt F) f x : BitVec 32) = f j :=
  read_eq (Val := Elt F) cc0_scratch2 inb f x j (fun a => match a with | ⟨0, _⟩ => h)

/-- A store to the pack buffer, inside the box. -/
theorem wr_pk {off sz : Fin 1 → ℕ} (inb : ∀ a, off a + sz a ≤ S8192.size a) (f : S8192.Idx → BitVec 32)
    (w : (⟨1, sz⟩ : Shape).Idx → BitVec 32) (x : (⟨1, sz⟩ : Shape).Idx) (j : S8192.Idx) (h : (j 0).val = off 0 + (x 0).val) :
    ((((pkM).access (Rect.unit (s := S8192) off sz inb)).write (Elt F) f w Finset.univ : S8192.Idx → BitVec 32) j) = w x :=
  write_hit (Val := Elt F) cc0_scratch2 inb f w x j (fun a => match a with | ⟨0, _⟩ => h)

/-- A store to the pack buffer, outside the box. -/
theorem wr_pk_out {off sz : Fin 1 → ℕ} (inb : ∀ a, off a + sz a ≤ S8192.size a) (f : S8192.Idx → BitVec 32)
    (w : (⟨1, sz⟩ : Shape).Idx → BitVec 32) (j : S8192.Idx) (h : (j 0).val < off 0 ∨ off 0 + sz 0 ≤ (j 0).val) :
    ((((pkM).access (Rect.unit (s := S8192) off sz inb)).write (Elt F) f w Finset.univ : S8192.Idx → BitVec 32) j) = f j :=
  write_miss (Val := Elt F) cc0_scratch2 inb f w j ⟨0, Nat.one_pos⟩ h

/-- A read of the counts word. -/
theorem rd_cb {off sz : Fin 1 → ℕ} (inb : ∀ a, off a + sz a ≤ S16.size a) (f : S16.Idx → BitVec 32)
    (x : (⟨1, sz⟩ : Shape).Idx) (j : S16.Idx) (h : (j 0).val = off 0 + (x 0).val) :
    (((cbM).access (Rect.unit (s := S16) off sz inb)).read (Elt F) f x : BitVec 32) = f j :=
  read_eq (Val := Elt F) cc0_scratch3 inb f x j (fun a => match a with | ⟨0, _⟩ => h)

/-- A store to the counts word, inside the box. -/
theorem wr_cb {off sz : Fin 1 → ℕ} (inb : ∀ a, off a + sz a ≤ S16.size a) (f : S16.Idx → BitVec 32)
    (w : (⟨1, sz⟩ : Shape).Idx → BitVec 32) (x : (⟨1, sz⟩ : Shape).Idx) (j : S16.Idx) (h : (j 0).val = off 0 + (x 0).val) :
    ((((cbM).access (Rect.unit (s := S16) off sz inb)).write (Elt F) f w Finset.univ : S16.Idx → BitVec 32) j) = w x :=
  write_hit (Val := Elt F) cc0_scratch3 inb f w x j (fun a => match a with | ⟨0, _⟩ => h)

/-- A store to the counts word, outside the box. -/
theorem wr_cb_out {off sz : Fin 1 → ℕ} (inb : ∀ a, off a + sz a ≤ S16.size a) (f : S16.Idx → BitVec 32)
    (w : (⟨1, sz⟩ : Shape).Idx → BitVec 32) (j : S16.Idx) (h : (j 0).val < off 0 ∨ off 0 + sz 0 ≤ (j 0).val) :
    ((((cbM).access (Rect.unit (s := S16) off sz inb)).write (Elt F) f w Finset.univ : S16.Idx → BitVec 32) j) = f j :=
  write_miss (Val := Elt F) cc0_scratch3 inb f w j ⟨0, Nat.one_pos⟩ h

/-- A read of the accumulators. -/
theorem rd_ag (M : Memref sig .scVector .vmem S40192 .f32) {off sz : Fin 1 → ℕ} (inb : ∀ a, off a + sz a ≤ S40192.size a) (f : M.view.ty.Contents (Elt F))
    (x : (⟨1, sz⟩ : Shape).Idx) (j : S40192.Idx) (h : (j 0).val = off 0 + (x 0).val) :
    (((M).access (Rect.unit (s := S40192) off sz inb)).read (Elt F) f x : F .f32) = rd M f j :=
  vread_eq (Val := Elt F) M inb f x j (fun a => match a with | ⟨0, _⟩ => h)

/-- A store to the accumulators, inside the box. -/
theorem wr_ag (M : Memref sig .scVector .vmem S40192 .f32) {off sz : Fin 1 → ℕ} (inb : ∀ a, off a + sz a ≤ S40192.size a) (f : M.view.ty.Contents (Elt F))
    (w : (⟨1, sz⟩ : Shape).Idx → F .f32) (x : (⟨1, sz⟩ : Shape).Idx) (j : S40192.Idx) (h : (j 0).val = off 0 + (x 0).val) :
    (rd M (((M).access (Rect.unit (s := S40192) off sz inb)).write (Elt F) f w Finset.univ) j : F .f32) = w x :=
  vwrite_hit (Val := Elt F) M inb f w x j (fun a => match a with | ⟨0, _⟩ => h)

/-- A store to the accumulators, outside the box. -/
theorem wr_ag_out (M : Memref sig .scVector .vmem S40192 .f32) {off sz : Fin 1 → ℕ} (inb : ∀ a, off a + sz a ≤ S40192.size a) (f : M.view.ty.Contents (Elt F))
    (w : (⟨1, sz⟩ : Shape).Idx → F .f32) (j : S40192.Idx) (h : (j 0).val < off 0 ∨ off 0 + sz 0 ≤ (j 0).val) :
    (rd M (((M).access (Rect.unit (s := S40192) off sz inb)).write (Elt F) f w Finset.univ) j : F .f32) = rd M f j :=
  vwrite_miss (Val := Elt F) M inb f w j ⟨0, Nat.one_pos⟩ h

/-- A read of the entries of a chunk. -/
theorem rd_pc (M : Memref sig .scVector .vmem S2048 .i32) {off sz : Fin 1 → ℕ} (inb : ∀ a, off a + sz a ≤ S2048.size a) (f : M.view.ty.Contents (Elt F))
    (x : (⟨1, sz⟩ : Shape).Idx) (j : S2048.Idx) (h : (j 0).val = off 0 + (x 0).val) :
    (((M).access (Rect.unit (s := S2048) off sz inb)).read (Elt F) f x : BitVec 32) = rd M f j :=
  vread_eq (Val := Elt F) M inb f x j (fun a => match a with | ⟨0, _⟩ => h)

/-- A read of the gathered rows' numbers. -/
theorem rd_si (M : Memref sig .scVector .vmem S128 .i32) {off sz : Fin 1 → ℕ} (inb : ∀ a, off a + sz a ≤ S128.size a) (f : M.view.ty.Contents (Elt F))
    (x : (⟨1, sz⟩ : Shape).Idx) (j : S128.Idx) (h : (j 0).val = off 0 + (x 0).val) :
    (((M).access (Rect.unit (s := S128) off sz inb)).read (Elt F) f x : BitVec 32) = rd M f j :=
  vread_eq (Val := Elt F) M inb f x j (fun a => match a with | ⟨0, _⟩ => h)

/-- A store to the gathered rows' numbers, inside the box. -/
theorem wr_si (M : Memref sig .scVector .vmem S128 .i32) {off sz : Fin 1 → ℕ} (inb : ∀ a, off a + sz a ≤ S128.size a) (f : M.view.ty.Contents (Elt F))
    (w : (⟨1, sz⟩ : Shape).Idx → BitVec 32) (x : (⟨1, sz⟩ : Shape).Idx) (j : S128.Idx) (h : (j 0).val = off 0 + (x 0).val) :
    (rd M (((M).access (Rect.unit (s := S128) off sz inb)).write (Elt F) f w Finset.univ) j : BitVec 32) = w x :=
  vwrite_hit (Val := Elt F) M inb f w x j (fun a => match a with | ⟨0, _⟩ => h)

/-- A store to the gathered rows' numbers, outside the box. -/
theorem wr_si_out (M : Memref sig .scVector .vmem S128 .i32) {off sz : Fin 1 → ℕ} (inb : ∀ a, off a + sz a ≤ S128.size a) (f : M.view.ty.Contents (Elt F))
    (w : (⟨1, sz⟩ : Shape).Idx → BitVec 32) (j : S128.Idx) (h : (j 0).val < off 0 ∨ off 0 + sz 0 ≤ (j 0).val) :
    (rd M (((M).access (Rect.unit (s := S128) off sz inb)).write (Elt F) f w Finset.univ) j : BitVec 32) = rd M f j :=
  vwrite_miss (Val := Elt F) M inb f w j ⟨0, Nat.one_pos⟩ h

/-- A read of the count row. -/
theorem rd_tb (M : Memref sig .scVector .vmem S16 .i32) {off sz : Fin 1 → ℕ} (inb : ∀ a, off a + sz a ≤ S16.size a) (f : M.view.ty.Contents (Elt F))
    (x : (⟨1, sz⟩ : Shape).Idx) (j : S16.Idx) (h : (j 0).val = off 0 + (x 0).val) :
    (((M).access (Rect.unit (s := S16) off sz inb)).read (Elt F) f x : BitVec 32) = rd M f j :=
  vread_eq (Val := Elt F) M inb f x j (fun a => match a with | ⟨0, _⟩ => h)

/-- A store to the count row, inside the box. -/
theorem wr_tb (M : Memref sig .scVector .vmem S16 .i32) {off sz : Fin 1 → ℕ} (inb : ∀ a, off a + sz a ≤ S16.size a) (f : M.view.ty.Contents (Elt F))
    (w : (⟨1, sz⟩ : Shape).Idx → BitVec 32) (x : (⟨1, sz⟩ : Shape).Idx) (j : S16.Idx) (h : (j 0).val = off 0 + (x 0).val) :
    (rd M (((M).access (Rect.unit (s := S16) off sz inb)).write (Elt F) f w Finset.univ) j : BitVec 32) = w x :=
  vwrite_hit (Val := Elt F) M inb f w x j (fun a => match a with | ⟨0, _⟩ => h)

/-- A store to the count row, outside the box. -/
theorem wr_tb_out (M : Memref sig .scVector .vmem S16 .i32) {off sz : Fin 1 → ℕ} (inb : ∀ a, off a + sz a ≤ S16.size a) (f : M.view.ty.Contents (Elt F))
    (w : (⟨1, sz⟩ : Shape).Idx → BitVec 32) (j : S16.Idx) (h : (j 0).val < off 0 ∨ off 0 + sz 0 ≤ (j 0).val) :
    (rd M (((M).access (Rect.unit (s := S16) off sz inb)).write (Elt F) f w Finset.univ) j : BitVec 32) = rd M f j :=
  vwrite_miss (Val := Elt F) M inb f w j ⟨0, Nat.one_pos⟩ h

end Cert.Proof.Access

end
-- ==== Proof.Fold.lean ====
/-
  The aggregate as a function of how many list entries, and how many column groups of the next one, have been taken in.
-/
module

public import proofs.«01_k».proof.Proof.Access

@[expose] public section

noncomputable section

namespace Cert.Proof.Fold

open Cert.KernelIdeal Cert.KernelIdeal.Gen Cert.Proof.Setup Cert.Proof.Geometry Cert.Proof.Access

open Idealize.ShloMosaic

variable {F : FTy → Type} [FloatOps F] [Named F]

/-- The value the aggregate starts from. -/
def ninf : F .f32 := Named.named κ "neg" 0xFF61B1E6#32

/-- Bucket `b`, column `c` of the aggregate after the first `n` entries of the list `E`, of rows `X`. -/
def agg (E : ℕ → ℕ) (X : ℕ → ℕ → F .f32) : ℕ → ℕ → ℕ → F .f32
  | 0, _, _ => ninf
  | n + 1, b, c => if E n / 16384 = b then FloatOps.maximumf (agg E X n b c) (X (E n % 16384) c) else agg E X n b c

/-- The same after `m` groups of sixteen columns, eight to an entry. -/
def part (E : ℕ → ℕ) (X : ℕ → ℕ → F .f32) (m b c : ℕ) : F .f32 :=
  if c < 16 * (m % 8) then agg E X (m / 8 + 1) b c else agg E X (m / 8) b c

/-- The aggregate's buffer after `m` groups. -/
def Agg (E : ℕ → ℕ) (X : ℕ → ℕ → F .f32) (m : ℕ) (f : S40192.Idx → F .f32) : Prop :=
  ∀ j : S40192.Idx, f j = part E X m ((j 0).val / 128) ((j 0).val % 128)

/-- Before the first group every word is the starting value. -/
theorem part_zero (E : ℕ → ℕ) (X : ℕ → ℕ → F .f32) (b c : ℕ) : part E X 0 b c = ninf := by
  unfold part
  rw [if_neg (by omega)]; rfl

/-- After eight groups the entry is taken in whole. -/
theorem part_eight (E : ℕ → ℕ) (X : ℕ → ℕ → F .f32) (n b c : ℕ) : part E X (8 * n) b c = agg E X n b c := by
  unfold part
  rw [if_neg (by omega), show 8 * n / 8 = n by omega]

/-- Taking in group `g` of entry `n`: what changes are the entry's bucket's columns of the group. -/
theorem part_succ (E : ℕ → ℕ) (X : ℕ → ℕ → F .f32) (n g b c : ℕ) (hg : g < 8) (hc : c < 128) :
    part E X (8 * n + g + 1) b c
      = if E n / 16384 = b ∧ c / 16 = g then FloatOps.maximumf (part E X (8 * n + g) b c) (X (E n % 16384) c)
        else part E X (8 * n + g) b c := by
  have e1 : (8 * n + g) % 8 = g := by omega
  have e2 : (8 * n + g) / 8 = n := by omega
  have hs : agg E X (n + 1) b c = if E n / 16384 = b then FloatOps.maximumf (agg E X n b c) (X (E n % 16384) c) else agg E X n b c := rfl
  have hL : part E X (8 * n + g + 1) b c = if c < 16 * (g + 1) then agg E X (n + 1) b c else agg E X n b c := by
    unfold part
    by_cases h7 : g = 7
    · subst h7
      rw [if_neg (by omega), if_pos (by omega), show (8 * n + 7 + 1) / 8 = n + 1 by omega]
    · rw [show (8 * n + g + 1) % 8 = g + 1 by omega, show (8 * n + g + 1) / 8 = n by omega]
  have hR : part E X (8 * n + g) b c = if c < 16 * g then agg E X (n + 1) b c else agg E X n b c := by
    unfold part
    rw [e1, e2]
  rw [hL, hR]
  by_cases hcg : c / 16 = g
  · rw [if_pos (show c < 16 * (g + 1) by omega), if_neg (show ¬ c < 16 * g by omega), hs]
    simp only [hcg, and_true]
  · rw [if_neg (c := _ ∧ _) (fun h => hcg h.2)]
    by_cases hlt : c < 16 * g
    · rw [if_pos (by omega), if_pos hlt]
    · rw [if_neg (by omega), if_neg hlt]

/-- An index of a rank-two shape. -/
abbrev ix2 {N : Fin 2 → ℕ} (n m : ℕ) (h : n < N 0) (h' : m < N 1) : (⟨2, N⟩ : Shape).Idx :=
  fun | ⟨0, _⟩ => ⟨n, h⟩ | ⟨1, _⟩ => ⟨m, h'⟩

/-- A read of the gathered rows. -/
theorem rd_rw (M : Memref sig .scVector .vmem S128x128 .f32) {off sz : Fin 2 → ℕ} (inb : ∀ a, off a + sz a ≤ S128x128.size a) (f : M.view.ty.Contents (Elt F))
    (x : (⟨2, sz⟩ : Shape).Idx) (j : S128x128.Idx) (h0 : (j 0).val = off 0 + (x 0).val) (h1 : (j 1).val = off 1 + (x 1).val) :
    (((M).access (Rect.unit (s := S128x128) off sz inb)).read (Elt F) f x : F .f32) = rd M f j :=
  vread_eq (Val := Elt F) M inb f x j (fun a => match a with | ⟨0, _⟩ => h0 | ⟨1, _⟩ => h1)

/-- The buffer after the store of one group. -/
theorem group_step (B : Bufs) (E : ℕ → ℕ) (X : ℕ → ℕ → F .f32) (m n g : ℕ) (hm : m = 8 * n + g) (hg : g < 8)
    (f : B.agM.view.ty.Contents (Elt F)) (R : B.rwM.view.ty.Contents (Elt F)) (hf : Agg E X m (rd B.agM f))
    (off : Fin 1 → ℕ) (inb : ∀ a, off a + S16.size a ≤ S40192.size a) (ro : Fin 2 → ℕ) (inb2 : ∀ a, ro a + S1x16.size a ≤ S128x128.size a)
    (r : ℕ) (ho : off 0 = 128 * (E n / 16384) + 16 * g) (hro0 : ro 0 = r) (hro1 : ro 1 = 16 * g)
    (hR : ∀ j : S128x128.Idx, (j 0).val = r → rd B.rwM R j = X (E n % 16384) (j 1).val)
    (pay : Vec F S16 .f32 → Vec F S1x16 .f32 → FVec F S16 .f32)
    (hpay : pay = fun v w => maximumf v (shapeCast S16 w shapeCasts_S1x16_S16)) :
    Agg E X (m + 1) (rd B.agM (((B.agM).access (Rect.unit (s := S40192) off S16.size inb)).write (Elt F) f
      (pay (((B.agM).access (Rect.unit (s := S40192) off S16.size inb)).read (Elt F) f)
        (((B.rwM).access (Rect.unit (s := S128x128) ro S1x16.size inb2)).read (Elt F) R)) Finset.univ)) := by
  subst hpay hm
  intro j
  rw [part_succ E X n g _ _ hg (Nat.mod_lt _ (by decide))]
  by_cases hj : E n / 16384 = (j 0).val / 128 ∧ (j 0).val % 128 / 16 = g
  · rw [if_pos hj]
    obtain ⟨h1, h2⟩ := hj
    have hx : (j 0).val - off 0 < 16 := by omega
    have hjx : (j 0).val = off 0 + ((j 0).val - off 0) := by omega
    refine (wr_ag (F := F) B.agM inb f _ (ix (N := ![16]) ((j 0).val - off 0) hx) j hjx).trans ?_
    show FloatOps.maximumf _ (shapeCast S16 _ shapeCasts_S1x16_S16 _) = _
    have hr : r < 128 := by
      have h := inb2 0
      rw [hro0] at h
      have : r + 1 ≤ 128 := h
      omega
    have hc : (j 0).val % 128 < 128 := Nat.mod_lt _ (by decide)
    refine congrArg₂ FloatOps.maximumf ((rd_ag (F := F) B.agM inb f _ j hjx).trans (hf j)) ?_
    unfold shapeCast
    rw [squeeze_idx (n := 16) (by decide) (ix (N := ![16]) ((j 0).val - off 0) hx) (ix2 (N := ![1, 16]) 0 ((j 0).val - off 0) Nat.one_pos hx) rfl]
    refine (rd_rw (F := F) B.rwM inb2 R _ (ix2 (N := ![128, 128]) r ((j 0).val % 128) hr hc) ?_ ?_).trans (hR _ rfl)
    · rw [hro0]; rfl
    · rw [hro1]; show (j 0).val % 128 = 16 * g + ((j 0).val - off 0); omega
  · rw [if_neg hj]
    have hlt : (j 0).val < 40192 := (j 0).isLt
    refine (wr_ag_out (F := F) B.agM inb f _ j ?_).trans (hf j)
    show (j 0).val < off 0 ∨ off 0 + 16 ≤ (j 0).val
    by_contra hn
    apply hj
    constructor <;> omega

/-- A lane's word of a vector of sixteen. -/
theorem lane_word (v : IVec S16 32) (l : ℕ) (hl : l < 16) (h : S16.Slices ![l] S1) (h' : ∀ a, (![0] : Fin 1 → ℕ) a < S1.size a) :
    extractAt ![0] (extractStridedSlice S1 ![l] v h) h' = v (ix (N := ![16]) l hl) := by
  unfold extractAt extractStridedSlice
  refine congrArg v (funext fun a => ?_)
  fin_cases a; rfl

end Cert.Proof.Fold

end
-- ==== Proof.Copy.lean ====
/-
  A transfer that is started and waited for at once, and the waits a task has recorded so far, kept as "none of a
  handshake's".
-/
module

public import proofs.«01_k».proof.Proof.Setup

@[expose] public section

noncomputable section

namespace Cert.Proof.Copy

open Cert.KernelIdeal Cert.KernelIdeal.Gen Cert.Proof.Setup

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

/-- What a task owes, with the waits it recorded beyond `W` all its own. -/
def OW (thr : Thread nD τ) (O : CellTallies nD τ sig (HIx 10)) (W : Waits sig (HIx 10)) : sProp 𝕄 :=
  iprop(∃ W', ⌜∀ p ∈ W', p ∈ W ∨ p.2 = none⌝ ∗ owes thr O W')

/-- What a thread owes and its waits, as one assertion. -/
theorem OW_intro (thr : Thread nD τ) (O : CellTallies nD τ sig (HIx 10)) (W : Waits sig (HIx 10)) :
    (owes thr O W : sProp 𝕄) ⊢ OW thr O W := by
  unfold OW
  iintro H
  iexists W; isplitr
  · ipureintro; exact fun p hp => .inl hp
  · iexact H

/-- A transfer between two held buffers and its wait: the destination written with what the source reads, all else
    back. -/
theorem wp_copy {α : Type} (thr : Thread nD τ) {sp sp' sw sw' : Space} {s s' t' : Shape} {e ew ew' : EltTy}
    {src : Memref sig thr.2.kind sp s e} {dst : Memref sig thr.2.kind sp' s e} {sem : DmaSem sig}
    {hsrc : src.view.WordExact} {hdst : dst.view.WordExact}
    {hsem : DmaTarget.Typed (nD := nD) sp (.dma sem) (.here dst)}
    {srcw : Memref sig thr.2.kind sw s' ew} {dstw : Memref sig thr.2.kind sw' t' ew'}
    {hsrcw : srcw.view.WordExact} {hdstw : dstw.view.WordExact}
    {k : PUnit → Prog (TpuEff nD τ sig (Elt F) Λ₀ thr.2) α} {Q : α → sProp 𝕄}
    {q : PosShare TreeShare} {Ss : Finset (Idx (src.view.loc thr))} {fs : Buf (Elt F) (src.view.loc thr)}
    {Sd : Finset (Idx (dst.view.loc thr))} {fd : Buf (Elt F) (dst.view.loc thr)}
    {O : CellTallies nD τ sig (HIx 10)} {W : Waits sig (HIx 10)}
    (hw : dstw.view.dmaCredit = dst.view.dmaCredit) (h0 : 0 < dst.view.dmaCredit)
    (hSs : src.view.set ⊆ Ss) (hSd : dst.view.set ⊆ Sd) :
    iprop((src.view.loc thr ↦[Ss]{q} fs) ∗ (dst.view.loc thr ↦[Sd]{fullShare} fd) ∗ semVal (thr, .dma sem) 0
        ∗ OW thr O W ∗ Transfers.MayWaits thr (default : HIx 10) O)
      ⊢ iprop((iprop((src.view.loc thr ↦[Ss]{q} fs)
              ∗ (dst.view.loc thr ↦[Sd]{fullShare} (dst.view.write (Elt F) fd (src.view.read (Elt F) fs) Finset.univ))
              ∗ semVal (thr, .dma sem) 0 ∗ OW thr O W)
            -∗ wp frame (wpE (defs₀ (F := F)) 𝒱₀ thr none) Set.univ (k ⟨⟩) Q)
          -∗ wp frame (wpE (defs₀ (F := F)) 𝒱₀ thr none) Set.univ
            (.op (.enqueueDma src (.here dst) (.dma sem) hsrc hdst hsem) fun _ => .op (.waitDma2 sem srcw dstw hsrcw hdstw) k) Q) := by
  unfold OW
  iintro ⟨Hs, Hd, Hv, ⟨%W', %hW', HO⟩, Hmw⟩ Hk
  ihave Hs2 := (pointsTo_split_subset (q := q) (f := fs) hSs).1 $$ Hs
  icases Hs2 with ⟨Hs, Hr⟩
  iapply (Transfers.wp_dmaLocal countersEmb 𝒱₀ thr none (default : HIx 10) dst.view.dmaCredit rfl h0 hSd) $$ [Hs Hd Hv]
  · isplitl [Hs]; · iexact Hs
    isplitl [Hd]; · iexact Hd
    iexact Hv
  iintro Hfl
  iapply (Transfers.wp_waitLocalO countersEmb 𝒱₀ thr none (default : HIx 10) hw) $$ [Hfl HO Hmw]
  · isplitl [Hfl]; · iexact Hfl
    isplitl [HO]; · iexact HO
    iapply (Transfers.MayWaits.elim (SemLoc.dma sem)) $$ Hmw
  iintro ⟨⟨Hd, Hs⟩, Hv, HO⟩
  ihave Hs2 := (pointsTo_split_subset (q := q) (f := fs) hSs).2 $$ [Hs Hr]
  · isplitl [Hs] <;> iassumption
  iapply Hk
  isplitl [Hs2]; · iexact Hs2
  isplitl [Hd]; · iexact Hd
  isplitl [Hv]; · iexact Hv
  iexists (insert (SemLoc.dma sem, (default : HIx 10)) W'); isplitr
  · ipureintro; intro p hp
    rcases Finset.mem_insert.mp hp with hp | hp
    · exact .inr (hp ▸ rfl)
    · exact hW' p hp
  · iexact HO

/-- A guarded step whose guard holds. -/
theorem wp_dif_pos {α : Type} {c : Prop} [Decidable c] (thr : Thread nD τ) (h : c) {t : c → Prog (TpuEff nD τ sig (Elt F) Λ₀ thr.2) α}
    {e : ¬c → Prog (TpuEff nD τ sig (Elt F) Λ₀ thr.2) α} {Q : α → sProp 𝕄} :
    wp frame (wpE (defs₀ (F := F)) 𝒱₀ thr none) Set.univ (t h) Q
      ⊢ wp frame (wpE (defs₀ (F := F)) 𝒱₀ thr none) Set.univ (dite c t e) Q := by
  rw [dif_pos h]

/-- A guarded step whose guard does not hold. -/
theorem wp_dif_neg {α : Type} {c : Prop} [Decidable c] (thr : Thread nD τ) (h : ¬c) {t : c → Prog (TpuEff nD τ sig (Elt F) Λ₀ thr.2) α}
    {e : ¬c → Prog (TpuEff nD τ sig (Elt F) Λ₀ thr.2) α} {Q : α → sProp 𝕄} :
    wp frame (wpE (defs₀ (F := F)) 𝒱₀ thr none) Set.univ (e h) Q
      ⊢ wp frame (wpE (defs₀ (F := F)) 𝒱₀ thr none) Set.univ (dite c t e) Q := by
  rw [dif_neg h]

end Cert.Proof.Copy

end
-- ==== Proof.Group.lean ====
/-
  One column group of one list entry taken into the aggregate: two loads, a load of the store's target, the store.
-/
module

public import proofs.«01_k».proof.Proof.Fold
public import proofs.«01_k».proof.Proof.Words
public import proofs.«01_k».proof.Proof.Copy

@[expose] public section

noncomputable section

namespace Cert.Proof.Group

open Cert.KernelIdeal Cert.KernelIdeal.Gen Cert.Proof.Setup Cert.Proof.Access Cert.Proof.Fold Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (B : Bufs) (d : Dev nD) (L : grid1.Coords)

/-- The task's thread. -/
abbrev th1 (d : Dev nD) (L : grid1.Coords) : Thread nD τ := V d (cV1 L) (jV1 L)

/-- The aggregate after `m` groups, and the gathered rows. -/
def GS (E : ℕ → ℕ) (X : ℕ → ℕ → F .f32) (R : B.rwM.view.ty.Contents (Elt F)) (m : ℕ) : sProp 𝕄 :=
  iprop((∃ f : B.agM.view.ty.Contents (Elt F), ⌜Agg E X m (rd B.agM f)⌝ ∗ ((B.agM).view.loc (th1 d L) ↦{fullShare} f)) ∗ ((B.rwM).view.loc (th1 d L) ↦{fullShare} R))

/-- The step of one group. -/
theorem wp_group {α : Type} {E : ℕ → ℕ} {X : ℕ → ℕ → F .f32} {R : B.rwM.view.ty.Contents (Elt F)} {m n g r : ℕ} (hm : m = 8 * n + g) (hg : g < 8)
    {off : Fin 1 → ℕ} {inb : ∀ a, off a + S16.size a ≤ S40192.size a} {ro : Fin 2 → ℕ} {inb2 : ∀ a, ro a + S1x16.size a ≤ S128x128.size a}
    (ho : off 0 = 128 * (E n / 16384) + 16 * g) (hro : ro = ![r, 16 * g])
    (hR : ∀ j : S128x128.Idx, (j 0).val = r → rd B.rwM R j = X (E n % 16384) (j 1).val)
    {hl1 : (B.agM).view.LoadsAt (Rect.unit (s := S40192) off S16.size inb).toLoadRect}
    {hl2 : (B.rwM).view.LoadsAt (Rect.unit (s := S128x128) ro S1x16.size inb2).toLoadRect}
    {hl3 : (B.agM).view.LoadsAt (Rect.unit (s := S40192) off S16.size inb).toLoadRect}
    {hx : ((B.agM).access (Rect.unit (s := S40192) off S16.size inb)).Stores Finset.univ}
    {hm' : (Finset.univ : Finset (Rect.unit (s := S40192) off S16.size inb).shape.Idx) = Finset.univ ∨ ∀ a, (Rect.unit (s := S40192) off S16.size inb).stride a = 1}
    {k : PUnit → Prog (TpuEff nD τ sig (Elt F) Λ₀ (th1 d L).2) α} {Q : α → sProp 𝕄} :
    GS (F := F) B d L E X R m
      ⊢ iprop((GS (F := F) B d L E X R (m + 1) -∗ wp frame (wpE (defs₀ (F := F)) 𝒱₀ (th1 d L) none) Set.univ (k ⟨⟩) Q)
          -∗ wp frame (wpE (defs₀ (F := F)) 𝒱₀ (th1 d L) none) Set.univ
            (.op (.load B.agM (Rect.unit (s := S40192) off S16.size inb).toLoadRect hl1) fun (v : Vec F S16 .f32) =>
              .op (.load B.rwM (Rect.unit (s := S128x128) ro S1x16.size inb2).toLoadRect hl2) fun (w : Vec F S1x16 .f32) =>
              .op (.load B.agM (Rect.unit (s := S40192) off S16.size inb).toLoadRect hl3) fun _ =>
              .op (.store B.agM (Rect.unit (s := S40192) off S16.size inb)
                (maximumf v (shapeCast S16 w shapeCasts_S1x16_S16) : FVec F S16 .f32) Finset.univ hx hm') k) Q) := by
  unfold GS
  iintro ⟨⟨%f, %hf, Ha⟩, Hr⟩ Hk
  iapply (wp_load_rect 𝒱₀ (th1 d L) none Set.univ (m := B.agM) (r := Rect.unit (s := S40192) off S16.size inb) (Finset.subset_univ _)) $$ Ha
  iintro Ha
  iapply (wp_load_rect 𝒱₀ (th1 d L) none Set.univ (m := B.rwM) (r := Rect.unit (s := S128x128) ro S1x16.size inb2) (Finset.subset_univ _)) $$ Hr
  iintro Hr
  iapply (wp_load_rect 𝒱₀ (th1 d L) none Set.univ (m := B.agM) (r := Rect.unit (s := S40192) off S16.size inb) (Finset.subset_univ _)) $$ Ha
  iintro Ha
  iapply (wp_store 𝒱₀ (th1 d L) none Set.univ (m := B.agM) (r := Rect.unit (s := S40192) off S16.size inb) (Mk := Finset.univ) (Finset.subset_univ _)) $$ Ha
  iintro Ha
  iapply Hk
  isplitl [Ha]
  · iexists _; isplitr
    swap; · iexact Ha
    ipureintro
    exact group_step B E X m n g hm hg f R hf off inb ro inb2 r ho (congrFun hro 0) (congrFun hro 1) hR
      (fun v w => maximumf v (shapeCast S16 w shapeCasts_S1x16_S16)) rfl
  · iexact Hr

/-- The offset of a group in the aggregate, from its bucket's word. -/
theorem off_word (v : BitVec 32) (b g : ℕ) (hv : v.toNat = 128 * b) (hb : b ≤ 313) (hg : g < 8) :
    (![(v + BitVec.ofNat 32 (16 * g)).toNat] : Fin 1 → ℕ) 0 = 128 * b + 16 * g := by
  show (v + BitVec.ofNat 32 (16 * g)).toNat = _
  rw [BitVec.toNat_add, BitVec.toNat_ofNat]; omega

/-- Every group of a bucket lies in the aggregate. -/
theorem chk_word (v : BitVec 32) (b : ℕ) (hv : v.toNat = 128 * b) (hb : b ≤ 313) (r : Fin 8) (a : Fin 1) :
    (![(v + BitVec.ofNat 32 (16 * r.val)).toNat] : Fin 1 → ℕ) a + S16.size a ≤ S40192.size a := by
  rw [Subsingleton.elim a 0, off_word v b r.val hv hb r.isLt]
  have := r.isLt
  show 128 * b + 16 * r.val + 16 ≤ 40192
  omega

end Cert.Proof.Group

end
-- ==== Proof.Sixteen.lean ====
/-
  One trip of the aggregation's inner loop: sixteen list entries, eight column groups each.
-/
module

public import proofs.«01_k».proof.Proof.Group

@[expose] public section

noncomputable section

namespace Cert.Proof.Sixteen

open Cert.KernelIdeal Cert.KernelIdeal.Gen Cert.Proof.Setup Cert.Proof.Access Cert.Proof.Fold Cert.Proof.Words Cert.Proof.Group

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (B : Bufs) (d : Dev nD) (L : grid1.Coords)

/-- A bucket's word, from its entry. -/
theorem bucket_word (v : Vec F S16 .i32) (x : S16.Idx) (e : ℕ) (h : BitVec.toNat (v x) = e) (he : e ≤ 5128192) :
    BitVec.toNat (k1_pay10 v x) = 128 * (e / 16384) := by
  show (IntOp.divsi .vector (v x) 16384#32 * 128#32).toNat = _
  rw [BitVec.toNat_mul, divsi_nat _ _ _ (by omega) (by decide) (by decide), h]
  show e / 16384 * 128 % 4294967296 = _
  omega

/-- Between the trips: the chunk's entries, and the aggregate after the trips' groups. -/
def I4 (E : ℕ → ℕ) (X : ℕ → ℕ → F .f32) (R : B.rwM.view.ty.Contents (Elt F)) (fp : B.pcM.view.ty.Contents (Elt F)) (m0 n : ℕ) (_ : Unit) : sProp 𝕄 :=
  iprop(((B.pcM).view.loc (th1 d L) ↦{fullShare} fp) ∗ GS (F := F) B d L E X R (m0 + 128 * n))

set_option maxHeartbeats 8000000 in
/-- One trip. -/
theorem sixteen (E : ℕ → ℕ) (X : ℕ → ℕ → F .f32) (R : B.rwM.view.ty.Contents (Elt F)) (fp : B.pcM.view.ty.Contents (Elt F)) (hE : ∀ n, E n ≤ 5128192)
    (v6 : BitVec 32) (t2 : Fin (k1_t2_loop v6).trips) (t3 : Fin k1_t3_loop.trips) (a13 : BitVec 32) (h1 : k1_cond1 v6 t2 t3 = 1#1) (nb : ℕ)
    (hp : ∀ x : S2048.Idx, 128 * t3.val ≤ (x 0).val → (x 0).val < 128 * t3.val + 128 → (rd B.pcM fp x : BitVec 32).toNat = E (nb + ((x 0).val - 128 * t3.val)))
    (hR : ∀ j : S128x128.Idx, rd B.rwM R j = X (E (nb + (j 0).val) % 16384) (j 1).val) (k : Fin k1_t4_loop.trips) (u : Unit) :
    I4 (F := F) B d L E X R fp (8 * nb) k.val u
      ⊢ wp frame (wpE (defs₀ (F := F)) 𝒱₀ (th1 d L) none) Set.univ
        (k1_t4_body L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4 v6 t2 t3 a13 h1 k u)
        (I4 (F := F) B d L E X R fp (8 * nb) (k.val + 1)) := by
  have hk : k.val < 8 := lt_of_lt_of_le k.isLt k1_t4_abs.2.1
  have ht3 : t3.val < 16 := lt_of_lt_of_le t3.isLt k1_t3_abs.2.1
  unfold I4
  iintro ⟨Hp, HG⟩
  unfold k1_t4_body
  rw [k1_part28_eq_skeleton]; unfold k1_part28_skel
  rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton]
  iapply (wp_load_rect 𝒱₀ (th1 d L) none Set.univ (m := B.pcM) (r := Rect.unit (s := S2048) (k1_off5 t3 k) S16.size (k1_off5_inb t3 k)) (Finset.subset_univ _)) $$ Hp
  iintro Hp
  generalize hv : ((B.pcM).access (Rect.unit (s := S2048) (k1_off5 t3 k) S16.size (k1_off5_inb t3 k))).read (Elt F) fp = v
  obtain ⟨N0, hN0⟩ : ∃ N0, N0 = nb + 16 * k.val := ⟨_, rfl⟩
  have hvE : ∀ l (hl : l < 16), BitVec.toNat (v (ix (N := ![16]) l hl)) = E (N0 + l) := by
    intro l hl
    subst hv
    have o5 : k1_off5 t3 k 0 = 128 * t3.val + 16 * k.val := congrFun (k1_off5_eq t3 k) 0
    refine (congrArg BitVec.toNat (rd_pc (F := F) B.pcM (k1_off5_inb t3 k) fp (ix (N := ![16]) l hl)
      (ix (N := ![2048]) (128 * t3.val + 16 * k.val + l) (show _ < 2048 by omega)) (by rw [o5]; rfl))).trans ?_
    refine (hp _ (show 128 * t3.val ≤ 128 * t3.val + 16 * k.val + l by omega) (show 128 * t3.val + 16 * k.val + l < 128 * t3.val + 128 by omega)).trans ?_
    exact congrArg E (show nb + (128 * t3.val + 16 * k.val + l - 128 * t3.val) = N0 + l by omega)
  clear hv
  have hw : ∀ l (hl : l < 16), BitVec.toNat (k1_pay10 v (ix (N := ![16]) l hl)) = 128 * (E (N0 + l) / 16384) := fun l hl =>
    bucket_word v _ _ (hvE l hl) (hE _)
  have hb : ∀ l, E (N0 + l) / 16384 ≤ 313 := fun l => by have := hE (N0 + l); omega
  have hRl : ∀ l, l < 16 → ∀ j : S128x128.Idx, (j 0).val = 16 * k.val + l → rd B.rwM R j = X (E (N0 + l) % 16384) (j 1).val := by
    intro l hl j hj
    rw [hR j, hj, show nb + (16 * k.val + l) = N0 + l by omega]
  obtain ⟨M, hM⟩ : ∃ M, M = 8 * N0 := ⟨_, rfl⟩
  have hMM : 8 * nb + 128 * k.val = M := by omega
  rw [hMM]
  have w0 : BitVec.toNat (extractAt ![0] (extractStridedSlice S1 ![0] (k1_pay10 v) slices_S16_o0_S1) inpos_S1_p0) = 128 * (E (N0 + 0) / 16384) :=
    (congrArg BitVec.toNat (lane_word (k1_pay10 v) 0 (by decide) _ _)).trans (hw 0 (by decide))
  have c0 : k1_chk2 v6 t2 t3 (extractAt ![0] (extractStridedSlice S1 ![0] (k1_pay10 v) slices_S16_o0_S1) inpos_S1_p0) := fun _ r a => chk_word _ _ w0 (hb 0) r a
  have w1 : BitVec.toNat (extractAt ![0] (extractStridedSlice S1 ![1] (k1_pay10 v) slices_S16_o1_S1) inpos_S1_p0) = 128 * (E (N0 + 1) / 16384) :=
    (congrArg BitVec.toNat (lane_word (k1_pay10 v) 1 (by decide) _ _)).trans (hw 1 (by decide))
  have c1 : k1_chk3 v6 t2 t3 (extractAt ![0] (extractStridedSlice S1 ![1] (k1_pay10 v) slices_S16_o1_S1) inpos_S1_p0) := fun _ r a => chk_word _ _ w1 (hb 1) r a
  have w2 : BitVec.toNat (extractAt ![0] (extractStridedSlice S1 ![2] (k1_pay10 v) slices_S16_o2_S1) inpos_S1_p0) = 128 * (E (N0 + 2) / 16384) :=
    (congrArg BitVec.toNat (lane_word (k1_pay10 v) 2 (by decide) _ _)).trans (hw 2 (by decide))
  have c2 : k1_chk4 v6 t2 t3 (extractAt ![0] (extractStridedSlice S1 ![2] (k1_pay10 v) slices_S16_o2_S1) inpos_S1_p0) := fun _ r a => chk_word _ _ w2 (hb 2) r a
  have w3 : BitVec.toNat (extractAt ![0] (extractStridedSlice S1 ![3] (k1_pay10 v) slices_S16_o3_S1) inpos_S1_p0) = 128 * (E (N0 + 3) / 16384) :=
    (congrArg BitVec.toNat (lane_word (k1_pay10 v) 3 (by decide) _ _)).trans (hw 3 (by decide))
  have c3 : k1_chk5 v6 t2 t3 (extractAt ![0] (extractStridedSlice S1 ![3] (k1_pay10 v) slices_S16_o3_S1) inpos_S1_p0) := fun _ r a => chk_word _ _ w3 (hb 3) r a
  have w4 : BitVec.toNat (extractAt ![0] (extractStridedSlice S1 ![4] (k1_pay10 v) slices_S16_o4_S1) inpos_S1_p0) = 128 * (E (N0 + 4) / 16384) :=
    (congrArg BitVec.toNat (lane_word (k1_pay10 v) 4 (by decide) _ _)).trans (hw 4 (by decide))
  have c4 : k1_chk6 v6 t2 t3 (extractAt ![0] (extractStridedSlice S1 ![4] (k1_pay10 v) slices_S16_o4_S1) inpos_S1_p0) := fun _ r a => chk_word _ _ w4 (hb 4) r a
  have w5 : BitVec.toNat (extractAt ![0] (extractStridedSlice S1 ![5] (k1_pay10 v) slices_S16_o5_S1) inpos_S1_p0) = 128 * (E (N0 + 5) / 16384) :=
    (congrArg BitVec.toNat (lane_word (k1_pay10 v) 5 (by decide) _ _)).trans (hw 5 (by decide))
  have c5 : k1_chk7 v6 t2 t3 (extractAt ![0] (extractStridedSlice S1 ![5] (k1_pay10 v) slices_S16_o5_S1) inpos_S1_p0) := fun _ r a => chk_word _ _ w5 (hb 5) r a
  have w6 : BitVec.toNat (extractAt ![0] (extractStridedSlice S1 ![6] (k1_pay10 v) slices_S16_o6_S1) inpos_S1_p0) = 128 * (E (N0 + 6) / 16384) :=
    (congrArg BitVec.toNat (lane_word (k1_pay10 v) 6 (by decide) _ _)).trans (hw 6 (by decide))
  have c6 : k1_chk8 v6 t2 t3 (extractAt ![0] (extractStridedSlice S1 ![6] (k1_pay10 v) slices_S16_o6_S1) inpos_S1_p0) := fun _ r a => chk_word _ _ w6 (hb 6) r a
  have w7 : BitVec.toNat (extractAt ![0] (extractStridedSlice S1 ![7] (k1_pay10 v) slices_S16_o7_S1) inpos_S1_p0) = 128 * (E (N0 + 7) / 16384) :=
    (congrArg BitVec.toNat (lane_word (k1_pay10 v) 7 (by decide) _ _)).trans (hw 7 (by decide))
  have c7 : k1_chk9 v6 t2 t3 (extractAt ![0] (extractStridedSlice S1 ![7] (k1_pay10 v) slices_S16_o7_S1) inpos_S1_p0) := fun _ r a => chk_word _ _ w7 (hb 7) r a
  have w8 : BitVec.toNat (extractAt ![0] (extractStridedSlice S1 ![8] (k1_pay10 v) slices_S16_o8_S1) inpos_S1_p0) = 128 * (E (N0 + 8) / 16384) :=
    (congrArg BitVec.toNat (lane_word (k1_pay10 v) 8 (by decide) _ _)).trans (hw 8 (by decide))
  have c8 : k1_chk10 v6 t2 t3 (extractAt ![0] (extractStridedSlice S1 ![8] (k1_pay10 v) slices_S16_o8_S1) inpos_S1_p0) := fun _ r a => chk_word _ _ w8 (hb 8) r a
  have w9 : BitVec.toNat (extractAt ![0] (extractStridedSlice S1 ![9] (k1_pay10 v) slices_S16_o9_S1) inpos_S1_p0) = 128 * (E (N0 + 9) / 16384) :=
    (congrArg BitVec.toNat (lane_word (k1_pay10 v) 9 (by decide) _ _)).trans (hw 9 (by decide))
  have c9 : k1_chk11 v6 t2 t3 (extractAt ![0] (extractStridedSlice S1 ![9] (k1_pay10 v) slices_S16_o9_S1) inpos_S1_p0) := fun _ r a => chk_word _ _ w9 (hb 9) r a
  have w10 : BitVec.toNat (extractAt ![0] (extractStridedSlice S1 ![10] (k1_pay10 v) slices_S16_o10_S1) inpos_S1_p0) = 128 * (E (N0 + 10) / 16384) :=
    (congrArg BitVec.toNat (lane_word (k1_pay10 v) 10 (by decide) _ _)).trans (hw 10 (by decide))
  have c10 : k1_chk12 v6 t2 t3 (extractAt ![0] (extractStridedSlice S1 ![10] (k1_pay10 v) slices_S16_o10_S1) inpos_S1_p0) := fun _ r a => chk_word _ _ w10 (hb 10) r a
  have w11 : BitVec.toNat (extractAt ![0] (extractStridedSlice S1 ![11] (k1_pay10 v) slices_S16_o11_S1) inpos_S1_p0) = 128 * (E (N0 + 11) / 16384) :=
    (congrArg BitVec.toNat (lane_word (k1_pay10 v) 11 (by decide) _ _)).trans (hw 11 (by decide))
  have c11 : k1_chk13 v6 t2 t3 (extractAt ![0] (extractStridedSlice S1 ![11] (k1_pay10 v) slices_S16_o11_S1) inpos_S1_p0) := fun _ r a => chk_word _ _ w11 (hb 11) r a
  have w12 : BitVec.toNat (extractAt ![0] (extractStridedSlice S1 ![12] (k1_pay10 v) slices_S16_o12_S1) inpos_S1_p0) = 128 * (E (N0 + 12) / 16384) :=
    (congrArg BitVec.toNat (lane_word (k1_pay10 v) 12 (by decide) _ _)).trans (hw 12 (by decide))
  have c12 : k1_chk14 v6 t2 t3 (extractAt ![0] (extractStridedSlice S1 ![12] (k1_pay10 v) slices_S16_o12_S1) inpos_S1_p0) := fun _ r a => chk_word _ _ w12 (hb 12) r a
  have w13 : BitVec.toNat (extractAt ![0] (extractStridedSlice S1 ![13] (k1_pay10 v) slices_S16_o13_S1) inpos_S1_p0) = 128 * (E (N0 + 13) / 16384) :=
    (congrArg BitVec.toNat (lane_word (k1_pay10 v) 13 (by decide) _ _)).trans (hw 13 (by decide))
  have c13 : k1_chk15 v6 t2 t3 (extractAt ![0] (extractStridedSlice S1 ![13] (k1_pay10 v) slices_S16_o13_S1) inpos_S1_p0) := fun _ r a => chk_word _ _ w13 (hb 13) r a
  have w14 : BitVec.toNat (extractAt ![0] (extractStridedSlice S1 ![14] (k1_pay10 v) slices_S16_o14_S1) inpos_S1_p0) = 128 * (E (N0 + 14) / 16384) :=
    (congrArg BitVec.toNat (lane_word (k1_pay10 v) 14 (by decide) _ _)).trans (hw 14 (by decide))
  have c14 : k1_chk16 v6 t2 t3 (extractAt ![0] (extractStridedSlice S1 ![14] (k1_pay10 v) slices_S16_o14_S1) inpos_S1_p0) := fun _ r a => chk_word _ _ w14 (hb 14) r a
  have w15 : BitVec.toNat (extractAt ![0] (extractStridedSlice S1 ![15] (k1_pay10 v) slices_S16_o15_S1) inpos_S1_p0) = 128 * (E (N0 + 15) / 16384) :=
    (congrArg BitVec.toNat (lane_word (k1_pay10 v) 15 (by decide) _ _)).trans (hw 15 (by decide))
  have c15 : k1_chk17 v6 t2 t3 (extractAt ![0] (extractStridedSlice S1 ![15] (k1_pay10 v) slices_S16_o15_S1) inpos_S1_p0) := fun _ r a => chk_word _ _ w15 (hb 15) r a
  iapply (wp_assume 𝒱₀ (th1 d L) none Set.univ c0)
  iapply (wp_group (F := F) B d L (show M + 0 = 8 * (N0 + 0) + 0 by omega) (by decide) (off := k1_off6 _ 0#32)
    (off_word _ _ 0 w0 (hb 0) (by decide)) (k1_off7_eq k) (hRl 0 (by decide))) $$ HG
  iintro HG
  iapply (wp_group (F := F) B d L (show M + 1 = 8 * (N0 + 0) + 1 by omega) (by decide) (off := k1_off6 _ 16#32)
    (off_word _ _ 1 w0 (hb 0) (by decide)) (k1_off8_eq k) (hRl 0 (by decide))) $$ HG
  iintro HG
  iapply (wp_group (F := F) B d L (show M + 2 = 8 * (N0 + 0) + 2 by omega) (by decide) (off := k1_off6 _ 32#32)
    (off_word _ _ 2 w0 (hb 0) (by decide)) (k1_off9_eq k) (hRl 0 (by decide))) $$ HG
  iintro HG
  iapply (wp_group (F := F) B d L (show M + 3 = 8 * (N0 + 0) + 3 by omega) (by decide) (off := k1_off6 _ 48#32)
    (off_word _ _ 3 w0 (hb 0) (by decide)) (k1_off10_eq k) (hRl 0 (by decide))) $$ HG
  iintro HG
  iapply (wp_group (F := F) B d L (show M + 4 = 8 * (N0 + 0) + 4 by omega) (by decide) (off := k1_off6 _ 64#32)
    (off_word _ _ 4 w0 (hb 0) (by decide)) (k1_off11_eq k) (hRl 0 (by decide))) $$ HG
  iintro HG
  iapply (wp_group (F := F) B d L (show M + 5 = 8 * (N0 + 0) + 5 by omega) (by decide) (off := k1_off6 _ 80#32)
    (off_word _ _ 5 w0 (hb 0) (by decide)) (k1_off12_eq k) (hRl 0 (by decide))) $$ HG
  iintro HG
  iapply (wp_group (F := F) B d L (show M + 6 = 8 * (N0 + 0) + 6 by omega) (by decide) (off := k1_off6 _ 96#32)
    (off_word _ _ 6 w0 (hb 0) (by decide)) (k1_off13_eq k) (hRl 0 (by decide))) $$ HG
  iintro HG
  iapply (wp_group (F := F) B d L (show M + 7 = 8 * (N0 + 0) + 7 by omega) (by decide) (off := k1_off6 _ 112#32)
    (off_word _ _ 7 w0 (hb 0) (by decide)) (k1_off14_eq k) (hRl 0 (by decide))) $$ HG
  iintro HG
  iapply (wp_assume 𝒱₀ (th1 d L) none Set.univ c1)
  iapply (wp_group (F := F) B d L (show M + 8 = 8 * (N0 + 1) + 0 by omega) (by decide) (off := k1_off15 _ 0#32)
    (off_word _ _ 0 w1 (hb 1) (by decide)) (k1_off16_eq k) (hRl 1 (by decide))) $$ HG
  iintro HG
  iapply (wp_group (F := F) B d L (show M + 9 = 8 * (N0 + 1) + 1 by omega) (by decide) (off := k1_off15 _ 16#32)
    (off_word _ _ 1 w1 (hb 1) (by decide)) (k1_off17_eq k) (hRl 1 (by decide))) $$ HG
  iintro HG
  iapply (wp_group (F := F) B d L (show M + 10 = 8 * (N0 + 1) + 2 by omega) (by decide) (off := k1_off15 _ 32#32)
    (off_word _ _ 2 w1 (hb 1) (by decide)) (k1_off18_eq k) (hRl 1 (by decide))) $$ HG
  iintro HG
  iapply (wp_group (F := F) B d L (show M + 11 = 8 * (N0 + 1) + 3 by omega) (by decide) (off := k1_off15 _ 48#32)
    (off_word _ _ 3 w1 (hb 1) (by decide)) (k1_off19_eq k) (hRl 1 (by decide))) $$ HG
  iintro HG
  iapply (wp_group (F := F) B d L (show M + 12 = 8 * (N0 + 1) + 4 by omega) (by decide) (off := k1_off15 _ 64#32)
    (off_word _ _ 4 w1 (hb 1) (by decide)) (k1_off20_eq k) (hRl 1 (by decide))) $$ HG
  iintro HG
  iapply (wp_group (F := F) B d L (show M + 13 = 8 * (N0 + 1) + 5 by omega) (by decide) (off := k1_off15 _ 80#32)
    (off_word _ _ 5 w1 (hb 1) (by decide)) (k1_off21_eq k) (hRl 1 (by decide))) $$ HG
  iintro HG
  iapply (wp_group (F := F) B d L (show M + 14 = 8 * (N0 + 1) + 6 by omega) (by decide) (off := k1_off15 _ 96#32)
    (off_word _ _ 6 w1 (hb 1) (by decide)) (k1_off22_eq k) (hRl 1 (by decide))) $$ HG
  iintro HG
  iapply (wp_group (F := F) B d L (show M + 15 = 8 * (N0 + 1) + 7 by omega) (by decide) (off := k1_off15 _ 112#32)
    (off_word _ _ 7 w1 (hb 1) (by decide)) (k1_off23_eq k) (hRl 1 (by decide))) $$ HG
  iintro HG
  iapply (wp_assume 𝒱₀ (th1 d L) none Set.univ c2)
  iapply (wp_group (F := F) B d L (show M + 16 = 8 * (N0 + 2) + 0 by omega) (by decide) (off := k1_off24 _ 0#32)
    (off_word _ _ 0 w2 (hb 2) (by decide)) (k1_off25_eq k) (hRl 2 (by decide))) $$ HG
  iintro HG
  iapply (wp_group (F := F) B d L (show M + 17 = 8 * (N0 + 2) + 1 by omega) (by decide) (off := k1_off24 _ 16#32)
    (off_word _ _ 1 w2 (hb 2) (by decide)) (k1_off26_eq k) (hRl 2 (by decide))) $$ HG
  iintro HG
  iapply (wp_group (F := F) B d L (show M + 18 = 8 * (N0 + 2) + 2 by omega) (by decide) (off := k1_off24 _ 32#32)
    (off_word _ _ 2 w2 (hb 2) (by decide)) (k1_off27_eq k) (hRl 2 (by decide))) $$ HG
  iintro HG
  iapply (wp_group (F := F) B d L (show M + 19 = 8 * (N0 + 2) + 3 by omega) (by decide) (off := k1_off24 _ 48#32)
    (off_word _ _ 3 w2 (hb 2) (by decide)) (k1_off28_eq k) (hRl 2 (by decide))) $$ HG
  iintro HG
  iapply (wp_group (F := F) B d L (show M + 20 = 8 * (N0 + 2) + 4 by omega) (by decide) (off := k1_off24 _ 64#32)
    (off_word _ _ 4 w2 (hb 2) (by decide)) (k1_off29_eq k) (hRl 2 (by decide))) $$ HG
  iintro HG
  iapply (wp_group (F := F) B d L (show M + 21 = 8 * (N0 + 2) + 5 by omega) (by decide) (off := k1_off24 _ 80#32)
    (off_word _ _ 5 w2 (hb 2) (by decide)) (k1_off30_eq k) (hRl 2 (by decide))) $$ HG
  iintro HG
  iapply (wp_group (F := F) B d L (show M + 22 = 8 * (N0 + 2) + 6 by omega) (by decide) (off := k1_off24 _ 96#32)
    (off_word _ _ 6 w2 (hb 2) (by decide)) (k1_off31_eq k) (hRl 2 (by decide))) $$ HG
  iintro HG
  iapply (wp_group (F := F) B d L (show M + 23 = 8 * (N0 + 2) + 7 by omega) (by decide) (off := k1_off24 _ 112#32)
    (off_word _ _ 7 w2 (hb 2) (by decide)) (k1_off32_eq k) (hRl 2 (by decide))) $$ HG
  iintro HG
  iapply (wp_assume 𝒱₀ (th1 d L) none Set.univ c3)
  iapply (wp_group (F := F) B d L (show M + 24 = 8 * (N0 + 3) + 0 by omega) (by decide) (off := k1_off33 _ 0#32)
    (off_word _ _ 0 w3 (hb 3) (by decide)) (k1_off34_eq k) (hRl 3 (by decide))) $$ HG
  iintro HG
  iapply (wp_group (F := F) B d L (show M + 25 = 8 * (N0 + 3) + 1 by omega) (by decide) (off := k1_off33 _ 16#32)
    (off_word _ _ 1 w3 (hb 3) (by decide)) (k1_off35_eq k) (hRl 3 (by decide))) $$ HG
  iintro HG
  iapply (wp_group (F := F) B d L (show M + 26 = 8 * (N0 + 3) + 2 by omega) (by decide) (off := k1_off33 _ 32#32)
    (off_word _ _ 2 w3 (hb 3) (by decide)) (k1_off36_eq k) (hRl 3 (by decide))) $$ HG
  iintro HG
  iapply (wp_group (F := F) B d L (show M + 27 = 8 * (N0 + 3) + 3 by omega) (by decide) (off := k1_off33 _ 48#32)
    (off_word _ _ 3 w3 (hb 3) (by decide)) (k1_off37_eq k) (hRl 3 (by decide))) $$ HG
  iintro HG
  iapply (wp_group (F := F) B d L (show M + 28 = 8 * (N0 + 3) + 4 by omega) (by decide) (off := k1_off33 _ 64#32)
    (off_word _ _ 4 w3 (hb 3) (by decide)) (k1_off38_eq k) (hRl 3 (by decide))) $$ HG
  iintro HG
  iapply (wp_group (F := F) B d L (show M + 29 = 8 * (N0 + 3) + 5 by omega) (by decide) (off := k1_off33 _ 80#32)
    (off_word _ _ 5 w3 (hb 3) (by decide)) (k1_off39_eq k) (hRl 3 (by decide))) $$ HG
  iintro HG
  iapply (wp_group (F := F) B d L (show M + 30 = 8 * (N0 + 3) + 6 by omega) (by decide) (off := k1_off33 _ 96#32)
    (off_word _ _ 6 w3 (hb 3) (by decide)) (k1_off40_eq k) (hRl 3 (by decide))) $$ HG
  iintro HG
  iapply (wp_group (F := F) B d L (show M + 31 = 8 * (N0 + 3) + 7 by omega) (by decide) (off := k1_off33 _ 112#32)
    (off_word _ _ 7 w3 (hb 3) (by decide)) (k1_off41_eq k) (hRl 3 (by decide))) $$ HG
  iintro HG
  iapply (wp_assume 𝒱₀ (th1 d L) none Set.univ c4)
  iapply (wp_group (F := F) B d L (show M + 32 = 8 * (N0 + 4) + 0 by omega) (by decide) (off := k1_off42 _ 0#32)
    (off_word _ _ 0 w4 (hb 4) (by decide)) (k1_off43_eq k) (hRl 4 (by decide))) $$ HG
  iintro HG
  iapply (wp_group (F := F) B d L (show M + 33 = 8 * (N0 + 4) + 1 by omega) (by decide) (off := k1_off42 _ 16#32)
    (off_word _ _ 1 w4 (hb 4) (by decide)) (k1_off44_eq k) (hRl 4 (by decide))) $$ HG
  iintro HG
  iapply (wp_group (F := F) B d L (show M + 34 = 8 * (N0 + 4) + 2 by omega) (by decide) (off := k1_off42 _ 32#32)
    (off_word _ _ 2 w4 (hb 4) (by decide)) (k1_off45_eq k) (hRl 4 (by decide))) $$ HG
  iintro HG
  iapply (wp_group (F := F) B d L (show M + 35 = 8 * (N0 + 4) + 3 by omega) (by decide) (off := k1_off42 _ 48#32)
    (off_word _ _ 3 w4 (hb 4) (by decide)) (k1_off46_eq k) (hRl 4 (by decide))) $$ HG
  iintro HG
  iapply (wp_group (F := F) B d L (show M + 36 = 8 * (N0 + 4) + 4 by omega) (by decide) (off := k1_off42 _ 64#32)
    (off_word _ _ 4 w4 (hb 4) (by decide)) (k1_off47_eq k) (hRl 4 (by decide))) $$ HG
  iintro HG
  iapply (wp_group (F := F) B d L (show M + 37 = 8 * (N0 + 4) + 5 by omega) (by decide) (off := k1_off42 _ 80#32)
    (off_word _ _ 5 w4 (hb 4) (by decide)) (k1_off48_eq k) (hRl 4 (by decide))) $$ HG
  iintro HG
  iapply (wp_group (F := F) B d L (show M + 38 = 8 * (N0 + 4) + 6 by omega) (by decide) (off := k1_off42 _ 96#32)
    (off_word _ _ 6 w4 (hb 4) (by decide)) (k1_off49_eq k) (hRl 4 (by decide))) $$ HG
  iintro HG
  iapply (wp_group (F := F) B d L (show M + 39 = 8 * (N0 + 4) + 7 by omega) (by decide) (off := k1_off42 _ 112#32)
    (off_word _ _ 7 w4 (hb 4) (by decide)) (k1_off50_eq k) (hRl 4 (by decide))) $$ HG
  iintro HG
  iapply (wp_assume 𝒱₀ (th1 d L) none Set.univ c5)
  iapply (wp_group (F := F) B d L (show M + 40 = 8 * (N0 + 5) + 0 by omega) (by decide) (off := k1_off51 _ 0#32)
    (off_word _ _ 0 w5 (hb 5) (by decide)) (k1_off52_eq k) (hRl 5 (by decide))) $$ HG
  iintro HG
  iapply (wp_group (F := F) B d L (show M + 41 = 8 * (N0 + 5) + 1 by omega) (by decide) (off := k1_off51 _ 16#32)
    (off_word _ _ 1 w5 (hb 5) (by decide)) (k1_off53_eq k) (hRl 5 (by decide))) $$ HG
  iintro HG
  iapply (wp_group (F := F) B d L (show M + 42 = 8 * (N0 + 5) + 2 by omega) (by decide) (off := k1_off51 _ 32#32)
    (off_word _ _ 2 w5 (hb 5) (by decide)) (k1_off54_eq k) (hRl 5 (by decide))) $$ HG
  iintro HG
  iapply (wp_group (F := F) B d L (show M + 43 = 8 * (N0 + 5) + 3 by omega) (by decide) (off := k1_off51 _ 48#32)
    (off_word _ _ 3 w5 (hb 5) (by decide)) (k1_off55_eq k) (hRl 5 (by decide))) $$ HG
  iintro HG
  iapply (wp_group (F := F) B d L (show M + 44 = 8 * (N0 + 5) + 4 by omega) (by decide) (off := k1_off51 _ 64#32)
    (off_word _ _ 4 w5 (hb 5) (by decide)) (k1_off56_eq k) (hRl 5 (by decide))) $$ HG
  iintro HG
  iapply (wp_group (F := F) B d L (show M + 45 = 8 * (N0 + 5) + 5 by omega) (by decide) (off := k1_off51 _ 80#32)
    (off_word _ _ 5 w5 (hb 5) (by decide)) (k1_off57_eq k) (hRl 5 (by decide))) $$ HG
  iintro HG
  iapply (wp_group (F := F) B d L (show M + 46 = 8 * (N0 + 5) + 6 by omega) (by decide) (off := k1_off51 _ 96#32)
    (off_word _ _ 6 w5 (hb 5) (by decide)) (k1_off58_eq k) (hRl 5 (by decide))) $$ HG
  iintro HG
  iapply (wp_group (F := F) B d L (show M + 47 = 8 * (N0 + 5) + 7 by omega) (by decide) (off := k1_off51 _ 112#32)
    (off_word _ _ 7 w5 (hb 5) (by decide)) (k1_off59_eq k) (hRl 5 (by decide))) $$ HG
  iintro HG
  iapply (wp_assume 𝒱₀ (th1 d L) none Set.univ c6)
  iapply (wp_group (F := F) B d L (show M + 48 = 8 * (N0 + 6) + 0 by omega) (by decide) (off := k1_off60 _ 0#32)
    (off_word _ _ 0 w6 (hb 6) (by decide)) (k1_off61_eq k) (hRl 6 (by decide))) $$ HG
  iintro HG
  iapply (wp_group (F := F) B d L (show M + 49 = 8 * (N0 + 6) + 1 by omega) (by decide) (off := k1_off60 _ 16#32)
    (off_word _ _ 1 w6 (hb 6) (by decide)) (k1_off62_eq k) (hRl 6 (by decide))) $$ HG
  iintro HG
  iapply (wp_group (F := F) B d L (show M + 50 = 8 * (N0 + 6) + 2 by omega) (by decide) (off := k1_off60 _ 32#32)
    (off_word _ _ 2 w6 (hb 6) (by decide)) (k1_off63_eq k) (hRl 6 (by decide))) $$ HG
  iintro HG
  iapply (wp_group (F := F) B d L (show M + 51 = 8 * (N0 + 6) + 3 by omega) (by decide) (off := k1_off60 _ 48#32)
    (off_word _ _ 3 w6 (hb 6) (by decide)) (k1_off64_eq k) (hRl 6 (by decide))) $$ HG
  iintro HG
  iapply (wp_group (F := F) B d L (show M + 52 = 8 * (N0 + 6) + 4 by omega) (by decide) (off := k1_off60 _ 64#32)
    (off_word _ _ 4 w6 (hb 6) (by decide)) (k1_off65_eq k) (hRl 6 (by decide))) $$ HG
  iintro HG
  iapply (wp_group (F := F) B d L (show M + 53 = 8 * (N0 + 6) + 5 by omega) (by decide) (off := k1_off60 _ 80#32)
    (off_word _ _ 5 w6 (hb 6) (by decide)) (k1_off66_eq k) (hRl 6 (by decide))) $$ HG
  iintro HG
  iapply (wp_group (F := F) B d L (show M + 54 = 8 * (N0 + 6) + 6 by omega) (by decide) (off := k1_off60 _ 96#32)
    (off_word _ _ 6 w6 (hb 6) (by decide)) (k1_off67_eq k) (hRl 6 (by decide))) $$ HG
  iintro HG
  iapply (wp_group (F := F) B d L (show M + 55 = 8 * (N0 + 6) + 7 by omega) (by decide) (off := k1_off60 _ 112#32)
    (off_word _ _ 7 w6 (hb 6) (by decide)) (k1_off68_eq k) (hRl 6 (by decide))) $$ HG
  iintro HG
  iapply (wp_assume 𝒱₀ (th1 d L) none Set.univ c7)
  iapply (wp_group (F := F) B d L (show M + 56 = 8 * (N0 + 7) + 0 by omega) (by decide) (off := k1_off69 _ 0#32)
    (off_word _ _ 0 w7 (hb 7) (by decide)) (k1_off70_eq k) (hRl 7 (by decide))) $$ HG
  iintro HG
  iapply (wp_group (F := F) B d L (show M + 57 = 8 * (N0 + 7) + 1 by omega) (by decide) (off := k1_off69 _ 16#32)
    (off_word _ _ 1 w7 (hb 7) (by decide)) (k1_off71_eq k) (hRl 7 (by decide))) $$ HG
  iintro HG
  iapply (wp_group (F := F) B d L (show M + 58 = 8 * (N0 + 7) + 2 by omega) (by decide) (off := k1_off69 _ 32#32)
    (off_word _ _ 2 w7 (hb 7) (by decide)) (k1_off72_eq k) (hRl 7 (by decide))) $$ HG
  iintro HG
  iapply (wp_group (F := F) B d L (show M + 59 = 8 * (N0 + 7) + 3 by omega) (by decide) (off := k1_off69 _ 48#32)
    (off_word _ _ 3 w7 (hb 7) (by decide)) (k1_off73_eq k) (hRl 7 (by decide))) $$ HG
  iintro HG
  iapply (wp_group (F := F) B d L (show M + 60 = 8 * (N0 + 7) + 4 by omega) (by decide) (off := k1_off69 _ 64#32)
    (off_word _ _ 4 w7 (hb 7) (by decide)) (k1_off74_eq k) (hRl 7 (by decide))) $$ HG
  iintro HG
  iapply (wp_group (F := F) B d L (show M + 61 = 8 * (N0 + 7) + 5 by omega) (by decide) (off := k1_off69 _ 80#32)
    (off_word _ _ 5 w7 (hb 7) (by decide)) (k1_off75_eq k) (hRl 7 (by decide))) $$ HG
  iintro HG
  iapply (wp_group (F := F) B d L (show M + 62 = 8 * (N0 + 7) + 6 by omega) (by decide) (off := k1_off69 _ 96#32)
    (off_word _ _ 6 w7 (hb 7) (by decide)) (k1_off76_eq k) (hRl 7 (by decide))) $$ HG
  iintro HG
  iapply (wp_group (F := F) B d L (show M + 63 = 8 * (N0 + 7) + 7 by omega) (by decide) (off := k1_off69 _ 112#32)
    (off_word _ _ 7 w7 (hb 7) (by decide)) (k1_off77_eq k) (hRl 7 (by decide))) $$ HG
  iintro HG
  iapply (wp_assume 𝒱₀ (th1 d L) none Set.univ c8)
  iapply (wp_group (F := F) B d L (show M + 64 = 8 * (N0 + 8) + 0 by omega) (by decide) (off := k1_off78 _ 0#32)
    (off_word _ _ 0 w8 (hb 8) (by decide)) (k1_off79_eq k) (hRl 8 (by decide))) $$ HG
  iintro HG
  iapply (wp_group (F := F) B d L (show M + 65 = 8 * (N0 + 8) + 1 by omega) (by decide) (off := k1_off78 _ 16#32)
    (off_word _ _ 1 w8 (hb 8) (by decide)) (k1_off80_eq k) (hRl 8 (by decide))) $$ HG
  iintro HG
  iapply (wp_group (F := F) B d L (show M + 66 = 8 * (N0 + 8) + 2 by omega) (by decide) (off := k1_off78 _ 32#32)
    (off_word _ _ 2 w8 (hb 8) (by decide)) (k1_off81_eq k) (hRl 8 (by decide))) $$ HG
  iintro HG
  iapply (wp_group (F := F) B d L (show M + 67 = 8 * (N0 + 8) + 3 by omega) (by decide) (off := k1_off78 _ 48#32)
    (off_word _ _ 3 w8 (hb 8) (by decide)) (k1_off82_eq k) (hRl 8 (by decide))) $$ HG
  iintro HG
  iapply (wp_group (F := F) B d L (show M + 68 = 8 * (N0 + 8) + 4 by omega) (by decide) (off := k1_off78 _ 64#32)
    (off_word _ _ 4 w8 (hb 8) (by decide)) (k1_off83_eq k) (hRl 8 (by decide))) $$ HG
  iintro HG
  iapply (wp_group (F := F) B d L (show M + 69 = 8 * (N0 + 8) + 5 by omega) (by decide) (off := k1_off78 _ 80#32)
    (off_word _ _ 5 w8 (hb 8) (by decide)) (k1_off84_eq k) (hRl 8 (by decide))) $$ HG
  iintro HG
  iapply (wp_group (F := F) B d L (show M + 70 = 8 * (N0 + 8) + 6 by omega) (by decide) (off := k1_off78 _ 96#32)
    (off_word _ _ 6 w8 (hb 8) (by decide)) (k1_off85_eq k) (hRl 8 (by decide))) $$ HG
  iintro HG
  iapply (wp_group (F := F) B d L (show M + 71 = 8 * (N0 + 8) + 7 by omega) (by decide) (off := k1_off78 _ 112#32)
    (off_word _ _ 7 w8 (hb 8) (by decide)) (k1_off86_eq k) (hRl 8 (by decide))) $$ HG
  iintro HG
  iapply (wp_assume 𝒱₀ (th1 d L) none Set.univ c9)
  iapply (wp_group (F := F) B d L (show M + 72 = 8 * (N0 + 9) + 0 by omega) (by decide) (off := k1_off87 _ 0#32)
    (off_word _ _ 0 w9 (hb 9) (by decide)) (k1_off88_eq k) (hRl 9 (by decide))) $$ HG
  iintro HG
  iapply (wp_group (F := F) B d L (show M + 73 = 8 * (N0 + 9) + 1 by omega) (by decide) (off := k1_off87 _ 16#32)
    (off_word _ _ 1 w9 (hb 9) (by decide)) (k1_off89_eq k) (hRl 9 (by decide))) $$ HG
  iintro HG
  iapply (wp_group (F := F) B d L (show M + 74 = 8 * (N0 + 9) + 2 by omega) (by decide) (off := k1_off87 _ 32#32)
    (off_word _ _ 2 w9 (hb 9) (by decide)) (k1_off90_eq k) (hRl 9 (by decide))) $$ HG
  iintro HG
  iapply (wp_group (F := F) B d L (show M + 75 = 8 * (N0 + 9) + 3 by omega) (by decide) (off := k1_off87 _ 48#32)
    (off_word _ _ 3 w9 (hb 9) (by decide)) (k1_off91_eq k) (hRl 9 (by decide))) $$ HG
  iintro HG
  iapply (wp_group (F := F) B d L (show M + 76 = 8 * (N0 + 9) + 4 by omega) (by decide) (off := k1_off87 _ 64#32)
    (off_word _ _ 4 w9 (hb 9) (by decide)) (k1_off92_eq k) (hRl 9 (by decide))) $$ HG
  iintro HG
  iapply (wp_group (F := F) B d L (show M + 77 = 8 * (N0 + 9) + 5 by omega) (by decide) (off := k1_off87 _ 80#32)
    (off_word _ _ 5 w9 (hb 9) (by decide)) (k1_off93_eq k) (hRl 9 (by decide))) $$ HG
  iintro HG
  iapply (wp_group (F := F) B d L (show M + 78 = 8 * (N0 + 9) + 6 by omega) (by decide) (off := k1_off87 _ 96#32)
    (off_word _ _ 6 w9 (hb 9) (by decide)) (k1_off94_eq k) (hRl 9 (by decide))) $$ HG
  iintro HG
  iapply (wp_group (F := F) B d L (show M + 79 = 8 * (N0 + 9) + 7 by omega) (by decide) (off := k1_off87 _ 112#32)
    (off_word _ _ 7 w9 (hb 9) (by decide)) (k1_off95_eq k) (hRl 9 (by decide))) $$ HG
  iintro HG
  iapply (wp_assume 𝒱₀ (th1 d L) none Set.univ c10)
  iapply (wp_group (F := F) B d L (show M + 80 = 8 * (N0 + 10) + 0 by omega) (by decide) (off := k1_off96 _ 0#32)
    (off_word _ _ 0 w10 (hb 10) (by decide)) (k1_off97_eq k) (hRl 10 (by decide))) $$ HG
  iintro HG
  iapply (wp_group (F := F) B d L (show M + 81 = 8 * (N0 + 10) + 1 by omega) (by decide) (off := k1_off96 _ 16#32)
    (off_word _ _ 1 w10 (hb 10) (by decide)) (k1_off98_eq k) (hRl 10 (by decide))) $$ HG
  iintro HG
  iapply (wp_group (F := F) B d L (show M + 82 = 8 * (N0 + 10) + 2 by omega) (by decide) (off := k1_off96 _ 32#32)
    (off_word _ _ 2 w10 (hb 10) (by decide)) (k1_off99_eq k) (hRl 10 (by decide))) $$ HG
  iintro HG
  iapply (wp_group (F := F) B d L (show M + 83 = 8 * (N0 + 10) + 3 by omega) (by decide) (off := k1_off96 _ 48#32)
    (off_word _ _ 3 w10 (hb 10) (by decide)) (k1_off100_eq k) (hRl 10 (by decide))) $$ HG
  iintro HG
  iapply (wp_group (F := F) B d L (show M + 84 = 8 * (N0 + 10) + 4 by omega) (by decide) (off := k1_off96 _ 64#32)
    (off_word _ _ 4 w10 (hb 10) (by decide)) (k1_off101_eq k) (hRl 10 (by decide))) $$ HG
  iintro HG
  iapply (wp_group (F := F) B d L (show M + 85 = 8 * (N0 + 10) + 5 by omega) (by decide) (off := k1_off96 _ 80#32)
    (off_word _ _ 5 w10 (hb 10) (by decide)) (k1_off102_eq k) (hRl 10 (by decide))) $$ HG
  iintro HG
  iapply (wp_group (F := F) B d L (show M + 86 = 8 * (N0 + 10) + 6 by omega) (by decide) (off := k1_off96 _ 96#32)
    (off_word _ _ 6 w10 (hb 10) (by decide)) (k1_off103_eq k) (hRl 10 (by decide))) $$ HG
  iintro HG
  iapply (wp_group (F := F) B d L (show M + 87 = 8 * (N0 + 10) + 7 by omega) (by decide) (off := k1_off96 _ 112#32)
    (off_word _ _ 7 w10 (hb 10) (by decide)) (k1_off104_eq k) (hRl 10 (by decide))) $$ HG
  iintro HG
  iapply (wp_assume 𝒱₀ (th1 d L) none Set.univ c11)
  iapply (wp_group (F := F) B d L (show M + 88 = 8 * (N0 + 11) + 0 by omega) (by decide) (off := k1_off105 _ 0#32)
    (off_word _ _ 0 w11 (hb 11) (by decide)) (k1_off106_eq k) (hRl 11 (by decide))) $$ HG
  iintro HG
  iapply (wp_group (F := F) B d L (show M + 89 = 8 * (N0 + 11) + 1 by omega) (by decide) (off := k1_off105 _ 16#32)
    (off_word _ _ 1 w11 (hb 11) (by decide)) (k1_off107_eq k) (hRl 11 (by decide))) $$ HG
  iintro HG
  iapply (wp_group (F := F) B d L (show M + 90 = 8 * (N0 + 11) + 2 by omega) (by decide) (off := k1_off105 _ 32#32)
    (off_word _ _ 2 w11 (hb 11) (by decide)) (k1_off108_eq k) (hRl 11 (by decide))) $$ HG
  iintro HG
  iapply (wp_group (F := F) B d L (show M + 91 = 8 * (N0 + 11) + 3 by omega) (by decide) (off := k1_off105 _ 48#32)
    (off_word _ _ 3 w11 (hb 11) (by decide)) (k1_off109_eq k) (hRl 11 (by decide))) $$ HG
  iintro HG
  iapply (wp_group (F := F) B d L (show M + 92 = 8 * (N0 + 11) + 4 by omega) (by decide) (off := k1_off105 _ 64#32)
    (off_word _ _ 4 w11 (hb 11) (by decide)) (k1_off110_eq k) (hRl 11 (by decide))) $$ HG
  iintro HG
  iapply (wp_group (F := F) B d L (show M + 93 = 8 * (N0 + 11) + 5 by omega) (by decide) (off := k1_off105 _ 80#32)
    (off_word _ _ 5 w11 (hb 11) (by decide)) (k1_off111_eq k) (hRl 11 (by decide))) $$ HG
  iintro HG
  iapply (wp_group (F := F) B d L (show M + 94 = 8 * (N0 + 11) + 6 by omega) (by decide) (off := k1_off105 _ 96#32)
    (off_word _ _ 6 w11 (hb 11) (by decide)) (k1_off112_eq k) (hRl 11 (by decide))) $$ HG
  iintro HG
  iapply (wp_group (F := F) B d L (show M + 95 = 8 * (N0 + 11) + 7 by omega) (by decide) (off := k1_off105 _ 112#32)
    (off_word _ _ 7 w11 (hb 11) (by decide)) (k1_off113_eq k) (hRl 11 (by decide))) $$ HG
  iintro HG
  iapply (wp_assume 𝒱₀ (th1 d L) none Set.univ c12)
  iapply (wp_group (F := F) B d L (show M + 96 = 8 * (N0 + 12) + 0 by omega) (by decide) (off := k1_off114 _ 0#32)
    (off_word _ _ 0 w12 (hb 12) (by decide)) (k1_off115_eq k) (hRl 12 (by decide))) $$ HG
  iintro HG
  iapply (wp_group (F := F) B d L (show M + 97 = 8 * (N0 + 12) + 1 by omega) (by decide) (off := k1_off114 _ 16#32)
    (off_word _ _ 1 w12 (hb 12) (by decide)) (k1_off116_eq k) (hRl 12 (by decide))) $$ HG
  iintro HG
  iapply (wp_group (F := F) B d L (show M + 98 = 8 * (N0 + 12) + 2 by omega) (by decide) (off := k1_off114 _ 32#32)
    (off_word _ _ 2 w12 (hb 12) (by decide)) (k1_off117_eq k) (hRl 12 (by decide))) $$ HG
  iintro HG
  iapply (wp_group (F := F) B d L (show M + 99 = 8 * (N0 + 12) + 3 by omega) (by decide) (off := k1_off114 _ 48#32)
    (off_word _ _ 3 w12 (hb 12) (by decide)) (k1_off118_eq k) (hRl 12 (by decide))) $$ HG
  iintro HG
  iapply (wp_group (F := F) B d L (show M + 100 = 8 * (N0 + 12) + 4 by omega) (by decide) (off := k1_off114 _ 64#32)
    (off_word _ _ 4 w12 (hb 12) (by decide)) (k1_off119_eq k) (hRl 12 (by decide))) $$ HG
  iintro HG
  iapply (wp_group (F := F) B d L (show M + 101 = 8 * (N0 + 12) + 5 by omega) (by decide) (off := k1_off114 _ 80#32)
    (off_word _ _ 5 w12 (hb 12) (by decide)) (k1_off120_eq k) (hRl 12 (by decide))) $$ HG
  iintro HG
  iapply (wp_group (F := F) B d L (show M + 102 = 8 * (N0 + 12) + 6 by omega) (by decide) (off := k1_off114 _ 96#32)
    (off_word _ _ 6 w12 (hb 12) (by decide)) (k1_off121_eq k) (hRl 12 (by decide))) $$ HG
  iintro HG
  iapply (wp_group (F := F) B d L (show M + 103 = 8 * (N0 + 12) + 7 by omega) (by decide) (off := k1_off114 _ 112#32)
    (off_word _ _ 7 w12 (hb 12) (by decide)) (k1_off122_eq k) (hRl 12 (by decide))) $$ HG
  iintro HG
  iapply (wp_assume 𝒱₀ (th1 d L) none Set.univ c13)
  iapply (wp_group (F := F) B d L (show M + 104 = 8 * (N0 + 13) + 0 by omega) (by decide) (off := k1_off123 _ 0#32)
    (off_word _ _ 0 w13 (hb 13) (by decide)) (k1_off124_eq k) (hRl 13 (by decide))) $$ HG
  iintro HG
  iapply (wp_group (F := F) B d L (show M + 105 = 8 * (N0 + 13) + 1 by omega) (by decide) (off := k1_off123 _ 16#32)
    (off_word _ _ 1 w13 (hb 13) (by decide)) (k1_off125_eq k) (hRl 13 (by decide))) $$ HG
  iintro HG
  iapply (wp_group (F := F) B d L (show M + 106 = 8 * (N0 + 13) + 2 by omega) (by decide) (off := k1_off123 _ 32#32)
    (off_word _ _ 2 w13 (hb 13) (by decide)) (k1_off126_eq k) (hRl 13 (by decide))) $$ HG
  iintro HG
  iapply (wp_group (F := F) B d L (show M + 107 = 8 * (N0 + 13) + 3 by omega) (by decide) (off := k1_off123 _ 48#32)
    (off_word _ _ 3 w13 (hb 13) (by decide)) (k1_off127_eq k) (hRl 13 (by decide))) $$ HG
  iintro HG
  iapply (wp_group (F := F) B d L (show M + 108 = 8 * (N0 + 13) + 4 by omega) (by decide) (off := k1_off123 _ 64#32)
    (off_word _ _ 4 w13 (hb 13) (by decide)) (k1_off128_eq k) (hRl 13 (by decide))) $$ HG
  iintro HG
  iapply (wp_group (F := F) B d L (show M + 109 = 8 * (N0 + 13) + 5 by omega) (by decide) (off := k1_off123 _ 80#32)
    (off_word _ _ 5 w13 (hb 13) (by decide)) (k1_off129_eq k) (hRl 13 (by decide))) $$ HG
  iintro HG
  iapply (wp_group (F := F) B d L (show M + 110 = 8 * (N0 + 13) + 6 by omega) (by decide) (off := k1_off123 _ 96#32)
    (off_word _ _ 6 w13 (hb 13) (by decide)) (k1_off130_eq k) (hRl 13 (by decide))) $$ HG
  iintro HG
  iapply (wp_group (F := F) B d L (show M + 111 = 8 * (N0 + 13) + 7 by omega) (by decide) (off := k1_off123 _ 112#32)
    (off_word _ _ 7 w13 (hb 13) (by decide)) (k1_off131_eq k) (hRl 13 (by decide))) $$ HG
  iintro HG
  iapply (wp_assume 𝒱₀ (th1 d L) none Set.univ c14)
  iapply (wp_group (F := F) B d L (show M + 112 = 8 * (N0 + 14) + 0 by omega) (by decide) (off := k1_off132 _ 0#32)
    (off_word _ _ 0 w14 (hb 14) (by decide)) (k1_off133_eq k) (hRl 14 (by decide))) $$ HG
  iintro HG
  iapply (wp_group (F := F) B d L (show M + 113 = 8 * (N0 + 14) + 1 by omega) (by decide) (off := k1_off132 _ 16#32)
    (off_word _ _ 1 w14 (hb 14) (by decide)) (k1_off134_eq k) (hRl 14 (by decide))) $$ HG
  iintro HG
  iapply (wp_group (F := F) B d L (show M + 114 = 8 * (N0 + 14) + 2 by omega) (by decide) (off := k1_off132 _ 32#32)
    (off_word _ _ 2 w14 (hb 14) (by decide)) (k1_off135_eq k) (hRl 14 (by decide))) $$ HG
  iintro HG
  iapply (wp_group (F := F) B d L (show M + 115 = 8 * (N0 + 14) + 3 by omega) (by decide) (off := k1_off132 _ 48#32)
    (off_word _ _ 3 w14 (hb 14) (by decide)) (k1_off136_eq k) (hRl 14 (by decide))) $$ HG
  iintro HG
  iapply (wp_group (F := F) B d L (show M + 116 = 8 * (N0 + 14) + 4 by omega) (by decide) (off := k1_off132 _ 64#32)
    (off_word _ _ 4 w14 (hb 14) (by decide)) (k1_off137_eq k) (hRl 14 (by decide))) $$ HG
  iintro HG
  iapply (wp_group (F := F) B d L (show M + 117 = 8 * (N0 + 14) + 5 by omega) (by decide) (off := k1_off132 _ 80#32)
    (off_word _ _ 5 w14 (hb 14) (by decide)) (k1_off138_eq k) (hRl 14 (by decide))) $$ HG
  iintro HG
  iapply (wp_group (F := F) B d L (show M + 118 = 8 * (N0 + 14) + 6 by omega) (by decide) (off := k1_off132 _ 96#32)
    (off_word _ _ 6 w14 (hb 14) (by decide)) (k1_off139_eq k) (hRl 14 (by decide))) $$ HG
  iintro HG
  iapply (wp_group (F := F) B d L (show M + 119 = 8 * (N0 + 14) + 7 by omega) (by decide) (off := k1_off132 _ 112#32)
    (off_word _ _ 7 w14 (hb 14) (by decide)) (k1_off140_eq k) (hRl 14 (by decide))) $$ HG
  iintro HG
  iapply (wp_assume 𝒱₀ (th1 d L) none Set.univ c15)
  iapply (wp_group (F := F) B d L (show M + 120 = 8 * (N0 + 15) + 0 by omega) (by decide) (off := k1_off141 _ 0#32)
    (off_word _ _ 0 w15 (hb 15) (by decide)) (k1_off142_eq k) (hRl 15 (by decide))) $$ HG
  iintro HG
  iapply (wp_group (F := F) B d L (show M + 121 = 8 * (N0 + 15) + 1 by omega) (by decide) (off := k1_off141 _ 16#32)
    (off_word _ _ 1 w15 (hb 15) (by decide)) (k1_off143_eq k) (hRl 15 (by decide))) $$ HG
  iintro HG
  iapply (wp_group (F := F) B d L (show M + 122 = 8 * (N0 + 15) + 2 by omega) (by decide) (off := k1_off141 _ 32#32)
    (off_word _ _ 2 w15 (hb 15) (by decide)) (k1_off144_eq k) (hRl 15 (by decide))) $$ HG
  iintro HG
  iapply (wp_group (F := F) B d L (show M + 123 = 8 * (N0 + 15) + 3 by omega) (by decide) (off := k1_off141 _ 48#32)
    (off_word _ _ 3 w15 (hb 15) (by decide)) (k1_off145_eq k) (hRl 15 (by decide))) $$ HG
  iintro HG
  iapply (wp_group (F := F) B d L (show M + 124 = 8 * (N0 + 15) + 4 by omega) (by decide) (off := k1_off141 _ 64#32)
    (off_word _ _ 4 w15 (hb 15) (by decide)) (k1_off146_eq k) (hRl 15 (by decide))) $$ HG
  iintro HG
  iapply (wp_group (F := F) B d L (show M + 125 = 8 * (N0 + 15) + 5 by omega) (by decide) (off := k1_off141 _ 80#32)
    (off_word _ _ 5 w15 (hb 15) (by decide)) (k1_off147_eq k) (hRl 15 (by decide))) $$ HG
  iintro HG
  iapply (wp_group (F := F) B d L (show M + 126 = 8 * (N0 + 15) + 6 by omega) (by decide) (off := k1_off141 _ 96#32)
    (off_word _ _ 6 w15 (hb 15) (by decide)) (k1_off148_eq k) (hRl 15 (by decide))) $$ HG
  iintro HG
  iapply (wp_group (F := F) B d L (show M + 127 = 8 * (N0 + 15) + 7 by omega) (by decide) (off := k1_off141 _ 112#32)
    (off_word _ _ 7 w15 (hb 15) (by decide)) (k1_off149_eq k) (hRl 15 (by decide))) $$ HG
  iintro HG
  iapply (le_wp_ret _ _)
  isplitl [Hp]; · iexact Hp
  rw [show 8 * nb + 128 * (k.val + 1) = M + 128 by omega]
  iexact HG

end Cert.Proof.Sixteen

end
-- ==== Proof.Chunk.lean ====
/-
  One chunk of 128 list entries: the rows they name are gathered, then the entries are taken into the aggregate.
-/
module

public import proofs.«01_k».proof.Proof.Sixteen
public import Idealize.ShloMosaic.Lib.SparseCore.FromWhole

@[expose] public section

noncomputable section

namespace Cert.Proof.Chunk

open Cert.KernelIdeal Cert.KernelIdeal.Gen Cert.Proof.Setup Cert.Proof.Access Cert.Proof.Fold Cert.Proof.Words Cert.Proof.Group Cert.Proof.Sixteen Cert.Proof.Copy

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (B : Bufs) (d : Dev nD) (L : grid1.Coords)

/-! ## The numbers of the rows to gather -/

/-- The first `m` words are the numbers of the rows the entries from `nb` on name. -/
def SI (E : ℕ → ℕ) (nb m : ℕ) (f : S128.Idx → BitVec 32) : Prop :=
  ∀ j : S128.Idx, (j 0).val < m → (f j).toNat = E (nb + (j 0).val) % 16384

/-- The chunk's entries and the numbers so far. -/
def SS (E : ℕ → ℕ) (fp : B.pcM.view.ty.Contents (Elt F)) (nb m : ℕ) : sProp 𝕄 :=
  iprop(((B.pcM).view.loc (th1 d L) ↦{fullShare} fp) ∗ ∃ f : B.siM.view.ty.Contents (Elt F), ⌜SI E nb m (rd B.siM f)⌝ ∗ ((B.siM).view.loc (th1 d L) ↦{fullShare} f))

/-- The numbers of sixteen entries, from the entries. -/
def rowsOf (v : Vec F S16 .i32) : IVec S16 32 := remsi v (fun _ => 16384#32)

/-- Sixteen numbers are stored. -/
theorem wp_si {α : Type} {E : ℕ → ℕ} {fp : B.pcM.view.ty.Contents (Elt F)} {nb b m : ℕ} (hE : ∀ n, E n ≤ 5128192) (hm : m < 128)
    (hp : ∀ x : S2048.Idx, b ≤ (x 0).val → (x 0).val < b + 128 → (rd B.pcM fp x : BitVec 32).toNat = E (nb + ((x 0).val - b)))
    {off : Fin 1 → ℕ} {inb : ∀ a, off a + S16.size a ≤ S2048.size a} {ro : Fin 1 → ℕ} {inb2 : ∀ a, ro a + S16.size a ≤ S128.size a}
    (ho : off 0 = b + m) (hro : ro 0 = m)
    {hl1 : (B.pcM).view.LoadsAt (Rect.unit (s := S2048) off S16.size inb).toLoadRect}
    {hl2 : (B.siM).view.LoadsAt (Rect.unit (s := S128) ro S16.size inb2).toLoadRect}
    {hx : ((B.siM).access (Rect.unit (s := S128) ro S16.size inb2)).Stores Finset.univ}
    {hm' : (Finset.univ : Finset (Rect.unit (s := S128) ro S16.size inb2).shape.Idx) = Finset.univ ∨ ∀ a, (Rect.unit (s := S128) ro S16.size inb2).stride a = 1}
    {k : PUnit → Prog (TpuEff nD τ sig (Elt F) Λ₀ (th1 d L).2) α} {Q : α → sProp 𝕄} :
    SS (F := F) B d L E fp nb m
      ⊢ iprop((SS (F := F) B d L E fp nb (m + 16) -∗ wp frame (wpE (defs₀ (F := F)) 𝒱₀ (th1 d L) none) Set.univ (k ⟨⟩) Q)
          -∗ wp frame (wpE (defs₀ (F := F)) 𝒱₀ (th1 d L) none) Set.univ
            (.op (.load B.pcM (Rect.unit (s := S2048) off S16.size inb).toLoadRect hl1) fun (v : Vec F S16 .i32) =>
              .op (.load B.siM (Rect.unit (s := S128) ro S16.size inb2).toLoadRect hl2) fun _ =>
              .op (.store B.siM (Rect.unit (s := S128) ro S16.size inb2) (rowsOf v) Finset.univ hx hm') k) Q) := by
  unfold SS
  iintro ⟨Hp, %f, %hf, Hs⟩ Hk
  iapply (wp_load_rect 𝒱₀ (th1 d L) none Set.univ (m := B.pcM) (r := Rect.unit (s := S2048) off S16.size inb) (Finset.subset_univ _)) $$ Hp
  iintro Hp
  iapply (wp_load_rect 𝒱₀ (th1 d L) none Set.univ (m := B.siM) (r := Rect.unit (s := S128) ro S16.size inb2) (Finset.subset_univ _)) $$ Hs
  iintro Hs
  iapply (wp_store 𝒱₀ (th1 d L) none Set.univ (m := B.siM) (r := Rect.unit (s := S128) ro S16.size inb2) (Mk := Finset.univ) (Finset.subset_univ _)) $$ Hs
  iintro Hs
  iapply Hk
  isplitl [Hp]; · iexact Hp
  iexists _; isplitr
  swap; · iexact Hs
  ipureintro
  intro j hj
  have hj128 : (j 0).val < 128 := (j 0).isLt
  have h128 : m + 16 ≤ 128 := by have := inb2 0; rw [hro] at this; exact this
  by_cases hlt : (j 0).val < m
  · exact (congrArg BitVec.toNat (wr_si_out (F := F) B.siM inb2 f _ j (.inl (by omega)))).trans (hf j hlt)
  · have hx : (j 0).val - m < 16 := by omega
    refine (congrArg BitVec.toNat (wr_si (F := F) B.siM inb2 f _ (ix (N := ![16]) ((j 0).val - m) hx) j ?_)).trans ?_
    · rw [hro]; show (j 0).val = m + ((j 0).val - m); omega
    have hb2 : b + (j 0).val < 2048 := by
      have := inb 0; rw [ho] at this
      have h2 : b + m + 16 ≤ 2048 := this
      omega
    have hr : BitVec.toNat (((B.pcM).access (Rect.unit (s := S2048) off S16.size inb)).read (Elt F) fp (ix (N := ![16]) ((j 0).val - m) hx)) = E (nb + (j 0).val) := by
      refine (congrArg BitVec.toNat (rd_pc (F := F) B.pcM inb fp (ix (N := ![16]) ((j 0).val - m) hx) (ix (N := ![2048]) (b + (j 0).val) hb2) ?_)).trans ?_
      · rw [ho]; show b + (j 0).val = b + m + ((j 0).val - m); omega
      · refine (hp _ (show b ≤ b + (j 0).val by omega) (show b + (j 0).val < b + 128 by omega)).trans ?_
        exact congrArg E (show nb + (b + (j 0).val - b) = nb + (j 0).val by omega)
    have hle := hE (nb + (j 0).val)
    show (IntOp.remsi .vector (((B.pcM).access (Rect.unit (s := S2048) off S16.size inb)).read (Elt F) fp (ix (N := ![16]) ((j 0).val - m) hx)) 16384#32).toNat = _
    rw [remsi_nat _ _ _ (lt_of_eq_of_lt hr (by omega)) (by decide) (by decide), hr]
    rfl

/-! ## The gathered rows -/

/-- What the gather leaves: row `r` is the row of `x` that entry `nb + r` names. -/
theorem gathered (E : ℕ → ℕ) (X : ℕ → ℕ → F .f32) (X0 : B.xM.view.ty.Contents (Elt F)) (hX : ∀ j : S10000x128.Idx, rd B.xM X0 j = X (j 0).val (j 1).val) (nb : ℕ)
    (fo : B.siM.view.ty.Contents (Elt F)) (hfo : SI E nb 128 (rd B.siM fo)) (fr : B.rwM.view.ty.Contents (Elt F))
    (hin : ∀ x, ((B.siM).view.read (Elt F) fo x : BitVec 32).toNat < S10000x128.size gathers_S10000x128_S128x128.axis) (j : S128x128.Idx) :
    rd B.rwM ((B.rwM).view.write (Elt F) fr (SparseCore.gatherPayload gathers_S10000x128_S128x128
      (((B.xM).slice (Rect.unit (s := S10000x128) ![0, 0] S10000x128.size inb_S10000x128_S10000x128_0_0) (fun _ => rfl)).view.read (Elt F) X0)
      (SparseCore.rows ((B.siM).view.read (Elt F) fo) rfl hin)) Finset.univ) j
      = X (E (nb + (j 0).val) % 16384) (j 1).val := by
  refine (congrFun (View.read_write_univ (Val := Elt F) (v := (B.rwM).view) fr _) j).trans ?_
  unfold SparseCore.gatherPayload
  have h0 := congrArg Fin.val (Shape.Gathers.idx_axis gathers_S10000x128_S128x128 (SparseCore.rows ((B.siM).view.read (Elt F) fo) rfl hin) j)
  have h1 := Shape.Gathers.idx_of_ne gathers_S10000x128_S128x128 (SparseCore.rows ((B.siM).view.read (Elt F) fo) rfl hin) j 1 (by decide)
  generalize Shape.Gathers.idx gathers_S10000x128_S128x128 (SparseCore.rows ((B.siM).view.read (Elt F) fo) rfl hin) j = y at h0 h1 ⊢
  refine (Cert.Proof.Geometry.vread_eq (Val := Elt F) B.xM inb_S10000x128_S10000x128_0_0 X0 y y
    (fun a => match a with | ⟨0, _⟩ => (Nat.zero_add _).symm | ⟨1, _⟩ => (Nat.zero_add _).symm)).trans ?_
  refine (hX y).trans ?_
  have e0 : (y 0).val = E (nb + (j 0).val) % 16384 := by
    refine h0.trans ?_
    show BitVec.toNat ((B.siM).view.read (Elt F) fo _) = _
    have hj : (j 0).val < 128 := (j 0).isLt
    have e : S128.rowMajor.symm (Fin.cast rfl (j 0) : Fin S128.numel) = ix (N := ![128]) (j 0).val hj := by
      rw [Equiv.symm_apply_eq]
      refine Fin.ext ?_
      rw [Shape.rowMajor_val_one]
      rfl
    refine (congrArg (fun t => BitVec.toNat (rd B.siM fo t : BitVec 32)) e).trans (hfo _ hj)
  have e1 : (y 1).val = (j 1).val := h1
  rw [e0, e1]

/-- The gathered rows, by what they hold. -/
theorem gathered_rows (E : ℕ → ℕ) (X : ℕ → ℕ → F .f32) (X0 : B.xM.view.ty.Contents (Elt F)) (hX : ∀ j : S10000x128.Idx, rd B.xM X0 j = X (j 0).val (j 1).val) (nb : ℕ)
    (fo : B.siM.view.ty.Contents (Elt F)) (hfo : SI E nb 128 (rd B.siM fo)) (fr : B.rwM.view.ty.Contents (Elt F))
    (hin : ∀ x, ((B.siM).view.read (Elt F) fo x : BitVec 32).toNat < S10000x128.size gathers_S10000x128_S128x128.axis) :
    ((B.rwM).view.loc (th1 d L) ↦{fullShare} ((B.rwM).view.write (Elt F) fr (SparseCore.gatherPayload gathers_S10000x128_S128x128
      (((B.xM).slice (Rect.unit (s := S10000x128) ![0, 0] S10000x128.size inb_S10000x128_S10000x128_0_0) (fun _ => rfl)).view.read (Elt F) X0)
      (SparseCore.rows ((B.siM).view.read (Elt F) fo) rfl hin)) Finset.univ) : sProp 𝕄)
      ⊢ iprop(∃ R : B.rwM.view.ty.Contents (Elt F), ⌜∀ j : S128x128.Idx, rd B.rwM R j = X (E (nb + (j 0).val) % 16384) (j 1).val⌝ ∗ ((B.rwM).view.loc (th1 d L) ↦{fullShare} R)) := by
  iintro H
  iexists _; isplitr
  swap; · iexact H
  ipureintro
  exact gathered B E X X0 hX nb fo hfo fr hin

/-! ## The chunk -/

/-- The induction variable of a loop from zero by one. -/
theorem iv_nat (k : ℕ) (h : k < 4294967296) : (Scf.iv (0#32) (1#32) k).toNat = k := by
  show (0#32 + BitVec.ofNat 32 k * 1#32).toNat = k
  rw [BitVec.toNat_add, BitVec.toNat_mul, BitVec.toNat_ofNat]
  simp only [BitVec.toNat_ofNat]
  omega

/-- The signed comparison of small words. -/
theorem slt_iff (v w : BitVec 32) (hv : v.toNat < 2147483648) (hw : w.toNat < 2147483648) :
    Scalar.cmpi .ne (Scalar.extui (Scalar.cmpi .slt v w) : BitVec 32) 0#32 = 1#1 ↔ v.toNat < w.toNat := by
  have e : Scalar.cmpi .ne (Scalar.extui (Scalar.cmpi .slt v w) : BitVec 32) 0#32 = Scalar.cmpi .slt v w := by
    generalize Scalar.cmpi .slt v w = y
    rcases BitVec.eq_zero_or_eq_one y with h | h <;> subst h <;> decide
  rw [e]
  show BitVec.ofBool (BitVec.slt v w) = 1#1 ↔ _
  rw [BitVec.slt_eq_decide, BitVec.toInt_eq_toNat_cond, BitVec.toInt_eq_toNat_cond]
  have ofBool_eq_one (p : Bool) : (BitVec.ofBool p = 1#1) ↔ p = true := by cases p <;> decide
  rw [ofBool_eq_one, decide_eq_true_eq]
  omega

/-- The chunk's guard: its first entry lies within the list. -/
theorem guard (v6 : BitVec 32) (T : ℕ) (hv : v6.toNat = T) (hT : T ≤ 400000) (t2 : Fin (k1_t2_loop v6).trips) (ht2 : t2.val < 200)
    (t3 : Fin k1_t3_loop.trips) : k1_cond1 v6 t2 t3 = 1#1 ↔ 2048 * t2.val + 128 * t3.val < T := by
  have ht3 : t3.val < 16 := lt_of_lt_of_le t3.isLt k1_t3_abs.2.1
  have e2 := iv_nat t2.val (by omega)
  have e3 := iv_nat t3.val (by omega)
  have e : (Scalar.addi (Scalar.muli (Scf.iv (0#32) (1#32) t2.val) 2048#32) (Scalar.muli (Scf.iv (0#32) (1#32) t3.val) 128#32)).toNat
      = 2048 * t2.val + 128 * t3.val := by
    show (Scf.iv (0#32) (1#32) t2.val * 2048#32 + Scf.iv (0#32) (1#32) t3.val * 128#32).toNat = _
    rw [BitVec.toNat_add, BitVec.toNat_mul, BitVec.toNat_mul, e2, e3]
    simp only [BitVec.toNat_ofNat]
    omega
  refine (slt_iff _ v6 (by rw [e]; omega) (by omega)).trans ?_
  rw [e, hv]

/-- Between chunks: the share of `x`, the block's entries, the scratch, the aggregate so far, the semaphore, the waits. -/
def I3 (qx : PosShare TreeShare) (X0 : B.xM.view.ty.Contents (Elt F)) (E : ℕ → ℕ) (X : ℕ → ℕ → F .f32) (fp : B.pcM.view.ty.Contents (Elt F))
    (nb T : ℕ) (O : CellTallies nD τ sig (HIx 10)) (W : Waits sig (HIx 10)) (n : ℕ) (_ : Unit) : sProp 𝕄 :=
  iprop(((B.xM).view.loc (th1 d L) ↦{qx} X0) ∗ ((B.pcM).view.loc (th1 d L) ↦{fullShare} fp)
    ∗ (∃ f : B.siM.view.ty.Contents (Elt F), (B.siM).view.loc (th1 d L) ↦{fullShare} f)
    ∗ (∃ R : B.rwM.view.ty.Contents (Elt F), (B.rwM).view.loc (th1 d L) ↦{fullShare} R)
    ∗ (∃ f : B.agM.view.ty.Contents (Elt F), ⌜Agg E X (8 * min (nb + 128 * n) T) (rd B.agM f)⌝ ∗ ((B.agM).view.loc (th1 d L) ↦{fullShare} f))
    ∗ semVal (th1 d L, .dma B.s5.sem) 0 ∗ OW (th1 d L) O W ∗ Transfers.MayWaits (th1 d L) (default : HIx 10) O)

set_option maxRecDepth 65536 in
set_option maxHeartbeats 2000000 in
/-- One chunk. -/
theorem chunk (qx : PosShare TreeShare) (X0 : B.xM.view.ty.Contents (Elt F)) (E : ℕ → ℕ) (X : ℕ → ℕ → F .f32) (hX : ∀ j : S10000x128.Idx, rd B.xM X0 j = X (j 0).val (j 1).val)
    (hE : ∀ n, E n ≤ 5128192) (hE2 : ∀ n, E n % 16384 < 10000) (fp : B.pcM.view.ty.Contents (Elt F)) (T : ℕ) (hT : T ≤ 400000) (hT2 : 128 ∣ T)
    (O : CellTallies nD τ sig (HIx 10)) (W : Waits sig (HIx 10)) (v6 : BitVec 32) (hv : v6.toNat = T) (t2 : Fin (k1_t2_loop v6).trips) (ht2 : t2.val < 200)
    (hp : ∀ x : S2048.Idx, 2048 * t2.val + (x 0).val < T → (rd B.pcM fp x : BitVec 32).toNat = E (2048 * t2.val + (x 0).val)) (k : Fin k1_t3_loop.trips) (u : Unit) :
    I3 (F := F) B d L qx X0 E X fp (2048 * t2.val) T O W k.val u
      ⊢ wp frame (wpE (defs₀ (F := F)) 𝒱₀ (th1 d L) none) Set.univ
        (k1_t3_body L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4 v6 t2 k u)
        (I3 (F := F) B d L qx X0 E X fp (2048 * t2.val) T O W (k.val + 1)) := by
  have hk : k.val < 16 := lt_of_lt_of_le k.isLt k1_t3_abs.2.1
  unfold I3
  iintro ⟨HX, Hp, ⟨%fi, Hi⟩, ⟨%fr, Hr⟩, ⟨%fa, %hfa, Ha⟩, Hv, HO, #Hmw⟩
  have hg := guard v6 T hv hT t2 ht2 k
  unfold k1_t3_body
  by_cases hlt : 2048 * t2.val + 128 * k.val < T
  · have hcond := hg.2 hlt
    have e1 : min (2048 * t2.val + 128 * k.val) T = 2048 * t2.val + 128 * k.val := by omega
    have e2 : min (2048 * t2.val + 128 * (k.val + 1)) T = 2048 * t2.val + 128 * k.val + 128 := by omega
    rw [e1] at hfa
    rw [e2]
    obtain ⟨nb, hnb⟩ : ∃ nb, nb = 2048 * t2.val + 128 * k.val := ⟨_, rfl⟩
    have hp2 : ∀ x : S2048.Idx, 128 * k.val ≤ (x 0).val → (x 0).val < 128 * k.val + 128 → (rd B.pcM fp x : BitVec 32).toNat = E (nb + ((x 0).val - 128 * k.val)) := by
      intro x h1 h2
      refine (hp x (by omega)).trans (congrArg E (by omega))
    rw [← hnb] at hfa ⊢
    iapply (wp_dif_pos (th1 d L) hcond)
    rw [k1_part29_eq_skeleton]
    ihave HS := (show iprop(((B.pcM).view.loc (th1 d L) ↦{fullShare} fp) ∗ ((B.siM).view.loc (th1 d L) ↦{fullShare} fi)) ⊢ SS (F := F) B d L E fp nb 0 from by
      unfold SS
      iintro ⟨Hp, Hi⟩
      isplitl [Hp]; · iexact Hp
      iexists fi; isplitr
      · ipureintro; exact fun j hj => absurd hj (Nat.not_lt_zero _)
      · iexact Hi) $$ [Hp Hi]
    · isplitl [Hp]; · iexact Hp
      iexact Hi
    iapply (wp_si (F := F) B d L (E := E) (fp := fp) (nb := nb) (b := 128 * k.val) (m := 0) hE (by decide) hp2 (off := k1_off4 k 0#32)
      (ro := ![0]) (congrFun (k1_off4_eq k 0) 0) rfl) $$ HS
    iintro HS
    iapply (wp_si (F := F) B d L (E := E) (fp := fp) (nb := nb) (b := 128 * k.val) (m := 16) hE (by decide) hp2 (off := k1_off4 k 16#32)
      (ro := ![16]) (congrFun (k1_off4_eq k 1) 0) rfl) $$ HS
    iintro HS
    iapply (wp_si (F := F) B d L (E := E) (fp := fp) (nb := nb) (b := 128 * k.val) (m := 32) hE (by decide) hp2 (off := k1_off4 k 32#32)
      (ro := ![32]) (congrFun (k1_off4_eq k 2) 0) rfl) $$ HS
    iintro HS
    iapply (wp_si (F := F) B d L (E := E) (fp := fp) (nb := nb) (b := 128 * k.val) (m := 48) hE (by decide) hp2 (off := k1_off4 k 48#32)
      (ro := ![48]) (congrFun (k1_off4_eq k 3) 0) rfl) $$ HS
    iintro HS
    iapply (wp_si (F := F) B d L (E := E) (fp := fp) (nb := nb) (b := 128 * k.val) (m := 64) hE (by decide) hp2 (off := k1_off4 k 64#32)
      (ro := ![64]) (congrFun (k1_off4_eq k 4) 0) rfl) $$ HS
    iintro HS
    iapply (wp_si (F := F) B d L (E := E) (fp := fp) (nb := nb) (b := 128 * k.val) (m := 80) hE (by decide) hp2 (off := k1_off4 k 80#32)
      (ro := ![80]) (congrFun (k1_off4_eq k 5) 0) rfl) $$ HS
    iintro HS
    iapply (wp_si (F := F) B d L (E := E) (fp := fp) (nb := nb) (b := 128 * k.val) (m := 96) hE (by decide) hp2 (off := k1_off4 k 96#32)
      (ro := ![96]) (congrFun (k1_off4_eq k 6) 0) rfl) $$ HS
    iintro HS
    iapply (wp_si (F := F) B d L (E := E) (fp := fp) (nb := nb) (b := 128 * k.val) (m := 112) hE (by decide) hp2 (off := k1_off4 k 112#32)
      (ro := ![112]) (congrFun (k1_off4_eq k 7) 0) rfl) $$ HS
    iintro HS
    unfold SS
    icases HS with ⟨Hp, %fo, %hfo, Hi⟩
    have hin : ∀ x, ((B.siM).view.read (Elt F) fo x : BitVec 32).toNat < S10000x128.size gathers_S10000x128_S128x128.axis := by
      intro x
      refine lt_of_eq_of_lt (hfo x (x 0).isLt) (hE2 _)
    unfold OW
    icases HO with ⟨%W', %hW', HO⟩
    iapply (SparseCore.wp_gatherFromWhole countersEmb 𝒱₀ (th1 d L) none (hg := gathers_S10000x128_S128x128) (hsp := Or.inl rfl) (hr := by decide) (default : HIx 10)
      (B.rwM).view.dmaCredit (B.credit _) (by decide) hin) $$ [HX Hr Hi Hv]
    · isplitl [HX]; · iexact HX
      isplitl [Hr]; · iexact Hr
      isplitl [Hi]; · iexact Hi
      iexact Hv
    iintro Hfl
    iapply (Transfers.wp_waitLocalO countersEmb 𝒱₀ (th1 d L) none (default : HIx 10) (rfl : (B.rwM).view.dmaCredit = _)) $$ [Hfl HO]
    · isplitl [Hfl]; · iexact Hfl
      isplitl [HO]; · iexact HO
      iapply (Transfers.MayWaits.elim (SemLoc.dma B.s5.sem)) $$ Hmw
    iintro ⟨⟨Hr, HX, Hi⟩, Hv, HO⟩
    ihave HR := (gathered_rows (F := F) B d L E X X0 hX nb fo hfo fr hin) $$ Hr
    icases HR with ⟨%R, %hR, Hr⟩
    have hbody := fun k4 u4 => sixteen (F := F) B d L E X R fp hE v6 t2 k (Scf.iv 0#32 1#32 k.val) hcond nb hp2 hR k4 u4
    iapply (Scf.wp_for_bind frame (wpE (defs₀ (F := F)) 𝒱₀ (th1 d L) none) Set.univ k1_t4_loop.lb k1_t4_loop.ub k1_t4_loop.st k1_t4_ok ⟨⟩ _
      (I4 (F := F) B d L E X R fp (8 * nb))
      hbody) $$ [Hp Hr Ha]
    · unfold I4 GS
      isplitl [Hp]; · iexact Hp
      isplitl [Ha]
      · iexists fa; isplitr
        · ipureintro; exact hfa
        · iexact Ha
      · iexact Hr
    unfold I4 GS
    iintro %u' ⟨Hp, ⟨%fa', %hfa', Ha⟩, Hr⟩
    have ht4 : Scf.trips k1_t4_loop.lb k1_t4_loop.ub k1_t4_loop.st = 8 := by decide
    rw [ht4] at hfa'
    clear ht4
    rw [show 8 * nb + 128 * 8 = 8 * (nb + 128) by omega] at hfa'
    iapply (le_wp_ret _ _)
    isplitl [HX]; · iexact HX
    isplitl [Hp]; · iexact Hp
    isplitl [Hi]; · iexists _; iexact Hi
    isplitl [Hr]; · iexists _; iexact Hr
    isplitl [Ha]
    · iexists fa'; isplitr
      · ipureintro; exact hfa'
      · iexact Ha
    isplitl [Hv]; · iexact Hv
    isplitl [HO]
    · iexists _; isplitr
      swap; · iexact HO
      ipureintro; intro p hp
      rcases Finset.mem_insert.mp hp with hp | hp
      · exact .inr (hp ▸ rfl)
      · exact hW' p hp
    iexact Hmw
  · have hcond : ¬ k1_cond1 v6 t2 k = 1#1 := fun e => hlt (hg.1 e)
    have e1 : min (2048 * t2.val + 128 * k.val) T = T := by omega
    have e2 : min (2048 * t2.val + 128 * (k.val + 1)) T = T := by omega
    rw [e1] at hfa
    rw [e2]
    iapply (wp_dif_neg (th1 d L) hcond)
    iapply (le_wp_ret _ _)
    isplitl [HX]; · iexact HX
    isplitl [Hp]; · iexact Hp
    isplitl [Hi]; · iexists _; iexact Hi
    isplitl [Hr]; · iexists _; iexact Hr
    isplitl [Ha]
    · iexists fa; isplitr
      · ipureintro; exact hfa
      · iexact Ha
    isplitl [Hv]; · iexact Hv
    isplitl [HO]; · iexact HO
    iexact Hmw

end Cert.Proof.Chunk

end
-- ==== Proof.BuildTrip.lean ====
/-
  One trip of the list-building kernel's inner loop: sixteen edges' words are read, and the entries of those that are
  the worker's are put after the ones already in the pack buffer.
-/
module

public import proofs.«01_k».proof.Proof.Copy
public import proofs.«01_k».proof.Proof.Access

@[expose] public section

noncomputable section

namespace Cert.Proof.BuildTrip

open Cert.KernelIdeal Cert.KernelIdeal.Gen Cert.Proof.Setup Cert.Proof.Lists Cert.Proof.Words Cert.Proof.Access

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (d : Dev nD) (L : grid0.Coords) (dE sE : ℕ → ℕ)

/-- The task's thread. -/
abbrev th (d : Dev nD) (L : grid0.Coords) : Thread nD τ := V d (cV L) (jV L)

/-- The pack buffer holds the worker's entries from number `4096 f` on, of the edges below `b`. -/
def Packed (w b f : ℕ) (g : S8192.Idx → BitVec 32) : Prop :=
  ∀ q : S8192.Idx, (q 0).val + 4096 * f < cnt dE w b → (g q).toNat = lst dE sE w ((q 0).val + 4096 * f)

/-- Between the trips of a block: the block's two edge buffers, the count so far, the pack buffer. -/
def I2 (b f : ℕ) (fS fD : S4000.Idx → BitVec 32) (n : ℕ) (c : BitVec 32) : sProp 𝕄 :=
  iprop(((sbM).view.loc (th d L) ↦{fullShare} fS) ∗ ((dbM).view.loc (th d L) ↦{fullShare} fD)
    ∗ ∃ g : S8192.Idx → BitVec 32, ⌜c.toNat + 4096 * f = cnt dE (wk L) (b + 16 * n) ∧ c.toNat < 4096 + 16 * n
          ∧ Packed dE sE (wk L) (b + 16 * n) f g⌝
        ∗ ((pkM).view.loc (th d L) ↦{fullShare} g))

/-- One trip of the inner loop: sixteen edges, the worker's among them packed and stored behind the others. -/
theorem trip (hd : ∀ e, dE e < 10000) (hs : ∀ e, sE e < 10000) (b f : ℕ) (hb : b + 4000 ≤ 320000)
    (fS fD : S4000.Idx → BitVec 32) (hS : ∀ x, (fS x).toNat = sE (b + (x 0).val)) (hD : ∀ x, (fD x).toNat = dE (b + (x 0).val))
    (k : Fin k0_t2_loop.trips) (c : BitVec 32) :
    I2 (F := F) d L dE sE b f fS fD k.val c
      ⊢ wp frame (wpE (defs₀ (F := F)) 𝒱₀ (th d L) none) Set.univ
        (k0_t2_body L srcM (Memref.isWhole_whole _) dstM (Memref.isWhole_whole _) lstM (Memref.isWhole_whole _) cntM (Memref.isWhole_whole _)
          sbM (Memref.isWhole_whole _) dbM (Memref.isWhole_whole _) pkM (Memref.isWhole_whole _) cbM (Memref.isWhole_whole _)
          cc0_scoped0 cc0_scoped1 cc0_scoped2 cc0_scoped3 cc0_scoped4 k c)
        (I2 (F := F) d L dE sE b f fS fD (k.val + 1)) := by
  unfold I2
  iintro ⟨Hs, Hd, %g, %hg, Hp⟩
  obtain ⟨hc, hcb, hp⟩ := hg
  have hk : k.val < 250 := lt_of_lt_of_le k.isLt k0_t2_abs.2.1
  have hb16 : b + 16 * k.val + 16 ≤ 320000 := by omega
  unfold k0_t2_body
  iapply (wp_load_rect 𝒱₀ (th d L) none Set.univ (m := dbM) (r := Rect.unit (s := S4000) (k0_off2 k) S16.size (k0_off2_inb k)) (Finset.subset_univ _)) $$ Hd
  iintro Hd
  iapply (wp_load_rect 𝒱₀ (th d L) none Set.univ (m := sbM) (r := Rect.unit (s := S4000) (k0_off2 k) S16.size (k0_off2_inb k)) (Finset.subset_univ _)) $$ Hs
  iintro Hs
  generalize hvd : ((dbM).access (Rect.unit (s := S4000) (k0_off2 k) S16.size (k0_off2_inb k))).read (Elt F) fD = vd
  generalize hvs : ((sbM).access (Rect.unit (s := S4000) (k0_off2 k) S16.size (k0_off2_inb k))).read (Elt F) fS = vs
  have e16 : b + 16 * (k.val + 1) = b + 16 * k.val + 16 := by omega
  have hvD : ∀ x : S16.Idx, (vd x).toNat = dE (b + 16 * k.val + (x 0).val) := by
    intro x
    subst hvd
    have hx : (x 0).val < 16 := (x 0).isLt
    have e := rd_db (F := F) (k0_off2_inb k) fD x (ix (N := ![4000]) (16 * k.val + (x 0).val) (show _ < 4000 by omega))
      (by rw [k0_off2_eq]; rfl)
    refine (congrArg BitVec.toNat e).trans ((hD _).trans ?_)
    exact congrArg dE (Nat.add_assoc _ _ _).symm
  have hvS : ∀ x : S16.Idx, (vs x).toNat = sE (b + 16 * k.val + (x 0).val) := by
    intro x
    subst hvs
    have hx : (x 0).val < 16 := (x 0).isLt
    have e := rd_sb (F := F) (k0_off2_inb k) fS x (ix (N := ![4000]) (16 * k.val + (x 0).val) (show _ < 4000 by omega))
      (by rw [k0_off2_eq]; rfl)
    refine (congrArg BitVec.toNat e).trans ((hS _).trans ?_)
    exact congrArg sE (Nat.add_assoc _ _ _).symm
  have hc2 : c.toNat < 8112 := by omega
  have hof := fun x => offs_cnt dE hd L _ hb16 vd hvD c f hc hc2 x
  have hadd := fun x => cnt_le_add dE (wk L) (b + 16 * k.val) (x : ℕ)
  have hchk : k0_chk1 (k0_pay3 L c vd) := by
    intro a x
    rw [Subsingleton.elim a 0]
    show (k0_pay3 L c vd x).toNat < 8192
    have hx : (x 0).val < 16 := (x 0).isLt
    have := hof x; have := hadd (x 0).val; omega
  iapply (wp_assume 𝒱₀ (th d L) none Set.univ hchk)
  ihave Hp2 := (Entails.of_eq (show ((pkM).view.loc (th d L) ↦{fullShare} g : sProp 𝕄)
    = ((pkM).access (.whole S8192)).loc (th d L) ↦[((pkM).access (.whole S8192)).set]{fullShare} g by
      rw [show ((pkM).access (.whole S8192)).set = Finset.univ from Memref.set_access_whole (cc0_scratch2 : Ref sig .scVector)])) $$ Hp
  iapply (SparseCore.wp_vectorStoreIdx 𝒱₀ (th d L) none Set.univ (base := pkM)) $$ Hp2
  iintro Hp2
  ihave Hp3 := (Entails.of_eq (show (((pkM).access (.whole S8192)).loc (th d L) ↦[((pkM).access (.whole S8192)).set]{fullShare} _ : sProp 𝕄)
    = ((pkM).view.loc (th d L) ↦{fullShare} _ : sProp 𝕄) by
      rw [show ((pkM).access (.whole S8192)).set = Finset.univ from Memref.set_access_whole (cc0_scratch2 : Ref sig .scVector)])) $$ Hp2
  iapply (le_wp_ret _ _)
  isplitl [Hs]; · iexact Hs
  isplitl [Hd]; · iexact Hd
  iexists _; isplitr
  swap; · iexact Hp3
  ipureintro
  have htot := total_cnt (F := F) dE hd L _ hb16 vd hvD
  have h16 := cnt_le_add dE (wk L) (b + 16 * k.val) 16
  have hadd2 : (Scalar.addi c (extractAt ![15] (k0_pay5 (F := F) L vd) inpos_S16_p15)).toNat = c.toNat + (extractAt ![15] (k0_pay5 (F := F) L vd) inpos_S16_p15).toNat := by
    show (c + _).toNat = _
    rw [BitVec.toNat_add]
    omega
  refine ⟨?_, ?_, ?_⟩
  · rw [e16]; omega
  · omega
  · rw [e16]
    intro q hq
    rw [show ((pkM).access (.whole S8192)).read (Elt F) g = g from Memref.read_access_whole (Elt F) cc0_scratch2 g]
    refine (congrArg BitVec.toNat (congrFun (Memref.write_access_whole_univ (Elt F) (cc0_scratch2 : Ref sig .scVector) g _) q)).trans ?_
    refine store_step dE sE (wk L) (b + 16 * k.val) f rfl g _ _ _ _ (fun l => mask_mt dE hd L _ hb16 vd hvD _) (fun l _ => hof _)
      (fun l hl => packed dE sE hd hs L _ hb16 vd vs hvD hvS _ hl) hp q hq

end Cert.Proof.BuildTrip

end
-- ==== Proof.RowAccess.lean ====
/-
  A piece of one row of the lists and of the counts, as the tasks' transfers address it: which elements it is, what it
  reads, what a transfer into it leaves.
-/
module

public import proofs.«01_k».proof.Proof.Setup

@[expose] public section

noncomputable section

namespace Cert.Proof.RowAccess

open Cert.KernelIdeal Cert.KernelIdeal.Gen Cert.Proof.Setup Cert.Proof.Geometry

open Idealize.ShloMosaic

variable {F : FTy → Type} [FloatOps F] [Named F]

/-- Element `x` of a one-row box with its row axis squeezed away. -/
theorem row_emb {κ : Kind} {sp : Space} {e : EltTy} {n : ℕ} {N : Fin 2 → ℕ} (v : View sig κ sp ⟨2, N⟩ e) (off : Fin 2 → ℕ)
    (inb : ∀ a, off a + (![1, n] : Fin 2 → ℕ) a ≤ (⟨2, N⟩ : Shape).size a) (h : (⟨1, ![n]⟩ : Shape).numel = (⟨2, ![1, n]⟩ : Shape).numel)
    (x : (⟨1, ![n]⟩ : Shape).Idx) (j : (⟨2, N⟩ : Shape).Idx) (h0 : (j 0).val = off 0) (h1 : (j 1).val = off 1 + (x 0).val) :
    ((v.slice (Rect.unit (s := ⟨2, N⟩) off ![1, n] inb)).reshape ⟨1, ![n]⟩ h).emb x = v.emb j := by
  show v.emb ((Rect.unit (s := ⟨2, N⟩) off ![1, n] inb).emb (Shape.reshapeEquiv h x)) = v.emb j
  rw [squeeze_idx h.symm x (fun | ⟨0, _⟩ => (0 : Fin 1) | ⟨1, _⟩ => x 0) rfl]
  congr 1
  funext a
  apply Fin.ext
  match a with
  | ⟨0, _⟩ => show off 0 + 1 * 0 = (j 0).val; omega
  | ⟨1, _⟩ => show off 1 + 1 * (x 0).val = (j 1).val; omega

section

variable {κ : Kind} {sp : Space} {e : EltTy} {n : ℕ} {N : Fin 2 → ℕ} (v : View sig κ sp ⟨2, N⟩ e) (off : Fin 2 → ℕ)
    (inb : ∀ a, off a + (![1, n] : Fin 2 → ℕ) a ≤ (⟨2, N⟩ : Shape).size a) (h : (⟨1, ![n]⟩ : Shape).numel = (⟨2, ![1, n]⟩ : Shape).numel)

/-- An element outside the box's columns, or off its row, is not one of its. -/
theorem row_not_mem (j : (⟨2, N⟩ : Shape).Idx) (hj : (j 0).val ≠ off 0 ∨ (j 1).val < off 1 ∨ off 1 + n ≤ (j 1).val) :
    v.emb j ∉ ((v.slice (Rect.unit (s := ⟨2, N⟩) off ![1, n] inb)).reshape ⟨1, ![n]⟩ h).set := by
  intro hm
  obtain ⟨x, -, hx⟩ := Finset.mem_map.mp hm
  have h2 := v.emb.injective hx
  have hx0 := ((Shape.reshapeEquiv h x) 0).isLt
  have hx1 := ((Shape.reshapeEquiv h x) 1).isLt
  have e0 : (j 0).val = off 0 + 1 * ((Shape.reshapeEquiv h x) 0).val := by rw [← h2]; rfl
  have e1 : (j 1).val = off 1 + 1 * ((Shape.reshapeEquiv h x) 1).val := by rw [← h2]; rfl
  have b0 : ((Shape.reshapeEquiv h x) 0).val < 1 := hx0
  have b1 : ((Shape.reshapeEquiv h x) 1).val < n := hx1
  omega

end

/-! ## The lists -/

/-- `4096` words of a row of the lists. -/
abbrev lpiece (off : Fin 2 → ℕ) (inb : ∀ a, off a + S1x4096.size a ≤ S32x323584.size a) : Memref sig .scVector .hbm S4096 .i32 :=
  ((lstM).slice (Rect.unit (s := S32x323584) off S1x4096.size inb) (fun _ => rfl)).squeeze S4096 squeezes_S1x4096_S4096

/-- `2048` words of a row of the lists. -/
abbrev lchunk (off : Fin 2 → ℕ) (inb : ∀ a, off a + S1x2048.size a ≤ S32x323584.size a) : Memref sig .scVector .hbm S2048 .i32 :=
  ((lstM).slice (Rect.unit (s := S32x323584) off S1x2048.size inb) (fun _ => rfl)).squeeze S2048 squeezes_S1x2048_S2048

/-- A row of the counts. -/
abbrev crow (off : Fin 2 → ℕ) (inb : ∀ a, off a + S1x16.size a ≤ S32x16.size a) : Memref sig .scVector .hbm S16 .i32 :=
  ((cntM).slice (Rect.unit (s := S32x16) off S1x16.size inb) (fun _ => rfl)).squeeze S16 squeezes_S1x16_S16

/-- Row `w` of the lists. -/
def lrow (w : ℕ) : Finset S32x323584.Idx := Finset.univ.filter fun j => (j 0).val = w

/-- Row `w` of the counts. -/
def ccrow (w : ℕ) : Finset S32x16.Idx := Finset.univ.filter fun j => (j 0).val = w

/-- A piece of a row of the lists lies in the row. -/
theorem lpiece_subset (off : Fin 2 → ℕ) (inb) : (lpiece off inb).view.set ⊆ lrow (off 0) := by
  intro j hj
  by_contra hn
  exact row_not_mem (n := 4096) (lstM).view off inb squeezes_S1x4096_S4096.numel_eq j
    (.inl fun e => hn (Finset.mem_filter.mpr ⟨Finset.mem_univ _, e⟩)) hj

/-- A chunk of a row of the lists lies in the row. -/
theorem lchunk_subset (off : Fin 2 → ℕ) (inb) : (lchunk off inb).view.set ⊆ lrow (off 0) := by
  intro j hj
  by_contra hn
  exact row_not_mem (n := 2048) (lstM).view off inb squeezes_S1x2048_S2048.numel_eq j
    (.inl fun e => hn (Finset.mem_filter.mpr ⟨Finset.mem_univ _, e⟩)) hj

/-- A row of the counts is the row. -/
theorem crow_subset (off : Fin 2 → ℕ) (inb) : (crow off inb).view.set ⊆ ccrow (off 0) := by
  intro j hj
  by_contra hn
  exact row_not_mem (n := 16) (cntM).view off inb squeezes_S1x16_S16.numel_eq j
    (.inl fun e => hn (Finset.mem_filter.mpr ⟨Finset.mem_univ _, e⟩)) hj

/-- A transfer into a piece of the lists, at an element of the piece. -/
theorem wr_lpiece (off : Fin 2 → ℕ) (inb) (f : S32x323584.Idx → BitVec 32) (w : S4096.Idx → BitVec 32) (x : S4096.Idx) (j : S32x323584.Idx)
    (h0 : (j 0).val = off 0) (h1 : (j 1).val = off 1 + (x 0).val) :
    ((lpiece off inb).view.write (Elt F) f w Finset.univ : S32x323584.Idx → BitVec 32) j = w x := by
  have e : (lpiece off inb).view.emb x = j := row_emb (n := 4096) (lstM).view off inb squeezes_S1x4096_S4096.numel_eq x j h0 h1
  exact e ▸ (View.write_emb_of_mem (Val := Elt F) (v := (lpiece off inb).view) f w (Finset.mem_univ x)).trans rfl

/-- A transfer into a piece of the lists, at an element not of the piece. -/
theorem wr_lpiece_out (off : Fin 2 → ℕ) (inb) (f : S32x323584.Idx → BitVec 32) (w : S4096.Idx → BitVec 32) (j : S32x323584.Idx)
    (hj : (j 0).val ≠ off 0 ∨ (j 1).val < off 1 ∨ off 1 + 4096 ≤ (j 1).val) :
    ((lpiece off inb).view.write (Elt F) f w Finset.univ : S32x323584.Idx → BitVec 32) j = f j :=
  View.write_of_not_mem (Val := Elt F) (v := (lpiece off inb).view) f w Finset.univ
    (row_not_mem (n := 4096) (lstM).view off inb squeezes_S1x4096_S4096.numel_eq j hj)

/-- A read of a chunk of the lists. -/
theorem rd_lchunk (off : Fin 2 → ℕ) (inb) (f : S32x323584.Idx → BitVec 32) (x : S2048.Idx) (j : S32x323584.Idx)
    (h0 : (j 0).val = off 0) (h1 : (j 1).val = off 1 + (x 0).val) :
    ((lchunk off inb).view.read (Elt F) f x : BitVec 32) = f j := by
  have e : (lchunk off inb).view.emb x = j := row_emb (n := 2048) (lstM).view off inb squeezes_S1x2048_S2048.numel_eq x j h0 h1
  exact e ▸ (View.read_apply (Val := Elt F) (v := (lchunk off inb).view) f x).trans (cast_eq _ _)

/-- A transfer into a row of the counts, at an element of the row. -/
theorem wr_crow (off : Fin 2 → ℕ) (inb) (f : S32x16.Idx → BitVec 32) (w : S16.Idx → BitVec 32) (x : S16.Idx) (j : S32x16.Idx)
    (h0 : (j 0).val = off 0) (h1 : (j 1).val = off 1 + (x 0).val) :
    ((crow off inb).view.write (Elt F) f w Finset.univ : S32x16.Idx → BitVec 32) j = w x := by
  have e : (crow off inb).view.emb x = j := row_emb (n := 16) (cntM).view off inb squeezes_S1x16_S16.numel_eq x j h0 h1
  exact e ▸ (View.write_emb_of_mem (Val := Elt F) (v := (crow off inb).view) f w (Finset.mem_univ x)).trans rfl

/-- A read of a row of the counts. -/
theorem rd_crow (off : Fin 2 → ℕ) (inb) (f : S32x16.Idx → BitVec 32) (x : S16.Idx) (j : S32x16.Idx)
    (h0 : (j 0).val = off 0) (h1 : (j 1).val = off 1 + (x 0).val) :
    ((crow off inb).view.read (Elt F) f x : BitVec 32) = f j := by
  have e : (crow off inb).view.emb x = j := row_emb (n := 16) (cntM).view off inb squeezes_S1x16_S16.numel_eq x j h0 h1
  exact e ▸ (View.read_apply (Val := Elt F) (v := (crow off inb).view) f x).trans (cast_eq _ _)

end Cert.Proof.RowAccess

end
-- ==== Proof.BuildBlock.lean ====
/-
  One block of the list-building kernel: its edges' words are fetched, its trips run, and a full piece of the pack
  buffer, if there is one, goes to the worker's row of the lists.
-/
module

public import proofs.«01_k».proof.Proof.BuildTrip
public import proofs.«01_k».proof.Proof.RowAccess

@[expose] public section

noncomputable section

namespace Cert.Proof.BuildBlock

open Cert.KernelIdeal Cert.KernelIdeal.Gen Cert.Proof.Setup Cert.Proof.Lists Cert.Proof.Words Cert.Proof.Access
open Cert.Proof.Geometry Cert.Proof.RowAccess Cert.Proof.Copy Cert.Proof.BuildTrip

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (d : Dev nD) (L : grid0.Coords)

/-! ## The pack buffer moved down -/

/-- After `n` trips of the move: the first `16 n` words are those from `4096` on, the others as they were. -/
def I3 (g0 : S8192.Idx → BitVec 32) (n : ℕ) (_ : PUnit) : sProp 𝕄 :=
  iprop(∃ g : S8192.Idx → BitVec 32,
    ⌜(∀ q r : S8192.Idx, (q 0).val < 16 * n → (r 0).val = (q 0).val + 4096 → g q = g0 r) ∧ ∀ q : S8192.Idx, 16 * n ≤ (q 0).val → g q = g0 q⌝
      ∗ ((pkM).view.loc (th d L) ↦{fullShare} g))

/-- One trip of the loop that moves the buffer's upper half down. -/
theorem move (g0 : S8192.Idx → BitVec 32) (k : Fin k0_t3_loop.trips) (u : PUnit) :
    I3 (F := F) d L g0 k.val u
      ⊢ wp frame (wpE (defs₀ (F := F)) 𝒱₀ (th d L) none) Set.univ
        (k0_t3_body L srcM (Memref.isWhole_whole _) dstM (Memref.isWhole_whole _) lstM (Memref.isWhole_whole _) cntM (Memref.isWhole_whole _)
          sbM (Memref.isWhole_whole _) dbM (Memref.isWhole_whole _) pkM (Memref.isWhole_whole _) cbM (Memref.isWhole_whole _)
          cc0_scoped0 cc0_scoped1 cc0_scoped2 cc0_scoped3 cc0_scoped4 k u)
        (I3 (F := F) d L g0 (k.val + 1)) := by
  unfold I3
  iintro ⟨%g, %hg, Hp⟩
  obtain ⟨h1, h2⟩ := hg
  have hk : k.val < 256 := lt_of_lt_of_le k.isLt k0_t3_abs.2.1
  unfold k0_t3_body
  iapply (wp_load_rect 𝒱₀ (th d L) none Set.univ (m := pkM) (r := Rect.unit (s := S8192) (k0_off4 k) S16.size (k0_off4_inb k)) (Finset.subset_univ _)) $$ Hp
  iintro Hp
  iapply (wp_load_rect 𝒱₀ (th d L) none Set.univ (m := pkM) (r := Rect.unit (s := S8192) (k0_off5 k) S16.size (k0_off5_inb k)) (Finset.subset_univ _)) $$ Hp
  iintro Hp
  iapply (wp_store 𝒱₀ (th d L) none Set.univ (m := pkM) (r := Rect.unit (s := S8192) (k0_off5 k) S16.size (k0_off5_inb k)) (Mk := Finset.univ) (Finset.subset_univ _)) $$ Hp
  iintro Hp
  iapply (le_wp_ret _ _)
  iexists _; isplitr
  swap; · iexact Hp
  ipureintro
  have o4 : k0_off4 k 0 = 16 * k.val + 4096 := congrFun (k0_off4_eq k) 0
  have o5 : k0_off5 k 0 = 16 * k.val := congrFun (k0_off5_eq k) 0
  refine ⟨fun q r hq hr => ?_, fun q hq => ?_⟩
  · by_cases hlt : (q 0).val < 16 * k.val
    · exact (wr_pk_out (F := F) (k0_off5_inb k) g _ q (.inl (by omega))).trans (h1 q r hlt hr)
    · have hx : (q 0).val - 16 * k.val < 16 := by omega
      refine (wr_pk (F := F) (k0_off5_inb k) g _ (ix (N := ![16]) ((q 0).val - 16 * k.val) hx) q ?_).trans ?_
      · show (q 0).val = k0_off5 k 0 + ((q 0).val - 16 * k.val); omega
      · refine (rd_pk (F := F) (k0_off4_inb k) g _ r ?_).trans (h2 r (by omega))
        show (r 0).val = k0_off4 k 0 + ((q 0).val - 16 * k.val); omega
  · refine (wr_pk_out (F := F) (k0_off5_inb k) g _ q (.inr ?_)).trans (h2 q (by omega))
    show k0_off5 k 0 + 16 ≤ _; omega

/-! ## The words of a block's end -/

/-- The flush condition compares the count with 4096. -/
theorem cond1_word (v : BitVec 32) : k0_cond1 v = Scalar.cmpi .sge v 4096#32 := by
  show Scalar.cmpi .ne (Scalar.extui (Scalar.cmpi .sge v 4096#32) : BitVec 32) 0#32 = _
  generalize Scalar.cmpi .sge v 4096#32 = y
  rcases BitVec.eq_zero_or_eq_one y with h | h <;> subst h <;> decide

/-- The count has reached a piece's size. -/
theorem cond1_iff (v : BitVec 32) (h : v.toNat < 2147483648) : k0_cond1 v = 1#1 ↔ 4096 ≤ v.toNat := by
  have e := cond1_word v
  rw [e]
  show BitVec.ofBool (BitVec.sle 4096#32 v) = 1#1 ↔ _
  rw [BitVec.sle_eq_decide, BitVec.toInt_eq_toNat_cond, BitVec.toInt_eq_toNat_cond]
  have ofBool_eq_one (p : Bool) : (BitVec.ofBool p = 1#1) ↔ p = true := by cases p <;> decide
  rw [ofBool_eq_one, decide_eq_true_eq]
  simp only [BitVec.toNat_ofNat]
  omega

/-- The comparison of a small word with 4096, in numbers. -/
theorem cmp_word (v : BitVec 32) (h : v.toNat < 2147483648) :
    Scalar.cmpi .sge v 4096#32 = if 4096 ≤ v.toNat then 1#1 else 0#1 := by
  have e := cond1_word v
  have := cond1_iff v h
  rw [e] at this
  split
  · exact this.2 ‹_›
  · rcases BitVec.eq_zero_or_eq_one (Scalar.cmpi .sge v 4096#32) with h1 | h1
    · exact h1
    · exact absurd (this.1 h1) ‹_›

/-- Where a flushed block goes: the worker's row, 4096 words per block. -/
theorem off3_eq (f : ℕ) (hf : f < 79) : k0_off3 L (BitVec.ofNat 32 f) = ![wk L, 4096 * f] := by
  have hw := wk_lt L
  unfold k0_off3
  simp only [wk_word]
  have e1 : (BitVec.ofNat 32 (wk L)).toNat = wk L := by rw [BitVec.toNat_ofNat]; omega
  have e2 : (Scalar.muli (BitVec.ofNat 32 f) 4096#32).toNat = 4096 * f := by
    show (BitVec.ofNat 32 f * 4096#32).toNat = _
    rw [BitVec.toNat_mul, BitVec.toNat_ofNat, BitVec.toNat_ofNat]; omega
  rw [e1, e2]

/-- Where the wait of a flushed block looks: the same place. -/
theorem off7_eq (f : ℕ) (hf : f < 79) : k0_off7 L (BitVec.ofNat 32 f) = ![wk L, 4096 * f] := off3_eq L f hf

/-! ## The block -/

/-- Row `w` of the lists holds the worker's first `4096 f` entries. -/
def Rows (dE sE : ℕ → ℕ) (w f : ℕ) (h : S32x323584.Idx → BitVec 32) : Prop :=
  ∀ j : S32x323584.Idx, (j 0).val = w → (j 1).val < 4096 * f → (h j).toNat = lst dE sE w (j 1).val

/-- Between blocks: the edge arrays' shares, the scratch, the row of the lists, the semaphores, the waits. -/
def I1 (qs : PosShare TreeShare) (As Ad : S320000.Idx → BitVec 32) (O : CellTallies nD τ sig (HIx 10)) (W : Waits sig (HIx 10))
    (n : ℕ) (c : BitVec 32 × BitVec 32) : sProp 𝕄 :=
  iprop(((srcM).view.loc (th d L) ↦{qs} As) ∗ ((dstM).view.loc (th d L) ↦{qs} Ad)
    ∗ (∃ f : S4000.Idx → BitVec 32, (sbM).view.loc (th d L) ↦{fullShare} f) ∗ (∃ f : S4000.Idx → BitVec 32, (dbM).view.loc (th d L) ↦{fullShare} f)
    ∗ (∃ (f : ℕ) (g : S8192.Idx → BitVec 32) (h : S32x323584.Idx → BitVec 32),
        ⌜c.2 = BitVec.ofNat 32 f ∧ c.1.toNat + 4096 * f = cnt (wd Ad) (wk L) (4000 * n) ∧ c.1.toNat < 4096
          ∧ Packed (wd Ad) (wd As) (wk L) (4000 * n) f g ∧ Rows (wd Ad) (wd As) (wk L) f h⌝
        ∗ ((pkM).view.loc (th d L) ↦{fullShare} g) ∗ ((lstM).view.loc (th d L) ↦[lrow (wk L)]{fullShare} h))
    ∗ semVal (th d L, .dma cc0_scoped0.sem) 0 ∗ semVal (th d L, .dma cc0_scoped1.sem) 0 ∗ semVal (th d L, .dma cc0_scoped2.sem) 0
    ∗ OW (th d L) O W ∗ Transfers.MayWaits (th d L) (default : HIx 10) O)

/-- Taking one flushed piece off the counter and counting it as flushed keeps the total. -/
theorem flush_count (c f x : ℕ) (h : c + 4096 * f = x) (h2 : 4096 ≤ c) :
    c - 4096 + 4096 * (f + 1) = x := by omega

set_option maxHeartbeats 1000000 in
/-- One block of 4000 edges: both copies in, the inner loop, the flush and the move where the buffer is full enough. -/
theorem block (qs : PosShare TreeShare) (As Ad : S320000.Idx → BitVec 32) (hs : ∀ j, (As j).toNat < 10000) (hd : ∀ j, (Ad j).toNat < 10000)
    (O : CellTallies nD τ sig (HIx 10)) (W : Waits sig (HIx 10)) (k : Fin k0_t1_loop.trips) (c : BitVec 32 × BitVec 32) :
    I1 (F := F) d L qs As Ad O W k.val c
      ⊢ wp frame (wpE (defs₀ (F := F)) 𝒱₀ (th d L) none) Set.univ
        (k0_t1_body L srcM (Memref.isWhole_whole _) dstM (Memref.isWhole_whole _) lstM (Memref.isWhole_whole _) cntM (Memref.isWhole_whole _)
          sbM (Memref.isWhole_whole _) dbM (Memref.isWhole_whole _) pkM (Memref.isWhole_whole _) cbM (Memref.isWhole_whole _)
          cc0_scoped0 cc0_scoped1 cc0_scoped2 cc0_scoped3 cc0_scoped4 k c)
        (I1 (F := F) d L qs As Ad O W (k.val + 1)) := by
  unfold I1
  obtain ⟨c, nf⟩ := c
  iintro ⟨HA, HB, ⟨%fs, Hs⟩, ⟨%fd, Hd⟩, ⟨%f, %g, %h, %hf, Hp, Hl⟩, Hv0, Hv1, Hv2, HO, #Hmw⟩
  obtain ⟨hnf, hc, hcb, hpk, hrow⟩ := hf
  have hk : k.val < 80 := lt_of_lt_of_le k.isLt k0_t1_abs.2.1
  have hf79 : f < 79 := by have := cnt_le (wd Ad) (wk L) (4000 * k.val); omega
  dsimp only at hnf hc hcb
  unfold k0_t1_body
  iapply (wp_copy (th d L) rfl (View.dmaCredit_pos _ (by decide)) (Finset.subset_univ _) (Finset.subset_univ _)) $$ [HA Hs Hv0 HO]
  · isplitl [HA]; · iexact HA
    isplitl [Hs]; · iexact Hs
    isplitl [Hv0]; · iexact Hv0
    isplitl [HO]; · iexact HO
    iexact Hmw
  iintro ⟨HA, Hs, Hv0, HO⟩
  iapply (wp_copy (th d L) rfl (View.dmaCredit_pos _ (by decide)) (Finset.subset_univ _) (Finset.subset_univ _)) $$ [HB Hd Hv1 HO]
  · isplitl [HB]; · iexact HB
    isplitl [Hd]; · iexact Hd
    isplitl [Hv1]; · iexact Hv1
    isplitl [HO]; · iexact HO
    iexact Hmw
  iintro ⟨HB, Hd, Hv1, HO⟩
  have hfS : ∀ x : S4000.Idx, ((((srcM).slice (Rect.unit (s := S320000) (k0_off1 k) S4000.size (k0_off1_inb k)) (fun _ => rfl)).view.read (Elt F) As x : BitVec 32)).toNat
      = wd As (4000 * k.val + (x 0).val) := fun x => by
    have hx : (x 0).val < 4000 := (x 0).isLt
    refine (congrArg BitVec.toNat (read_eq (Val := Elt F) main_v1_scv (k0_off1_inb k) As x (ix (N := ![320000]) (4000 * k.val + (x 0).val) (show _ < 320000 by omega))
      (fun a => match a with | ⟨0, _⟩ => congrArg (· + (x 0).val) (congrFun (k0_off1_eq k) 0).symm))).trans ?_
    exact wd_eq As _ _ rfl
  have hfD : ∀ x : S4000.Idx, ((((dstM).slice (Rect.unit (s := S320000) (k0_off1 k) S4000.size (k0_off1_inb k)) (fun _ => rfl)).view.read (Elt F) Ad x : BitVec 32)).toNat
      = wd Ad (4000 * k.val + (x 0).val) := fun x => by
    have hx : (x 0).val < 4000 := (x 0).isLt
    refine (congrArg BitVec.toNat (read_eq (Val := Elt F) main_v3_scv (k0_off1_inb k) Ad x (ix (N := ![320000]) (4000 * k.val + (x 0).val) (show _ < 320000 by omega))
      (fun a => match a with | ⟨0, _⟩ => congrArg (· + (x 0).val) (congrFun (k0_off1_eq k) 0).symm))).trans ?_
    exact wd_eq Ad _ _ rfl
  ihave Hs := (Entails.of_eq (congrArg (fun f => ((sbM).view.loc (th d L) ↦{fullShare} f : sProp 𝕄)) (View.write_whole_univ (Val := Elt F) cc0_scratch0 fs _))) $$ Hs
  ihave Hd := (Entails.of_eq (congrArg (fun f => ((dbM).view.loc (th d L) ↦{fullShare} f : sProp 𝕄)) (View.write_whole_univ (Val := Elt F) cc0_scratch1 fd _))) $$ Hd
  iapply (Scf.wp_for_bind frame (wpE (defs₀ (F := F)) 𝒱₀ (th d L) none) Set.univ k0_t2_loop.lb k0_t2_loop.ub k0_t2_loop.st k0_t2_ok c _
    (I2 (F := F) d L (wd Ad) (wd As) (4000 * k.val) f
      (((srcM).slice (Rect.unit (s := S320000) (k0_off1 k) S4000.size (k0_off1_inb k)) (fun _ => rfl)).view.read (Elt F) As)
      (((dstM).slice (Rect.unit (s := S320000) (k0_off1 k) S4000.size (k0_off1_inb k)) (fun _ => rfl)).view.read (Elt F) Ad))
    (fun k2 c2 => trip d L (wd Ad) (wd As) (wd_lt Ad hd) (wd_lt As hs) (4000 * k.val) f (by omega) _ _ hfS hfD k2 c2)) $$ [Hs Hd Hp]
  · unfold I2
    isplitl [Hs]; · iexact Hs
    isplitl [Hd]; · iexact Hd
    iexists g; isplitr
    · ipureintro; exact ⟨hc, by omega, hpk⟩
    · iexact Hp
  unfold I2
  iintro %c' ⟨Hs, Hd, %g', %hg', Hp⟩
  obtain ⟨hc', hcb', hpk'⟩ := hg'
  have ht2 : Scf.trips k0_t2_loop.lb k0_t2_loop.ub k0_t2_loop.st = 250 := by decide
  rw [ht2] at hc' hcb' hpk'
  clear ht2
  have e4000 : 4000 * k.val + 16 * 250 = 4000 * (k.val + 1) := by omega
  rw [e4000] at hc' hpk'
  have hcl : c'.toNat < 2147483648 := by omega
  have hchk : k0_chk2 L nf c' := by
    intro _ a
    rw [hnf, off3_eq L f hf79]
    have := wk_lt L
    match a with
    | ⟨0, _⟩ => show wk L + 1 ≤ 32; omega
    | ⟨1, _⟩ => show 4096 * f + 4096 ≤ 323584; omega
  iapply (wp_assume 𝒱₀ (th d L) none Set.univ hchk)
  by_cases hge : 4096 ≤ c'.toNat
  · have hA : c'.toNat - 4096 + 4096 * (f + 1) = cnt (wd Ad) (wk L) (4000 * (k.val + 1)) :=
      flush_count _ _ _ hc' hge
    have hlt : c'.toNat - 4096 < 4096 := by omega
    have haux : ∀ n, n < 4096 → n + 4096 < 8192 := fun n hn => by omega
    have hcond := (cond1_iff c' hcl).2 hge
    have ho3 : k0_off3 L nf = ![wk L, 4096 * f] := hnf ▸ off3_eq L f hf79
    have hrow0 : k0_off3 L nf 0 = wk L := congrFun ho3 0
    have hrow1 : k0_off3 L nf 1 = 4096 * f := congrFun ho3 1
    iapply (wp_dif_pos (th d L) hcond)
    iapply (wp_copy (th d L) rfl (View.dmaCredit_pos _ (by decide)) (Finset.subset_univ _)
      ((lpiece_subset _ _).trans (le_of_eq (congrArg lrow hrow0)))) $$ [Hp Hl Hv2 HO]
    · isplitl [Hp]; · iexact Hp
      isplitl [Hl]; · iexact Hl
      isplitl [Hv2]; · iexact Hv2
      isplitl [HO]; · iexact HO
      iexact Hmw
    iintro ⟨Hp, Hl, Hv2, HO⟩
    iapply (Scf.wp_for_bind frame (wpE (defs₀ (F := F)) 𝒱₀ (th d L) none) Set.univ k0_t3_loop.lb k0_t3_loop.ub k0_t3_loop.st k0_t3_ok ⟨⟩ _
      (I3 (F := F) d L g') (fun k2 c2 => move d L g' k2 c2)) $$ [Hp]
    · unfold I3
      iexists g'; isplitr
      · ipureintro; exact ⟨fun q r hq => absurd hq (by omega), fun q _ => rfl⟩
      · iexact Hp
    unfold I3
    iintro %u ⟨%g2, %hg2, Hp⟩
    have ht3 : Scf.trips k0_t3_loop.lb k0_t3_loop.ub k0_t3_loop.st = 256 := by decide
    rw [ht3] at hg2
    clear ht3
    obtain ⟨hlo, -⟩ := hg2
    simp only [show 16 * 256 = 4096 from rfl] at hlo
    iapply (le_wp_ret _ _)
    have hcmp := cmp_word c' hcl
    rw [if_pos hge] at hcmp
    rw [hcmp]
    have hsub : (Scalar.subi c' 4096#32).toNat = c'.toNat - 4096 := by
      show (c' - 4096#32).toNat = _
      rw [BitVec.toNat_sub, BitVec.toNat_ofNat]; omega
    isplitl [HA]; · iexact HA
    isplitl [HB]; · iexact HB
    isplitl [Hs]; · iexists _; iexact Hs
    isplitl [Hd]; · iexists _; iexact Hd
    isplitl [Hp Hl]
    · iexists (f + 1); iexists g2; iexists _
      isplitr
      swap
      · isplitl [Hp]; · iexact Hp
        iexact Hl
      ipureintro
      refine ⟨?_, ?_, ?_, ?_, ?_⟩
      · subst hnf
        show BitVec.ofNat 32 f + 1#32 = BitVec.ofNat 32 (f + 1)
        rw [BitVec.ofNat_add]
      · show (Scalar.subi c' 4096#32).toNat + _ = _
        rw [hsub]; exact hA
      · show (Scalar.subi c' 4096#32).toNat < _
        exact lt_of_eq_of_lt hsub hlt
      · intro q hq
        have hq8 : (q 0).val < 8192 := (q 0).isLt
        have hq4 : (q 0).val < 4096 := by omega
        rw [hlo q (ix (N := ![8192]) ((q 0).val + 4096) (haux _ hq4)) hq4 rfl]
        refine (hpk' _ (show (q 0).val + 4096 + 4096 * f < _ by omega)).trans ?_
        exact congrArg (lst (wd Ad) (wd As) (wk L)) (show (q 0).val + 4096 + 4096 * f = (q 0).val + 4096 * (f + 1) by omega)
      · clear hsub
        intro j hj0 hj1
        by_cases hj : (j 1).val < 4096 * f
        · exact (congrArg BitVec.toNat (wr_lpiece_out (F := F) _ _ h _ j (.inr (.inl (by omega))))).trans (hrow j hj0 hj)
        · have hx : (j 1).val - 4096 * f < 4096 := by omega
          refine (congrArg BitVec.toNat (wr_lpiece (F := F) _ _ h _ (ix (N := ![4096]) ((j 1).val - 4096 * f) hx) j (by omega)
            (show (j 1).val = k0_off3 L nf 1 + ((j 1).val - 4096 * f) by omega))).trans ?_
          refine (congrArg BitVec.toNat (rd_pk (F := F) inb_S8192_S4096_0 g' (ix (N := ![4096]) ((j 1).val - 4096 * f) hx) (ix (N := ![8192]) ((j 1).val - 4096 * f) (show _ < 8192 by omega))
            (Nat.zero_add _).symm)).trans ?_
          refine (hpk' _ (show (j 1).val - 4096 * f + 4096 * f < _ by omega)).trans ?_
          exact congrArg (lst (wd Ad) (wd As) (wk L)) (show (j 1).val - 4096 * f + 4096 * f = (j 1).val by omega)
    isplitl [Hv0]; · iexact Hv0
    isplitl [Hv1]; · iexact Hv1
    isplitl [Hv2]; · iexact Hv2
    isplitl [HO]; · iexact HO
    iexact Hmw
  · have hcond : ¬ k0_cond1 c' = 1#1 := fun e => hge ((cond1_iff c' hcl).1 e)
    iapply (wp_dif_neg (th d L) hcond)
    iapply (le_wp_ret _ _)
    have hcmp := cmp_word c' hcl
    rw [if_neg hge] at hcmp
    rw [hcmp]
    isplitl [HA]; · iexact HA
    isplitl [HB]; · iexact HB
    isplitl [Hs]; · iexists _; iexact Hs
    isplitl [Hd]; · iexists _; iexact Hd
    isplitl [Hp Hl]
    · iexists f; iexists g'; iexists h
      isplitr
      · ipureintro
        refine ⟨?_, hc', show c'.toNat < 4096 by omega, hpk', hrow⟩
        subst hnf
        show Scalar.addi (BitVec.ofNat 32 f) (Scalar.extui 0#1) = BitVec.ofNat 32 f
        show BitVec.ofNat 32 f + 0#32 = _
        rw [BitVec.add_zero]
      isplitl [Hp]; · iexact Hp
      iexact Hl
    isplitl [Hv0]; · iexact Hv0
    isplitl [Hv1]; · iexact Hv1
    isplitl [Hv2]; · iexact Hv2
    isplitl [HO]; · iexact HO
    iexact Hmw

end Cert.Proof.BuildBlock

end
-- ==== Proof.BuildLists.lean ====
/-
  The list-building kernel's whole task: its blocks, the padding of the list's end, the last piece and the count row.
-/
module

public import proofs.«01_k».proof.Proof.BuildBlock

@[expose] public section

noncomputable section

namespace Cert.Proof.BuildLists

open Cert.KernelIdeal Cert.KernelIdeal.Gen Cert.Proof.Setup Cert.Proof.Lists Cert.Proof.Words Cert.Proof.Access
open Cert.Proof.Geometry Cert.Proof.RowAccess Cert.Proof.Copy Cert.Proof.BuildTrip Cert.Proof.BuildBlock

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (d : Dev nD) (L : grid0.Coords)

/-! ## The padding -/

/-- The pack buffer's first `c` words are the worker's last entries; the next `16 r` hold the padding entry. -/
def Pad (dE sE : ℕ → ℕ) (w f c r : ℕ) (g : S8192.Idx → BitVec 32) : Prop :=
  (∀ q : S8192.Idx, (q 0).val < c → (g q).toNat = lst dE sE w ((q 0).val + 4096 * f))
    ∧ ∀ q : S8192.Idx, c ≤ (q 0).val → (q 0).val < c + 16 * r → (g q).toNat = 5128192

/-- The offset of the `r`-th padding store. -/
theorem off6_eq (c : BitVec 32) (hc : c.toNat < 4096) (r : ℕ) (hr : r < 8) :
    k0_off6 c (BitVec.ofNat 32 (16 * r)) 0 = c.toNat + 16 * r := by
  show (c + BitVec.ofNat 32 (16 * r)).toNat = _
  rw [BitVec.toNat_add, BitVec.toNat_ofNat]; omega

/-- One padding store lengthens the padding by sixteen. -/
theorem pad_step (dE sE : ℕ → ℕ) (w f : ℕ) (c : BitVec 32) (hc : c.toNat < 4096) (r : ℕ) (hr : r < 8)
    (inb : ∀ a, (k0_off6 c (BitVec.ofNat 32 (16 * r))) a + S16.size a ≤ S8192.size a) (g : S8192.Idx → BitVec 32)
    (h : Pad dE sE w f c.toNat r g) :
    Pad dE sE w f c.toNat (r + 1)
      (((pkM).access (Rect.unit (s := S8192) (k0_off6 c (BitVec.ofNat 32 (16 * r))) S16.size inb)).write (Elt F) g k0_pay6 Finset.univ) := by
  have ho := off6_eq c hc r hr
  refine ⟨fun q hq => ?_, fun q h1 h2 => ?_⟩
  · exact (congrArg BitVec.toNat (wr_pk_out (F := F) inb g _ q (.inl (by omega)))).trans (h.1 q hq)
  · by_cases hlt : (q 0).val < c.toNat + 16 * r
    · exact (congrArg BitVec.toNat (wr_pk_out (F := F) inb g _ q (.inl (by omega)))).trans (h.2 q h1 hlt)
    · have hx : (q 0).val - (c.toNat + 16 * r) < 16 := by omega
      refine (congrArg BitVec.toNat (wr_pk (F := F) inb g _ (ix (N := ![16]) ((q 0).val - (c.toNat + 16 * r)) hx) q ?_)).trans ?_
      · rw [ho]; show _ = _ + ((q 0).val - (c.toNat + 16 * r)); omega
      · rfl

/-! ## What the task leaves -/

/-- Row `w` of the lists holds the worker's padded list. -/
def RowL (dE sE : ℕ → ℕ) (w : ℕ) (h : S32x323584.Idx → BitVec 32) : Prop :=
  ∀ j : S32x323584.Idx, (j 0).val = w → (j 1).val < len dE w → (h j).toNat = ent dE sE w (j 1).val

/-- Row `w` of the counts holds the padded list's length. -/
def RowC (dE : ℕ → ℕ) (w : ℕ) (h : S32x16.Idx → BitVec 32) : Prop :=
  ∀ j : S32x16.Idx, (j 0).val = w → (h j).toNat = len dE w

/-- The last piece completes the row. -/
theorem last_piece (dE sE : ℕ → ℕ) (w f c : ℕ) (hc : c < 4096) (ht : c + 4096 * f = cnt dE w 320000)
    (off : Fin 2 → ℕ) (inb) (h0 : off 0 = w) (h1 : off 1 = 4096 * f) (g : S8192.Idx → BitVec 32) (hg : Pad dE sE w f c 8 g)
    (h : S32x323584.Idx → BitVec 32) (hh : Rows dE sE w f h) :
    RowL dE sE w ((lpiece off inb).view.write (Elt F) h
      (((pkM).slice (Rect.unit (s := S8192) ![0] S4096.size inb_S8192_S4096_0) (fun _ => rfl)).view.read (Elt F) g) Finset.univ) := by
  intro j hj0 hj1
  have hlen : len dE w = (cnt dE w 320000 + 127) / 128 * 128 := rfl
  have hent : ∀ p, ent dE sE w p = if p < cnt dE w 320000 then lst dE sE w p else 5128192 := fun p => rfl
  rw [hlen] at hj1
  rw [hent]
  clear hent hlen
  generalize cnt dE w 320000 = T at *
  by_cases hj : (j 1).val < 4096 * f
  · rw [if_pos (by omega)]
    exact (congrArg BitVec.toNat (wr_lpiece_out (F := F) off inb h _ j (.inr (.inl (by omega))))).trans (hh j hj0 hj)
  · have hx : (j 1).val - 4096 * f < 4096 := by omega
    refine (congrArg BitVec.toNat (wr_lpiece (F := F) off inb h _ (ix (N := ![4096]) ((j 1).val - 4096 * f) hx) j (by omega)
      (by rw [h1]; show (j 1).val = 4096 * f + ((j 1).val - 4096 * f); omega))).trans ?_
    refine (congrArg BitVec.toNat (rd_pk (F := F) inb_S8192_S4096_0 g (ix (N := ![4096]) ((j 1).val - 4096 * f) hx)
      (ix (N := ![8192]) ((j 1).val - 4096 * f) (show _ < 8192 by omega)) (Nat.zero_add _).symm)).trans ?_
    by_cases hT : (j 1).val < T
    · rw [if_pos hT]
      refine (hg.1 _ (show (j 1).val - 4096 * f < c by omega)).trans ?_
      exact congrArg (lst dE sE w) (show (j 1).val - 4096 * f + 4096 * f = (j 1).val by omega)
    · rw [if_neg hT]
      exact hg.2 _ (show c ≤ (j 1).val - 4096 * f by omega) (show (j 1).val - 4096 * f < c + 16 * 8 by omega)

/-! ## The task -/

/-- What the first part leaves: the edge arrays' shares, the padded pack buffer, the row so far, the semaphores, the waits. -/
def Q1 (qs : PosShare TreeShare) (As Ad : S320000.Idx → BitVec 32) (O : CellTallies nD τ sig (HIx 10)) (W : Waits sig (HIx 10))
    (c nf : BitVec 32) : sProp 𝕄 :=
  iprop(((srcM).view.loc (th d L) ↦{qs} As) ∗ ((dstM).view.loc (th d L) ↦{qs} Ad)
    ∗ (∃ f : S4000.Idx → BitVec 32, (sbM).view.loc (th d L) ↦{fullShare} f) ∗ (∃ f : S4000.Idx → BitVec 32, (dbM).view.loc (th d L) ↦{fullShare} f)
    ∗ (∃ (f : ℕ) (g : S8192.Idx → BitVec 32) (h : S32x323584.Idx → BitVec 32),
        ⌜nf = BitVec.ofNat 32 f ∧ c.toNat + 4096 * f = cnt (wd Ad) (wk L) 320000 ∧ c.toNat < 4096
          ∧ Pad (wd Ad) (wd As) (wk L) f c.toNat 8 g ∧ Rows (wd Ad) (wd As) (wk L) f h⌝
        ∗ ((pkM).view.loc (th d L) ↦{fullShare} g) ∗ ((lstM).view.loc (th d L) ↦[lrow (wk L)]{fullShare} h))
    ∗ semVal (th d L, .dma cc0_scoped0.sem) 0 ∗ semVal (th d L, .dma cc0_scoped1.sem) 0 ∗ semVal (th d L, .dma cc0_scoped2.sem) 0
    ∗ OW (th d L) O W ∗ Transfers.MayWaits (th d L) (default : HIx 10) O)

set_option maxHeartbeats 1000000 in
/-- The blocks and the padding. -/
theorem part1 (qs : PosShare TreeShare) (As Ad : S320000.Idx → BitVec 32) (hs : ∀ j, (As j).toNat < 10000) (hd : ∀ j, (Ad j).toNat < 10000)
    (O : CellTallies nD τ sig (HIx 10)) (W : Waits sig (HIx 10)) :
    I1 (F := F) d L qs As Ad O W 0 (0#32, 0#32)
      ⊢ wp frame (wpE (defs₀ (F := F)) 𝒱₀ (th d L) none) Set.univ
        (k0_part1_skel L srcM (Memref.isWhole_whole _) dstM (Memref.isWhole_whole _) lstM (Memref.isWhole_whole _) cntM (Memref.isWhole_whole _)
          sbM (Memref.isWhole_whole _) dbM (Memref.isWhole_whole _) pkM (Memref.isWhole_whole _) cbM (Memref.isWhole_whole _)
          cc0_scoped0 cc0_scoped1 cc0_scoped2 cc0_scoped3 cc0_scoped4)
        (fun r => Q1 (F := F) d L qs As Ad O W r.1 r.2.1) := by
  unfold k0_part1_skel
  iintro H
  iapply (Scf.wp_for_bind frame (wpE (defs₀ (F := F)) 𝒱₀ (th d L) none) Set.univ k0_t1_loop.lb k0_t1_loop.ub k0_t1_loop.st k0_t1_ok _ _
    (I1 (F := F) d L qs As Ad O W) (fun k c => block d L qs As Ad hs hd O W k c)) $$ [H]
  · iexact H
  unfold I1
  iintro %c ⟨HA, HB, Hs, Hd, ⟨%f, %g, %h, %hf, Hp, Hl⟩, Hv0, Hv1, Hv2, HO, Hmw⟩
  obtain ⟨c, nf⟩ := c
  obtain ⟨hnf, hc, hcb, hpk, hrow⟩ := hf
  have ht : Scf.trips k0_t1_loop.lb k0_t1_loop.ub k0_t1_loop.st = 80 := by decide
  rw [ht] at hc hpk
  clear ht
  dsimp only at hnf hc hcb
  have hcT : c.toNat + 4096 * f = cnt (wd Ad) (wk L) 320000 := hc
  have hpT : Packed (wd Ad) (wd As) (wk L) 320000 f g := hpk
  have hle := cnt_le (wd Ad) (wk L) 320000
  have hf79 : f < 79 := by omega
  have hchk4 : k0_chk4 L nf := by
    intro a
    rw [hnf, off7_eq L f hf79]
    have := wk_lt L
    match a with
    | ⟨0, _⟩ => show wk L + 1 ≤ 32; omega
    | ⟨1, _⟩ => show 4096 * f + 4096 ≤ 323584; omega
  have hchk3 : k0_chk3 c := by
    intro r a
    rw [Subsingleton.elim a 0, off6_eq c hcb r.val r.isLt]
    have := r.isLt
    show c.toNat + 16 * r.val + 16 ≤ 8192; omega
  iapply (wp_assume 𝒱₀ (th d L) none Set.univ hchk4)
  iapply (wp_assume 𝒱₀ (th d L) none Set.univ hchk3)
  iapply (wp_load_rect 𝒱₀ (th d L) none Set.univ (m := pkM) (r := Rect.unit (s := S8192) (k0_off6 c 0#32) S16.size (k0_off6_inb c hchk3 0)) (Finset.subset_univ _)) $$ Hp
  iintro Hp
  iapply (wp_store 𝒱₀ (th d L) none Set.univ (m := pkM) (r := Rect.unit (s := S8192) (k0_off6 c 0#32) S16.size (k0_off6_inb c hchk3 0)) (Mk := Finset.univ) (Finset.subset_univ _)) $$ Hp
  iintro Hp
  iapply (wp_load_rect 𝒱₀ (th d L) none Set.univ (m := pkM) (r := Rect.unit (s := S8192) (k0_off6 c 16#32) S16.size (k0_off6_inb c hchk3 1)) (Finset.subset_univ _)) $$ Hp
  iintro Hp
  iapply (wp_store 𝒱₀ (th d L) none Set.univ (m := pkM) (r := Rect.unit (s := S8192) (k0_off6 c 16#32) S16.size (k0_off6_inb c hchk3 1)) (Mk := Finset.univ) (Finset.subset_univ _)) $$ Hp
  iintro Hp
  iapply (wp_load_rect 𝒱₀ (th d L) none Set.univ (m := pkM) (r := Rect.unit (s := S8192) (k0_off6 c 32#32) S16.size (k0_off6_inb c hchk3 2)) (Finset.subset_univ _)) $$ Hp
  iintro Hp
  iapply (wp_store 𝒱₀ (th d L) none Set.univ (m := pkM) (r := Rect.unit (s := S8192) (k0_off6 c 32#32) S16.size (k0_off6_inb c hchk3 2)) (Mk := Finset.univ) (Finset.subset_univ _)) $$ Hp
  iintro Hp
  iapply (wp_load_rect 𝒱₀ (th d L) none Set.univ (m := pkM) (r := Rect.unit (s := S8192) (k0_off6 c 48#32) S16.size (k0_off6_inb c hchk3 3)) (Finset.subset_univ _)) $$ Hp
  iintro Hp
  iapply (wp_store 𝒱₀ (th d L) none Set.univ (m := pkM) (r := Rect.unit (s := S8192) (k0_off6 c 48#32) S16.size (k0_off6_inb c hchk3 3)) (Mk := Finset.univ) (Finset.subset_univ _)) $$ Hp
  iintro Hp
  iapply (wp_load_rect 𝒱₀ (th d L) none Set.univ (m := pkM) (r := Rect.unit (s := S8192) (k0_off6 c 64#32) S16.size (k0_off6_inb c hchk3 4)) (Finset.subset_univ _)) $$ Hp
  iintro Hp
  iapply (wp_store 𝒱₀ (th d L) none Set.univ (m := pkM) (r := Rect.unit (s := S8192) (k0_off6 c 64#32) S16.size (k0_off6_inb c hchk3 4)) (Mk := Finset.univ) (Finset.subset_univ _)) $$ Hp
  iintro Hp
  iapply (wp_load_rect 𝒱₀ (th d L) none Set.univ (m := pkM) (r := Rect.unit (s := S8192) (k0_off6 c 80#32) S16.size (k0_off6_inb c hchk3 5)) (Finset.subset_univ _)) $$ Hp
  iintro Hp
  iapply (wp_store 𝒱₀ (th d L) none Set.univ (m := pkM) (r := Rect.unit (s := S8192) (k0_off6 c 80#32) S16.size (k0_off6_inb c hchk3 5)) (Mk := Finset.univ) (Finset.subset_univ _)) $$ Hp
  iintro Hp
  iapply (wp_load_rect 𝒱₀ (th d L) none Set.univ (m := pkM) (r := Rect.unit (s := S8192) (k0_off6 c 96#32) S16.size (k0_off6_inb c hchk3 6)) (Finset.subset_univ _)) $$ Hp
  iintro Hp
  iapply (wp_store 𝒱₀ (th d L) none Set.univ (m := pkM) (r := Rect.unit (s := S8192) (k0_off6 c 96#32) S16.size (k0_off6_inb c hchk3 6)) (Mk := Finset.univ) (Finset.subset_univ _)) $$ Hp
  iintro Hp
  iapply (wp_load_rect 𝒱₀ (th d L) none Set.univ (m := pkM) (r := Rect.unit (s := S8192) (k0_off6 c 112#32) S16.size (k0_off6_inb c hchk3 7)) (Finset.subset_univ _)) $$ Hp
  iintro Hp
  iapply (wp_store 𝒱₀ (th d L) none Set.univ (m := pkM) (r := Rect.unit (s := S8192) (k0_off6 c 112#32) S16.size (k0_off6_inb c hchk3 7)) (Mk := Finset.univ) (Finset.subset_univ _)) $$ Hp
  iintro Hp
  iapply (le_wp_ret _ _)
  unfold Q1
  isplitl [HA]; · iexact HA
  isplitl [HB]; · iexact HB
  isplitl [Hs]; · iexact Hs
  isplitl [Hd]; · iexact Hd
  isplitl [Hp Hl]
  · iexists f; iexists _; iexists h
    isplitr
    swap
    · isplitl [Hp]; · iexact Hp
      iexact Hl
    ipureintro
    refine ⟨hnf, hcT, hcb, ?_, hrow⟩
    have h0 : Pad (wd Ad) (wd As) (wk L) f c.toNat 0 g := ⟨fun q hq => hpT q (by omega), fun q h1 h2 => absurd h2 (by omega)⟩
    have h1 := pad_step (F := F) _ _ _ _ c hcb 0 (by decide) (k0_off6_inb c hchk3 0) _ h0
    have h2 := pad_step (F := F) _ _ _ _ c hcb 1 (by decide) (k0_off6_inb c hchk3 1) _ h1
    have h3 := pad_step (F := F) _ _ _ _ c hcb 2 (by decide) (k0_off6_inb c hchk3 2) _ h2
    have h4 := pad_step (F := F) _ _ _ _ c hcb 3 (by decide) (k0_off6_inb c hchk3 3) _ h3
    have h5 := pad_step (F := F) _ _ _ _ c hcb 4 (by decide) (k0_off6_inb c hchk3 4) _ h4
    have h6 := pad_step (F := F) _ _ _ _ c hcb 5 (by decide) (k0_off6_inb c hchk3 5) _ h5
    have h7 := pad_step (F := F) _ _ _ _ c hcb 6 (by decide) (k0_off6_inb c hchk3 6) _ h6
    exact pad_step (F := F) _ _ _ _ c hcb 7 (by decide) (k0_off6_inb c hchk3 7) _ h7
  isplitl [Hv0]; · iexact Hv0
  isplitl [Hv1]; · iexact Hv1
  isplitl [Hv2]; · iexact Hv2
  isplitl [HO]; · iexact HO
  iexact Hmw

/-- What the task has at its start and at its end beside the lists' and the counts' rows. -/
def Scr (qs : PosShare TreeShare) (As Ad : S320000.Idx → BitVec 32) (O : CellTallies nD τ sig (HIx 10)) (W : Waits sig (HIx 10)) : sProp 𝕄 :=
  iprop(((srcM).view.loc (th d L) ↦{qs} As) ∗ ((dstM).view.loc (th d L) ↦{qs} Ad)
    ∗ (∃ f : S4000.Idx → BitVec 32, (sbM).view.loc (th d L) ↦{fullShare} f) ∗ (∃ f : S4000.Idx → BitVec 32, (dbM).view.loc (th d L) ↦{fullShare} f)
    ∗ (∃ f : S8192.Idx → BitVec 32, (pkM).view.loc (th d L) ↦{fullShare} f) ∗ (∃ f : S16.Idx → BitVec 32, (cbM).view.loc (th d L) ↦{fullShare} f)
    ∗ semVal (th d L, .dma cc0_scoped0.sem) 0 ∗ semVal (th d L, .dma cc0_scoped1.sem) 0 ∗ semVal (th d L, .dma cc0_scoped2.sem) 0
    ∗ semVal (th d L, .dma cc0_scoped3.sem) 0 ∗ semVal (th d L, .dma cc0_scoped4.sem) 0
    ∗ OW (th d L) O W ∗ Transfers.MayWaits (th d L) (default : HIx 10) O)

set_option maxHeartbeats 1000000 in
/-- The whole task: the worker's row of the lists and of the counts filled, all else back. -/
theorem task (qs : PosShare TreeShare) (As Ad : S320000.Idx → BitVec 32) (hs : ∀ j, (As j).toNat < 10000) (hd : ∀ j, (Ad j).toNat < 10000)
    (O : CellTallies nD τ sig (HIx 10)) (W : Waits sig (HIx 10)) (fl : S32x323584.Idx → BitVec 32) (fc : S32x16.Idx → BitVec 32) :
    iprop(Scr (F := F) d L qs As Ad O W ∗ ((lstM).view.loc (th d L) ↦[lrow (wk L)]{fullShare} fl) ∗ ((cntM).view.loc (th d L) ↦[ccrow (wk L)]{fullShare} fc))
      ⊢ wp frame (wpE (defs₀ (F := F)) 𝒱₀ (th d L) none) Set.univ
        (cc0__build_lists L srcM (Memref.isWhole_whole _) dstM (Memref.isWhole_whole _) lstM (Memref.isWhole_whole _) cntM (Memref.isWhole_whole _)
          sbM (Memref.isWhole_whole _) dbM (Memref.isWhole_whole _) pkM (Memref.isWhole_whole _) cbM (Memref.isWhole_whole _)
          cc0_scoped0 cc0_scoped1 cc0_scoped2 cc0_scoped3 cc0_scoped4)
        (fun _ => iprop(Scr (F := F) d L qs As Ad O W
          ∗ (∃ h, ⌜RowL (wd Ad) (wd As) (wk L) h⌝ ∗ ((lstM).view.loc (th d L) ↦[lrow (wk L)]{fullShare} h))
          ∗ (∃ h, ⌜RowC (wd Ad) (wk L) h⌝ ∗ ((cntM).view.loc (th d L) ↦[ccrow (wk L)]{fullShare} h)))) := by
  rw [cc0__build_lists_eq_skeleton]
  unfold cc0__build_lists_skel
  rw [wp_bind]
  unfold Scr
  iintro ⟨⟨HA, HB, Hs, Hd, ⟨%fp, Hp⟩, ⟨%fb, Hb⟩, Hv0, Hv1, Hv2, Hv3, Hv4, HO, #Hmw⟩, Hl, Hc⟩
  iapply (wp_wand_r frame _ _)
  isplitl [HA HB Hs Hd Hp Hv0 Hv1 Hv2 HO Hl]
  · rw [k0_part1_eq_skeleton]
    iapply (part1 (F := F) d L qs As Ad hs hd O W)
    unfold I1
    isplitl [HA]; · iexact HA
    isplitl [HB]; · iexact HB
    isplitl [Hs]; · iexact Hs
    isplitl [Hd]; · iexact Hd
    isplitl [Hp Hl]
    · iexists 0; iexists fp; iexists fl
      isplitr
      · ipureintro
        refine ⟨rfl, ?_, by decide, fun q hq => ?_, fun j _ hj => absurd hj (by omega)⟩
        · rw [Nat.mul_zero, cnt_zero]; rfl
        · rw [Nat.mul_zero 4000, cnt_zero] at hq; omega
      isplitl [Hp]; · iexact Hp
      iexact Hl
    isplitl [Hv0]; · iexact Hv0
    isplitl [Hv1]; · iexact Hv1
    isplitl [Hv2]; · iexact Hv2
    isplitl [HO]; · iexact HO
    iexact Hmw
  unfold Q1
  iintro %r ⟨HA, HB, Hs, Hd, ⟨%f, %g, %h, %hf, Hp, Hl⟩, Hv0, Hv1, Hv2, HO, -⟩
  obtain ⟨c, nf, hw4, c4⟩ := r
  obtain ⟨hnf, hc, hcb, hpk, hrow⟩ := hf
  dsimp only at hnf hc hcb hpk ⊢
  have hle := cnt_le (wd Ad) (wk L) 320000
  have hf79 : f < 79 := by omega
  have ho7 : k0_off7 L nf = ![wk L, 4096 * f] := hnf ▸ off7_eq L f hf79
  have hrow0 : k0_off7 L nf 0 = wk L := congrFun ho7 0
  have hrow1 : k0_off7 L nf 1 = 4096 * f := congrFun ho7 1
  have ho8 : k0_off8 L 0 = wk L := congrFun (k0_off8_eq L) 0
  have ho81 : k0_off8 L 1 = 0 := congrFun (k0_off8_eq L) 1
  have hcw : ∀ x, BitVec.toNat (k0_pay7 c nf x) = len (wd Ad) (wk L) := by
    intro x
    have hfn : nf.toNat = f := by rw [hnf, BitVec.toNat_ofNat]; omega
    rw [count_word c nf hcb (by omega) x, hfn]
    show _ = (cnt (wd Ad) (wk L) 320000 + 127) / 128 * 128
    omega
  rw [k0_part2_eq_skeleton]
  unfold k0_part2_skel
  iapply (wp_copy (th d L) rfl (View.dmaCredit_pos _ (by decide)) (Finset.subset_univ _)
    ((lpiece_subset _ _).trans (le_of_eq (congrArg lrow hrow0)))) $$ [Hp Hl Hv3 HO]
  · isplitl [Hp]; · iexact Hp
    isplitl [Hl]; · iexact Hl
    isplitl [Hv3]; · iexact Hv3
    isplitl [HO]; · iexact HO
    iexact Hmw
  iintro ⟨Hp, Hl, Hv3, HO⟩
  iapply (wp_load_rect 𝒱₀ (th d L) none Set.univ (m := cbM) (r := Rect.unit (s := S16) ![0] S16.size inb_S16_S16_0) (Finset.subset_univ _)) $$ Hb
  iintro Hb
  iapply (wp_store 𝒱₀ (th d L) none Set.univ (m := cbM) (r := Rect.unit (s := S16) ![0] S16.size inb_S16_S16_0) (Mk := Finset.univ) (Finset.subset_univ _)) $$ Hb
  iintro Hb
  iapply (wp_copy (th d L) rfl (View.dmaCredit_pos _ (by decide)) (Finset.subset_univ _)
    ((crow_subset _ _).trans (le_of_eq (congrArg ccrow ho8)))) $$ [Hb Hc Hv4 HO]
  · isplitl [Hb]; · iexact Hb
    isplitl [Hc]; · iexact Hc
    isplitl [Hv4]; · iexact Hv4
    isplitl [HO]; · iexact HO
    iexact Hmw
  iintro ⟨Hb, Hc, Hv4, HO⟩
  iapply (le_wp_ret _ _)
  isplitl [HA HB Hs Hd Hp Hb Hv0 Hv1 Hv2 Hv3 Hv4 HO]
  · isplitl [HA]; · iexact HA
    isplitl [HB]; · iexact HB
    isplitl [Hs]; · iexact Hs
    isplitl [Hd]; · iexact Hd
    isplitl [Hp]; · iexists _; iexact Hp
    isplitl [Hb]; · iexists _; iexact Hb
    isplitl [Hv0]; · iexact Hv0
    isplitl [Hv1]; · iexact Hv1
    isplitl [Hv2]; · iexact Hv2
    isplitl [Hv3]; · iexact Hv3
    isplitl [Hv4]; · iexact Hv4
    isplitl [HO]; · iexact HO
    iexact Hmw
  isplitl [Hl]
  · iexists _; isplitr
    swap; · iexact Hl
    ipureintro
    exact last_piece (F := F) _ _ _ f c.toNat hcb hc _ _ hrow0 hrow1 g hpk h hrow
  · iexists _; isplitr
    swap; · iexact Hc
    ipureintro
    intro j hj
    have hj1 : (j 1).val < 16 := (j 1).isLt
    refine (congrArg BitVec.toNat (wr_crow (F := F) _ _ fc _ (ix (N := ![16]) (j 1).val hj1) j (by omega)
      (by rw [ho81]; exact (Nat.zero_add _).symm))).trans ?_
    refine (congrArg BitVec.toNat (wr_cb (F := F) inb_S16_S16_0 fb _ (ix (N := ![16]) (j 1).val hj1) (ix (N := ![16]) (j 1).val hj1)
      (Nat.zero_add _).symm)).trans ?_
    exact hcw _

end Cert.Proof.BuildLists

end
-- ==== Proof.SegWords.lean ====
/-
  The words of the aggregation kernel: its loops' bounds, its conditions, its offsets, and the blocks of the output.
-/
module

public import proofs.«01_k».proof.Proof.Chunk
public import proofs.«01_k».proof.Proof.BuildLists

@[expose] public section

noncomputable section

namespace Cert.Proof.SegWords

open Cert.KernelIdeal Cert.KernelIdeal.Gen Cert.Proof.Setup Cert.Proof.Access Cert.Proof.Fold Cert.Proof.Words Cert.Proof.Group Cert.Proof.Copy Cert.Proof.Chunk Cert.Proof.RowAccess Cert.Proof.Geometry

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

/-! ## The loops over the list's blocks -/

/-- A comparison of signed words that are small. -/
theorem sgt_zero (v : BitVec 32) (hv : v.toNat < 2147483648) (h0 : 0 < v.toNat) : Scalar.cmpi .sgt v 0#32 = 1#1 := by
  show BitVec.ofBool (BitVec.slt 0#32 v) = 1#1
  rw [BitVec.slt_eq_decide, BitVec.toInt_eq_toNat_cond, BitVec.toInt_eq_toNat_cond]
  have : decide ((if 2 * (0#32).toNat < 2 ^ 32 then ((0#32).toNat : ℤ) else (0#32).toNat - (2 ^ 32 : ℕ)) <
      if 2 * v.toNat < 2 ^ 32 then (v.toNat : ℤ) else v.toNat - (2 ^ 32 : ℕ)) = true := by
    rw [decide_eq_true_eq]; simp only [BitVec.toNat_ofNat]; omega
  rw [this]; rfl

/-- A small word is not negative. -/
theorem slt_zero (v : BitVec 32) (hv : v.toNat < 2147483648) : Scalar.cmpi .slt v 0#32 = 0#1 := by
  show BitVec.ofBool (BitVec.slt v 0#32) = 0#1
  rw [BitVec.slt_eq_decide, BitVec.toInt_eq_toNat_cond, BitVec.toInt_eq_toNat_cond]
  have : decide ((if 2 * v.toNat < 2 ^ 32 then (v.toNat : ℤ) else v.toNat - (2 ^ 32 : ℕ)) <
      if 2 * (0#32).toNat < 2 ^ 32 then ((0#32).toNat : ℤ) else (0#32).toNat - (2 ^ 32 : ℕ)) = false := by
    rw [decide_eq_false_iff_not]; simp only [BitVec.toNat_ofNat]; omega
  rw [this]; rfl

/-- The number of blocks, as the kernel rounds it up. -/
theorem blocks_word (v8 : BitVec 32) (hv : v8.toNat < 2147483648) (h0 : 0 < v8.toNat) :
    Scalar.select (Scalar.andi (Scalar.cmpi .ne (Scalar.subi (Scalar.extui (Scalar.cmpi .sgt v8 0#32) : BitVec 32) (Scalar.extui (Scalar.cmpi .slt v8 0#32)))
          (Scalar.subi (Scalar.extui (Scalar.cmpi .sgt 2048#32 0#32)) (Scalar.extui (Scalar.cmpi .slt 2048#32 0#32))))
        (Scalar.cmpi .ne (Scalar.remsi v8 2048#32) 0#32))
      (Scalar.subi (Scalar.divsi v8 2048#32) 1#32) (Scalar.divsi v8 2048#32) = Scalar.divsi v8 2048#32 := by
  rw [sgt_zero v8 hv h0, slt_zero v8 hv]
  generalize Scalar.cmpi .ne (Scalar.remsi v8 2048#32) 0#32 = y
  generalize Scalar.divsi v8 2048#32 = q
  rcases BitVec.eq_zero_or_eq_one y with h | h <;> subst h <;> rfl

/-- The blocks' loop's upper bound. -/
theorem ub_nat (v6 : BitVec 32) (hv : v6.toNat ≤ 400000) : (k1_t2_loop v6).ub.toNat = (v6.toNat + 2047) / 2048 := by
  have h8 : (Scalar.subi (Scalar.addi v6 2048#32) 1#32).toNat = v6.toNat + 2047 := by
    show (v6 + 2048#32 - 1#32).toNat = _
    rw [BitVec.toNat_sub, BitVec.toNat_add]; simp only [BitVec.toNat_ofNat]; omega
  have hb := blocks_word (Scalar.subi (Scalar.addi v6 2048#32) 1#32) (by omega) (by omega)
  have hq : (Scalar.divsi (Scalar.subi (Scalar.addi v6 2048#32) 1#32) 2048#32).toNat = (v6.toNat + 2047) / 2048 := by
    rw [← h8]; exact divsi_nat .scalar _ _ (by omega) (by decide) (by decide)
  show (Scalar.addi 0#32 (Scalar.muli (Scalar.divsi (Scalar.subi (Scalar.select _ _ _) 0#32) 1#32) 1#32)).toNat = _
  rw [hb]
  generalize Scalar.divsi (Scalar.subi (Scalar.addi v6 2048#32) 1#32) 2048#32 = q at hq
  have hd : (Scalar.divsi (Scalar.subi q 0#32) 1#32).toNat = q.toNat := by
    have e : Scalar.subi q 0#32 = q := BitVec.sub_zero q
    rw [e]
    refine (divsi_nat .scalar q 1#32 (by omega) (by decide) (by decide)).trans ?_
    exact Nat.div_one _
  show (0#32 + Scalar.divsi (Scalar.subi q 0#32) 1#32 * 1#32).toNat = _
  rw [BitVec.toNat_add, BitVec.toNat_mul, hd, hq]
  simp only [BitVec.toNat_ofNat]; omega

/-- The loop over what is left starts where it ends. -/
theorem rest_eq (v6 : BitVec 32) (hv : v6.toNat ≤ 400000) : (k1_t5_loop v6).lb = (k1_t5_loop v6).ub := by
  have h8 : (Scalar.subi (Scalar.addi v6 2048#32) 1#32).toNat = v6.toNat + 2047 := by
    show (v6 + 2048#32 - 1#32).toNat = _
    rw [BitVec.toNat_sub, BitVec.toNat_add]; simp only [BitVec.toNat_ofNat]; omega
  have hb := blocks_word (Scalar.subi (Scalar.addi v6 2048#32) 1#32) (by omega) (by omega)
  have hq : (Scalar.divsi (Scalar.subi (Scalar.addi v6 2048#32) 1#32) 2048#32).toNat = (v6.toNat + 2047) / 2048 := by
    rw [← h8]; exact divsi_nat .scalar _ _ (by omega) (by decide) (by decide)
  show Scalar.addi 0#32 (Scalar.muli (Scalar.divsi (Scalar.subi (Scalar.select _ _ _) 0#32) 1#32) 1#32)
    = Scalar.addi 0#32 (Scalar.subi (Scalar.select _ _ _) 0#32)
  rw [hb]
  generalize Scalar.divsi (Scalar.subi (Scalar.addi v6 2048#32) 1#32) 2048#32 = q at hq
  have e : Scalar.subi q 0#32 = q := BitVec.sub_zero q
  rw [e]
  have hd : Scalar.divsi q 1#32 = q := BitVec.eq_of_toNat_eq ((divsi_nat .scalar q 1#32 (by omega) (by decide) (by decide)).trans (Nat.div_one _))
  rw [hd]
  show 0#32 + q * 1#32 = 0#32 + q
  rw [BitVec.mul_one]

/-- The number of blocks. -/
theorem trips2 (v6 : BitVec 32) (hv : v6.toNat ≤ 400000) : (k1_t2_loop v6).trips = (v6.toNat + 2047) / 2048 := by
  have h := ub_nat v6 hv
  show ((((k1_t2_loop v6).ub).toInt - (0#32).toInt + (1#32).toInt - 1) / (1#32).toInt).toNat = _
  rw [BitVec.toInt_eq_toNat_cond, if_pos (by omega), h]
  show (((((v6.toNat + 2047) / 2048 : ℕ) : ℤ) - 0 + 1 - 1) / 1).toNat = _
  omega

/-- The loop over what is left takes no trip. -/
theorem trips5 (v6 : BitVec 32) (hv : v6.toNat ≤ 400000) : (k1_t5_loop v6).trips = 0 := by
  have h := rest_eq v6 hv
  show ((((k1_t5_loop v6).ub).toInt - ((k1_t5_loop v6).lb).toInt + (1#32).toInt - 1) / (1#32).toInt).toNat = _
  rw [h]
  show ((((k1_t5_loop v6).ub).toInt - ((k1_t5_loop v6).ub).toInt + 1 - 1) / 1).toNat = _
  omega

/-- The offset of a block of the list. -/
theorem off3_eq (L : grid1.Coords) (v6 : BitVec 32) (t2 : Fin (k1_t2_loop v6).trips) (ht2 : t2.val < 200) : k1_off3 L v6 t2 = ![wk L, 2048 * t2.val] := by
  have hw := wk_lt L
  unfold k1_off3
  have e1 : (Scalar.addi (Scalar.muli (BitVec.ofNat 32 (L 1).val) 2#32) (BitVec.ofNat 32 (L 0).val)).toNat = wk L := by
    rw [wk_word L, BitVec.toNat_ofNat]; omega
  have e2 : (Scalar.muli (Scf.iv (0#32) (1#32) t2.val) 2048#32).toNat = 2048 * t2.val := by
    show (Scf.iv (0#32) (1#32) t2.val * 2048#32).toNat = _
    rw [BitVec.toNat_mul, iv_nat t2.val (by omega)]; simp only [BitVec.toNat_ofNat]; omega
  show ![(Scalar.addi (Scalar.muli (BitVec.ofNat 32 (L 1).val) 2#32) (BitVec.ofNat 32 (L 0).val)).toNat, (Scalar.muli (Scf.iv (0#32) (1#32) t2.val) 2048#32).toNat] = _
  rw [e1, e2]

/-- A loop from zero by one with a small trip count has a meaning. -/
theorem ok_zero_one (ub : BitVec 32) (n : ℕ) (h : Scf.trips (0#32) ub (1#32) = n) (hn : n < 2147483648) : Scf.OK (0#32) ub (1#32) := by
  refine ⟨by decide, ?_⟩
  rw [h]
  show (0 : ℤ) + (n : ℤ) * 1 < 2 ^ 31
  omega

/-- A loop of no trip has a meaning. -/
theorem ok_no_trip (lb ub : BitVec 32) (h : Scf.trips lb ub (1#32) = 0) : Scf.OK lb ub (1#32) := by
  refine ⟨by decide, ?_⟩
  rw [h]
  have := BitVec.toInt_lt (x := lb)
  show lb.toInt + ((0 : ℕ) : ℤ) * (1#32).toInt < 2 ^ (32 - 1)
  omega

/-- What the kernel checks of the list's length. -/
theorem chk1 (L : grid1.Coords) (v6 : BitVec 32) (hv : v6.toNat ≤ 322000) : k1_chk1 L v6 := by
  have t2 := trips2 v6 (by omega)
  have t5 := trips5 v6 (by omega)
  have hw := wk_lt L
  have hu := ub_nat v6 (by omega)
  refine ⟨ok_zero_one _ _ t2 (by omega), fun k a => ?_, ok_no_trip _ _ t5, fun k => ?_⟩
  · have hk : k.val < (v6.toNat + 2047) / 2048 := lt_of_lt_of_eq k.isLt t2
    rw [off3_eq L v6 k (by omega)]
    match a with
    | ⟨0, _⟩ => show wk L + 1 ≤ 32; omega
    | ⟨1, _⟩ => show 2048 * k.val + 2048 ≤ 323584; omega
  · exact absurd (lt_of_lt_of_eq k.isLt t5) (Nat.not_lt_zero _)

/-! ## Which copy a tile makes -/

/-- Every tile but the last copies a full block out. -/
theorem cond3_iff (L : grid1.Coords) : k1_cond3 L = 1#1 ↔ wk L < 31 := by
  have hw := wk_lt L
  have h : ∀ w : Fin 32, (Scalar.cmpi .ne (Scalar.extui (Scalar.cmpi .slt (BitVec.ofNat 32 w.val) 31#32) : BitVec 32) 0#32 = 1#1) ↔ w.val < 31 := by decide
  unfold k1_cond3
  simp only [wk_word L]
  exact h ⟨wk L, hw⟩

/-- The last tile copies the shorter block out. -/
theorem cond4_iff (L : grid1.Coords) : (Scalar.cmpi .ne (Scalar.extui (Scalar.cmpi .eq (BitVec.ofNat 32 (wk L)) 31#32) : BitVec 32) 0#32 = 1#1) ↔ wk L = 31 := by
  have hw := wk_lt L
  have h : ∀ w : Fin 32, (Scalar.cmpi .ne (Scalar.extui (Scalar.cmpi .eq (BitVec.ofNat 32 w.val) 31#32) : BitVec 32) 0#32 = 1#1) ↔ w.val = 31 := by decide
  exact h ⟨wk L, hw⟩

/-! ## The blocks of the output -/

/-- Block `w` of the flat output, by its indices. -/
def oset (w : ℕ) : Finset S1280000.Idx := Finset.univ.filter fun j => (j 0).val / 40064 = w

/-- Block `w` of a call's output, by the buffer's elements. -/
def oblk (B : Bufs) (w : ℕ) : Finset B.outM.view.ty.shape.Idx := (oset w).map B.outM.view.emb

/-- A box of the output. -/
abbrev obox (B : Bufs) (n : ℕ) (off : Fin 1 → ℕ) (inb : ∀ a, off a + (⟨1, ![n]⟩ : Shape).size a ≤ S1280000.size a) : Memref sig .scVector .hbm ⟨1, ![n]⟩ .f32 :=
  (B.outM).slice (Rect.unit (s := S1280000) off (⟨1, ![n]⟩ : Shape).size inb) (fun _ => rfl)

/-- A box within a block is among the block's elements. -/
theorem obox_subset (B : Bufs) (n w : ℕ) (off : Fin 1 → ℕ) (inb) (h0 : off 0 = 40064 * w) (hn : n ≤ 40064) : (obox B n off inb).view.set ⊆ oblk B w := by
  intro j hj
  obtain ⟨x, -, hx⟩ := Finset.mem_map.mp hj
  have hx0 : (x 0).val < n := (x 0).isLt
  refine Finset.mem_map.mpr ⟨(Rect.unit (s := S1280000) off (⟨1, ![n]⟩ : Shape).size inb).emb x, Finset.mem_filter.mpr ⟨Finset.mem_univ _, ?_⟩, hx⟩
  show (off 0 + 1 * (x 0).val) / 40064 = w
  omega

/-- What the output holds where a box of it was written. -/
theorem wr_obox (B : Bufs) (n : ℕ) (off : Fin 1 → ℕ) (inb) (f : B.outM.view.ty.Contents (Elt F)) (w : (⟨1, ![n]⟩ : Shape).Idx → F .f32) (x : (⟨1, ![n]⟩ : Shape).Idx) (j : S1280000.Idx)
    (h : (j 0).val = off 0 + (x 0).val) : (rd B.outM ((obox B n off inb).view.write (Elt F) f w Finset.univ) j : F .f32) = w x :=
  vwrite_hit (Val := Elt F) B.outM inb f w x j (fun a => match a with | ⟨0, _⟩ => h)

/-- What the kernel writes out for an aggregated word. -/
def fin (v : F .f32) : F .f32 := k1_pay9 (F := F) (fun _ => v) (ix (N := ![16]) 0 (by decide))

/-- The last loop finishes each lane by itself. -/
theorem fin_eq (v : Vec F S16 .f32) (x : S16.Idx) : k1_pay9 (F := F) v x = fin (v x) := rfl

/-- The output's block: each word the aggregate's, finished. -/
def RowO (E : ℕ → ℕ) (X : ℕ → ℕ → F .f32) (w T : ℕ) (f : S1280000.Idx → F .f32) : Prop :=
  ∀ j : S1280000.Idx, (j 0).val / 40064 = w → f j = fin (agg E X T (((j 0).val - 40064 * w) / 128) ((j 0).val % 128))

end Cert.Proof.SegWords

end
-- ==== Proof.Segmax.lean ====
/-
  The aggregation kernel's task: the aggregate is cleared, the worker's list is taken into it block by block, each word is
  finished, and the aggregate goes to the worker's block of the output.
-/
module

public import proofs.«01_k».proof.Proof.SegWords

@[expose] public section

noncomputable section

namespace Cert.Proof.Segmax

open Cert.KernelIdeal Cert.KernelIdeal.Gen Cert.Proof.Setup Cert.Proof.Access Cert.Proof.Fold Cert.Proof.Words Cert.Proof.Group Cert.Proof.Copy Cert.Proof.Chunk Cert.Proof.RowAccess Cert.Proof.Geometry Cert.Proof.SegWords Cert.Proof.Lists

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (B : Bufs) (d : Dev nD) (L : grid1.Coords)

/-! ## Clearing and finishing the aggregate -/

/-- The first `16 n` words are clear. -/
def I1 (n : ℕ) (_ : Unit) : sProp 𝕄 :=
  iprop(∃ f : B.agM.view.ty.Contents (Elt F), ⌜∀ j : S40192.Idx, (j 0).val < 16 * n → rd B.agM f j = ninf⌝ ∗ ((B.agM).view.loc (th1 d L) ↦{fullShare} f))

/-- Sixteen words are cleared. -/
theorem clear (k : Fin k1_t1_loop.trips) (u : Unit) :
    I1 (F := F) B d L k.val u
      ⊢ wp frame (wpE (defs₀ (F := F)) 𝒱₀ (th1 d L) none) Set.univ
        (k1_t1_body L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4 k u)
        (I1 (F := F) B d L (k.val + 1)) := by
  unfold I1
  iintro ⟨%f, %hf, Ha⟩
  unfold k1_t1_body
  iapply (wp_load_rect 𝒱₀ (th1 d L) none Set.univ (m := B.agM) (r := Rect.unit (s := S40192) (k1_off1 k) S16.size (k1_off1_inb k)) (Finset.subset_univ _)) $$ Ha
  iintro Ha
  iapply (wp_store 𝒱₀ (th1 d L) none Set.univ (m := B.agM) (r := Rect.unit (s := S40192) (k1_off1 k) S16.size (k1_off1_inb k)) (Mk := Finset.univ) (Finset.subset_univ _)) $$ Ha
  iintro Ha
  iapply (le_wp_ret _ _)
  iexists _; isplitr
  swap; · iexact Ha
  ipureintro
  have ho : k1_off1 k 0 = 16 * k.val := congrFun (k1_off1_eq k) 0
  intro j hj
  by_cases hlt : (j 0).val < 16 * k.val
  · exact (wr_ag_out (F := F) B.agM (k1_off1_inb k) f _ j (.inl (by omega))).trans (hf j hlt)
  · have hx : (j 0).val - 16 * k.val < 16 := by omega
    refine (wr_ag (F := F) B.agM (k1_off1_inb k) f _ (ix (N := ![16]) ((j 0).val - 16 * k.val) hx) j ?_).trans rfl
    rw [ho]; show (j 0).val = 16 * k.val + ((j 0).val - 16 * k.val); omega

/-- The first `16 n` words are finished, the others as they were. -/
def I8 (f0 : B.agM.view.ty.Contents (Elt F)) (n : ℕ) (_ : Unit) : sProp 𝕄 :=
  iprop(∃ f : B.agM.view.ty.Contents (Elt F), ⌜(∀ j : S40192.Idx, (j 0).val < 16 * n → rd B.agM f j = fin (rd B.agM f0 j)) ∧ ∀ j : S40192.Idx, 16 * n ≤ (j 0).val → rd B.agM f j = rd B.agM f0 j⌝
    ∗ ((B.agM).view.loc (th1 d L) ↦{fullShare} f))

/-- Sixteen words are finished. -/
theorem finish (f0 : B.agM.view.ty.Contents (Elt F)) (k : Fin k1_t8_loop.trips) (u : Unit) :
    I8 (F := F) B d L f0 k.val u
      ⊢ wp frame (wpE (defs₀ (F := F)) 𝒱₀ (th1 d L) none) Set.univ
        (k1_t8_body L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4 k u)
        (I8 (F := F) B d L f0 (k.val + 1)) := by
  unfold I8
  iintro ⟨%f, %hf, Ha⟩
  obtain ⟨h1, h2⟩ := hf
  unfold k1_t8_body
  iapply (wp_load_rect 𝒱₀ (th1 d L) none Set.univ (m := B.agM) (r := Rect.unit (s := S40192) (k1_off297 k) S16.size (k1_off297_inb k)) (Finset.subset_univ _)) $$ Ha
  iintro Ha
  iapply (wp_load_rect 𝒱₀ (th1 d L) none Set.univ (m := B.agM) (r := Rect.unit (s := S40192) (k1_off297 k) S16.size (k1_off297_inb k)) (Finset.subset_univ _)) $$ Ha
  iintro Ha
  iapply (wp_store 𝒱₀ (th1 d L) none Set.univ (m := B.agM) (r := Rect.unit (s := S40192) (k1_off297 k) S16.size (k1_off297_inb k)) (Mk := Finset.univ) (Finset.subset_univ _)) $$ Ha
  iintro Ha
  iapply (le_wp_ret _ _)
  iexists _; isplitr
  swap; · iexact Ha
  ipureintro
  have ho : k1_off297 k 0 = 16 * k.val := congrFun (k1_off297_eq k) 0
  refine ⟨fun j hj => ?_, fun j hj => ?_⟩
  · by_cases hlt : (j 0).val < 16 * k.val
    · exact (wr_ag_out (F := F) B.agM (k1_off297_inb k) f _ j (.inl (by omega))).trans (h1 j hlt)
    · have hx : (j 0).val - 16 * k.val < 16 := by omega
      refine (wr_ag (F := F) B.agM (k1_off297_inb k) f _ (ix (N := ![16]) ((j 0).val - 16 * k.val) hx) j ?_).trans ?_
      · rw [ho]; show (j 0).val = 16 * k.val + ((j 0).val - 16 * k.val); omega
      · rw [fin_eq]
        refine congrArg fin ((rd_ag (F := F) B.agM (k1_off297_inb k) f _ j ?_).trans (h2 j (by omega)))
        rw [ho]; show (j 0).val = 16 * k.val + ((j 0).val - 16 * k.val); omega
  · refine (wr_ag_out (F := F) B.agM (k1_off297_inb k) f _ j (.inr ?_)).trans (h2 j (by omega))
    rw [ho]; show 16 * k.val + 16 ≤ _; omega

/-! ## One block of the list -/

/-- Between blocks: the share of `x`, the worker's row of the lists, the scratch, the aggregate so far, the semaphores, the waits. -/
def I2 (qx : PosShare TreeShare) (X0 : B.xM.view.ty.Contents (Elt F)) (E : ℕ → ℕ) (X : ℕ → ℕ → F .f32) (hl : S32x323584.Idx → BitVec 32)
    (T : ℕ) (O : CellTallies nD τ sig (HIx 10)) (W : Waits sig (HIx 10)) (n : ℕ) (_ : Unit) : sProp 𝕄 :=
  iprop(((B.xM).view.loc (th1 d L) ↦{qx} X0) ∗ ((lstM).view.loc (th1 d L) ↦[lrow (wk L)]{fullShare} hl)
    ∗ (∃ f : B.pcM.view.ty.Contents (Elt F), (B.pcM).view.loc (th1 d L) ↦{fullShare} f)
    ∗ (∃ f : B.siM.view.ty.Contents (Elt F), (B.siM).view.loc (th1 d L) ↦{fullShare} f)
    ∗ (∃ R : B.rwM.view.ty.Contents (Elt F), (B.rwM).view.loc (th1 d L) ↦{fullShare} R)
    ∗ (∃ f : B.agM.view.ty.Contents (Elt F), ⌜Agg E X (8 * min (2048 * n) T) (rd B.agM f)⌝ ∗ ((B.agM).view.loc (th1 d L) ↦{fullShare} f))
    ∗ semVal (th1 d L, .dma B.s5.sem) 0 ∗ semVal (th1 d L, .dma B.p1.sem) 0
    ∗ OW (th1 d L) O W ∗ Transfers.MayWaits (th1 d L) (default : HIx 10) O)

set_option maxRecDepth 65536 in
set_option maxHeartbeats 2000000 in
/-- One block. -/
theorem block (qx : PosShare TreeShare) (X0 : B.xM.view.ty.Contents (Elt F)) (E : ℕ → ℕ) (X : ℕ → ℕ → F .f32) (hX : ∀ j : S10000x128.Idx, rd B.xM X0 j = X (j 0).val (j 1).val)
    (hE : ∀ n, E n ≤ 5128192) (hE2 : ∀ n, E n % 16384 < 10000) (hl : S32x323584.Idx → BitVec 32) (T : ℕ) (hT : T ≤ 322000) (hT2 : 128 ∣ T)
    (hL : ∀ j : S32x323584.Idx, (j 0).val = wk L → (j 1).val < T → (hl j).toNat = E (j 1).val)
    (O : CellTallies nD τ sig (HIx 10)) (W : Waits sig (HIx 10)) (v6 : BitVec 32) (hv : v6.toNat = T) (hw1 : k1_chk1 L v6) (k : Fin (k1_t2_loop v6).trips) (u : Unit) :
    I2 (F := F) B d L qx X0 E X hl T O W k.val u
      ⊢ wp frame (wpE (defs₀ (F := F)) 𝒱₀ (th1 d L) none) Set.univ
        (k1_t2_body L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4 v6 hw1 k u)
        (I2 (F := F) B d L qx X0 E X hl T O W (k.val + 1)) := by
  have hk0 : k.val < (v6.toNat + 2047) / 2048 := lt_of_lt_of_eq k.isLt (trips2 v6 (by omega))
  have hk : k.val < 200 := by omega
  have hkb : 2048 * k.val + 2048 ≤ 323584 := by omega
  have hw := wk_lt L
  have ho := off3_eq L v6 k hk
  have ho0 : k1_off3 L v6 k 0 = wk L := congrFun ho 0
  have ho1 : k1_off3 L v6 k 1 = 2048 * k.val := congrFun ho 1
  unfold I2
  iintro ⟨HX, Hl, ⟨%fp, Hp⟩, Hi, Hr, ⟨%fa, %hfa, Ha⟩, Hv, Hv1, HO, #Hmw⟩
  unfold k1_t2_body
  iapply (wp_copy (th1 d L) rfl (View.dmaCredit_pos _ (by decide)) ((lchunk_subset _ (k1_off3_inb L v6 hw1 k)).trans (le_of_eq (congrArg lrow ho0))) (Finset.subset_univ _)) $$ [Hl Hp Hv1 HO]
  · isplitl [Hl]; · iexact Hl
    isplitl [Hp]; · iexact Hp
    isplitl [Hv1]; · iexact Hv1
    isplitl [HO]; · iexact HO
    iexact Hmw
  iintro ⟨Hl, Hp, Hv1, HO⟩
  generalize hfp : (B.pcM).view.write (Elt F) fp ((lchunk (k1_off3 L v6 k) (k1_off3_inb L v6 hw1 k)).view.read (Elt F) hl) Finset.univ = fp'
  have hp : ∀ x : S2048.Idx, 2048 * k.val + (x 0).val < T →
      (rd B.pcM fp' x : BitVec 32).toNat = E (2048 * k.val + (x 0).val) := by
    intro x hx
    have hx0 : (x 0).val < 2048 := (x 0).isLt
    subst hfp
    refine (congrArg BitVec.toNat (congrFun (View.read_write_univ (Val := Elt F) (v := (B.pcM).view) fp _) x)).trans ?_
    refine (congrArg BitVec.toNat (rd_lchunk (F := F) (k1_off3 L v6 k) (k1_off3_inb L v6 hw1 k) hl x
      (ix2 (N := ![32, 323584]) (wk L) (2048 * k.val + (x 0).val) hw (show _ < 323584 by omega)) ho0.symm
      (show 2048 * k.val + (x 0).val = k1_off3 L v6 k 1 + (x 0).val by rw [ho1]))).trans ?_
    exact hL _ rfl hx
  have hbody := fun k3 u3 => chunk (F := F) B d L qx X0 E X hX hE hE2 fp' T (by omega) hT2 O W v6 hv k hk hp k3 u3
  iapply (Scf.wp_for_bind frame (wpE (defs₀ (F := F)) 𝒱₀ (th1 d L) none) Set.univ k1_t3_loop.lb k1_t3_loop.ub k1_t3_loop.st k1_t3_ok ⟨⟩ _
    (I3 (F := F) B d L qx X0 E X fp' (2048 * k.val) T O W) hbody) $$ [HX Hp Hi Hr Ha Hv HO]
  · unfold I3
    isplitl [HX]; · iexact HX
    isplitl [Hp]; · iexact Hp
    isplitl [Hi]; · iexact Hi
    isplitl [Hr]; · iexact Hr
    isplitl [Ha]
    · iexists fa; isplitr
      · ipureintro; exact hfa
      · iexact Ha
    isplitl [Hv]; · iexact Hv
    isplitl [HO]; · iexact HO
    iexact Hmw
  unfold I3
  iintro %u' ⟨HX, Hp, Hi, Hr, ⟨%fa', %hfa', Ha⟩, Hv, HO, -⟩
  have ht : Scf.trips k1_t3_loop.lb k1_t3_loop.ub k1_t3_loop.st = 16 := by decide
  rw [ht] at hfa'
  clear ht
  rw [show 2048 * k.val + 128 * 16 = 2048 * (k.val + 1) by omega] at hfa'
  iapply (le_wp_ret _ _)
  isplitl [HX]; · iexact HX
  isplitl [Hl]; · iexact Hl
  isplitl [Hp]; · iexists _; iexact Hp
  isplitl [Hi]; · iexact Hi
  isplitl [Hr]; · iexact Hr
  isplitl [Ha]
  · iexists fa'; isplitr
    · ipureintro; exact hfa'
    · iexact Ha
  isplitl [Hv]; · iexact Hv
  isplitl [Hv1]; · iexact Hv1
  isplitl [HO]; · iexact HO
  iexact Hmw

end Cert.Proof.Segmax

end
-- ==== Proof.SegTask.lean ====
/-
  The whole of the aggregation kernel's task: the aggregate is cleared, the worker's list is taken into it block by block, each word is
  finished, and the aggregate goes to the worker's block of the output.
-/
module

public import proofs.«01_k».proof.Proof.Segmax

@[expose] public section

noncomputable section

namespace Cert.Proof.SegTask

open Cert.KernelIdeal Cert.KernelIdeal.Gen Cert.Proof.Setup Cert.Proof.Access Cert.Proof.Fold Cert.Proof.Words Cert.Proof.Group Cert.Proof.Copy Cert.Proof.Chunk Cert.Proof.RowAccess Cert.Proof.Geometry Cert.Proof.SegWords Cert.Proof.Lists Cert.Proof.BuildLists Cert.Proof.Segmax

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

variable (B : Bufs) (d : Dev nD) (L : grid1.Coords)

/-! ## Clearing, and the list's length -/

/-- The first of sixteen words, as the kernel takes it. -/
theorem first_word (v : S16.Idx → BitVec 32) : (extractAt ![0] (k1_pay315 (F := F) v) inpos_S1_p0 : BitVec 32) = v (ix (N := ![16]) 0 (by decide)) := by
  unfold k1_pay315 extractAt extractStridedSlice
  exact congrArg v (ix_eq _ 0 (by decide) rfl)

/-- What the first part leaves: the aggregate clear, the list's length read. -/
def Q59 (E : ℕ → ℕ) (X : ℕ → ℕ → F .f32) (T : ℕ) (fc : S32x16.Idx → BitVec 32)
    (O : CellTallies nD τ sig (HIx 10)) (W : Waits sig (HIx 10)) (v1 v6 : BitVec 32) : sProp 𝕄 :=
  iprop(⌜v1 = BitVec.ofNat 32 (wk L) ∧ v6.toNat = T⌝ ∗ ((cntM).view.loc (th1 d L) ↦[ccrow (wk L)]{fullShare} fc)
    ∗ (∃ f : B.agM.view.ty.Contents (Elt F), ⌜Agg E X 0 (rd B.agM f)⌝ ∗ ((B.agM).view.loc (th1 d L) ↦{fullShare} f))
    ∗ (∃ f : B.tbM.view.ty.Contents (Elt F), (B.tbM).view.loc (th1 d L) ↦{fullShare} f)
    ∗ semVal (th1 d L, .dma B.p0.sem) 0 ∗ OW (th1 d L) O W)

set_option maxRecDepth 65536 in
set_option maxHeartbeats 1000000 in
/-- The first part. -/
theorem first (E : ℕ → ℕ) (X : ℕ → ℕ → F .f32) (T : ℕ) (hT : T ≤ 322000) (fc : S32x16.Idx → BitVec 32)
    (hC : ∀ j : S32x16.Idx, (j 0).val = wk L → (fc j).toNat = T) (fa : B.agM.view.ty.Contents (Elt F)) (ft : B.tbM.view.ty.Contents (Elt F))
    (O : CellTallies nD τ sig (HIx 10)) (W : Waits sig (HIx 10)) :
    iprop(((cntM).view.loc (th1 d L) ↦[ccrow (wk L)]{fullShare} fc) ∗ ((B.agM).view.loc (th1 d L) ↦{fullShare} fa)
        ∗ ((B.tbM).view.loc (th1 d L) ↦{fullShare} ft) ∗ semVal (th1 d L, .dma B.p0.sem) 0 ∗ OW (th1 d L) O W
        ∗ Transfers.MayWaits (th1 d L) (default : HIx 10) O)
      ⊢ wp frame (wpE (defs₀ (F := F)) 𝒱₀ (th1 d L) none) Set.univ
        (k1_part59_skel L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4)
        (fun r => Q59 (F := F) B d L E X T fc O W r.1 r.2.1) := by
  unfold k1_part59_skel
  have ho0 : k1_off2 L 0 = wk L := congrFun (k1_off2_eq L) 0
  have ho1 : k1_off2 L 1 = 0 := congrFun (k1_off2_eq L) 1
  have hw := wk_lt L
  iintro ⟨Hc, Ha, Ht, Hv, HO, Hmw⟩
  iapply (Scf.wp_for_bind frame (wpE (defs₀ (F := F)) 𝒱₀ (th1 d L) none) Set.univ k1_t1_loop.lb k1_t1_loop.ub k1_t1_loop.st k1_t1_ok ⟨⟩ _
    (I1 (F := F) B d L) (fun k u => clear (F := F) B d L k u)) $$ [Ha]
  · unfold I1
    iexists fa; isplitr
    · ipureintro; exact fun j hj => absurd hj (by omega)
    · iexact Ha
  unfold I1
  iintro %u ⟨%f, %hf, Ha⟩
  have ht : Scf.trips k1_t1_loop.lb k1_t1_loop.ub k1_t1_loop.st = 2512 := by decide
  rw [ht] at hf
  clear ht
  iapply (wp_copy (th1 d L) rfl (View.dmaCredit_pos _ (by decide)) ((crow_subset _ (k1_off2_inb L)).trans (le_of_eq (congrArg ccrow ho0))) (Finset.subset_univ _)) $$ [Hc Ht Hv HO Hmw]
  · isplitl [Hc]; · iexact Hc
    isplitl [Ht]; · iexact Ht
    isplitl [Hv]; · iexact Hv
    isplitl [HO]; · iexact HO
    iexact Hmw
  iintro ⟨Hc, Ht, Hv, HO⟩
  generalize hft : (B.tbM).view.write (Elt F) ft ((crow (k1_off2 L) (k1_off2_inb L)).view.read (Elt F) fc) Finset.univ = ft'
  iapply (wp_load_rect 𝒱₀ (th1 d L) none Set.univ (m := B.tbM) (r := Rect.unit (s := S16) ![0] S16.size inb_S16_S16_0) (Finset.subset_univ _)) $$ Ht
  iintro Ht
  have hv6 : (extractAt ![0] (k1_pay315 (F := F) (((B.tbM).access (Rect.unit (s := S16) ![0] S16.size inb_S16_S16_0)).read (Elt F)
      ft')) inpos_S1_p0 : BitVec 32).toNat = T := by
    rw [first_word]
    refine (congrArg BitVec.toNat (rd_tb (F := F) B.tbM inb_S16_S16_0 _ (ix (N := ![16]) 0 (by decide)) (ix (N := ![16]) 0 (by decide)) rfl)).trans ?_
    subst hft
    refine (congrArg BitVec.toNat (congrFun (View.read_write_univ (Val := Elt F) (v := (B.tbM).view) ft _) _)).trans ?_
    refine (congrArg BitVec.toNat (rd_crow (F := F) (k1_off2 L) (k1_off2_inb L) fc (ix (N := ![16]) 0 (by decide))
      (ix2 (N := ![32, 16]) (wk L) 0 hw (by decide)) ho0.symm (show 0 = k1_off2 L 1 + 0 by rw [ho1]))).trans ?_
    exact hC _ rfl
  iapply (wp_assume 𝒱₀ (th1 d L) none Set.univ (chk1 L _ (le_of_eq_of_le hv6 hT)))
  iapply (le_wp_ret _ _)
  unfold Q59
  isplitr
  · ipureintro; exact ⟨wk_word L, hv6⟩
  isplitl [Hc]; · iexact Hc
  isplitl [Ha]
  · iexists f; isplitr
    · ipureintro
      intro j
      rw [part_zero]
      exact hf j (show (j 0).val < 16 * 2512 from (j 0).isLt)
    · iexact Ha
  isplitl [Ht]; · iexists _; iexact Ht
  isplitl [Hv]; · iexact Hv
  iexact HO

/-! ## The task -/

/-- What the task has at its start and at its end beside the lists', the counts' and the output's parts. -/
def Scr1 (qx : PosShare TreeShare) (X0 : B.xM.view.ty.Contents (Elt F)) (O : CellTallies nD τ sig (HIx 10)) (W : Waits sig (HIx 10)) : sProp 𝕄 :=
  iprop(((B.xM).view.loc (th1 d L) ↦{qx} X0)
    ∗ (∃ f : B.agM.view.ty.Contents (Elt F), (B.agM).view.loc (th1 d L) ↦{fullShare} f) ∗ (∃ f : B.pcM.view.ty.Contents (Elt F), (B.pcM).view.loc (th1 d L) ↦{fullShare} f)
    ∗ (∃ f : B.siM.view.ty.Contents (Elt F), (B.siM).view.loc (th1 d L) ↦{fullShare} f) ∗ (∃ f : B.rwM.view.ty.Contents (Elt F), (B.rwM).view.loc (th1 d L) ↦{fullShare} f)
    ∗ (∃ f : B.tbM.view.ty.Contents (Elt F), (B.tbM).view.loc (th1 d L) ↦{fullShare} f)
    ∗ semVal (th1 d L, .dma B.s5.sem) 0 ∗ semVal (th1 d L, .dma B.p0.sem) 0 ∗ semVal (th1 d L, .dma B.p1.sem) 0
    ∗ semVal (th1 d L, .dma B.p2.sem) 0 ∗ semVal (th1 d L, .dma B.p3.sem) 0 ∗ semVal (th1 d L, .dma B.p4.sem) 0
    ∗ OW (th1 d L) O W ∗ Transfers.MayWaits (th1 d L) (default : HIx 10) O)

/-- The block copied out holds the finished aggregate. -/
theorem out_row (E : ℕ → ℕ) (X : ℕ → ℕ → F .f32) (T w n : ℕ) (off : Fin 1 → ℕ) (inb) (inb' : ∀ a, (![0] : Fin 1 → ℕ) a + (⟨1, ![n]⟩ : Shape).size a ≤ S40192.size a)
    (h0 : off 0 = 40064 * w) (hn : n ≤ 40064) (hn2 : 1280000 - 40064 * w ≤ n ∨ n = 40064) (f0 f : B.agM.view.ty.Contents (Elt F)) (hf0 : Agg E X (8 * T) (rd B.agM f0))
    (hf : ∀ j : S40192.Idx, (j 0).val < 40064 → rd B.agM f j = fin (rd B.agM f0 j)) (fo : B.outM.view.ty.Contents (Elt F)) :
    RowO E X w T (rd B.outM ((obox B n off inb).view.write (Elt F) fo
      (((B.agM).slice (Rect.unit (s := S40192) ![0] (⟨1, ![n]⟩ : Shape).size inb') (fun _ => rfl)).view.read (Elt F) f) Finset.univ)) := by
  intro j hj
  have hj0 : (j 0).val < 1280000 := (j 0).isLt
  have hx : (j 0).val - 40064 * w < n := by omega
  refine (wr_obox (F := F) B n off inb fo _ (ix (N := ![n]) ((j 0).val - 40064 * w) hx) j
    (by rw [h0]; show (j 0).val = 40064 * w + ((j 0).val - 40064 * w); omega)).trans ?_
  refine (rd_ag (F := F) B.agM inb' f (ix (N := ![n]) ((j 0).val - 40064 * w) hx)
    (ix (N := ![40192]) ((j 0).val - 40064 * w) (show _ < 40192 by omega)) (Nat.zero_add _).symm).trans ?_
  refine (hf _ (show (j 0).val - 40064 * w < 40064 by omega)).trans (congrArg fin ((hf0 _).trans ?_))
  rw [part_eight]
  show agg E X T (((j 0).val - 40064 * w) / 128) (((j 0).val - 40064 * w) % 128) = _
  rw [show ((j 0).val - 40064 * w) % 128 = (j 0).val % 128 by omega]

set_option maxRecDepth 65536 in
set_option maxHeartbeats 2000000 in
/-- The whole task: the worker's block of the output written, all else back. -/
theorem task1 (qx : PosShare TreeShare) (X0 : B.xM.view.ty.Contents (Elt F)) (E : ℕ → ℕ) (X : ℕ → ℕ → F .f32) (hX : ∀ j : S10000x128.Idx, rd B.xM X0 j = X (j 0).val (j 1).val)
    (hE : ∀ n, E n ≤ 5128192) (hE2 : ∀ n, E n % 16384 < 10000) (T : ℕ) (hT : T ≤ 322000) (hT2 : 128 ∣ T)
    (hl : S32x323584.Idx → BitVec 32) (hL : ∀ j : S32x323584.Idx, (j 0).val = wk L → (j 1).val < T → (hl j).toNat = E (j 1).val)
    (fc : S32x16.Idx → BitVec 32) (hC : ∀ j : S32x16.Idx, (j 0).val = wk L → (fc j).toNat = T)
    (O : CellTallies nD τ sig (HIx 10)) (W : Waits sig (HIx 10)) (fo : B.outM.view.ty.Contents (Elt F)) :
    iprop(Scr1 (F := F) B d L qx X0 O W ∗ ((lstM).view.loc (th1 d L) ↦[lrow (wk L)]{fullShare} hl)
        ∗ ((cntM).view.loc (th1 d L) ↦[ccrow (wk L)]{fullShare} fc) ∗ ((B.outM).view.loc (th1 d L) ↦[oblk B (wk L)]{fullShare} fo))
      ⊢ wp frame (wpE (defs₀ (F := F)) 𝒱₀ (th1 d L) none) Set.univ
        (cc1__segmax L B.xM B.hx lstM (Memref.isWhole_whole _) cntM (Memref.isWhole_whole _) B.outM B.ho
          B.agM B.ha B.pcM B.hp B.siM B.hs B.rwM B.hr B.tbM B.ht
          B.s5 B.p0 B.p1 B.p2 B.p3 B.p4)
        (fun _ => iprop(Scr1 (F := F) B d L qx X0 O W ∗ ((lstM).view.loc (th1 d L) ↦[lrow (wk L)]{fullShare} hl)
          ∗ ((cntM).view.loc (th1 d L) ↦[ccrow (wk L)]{fullShare} fc)
          ∗ (∃ ho, ⌜RowO E X (wk L) T (rd B.outM ho)⌝ ∗ ((B.outM).view.loc (th1 d L) ↦[oblk B (wk L)]{fullShare} ho)))) := by
  rw [cc1__segmax_eq_skeleton]
  unfold cc1__segmax_skel
  rw [wp_bind]
  unfold Scr1
  iintro ⟨⟨HX, ⟨%fa, Ha⟩, Hp, Hi, Hr, ⟨%ft, Ht⟩, Hv, Hv0, Hv1, Hv2, Hv3, Hv4, HO, #Hmw⟩, Hl, Hc, Ho⟩
  iapply (wp_wand_r frame _ _)
  isplitl [Hc Ha Ht Hv0 HO]
  · rw [k1_part59_eq_skeleton]
    iapply (first (F := F) B d L E X T hT fc hC fa ft O W)
    isplitl [Hc]; · iexact Hc
    isplitl [Ha]; · iexact Ha
    isplitl [Ht]; · iexact Ht
    isplitl [Hv0]; · iexact Hv0
    isplitl [HO]; · iexact HO
    iexact Hmw
  unfold Q59
  iintro %r ⟨%hr, Hc, ⟨%f1, %hf1, Ha⟩, Ht, Hv0, HO⟩
  obtain ⟨v1, v6, hw1, v9, v23, v24⟩ := r
  obtain ⟨hv1, hv6⟩ := hr
  dsimp only at hv1 hv6 ⊢
  have hw := wk_lt L
  -- the list, block by block
  have hbody := fun k u => block (F := F) B d L qx X0 E X hX hE hE2 hl T hT hT2 hL O W v6 hv6 hw1 k u
  iapply (Scf.wp_for_bind frame (wpE (defs₀ (F := F)) 𝒱₀ (th1 d L) none) Set.univ (k1_t2_loop v6).lb (k1_t2_loop v6).ub (k1_t2_loop v6).st (k1_t2_ok L v6 hw1) ⟨⟩ _
    (I2 (F := F) B d L qx X0 E X hl T O W) hbody) $$ [HX Hl Hp Hi Hr Ha Hv Hv1 HO]
  · unfold I2
    isplitl [HX]; · iexact HX
    isplitl [Hl]; · iexact Hl
    isplitl [Hp]; · iexact Hp
    isplitl [Hi]; · iexact Hi
    isplitl [Hr]; · iexact Hr
    isplitl [Ha]
    · iexists f1; isplitr
      · ipureintro
        rw [show 8 * min (2048 * 0) T = 0 by omega]; exact hf1
      · iexact Ha
    isplitl [Hv]; · iexact Hv
    isplitl [Hv1]; · iexact Hv1
    isplitl [HO]; · iexact HO
    iexact Hmw
  unfold I2
  iintro %u2 ⟨HX, Hl, Hp, Hi, Hr, ⟨%f2, %hf2, Ha⟩, Hv, Hv1, HO, -⟩
  have hf2' : Agg E X (8 * T) (rd B.agM f2) := by
    have ht : Scf.trips (k1_t2_loop v6).lb (k1_t2_loop v6).ub (k1_t2_loop v6).st = (v6.toNat + 2047) / 2048 := trips2 v6 (by omega)
    rw [ht, hv6, show min (2048 * ((T + 2047) / 2048)) T = T by omega] at hf2
    exact hf2
  clear hf2
  -- no trip remains
  iapply (Scf.wp_for_bind frame (wpE (defs₀ (F := F)) 𝒱₀ (th1 d L) none) Set.univ (k1_t5_loop v6).lb (k1_t5_loop v6).ub (k1_t5_loop v6).st (k1_t5_ok L v6 hw1) ⟨⟩ _
    (fun _ _ => (iprop(emp) : sProp 𝕄)) (fun k u => absurd (lt_of_lt_of_eq k.isLt (trips5 v6 (by omega))) (Nat.not_lt_zero _))) $$ []
  · iempintro
  iintro %u5 -
  -- each word finished
  iapply (Scf.wp_for_bind frame (wpE (defs₀ (F := F)) 𝒱₀ (th1 d L) none) Set.univ k1_t8_loop.lb k1_t8_loop.ub k1_t8_loop.st k1_t8_ok ⟨⟩ _
    (I8 (F := F) B d L f2) (fun k u => finish (F := F) B d L f2 k u)) $$ [Ha]
  · unfold I8
    iexists f2; isplitr
    · ipureintro; exact ⟨fun j hj => absurd hj (by omega), fun _ _ => rfl⟩
    · iexact Ha
  unfold I8
  iintro %u8 ⟨%f3, %hf3, Ha⟩
  have hf3' : ∀ j : S40192.Idx, (j 0).val < 40064 → rd B.agM f3 j = fin (rd B.agM f2 j) := by
    have ht : Scf.trips k1_t8_loop.lb k1_t8_loop.ub k1_t8_loop.st = 2504 := by decide
    rw [ht] at hf3
    exact hf3.1
  clear hf3
  subst hv1
  -- the block copied out
  by_cases h31 : wk L < 31
  · have ho0 : k1_off298 L 0 = 40064 * wk L := (congrFun (k1_off298_eq L) 0).trans (by show 80128 * (L 1).val + 40064 * (L 0).val = 40064 * (2 * (L 1).val + (L 0).val); omega)
    iapply (wp_dif_pos (th1 d L) ((cond3_iff L).mpr h31))
    iapply (wp_copy (th1 d L) rfl (View.dmaCredit_pos _ (by decide)) (Finset.subset_univ _)
      (obox_subset B 40064 (wk L) (k1_off298 L) (k1_off298_inb L ((cond3_iff L).mpr h31)) ho0 le_rfl)) $$ [Ha Ho Hv3 HO]
    · isplitl [Ha]; · iexact Ha
      isplitl [Ho]; · iexact Ho
      isplitl [Hv3]; · iexact Hv3
      isplitl [HO]; · iexact HO
      iexact Hmw
    iintro ⟨Ha, Ho, Hv3, HO⟩
    iapply (wp_dif_neg (th1 d L) (fun h => absurd ((cond4_iff L).mp h) (by omega)))
    iapply (le_wp_ret _ _)
    isplitl [HX Ha Hp Hi Hr Ht Hv Hv0 Hv1 Hv2 Hv3 Hv4 HO]
    · isplitl [HX]; · iexact HX
      isplitl [Ha]; · iexists _; iexact Ha
      isplitl [Hp]; · iexact Hp
      isplitl [Hi]; · iexact Hi
      isplitl [Hr]; · iexact Hr
      isplitl [Ht]; · iexact Ht
      isplitl [Hv]; · iexact Hv
      isplitl [Hv0]; · iexact Hv0
      isplitl [Hv1]; · iexact Hv1
      isplitl [Hv2]; · iexact Hv2
      isplitl [Hv3]; · iexact Hv3
      isplitl [Hv4]; · iexact Hv4
      isplitl [HO]; · iexact HO
      iexact Hmw
    isplitl [Hl]; · iexact Hl
    isplitl [Hc]; · iexact Hc
    iexists _; isplitr
    swap; · iexact Ho
    ipureintro
    exact out_row (F := F) B E X T (wk L) 40064 (k1_off298 L) _ inb_S40192_S40064_0 ho0 le_rfl (.inr rfl) f2 f3 hf2' hf3' fo
  · have h31' : wk L = 31 := by omega
    have ho0 : (![1241984] : Fin 1 → ℕ) 0 = 40064 * wk L := by rw [h31']; rfl
    iapply (wp_dif_neg (th1 d L) (fun h => h31 ((cond3_iff L).mp h)))
    iapply (wp_dif_pos (th1 d L) ((cond4_iff L).mpr h31'))
    iapply (wp_copy (th1 d L) rfl (View.dmaCredit_pos _ (by decide)) (Finset.subset_univ _)
      (obox_subset B 38016 (wk L) ![1241984] inb_S1280000_S38016_1241984 ho0 (by decide))) $$ [Ha Ho Hv4 HO]
    · isplitl [Ha]; · iexact Ha
      isplitl [Ho]; · iexact Ho
      isplitl [Hv4]; · iexact Hv4
      isplitl [HO]; · iexact HO
      iexact Hmw
    iintro ⟨Ha, Ho, Hv4, HO⟩
    iapply (le_wp_ret _ _)
    isplitl [HX Ha Hp Hi Hr Ht Hv Hv0 Hv1 Hv2 Hv3 Hv4 HO]
    · isplitl [HX]; · iexact HX
      isplitl [Ha]; · iexists _; iexact Ha
      isplitl [Hp]; · iexact Hp
      isplitl [Hi]; · iexact Hi
      isplitl [Hr]; · iexact Hr
      isplitl [Ht]; · iexact Ht
      isplitl [Hv]; · iexact Hv
      isplitl [Hv0]; · iexact Hv0
      isplitl [Hv1]; · iexact Hv1
      isplitl [Hv2]; · iexact Hv2
      isplitl [Hv3]; · iexact Hv3
      isplitl [Hv4]; · iexact Hv4
      isplitl [HO]; · iexact HO
      iexact Hmw
    isplitl [Hl]; · iexact Hl
    isplitl [Hc]; · iexact Hc
    iexists _; isplitr
    swap; · iexact Ho
    ipureintro
    exact out_row (F := F) B E X T (wk L) 38016 ![1241984] _ inb_S40192_S38016_0 ho0 (by decide) (.inl (by omega)) f2 f3 hf2' hf3' fo

end Cert.Proof.SegTask

end
-- ==== Proof.Tile.lean ====
/-
  What a task takes and brings back, in each of the two calls, and the tasks proved with a vector subcore's own buffers and
  semaphores around them.
-/
module

public import proofs.«01_k».proof.Proof.SegTask

@[expose] public section

noncomputable section

namespace Cert.Proof.Tile

open Cert.KernelIdeal Cert.KernelIdeal.Gen Cert.Proof.Setup Cert.Proof.Fold Cert.Proof.Words Cert.Proof.Group Cert.Proof.Copy Cert.Proof.RowAccess Cert.Proof.BuildTrip Cert.Proof.BuildBlock Cert.Proof.BuildLists Cert.Proof.SegWords Cert.Proof.SegTask Cert.Proof.Lists

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 10) (Elt F) ℕ UU ℕ

/-! ## The arrays, and what each task takes and brings back -/

abbrev srcL (d : Dev nD) : Loc nD τ sig := (SparseCore.T d).loc main_v1
abbrev dstL (d : Dev nD) : Loc nD τ sig := (SparseCore.T d).loc main_v3
abbrev lstL (d : Dev nD) : Loc nD τ sig := (SparseCore.T d).loc main_v4_0
abbrev cntL (d : Dev nD) : Loc nD τ sig := (SparseCore.T d).loc main_v4_1

/-- Worker `w`'s share of an array that every task reads. -/
abbrev lf (w : Fin 32) : PosShare TreeShare := leaf 5 fullShare w

/-- A row and a column of `x`, by numbers. -/
def XF (X0 : S10000x128.Idx → F .f32) (r c : ℕ) : F .f32 :=
  if h : r < 10000 ∧ c < 128 then X0 (ix2 (N := ![10000, 128]) r c h.1 h.2) else X0 (ix2 (N := ![10000, 128]) 0 0 (by decide) (by decide))

/-- `x` at an index is `x` at its numbers. -/
theorem XF_eq (X0 : S10000x128.Idx → F .f32) (j : S10000x128.Idx) : X0 j = XF X0 (j 0).val (j 1).val := by
  have h0 : (j 0).val < 10000 := (j 0).isLt
  have h1 : (j 1).val < 128 := (j 1).isLt
  unfold XF
  rw [dif_pos ⟨h0, h1⟩]
  exact congrArg X0 (funext fun a => by match a with | ⟨0, _⟩ => rfl | ⟨1, _⟩ => rfl)

/-- The flat output: word by word, the finished maximum of the worker's list. -/
def OUT (As Ad : S320000.Idx → BitVec 32) (X0 : S10000x128.Idx → F .f32) (j : S1280000.Idx) : F .f32 :=
  fin (agg (ent (wd Ad) (wd As) ((j 0).val / 40064)) (XF X0) (len (wd Ad) ((j 0).val / 40064))
    (((j 0).val - 40064 * ((j 0).val / 40064)) / 128) ((j 0).val % 128))

/-- A task of the first call takes shares of the edge arrays, its row of the lists and its row of the counts. -/
def go0 (As Ad : S320000.Idx → BitVec 32) (d : Dev nD) (w : Fin 32) : sProp 𝕄 :=
  iprop((srcL d ↦{lf w} As) ∗ (dstL d ↦{lf w} Ad) ∗ (∃ f, lstL d ↦[lrow w.val]{fullShare} f) ∗ (∃ f, cntL d ↦[ccrow w.val]{fullShare} f))

/-- It brings back the rows, filled. -/
def td0 (As Ad : S320000.Idx → BitVec 32) (d : Dev nD) (w : Fin 32) : sProp 𝕄 :=
  iprop((∃ h, ⌜RowL (wd Ad) (wd As) w.val h⌝ ∗ lstL d ↦[lrow w.val]{fullShare} h) ∗ (∃ h, ⌜RowC (wd Ad) w.val h⌝ ∗ cntL d ↦[ccrow w.val]{fullShare} h))

/-- A tile's worker number. -/
abbrev wL (L : grid0.Coords) : Fin 32 := ⟨wk L, wk_lt L⟩

/-- A task of an aggregating call takes a share of the features, the filled rows and its block of the output. -/
def goB (B : Bufs) (As Ad : S320000.Idx → BitVec 32) (X0 : B.xM.view.ty.Contents (Elt F)) (d : Dev nD) (L : grid1.Coords) : sProp 𝕄 :=
  iprop((B.xM.view.loc (th1 d L) ↦{lf (wL L)} X0) ∗ td0 As Ad d (wL L) ∗ (∃ f, B.outM.view.loc (th1 d L) ↦[oblk B (wL L).val]{fullShare} f))

/-- It brings back the share, the rows and its block, written. -/
def tdB (B : Bufs) (As Ad : S320000.Idx → BitVec 32) (X0 : B.xM.view.ty.Contents (Elt F)) (g : B.outM.view.ty.Contents (Elt F)) (d : Dev nD) (L : grid1.Coords) : sProp 𝕄 :=
  iprop((B.xM.view.loc (th1 d L) ↦{lf (wL L)} X0) ∗ td0 As Ad d (wL L) ∗ (B.outM.view.loc (th1 d L) ↦[oblk B (wL L).val]{fullShare} g))

/-! ## The subcore's own semaphores and buffers -/

/-- The semaphores the task uses are among the subcore's own. -/
theorem ownSems0_th (d : Dev nD) (L : grid0.Coords) :
    (ownSems0 (th d L) : sProp 𝕄)
      = iprop(semVal (th d L, .dma cc0_scoped0.sem) 0 ∗ semVal (th d L, .dma cc0_scoped1.sem) 0 ∗ semVal (th d L, .dma cc0_scoped2.sem) 0 ∗ semVal (th d L, .dma cc0_scoped3.sem) 0 ∗ semVal (th d L, .dma cc0_scoped4.sem) 0
          ∗ bigSep ((((((ownCells (th d L)).erase (th d L, .dma cc0_scoped0.sem)).erase (th d L, .dma cc0_scoped1.sem)).erase (th d L, .dma cc0_scoped2.sem)).erase (th d L, .dma cc0_scoped3.sem)).erase (th d L, .dma cc0_scoped4.sem)) fun g => semVal g 0) := by
  unfold SparseCore.Cfg.ownSems0
  rw [SparseCore.bigSep_erase' ((mem_ownCells (g := ((th d L, .dma cc0_scoped0.sem) : GSem nD τ sig))).mpr ⟨rfl, by show (SemLoc.dma cc0_scoped0.sem : SemLoc sig).isScoped .scVector = true; decide⟩),
    SparseCore.bigSep_erase' (Finset.mem_erase.mpr ⟨(fun e => absurd (Prod.mk.inj e).2 (show (SemLoc.dma cc0_scoped1.sem : SemLoc sig) ≠ .dma cc0_scoped0.sem by decide)), ((mem_ownCells (g := ((th d L, .dma cc0_scoped1.sem) : GSem nD τ sig))).mpr ⟨rfl, by show (SemLoc.dma cc0_scoped1.sem : SemLoc sig).isScoped .scVector = true; decide⟩)⟩),
    SparseCore.bigSep_erase' (Finset.mem_erase.mpr ⟨(fun e => absurd (Prod.mk.inj e).2 (show (SemLoc.dma cc0_scoped2.sem : SemLoc sig) ≠ .dma cc0_scoped1.sem by decide)), (Finset.mem_erase.mpr ⟨(fun e => absurd (Prod.mk.inj e).2 (show (SemLoc.dma cc0_scoped2.sem : SemLoc sig) ≠ .dma cc0_scoped0.sem by decide)), ((mem_ownCells (g := ((th d L, .dma cc0_scoped2.sem) : GSem nD τ sig))).mpr ⟨rfl, by show (SemLoc.dma cc0_scoped2.sem : SemLoc sig).isScoped .scVector = true; decide⟩)⟩)⟩),
    SparseCore.bigSep_erase' (Finset.mem_erase.mpr ⟨(fun e => absurd (Prod.mk.inj e).2 (show (SemLoc.dma cc0_scoped3.sem : SemLoc sig) ≠ .dma cc0_scoped2.sem by decide)), (Finset.mem_erase.mpr ⟨(fun e => absurd (Prod.mk.inj e).2 (show (SemLoc.dma cc0_scoped3.sem : SemLoc sig) ≠ .dma cc0_scoped1.sem by decide)), (Finset.mem_erase.mpr ⟨(fun e => absurd (Prod.mk.inj e).2 (show (SemLoc.dma cc0_scoped3.sem : SemLoc sig) ≠ .dma cc0_scoped0.sem by decide)), ((mem_ownCells (g := ((th d L, .dma cc0_scoped3.sem) : GSem nD τ sig))).mpr ⟨rfl, by show (SemLoc.dma cc0_scoped3.sem : SemLoc sig).isScoped .scVector = true; decide⟩)⟩)⟩)⟩),
    SparseCore.bigSep_erase' (Finset.mem_erase.mpr ⟨(fun e => absurd (Prod.mk.inj e).2 (show (SemLoc.dma cc0_scoped4.sem : SemLoc sig) ≠ .dma cc0_scoped3.sem by decide)), (Finset.mem_erase.mpr ⟨(fun e => absurd (Prod.mk.inj e).2 (show (SemLoc.dma cc0_scoped4.sem : SemLoc sig) ≠ .dma cc0_scoped2.sem by decide)), (Finset.mem_erase.mpr ⟨(fun e => absurd (Prod.mk.inj e).2 (show (SemLoc.dma cc0_scoped4.sem : SemLoc sig) ≠ .dma cc0_scoped1.sem by decide)), (Finset.mem_erase.mpr ⟨(fun e => absurd (Prod.mk.inj e).2 (show (SemLoc.dma cc0_scoped4.sem : SemLoc sig) ≠ .dma cc0_scoped0.sem by decide)), ((mem_ownCells (g := ((th d L, .dma cc0_scoped4.sem) : GSem nD τ sig))).mpr ⟨rfl, by show (SemLoc.dma cc0_scoped4.sem : SemLoc sig).isScoped .scVector = true; decide⟩)⟩)⟩)⟩)⟩)]

/-- The scratch buffers the task uses are among the subcore's own. -/
theorem ownBufs_th (d : Dev nD) (L : grid0.Coords) :
    (ownBufs (th d L) : sProp 𝕄)
      = iprop((∃ f, (th d L).loc cc0_scratch0 ↦{fullShare} f) ∗ (∃ f, (th d L).loc cc0_scratch1 ↦{fullShare} f) ∗ (∃ f, (th d L).loc cc0_scratch2 ↦{fullShare} f) ∗ (∃ f, (th d L).loc cc0_scratch3 ↦{fullShare} f)
          ∗ bigSep (((((ownRefs (τ := τ) (Proc.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩)]

/-- Six distinct semaphores among the subcore's own. -/
theorem ownSems0_six (d : Dev nD) (L : grid1.Coords) (a b c e f g : SemLoc sig) (hs : ∀ x ∈ [a, b, c, e, f, g], x.isScoped .scVector = true)
    (hn : [g, f, e, c, b, a].Pairwise (· ≠ ·)) :
    ∃ R : sProp 𝕄, (ownSems0 (th1 d L) : sProp 𝕄) = iprop(semVal (th1 d L, a) 0 ∗ semVal (th1 d L, b) 0 ∗ semVal (th1 d L, c) 0 ∗ semVal (th1 d L, e) 0 ∗ semVal (th1 d L, f) 0 ∗ semVal (th1 d L, g) 0 ∗ R) := by
  simp only [List.pairwise_cons, List.mem_cons, List.not_mem_nil, _root_.or_false, forall_eq_or_imp, forall_eq, false_imp_iff, implies_true, _root_.and_true, List.Pairwise.nil] at hn
  obtain ⟨⟨hgf, hge, hgc, hgb, hga⟩, ⟨hfe, hfc, hfb, hfa⟩, ⟨hec, heb, hea⟩, ⟨hcb, hca⟩, hba⟩ := hn
  refine ⟨bigSep (((((((ownCells (th1 d L)).erase (th1 d L, a)).erase (th1 d L, b)).erase (th1 d L, c)).erase (th1 d L, e)).erase (th1 d L, f)).erase (th1 d L, g)) fun g => semVal g 0, ?_⟩
  unfold SparseCore.Cfg.ownSems0
  rw [SparseCore.bigSep_erase' ((mem_ownCells (g := ((th1 d L, a) : GSem nD τ sig))).mpr ⟨rfl, hs a (by simp)⟩),
    SparseCore.bigSep_erase' (Finset.mem_erase.mpr ⟨(fun t => hba (Prod.mk.inj t).2), ((mem_ownCells (g := ((th1 d L, b) : GSem nD τ sig))).mpr ⟨rfl, hs b (by simp)⟩)⟩),
    SparseCore.bigSep_erase' (Finset.mem_erase.mpr ⟨(fun t => hcb (Prod.mk.inj t).2), (Finset.mem_erase.mpr ⟨(fun t => hca (Prod.mk.inj t).2), ((mem_ownCells (g := ((th1 d L, c) : GSem nD τ sig))).mpr ⟨rfl, hs c (by simp)⟩)⟩)⟩),
    SparseCore.bigSep_erase' (Finset.mem_erase.mpr ⟨(fun t => hec (Prod.mk.inj t).2), (Finset.mem_erase.mpr ⟨(fun t => heb (Prod.mk.inj t).2), (Finset.mem_erase.mpr ⟨(fun t => hea (Prod.mk.inj t).2), ((mem_ownCells (g := ((th1 d L, e) : GSem nD τ sig))).mpr ⟨rfl, hs e (by simp)⟩)⟩)⟩)⟩),
    SparseCore.bigSep_erase' (Finset.mem_erase.mpr ⟨(fun t => hfe (Prod.mk.inj t).2), (Finset.mem_erase.mpr ⟨(fun t => hfc (Prod.mk.inj t).2), (Finset.mem_erase.mpr ⟨(fun t => hfb (Prod.mk.inj t).2), (Finset.mem_erase.mpr ⟨(fun t => hfa (Prod.mk.inj t).2), ((mem_ownCells (g := ((th1 d L, f) : GSem nD τ sig))).mpr ⟨rfl, hs f (by simp)⟩)⟩)⟩)⟩)⟩),
    SparseCore.bigSep_erase' (Finset.mem_erase.mpr ⟨(fun t => hgf (Prod.mk.inj t).2), (Finset.mem_erase.mpr ⟨(fun t => hge (Prod.mk.inj t).2), (Finset.mem_erase.mpr ⟨(fun t => hgc (Prod.mk.inj t).2), (Finset.mem_erase.mpr ⟨(fun t => hgb (Prod.mk.inj t).2), (Finset.mem_erase.mpr ⟨(fun t => hga (Prod.mk.inj t).2), ((mem_ownCells (g := ((th1 d L, g) : GSem nD τ sig))).mpr ⟨rfl, hs g (by simp)⟩)⟩)⟩)⟩)⟩)⟩)]

/-- Five distinct buffers among the subcore's own. -/
theorem ownBufs_five (d : Dev nD) (L : grid1.Coords) (b0 b1 b2 b3 b4 : Ref sig .scVector)
    (ho : ∀ x ∈ [b0, b1, b2, b3, b4], ((Proc.scVector (cV1 L) (jV1 L)).devRef x).owner = .proc (Proc.scVector (cV1 L) (jV1 L)))
    (hn : [b4, b3, b2, b1, b0].Pairwise (· ≠ ·)) :
    ∃ R : sProp 𝕄, (ownBufs (th1 d L) : sProp 𝕄) = iprop((∃ f, (th1 d L).loc b0 ↦{fullShare} f) ∗ (∃ f, (th1 d L).loc b1 ↦{fullShare} f) ∗ (∃ f, (th1 d L).loc b2 ↦{fullShare} f) ∗ (∃ f, (th1 d L).loc b3 ↦{fullShare} f) ∗ (∃ f, (th1 d L).loc b4 ↦{fullShare} f) ∗ R) := by
  simp only [List.pairwise_cons, List.mem_cons, List.not_mem_nil, _root_.or_false, forall_eq_or_imp, forall_eq, false_imp_iff, implies_true, _root_.and_true, List.Pairwise.nil] at hn
  obtain ⟨⟨h43, h42, h41, h40⟩, ⟨h32, h31, h30⟩, ⟨h21, h20⟩, h10⟩ := hn
  refine ⟨bigSep ((((((ownRefs (τ := τ) (Proc.scVector (cV1 L) (jV1 L))).erase ((Proc.scVector (cV1 L) (jV1 L)).devRef b0)).erase ((Proc.scVector (cV1 L) (jV1 L)).devRef b1)).erase ((Proc.scVector (cV1 L) (jV1 L)).devRef b2)).erase ((Proc.scVector (cV1 L) (jV1 L)).devRef b3)).erase ((Proc.scVector (cV1 L) (jV1 L)).devRef b4)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV1 L) (jV1 L)) (b := (Proc.scVector (cV1 L) (jV1 L)).devRef b0) (ho b0 (by simp)))).trans ?_
  rw [SparseCore.bigSep_erase' (Finset.mem_erase.mpr ⟨fun t => h10 (Proc.devRef_injective _ t), (SparseCore.Cfg.mem_ownRefs_of_owner (p := Proc.scVector (cV1 L) (jV1 L)) (b := (Proc.scVector (cV1 L) (jV1 L)).devRef b1) (ho b1 (by simp)))⟩),
    SparseCore.bigSep_erase' (Finset.mem_erase.mpr ⟨fun t => h21 (Proc.devRef_injective _ t), (Finset.mem_erase.mpr ⟨fun t => h20 (Proc.devRef_injective _ t), (SparseCore.Cfg.mem_ownRefs_of_owner (p := Proc.scVector (cV1 L) (jV1 L)) (b := (Proc.scVector (cV1 L) (jV1 L)).devRef b2) (ho b2 (by simp)))⟩)⟩),
    SparseCore.bigSep_erase' (Finset.mem_erase.mpr ⟨fun t => h32 (Proc.devRef_injective _ t), (Finset.mem_erase.mpr ⟨fun t => h31 (Proc.devRef_injective _ t), (Finset.mem_erase.mpr ⟨fun t => h30 (Proc.devRef_injective _ t), (SparseCore.Cfg.mem_ownRefs_of_owner (p := Proc.scVector (cV1 L) (jV1 L)) (b := (Proc.scVector (cV1 L) (jV1 L)).devRef b3) (ho b3 (by simp)))⟩)⟩)⟩),
    SparseCore.bigSep_erase' (Finset.mem_erase.mpr ⟨fun t => h43 (Proc.devRef_injective _ t), (Finset.mem_erase.mpr ⟨fun t => h42 (Proc.devRef_injective _ t), (Finset.mem_erase.mpr ⟨fun t => h41 (Proc.devRef_injective _ t), (Finset.mem_erase.mpr ⟨fun t => h40 (Proc.devRef_injective _ t), (SparseCore.Cfg.mem_ownRefs_of_owner (p := Proc.scVector (cV1 L) (jV1 L)) (b := (Proc.scVector (cV1 L) (jV1 L)).devRef b4) (ho b4 (by simp)))⟩)⟩)⟩)⟩)]

/-- What a call's scratch buffers and semaphores must be: among the subcore's own. -/
def Own (B : Bufs) (d : Dev nD) (L : grid1.Coords) : Prop :=
  (∃ R : sProp 𝕄, (ownSems0 (th1 d L) : sProp 𝕄) = iprop(semVal (th1 d L, .dma B.s5.sem) 0 ∗ semVal (th1 d L, .dma B.p0.sem) 0 ∗ semVal (th1 d L, .dma B.p1.sem) 0 ∗ semVal (th1 d L, .dma B.p2.sem) 0 ∗ semVal (th1 d L, .dma B.p3.sem) 0 ∗ semVal (th1 d L, .dma B.p4.sem) 0 ∗ R))
    ∧ ∃ R : sProp 𝕄, (ownBufs (th1 d L) : sProp 𝕄) = iprop((∃ f, B.agM.view.loc (th1 d L) ↦{fullShare} f) ∗ (∃ f, B.pcM.view.loc (th1 d L) ↦{fullShare} f) ∗ (∃ f, B.siM.view.loc (th1 d L) ↦{fullShare} f) ∗ (∃ f, B.rwM.view.loc (th1 d L) ↦{fullShare} f) ∗ (∃ f, B.tbM.view.loc (th1 d L) ↦{fullShare} f) ∗ R)

/-- Call 1's buffers and semaphores. -/
abbrev B1 : Bufs where
  xM := Memref.whole main_arg0_scv
  hx := Memref.isWhole_whole _
  outM := Memref.whole main_v5_scv
  ho := Memref.isWhole_whole _
  agM := Memref.whole cc1_scratch0
  ha := Memref.isWhole_whole _
  pcM := Memref.whole cc1_scratch1
  hp := Memref.isWhole_whole _
  siM := Memref.whole cc1_scratch2
  hs := Memref.isWhole_whole _
  rwM := Memref.whole cc1_scratch3
  hr := Memref.isWhole_whole _
  tbM := Memref.whole cc1_scratch4
  ht := Memref.isWhole_whole _
  s5 := cc1_scratch5
  p0 := cc1_scoped0
  p1 := cc1_scoped1
  p2 := cc1_scoped2
  p3 := cc1_scoped3
  p4 := cc1_scoped4
  credit := by decide
/-- They are the subcore's own. -/
theorem own1 (d : Dev nD) (L : grid1.Coords) : Own (F := F) B1 d L :=
  ⟨ownSems0_six d L (.dma cc1_scratch5.sem) (.dma cc1_scoped0.sem) (.dma cc1_scoped1.sem) (.dma cc1_scoped2.sem) (.dma cc1_scoped3.sem) (.dma cc1_scoped4.sem) (by decide) (by decide),
    ownBufs_five d L cc1_scratch0 cc1_scratch1 cc1_scratch2 cc1_scratch3 cc1_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 2's buffers and semaphores. -/
abbrev B2 : Bufs where
  xM := Memref.whole main_arg1_scv
  hx := Memref.isWhole_whole _
  outM := Memref.whole main_v7_scv
  ho := Memref.isWhole_whole _
  agM := Memref.whole cc2_scratch0
  ha := Memref.isWhole_whole _
  pcM := Memref.whole cc2_scratch1
  hp := Memref.isWhole_whole _
  siM := Memref.whole cc2_scratch2
  hs := Memref.isWhole_whole _
  rwM := Memref.whole cc2_scratch3
  hr := Memref.isWhole_whole _
  tbM := Memref.whole cc2_scratch4
  ht := Memref.isWhole_whole _
  s5 := cc2_scratch5
  p0 := cc2_scoped0
  p1 := cc2_scoped1
  p2 := cc2_scoped2
  p3 := cc2_scoped3
  p4 := cc2_scoped4
  credit := by decide
/-- They are the subcore's own. -/
theorem own2 (d : Dev nD) (L : grid1.Coords) : Own (F := F) B2 d L :=
  ⟨ownSems0_six d L (.dma cc2_scratch5.sem) (.dma cc2_scoped0.sem) (.dma cc2_scoped1.sem) (.dma cc2_scoped2.sem) (.dma cc2_scoped3.sem) (.dma cc2_scoped4.sem) (by decide) (by decide),
    ownBufs_five d L cc2_scratch0 cc2_scratch1 cc2_scratch2 cc2_scratch3 cc2_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 3's buffers and semaphores. -/
abbrev B3 : Bufs where
  xM := Memref.whole main_arg2_scv
  hx := Memref.isWhole_whole _
  outM := Memref.whole main_v9_scv
  ho := Memref.isWhole_whole _
  agM := Memref.whole cc3_scratch0
  ha := Memref.isWhole_whole _
  pcM := Memref.whole cc3_scratch1
  hp := Memref.isWhole_whole _
  siM := Memref.whole cc3_scratch2
  hs := Memref.isWhole_whole _
  rwM := Memref.whole cc3_scratch3
  hr := Memref.isWhole_whole _
  tbM := Memref.whole cc3_scratch4
  ht := Memref.isWhole_whole _
  s5 := cc3_scratch5
  p0 := cc3_scoped0
  p1 := cc3_scoped1
  p2 := cc3_scoped2
  p3 := cc3_scoped3
  p4 := cc3_scoped4
  credit := by decide
/-- They are the subcore's own. -/
theorem own3 (d : Dev nD) (L : grid1.Coords) : Own (F := F) B3 d L :=
  ⟨ownSems0_six d L (.dma cc3_scratch5.sem) (.dma cc3_scoped0.sem) (.dma cc3_scoped1.sem) (.dma cc3_scoped2.sem) (.dma cc3_scoped3.sem) (.dma cc3_scoped4.sem) (by decide) (by decide),
    ownBufs_five d L cc3_scratch0 cc3_scratch1 cc3_scratch2 cc3_scratch3 cc3_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 4's buffers and semaphores. -/
abbrev B4 : Bufs where
  xM := Memref.whole main_arg3_scv
  hx := Memref.isWhole_whole _
  outM := Memref.whole main_v11_scv
  ho := Memref.isWhole_whole _
  agM := Memref.whole cc4_scratch0
  ha := Memref.isWhole_whole _
  pcM := Memref.whole cc4_scratch1
  hp := Memref.isWhole_whole _
  siM := Memref.whole cc4_scratch2
  hs := Memref.isWhole_whole _
  rwM := Memref.whole cc4_scratch3
  hr := Memref.isWhole_whole _
  tbM := Memref.whole cc4_scratch4
  ht := Memref.isWhole_whole _
  s5 := cc4_scratch5
  p0 := cc4_scoped0
  p1 := cc4_scoped1
  p2 := cc4_scoped2
  p3 := cc4_scoped3
  p4 := cc4_scoped4
  credit := by decide
/-- They are the subcore's own. -/
theorem own4 (d : Dev nD) (L : grid1.Coords) : Own (F := F) B4 d L :=
  ⟨ownSems0_six d L (.dma cc4_scratch5.sem) (.dma cc4_scoped0.sem) (.dma cc4_scoped1.sem) (.dma cc4_scoped2.sem) (.dma cc4_scoped3.sem) (.dma cc4_scoped4.sem) (by decide) (by decide),
    ownBufs_five d L cc4_scratch0 cc4_scratch1 cc4_scratch2 cc4_scratch3 cc4_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 5's buffers and semaphores. -/
abbrev B5 : Bufs where
  xM := Memref.whole main_arg4_scv
  hx := Memref.isWhole_whole _
  outM := Memref.whole main_v13_scv
  ho := Memref.isWhole_whole _
  agM := Memref.whole cc5_scratch0
  ha := Memref.isWhole_whole _
  pcM := Memref.whole cc5_scratch1
  hp := Memref.isWhole_whole _
  siM := Memref.whole cc5_scratch2
  hs := Memref.isWhole_whole _
  rwM := Memref.whole cc5_scratch3
  hr := Memref.isWhole_whole _
  tbM := Memref.whole cc5_scratch4
  ht := Memref.isWhole_whole _
  s5 := cc5_scratch5
  p0 := cc5_scoped0
  p1 := cc5_scoped1
  p2 := cc5_scoped2
  p3 := cc5_scoped3
  p4 := cc5_scoped4
  credit := by decide
/-- They are the subcore's own. -/
theorem own5 (d : Dev nD) (L : grid1.Coords) : Own (F := F) B5 d L :=
  ⟨ownSems0_six d L (.dma cc5_scratch5.sem) (.dma cc5_scoped0.sem) (.dma cc5_scoped1.sem) (.dma cc5_scoped2.sem) (.dma cc5_scoped3.sem) (.dma cc5_scoped4.sem) (by decide) (by decide),
    ownBufs_five d L cc5_scratch0 cc5_scratch1 cc5_scratch2 cc5_scratch3 cc5_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 6's buffers and semaphores. -/
abbrev B6 : Bufs where
  xM := Memref.whole main_arg5_scv
  hx := Memref.isWhole_whole _
  outM := Memref.whole main_v15_scv
  ho := Memref.isWhole_whole _
  agM := Memref.whole cc6_scratch0
  ha := Memref.isWhole_whole _
  pcM := Memref.whole cc6_scratch1
  hp := Memref.isWhole_whole _
  siM := Memref.whole cc6_scratch2
  hs := Memref.isWhole_whole _
  rwM := Memref.whole cc6_scratch3
  hr := Memref.isWhole_whole _
  tbM := Memref.whole cc6_scratch4
  ht := Memref.isWhole_whole _
  s5 := cc6_scratch5
  p0 := cc6_scoped0
  p1 := cc6_scoped1
  p2 := cc6_scoped2
  p3 := cc6_scoped3
  p4 := cc6_scoped4
  credit := by decide
/-- They are the subcore's own. -/
theorem own6 (d : Dev nD) (L : grid1.Coords) : Own (F := F) B6 d L :=
  ⟨ownSems0_six d L (.dma cc6_scratch5.sem) (.dma cc6_scoped0.sem) (.dma cc6_scoped1.sem) (.dma cc6_scoped2.sem) (.dma cc6_scoped3.sem) (.dma cc6_scoped4.sem) (by decide) (by decide),
    ownBufs_five d L cc6_scratch0 cc6_scratch1 cc6_scratch2 cc6_scratch3 cc6_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 7's buffers and semaphores. -/
abbrev B7 : Bufs where
  xM := Memref.whole main_arg6_scv
  hx := Memref.isWhole_whole _
  outM := Memref.whole main_v17_scv
  ho := Memref.isWhole_whole _
  agM := Memref.whole cc7_scratch0
  ha := Memref.isWhole_whole _
  pcM := Memref.whole cc7_scratch1
  hp := Memref.isWhole_whole _
  siM := Memref.whole cc7_scratch2
  hs := Memref.isWhole_whole _
  rwM := Memref.whole cc7_scratch3
  hr := Memref.isWhole_whole _
  tbM := Memref.whole cc7_scratch4
  ht := Memref.isWhole_whole _
  s5 := cc7_scratch5
  p0 := cc7_scoped0
  p1 := cc7_scoped1
  p2 := cc7_scoped2
  p3 := cc7_scoped3
  p4 := cc7_scoped4
  credit := by decide
/-- They are the subcore's own. -/
theorem own7 (d : Dev nD) (L : grid1.Coords) : Own (F := F) B7 d L :=
  ⟨ownSems0_six d L (.dma cc7_scratch5.sem) (.dma cc7_scoped0.sem) (.dma cc7_scoped1.sem) (.dma cc7_scoped2.sem) (.dma cc7_scoped3.sem) (.dma cc7_scoped4.sem) (by decide) (by decide),
    ownBufs_five d L cc7_scratch0 cc7_scratch1 cc7_scratch2 cc7_scratch3 cc7_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 8's buffers and semaphores. -/
abbrev B8 : Bufs where
  xM := Memref.whole main_arg7_scv
  hx := Memref.isWhole_whole _
  outM := Memref.whole main_v19_scv
  ho := Memref.isWhole_whole _
  agM := Memref.whole cc8_scratch0
  ha := Memref.isWhole_whole _
  pcM := Memref.whole cc8_scratch1
  hp := Memref.isWhole_whole _
  siM := Memref.whole cc8_scratch2
  hs := Memref.isWhole_whole _
  rwM := Memref.whole cc8_scratch3
  hr := Memref.isWhole_whole _
  tbM := Memref.whole cc8_scratch4
  ht := Memref.isWhole_whole _
  s5 := cc8_scratch5
  p0 := cc8_scoped0
  p1 := cc8_scoped1
  p2 := cc8_scoped2
  p3 := cc8_scoped3
  p4 := cc8_scoped4
  credit := by decide
/-- They are the subcore's own. -/
theorem own8 (d : Dev nD) (L : grid1.Coords) : Own (F := F) B8 d L :=
  ⟨ownSems0_six d L (.dma cc8_scratch5.sem) (.dma cc8_scoped0.sem) (.dma cc8_scoped1.sem) (.dma cc8_scoped2.sem) (.dma cc8_scoped3.sem) (.dma cc8_scoped4.sem) (by decide) (by decide),
    ownBufs_five d L cc8_scratch0 cc8_scratch1 cc8_scratch2 cc8_scratch3 cc8_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-- Call 9's buffers and semaphores. -/
abbrev B9 : Bufs where
  xM := Memref.whole main_arg8_scv
  hx := Memref.isWhole_whole _
  outM := Memref.whole main_v21_scv
  ho := Memref.isWhole_whole _
  agM := Memref.whole cc9_scratch0
  ha := Memref.isWhole_whole _
  pcM := Memref.whole cc9_scratch1
  hp := Memref.isWhole_whole _
  siM := Memref.whole cc9_scratch2
  hs := Memref.isWhole_whole _
  rwM := Memref.whole cc9_scratch3
  hr := Memref.isWhole_whole _
  tbM := Memref.whole cc9_scratch4
  ht := Memref.isWhole_whole _
  s5 := cc9_scratch5
  p0 := cc9_scoped0
  p1 := cc9_scoped1
  p2 := cc9_scoped2
  p3 := cc9_scoped3
  p4 := cc9_scoped4
  credit := by decide
/-- They are the subcore's own. -/
theorem own9 (d : Dev nD) (L : grid1.Coords) : Own (F := F) B9 d L :=
  ⟨ownSems0_six d L (.dma cc9_scratch5.sem) (.dma cc9_scoped0.sem) (.dma cc9_scoped1.sem) (.dma cc9_scoped2.sem) (.dma cc9_scoped3.sem) (.dma cc9_scoped4.sem) (by decide) (by decide),
    ownBufs_five d L cc9_scratch0 cc9_scratch1 cc9_scratch2 cc9_scratch3 cc9_scratch4
      (List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩) (by decide)⟩

/-! ## The first call's task -/

set_option maxHeartbeats 1000000 in
/-- The first call's task on a vector subcore. -/
theorem tile0 (hF : (K (F := F)).Facts) (d : Dev nD) (L : grid0.Coords) (As Ad : S320000.Idx → BitVec 32) (hs : ∀ j, (As j).toNat < 10000) (hd : ∀ j, (Ad j).toNat < 10000)
    (O : CellTallies nD τ sig (HIx 10)) (W : Waits sig (HIx 10)) (hO : ∀ g, O g none = 0) :
    iprop(levAts (K (F := F)).L (K (F := F)).lev ∗ emp ∗ go0 (F := F) As Ad d (wL L) ∗ scopedBufs (th d L) ∗ scopedSems0 (th d L) ∗ owes (th d L) O W)
      ⊢ wp frame (wpE (defs₀ (F := F)) 𝒱₀ (th d L) none) Set.univ
          (cc0__build_lists L srcM (Memref.isWhole_whole _) dstM (Memref.isWhole_whole _) lstM (Memref.isWhole_whole _) cntM (Memref.isWhole_whole _)
            sbM (Memref.isWhole_whole _) dbM (Memref.isWhole_whole _) pkM (Memref.isWhole_whole _) cbM (Memref.isWhole_whole _)
            cc0_scoped0 cc0_scoped1 cc0_scoped2 cc0_scoped3 cc0_scoped4)
          fun _ => iprop(td0 (F := F) As Ad d (wL L) ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), ownSems0_th, ownBufs_th]
  unfold go0
  iintro ⟨#Hlv, -, ⟨HA, HB, ⟨%fl, Hl⟩, ⟨%fc, Hc⟩⟩, ⟨Hb0, Hb1, Hb2, Hb3, Hbufs⟩, ⟨Hv0, Hv1, Hv2, Hv3, Hv4, Hsems⟩, HO⟩
  ihave Hmw := (show levAts (K (F := F)).L (K (F := F)).lev ⊢ Transfers.MayWaits (th d L) (default : HIx 10) O from
    (K (F := F)).mayWaits_none (thr := th d L) hO) $$ Hlv
  ihave HO := (OW_intro (F := F) (th d L) O W) $$ HO
  iapply (wp_wand_r frame _ _)
  isplitl [HA HB Hl Hc Hb0 Hb1 Hb2 Hb3 Hv0 Hv1 Hv2 Hv3 Hv4 HO Hmw]
  · iapply (task (F := F) d L (lf (wL L)) As Ad hs hd O W fl fc)
    isplitl [HA HB Hb0 Hb1 Hb2 Hb3 Hv0 Hv1 Hv2 Hv3 Hv4 HO Hmw]
    · unfold Scr
      isplitl [HA]; · iexact HA
      isplitl [HB]; · iexact HB
      isplitl [Hb0]; · iexact Hb0
      isplitl [Hb1]; · iexact Hb1
      isplitl [Hb2]; · iexact Hb2
      isplitl [Hb3]; · iexact Hb3
      isplitl [Hv0]; · iexact Hv0
      isplitl [Hv1]; · iexact Hv1
      isplitl [Hv2]; · iexact Hv2
      isplitl [Hv3]; · iexact Hv3
      isplitl [Hv4]; · iexact Hv4
      isplitl [HO]; · iexact HO
      iexact Hmw
    isplitl [Hl]; · iexact Hl
    iexact Hc
  unfold Scr OW
  iintro %u ⟨⟨-, -, Hb0, Hb1, Hb2, Hb3, Hv0, Hv1, Hv2, Hv3, Hv4, HO, -⟩, Hl, Hc⟩
  isplitl [Hl Hc]
  · unfold td0
    isplitl [Hl]; · iexact Hl
    iexact Hc
  isplitl [Hb0 Hb1 Hb2 Hb3 Hbufs]
  · isplitl [Hb0]; · iexact Hb0
    isplitl [Hb1]; · iexact Hb1
    isplitl [Hb2]; · iexact Hb2
    isplitl [Hb3]; · iexact Hb3
    iexact Hbufs
  isplitl [Hv0 Hv1 Hv2 Hv3 Hv4 Hsems]
  · isplitl [Hv0]; · iexact Hv0
    isplitl [Hv1]; · iexact Hv1
    isplitl [Hv2]; · iexact Hv2
    isplitl [Hv3]; · iexact Hv3
    isplitl [Hv4]; · iexact Hv4
    iexact Hsems
  iexact HO

/-! ## An aggregating call's task -/

/-- A list's length: at most the edges rounded up to a multiple of 128. -/
theorem len_le (dE : ℕ → ℕ) (w : ℕ) : len dE w ≤ 322000 := by
  have h := cnt_le dE w 320000
  show (cnt dE w 320000 + 127) / 128 * 128 ≤ 322000
  omega

/-- A list's length is a multiple of 128. -/
theorem len_dvd (dE : ℕ → ℕ) (w : ℕ) : 128 ∣ len dE w := Dvd.intro_left _ rfl

set_option maxHeartbeats 1000000 in
/-- An aggregating call's task on a vector subcore. -/
theorem tile1 (B : Bufs) (hF : (K (F := F)).Facts) (d : Dev nD) (L : grid1.Coords) (As Ad : S320000.Idx → BitVec 32) (hs : ∀ j, (As j).toNat < 10000)
    (hown : Own (F := F) B d L) (X0 : B.xM.view.ty.Contents (Elt F)) (g : B.outM.view.ty.Contents (Elt F)) (hg : rd B.outM g = OUT As Ad (rd B.xM X0))
    (O : CellTallies nD τ sig (HIx 10)) (W : Waits sig (HIx 10)) (hO : ∀ g, O g none = 0) :
    iprop(levAts (K (F := F)).L (K (F := F)).lev ∗ emp ∗ goB (F := F) B As Ad X0 d L ∗ scopedBufs (th1 d L) ∗ scopedSems0 (th1 d L) ∗ owes (th1 d L) O W)
      ⊢ wp frame (wpE (defs₀ (F := F)) 𝒱₀ (th1 d L) none) Set.univ
          (cc1__segmax L B.xM B.hx lstM (Memref.isWhole_whole _) cntM (Memref.isWhole_whole _) B.outM B.ho
            B.agM B.ha B.pcM B.hp B.siM B.hs B.rwM B.hr B.tbM B.ht
            B.s5 B.p0 B.p1 B.p2 B.p3 B.p4)
          fun _ => iprop(tdB (F := F) B As Ad X0 g d L ∗ scopedBufs (th1 d L) ∗ scopedSems0 (th1 d L)
            ∗ ∃ W', ⌜∀ p ∈ W', p ∈ W ∨ p.2 = none⌝ ∗ owes (th1 d L) O W') := by
  rw [(K (F := F)).scopedBufs_V hF d (cV1 L) (jV1 L), SparseCore.Cfg.scopedSems0_V (Val := Elt F) d (cV1 L) (jV1 L)]
  obtain ⟨⟨R, hR⟩, ⟨R', hR'⟩⟩ := hown
  rw [hR, hR']
  unfold goB td0
  iintro ⟨#Hlv, -, ⟨HX, ⟨⟨%hl, %hhl, Hl⟩, ⟨%hc, %hhc, Hc⟩⟩, ⟨%fo, Ho⟩⟩, ⟨Hb0, Hb1, Hb2, Hb3, Hb4, Hbufs⟩, ⟨Hv, Hv0, Hv1, Hv2, Hv3, Hv4, Hsems⟩, HO⟩
  ihave Hmw := (show levAts (K (F := F)).L (K (F := F)).lev ⊢ Transfers.MayWaits (th1 d L) (default : HIx 10) O from
    (K (F := F)).mayWaits_none (thr := th1 d L) hO) $$ Hlv
  ihave HO := (OW_intro (F := F) (th1 d L) O W) $$ HO
  have hs' := wd_lt As hs
  iapply (wp_wand_r frame _ _)
  isplitl [HX Hl Hc Ho Hb0 Hb1 Hb2 Hb3 Hb4 Hv Hv0 Hv1 Hv2 Hv3 Hv4 HO Hmw]
  · iapply (task1 (F := F) B d L (lf (wL L)) X0 (ent (wd Ad) (wd As) (wk L)) (XF (rd B.xM X0)) (XF_eq (rd B.xM X0))
      (fun n => ent_le _ _ _ (fun e _ => hs' e) n) (fun n => ent_src _ _ _ (fun e _ => hs' e) n) (len (wd Ad) (wk L)) (len_le _ _) (len_dvd _ _)
      hl hhl hc hhc O W fo)
    isplitl [HX Hb0 Hb1 Hb2 Hb3 Hb4 Hv Hv0 Hv1 Hv2 Hv3 Hv4 HO Hmw]
    · unfold Scr1
      isplitl [HX]; · iexact HX
      isplitl [Hb0]; · iexact Hb0
      isplitl [Hb1]; · iexact Hb1
      isplitl [Hb2]; · iexact Hb2
      isplitl [Hb3]; · iexact Hb3
      isplitl [Hb4]; · iexact Hb4
      isplitl [Hv]; · iexact Hv
      isplitl [Hv0]; · iexact Hv0
      isplitl [Hv1]; · iexact Hv1
      isplitl [Hv2]; · iexact Hv2
      isplitl [Hv3]; · iexact Hv3
      isplitl [Hv4]; · iexact Hv4
      isplitl [HO]; · iexact HO
      iexact Hmw
    isplitl [Hl]; · iexact Hl
    isplitl [Hc]; · iexact Hc
    iexact Ho
  unfold Scr1 OW
  iintro %u ⟨⟨HX, Hb0, Hb1, Hb2, Hb3, Hb4, Hv, Hv0, Hv1, Hv2, Hv3, Hv4, HO, -⟩, Hl, Hc, ⟨%ho, %hho, Ho⟩⟩
  isplitl [HX Hl Hc Ho]
  · unfold tdB td0
    isplitl [HX]; · iexact HX
    isplitl [Hl Hc]
    · isplitl [Hl]
      · iexists hl; isplitr
        · ipureintro; exact hhl
        · iexact Hl
      · iexists hc; isplitr
        · ipureintro; exact hhc
        · iexact Hc
    iapply (Entails.of_eq (pointsTo_congr (ℓ := B.outM.view.loc (th1 d L)) (I := oblk B (wk L)) (q := fullShare) (f := ho) (g := g) (fun j hj => by
      obtain ⟨x, hx, rfl⟩ := Finset.mem_map.mp hj
      have hw : (x 0).val / 40064 = wk L := (Finset.mem_filter.mp hx).2
      refine (cast_inj (congrArg (Elt F) B.outM.view.elt_eq)).mp (((hho x hw).trans ?_).trans (congrFun hg x).symm)
      unfold OUT
      rw [hw])))
    iexact Ho
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexact Hb4
    iexact Hbufs
  isplitl [Hv Hv0 Hv1 Hv2 Hv3 Hv4 Hsems]
  · isplitl [Hv]; · iexact Hv
    isplitl [Hv0]; · iexact Hv0
    isplitl [Hv1]; · iexact Hv1
    isplitl [Hv2]; · iexact Hv2
    isplitl [Hv3]; · iexact Hv3
    isplitl [Hv4]; · iexact Hv4
    iexact Hsems
  iexact HO

end Cert.Proof.Tile

end
-- ==== Proof.Twin.lean ====
/-
  The nine aggregating calls run one text: each later call's body is the first's.
-/
module

public import proofs.«01_k».proof.Defs
public import proofs.«01_k».proof.Proof.Gen.KernelIdeal

@[expose] public section

noncomputable section

namespace Cert.Proof.Twin

open Idealize.ShloMosaic Idealize.SL.Sem
open Cert.KernelIdeal

variable {F : FTy → Type} [FloatOps F] [Named F]

set_option maxHeartbeats 8000000 in
/-- The third call's body is the second's. -/
theorem twin2 : cc2__segmax (F := F) = cc1__segmax (F := F) := rfl

set_option maxHeartbeats 8000000 in
/-- The fourth call's body is the second's. -/
theorem twin3 : cc3__segmax (F := F) = cc1__segmax (F := F) := rfl

set_option maxHeartbeats 8000000 in
/-- The fifth call's body is the second's. -/
theorem twin4 : cc4__segmax (F := F) = cc1__segmax (F := F) := rfl

set_option maxHeartbeats 8000000 in
/-- The sixth call's body is the second's. -/
theorem twin5 : cc5__segmax (F := F) = cc1__segmax (F := F) := rfl

set_option maxHeartbeats 8000000 in
/-- The seventh call's body is the second's. -/
theorem twin6 : cc6__segmax (F := F) = cc1__segmax (F := F) := rfl

set_option maxHeartbeats 8000000 in
/-- The eighth call's body is the second's. -/
theorem twin7 : cc7__segmax (F := F) = cc1__segmax (F := F) := rfl

set_option maxHeartbeats 8000000 in
/-- The ninth call's body is the second's. -/
theorem twin8 : cc8__segmax (F := F) = cc1__segmax (F := F) := rfl

set_option maxHeartbeats 8000000 in
/-- The tenth call's body is the second's. -/
theorem twin9 : cc9__segmax (F := F) = cc1__segmax (F := F) := rfl

end Cert.Proof.Twin

end
-- ==== Proof.Launch.lean ====
/-
  The ten calls launched: what each call takes and brings back, and the arrays split among the thirty-two tasks and
  joined again.
-/
module

public import proofs.«01_k».proof.Proof.Tile
public import proofs.«01_k».proof.Proof.Twin

@[expose] public section

noncomputable section

namespace Cert.Proof.Launch

open Cert.KernelIdeal Cert.KernelIdeal.Gen Cert.Proof.Setup Cert.Proof.Fold Cert.Proof.Words Cert.Proof.Group Cert.Proof.RowAccess Cert.Proof.BuildTrip Cert.Proof.SegWords Cert.Proof.Tile Cert.Proof.Twin

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F]

local notation "𝕄" => MT nD τ sig (HIx 10) (Elt F) ℕ UU ℕ

/-! ## The host operations -/

abbrev opA : HloOp τ sig (Elt F) := StableHlo.unary main_arg9 main_v0 ((extractStridedSlice S1x320000 ![0, 0] · slices_S2x320000_S1x320000_0_0) : (⟨S2x320000, .i32⟩ : BufTy).Contents (Elt F) → (⟨S1x320000, .i32⟩ : BufTy).Contents (Elt F))
abbrev opB : HloOp τ sig (Elt F) := StableHlo.reshape main_v0 main_v1 (rfl : (.i32 : EltTy) = .i32) shapeCasts_S1x320000_S320000
abbrev opC : HloOp τ sig (Elt F) := StableHlo.unary main_arg9 main_v2 ((extractStridedSlice S1x320000 ![1, 0] · slices_S2x320000_S1x320000_1_0) : (⟨S2x320000, .i32⟩ : BufTy).Contents (Elt F) → (⟨S1x320000, .i32⟩ : BufTy).Contents (Elt F))
abbrev opD : HloOp τ sig (Elt F) := StableHlo.reshape main_v2 main_v3 (rfl : (.i32 : EltTy) = .i32) shapeCasts_S1x320000_S320000
abbrev op1 : HloOp τ sig (Elt F) := StableHlo.reshape main_v5 main_v6 (rfl : (.f32 : EltTy) = .f32) shapeCasts_S1280000_S10000x128
abbrev op2 : HloOp τ sig (Elt F) := StableHlo.reshape main_v7 main_v8 (rfl : (.f32 : EltTy) = .f32) shapeCasts_S1280000_S10000x128
abbrev op3 : HloOp τ sig (Elt F) := StableHlo.reshape main_v9 main_v10 (rfl : (.f32 : EltTy) = .f32) shapeCasts_S1280000_S10000x128
abbrev op4 : HloOp τ sig (Elt F) := StableHlo.reshape main_v11 main_v12 (rfl : (.f32 : EltTy) = .f32) shapeCasts_S1280000_S10000x128
abbrev op5 : HloOp τ sig (Elt F) := StableHlo.reshape main_v13 main_v14 (rfl : (.f32 : EltTy) = .f32) shapeCasts_S1280000_S10000x128
abbrev op6 : HloOp τ sig (Elt F) := StableHlo.reshape main_v15 main_v16 (rfl : (.f32 : EltTy) = .f32) shapeCasts_S1280000_S10000x128
abbrev op7 : HloOp τ sig (Elt F) := StableHlo.reshape main_v17 main_v18 (rfl : (.f32 : EltTy) = .f32) shapeCasts_S1280000_S10000x128
abbrev op8 : HloOp τ sig (Elt F) := StableHlo.reshape main_v19 main_v20 (rfl : (.f32 : EltTy) = .f32) shapeCasts_S1280000_S10000x128
abbrev op9 : HloOp τ sig (Elt F) := StableHlo.reshape main_v21 main_v22 (rfl : (.f32 : EltTy) = .f32) shapeCasts_S1280000_S10000x128

abbrev x1' : DevRef τ sig := Proc.devRef .tc (main_arg0 : Ref sig .tc)
abbrev x2' : DevRef τ sig := Proc.devRef .tc (main_arg1 : Ref sig .tc)
abbrev x3' : DevRef τ sig := Proc.devRef .tc (main_arg2 : Ref sig .tc)
abbrev x4' : DevRef τ sig := Proc.devRef .tc (main_arg3 : Ref sig .tc)
abbrev x5' : DevRef τ sig := Proc.devRef .tc (main_arg4 : Ref sig .tc)
abbrev x6' : DevRef τ sig := Proc.devRef .tc (main_arg5 : Ref sig .tc)
abbrev x7' : DevRef τ sig := Proc.devRef .tc (main_arg6 : Ref sig .tc)
abbrev x8' : DevRef τ sig := Proc.devRef .tc (main_arg7 : Ref sig .tc)
abbrev x9' : DevRef τ sig := Proc.devRef .tc (main_arg8 : Ref sig .tc)
abbrev e' : DevRef τ sig := Proc.devRef .tc (main_arg9 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v40' : DevRef τ sig := Proc.devRef .tc (main_v4_0 : Ref sig .tc)
abbrev v41' : DevRef τ sig := Proc.devRef .tc (main_v4_1 : Ref sig .tc)
abbrev o1' : DevRef τ sig := Proc.devRef .tc (main_v5 : Ref sig .tc)
abbrev o2' : DevRef τ sig := Proc.devRef .tc (main_v7 : Ref sig .tc)
abbrev o3' : DevRef τ sig := Proc.devRef .tc (main_v9 : Ref sig .tc)
abbrev o4' : DevRef τ sig := Proc.devRef .tc (main_v11 : Ref sig .tc)
abbrev o5' : DevRef τ sig := Proc.devRef .tc (main_v13 : Ref sig .tc)
abbrev o6' : DevRef τ sig := Proc.devRef .tc (main_v15 : Ref sig .tc)
abbrev o7' : DevRef τ sig := Proc.devRef .tc (main_v17 : Ref sig .tc)
abbrev o8' : DevRef τ sig := Proc.devRef .tc (main_v19 : Ref sig .tc)
abbrev o9' : DevRef τ sig := Proc.devRef .tc (main_v21 : Ref sig .tc)
abbrev r1' : DevRef τ sig := Proc.devRef .tc (main_v6 : Ref sig .tc)
abbrev r2' : DevRef τ sig := Proc.devRef .tc (main_v8 : Ref sig .tc)
abbrev r3' : DevRef τ sig := Proc.devRef .tc (main_v10 : Ref sig .tc)
abbrev r4' : DevRef τ sig := Proc.devRef .tc (main_v12 : Ref sig .tc)
abbrev r5' : DevRef τ sig := Proc.devRef .tc (main_v14 : Ref sig .tc)
abbrev r6' : DevRef τ sig := Proc.devRef .tc (main_v16 : Ref sig .tc)
abbrev r7' : DevRef τ sig := Proc.devRef .tc (main_v18 : Ref sig .tc)
abbrev r8' : DevRef τ sig := Proc.devRef .tc (main_v20 : Ref sig .tc)
abbrev r9' : DevRef τ sig := Proc.devRef .tc (main_v22 : Ref sig .tc)

/-- The TensorCore's arrays. -/
abbrev SA : Finset (DevRef τ sig) := {x1', x2', x3', x4', x5', x6', x7', x8', x9', e', v0', v1', v2', v3', v40', v41', o1', o2', o3', o4', o5', o6', o7', o8', o9', r1', r2', r3', r4', r5', r6', r7', r8', r9'}

abbrev eL (d : Dev nD) : Loc nD τ sig := (SparseCore.T d).loc main_arg9
abbrev x1L (d : Dev nD) : Loc nD τ sig := (SparseCore.T d).loc main_arg0
abbrev o1L (d : Dev nD) : Loc nD τ sig := (SparseCore.T d).loc main_v5
abbrev r1L (d : Dev nD) : Loc nD τ sig := (SparseCore.T d).loc main_v6
abbrev x2L (d : Dev nD) : Loc nD τ sig := (SparseCore.T d).loc main_arg1
abbrev o2L (d : Dev nD) : Loc nD τ sig := (SparseCore.T d).loc main_v7
abbrev r2L (d : Dev nD) : Loc nD τ sig := (SparseCore.T d).loc main_v8
abbrev x3L (d : Dev nD) : Loc nD τ sig := (SparseCore.T d).loc main_arg2
abbrev o3L (d : Dev nD) : Loc nD τ sig := (SparseCore.T d).loc main_v9
abbrev r3L (d : Dev nD) : Loc nD τ sig := (SparseCore.T d).loc main_v10
abbrev x4L (d : Dev nD) : Loc nD τ sig := (SparseCore.T d).loc main_arg3
abbrev o4L (d : Dev nD) : Loc nD τ sig := (SparseCore.T d).loc main_v11
abbrev r4L (d : Dev nD) : Loc nD τ sig := (SparseCore.T d).loc main_v12
abbrev x5L (d : Dev nD) : Loc nD τ sig := (SparseCore.T d).loc main_arg4
abbrev o5L (d : Dev nD) : Loc nD τ sig := (SparseCore.T d).loc main_v13
abbrev r5L (d : Dev nD) : Loc nD τ sig := (SparseCore.T d).loc main_v14
abbrev x6L (d : Dev nD) : Loc nD τ sig := (SparseCore.T d).loc main_arg5
abbrev o6L (d : Dev nD) : Loc nD τ sig := (SparseCore.T d).loc main_v15
abbrev r6L (d : Dev nD) : Loc nD τ sig := (SparseCore.T d).loc main_v16
abbrev x7L (d : Dev nD) : Loc nD τ sig := (SparseCore.T d).loc main_arg6
abbrev o7L (d : Dev nD) : Loc nD τ sig := (SparseCore.T d).loc main_v17
abbrev r7L (d : Dev nD) : Loc nD τ sig := (SparseCore.T d).loc main_v18
abbrev x8L (d : Dev nD) : Loc nD τ sig := (SparseCore.T d).loc main_arg7
abbrev o8L (d : Dev nD) : Loc nD τ sig := (SparseCore.T d).loc main_v19
abbrev r8L (d : Dev nD) : Loc nD τ sig := (SparseCore.T d).loc main_v20
abbrev x9L (d : Dev nD) : Loc nD τ sig := (SparseCore.T d).loc main_arg8
abbrev o9L (d : Dev nD) : Loc nD τ sig := (SparseCore.T d).loc main_v21
abbrev r9L (d : Dev nD) : Loc nD τ sig := (SparseCore.T d).loc main_v22

set_option maxRecDepth 65536 in
set_option maxHeartbeats 4000000 in
/-- The TensorCore's arrays, one by one. -/
theorem held_SA (d : Dev nD) (W : Valuation τ sig (Elt F)) :
    (held (T d) SA W : sProp 𝕄)
      = iprop((x1L d ↦{fullShare} W x1')
          ∗ (x2L d ↦{fullShare} W x2')
          ∗ (x3L d ↦{fullShare} W x3')
          ∗ (x4L d ↦{fullShare} W x4')
          ∗ (x5L d ↦{fullShare} W x5')
          ∗ (x6L d ↦{fullShare} W x6')
          ∗ (x7L d ↦{fullShare} W x7')
          ∗ (x8L d ↦{fullShare} W x8')
          ∗ (x9L d ↦{fullShare} W x9')
          ∗ (eL d ↦{fullShare} W e')
          ∗ ((SparseCore.T d).loc main_v0 ↦{fullShare} W v0')
          ∗ (srcL d ↦{fullShare} W v1')
          ∗ ((SparseCore.T d).loc main_v2 ↦{fullShare} W v2')
          ∗ (dstL d ↦{fullShare} W v3')
          ∗ (lstL d ↦{fullShare} W v40')
          ∗ (cntL d ↦{fullShare} W v41')
          ∗ (o1L d ↦{fullShare} W o1')
          ∗ (o2L d ↦{fullShare} W o2')
          ∗ (o3L d ↦{fullShare} W o3')
          ∗ (o4L d ↦{fullShare} W o4')
          ∗ (o5L d ↦{fullShare} W o5')
          ∗ (o6L d ↦{fullShare} W o6')
          ∗ (o7L d ↦{fullShare} W o7')
          ∗ (o8L d ↦{fullShare} W o8')
          ∗ (o9L d ↦{fullShare} W o9')
          ∗ (r1L d ↦{fullShare} W r1')
          ∗ (r2L d ↦{fullShare} W r2')
          ∗ (r3L d ↦{fullShare} W r3')
          ∗ (r4L d ↦{fullShare} W r4')
          ∗ (r5L d ↦{fullShare} W r5')
          ∗ (r6L d ↦{fullShare} W r6')
          ∗ (r7L d ↦{fullShare} W r7')
          ∗ (r8L d ↦{fullShare} W r8')
          ∗ (r9L d ↦{fullShare} W r9')) := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

set_option maxRecDepth 65536 in
set_option maxHeartbeats 4000000 in
/-- What the launch gives the TensorCore, one by one. -/
theorem unscopedBufs_eq (d : Dev nD) (W : (b : Ref sig .tc) → Buf (Elt F) ((d.tc : Thread nD τ).loc b)) :
    (unscopedBufs d W : sProp 𝕄)
      = iprop((x1L d ↦{fullShare} W main_arg0)
          ∗ (x2L d ↦{fullShare} W main_arg1)
          ∗ (x3L d ↦{fullShare} W main_arg2)
          ∗ (x4L d ↦{fullShare} W main_arg3)
          ∗ (x5L d ↦{fullShare} W main_arg4)
          ∗ (x6L d ↦{fullShare} W main_arg5)
          ∗ (x7L d ↦{fullShare} W main_arg6)
          ∗ (x8L d ↦{fullShare} W main_arg7)
          ∗ (x9L d ↦{fullShare} W main_arg8)
          ∗ (eL d ↦{fullShare} W main_arg9)
          ∗ ((SparseCore.T d).loc main_v0 ↦{fullShare} W main_v0)
          ∗ (srcL d ↦{fullShare} W main_v1)
          ∗ ((SparseCore.T d).loc main_v2 ↦{fullShare} W main_v2)
          ∗ (dstL d ↦{fullShare} W main_v3)
          ∗ (lstL d ↦{fullShare} W main_v4_0)
          ∗ (cntL d ↦{fullShare} W main_v4_1)
          ∗ (o1L d ↦{fullShare} W main_v5)
          ∗ (o2L d ↦{fullShare} W main_v7)
          ∗ (o3L d ↦{fullShare} W main_v9)
          ∗ (o4L d ↦{fullShare} W main_v11)
          ∗ (o5L d ↦{fullShare} W main_v13)
          ∗ (o6L d ↦{fullShare} W main_v15)
          ∗ (o7L d ↦{fullShare} W main_v17)
          ∗ (o8L d ↦{fullShare} W main_v19)
          ∗ (o9L d ↦{fullShare} W main_v21)
          ∗ (r1L d ↦{fullShare} W main_v6)
          ∗ (r2L d ↦{fullShare} W main_v8)
          ∗ (r3L d ↦{fullShare} W main_v10)
          ∗ (r4L d ↦{fullShare} W main_v12)
          ∗ (r5L d ↦{fullShare} W main_v14)
          ∗ (r6L d ↦{fullShare} W main_v16)
          ∗ (r7L d ↦{fullShare} W main_v18)
          ∗ (r8L d ↦{fullShare} W main_v20)
          ∗ (r9L d ↦{fullShare} W main_v22)) := by
  unfold unscopedBufs
  rw [show (Finset.univ.filter fun b : Ref sig .tc => ¬ b.isScoped) = {main_arg0, main_arg1, main_arg2, main_arg3, main_arg4, main_arg5, main_arg6, main_arg7, main_arg8, main_arg9, main_v0, main_v1, main_v2, main_v3, main_v4_0, main_v4_1, main_v5, main_v7, main_v9, main_v11, main_v13, main_v15, main_v17, main_v19, main_v21, main_v6, main_v8, main_v10, main_v12, main_v14, main_v16, main_v18, main_v20, main_v22} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A host reshape's arrays, one by one. -/
theorem held_pair (d : Dev nD) (a b : Ref sig .tc) (h : (Proc.devRef .tc a : DevRef τ sig) ≠ Proc.devRef .tc b) (W : Valuation τ sig (Elt F)) :
    (held (T d) {Proc.devRef .tc a, Proc.devRef .tc b} W : sProp 𝕄)
      = iprop(((SparseCore.T d).loc a ↦{fullShare} W (Proc.devRef .tc a)) ∗ ((SparseCore.T d).loc b ↦{fullShare} W (Proc.devRef .tc b))) := by
  unfold held
  rw [SparseCore.bigSep_insert' (fun t => h (Finset.mem_singleton.mp t)), bigSep_singleton]

/-! ## A task's place -/

/-- The grid's coordinates of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The worker of core `c` and subcore `i`. -/
def wF (c : Fin 2) (i : Fin 16) : Fin 32 := wL (coordsV c i)

/-- A core and a subcore name each worker once. -/
def tilesEquiv : Fin 2 × Fin 16 ≃ Fin 32 where
  toFun p := ⟨2 * p.2.val + p.1.val, by omega⟩
  invFun w := (⟨w.val % 2, by omega⟩, ⟨w.val / 2, by omega⟩)
  left_inv p := by
    refine Prod.ext (Fin.ext ?_) (Fin.ext ?_)
    · show (2 * p.2.val + p.1.val) % 2 = p.1.val
      omega
    · show (2 * p.2.val + p.1.val) / 2 = p.2.val
      omega
  right_inv w := Fin.ext (show 2 * (w.val / 2) + w.val % 2 = w.val by omega)

/-- Thirty-two workers are two cores of sixteen subcores. -/
theorem tiles (Φ : Fin 32 → sProp 𝕄) :
    bigSep Finset.univ Φ = bigSep Finset.univ fun c : Fin 2 => bigSep Finset.univ fun i : Fin 16 => Φ (wF c i) := by
  rw [bigSep_univ_equiv tilesEquiv Φ, bigSep_univ_prod]
  rfl

/-! ## What the calls take and bring back -/

/-- What a task of the first call takes can be handed over. -/
instance go0_storable (As Ad : S320000.Idx → BitVec 32) (d : Dev nD) (w : Fin 32) : BI.Storable (upEmb : UEmb _ 𝕄) (go0 As Ad d w) := by
  unfold go0; infer_instance
/-- What it brings back can be handed over. -/
instance td0_storable (As Ad : S320000.Idx → BitVec 32) (d : Dev nD) (w : Fin 32) : BI.Storable (upEmb : UEmb _ 𝕄) (td0 As Ad d w) := by
  unfold td0; infer_instance

variable (m : (ℓ : Loc nD τ sig) → Buf (Elt F) ℓ) (ρ : Dev nD → PrngReg)

/-- The launch memory of a device, and its state before the calls. -/
def V0 (d : Dev nD) : Valuation τ sig (Elt F) := fun b => m (d, b)
/-- The arrays after the four host operations before the calls. -/
def V4 (d : Dev nD) : Valuation τ sig (Elt F) := (opD (F := F)).result ((opC (F := F)).result ((opB (F := F)).result ((opA (F := F)).result (V0 m d))))

/-- The sources and the destinations the calls read. -/
def As (d : Dev nD) : S320000.Idx → BitVec 32 := V4 m d v1'
/-- The destination words. -/
def Ad (d : Dev nD) : S320000.Idx → BitVec 32 := V4 m d v3'

/-- The launch's buffers are the arrays' contents, held. -/
theorem unscoped_held (d : Dev nD) : (unscopedBufs d (fun b => m ((SparseCore.T d).loc b)) : sProp 𝕄) = held (T d) SA (V0 m d) := by
  rw [unscopedBufs_eq, held_SA]; rfl

/-- The features an aggregating call reads. -/
def xl (q : Fin 9) (d : Dev nD) : Loc nD τ sig := match q with
  | 0 => x1L d
  | 1 => x2L d
  | 2 => x3L d
  | 3 => x4L d
  | 4 => x5L d
  | 5 => x6L d
  | 6 => x7L d
  | 7 => x8L d
  | 8 => x9L d
/-- The output an aggregating call writes. -/
def ol (q : Fin 9) (d : Dev nD) : Loc nD τ sig := match q with
  | 0 => o1L d
  | 1 => o2L d
  | 2 => o3L d
  | 3 => o4L d
  | 4 => o5L d
  | 5 => o6L d
  | 6 => o7L d
  | 7 => o8L d
  | 8 => o9L d
/-- A task's block of that output. -/
def obk (q : Fin 9) (d : Dev nD) (w : Fin 32) : Finset (Idx (ol q d)) := match q with
  | 0 => oblk B1 w.val
  | 1 => oblk B2 w.val
  | 2 => oblk B3 w.val
  | 3 => oblk B4 w.val
  | 4 => oblk B5 w.val
  | 5 => oblk B6 w.val
  | 6 => oblk B7 w.val
  | 7 => oblk B8 w.val
  | 8 => oblk B9 w.val
/-- What the call leaves in that output. -/
def og (q : Fin 9) (d : Dev nD) : Buf (Elt F) (ol q d) := match q with
  | 0 => OUT (As m d) (Ad m d) (m (x1L d))
  | 1 => OUT (As m d) (Ad m d) (m (x2L d))
  | 2 => OUT (As m d) (Ad m d) (m (x3L d))
  | 3 => OUT (As m d) (Ad m d) (m (x4L d))
  | 4 => OUT (As m d) (Ad m d) (m (x5L d))
  | 5 => OUT (As m d) (Ad m d) (m (x6L d))
  | 6 => OUT (As m d) (Ad m d) (m (x7L d))
  | 7 => OUT (As m d) (Ad m d) (m (x8L d))
  | 8 => OUT (As m d) (Ad m d) (m (x9L d))

/-- A task of an aggregating call takes a share of the features, its rows and its block of the output. -/
def go1 (q : Fin 9) (d : Dev nD) (w : Fin 32) : sProp 𝕄 :=
  iprop((xl q d ↦{lf w} m (xl q d)) ∗ td0 (As m d) (Ad m d) d w ∗ (∃ f, ol q d ↦[obk q d w]{fullShare} f))
/-- It brings them back, the block written. -/
def td1 (q : Fin 9) (d : Dev nD) (w : Fin 32) : sProp 𝕄 :=
  iprop((xl q d ↦{lf w} m (xl q d)) ∗ td0 (As m d) (Ad m d) d w ∗ (ol q d ↦[obk q d w]{fullShare} og m q d))

/-- What such a task takes can be handed over. -/
instance go1_storable (q : Fin 9) (d : Dev nD) (w : Fin 32) : BI.Storable (upEmb : UEmb _ 𝕄) (go1 m q d w) := by
  unfold go1; infer_instance
/-- What it brings back can be handed over. -/
instance td1_storable (q : Fin 9) (d : Dev nD) (w : Fin 32) : BI.Storable (upEmb : UEmb _ 𝕄) (td1 m q d w) := by
  unfold td1; infer_instance

/-- A core's part of what such a call takes. -/
instance goc_storable (q : Fin 9) (d : Dev nD) (c : Fin 2) : BI.Storable (upEmb : UEmb _ 𝕄) (bigSep Finset.univ fun i : Fin 16 => go1 m q d (wF c i)) := inferInstance
/-- A core's part of what it brings back. -/
instance tdc_storable (q : Fin 9) (d : Dev nD) (c : Fin 2) : BI.Storable (upEmb : UEmb _ 𝕄) (bigSep Finset.univ fun i : Fin 16 => td1 m q d (wF c i)) := inferInstance

/-- What the calls hand over and bring back. -/
def P : (K (F := F)).Pay (nD := nD) (Val := Elt F) (Name := ℕ) (U := UU) where
  st := fun q d c => match q with
    | 0 => bigSep Finset.univ fun i : Fin 16 => go0 (As m d) (Ad m d) d (wF c i)
    | 1 => bigSep Finset.univ fun i : Fin 16 => go1 m 0 d (wF c i)
    | 2 => bigSep Finset.univ fun i : Fin 16 => go1 m 1 d (wF c i)
    | 3 => bigSep Finset.univ fun i : Fin 16 => go1 m 2 d (wF c i)
    | 4 => bigSep Finset.univ fun i : Fin 16 => go1 m 3 d (wF c i)
    | 5 => bigSep Finset.univ fun i : Fin 16 => go1 m 4 d (wF c i)
    | 6 => bigSep Finset.univ fun i : Fin 16 => go1 m 5 d (wF c i)
    | 7 => bigSep Finset.univ fun i : Fin 16 => go1 m 6 d (wF c i)
    | 8 => bigSep Finset.univ fun i : Fin 16 => go1 m 7 d (wF c i)
    | 9 => bigSep Finset.univ fun i : Fin 16 => go1 m 8 d (wF c i)
  dn := fun q d c => match q with
    | 0 => bigSep Finset.univ fun i : Fin 16 => td0 (As m d) (Ad m d) d (wF c i)
    | 1 => bigSep Finset.univ fun i : Fin 16 => td1 m 0 d (wF c i)
    | 2 => bigSep Finset.univ fun i : Fin 16 => td1 m 1 d (wF c i)
    | 3 => bigSep Finset.univ fun i : Fin 16 => td1 m 2 d (wF c i)
    | 4 => bigSep Finset.univ fun i : Fin 16 => td1 m 3 d (wF c i)
    | 5 => bigSep Finset.univ fun i : Fin 16 => td1 m 4 d (wF c i)
    | 6 => bigSep Finset.univ fun i : Fin 16 => td1 m 5 d (wF c i)
    | 7 => bigSep Finset.univ fun i : Fin 16 => td1 m 6 d (wF c i)
    | 8 => bigSep Finset.univ fun i : Fin 16 => td1 m 7 d (wF c i)
    | 9 => bigSep Finset.univ fun i : Fin 16 => td1 m 8 d (wF c i)
  go := fun q d c i => match q with
    | 0 => go0 (As m d) (Ad m d) d (wF c i)
    | 1 => go1 m 0 d (wF c i)
    | 2 => go1 m 1 d (wF c i)
    | 3 => go1 m 2 d (wF c i)
    | 4 => go1 m 3 d (wF c i)
    | 5 => go1 m 4 d (wF c i)
    | 6 => go1 m 5 d (wF c i)
    | 7 => go1 m 6 d (wF c i)
    | 8 => go1 m 7 d (wF c i)
    | 9 => go1 m 8 d (wF c i)
  td := fun q d c i => match q with
    | 0 => td0 (As m d) (Ad m d) d (wF c i)
    | 1 => td1 m 0 d (wF c i)
    | 2 => td1 m 1 d (wF c i)
    | 3 => td1 m 2 d (wF c i)
    | 4 => td1 m 3 d (wF c i)
    | 5 => td1 m 4 d (wF c i)
    | 6 => td1 m 5 d (wF c i)
    | 7 => td1 m 6 d (wF c i)
    | 8 => td1 m 7 d (wF c i)
    | 9 => td1 m 8 d (wF c i)
  x := fun _ _ => iprop(emp)

set_option maxHeartbeats 8000000 in
/-- All of it can be handed over. -/
instance P_storable : (P m).IsStorable where
  st q d c := match q with
    | 0 => (inferInstance : BI.Storable (upEmb : UEmb _ 𝕄) (bigSep Finset.univ fun i : Fin 16 => go0 (As m d) (Ad m d) d (wF c i)))
    | 1 => goc_storable m 0 d c
    | 2 => goc_storable m 1 d c
    | 3 => goc_storable m 2 d c
    | 4 => goc_storable m 3 d c
    | 5 => goc_storable m 4 d c
    | 6 => goc_storable m 5 d c
    | 7 => goc_storable m 6 d c
    | 8 => goc_storable m 7 d c
    | 9 => goc_storable m 8 d c
  dn q d c := match q with
    | 0 => (inferInstance : BI.Storable (upEmb : UEmb _ 𝕄) (bigSep Finset.univ fun i : Fin 16 => td0 (As m d) (Ad m d) d (wF c i)))
    | 1 => tdc_storable m 0 d c
    | 2 => tdc_storable m 1 d c
    | 3 => tdc_storable m 2 d c
    | 4 => tdc_storable m 3 d c
    | 5 => tdc_storable m 4 d c
    | 6 => tdc_storable m 5 d c
    | 7 => tdc_storable m 6 d c
    | 8 => tdc_storable m 7 d c
    | 9 => tdc_storable m 8 d c
  go q d c i := match q with
    | 0 => go0_storable (As m d) (Ad m d) d (wF c i)
    | 1 => go1_storable m 0 d (wF c i)
    | 2 => go1_storable m 1 d (wF c i)
    | 3 => go1_storable m 2 d (wF c i)
    | 4 => go1_storable m 3 d (wF c i)
    | 5 => go1_storable m 4 d (wF c i)
    | 6 => go1_storable m 5 d (wF c i)
    | 7 => go1_storable m 6 d (wF c i)
    | 8 => go1_storable m 7 d (wF c i)
    | 9 => go1_storable m 8 d (wF c i)
  td q d c i := match q with
    | 0 => td0_storable (As m d) (Ad m d) d (wF c i)
    | 1 => td1_storable m 0 d (wF c i)
    | 2 => td1_storable m 1 d (wF c i)
    | 3 => td1_storable m 2 d (wF c i)
    | 4 => td1_storable m 3 d (wF c i)
    | 5 => td1_storable m 4 d (wF c i)
    | 6 => td1_storable m 5 d (wF c i)
    | 7 => td1_storable m 6 d (wF c i)
    | 8 => td1_storable m 7 d (wF c i)
    | 9 => td1_storable m 8 d (wF c i)

/-- What the run asks of the launch memory: the edges' ends are nodes. -/
def Ok : Prop := ∀ d : Dev nD, (∀ j, (As m d j).toNat < 10000) ∧ ∀ j, (Ad m d j).toNat < 10000

/-! ## The tasks' obligations -/

/-- The first call's body on a vector subcore. -/
theorem defs₀_vector0 (c s) : defs₀ (F := F) (.scVector c s) 0 ()
    = SparseCore.onTile hcore0 hsub0 (fun c s => cc0__build_lists (coordsV c s) srcM (Memref.isWhole_whole _) dstM (Memref.isWhole_whole _) lstM (Memref.isWhole_whole _) cntM (Memref.isWhole_whole _)
            sbM (Memref.isWhole_whole _) dbM (Memref.isWhole_whole _) pkM (Memref.isWhole_whole _) cbM (Memref.isWhole_whole _)
            cc0_scoped0 cc0_scoped1 cc0_scoped2 cc0_scoped3 cc0_scoped4) ⟨⟩ c s := rfl

/-- Call 1's body on a vector subcore. -/
theorem defs₀_vector1 (c s) : defs₀ (F := F) (.scVector c s) 1 ()
    = SparseCore.onTile hcore1 hsub1 (fun c s => cc1__segmax (coordsV c s) B1.xM B1.hx lstM (Memref.isWhole_whole _) cntM (Memref.isWhole_whole _) B1.outM B1.ho
            B1.agM B1.ha B1.pcM B1.hp B1.siM B1.hs B1.rwM B1.hr B1.tbM B1.ht
            B1.s5 B1.p0 B1.p1 B1.p2 B1.p3 B1.p4) ⟨⟩ c s := rfl

/-- Call 2's body on a vector subcore. -/
theorem defs₀_vector2 (c s) : defs₀ (F := F) (.scVector c s) 2 ()
    = SparseCore.onTile hcore1 hsub1 (fun c s => cc1__segmax (coordsV c s) B2.xM B2.hx lstM (Memref.isWhole_whole _) cntM (Memref.isWhole_whole _) B2.outM B2.ho
            B2.agM B2.ha B2.pcM B2.hp B2.siM B2.hs B2.rwM B2.hr B2.tbM B2.ht
            B2.s5 B2.p0 B2.p1 B2.p2 B2.p3 B2.p4) ⟨⟩ c s := by
  rw [← twin2]; rfl

/-- Call 3's body on a vector subcore. -/
theorem defs₀_vector3 (c s) : defs₀ (F := F) (.scVector c s) 3 ()
    = SparseCore.onTile hcore1 hsub1 (fun c s => cc1__segmax (coordsV c s) B3.xM B3.hx lstM (Memref.isWhole_whole _) cntM (Memref.isWhole_whole _) B3.outM B3.ho
            B3.agM B3.ha B3.pcM B3.hp B3.siM B3.hs B3.rwM B3.hr B3.tbM B3.ht
            B3.s5 B3.p0 B3.p1 B3.p2 B3.p3 B3.p4) ⟨⟩ c s := by
  rw [← twin3]; rfl

/-- Call 4's body on a vector subcore. -/
theorem defs₀_vector4 (c s) : defs₀ (F := F) (.scVector c s) 4 ()
    = SparseCore.onTile hcore1 hsub1 (fun c s => cc1__segmax (coordsV c s) B4.xM B4.hx lstM (Memref.isWhole_whole _) cntM (Memref.isWhole_whole _) B4.outM B4.ho
            B4.agM B4.ha B4.pcM B4.hp B4.siM B4.hs B4.rwM B4.hr B4.tbM B4.ht
            B4.s5 B4.p0 B4.p1 B4.p2 B4.p3 B4.p4) ⟨⟩ c s := by
  rw [← twin4]; rfl

/-- Call 5's body on a vector subcore. -/
theorem defs₀_vector5 (c s) : defs₀ (F := F) (.scVector c s) 5 ()
    = SparseCore.onTile hcore1 hsub1 (fun c s => cc1__segmax (coordsV c s) B5.xM B5.hx lstM (Memref.isWhole_whole _) cntM (Memref.isWhole_whole _) B5.outM B5.ho
            B5.agM B5.ha B5.pcM B5.hp B5.siM B5.hs B5.rwM B5.hr B5.tbM B5.ht
            B5.s5 B5.p0 B5.p1 B5.p2 B5.p3 B5.p4) ⟨⟩ c s := by
  rw [← twin5]; rfl

/-- Call 6's body on a vector subcore. -/
theorem defs₀_vector6 (c s) : defs₀ (F := F) (.scVector c s) 6 ()
    = SparseCore.onTile hcore1 hsub1 (fun c s => cc1__segmax (coordsV c s) B6.xM B6.hx lstM (Memref.isWhole_whole _) cntM (Memref.isWhole_whole _) B6.outM B6.ho
            B6.agM B6.ha B6.pcM B6.hp B6.siM B6.hs B6.rwM B6.hr B6.tbM B6.ht
            B6.s5 B6.p0 B6.p1 B6.p2 B6.p3 B6.p4) ⟨⟩ c s := by
  rw [← twin6]; rfl

/-- Call 7's body on a vector subcore. -/
theorem defs₀_vector7 (c s) : defs₀ (F := F) (.scVector c s) 7 ()
    = SparseCore.onTile hcore1 hsub1 (fun c s => cc1__segmax (coordsV c s) B7.xM B7.hx lstM (Memref.isWhole_whole _) cntM (Memref.isWhole_whole _) B7.outM B7.ho
            B7.agM B7.ha B7.pcM B7.hp B7.siM B7.hs B7.rwM B7.hr B7.tbM B7.ht
            B7.s5 B7.p0 B7.p1 B7.p2 B7.p3 B7.p4) ⟨⟩ c s := by
  rw [← twin7]; rfl

/-- Call 8's body on a vector subcore. -/
theorem defs₀_vector8 (c s) : defs₀ (F := F) (.scVector c s) 8 ()
    = SparseCore.onTile hcore1 hsub1 (fun c s => cc1__segmax (coordsV c s) B8.xM B8.hx lstM (Memref.isWhole_whole _) cntM (Memref.isWhole_whole _) B8.outM B8.ho
            B8.agM B8.ha B8.pcM B8.hp B8.siM B8.hs B8.rwM B8.hr B8.tbM B8.ht
            B8.s5 B8.p0 B8.p1 B8.p2 B8.p3 B8.p4) ⟨⟩ c s := by
  rw [← twin8]; rfl

/-- Call 9's body on a vector subcore. -/
theorem defs₀_vector9 (c s) : defs₀ (F := F) (.scVector c s) 9 ()
    = SparseCore.onTile hcore1 hsub1 (fun c s => cc1__segmax (coordsV c s) B9.xM B9.hx lstM (Memref.isWhole_whole _) cntM (Memref.isWhole_whole _) B9.outM B9.ho
            B9.agM B9.ha B9.pcM B9.hp B9.siM B9.hs B9.rwM B9.hr B9.tbM B9.ht
            B9.s5 B9.p0 B9.p1 B9.p2 B9.p3 B9.p4) ⟨⟩ c s := by
  rw [← twin9]; rfl

/-- A task's waits are of the kinds the launch asks. -/
theorem obl_post {q : Fin 10} {thr : Thread nD τ} {A B C : sProp 𝕄} {O : CellTallies nD τ sig (HIx 10)} {W : Waits sig (HIx 10)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, ⟨%W', %hW', HO⟩⟩
  isplitl [HA]; · iexact HA
  isplitl [HB]; · iexact HB
  isplitl [HC]; · iexact HC
  iexists W'
  isplitr
  · ipureintro
    exact fun p hp => (hW' p hp).imp_right Or.inl
  · iexact HO

set_option maxRecDepth 16384 in
/-- The first call's tasks meet the launch's obligation. -/
theorem tileObl0 (hok : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  exact (tile0 facts d (coordsV ⟨_, hci.1⟩ ⟨_, hci.2⟩) (As m d) (Ad m d) (hok d).1 (hok d).2 O W hO).trans (wp_mono frame _ _ fun _ => obl_post)

set_option maxRecDepth 16384 in
/-- Call 1's tasks meet the launch's obligation. -/
theorem tileObl1 (hok : Ok m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  exact (tile1 B1 facts d (coordsV ⟨_, hci.1⟩ ⟨_, hci.2⟩) (As m d) (Ad m d) (hok d).1 (own1 d _) (m (x1L d)) (OUT (As m d) (Ad m d) (m (x1L d))) rfl O W hO).trans (wp_mono frame _ _ fun _ => obl_post)

set_option maxRecDepth 16384 in
/-- Call 2's tasks meet the launch's obligation. -/
theorem tileObl2 (hok : Ok m) : (K (F := F)).TileObl (D (F := F)) 𝒱 (P m) v₀ 2 := by
  intro d c i O W hO _ _
  simp only [show (P m).ox = fun _ _ => 0 from rfl, add_zero]
  have hci : ((K (F := F)).core 2 c).val < grid1.bound 0 ∧ ((K (F := F)).sub 2 i).val < grid1.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]
  simp only [SparseCore.onTile, hci, and_self, ↓reduceDIte]
  exact (tile1 B2 facts d (coordsV ⟨_, hci.1⟩ ⟨_, hci.2⟩) (As m d) (Ad m d) (hok d).1 (own2 d _) (m (x2L d)) (OUT (As m d) (Ad m d) (m (x2L d))) rfl O W hO).trans (wp_mono frame _ _ fun _ => obl_post)

set_option maxRecDepth 16384 in
/-- Call 3's tasks meet the launch's obligation. -/
theorem tileObl3 (hok : Ok m) : (K (F := F)).TileObl (D (F := F)) 𝒱 (P m) v₀ 3 := by
  intro d c i O W hO _ _
  simp only [show (P m).ox = fun _ _ => 0 from rfl, add_zero]
  have hci : ((K (F := F)).core 3 c).val < grid1.bound 0 ∧ ((K (F := F)).sub 3 i).val < grid1.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]
  simp only [SparseCore.onTile, hci, and_self, ↓reduceDIte]
  exact (tile1 B3 facts d (coordsV ⟨_, hci.1⟩ ⟨_, hci.2⟩) (As m d) (Ad m d) (hok d).1 (own3 d _) (m (x3L d)) (OUT (As m d) (Ad m d) (m (x3L d))) rfl O W hO).trans (wp_mono frame _ _ fun _ => obl_post)

set_option maxRecDepth 16384 in
/-- Call 4's tasks meet the launch's obligation. -/
theorem tileObl4 (hok : Ok m) : (K (F := F)).TileObl (D (F := F)) 𝒱 (P m) v₀ 4 := by
  intro d c i O W hO _ _
  simp only [show (P m).ox = fun _ _ => 0 from rfl, add_zero]
  have hci : ((K (F := F)).core 4 c).val < grid1.bound 0 ∧ ((K (F := F)).sub 4 i).val < grid1.bound 1 := ⟨c.isLt, i.isLt⟩
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  rw [defs₀_vector4]
  simp only [SparseCore.onTile, hci, and_self, ↓reduceDIte]
  exact (tile1 B4 facts d (coordsV ⟨_, hci.1⟩ ⟨_, hci.2⟩) (As m d) (Ad m d) (hok d).1 (own4 d _) (m (x4L d)) (OUT (As m d) (Ad m d) (m (x4L d))) rfl O W hO).trans (wp_mono frame _ _ fun _ => obl_post)

set_option maxRecDepth 16384 in
/-- Call 5's tasks meet the launch's obligation. -/
theorem tileObl5 (hok : Ok m) : (K (F := F)).TileObl (D (F := F)) 𝒱 (P m) v₀ 5 := by
  intro d c i O W hO _ _
  simp only [show (P m).ox = fun _ _ => 0 from rfl, add_zero]
  have hci : ((K (F := F)).core 5 c).val < grid1.bound 0 ∧ ((K (F := F)).sub 5 i).val < grid1.bound 1 := ⟨c.isLt, i.isLt⟩
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  rw [defs₀_vector5]
  simp only [SparseCore.onTile, hci, and_self, ↓reduceDIte]
  exact (tile1 B5 facts d (coordsV ⟨_, hci.1⟩ ⟨_, hci.2⟩) (As m d) (Ad m d) (hok d).1 (own5 d _) (m (x5L d)) (OUT (As m d) (Ad m d) (m (x5L d))) rfl O W hO).trans (wp_mono frame _ _ fun _ => obl_post)

set_option maxRecDepth 16384 in
/-- Call 6's tasks meet the launch's obligation. -/
theorem tileObl6 (hok : Ok m) : (K (F := F)).TileObl (D (F := F)) 𝒱 (P m) v₀ 6 := by
  intro d c i O W hO _ _
  simp only [show (P m).ox = fun _ _ => 0 from rfl, add_zero]
  have hci : ((K (F := F)).core 6 c).val < grid1.bound 0 ∧ ((K (F := F)).sub 6 i).val < grid1.bound 1 := ⟨c.isLt, i.isLt⟩
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  rw [defs₀_vector6]
  simp only [SparseCore.onTile, hci, and_self, ↓reduceDIte]
  exact (tile1 B6 facts d (coordsV ⟨_, hci.1⟩ ⟨_, hci.2⟩) (As m d) (Ad m d) (hok d).1 (own6 d _) (m (x6L d)) (OUT (As m d) (Ad m d) (m (x6L d))) rfl O W hO).trans (wp_mono frame _ _ fun _ => obl_post)

set_option maxRecDepth 16384 in
/-- Call 7's tasks meet the launch's obligation. -/
theorem tileObl7 (hok : Ok m) : (K (F := F)).TileObl (D (F := F)) 𝒱 (P m) v₀ 7 := by
  intro d c i O W hO _ _
  simp only [show (P m).ox = fun _ _ => 0 from rfl, add_zero]
  have hci : ((K (F := F)).core 7 c).val < grid1.bound 0 ∧ ((K (F := F)).sub 7 i).val < grid1.bound 1 := ⟨c.isLt, i.isLt⟩
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  rw [defs₀_vector7]
  simp only [SparseCore.onTile, hci, and_self, ↓reduceDIte]
  exact (tile1 B7 facts d (coordsV ⟨_, hci.1⟩ ⟨_, hci.2⟩) (As m d) (Ad m d) (hok d).1 (own7 d _) (m (x7L d)) (OUT (As m d) (Ad m d) (m (x7L d))) rfl O W hO).trans (wp_mono frame _ _ fun _ => obl_post)

set_option maxRecDepth 16384 in
/-- Call 8's tasks meet the launch's obligation. -/
theorem tileObl8 (hok : Ok m) : (K (F := F)).TileObl (D (F := F)) 𝒱 (P m) v₀ 8 := by
  intro d c i O W hO _ _
  simp only [show (P m).ox = fun _ _ => 0 from rfl, add_zero]
  have hci : ((K (F := F)).core 8 c).val < grid1.bound 0 ∧ ((K (F := F)).sub 8 i).val < grid1.bound 1 := ⟨c.isLt, i.isLt⟩
  change _ ⊢ wp _ _ _ (Pipeline.liftProg (defs₀ (F := F) (.scVector ((K (F := F)).core 8 c) ((K (F := F)).sub 8 i)) 8 ())) _
  refine BI.Entails.trans ?_ (Pipeline.wp_liftProg (D (F := F)) (Pipeline.defs_kernel pcfgs defs₀) 𝒱₀ _ Set.univ none _ _)
  rw [defs₀_vector8]
  simp only [SparseCore.onTile, hci, and_self, ↓reduceDIte]
  exact (tile1 B8 facts d (coordsV ⟨_, hci.1⟩ ⟨_, hci.2⟩) (As m d) (Ad m d) (hok d).1 (own8 d _) (m (x8L d)) (OUT (As m d) (Ad m d) (m (x8L d))) rfl O W hO).trans (wp_mono frame _ _ fun _ => obl_post)

set_option maxRecDepth 16384 in
/-- Call 9's tasks meet the launch's obligation. -/
theorem tileObl9 (hok : Ok m) : (K (F := F)).TileObl (D (F := F)) 𝒱 (P m) v₀ 9 := by
  intro d c i O W hO _ _
  simp only [show (P m).ox = fun _ _ => 0 from rfl, add_zero]
  have hci : ((K (F := F)).core 9 c).val < grid1.bound 0 ∧ ((K (F := F)).sub 9 i).val < grid1.bound 1 := ⟨c.isLt, i.isLt⟩
  change _ ⊢ wp _ _ _ (Pipeline.liftProg (defs₀ (F := F) (.scVector ((K (F := F)).core 9 c) ((K (F := F)).sub 9 i)) 9 ())) _
  refine BI.Entails.trans ?_ (Pipeline.wp_liftProg (D (F := F)) (Pipeline.defs_kernel pcfgs defs₀) 𝒱₀ _ Set.univ none _ _)
  rw [defs₀_vector9]
  simp only [SparseCore.onTile, hci, and_self, ↓reduceDIte]
  exact (tile1 B9 facts d (coordsV ⟨_, hci.1⟩ ⟨_, hci.2⟩) (As m d) (Ad m d) (hok d).1 (own9 d _) (m (x9L d)) (OUT (As m d) (Ad m d) (m (x9L d))) rfl O W hO).trans (wp_mono frame _ _ fun _ => obl_post)

/-- A core's part of the first call is its subcores' parts. -/
theorem vecSplit0 : (K (F := F)).VecSplit' (P m) 0 := by
  intro d c
  show (bigSep Finset.univ fun i : Fin 16 => go0 (As m d) (Ad m d) d (wF c i) : sProp 𝕄) ⊢ |={Set.univ}=> iprop((bigSep Finset.univ fun i : Fin 16 => go0 (As m d) (Ad m d) d (wF c i))
    ∗ ((bigSep Finset.univ fun i : Fin 16 => td0 (As m d) (Ad m d) d (wF c i)) -∗ (bigSep Finset.univ fun i : Fin 16 => td0 (As m d) (Ad m d) d (wF c i))))
  iintro H
  imodintro
  isplitl [H]; · iexact H
  iintro H; iexact H

/-- A core's part of call 1 is its subcores' parts. -/
theorem vecSplit1 : (K (F := F)).VecSplit' (P m) 1 := by
  intro d c
  show (bigSep Finset.univ fun i : Fin 16 => go1 m 0 d (wF c i) : sProp 𝕄) ⊢ |={Set.univ}=> iprop((bigSep Finset.univ fun i : Fin 16 => go1 m 0 d (wF c i))
    ∗ ((bigSep Finset.univ fun i : Fin 16 => td1 m 0 d (wF c i)) -∗ (bigSep Finset.univ fun i : Fin 16 => td1 m 0 d (wF c i))))
  iintro H
  imodintro
  isplitl [H]; · iexact H
  iintro H; iexact H

/-- A core's part of call 2 is its subcores' parts. -/
theorem vecSplit2 : (K (F := F)).VecSplit' (P m) 2 := by
  intro d c
  show (bigSep Finset.univ fun i : Fin 16 => go1 m 1 d (wF c i) : sProp 𝕄) ⊢ |={Set.univ}=> iprop((bigSep Finset.univ fun i : Fin 16 => go1 m 1 d (wF c i))
    ∗ ((bigSep Finset.univ fun i : Fin 16 => td1 m 1 d (wF c i)) -∗ (bigSep Finset.univ fun i : Fin 16 => td1 m 1 d (wF c i))))
  iintro H
  imodintro
  isplitl [H]; · iexact H
  iintro H; iexact H

/-- A core's part of call 3 is its subcores' parts. -/
theorem vecSplit3 : (K (F := F)).VecSplit' (P m) 3 := by
  intro d c
  show (bigSep Finset.univ fun i : Fin 16 => go1 m 2 d (wF c i) : sProp 𝕄) ⊢ |={Set.univ}=> iprop((bigSep Finset.univ fun i : Fin 16 => go1 m 2 d (wF c i))
    ∗ ((bigSep Finset.univ fun i : Fin 16 => td1 m 2 d (wF c i)) -∗ (bigSep Finset.univ fun i : Fin 16 => td1 m 2 d (wF c i))))
  iintro H
  imodintro
  isplitl [H]; · iexact H
  iintro H; iexact H

/-- A core's part of call 4 is its subcores' parts. -/
theorem vecSplit4 : (K (F := F)).VecSplit' (P m) 4 := by
  intro d c
  show (bigSep Finset.univ fun i : Fin 16 => go1 m 3 d (wF c i) : sProp 𝕄) ⊢ |={Set.univ}=> iprop((bigSep Finset.univ fun i : Fin 16 => go1 m 3 d (wF c i))
    ∗ ((bigSep Finset.univ fun i : Fin 16 => td1 m 3 d (wF c i)) -∗ (bigSep Finset.univ fun i : Fin 16 => td1 m 3 d (wF c i))))
  iintro H
  imodintro
  isplitl [H]; · iexact H
  iintro H; iexact H

/-- A core's part of call 5 is its subcores' parts. -/
theorem vecSplit5 : (K (F := F)).VecSplit' (P m) 5 := by
  intro d c
  show (bigSep Finset.univ fun i : Fin 16 => go1 m 4 d (wF c i) : sProp 𝕄) ⊢ |={Set.univ}=> iprop((bigSep Finset.univ fun i : Fin 16 => go1 m 4 d (wF c i))
    ∗ ((bigSep Finset.univ fun i : Fin 16 => td1 m 4 d (wF c i)) -∗ (bigSep Finset.univ fun i : Fin 16 => td1 m 4 d (wF c i))))
  iintro H
  imodintro
  isplitl [H]; · iexact H
  iintro H; iexact H

/-- A core's part of call 6 is its subcores' parts. -/
theorem vecSplit6 : (K (F := F)).VecSplit' (P m) 6 := by
  intro d c
  show (bigSep Finset.univ fun i : Fin 16 => go1 m 5 d (wF c i) : sProp 𝕄) ⊢ |={Set.univ}=> iprop((bigSep Finset.univ fun i : Fin 16 => go1 m 5 d (wF c i))
    ∗ ((bigSep Finset.univ fun i : Fin 16 => td1 m 5 d (wF c i)) -∗ (bigSep Finset.univ fun i : Fin 16 => td1 m 5 d (wF c i))))
  iintro H
  imodintro
  isplitl [H]; · iexact H
  iintro H; iexact H

/-- A core's part of call 7 is its subcores' parts. -/
theorem vecSplit7 : (K (F := F)).VecSplit' (P m) 7 := by
  intro d c
  show (bigSep Finset.univ fun i : Fin 16 => go1 m 6 d (wF c i) : sProp 𝕄) ⊢ |={Set.univ}=> iprop((bigSep Finset.univ fun i : Fin 16 => go1 m 6 d (wF c i))
    ∗ ((bigSep Finset.univ fun i : Fin 16 => td1 m 6 d (wF c i)) -∗ (bigSep Finset.univ fun i : Fin 16 => td1 m 6 d (wF c i))))
  iintro H
  imodintro
  isplitl [H]; · iexact H
  iintro H; iexact H

/-- A core's part of call 8 is its subcores' parts. -/
theorem vecSplit8 : (K (F := F)).VecSplit' (P m) 8 := by
  intro d c
  show (bigSep Finset.univ fun i : Fin 16 => go1 m 7 d (wF c i) : sProp 𝕄) ⊢ |={Set.univ}=> iprop((bigSep Finset.univ fun i : Fin 16 => go1 m 7 d (wF c i))
    ∗ ((bigSep Finset.univ fun i : Fin 16 => td1 m 7 d (wF c i)) -∗ (bigSep Finset.univ fun i : Fin 16 => td1 m 7 d (wF c i))))
  iintro H
  imodintro
  isplitl [H]; · iexact H
  iintro H; iexact H

/-- A core's part of call 9 is its subcores' parts. -/
theorem vecSplit9 : (K (F := F)).VecSplit' (P m) 9 := by
  intro d c
  show (bigSep Finset.univ fun i : Fin 16 => go1 m 8 d (wF c i) : sProp 𝕄) ⊢ |={Set.univ}=> iprop((bigSep Finset.univ fun i : Fin 16 => go1 m 8 d (wF c i))
    ∗ ((bigSep Finset.univ fun i : Fin 16 => td1 m 8 d (wF c i)) -∗ (bigSep Finset.univ fun i : Fin 16 => td1 m 8 d (wF c i))))
  iintro H
  imodintro
  isplitl [H]; · iexact H
  iintro H; iexact H

/-! ## The launch's ghost state -/

/-- The ledger's starting element. -/
def u₀ : UU := (initOf (K (F := F)).hsCells (K (F := F)).hsToks, 1)

/-- Nothing, many times. -/
theorem bigSep_emp' {I : Type} (s : Finset I) : (bigSep s fun _ => iprop(emp)) = (iprop(emp) : sProp 𝕄) := bigSep_emp_const s

/-- The launch's ghost state is the handshakes'. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 10 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 10 => (P (F := F) m).x q thr) = bigSep Finset.univ fun _ => iprop(emp) from
    bigSep_congr fun _ _ => show bigSep Finset.univ (fun q : Fin 10 => (iprop(emp) : sProp 𝕄)) = iprop(emp) from bigSep_emp' _, bigSep_emp']
  iempintro

/-! ## The arrays among the tasks -/

/-- An array whose blocks partition it is its blocks. -/
theorem blocks {ℓ : Loc nD τ sig} (B : Fin 32 → Finset (Idx ℓ)) (hd : ∀ w w' : Fin 32, w ≠ w' → Disjoint (B w) (B w')) (hc : ∀ j : Idx ℓ, ∃ w, j ∈ B w) (f : Buf (Elt F) ℓ) :
    (ℓ ↦{fullShare} f : sProp 𝕄) = bigSep Finset.univ fun w : Fin 32 => ℓ ↦[B w]{fullShare} f := by
  rw [← pointsTo_biUnion Finset.univ B fun w _ w' _ h => hd w w' h,
    show Finset.univ.biUnion B = (Finset.univ : Finset (Idx ℓ)) from
      Finset.eq_univ_iff_forall.mpr fun j => Finset.mem_biUnion.mpr (by obtain ⟨w, h⟩ := hc j; exact ⟨w, Finset.mem_univ _, h⟩)]

/-- An array is its thirty-two shares. -/
theorem leaves {ℓ : Loc nD τ sig} (f : Buf (Elt F) ℓ) : (ℓ ↦{fullShare} f : sProp 𝕄) = bigSep Finset.univ fun w : Fin 32 => ℓ ↦{lf w} f :=
  ShareLeaves.pointsTo_leaves Finset.univ f 5 fullShare

/-- Blocks at given contents are blocks at some contents. -/
theorem some_of {ℓ : Loc nD τ sig} (B : Fin 32 → Finset (Idx ℓ)) (f : Buf (Elt F) ℓ) :
    (bigSep Finset.univ fun w : Fin 32 => (ℓ ↦[B w]{fullShare} f : sProp 𝕄)) ⊢ bigSep Finset.univ fun w : Fin 32 => (iprop(∃ f, ℓ ↦[B w]{fullShare} f) : sProp 𝕄) := by
  refine bigSep_mono fun w _ => ?_
  change (_ : sProp 𝕄) ⊢ _
  iintro H
  iexists f
  iexact H

/-- The lists are their rows. -/
theorem lst_rows (d : Dev nD) (f : Buf (Elt F) (lstL d)) :
    (lstL d ↦{fullShare} f : sProp 𝕄) = bigSep Finset.univ fun w : Fin 32 => lstL d ↦[lrow w.val]{fullShare} f :=
  blocks (ℓ := lstL d) (fun w => lrow w.val)
    (fun w w' h => Finset.disjoint_left.mpr fun j hj hj' => h (Fin.ext ((Finset.mem_filter.mp hj).2.symm.trans (Finset.mem_filter.mp hj').2)))
    (fun j => ⟨⟨((j : S32x323584.Idx) 0).val, ((j : S32x323584.Idx) 0).isLt⟩, Finset.mem_filter.mpr ⟨Finset.mem_univ _, rfl⟩⟩) f

/-- The counts are their rows. -/
theorem cnt_rows (d : Dev nD) (f : Buf (Elt F) (cntL d)) :
    (cntL d ↦{fullShare} f : sProp 𝕄) = bigSep Finset.univ fun w : Fin 32 => cntL d ↦[ccrow w.val]{fullShare} f :=
  blocks (ℓ := cntL d) (fun w => ccrow w.val)
    (fun w w' h => Finset.disjoint_left.mpr fun j hj hj' => h (Fin.ext ((Finset.mem_filter.mp hj).2.symm.trans (Finset.mem_filter.mp hj').2)))
    (fun j => ⟨⟨((j : S32x16.Idx) 0).val, ((j : S32x16.Idx) 0).isLt⟩, Finset.mem_filter.mpr ⟨Finset.mem_univ _, rfl⟩⟩) f

/-- The workers' blocks of an output are apart. -/
theorem oblk_disjoint (B : Bufs) (w w' : ℕ) (h : w ≠ w') : Disjoint (oblk B w) (oblk B w') :=
  (Finset.disjoint_map _).mpr (Finset.disjoint_left.mpr fun _ hj hj' => h ((Finset.mem_filter.mp hj).2.symm.trans (Finset.mem_filter.mp hj').2))

/-- They are all of it. -/
theorem oblk_cover (B : Bufs) (j : B.outM.view.ty.shape.Idx) : ∃ w : Fin 32, j ∈ oblk B w.val := by
  have hj : j ∈ B.outM.view.set := by rw [B.ho.set_eq_univ]; exact Finset.mem_univ _
  obtain ⟨x, -, rfl⟩ := Finset.mem_map.mp hj
  have h : (x 0).val < 1280000 := (x 0).isLt
  exact ⟨⟨(x 0).val / 40064, by omega⟩, Finset.mem_map.mpr ⟨x, Finset.mem_filter.mpr ⟨Finset.mem_univ _, rfl⟩, rfl⟩⟩

/-- So for each call. -/
theorem obk_disjoint (q : Fin 9) (d : Dev nD) (w w' : Fin 32) (h : w ≠ w') : Disjoint (obk q d w) (obk q d w') :=
  have h' : w.val ≠ w'.val := fun t => h (Fin.ext t)
  match q with
  | 0 => oblk_disjoint B1 _ _ h'
  | 1 => oblk_disjoint B2 _ _ h'
  | 2 => oblk_disjoint B3 _ _ h'
  | 3 => oblk_disjoint B4 _ _ h'
  | 4 => oblk_disjoint B5 _ _ h'
  | 5 => oblk_disjoint B6 _ _ h'
  | 6 => oblk_disjoint B7 _ _ h'
  | 7 => oblk_disjoint B8 _ _ h'
  | 8 => oblk_disjoint B9 _ _ h'
/-- And for each call all of it. -/
theorem obk_cover (q : Fin 9) (d : Dev nD) : ∀ j : Idx (ol q d), ∃ w : Fin 32, j ∈ obk q d w :=
  match q with
  | 0 => oblk_cover B1
  | 1 => oblk_cover B2
  | 2 => oblk_cover B3
  | 3 => oblk_cover B4
  | 4 => oblk_cover B5
  | 5 => oblk_cover B6
  | 6 => oblk_cover B7
  | 7 => oblk_cover B8
  | 8 => oblk_cover B9

/-- The first call takes the edge arrays, the lists and the counts. -/
theorem st0_intro (d : Dev nD) (fl : Buf (Elt F) (lstL d)) (fc : Buf (Elt F) (cntL d)) :
    iprop((srcL d ↦{fullShare} As m d) ∗ (dstL d ↦{fullShare} Ad m d) ∗ (lstL d ↦{fullShare} fl) ∗ (cntL d ↦{fullShare} fc))
      ⊢ (bigSep Finset.univ fun c : Fin ((K (F := F)).nCore 0) => (P m).st 0 d c : sProp 𝕄) := by
  refine BI.Entails.trans ?_ (Entails.of_eq (tiles (fun w => go0 (As m d) (Ad m d) d w)))
  rw [lst_rows, cnt_rows, leaves (F := F) (ℓ := srcL d) (As m d), leaves (F := F) (ℓ := dstL d) (Ad m d)]
  unfold go0
  rw [bigSep_sep' (Finset.univ : Finset (Fin 32)), bigSep_sep' (Finset.univ : Finset (Fin 32)), bigSep_sep' (Finset.univ : Finset (Fin 32))]
  change (_ : sProp 𝕄) ⊢ _
  iintro ⟨H1, H2, H3, H4⟩
  isplitl [H1]; · iexact H1
  isplitl [H2]; · iexact H2
  isplitl [H3]
  · iapply (some_of (F := F) (ℓ := lstL d) (fun w : Fin 32 => lrow w.val) _)
    iexact H3
  · iapply (some_of (F := F) (ℓ := cntL d) (fun w : Fin 32 => ccrow w.val) _)
    iexact H4

/-- The filled rows of all the workers. -/
def rows (d : Dev nD) : sProp 𝕄 := bigSep Finset.univ fun w : Fin 32 => td0 (As m d) (Ad m d) d w

/-- The first call brings back the rows. -/
theorem dn0_elim (d : Dev nD) : (bigSep Finset.univ fun c : Fin ((K (F := F)).nCore 0) => (P m).dn 0 d c : sProp 𝕄) ⊢ rows m d :=
  Entails.of_eq (tiles (fun w => td0 (As m d) (Ad m d) d w)).symm

/-- An aggregating call takes the features, the rows and its output. -/
theorem go1_intro (q : Fin 9) (d : Dev nD) (fo : Buf (Elt F) (ol q d)) :
    iprop((xl q d ↦{fullShare} m (xl q d)) ∗ rows m d ∗ (ol q d ↦{fullShare} fo)) ⊢ (bigSep Finset.univ fun w : Fin 32 => go1 m q d w : sProp 𝕄) := by
  rw [blocks (obk q d) (obk_disjoint q d) (obk_cover q d) fo, leaves (F := F) (ℓ := xl q d) (m (xl q d))]
  unfold go1 rows
  rw [bigSep_sep' (Finset.univ : Finset (Fin 32)), bigSep_sep' (Finset.univ : Finset (Fin 32))]
  change (_ : sProp 𝕄) ⊢ _
  iintro ⟨H1, H2, H3⟩
  isplitl [H1]; · iexact H1
  isplitl [H2]; · iexact H2
  iapply (some_of (F := F) (ℓ := ol q d) (obk q d) _)
  iexact H3

/-- It brings them back, the output written. -/
theorem td1_elim (q : Fin 9) (d : Dev nD) :
    (bigSep Finset.univ fun w : Fin 32 => td1 m q d w : sProp 𝕄) ⊢ iprop((xl q d ↦{fullShare} m (xl q d)) ∗ rows m d ∗ (ol q d ↦{fullShare} og m q d)) := by
  rw [blocks (obk q d) (obk_disjoint q d) (obk_cover q d) (og m q d), leaves (F := F) (ℓ := xl q d) (m (xl q d))]
  unfold td1 rows
  rw [bigSep_sep' (Finset.univ : Finset (Fin 32)), bigSep_sep' (Finset.univ : Finset (Fin 32))]

/-- What call 1 takes. -/
theorem st1_intro (d : Dev nD) (fo : Buf (Elt F) (o1L d)) :
    iprop((x1L d ↦{fullShare} m (x1L d)) ∗ rows m d ∗ (o1L d ↦{fullShare} fo))
      ⊢ (bigSep Finset.univ fun c : Fin ((K (F := F)).nCore 1) => (P m).st 1 d c : sProp 𝕄) :=
  (go1_intro m 0 d fo).trans (Entails.of_eq (tiles (fun w => go1 m 0 d w)))
/-- What call 1 brings back. -/
theorem dn1_elim (d : Dev nD) :
    (bigSep Finset.univ fun c : Fin ((K (F := F)).nCore 1) => (P m).dn 1 d c : sProp 𝕄)
      ⊢ iprop((x1L d ↦{fullShare} m (x1L d)) ∗ rows m d ∗ (o1L d ↦{fullShare} OUT (As m d) (Ad m d) (m (x1L d)))) :=
  (Entails.of_eq (tiles (fun w => td1 m 0 d w)).symm).trans (td1_elim m 0 d)

/-- What call 2 takes. -/
theorem st2_intro (d : Dev nD) (fo : Buf (Elt F) (o2L d)) :
    iprop((x2L d ↦{fullShare} m (x2L d)) ∗ rows m d ∗ (o2L d ↦{fullShare} fo))
      ⊢ (bigSep Finset.univ fun c : Fin ((K (F := F)).nCore 2) => (P m).st 2 d c : sProp 𝕄) :=
  (go1_intro m 1 d fo).trans (Entails.of_eq (tiles (fun w => go1 m 1 d w)))
/-- What call 2 brings back. -/
theorem dn2_elim (d : Dev nD) :
    (bigSep Finset.univ fun c : Fin ((K (F := F)).nCore 2) => (P m).dn 2 d c : sProp 𝕄)
      ⊢ iprop((x2L d ↦{fullShare} m (x2L d)) ∗ rows m d ∗ (o2L d ↦{fullShare} OUT (As m d) (Ad m d) (m (x2L d)))) :=
  (Entails.of_eq (tiles (fun w => td1 m 1 d w)).symm).trans (td1_elim m 1 d)

/-- What call 3 takes. -/
theorem st3_intro (d : Dev nD) (fo : Buf (Elt F) (o3L d)) :
    iprop((x3L d ↦{fullShare} m (x3L d)) ∗ rows m d ∗ (o3L d ↦{fullShare} fo))
      ⊢ (bigSep Finset.univ fun c : Fin ((K (F := F)).nCore 3) => (P m).st 3 d c : sProp 𝕄) :=
  (go1_intro m 2 d fo).trans (Entails.of_eq (tiles (fun w => go1 m 2 d w)))
/-- What call 3 brings back. -/
theorem dn3_elim (d : Dev nD) :
    (bigSep Finset.univ fun c : Fin ((K (F := F)).nCore 3) => (P m).dn 3 d c : sProp 𝕄)
      ⊢ iprop((x3L d ↦{fullShare} m (x3L d)) ∗ rows m d ∗ (o3L d ↦{fullShare} OUT (As m d) (Ad m d) (m (x3L d)))) :=
  (Entails.of_eq (tiles (fun w => td1 m 2 d w)).symm).trans (td1_elim m 2 d)

/-- What call 4 takes. -/
theorem st4_intro (d : Dev nD) (fo : Buf (Elt F) (o4L d)) :
    iprop((x4L d ↦{fullShare} m (x4L d)) ∗ rows m d ∗ (o4L d ↦{fullShare} fo))
      ⊢ (bigSep Finset.univ fun c : Fin ((K (F := F)).nCore 4) => (P m).st 4 d c : sProp 𝕄) :=
  (go1_intro m 3 d fo).trans (Entails.of_eq (tiles (fun w => go1 m 3 d w)))
/-- What call 4 brings back. -/
theorem dn4_elim (d : Dev nD) :
    (bigSep Finset.univ fun c : Fin ((K (F := F)).nCore 4) => (P m).dn 4 d c : sProp 𝕄)
      ⊢ iprop((x4L d ↦{fullShare} m (x4L d)) ∗ rows m d ∗ (o4L d ↦{fullShare} OUT (As m d) (Ad m d) (m (x4L d)))) :=
  (Entails.of_eq (tiles (fun w => td1 m 3 d w)).symm).trans (td1_elim m 3 d)

/-- What call 5 takes. -/
theorem st5_intro (d : Dev nD) (fo : Buf (Elt F) (o5L d)) :
    iprop((x5L d ↦{fullShare} m (x5L d)) ∗ rows m d ∗ (o5L d ↦{fullShare} fo))
      ⊢ (bigSep Finset.univ fun c : Fin ((K (F := F)).nCore 5) => (P m).st 5 d c : sProp 𝕄) :=
  (go1_intro m 4 d fo).trans (Entails.of_eq (tiles (fun w => go1 m 4 d w)))
/-- What call 5 brings back. -/
theorem dn5_elim (d : Dev nD) :
    (bigSep Finset.univ fun c : Fin ((K (F := F)).nCore 5) => (P m).dn 5 d c : sProp 𝕄)
      ⊢ iprop((x5L d ↦{fullShare} m (x5L d)) ∗ rows m d ∗ (o5L d ↦{fullShare} OUT (As m d) (Ad m d) (m (x5L d)))) :=
  (Entails.of_eq (tiles (fun w => td1 m 4 d w)).symm).trans (td1_elim m 4 d)

/-- What call 6 takes. -/
theorem st6_intro (d : Dev nD) (fo : Buf (Elt F) (o6L d)) :
    iprop((x6L d ↦{fullShare} m (x6L d)) ∗ rows m d ∗ (o6L d ↦{fullShare} fo))
      ⊢ (bigSep Finset.univ fun c : Fin ((K (F := F)).nCore 6) => (P m).st 6 d c : sProp 𝕄) :=
  (go1_intro m 5 d fo).trans (Entails.of_eq (tiles (fun w => go1 m 5 d w)))
/-- What call 6 brings back. -/
theorem dn6_elim (d : Dev nD) :
    (bigSep Finset.univ fun c : Fin ((K (F := F)).nCore 6) => (P m).dn 6 d c : sProp 𝕄)
      ⊢ iprop((x6L d ↦{fullShare} m (x6L d)) ∗ rows m d ∗ (o6L d ↦{fullShare} OUT (As m d) (Ad m d) (m (x6L d)))) :=
  (Entails.of_eq (tiles (fun w => td1 m 5 d w)).symm).trans (td1_elim m 5 d)

/-- What call 7 takes. -/
theorem st7_intro (d : Dev nD) (fo : Buf (Elt F) (o7L d)) :
    iprop((x7L d ↦{fullShare} m (x7L d)) ∗ rows m d ∗ (o7L d ↦{fullShare} fo))
      ⊢ (bigSep Finset.univ fun c : Fin ((K (F := F)).nCore 7) => (P m).st 7 d c : sProp 𝕄) :=
  (go1_intro m 6 d fo).trans (Entails.of_eq (tiles (fun w => go1 m 6 d w)))
/-- What call 7 brings back. -/
theorem dn7_elim (d : Dev nD) :
    (bigSep Finset.univ fun c : Fin ((K (F := F)).nCore 7) => (P m).dn 7 d c : sProp 𝕄)
      ⊢ iprop((x7L d ↦{fullShare} m (x7L d)) ∗ rows m d ∗ (o7L d ↦{fullShare} OUT (As m d) (Ad m d) (m (x7L d)))) :=
  (Entails.of_eq (tiles (fun w => td1 m 6 d w)).symm).trans (td1_elim m 6 d)

/-- What call 8 takes. -/
theorem st8_intro (d : Dev nD) (fo : Buf (Elt F) (o8L d)) :
    iprop((x8L d ↦{fullShare} m (x8L d)) ∗ rows m d ∗ (o8L d ↦{fullShare} fo))
      ⊢ (bigSep Finset.univ fun c : Fin ((K (F := F)).nCore 8) => (P m).st 8 d c : sProp 𝕄) :=
  (go1_intro m 7 d fo).trans (Entails.of_eq (tiles (fun w => go1 m 7 d w)))
/-- What call 8 brings back. -/
theorem dn8_elim (d : Dev nD) :
    (bigSep Finset.univ fun c : Fin ((K (F := F)).nCore 8) => (P m).dn 8 d c : sProp 𝕄)
      ⊢ iprop((x8L d ↦{fullShare} m (x8L d)) ∗ rows m d ∗ (o8L d ↦{fullShare} OUT (As m d) (Ad m d) (m (x8L d)))) :=
  (Entails.of_eq (tiles (fun w => td1 m 7 d w)).symm).trans (td1_elim m 7 d)

/-- What call 9 takes. -/
theorem st9_intro (d : Dev nD) (fo : Buf (Elt F) (o9L d)) :
    iprop((x9L d ↦{fullShare} m (x9L d)) ∗ rows m d ∗ (o9L d ↦{fullShare} fo))
      ⊢ (bigSep Finset.univ fun c : Fin ((K (F := F)).nCore 9) => (P m).st 9 d c : sProp 𝕄) :=
  (go1_intro m 8 d fo).trans (Entails.of_eq (tiles (fun w => go1 m 8 d w)))
/-- What call 9 brings back. -/
theorem dn9_elim (d : Dev nD) :
    (bigSep Finset.univ fun c : Fin ((K (F := F)).nCore 9) => (P m).dn 9 d c : sProp 𝕄)
      ⊢ iprop((x9L d ↦{fullShare} m (x9L d)) ∗ rows m d ∗ (o9L d ↦{fullShare} OUT (As m d) (Ad m d) (m (x9L d)))) :=
  (Entails.of_eq (tiles (fun w => td1 m 8 d w)).symm).trans (td1_elim m 8 d)

end Cert.Proof.Launch

end
-- ==== Proof.RefOps.lean ====
/-
  The reference's host operations as lists: before the loop, the loop's condition, the loop's body in short stretches,
  after the loop; that `@main` and the loop's body are these lists one after another; and what each list writes.
-/
module

public import Idealize.ShloMosaic.Lib.StableHlo.RunLoop
public import Idealize.ShloMosaic.Lib.DynamicIndex
public import proofs.«01_k».proof.Proof.Gen.ReferenceIdeal

@[expose] public section

noncomputable section

namespace Cert.Proof.RefOps

open Cert.ReferenceIdeal Cert.ReferenceIdeal.Gen
open Idealize.ShloMosaic Idealize.ShloMosaic.StableHlo Idealize.SL.Sem

variable {F : FTy → Type} [FloatOps F]

/-- The operations before the loop: the edge arrays, the aggregate at minus infinity, the counters. -/
def pre : List (HloOp τ sig (Elt F)) := [
  StableHlo.unary main_arg9 main_v0 ((extractStridedSlice S1x320000 ![0, 0] · slices_S2x320000_S1x320000_0_0) : (⟨S2x320000, .i32⟩ : BufTy).Contents (Elt F) → (⟨S1x320000, .i32⟩ : BufTy).Contents (Elt F)),
  StableHlo.reshape main_v0 main_v1 (rfl : (.i32 : EltTy) = .i32) shapeCasts_S1x320000_S320000,
  StableHlo.unary main_arg9 main_v2 ((extractStridedSlice S1x320000 ![1, 0] · slices_S2x320000_S1x320000_1_0) : (⟨S2x320000, .i32⟩ : BufTy).Contents (Elt F) → (⟨S1x320000, .i32⟩ : BufTy).Contents (Elt F)),
  StableHlo.reshape main_v2 main_v3 (rfl : (.i32 : EltTy) = .i32) shapeCasts_S1x320000_S320000,
  StableHlo.nary ![main_arg0, main_arg1, main_arg2, main_arg3, main_arg4, main_arg5, main_arg6, main_arg7, main_arg8] main_v4 (fun u => (concatenate S10000x1152 1 [⟨S10000x128, (u 0 : (⟨S10000x128, .f32⟩ : BufTy).Contents (Elt F))⟩, ⟨S10000x128, (u 1 : (⟨S10000x128, .f32⟩ : BufTy).Contents (Elt F))⟩, ⟨S10000x128, (u 2 : (⟨S10000x128, .f32⟩ : BufTy).Contents (Elt F))⟩, ⟨S10000x128, (u 3 : (⟨S10000x128, .f32⟩ : BufTy).Contents (Elt F))⟩, ⟨S10000x128, (u 4 : (⟨S10000x128, .f32⟩ : BufTy).Contents (Elt F))⟩, ⟨S10000x128, (u 5 : (⟨S10000x128, .f32⟩ : BufTy).Contents (Elt F))⟩, ⟨S10000x128, (u 6 : (⟨S10000x128, .f32⟩ : BufTy).Contents (Elt F))⟩, ⟨S10000x128, (u 7 : (⟨S10000x128, .f32⟩ : BufTy).Contents (Elt F))⟩, ⟨S10000x128, (u 8 : (⟨S10000x128, .f32⟩ : BufTy).Contents (Elt F))⟩] concatenates_S10000x128_S10000x128_S10000x128_S10000x128_S10000x128_S10000x128_S10000x128_S10000x128_S10000x128_S10000x1152_d1 : (⟨S10000x1152, .f32⟩ : BufTy).Contents (Elt F))),
  StableHlo.nullary main_cst (constant S_ .f32 0xFF800000#32),
  StableHlo.unary main_cst main_v5 (broadcastInDim S10000x1152 ![] bcast_S_S10000x1152 : (⟨S_, .f32⟩ : BufTy).Contents (Elt F) → (⟨S10000x1152, .f32⟩ : BufTy).Contents (Elt F)),
  StableHlo.nullary main_c (constantI S_ 32 0#32),
  StableHlo.nullary main_c_0 (constantI S_ 32 0#32),
  StableHlo.unary main_v1 main_v6_0 id,
  StableHlo.unary main_v4 main_v6_1 id,
  StableHlo.unary main_v3 main_v6_2 id,
  StableHlo.unary main_c_0 main_v6_3 id,
  StableHlo.unary main_c main_v6_4 id,
  StableHlo.unary main_v5 main_v6_5 id]

/-- The operations of the loop's condition. -/
def test : List (HloOp τ sig (Elt F)) := [
  StableHlo.nullary main_while0c_c_8 (constantI S_ 32 320000#32),
  StableHlo.binary main_v6_3 main_while0c_c_8 main_while0c_v20 (cmpi .slt : (⟨S_, .i32⟩ : BufTy).Contents (Elt F) → (⟨S_, .i32⟩ : BufTy).Contents (Elt F) → (⟨S_, .i1⟩ : BufTy).Contents (Elt F))]

/-- The operations of the body: the next counter. -/
def b1 : List (HloOp τ sig (Elt F)) := [
  StableHlo.nullary main_while0b_c_8 (constantI S_ 32 1#32),
  StableHlo.binary main_v6_4 main_while0b_c_8 main_while0b_v20 (addi : (⟨S_, .i32⟩ : BufTy).Contents (Elt F) → (⟨S_, .i32⟩ : BufTy).Contents (Elt F) → (⟨S_, .i32⟩ : BufTy).Contents (Elt F))]

/-- The operations of the body: the position wrapped. -/
def b2 : List (HloOp τ sig (Elt F)) := [
  StableHlo.nullary main_while0b_c_9 (constantI S_ 32 0#32),
  StableHlo.binary main_v6_4 main_while0b_c_9 main_while0b_v21 (cmpi .slt : (⟨S_, .i32⟩ : BufTy).Contents (Elt F) → (⟨S_, .i32⟩ : BufTy).Contents (Elt F) → (⟨S_, .i1⟩ : BufTy).Contents (Elt F)),
  StableHlo.unary main_v6_4 main_while0b_v22 (id : (⟨S_, .i32⟩ : BufTy).Contents (Elt F) → (⟨S_, .i32⟩ : BufTy).Contents (Elt F)),
  StableHlo.nullary main_while0b_c_10 (constantI S_ 32 320000#32),
  StableHlo.binary main_while0b_v22 main_while0b_c_10 main_while0b_v23 (addi : (⟨S_, .i32⟩ : BufTy).Contents (Elt F) → (⟨S_, .i32⟩ : BufTy).Contents (Elt F) → (⟨S_, .i32⟩ : BufTy).Contents (Elt F)),
  StableHlo.ternary main_while0b_v21 main_while0b_v23 main_v6_4 main_while0b_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F))]

/-- The operations of the body: the source word. -/
def b3 : List (HloOp τ sig (Elt F)) := [
  StableHlo.unaryIndexed main_v6_0 ![main_while0b_v24] ⟨S_, .i32⟩ main_while0b_v25 ((fun x i => Host.dynamicSlice S1 x (fun k => (i k (Shape.Idx.first h_S_)).toInt) sliceFits_S320000_S1) : (⟨S320000, .i32⟩ : BufTy).Contents (Elt F) → (Fin 1 → (⟨S_, .i32⟩ : BufTy).Contents (Elt F)) → (⟨S1, .i32⟩ : BufTy).Contents (Elt F)),
  StableHlo.reshape main_while0b_v25 main_while0b_v26 (rfl : (.i32 : EltTy) = .i32) shapeCasts_S1_S_]

/-- The operations of the body: the source word wrapped. -/
def b4 : List (HloOp τ sig (Elt F)) := [
  StableHlo.nullary main_while0b_c_11 (constantI S_ 32 0#32),
  StableHlo.binary main_while0b_v26 main_while0b_c_11 main_while0b_v27 (cmpi .slt : (⟨S_, .i32⟩ : BufTy).Contents (Elt F) → (⟨S_, .i32⟩ : BufTy).Contents (Elt F) → (⟨S_, .i1⟩ : BufTy).Contents (Elt F)),
  StableHlo.nullary main_while0b_c_12 (constantI S_ 32 10000#32),
  StableHlo.binary main_while0b_v26 main_while0b_c_12 main_while0b_v28 (addi : (⟨S_, .i32⟩ : BufTy).Contents (Elt F) → (⟨S_, .i32⟩ : BufTy).Contents (Elt F) → (⟨S_, .i32⟩ : BufTy).Contents (Elt F)),
  StableHlo.ternary main_while0b_v27 main_while0b_v28 main_while0b_v26 main_while0b_v29 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_c_13 (constantI S_ 32 0#32)]

/-- The operations of the body: the source row. -/
def b5 : List (HloOp τ sig (Elt F)) := [
  StableHlo.unaryIndexed main_v6_1 ![main_while0b_v29, main_while0b_c_13] ⟨S_, .i32⟩ main_while0b_v30 ((fun x i => Host.dynamicSlice S1x1152 x (fun k => (i k (Shape.Idx.first h_S_)).toInt) sliceFits_S10000x1152_S1x1152) : (⟨S10000x1152, .f32⟩ : BufTy).Contents (Elt F) → (Fin 2 → (⟨S_, .i32⟩ : BufTy).Contents (Elt F)) → (⟨S1x1152, .f32⟩ : BufTy).Contents (Elt F))]

/-- The operations of the body: the position wrapped again. -/
def b6 : List (HloOp τ sig (Elt F)) := [
  StableHlo.nullary main_while0b_c_14 (constantI S_ 32 0#32),
  StableHlo.binary main_v6_4 main_while0b_c_14 main_while0b_v31 (cmpi .slt : (⟨S_, .i32⟩ : BufTy).Contents (Elt F) → (⟨S_, .i32⟩ : BufTy).Contents (Elt F) → (⟨S_, .i1⟩ : BufTy).Contents (Elt F)),
  StableHlo.unary main_v6_4 main_while0b_v32 (id : (⟨S_, .i32⟩ : BufTy).Contents (Elt F) → (⟨S_, .i32⟩ : BufTy).Contents (Elt F)),
  StableHlo.nullary main_while0b_c_15 (constantI S_ 32 320000#32),
  StableHlo.binary main_while0b_v32 main_while0b_c_15 main_while0b_v33 (addi : (⟨S_, .i32⟩ : BufTy).Contents (Elt F) → (⟨S_, .i32⟩ : BufTy).Contents (Elt F) → (⟨S_, .i32⟩ : BufTy).Contents (Elt F)),
  StableHlo.ternary main_while0b_v31 main_while0b_v33 main_v6_4 main_while0b_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F))]

/-- The operations of the body: the destination word. -/
def b7 : List (HloOp τ sig (Elt F)) := [
  StableHlo.unaryIndexed main_v6_2 ![main_while0b_v34] ⟨S_, .i32⟩ main_while0b_v35 ((fun x i => Host.dynamicSlice S1 x (fun k => (i k (Shape.Idx.first h_S_)).toInt) sliceFits_S320000_S1) : (⟨S320000, .i32⟩ : BufTy).Contents (Elt F) → (Fin 1 → (⟨S_, .i32⟩ : BufTy).Contents (Elt F)) → (⟨S1, .i32⟩ : BufTy).Contents (Elt F)),
  StableHlo.reshape main_while0b_v35 main_while0b_v36 (rfl : (.i32 : EltTy) = .i32) shapeCasts_S1_S_]

/-- The operations of the body: the destination word wrapped. -/
def b8 : List (HloOp τ sig (Elt F)) := [
  StableHlo.nullary main_while0b_c_16 (constantI S_ 32 0#32),
  StableHlo.binary main_while0b_v36 main_while0b_c_16 main_while0b_v37 (cmpi .slt : (⟨S_, .i32⟩ : BufTy).Contents (Elt F) → (⟨S_, .i32⟩ : BufTy).Contents (Elt F) → (⟨S_, .i1⟩ : BufTy).Contents (Elt F)),
  StableHlo.nullary main_while0b_c_17 (constantI S_ 32 10000#32),
  StableHlo.binary main_while0b_v36 main_while0b_c_17 main_while0b_v38 (addi : (⟨S_, .i32⟩ : BufTy).Contents (Elt F) → (⟨S_, .i32⟩ : BufTy).Contents (Elt F) → (⟨S_, .i32⟩ : BufTy).Contents (Elt F)),
  StableHlo.ternary main_while0b_v37 main_while0b_v38 main_while0b_v36 main_while0b_v39 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_c_18 (constantI S_ 32 0#32)]

/-- The operations of the body: the row of the aggregate and its maximum with the source row. -/
def b9 : List (HloOp τ sig (Elt F)) := [
  StableHlo.unaryIndexed main_v6_5 ![main_while0b_v39, main_while0b_c_18] ⟨S_, .i32⟩ main_while0b_v40 ((fun x i => Host.dynamicSlice S1x1152 x (fun k => (i k (Shape.Idx.first h_S_)).toInt) sliceFits_S10000x1152_S1x1152) : (⟨S10000x1152, .f32⟩ : BufTy).Contents (Elt F) → (Fin 2 → (⟨S_, .i32⟩ : BufTy).Contents (Elt F)) → (⟨S1x1152, .f32⟩ : BufTy).Contents (Elt F)),
  StableHlo.binary main_while0b_v40 main_while0b_v30 main_while0b_v41 (maximumf : (⟨S1x1152, .f32⟩ : BufTy).Contents (Elt F) → (⟨S1x1152, .f32⟩ : BufTy).Contents (Elt F) → (⟨S1x1152, .f32⟩ : BufTy).Contents (Elt F))]

/-- The operations of the body: the position wrapped a third time. -/
def b10 : List (HloOp τ sig (Elt F)) := [
  StableHlo.nullary main_while0b_c_19 (constantI S_ 32 0#32),
  StableHlo.binary main_v6_4 main_while0b_c_19 main_while0b_v42 (cmpi .slt : (⟨S_, .i32⟩ : BufTy).Contents (Elt F) → (⟨S_, .i32⟩ : BufTy).Contents (Elt F) → (⟨S_, .i1⟩ : BufTy).Contents (Elt F)),
  StableHlo.unary main_v6_4 main_while0b_v43 (id : (⟨S_, .i32⟩ : BufTy).Contents (Elt F) → (⟨S_, .i32⟩ : BufTy).Contents (Elt F)),
  StableHlo.nullary main_while0b_c_20 (constantI S_ 32 320000#32),
  StableHlo.binary main_while0b_v43 main_while0b_c_20 main_while0b_v44 (addi : (⟨S_, .i32⟩ : BufTy).Contents (Elt F) → (⟨S_, .i32⟩ : BufTy).Contents (Elt F) → (⟨S_, .i32⟩ : BufTy).Contents (Elt F)),
  StableHlo.ternary main_while0b_v42 main_while0b_v44 main_v6_4 main_while0b_v45 (select : (⟨S_, .i1⟩ : BufTy).Contents (Elt F) → (⟨S_, .i32⟩ : BufTy).Contents (Elt F) → (⟨S_, .i32⟩ : BufTy).Contents (Elt F) → (⟨S_, .i32⟩ : BufTy).Contents (Elt F))]

/-- The operations of the body: the destination word again. -/
def b11 : List (HloOp τ sig (Elt F)) := [
  StableHlo.unaryIndexed main_v6_2 ![main_while0b_v45] ⟨S_, .i32⟩ main_while0b_v46 ((fun x i => Host.dynamicSlice S1 x (fun k => (i k (Shape.Idx.first h_S_)).toInt) sliceFits_S320000_S1) : (⟨S320000, .i32⟩ : BufTy).Contents (Elt F) → (Fin 1 → (⟨S_, .i32⟩ : BufTy).Contents (Elt F)) → (⟨S1, .i32⟩ : BufTy).Contents (Elt F)),
  StableHlo.reshape main_while0b_v46 main_while0b_v47 (rfl : (.i32 : EltTy) = .i32) shapeCasts_S1_S_]

/-- The operations of the body: the destination word wrapped again. -/
def b12 : List (HloOp τ sig (Elt F)) := [
  StableHlo.nullary main_while0b_c_21 (constantI S_ 32 0#32),
  StableHlo.binary main_while0b_v47 main_while0b_c_21 main_while0b_v48 (cmpi .slt : (⟨S_, .i32⟩ : BufTy).Contents (Elt F) → (⟨S_, .i32⟩ : BufTy).Contents (Elt F) → (⟨S_, .i1⟩ : BufTy).Contents (Elt F)),
  StableHlo.nullary main_while0b_c_22 (constantI S_ 32 10000#32),
  StableHlo.binary main_while0b_v47 main_while0b_c_22 main_while0b_v49 (addi : (⟨S_, .i32⟩ : BufTy).Contents (Elt F) → (⟨S_, .i32⟩ : BufTy).Contents (Elt F) → (⟨S_, .i32⟩ : BufTy).Contents (Elt F)),
  StableHlo.ternary main_while0b_v48 main_while0b_v49 main_while0b_v47 main_while0b_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
  StableHlo.nullary main_while0b_c_23 (constantI S_ 32 0#32)]

/-- The operations of the body: the row put back. -/
def b13 : List (HloOp τ sig (Elt F)) := [
  StableHlo.binaryIndexed main_v6_5 main_while0b_v41 ![main_while0b_v50, main_while0b_c_23] ⟨S_, .i32⟩ main_while0b_v51 ((fun x u i => Host.dynamicUpdateSlice x u (fun k => (i k (Shape.Idx.first h_S_)).toInt) updateFits_S10000x1152_S1x1152) : (⟨S10000x1152, .f32⟩ : BufTy).Contents (Elt F) → (⟨S1x1152, .f32⟩ : BufTy).Contents (Elt F) → (Fin 2 → (⟨S_, .i32⟩ : BufTy).Contents (Elt F)) → (⟨S10000x1152, .f32⟩ : BufTy).Contents (Elt F))]

/-- The operations of the body: what the trip hands on. -/
def b14 : List (HloOp τ sig (Elt F)) := [
  StableHlo.nullary main_while0b_c_24 (constantI S_ 32 1#32),
  StableHlo.binary main_v6_3 main_while0b_c_24 main_while0b_v52 (addi : (⟨S_, .i32⟩ : BufTy).Contents (Elt F) → (⟨S_, .i32⟩ : BufTy).Contents (Elt F) → (⟨S_, .i32⟩ : BufTy).Contents (Elt F)),
  StableHlo.unary main_while0b_v52 main_v6_3 id,
  StableHlo.unary main_while0b_v20 main_v6_4 id,
  StableHlo.unary main_while0b_v51 main_v6_5 id]

/-- The operations after the loop. -/
def tail : List (HloOp τ sig (Elt F)) := [
  StableHlo.unary main_v6_5 main_v7 (Host.absf : (⟨S10000x1152, .f32⟩ : BufTy).Contents (Elt F) → (⟨S10000x1152, .f32⟩ : BufTy).Contents (Elt F)),
  StableHlo.nullary main_cst_1 (constant S_ .f32 0x7F800000#32),
  StableHlo.unary main_cst_1 main_v8 (broadcastInDim S10000x1152 ![] bcast_S_S10000x1152 : (⟨S_, .f32⟩ : BufTy).Contents (Elt F) → (⟨S10000x1152, .f32⟩ : BufTy).Contents (Elt F)),
  StableHlo.binary main_v7 main_v8 main_v9 (cmpf .olt : (⟨S10000x1152, .f32⟩ : BufTy).Contents (Elt F) → (⟨S10000x1152, .f32⟩ : BufTy).Contents (Elt F) → (⟨S10000x1152, .i1⟩ : BufTy).Contents (Elt F)),
  StableHlo.nullary main_cst_2 (constant S_ .f32 0x00000000#32)]

/-- The operations of the last select. -/
def sel : List (HloOp τ sig (Elt F)) := [
  StableHlo.TRef.unary (.of main_cst_2 : StableHlo.TRef sig ⟨S_, .f32⟩) main_call0.v0 id,
  StableHlo.TRef.unary main_call0.v0 main_call0.v1 (broadcastInDim S10000x1152 ![] bcast_S_S10000x1152),
  StableHlo.TRef.ternary (.of main_v9 : StableHlo.TRef sig ⟨S10000x1152, .i1⟩) (.of main_v6_5) main_call0.v1 main_call0.v2 select]

/-- The nine column blocks handed back. -/
def cols : List (HloOp τ sig (Elt F)) := [
  StableHlo.unary main_v10 main_v11 ((extractStridedSlice S10000x128 ![0, 0] · slices_S10000x1152_S10000x128_0_0) : (⟨S10000x1152, .f32⟩ : BufTy).Contents (Elt F) → (⟨S10000x128, .f32⟩ : BufTy).Contents (Elt F)),
  StableHlo.unary main_v10 main_v12 ((extractStridedSlice S10000x128 ![0, 128] · slices_S10000x1152_S10000x128_0_128) : (⟨S10000x1152, .f32⟩ : BufTy).Contents (Elt F) → (⟨S10000x128, .f32⟩ : BufTy).Contents (Elt F)),
  StableHlo.unary main_v10 main_v13 ((extractStridedSlice S10000x128 ![0, 256] · slices_S10000x1152_S10000x128_0_256) : (⟨S10000x1152, .f32⟩ : BufTy).Contents (Elt F) → (⟨S10000x128, .f32⟩ : BufTy).Contents (Elt F)),
  StableHlo.unary main_v10 main_v14 ((extractStridedSlice S10000x128 ![0, 384] · slices_S10000x1152_S10000x128_0_384) : (⟨S10000x1152, .f32⟩ : BufTy).Contents (Elt F) → (⟨S10000x128, .f32⟩ : BufTy).Contents (Elt F)),
  StableHlo.unary main_v10 main_v15 ((extractStridedSlice S10000x128 ![0, 512] · slices_S10000x1152_S10000x128_0_512) : (⟨S10000x1152, .f32⟩ : BufTy).Contents (Elt F) → (⟨S10000x128, .f32⟩ : BufTy).Contents (Elt F)),
  StableHlo.unary main_v10 main_v16 ((extractStridedSlice S10000x128 ![0, 640] · slices_S10000x1152_S10000x128_0_640) : (⟨S10000x1152, .f32⟩ : BufTy).Contents (Elt F) → (⟨S10000x128, .f32⟩ : BufTy).Contents (Elt F)),
  StableHlo.unary main_v10 main_v17 ((extractStridedSlice S10000x128 ![0, 768] · slices_S10000x1152_S10000x128_0_768) : (⟨S10000x1152, .f32⟩ : BufTy).Contents (Elt F) → (⟨S10000x128, .f32⟩ : BufTy).Contents (Elt F)),
  StableHlo.unary main_v10 main_v18 ((extractStridedSlice S10000x128 ![0, 896] · slices_S10000x1152_S10000x128_0_896) : (⟨S10000x1152, .f32⟩ : BufTy).Contents (Elt F) → (⟨S10000x128, .f32⟩ : BufTy).Contents (Elt F)),
  StableHlo.unary main_v10 main_v19 ((extractStridedSlice S10000x128 ![0, 1024] · slices_S10000x1152_S10000x128_0_1024) : (⟨S10000x1152, .f32⟩ : BufTy).Contents (Elt F) → (⟨S10000x128, .f32⟩ : BufTy).Contents (Elt F))]

/-- What the list writes. -/
abbrev pre_W : List (Ref sig .tc) := [main_v0, main_v1, main_v2, main_v3, main_v4, main_cst, main_v5, main_c, main_c_0, main_v6_0, main_v6_1, main_v6_2, main_v6_3, main_v6_4, main_v6_5]
/-- The list writes nothing else. -/
theorem pre_keep (V : Valuation τ sig (Elt F)) (r : Ref sig .tc) (h : r ∉ pre_W) : after (pre (F := F)) V (Proc.devRef .tc r) = V (Proc.devRef .tc r) :=
  after_of_writes_sub pre V (forall_writes_sub_of_map (W := pre_W) rfl) h
/-- The list touches TensorCore arrays only. -/
theorem pre_sub : (pre : List (HloOp τ sig (Elt F))).Forall fun op => op.bufs ⊆ tcRefs τ sig :=
  ⟨unary_bufs_sub .., reshape_bufs_sub .., unary_bufs_sub .., reshape_bufs_sub .., nary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩

/-- What the list writes. -/
abbrev test_W : List (Ref sig .tc) := [main_while0c_c_8, main_while0c_v20]
/-- The list writes nothing else. -/
theorem test_keep (V : Valuation τ sig (Elt F)) (r : Ref sig .tc) (h : r ∉ test_W) : after (test (F := F)) V (Proc.devRef .tc r) = V (Proc.devRef .tc r) :=
  after_of_writes_sub test V (forall_writes_sub_of_map (W := test_W) rfl) h
/-- The list touches TensorCore arrays only. -/
theorem test_sub : (test : List (HloOp τ sig (Elt F))).Forall fun op => op.bufs ⊆ tcRefs τ sig :=
  ⟨nullary_bufs_sub .., binary_bufs_sub ..⟩

/-- What the list writes. -/
abbrev b1_W : List (Ref sig .tc) := [main_while0b_c_8, main_while0b_v20]
/-- The list writes nothing else. -/
theorem b1_keep (V : Valuation τ sig (Elt F)) (r : Ref sig .tc) (h : r ∉ b1_W) : after (b1 (F := F)) V (Proc.devRef .tc r) = V (Proc.devRef .tc r) :=
  after_of_writes_sub b1 V (forall_writes_sub_of_map (W := b1_W) rfl) h
/-- The list touches TensorCore arrays only. -/
theorem b1_sub : (b1 : List (HloOp τ sig (Elt F))).Forall fun op => op.bufs ⊆ tcRefs τ sig :=
  ⟨nullary_bufs_sub .., binary_bufs_sub ..⟩

/-- What the list writes. -/
abbrev b2_W : List (Ref sig .tc) := [main_while0b_c_9, main_while0b_v21, main_while0b_v22, main_while0b_c_10, main_while0b_v23, main_while0b_v24]
/-- The list writes nothing else. -/
theorem b2_keep (V : Valuation τ sig (Elt F)) (r : Ref sig .tc) (h : r ∉ b2_W) : after (b2 (F := F)) V (Proc.devRef .tc r) = V (Proc.devRef .tc r) :=
  after_of_writes_sub b2 V (forall_writes_sub_of_map (W := b2_W) rfl) h
/-- The list touches TensorCore arrays only. -/
theorem b2_sub : (b2 : List (HloOp τ sig (Elt F))).Forall fun op => op.bufs ⊆ tcRefs τ sig :=
  ⟨nullary_bufs_sub .., binary_bufs_sub .., unary_bufs_sub .., nullary_bufs_sub .., binary_bufs_sub .., ternary_bufs_sub ..⟩

/-- What the list writes. -/
abbrev b3_W : List (Ref sig .tc) := [main_while0b_v25, main_while0b_v26]
/-- The list writes nothing else. -/
theorem b3_keep (V : Valuation τ sig (Elt F)) (r : Ref sig .tc) (h : r ∉ b3_W) : after (b3 (F := F)) V (Proc.devRef .tc r) = V (Proc.devRef .tc r) :=
  after_of_writes_sub b3 V (forall_writes_sub_of_map (W := b3_W) rfl) h
/-- The list touches TensorCore arrays only. -/
theorem b3_sub : (b3 : List (HloOp τ sig (Elt F))).Forall fun op => op.bufs ⊆ tcRefs τ sig :=
  ⟨unaryIndexed_bufs_sub .., reshape_bufs_sub ..⟩

/-- What the list writes. -/
abbrev b4_W : List (Ref sig .tc) := [main_while0b_c_11, main_while0b_v27, main_while0b_c_12, main_while0b_v28, main_while0b_v29, main_while0b_c_13]
/-- The list writes nothing else. -/
theorem b4_keep (V : Valuation τ sig (Elt F)) (r : Ref sig .tc) (h : r ∉ b4_W) : after (b4 (F := F)) V (Proc.devRef .tc r) = V (Proc.devRef .tc r) :=
  after_of_writes_sub b4 V (forall_writes_sub_of_map (W := b4_W) rfl) h
/-- The list touches TensorCore arrays only. -/
theorem b4_sub : (b4 : List (HloOp τ sig (Elt F))).Forall fun op => op.bufs ⊆ tcRefs τ sig :=
  ⟨nullary_bufs_sub .., binary_bufs_sub .., nullary_bufs_sub .., binary_bufs_sub .., ternary_bufs_sub .., nullary_bufs_sub ..⟩

/-- What the list writes. -/
abbrev b5_W : List (Ref sig .tc) := [main_while0b_v30]
/-- The list writes nothing else. -/
theorem b5_keep (V : Valuation τ sig (Elt F)) (r : Ref sig .tc) (h : r ∉ b5_W) : after (b5 (F := F)) V (Proc.devRef .tc r) = V (Proc.devRef .tc r) :=
  after_of_writes_sub b5 V (forall_writes_sub_of_map (W := b5_W) rfl) h
/-- The list touches TensorCore arrays only. -/
theorem b5_sub : (b5 : List (HloOp τ sig (Elt F))).Forall fun op => op.bufs ⊆ tcRefs τ sig :=
  (unaryIndexed_bufs_sub ..)

/-- What the list writes. -/
abbrev b6_W : List (Ref sig .tc) := [main_while0b_c_14, main_while0b_v31, main_while0b_v32, main_while0b_c_15, main_while0b_v33, main_while0b_v34]
/-- The list writes nothing else. -/
theorem b6_keep (V : Valuation τ sig (Elt F)) (r : Ref sig .tc) (h : r ∉ b6_W) : after (b6 (F := F)) V (Proc.devRef .tc r) = V (Proc.devRef .tc r) :=
  after_of_writes_sub b6 V (forall_writes_sub_of_map (W := b6_W) rfl) h
/-- The list touches TensorCore arrays only. -/
theorem b6_sub : (b6 : List (HloOp τ sig (Elt F))).Forall fun op => op.bufs ⊆ tcRefs τ sig :=
  ⟨nullary_bufs_sub .., binary_bufs_sub .., unary_bufs_sub .., nullary_bufs_sub .., binary_bufs_sub .., ternary_bufs_sub ..⟩

/-- What the list writes. -/
abbrev b7_W : List (Ref sig .tc) := [main_while0b_v35, main_while0b_v36]
/-- The list writes nothing else. -/
theorem b7_keep (V : Valuation τ sig (Elt F)) (r : Ref sig .tc) (h : r ∉ b7_W) : after (b7 (F := F)) V (Proc.devRef .tc r) = V (Proc.devRef .tc r) :=
  after_of_writes_sub b7 V (forall_writes_sub_of_map (W := b7_W) rfl) h
/-- The list touches TensorCore arrays only. -/
theorem b7_sub : (b7 : List (HloOp τ sig (Elt F))).Forall fun op => op.bufs ⊆ tcRefs τ sig :=
  ⟨unaryIndexed_bufs_sub .., reshape_bufs_sub ..⟩

/-- What the list writes. -/
abbrev b8_W : List (Ref sig .tc) := [main_while0b_c_16, main_while0b_v37, main_while0b_c_17, main_while0b_v38, main_while0b_v39, main_while0b_c_18]
/-- The list writes nothing else. -/
theorem b8_keep (V : Valuation τ sig (Elt F)) (r : Ref sig .tc) (h : r ∉ b8_W) : after (b8 (F := F)) V (Proc.devRef .tc r) = V (Proc.devRef .tc r) :=
  after_of_writes_sub b8 V (forall_writes_sub_of_map (W := b8_W) rfl) h
/-- The list touches TensorCore arrays only. -/
theorem b8_sub : (b8 : List (HloOp τ sig (Elt F))).Forall fun op => op.bufs ⊆ tcRefs τ sig :=
  ⟨nullary_bufs_sub .., binary_bufs_sub .., nullary_bufs_sub .., binary_bufs_sub .., ternary_bufs_sub .., nullary_bufs_sub ..⟩

/-- What the list writes. -/
abbrev b9_W : List (Ref sig .tc) := [main_while0b_v40, main_while0b_v41]
/-- The list writes nothing else. -/
theorem b9_keep (V : Valuation τ sig (Elt F)) (r : Ref sig .tc) (h : r ∉ b9_W) : after (b9 (F := F)) V (Proc.devRef .tc r) = V (Proc.devRef .tc r) :=
  after_of_writes_sub b9 V (forall_writes_sub_of_map (W := b9_W) rfl) h
/-- The list touches TensorCore arrays only. -/
theorem b9_sub : (b9 : List (HloOp τ sig (Elt F))).Forall fun op => op.bufs ⊆ tcRefs τ sig :=
  ⟨unaryIndexed_bufs_sub .., binary_bufs_sub ..⟩

/-- What the list writes. -/
abbrev b10_W : List (Ref sig .tc) := [main_while0b_c_19, main_while0b_v42, main_while0b_v43, main_while0b_c_20, main_while0b_v44, main_while0b_v45]
/-- The list writes nothing else. -/
theorem b10_keep (V : Valuation τ sig (Elt F)) (r : Ref sig .tc) (h : r ∉ b10_W) : after (b10 (F := F)) V (Proc.devRef .tc r) = V (Proc.devRef .tc r) :=
  after_of_writes_sub b10 V (forall_writes_sub_of_map (W := b10_W) rfl) h
/-- The list touches TensorCore arrays only. -/
theorem b10_sub : (b10 : List (HloOp τ sig (Elt F))).Forall fun op => op.bufs ⊆ tcRefs τ sig :=
  ⟨nullary_bufs_sub .., binary_bufs_sub .., unary_bufs_sub .., nullary_bufs_sub .., binary_bufs_sub .., ternary_bufs_sub ..⟩

/-- What the list writes. -/
abbrev b11_W : List (Ref sig .tc) := [main_while0b_v46, main_while0b_v47]
/-- The list writes nothing else. -/
theorem b11_keep (V : Valuation τ sig (Elt F)) (r : Ref sig .tc) (h : r ∉ b11_W) : after (b11 (F := F)) V (Proc.devRef .tc r) = V (Proc.devRef .tc r) :=
  after_of_writes_sub b11 V (forall_writes_sub_of_map (W := b11_W) rfl) h
/-- The list touches TensorCore arrays only. -/
theorem b11_sub : (b11 : List (HloOp τ sig (Elt F))).Forall fun op => op.bufs ⊆ tcRefs τ sig :=
  ⟨unaryIndexed_bufs_sub .., reshape_bufs_sub ..⟩

/-- What the list writes. -/
abbrev b12_W : List (Ref sig .tc) := [main_while0b_c_21, main_while0b_v48, main_while0b_c_22, main_while0b_v49, main_while0b_v50, main_while0b_c_23]
/-- The list writes nothing else. -/
theorem b12_keep (V : Valuation τ sig (Elt F)) (r : Ref sig .tc) (h : r ∉ b12_W) : after (b12 (F := F)) V (Proc.devRef .tc r) = V (Proc.devRef .tc r) :=
  after_of_writes_sub b12 V (forall_writes_sub_of_map (W := b12_W) rfl) h
/-- The list touches TensorCore arrays only. -/
theorem b12_sub : (b12 : List (HloOp τ sig (Elt F))).Forall fun op => op.bufs ⊆ tcRefs τ sig :=
  ⟨nullary_bufs_sub .., binary_bufs_sub .., nullary_bufs_sub .., binary_bufs_sub .., ternary_bufs_sub .., nullary_bufs_sub ..⟩

/-- What the list writes. -/
abbrev b13_W : List (Ref sig .tc) := [main_while0b_v51]
/-- The list writes nothing else. -/
theorem b13_keep (V : Valuation τ sig (Elt F)) (r : Ref sig .tc) (h : r ∉ b13_W) : after (b13 (F := F)) V (Proc.devRef .tc r) = V (Proc.devRef .tc r) :=
  after_of_writes_sub b13 V (forall_writes_sub_of_map (W := b13_W) rfl) h
/-- The list touches TensorCore arrays only. -/
theorem b13_sub : (b13 : List (HloOp τ sig (Elt F))).Forall fun op => op.bufs ⊆ tcRefs τ sig :=
  (binaryIndexed_bufs_sub ..)

/-- What the list writes. -/
abbrev b14_W : List (Ref sig .tc) := [main_while0b_c_24, main_while0b_v52, main_v6_3, main_v6_4, main_v6_5]
/-- The list writes nothing else. -/
theorem b14_keep (V : Valuation τ sig (Elt F)) (r : Ref sig .tc) (h : r ∉ b14_W) : after (b14 (F := F)) V (Proc.devRef .tc r) = V (Proc.devRef .tc r) :=
  after_of_writes_sub b14 V (forall_writes_sub_of_map (W := b14_W) rfl) h
/-- The list touches TensorCore arrays only. -/
theorem b14_sub : (b14 : List (HloOp τ sig (Elt F))).Forall fun op => op.bufs ⊆ tcRefs τ sig :=
  ⟨nullary_bufs_sub .., binary_bufs_sub .., unary_bufs_sub .., unary_bufs_sub .., unary_bufs_sub ..⟩

/-- What the list writes. -/
abbrev tail_W : List (Ref sig .tc) := [main_v7, main_cst_1, main_v8, main_v9, main_cst_2]
/-- The list writes nothing else. -/
theorem tail_keep (V : Valuation τ sig (Elt F)) (r : Ref sig .tc) (h : r ∉ tail_W) : after (tail (F := F)) V (Proc.devRef .tc r) = V (Proc.devRef .tc r) :=
  after_of_writes_sub tail V (forall_writes_sub_of_map (W := tail_W) rfl) h
/-- The list touches TensorCore arrays only. -/
theorem tail_sub : (tail : List (HloOp τ sig (Elt F))).Forall fun op => op.bufs ⊆ tcRefs τ sig :=
  ⟨unary_bufs_sub .., nullary_bufs_sub .., unary_bufs_sub .., binary_bufs_sub .., nullary_bufs_sub ..⟩

/-- What the list writes. -/
abbrev sel_W : List (Ref sig .tc) := [main_call0_v0, main_call0_v1, main_v10]
/-- The list writes nothing else. -/
theorem sel_keep (V : Valuation τ sig (Elt F)) (r : Ref sig .tc) (h : r ∉ sel_W) : after (sel (F := F)) V (Proc.devRef .tc r) = V (Proc.devRef .tc r) :=
  after_of_writes_sub sel V (forall_writes_sub_of_map (W := sel_W) rfl) h
/-- The list touches TensorCore arrays only. -/
theorem sel_sub : (sel : List (HloOp τ sig (Elt F))).Forall fun op => op.bufs ⊆ tcRefs τ sig :=
  ⟨unary_bufs_sub .., unary_bufs_sub .., ternary_bufs_sub ..⟩

/-- What the list writes. -/
abbrev cols_W : List (Ref sig .tc) := [main_v11, main_v12, main_v13, main_v14, main_v15, main_v16, main_v17, main_v18, main_v19]
/-- The list writes nothing else. -/
theorem cols_keep (V : Valuation τ sig (Elt F)) (r : Ref sig .tc) (h : r ∉ cols_W) : after (cols (F := F)) V (Proc.devRef .tc r) = V (Proc.devRef .tc r) :=
  after_of_writes_sub cols V (forall_writes_sub_of_map (W := cols_W) rfl) h
/-- The list touches TensorCore arrays only. -/
theorem cols_sub : (cols : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub ..⟩

/-- The loop's body as stretches. -/
abbrev bodyI : List (List (HloOp τ sig (Elt F))) := [b1, b2, b3, b4, b5, b6, b7, b8, b9, b10, b11, b12, b13, b14]
/-- What follows the loop. -/
abbrev postI : List (List (HloOp τ sig (Elt F))) := [tail, sel, cols]

/-- `@main` is the operations before the loop, the loop, the operations after it. -/
theorem main_eq (c : Dev nD) : main (F := F) c
    = Pipeline.chain (([pre].map fun ops => (seq ops : Prog _ PUnit)) ++ HostLoop.enter 0 :: postI.map fun ops => (seq ops : Prog _ PUnit)) := by
  rfl

/-- The loop's body is its stretches. -/
theorem body_eq : main_while0_body (F := F) = Pipeline.chain (bodyI.map fun ops => (seq ops : Prog _ PUnit)) := by
  rfl

/-- The operations before the loop are plain host operations. -/
theorem pre_plain : Plain [pre (F := F)] := .cons pre_sub .nil
/-- The operations after the loop are plain host operations. -/
theorem post_plain : Plain (postI (F := F)) := .cons tail_sub (.cons sel_sub (.cons cols_sub .nil))
/-- The operations of the loop's body are plain host operations. -/
theorem body_plain : Plain (bodyI (F := F)) :=
  .cons b1_sub (.cons b2_sub (.cons b3_sub (.cons b4_sub (.cons b5_sub (.cons b6_sub (.cons b7_sub (.cons b8_sub (.cons b9_sub (.cons b10_sub (.cons b11_sub (.cons b12_sub (.cons b13_sub (.cons b14_sub (.nil))))))))))))))

end Cert.Proof.RefOps

end
-- ==== Proof.RefRun.lean ====
/-
  The run of the reference: what the loop carries after every trip, and what the arrays hold at the end.
-/
module

public import Idealize.ShloMosaic.Lib.Pointwise.SelectCore
public import proofs.«01_k».proof.Proof.RefOps
public import proofs.«01_k».proof.Proof.Tile

@[expose] public section

noncomputable section

namespace Cert.Proof.RefRun

open Cert.ReferenceIdeal Cert.ReferenceIdeal.Gen Cert.Proof.RefOps
open Cert.Proof.Setup (wd wd_eq wd_lt)
open Cert.Proof.Tile (XF)
open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs)
open TcCoe

variable {F : FTy → Type} [FloatOps F]

/-! ## Words, slices, rows -/

/-- A word below half the range reads the same signed and unsigned. -/
theorem toInt_small (w : BitVec 32) (h : w.toNat < 2 ^ 31) : w.toInt = (w.toNat : Int) := by
  rw [BitVec.toInt_eq_toNat_cond, if_pos (by omega)]

/-- An index that is not negative stays as it is. -/
theorem wrap_word (w : BitVec 32) (h : w.toNat < 2 ^ 31) (v a : S_.Idx → BitVec 32) (hv : v = fun _ => w) :
    select (cmpi .slt v (constantI S_ 32 0#32)) a v = fun _ => w := by
  subst hv
  funext j
  exact select_slt_zero_of_nonneg _ _ _ j (by show 0 ≤ w.toInt; rw [toInt_small w h]; omega)

/-- Row `r`, column `c` of the table. -/
def at2 (r : ℕ) (h : r < 10000) (c : Fin 1152) : S10000x1152.Idx := fun a => match a with
  | ⟨0, _⟩ => ⟨r, h⟩
  | ⟨1, _⟩ => c

/-- Column `c` of the single row. -/
def at1 (c : Fin 1152) : S1x1152.Idx := fun a => match a with
  | ⟨0, _⟩ => ⟨0, Nat.one_pos⟩
  | ⟨1, _⟩ => c

/-- One word of an edge array, sliced out. -/
theorem slice_word (x : S320000.Idx → BitVec 32) (start : Fin S320000.rank → Int) (k : ℕ) (hk : k < 320000) (hs : start 0 = (k : Int))
    (h : S320000.Slices (fun _ => 0) S1) (i : S1.Idx) : Host.dynamicSlice S1 x start h i = x (Shape.ofLane ⟨k, hk⟩) := by
  have ho : S320000.Slices (![k] : Fin 1 → ℕ) S1 := ⟨rfl, fun a => by
    have e : a = 0 := Subsingleton.elim _ _
    subst e
    show k + 1 ≤ 320000
    omega⟩
  rw [Host.dynamicSlice_eq_extractStridedSlice S1 x start ![k] h ho (fun a => by
    have e : a = 0 := Subsingleton.elim _ _
    subst e
    exact hs)]
  have hi : (i 0).val < 1 := (i 0).isLt
  refine congrArg x (funext fun a => ?_)
  have e : a = 0 := Subsingleton.elim _ _
  subst e
  refine Fin.ext ?_
  show k + (i 0).val = k
  omega

/-- One row of a table, sliced out. -/
theorem slice_row {α : Type} (x : S10000x1152.Idx → α) (start : Fin S10000x1152.rank → Int) (r : ℕ) (hr : r < 10000) (h0 : start 0 = (r : Int)) (h1 : start 1 = 0)
    (h : S10000x1152.Slices (fun _ => 0) S1x1152) (i : S1x1152.Idx) : Host.dynamicSlice S1x1152 x start h i = x (at2 r hr (i 1)) := by
  have ho : S10000x1152.Slices (![r, 0] : Fin 2 → ℕ) S1x1152 := ⟨rfl, fun a => by
    match a with
    | ⟨0, _⟩ => show r + 1 ≤ 10000; omega
    | ⟨1, _⟩ => show 0 + 1152 ≤ 1152; omega⟩
  rw [Host.dynamicSlice_eq_extractStridedSlice S1x1152 x start ![r, 0] h ho (fun a => by
    match a with
    | ⟨0, _⟩ => exact h0
    | ⟨1, _⟩ => exact h1)]
  have hi : (i 0).val < 1 := (i 0).isLt
  refine congrArg x (funext fun a => ?_)
  match a with
  | ⟨0, _⟩ => exact Fin.ext (show r + (i 0).val = r by omega)
  | ⟨1, _⟩ => exact Fin.ext (show 0 + (i 1).val = (i 1).val by omega)

/-- One row of a table, replaced. -/
theorem update_row {α : Type} (x : S10000x1152.Idx → α) (u : S1x1152.Idx → α) (start : Fin S10000x1152.rank → Int) (r : ℕ) (hr : r < 10000)
    (h0 : start 0 = (r : Int)) (h1 : start 1 = 0) (h : S10000x1152.Slices (fun _ => 0) S1x1152) (j : S10000x1152.Idx) :
    Host.dynamicUpdateSlice x u start h j = if (j 0).val = r then u (at1 (j 1)) else x j := by
  have hj1 : (j 1).val < 1152 := (j 1).isLt
  unfold Host.dynamicUpdateSlice updateSlice
  have e0 : (min (max (start 0) 0) ((S10000x1152.size 0 - S1x1152.size 0 : ℕ) : Int)).toNat = r := by
    rw [h0]
    show (min (max (r : Int) 0) ((10000 - 1 : ℕ) : Int)).toNat = r
    omega
  have e1 : (min (max (start 1) 0) ((S10000x1152.size 1 - S1x1152.size 1 : ℕ) : Int)).toNat = 0 := by
    rw [h1]
    show (min (max (0 : Int) 0) ((1152 - 1152 : ℕ) : Int)).toNat = 0
    omega
  by_cases hc : (j 0).val = r
  · rw [if_pos hc, dif_pos]
    · refine congrArg u (funext fun b => ?_)
      match b with
      | ⟨0, _⟩ => exact Fin.ext (show (j 0).val - (min (max (start 0) 0) ((S10000x1152.size 0 - S1x1152.size 0 : ℕ) : Int)).toNat = 0 by rw [e0]; omega)
      | ⟨1, _⟩ => exact Fin.ext (show (j 1).val - (min (max (start 1) 0) ((S10000x1152.size 1 - S1x1152.size 1 : ℕ) : Int)).toNat = (j 1).val by rw [e1]; omega)
    · intro a
      match a with
      | ⟨0, _⟩ =>
        show (min (max (start 0) 0) ((S10000x1152.size 0 - S1x1152.size 0 : ℕ) : Int)).toNat ≤ (j 0).val
          ∧ (j 0).val < (min (max (start 0) 0) ((S10000x1152.size 0 - S1x1152.size 0 : ℕ) : Int)).toNat + 1
        rw [e0]; omega
      | ⟨1, _⟩ =>
        show (min (max (start 1) 0) ((S10000x1152.size 1 - S1x1152.size 1 : ℕ) : Int)).toNat ≤ (j 1).val
          ∧ (j 1).val < (min (max (start 1) 0) ((S10000x1152.size 1 - S1x1152.size 1 : ℕ) : Int)).toNat + 1152
        rw [e1]; omega
  · rw [if_neg hc, dif_neg]
    intro hh
    have h := hh 0
    have h' : (min (max (start 0) 0) ((S10000x1152.size 0 - S1x1152.size 0 : ℕ) : Int)).toNat ≤ (j 0).val
          ∧ (j 0).val < (min (max (start 0) 0) ((S10000x1152.size 0 - S1x1152.size 0 : ℕ) : Int)).toNat + 1 := h
    rw [e0] at h'
    omega

/-! ## The stretches of the body -/

/-- A TensorCore array. -/
abbrev D (r : Ref sig .tc) : DevRef τ sig := Proc.devRef .tc r

/-- The next counter. -/
theorem b1_v10 (V : Valuation τ sig (Elt F)) (k : ℕ) (h : V (D main_v6_4) = fun _ => BitVec.ofNat 32 k) :
    after (b1 (F := F)) V (D main_while0b_v20) = fun _ => BitVec.ofNat 32 (k + 1) := by
  unfold b1
  after_results
  rw [h]
  funext j
  show BitVec.ofNat 32 k + 1#32 = _
  rw [BitVec.ofNat_add]

/-- The position, wrapped. -/
theorem b2_v14 (V : Valuation τ sig (Elt F)) (w : BitVec 32) (hw : w.toNat < 2 ^ 31) (h : V (D main_v6_4) = fun _ => w) :
    after (b2 (F := F)) V (D main_while0b_v24) = fun _ => w := by
  unfold b2
  after_results
  exact wrap_word w hw _ _ h

/-- The position, wrapped, before the destination is read. -/
theorem b6_v24 (V : Valuation τ sig (Elt F)) (w : BitVec 32) (hw : w.toNat < 2 ^ 31) (h : V (D main_v6_4) = fun _ => w) :
    after (b6 (F := F)) V (D main_while0b_v34) = fun _ => w := by
  unfold b6
  after_results
  exact wrap_word w hw _ _ h

/-- The position, wrapped, before the destination is read again. -/
theorem b10_v35 (V : Valuation τ sig (Elt F)) (w : BitVec 32) (hw : w.toNat < 2 ^ 31) (h : V (D main_v6_4) = fun _ => w) :
    after (b10 (F := F)) V (D main_while0b_v45) = fun _ => w := by
  unfold b10
  after_results
  exact wrap_word w hw _ _ h

/-- The source word. -/
theorem b3_v16 (V : Valuation τ sig (Elt F)) (k : ℕ) (hk : k < 320000) (h : V (D main_while0b_v24) = fun _ => BitVec.ofNat 32 k) :
    after (b3 (F := F)) V (D main_while0b_v26) = fun _ => (V (D main_v6_0) : S320000.Idx → BitVec 32) (Shape.ofLane ⟨k, hk⟩) := by
  unfold b3
  after_results
  funext i
  exact slice_word _ _ k hk (by
    show BitVec.toInt (V (D main_while0b_v24) _) = _
    rw [h]
    exact toInt_ofNat_of_lt (by omega)) _ _

/-- The destination word. -/
theorem b7_v26 (V : Valuation τ sig (Elt F)) (k : ℕ) (hk : k < 320000) (h : V (D main_while0b_v34) = fun _ => BitVec.ofNat 32 k) :
    after (b7 (F := F)) V (D main_while0b_v36) = fun _ => (V (D main_v6_2) : S320000.Idx → BitVec 32) (Shape.ofLane ⟨k, hk⟩) := by
  unfold b7
  after_results
  funext i
  exact slice_word _ _ k hk (by
    show BitVec.toInt (V (D main_while0b_v34) _) = _
    rw [h]
    exact toInt_ofNat_of_lt (by omega)) _ _

/-- The destination word again. -/
theorem b11_v37 (V : Valuation τ sig (Elt F)) (k : ℕ) (hk : k < 320000) (h : V (D main_while0b_v45) = fun _ => BitVec.ofNat 32 k) :
    after (b11 (F := F)) V (D main_while0b_v47) = fun _ => (V (D main_v6_2) : S320000.Idx → BitVec 32) (Shape.ofLane ⟨k, hk⟩) := by
  unfold b11
  after_results
  funext i
  exact slice_word _ _ k hk (by
    show BitVec.toInt (V (D main_while0b_v45) _) = _
    rw [h]
    exact toInt_ofNat_of_lt (by omega)) _ _

/-- The source word, wrapped, and column zero. -/
theorem b4_v19 (V : Valuation τ sig (Elt F)) (w : BitVec 32) (hw : w.toNat < 2 ^ 31) (h : V (D main_while0b_v26) = fun _ => w) :
    after (b4 (F := F)) V (D main_while0b_v29) = (fun _ => w) ∧ after (b4 (F := F)) V (D main_while0b_c_13) = (fun _ => 0#32) := by
  constructor
  · unfold b4
    after_results
    exact wrap_word w hw _ _ h
  · unfold b4
    after_results
    rfl

/-- The destination word, wrapped, and column zero. -/
theorem b8_v29 (V : Valuation τ sig (Elt F)) (w : BitVec 32) (hw : w.toNat < 2 ^ 31) (h : V (D main_while0b_v36) = fun _ => w) :
    after (b8 (F := F)) V (D main_while0b_v39) = (fun _ => w) ∧ after (b8 (F := F)) V (D main_while0b_c_18) = (fun _ => 0#32) := by
  constructor
  · unfold b8
    after_results
    exact wrap_word w hw _ _ h
  · unfold b8
    after_results
    rfl

/-- The destination word, wrapped again, and column zero. -/
theorem b12_v40 (V : Valuation τ sig (Elt F)) (w : BitVec 32) (hw : w.toNat < 2 ^ 31) (h : V (D main_while0b_v47) = fun _ => w) :
    after (b12 (F := F)) V (D main_while0b_v50) = (fun _ => w) ∧ after (b12 (F := F)) V (D main_while0b_c_23) = (fun _ => 0#32) := by
  constructor
  · unfold b12
    after_results
    exact wrap_word w hw _ _ h
  · unfold b12
    after_results
    rfl

/-- The source row. -/
theorem b5_v20 (V : Valuation τ sig (Elt F)) (w : BitVec 32) (hw : w.toNat < 10000) (h : V (D main_while0b_v29) = fun _ => w)
    (h0 : V (D main_while0b_c_13) = fun _ => 0#32) :
    after (b5 (F := F)) V (D main_while0b_v30) = fun i : S1x1152.Idx => (V (D main_v6_1) : S10000x1152.Idx → F .f32) (at2 w.toNat hw (i 1)) := by
  unfold b5
  after_results
  funext i
  exact slice_row _ _ w.toNat hw (by
    show BitVec.toInt (V (D main_while0b_v29) _) = _
    rw [h]
    exact toInt_small w (by omega)) (by
    show BitVec.toInt (V (D main_while0b_c_13) _) = _
    rw [h0]
    rfl) _ _

/-- The row of the aggregate, its maximum with the source row taken. -/
theorem b9_v31 (V : Valuation τ sig (Elt F)) (w : BitVec 32) (hw : w.toNat < 10000) (h : V (D main_while0b_v39) = fun _ => w)
    (h0 : V (D main_while0b_c_18) = fun _ => 0#32) :
    after (b9 (F := F)) V (D main_while0b_v41) = fun i : S1x1152.Idx =>
      FloatOps.maximumf ((V (D main_v6_5) : S10000x1152.Idx → F .f32) (at2 w.toNat hw (i 1))) ((V (D main_while0b_v30) : S1x1152.Idx → F .f32) i) := by
  unfold b9
  after_results
  funext i
  refine congrArg (fun t => FloatOps.maximumf t ((V (D main_while0b_v30) : S1x1152.Idx → F .f32) i)) ?_
  exact slice_row _ _ w.toNat hw (by
    show BitVec.toInt (V (D main_while0b_v39) _) = _
    rw [h]
    exact toInt_small w (by omega)) (by
    show BitVec.toInt (V (D main_while0b_c_18) _) = _
    rw [h0]
    rfl) _ _

/-- The row put back. -/
theorem b13_v41 (V : Valuation τ sig (Elt F)) (w : BitVec 32) (hw : w.toNat < 10000) (h : V (D main_while0b_v50) = fun _ => w)
    (h0 : V (D main_while0b_c_23) = fun _ => 0#32) :
    after (b13 (F := F)) V (D main_while0b_v51) = fun j : S10000x1152.Idx =>
      if (j 0).val = w.toNat then (V (D main_while0b_v41) : S1x1152.Idx → F .f32) (at1 (j 1)) else (V (D main_v6_5) : S10000x1152.Idx → F .f32) j := by
  unfold b13
  after_results
  funext j
  exact update_row _ _ _ w.toNat hw (by
    show BitVec.toInt (V (D main_while0b_v50) _) = _
    rw [h]
    exact toInt_small w (by omega)) (by
    show BitVec.toInt (V (D main_while0b_c_23) _) = _
    rw [h0]
    rfl) _ _

/-- What the trip hands on. -/
theorem b14_out (V : Valuation τ sig (Elt F)) (k : ℕ) (h : V (D main_v6_3) = fun _ => BitVec.ofNat 32 k) :
    after (b14 (F := F)) V (D main_v6_3) = (fun _ => BitVec.ofNat 32 (k + 1))
      ∧ after (b14 (F := F)) V (D main_v6_4) = V (D main_while0b_v20)
      ∧ after (b14 (F := F)) V (D main_v6_5) = V (D main_while0b_v51) := by
  refine ⟨?_, ?_, ?_⟩
  · unfold b14
    after_results
    rw [h]
    funext j
    show BitVec.ofNat 32 k + 1#32 = _
    rw [BitVec.ofNat_add]
  · unfold b14
    after_results
    rfl
  · unfold b14
    after_results
    rfl

/-! ## The loop -/

/-- A row and a column of the nine arrays side by side, by numbers. -/
def XC (X : S10000x1152.Idx → F .f32) (r c : ℕ) : F .f32 :=
  if h : r < 10000 ∧ c < 1152 then X (at2 r h.1 ⟨c, h.2⟩) else X (at2 0 (by decide) ⟨0, by decide⟩)

/-- The reference's aggregate of node `v`, column `c`, after the first `k` edges. -/
def rag (S T : ℕ → ℕ) (X : ℕ → ℕ → F .f32) : ℕ → ℕ → ℕ → F .f32
  | 0, _, _ => FloatOps.ofBits .f32 0xFF800000#32
  | k + 1, v, c => if T k = v then FloatOps.maximumf (rag S T X k v c) (X (S k) c) else rag S T X k v c

/-- What the loop carries before trip `k`. -/
structure Inv (S T : S320000.Idx → BitVec 32) (X : S10000x1152.Idx → F .f32) (k : ℕ) (V : Valuation τ sig (Elt F)) : Prop where
  src : V (D main_v6_0) = S
  row : V (D main_v6_1) = X
  dst : V (D main_v6_2) = T
  ctr : V (D main_v6_3) = fun _ => BitVec.ofNat 32 k
  pos : V (D main_v6_4) = fun _ => BitVec.ofNat 32 k
  agg : V (D main_v6_5) = fun j : S10000x1152.Idx => rag (wd S) (wd T) (XC X) k (j 0).val (j 1).val

/-- The condition changes nothing the loop carries. -/
theorem Inv.cond {S T : S320000.Idx → BitVec 32} {X : S10000x1152.Idx → F .f32} {k : ℕ} {V : Valuation τ sig (Elt F)} (h : Inv S T X k V) :
    Inv S T X k (after (test (F := F)) V) where
  src := (test_keep V _ (by decide)).trans h.src
  row := (test_keep V _ (by decide)).trans h.row
  dst := (test_keep V _ (by decide)).trans h.dst
  ctr := (test_keep V _ (by decide)).trans h.ctr
  pos := (test_keep V _ (by decide)).trans h.pos
  agg := (test_keep V _ (by decide)).trans h.agg

/-- An edge array's word by its number. -/
theorem wd_at (A : S320000.Idx → BitVec 32) (k : ℕ) (hk : k < 320000) : (A (Shape.ofLane ⟨k, hk⟩)).toNat = wd A k := by
  unfold wd
  rw [dif_pos hk]

/-- A table's entry by its numbers. -/
theorem XC_at (X : S10000x1152.Idx → F .f32) (r : ℕ) (hr : r < 10000) (c : Fin 1152) : X (at2 r hr c) = XC X r c.val := by
  unfold XC
  rw [dif_pos ⟨hr, c.isLt⟩]

/-- Trip `k` of the body. -/
theorem Inv.body {S T : S320000.Idx → BitVec 32} {X : S10000x1152.Idx → F .f32} {k : ℕ} {V : Valuation τ sig (Elt F)} (hk : k < 320000)
    (hS : ∀ j, (S j).toNat < 10000) (hT : ∀ j, (T j).toNat < 10000) (h : Inv S T X k V) :
    Inv S T X (k + 1) (afterL (bodyI (F := F)) V) := by
  have hk31 : (BitVec.ofNat 32 k).toNat < 2 ^ 31 := by rw [BitVec.toNat_ofNat]; omega
  obtain ⟨hsrc, hrow, hdst, hctr, hpos, hagg⟩ := h
  have hs := hS (Shape.ofLane ⟨k, hk⟩)
  have ht := hT (Shape.ofLane ⟨k, hk⟩)
  simp only [afterL_cons, afterL_nil]
  generalize e1 : after (b1 (F := F)) V = V1
  have k1 : ∀ r, r ∉ b1_W → V1 (D r) = V (D r) := fun r hr => e1 ▸ b1_keep V r hr
  have v10 : V1 (D main_while0b_v20) = fun _ => BitVec.ofNat 32 (k + 1) := e1 ▸ b1_v10 V k hpos
  generalize e2 : after (b2 (F := F)) V1 = V2
  have k2 : ∀ r, r ∉ b2_W → V2 (D r) = V1 (D r) := fun r hr => e2 ▸ b2_keep V1 r hr
  have v14 : V2 (D main_while0b_v24) = fun _ => BitVec.ofNat 32 k :=
    e2 ▸ b2_v14 V1 _ hk31 ((k1 _ (by decide)).trans hpos)
  generalize e3 : after (b3 (F := F)) V2 = V3
  have k3 : ∀ r, r ∉ b3_W → V3 (D r) = V2 (D r) := fun r hr => e3 ▸ b3_keep V2 r hr
  have s2 : V2 (D main_v6_0) = S := (k2 _ (by decide)).trans ((k1 _ (by decide)).trans hsrc)
  have v16 : V3 (D main_while0b_v26) = fun _ => S (Shape.ofLane ⟨k, hk⟩) := by
    rw [← e3, b3_v16 V2 k hk v14, s2]
  generalize e4 : after (b4 (F := F)) V3 = V4
  have k4 : ∀ r, r ∉ b4_W → V4 (D r) = V3 (D r) := fun r hr => e4 ▸ b4_keep V3 r hr
  have v19 := b4_v19 V3 _ (by omega : (S (Shape.ofLane ⟨k, hk⟩)).toNat < 2 ^ 31) v16
  rw [e4] at v19
  generalize e5 : after (b5 (F := F)) V4 = V5
  have k5 : ∀ r, r ∉ b5_W → V5 (D r) = V4 (D r) := fun r hr => e5 ▸ b5_keep V4 r hr
  have r4 : V4 (D main_v6_1) = X :=
    (k4 _ (by decide)).trans ((k3 _ (by decide)).trans ((k2 _ (by decide)).trans ((k1 _ (by decide)).trans hrow)))
  have v20 : V5 (D main_while0b_v30) = fun i : S1x1152.Idx => X (at2 (S (Shape.ofLane ⟨k, hk⟩)).toNat hs (i 1)) := by
    rw [← e5, b5_v20 V4 _ hs v19.1 v19.2, r4]
  generalize e6 : after (b6 (F := F)) V5 = V6
  have k6 : ∀ r, r ∉ b6_W → V6 (D r) = V5 (D r) := fun r hr => e6 ▸ b6_keep V5 r hr
  have c5 : ∀ r, r ∉ b1_W → r ∉ b2_W → r ∉ b3_W → r ∉ b4_W → r ∉ b5_W → V5 (D r) = V (D r) := fun r q1 q2 q3 q4 q5 =>
    (k5 r q5).trans ((k4 r q4).trans ((k3 r q3).trans ((k2 r q2).trans (k1 r q1))))
  have v24 : V6 (D main_while0b_v34) = fun _ => BitVec.ofNat 32 k :=
    e6 ▸ b6_v24 V5 _ hk31 ((c5 _ (by decide) (by decide) (by decide) (by decide) (by decide)).trans hpos)
  generalize e7 : after (b7 (F := F)) V6 = V7
  have k7 : ∀ r, r ∉ b7_W → V7 (D r) = V6 (D r) := fun r hr => e7 ▸ b7_keep V6 r hr
  have d6 : V6 (D main_v6_2) = T :=
    (k6 _ (by decide)).trans ((c5 _ (by decide) (by decide) (by decide) (by decide) (by decide)).trans hdst)
  have v26 : V7 (D main_while0b_v36) = fun _ => T (Shape.ofLane ⟨k, hk⟩) := by
    rw [← e7, b7_v26 V6 k hk v24, d6]
  generalize e8 : after (b8 (F := F)) V7 = V8
  have k8 : ∀ r, r ∉ b8_W → V8 (D r) = V7 (D r) := fun r hr => e8 ▸ b8_keep V7 r hr
  have v29 := b8_v29 V7 _ (by omega : (T (Shape.ofLane ⟨k, hk⟩)).toNat < 2 ^ 31) v26
  rw [e8] at v29
  generalize e9 : after (b9 (F := F)) V8 = V9
  have k9 : ∀ r, r ∉ b9_W → V9 (D r) = V8 (D r) := fun r hr => e9 ▸ b9_keep V8 r hr
  have c8 : ∀ r, r ∉ b6_W → r ∉ b7_W → r ∉ b8_W → V8 (D r) = V5 (D r) := fun r q1 q2 q3 =>
    (k8 r q3).trans ((k7 r q2).trans (k6 r q1))
  have a8 : V8 (D main_v6_5) = fun j : S10000x1152.Idx => rag (wd S) (wd T) (XC X) k (j 0).val (j 1).val :=
    (c8 _ (by decide) (by decide) (by decide)).trans ((c5 _ (by decide) (by decide) (by decide) (by decide) (by decide)).trans hagg)
  have x8 := (c8 main_while0b_v30 (by decide) (by decide) (by decide)).trans v20
  have v31 : V9 (D main_while0b_v41) = fun i : S1x1152.Idx =>
      FloatOps.maximumf (rag (wd S) (wd T) (XC X) k (wd T k) (i 1).val) (XC X (wd S k) (i 1).val) := by
    rw [← e9, b9_v31 V8 _ ht v29.1 v29.2, a8, x8]
    funext i
    show FloatOps.maximumf (rag (wd S) (wd T) (XC X) k (T (Shape.ofLane ⟨k, hk⟩)).toNat (i 1).val) (X (at2 (S (Shape.ofLane ⟨k, hk⟩)).toNat hs (i 1))) = _
    rw [XC_at X _ hs (i 1), wd_at S k hk, wd_at T k hk]
  generalize e10 : after (b10 (F := F)) V9 = V10
  have k10 : ∀ r, r ∉ b10_W → V10 (D r) = V9 (D r) := fun r hr => e10 ▸ b10_keep V9 r hr
  have c9 : ∀ r, r ∉ b1_W → r ∉ b2_W → r ∉ b3_W → r ∉ b4_W → r ∉ b5_W → r ∉ b6_W → r ∉ b7_W → r ∉ b8_W → r ∉ b9_W → V9 (D r) = V (D r) :=
    fun r q1 q2 q3 q4 q5 q6 q7 q8 q9 => (k9 r q9).trans ((c8 r q6 q7 q8).trans (c5 r q1 q2 q3 q4 q5))
  have v35 : V10 (D main_while0b_v45) = fun _ => BitVec.ofNat 32 k :=
    e10 ▸ b10_v35 V9 _ hk31 ((c9 _ (by decide) (by decide) (by decide) (by decide) (by decide) (by decide) (by decide) (by decide) (by decide)).trans hpos)
  generalize e11 : after (b11 (F := F)) V10 = V11
  have k11 : ∀ r, r ∉ b11_W → V11 (D r) = V10 (D r) := fun r hr => e11 ▸ b11_keep V10 r hr
  have d10 : V10 (D main_v6_2) = T :=
    (k10 _ (by decide)).trans ((c9 _ (by decide) (by decide) (by decide) (by decide) (by decide) (by decide) (by decide) (by decide) (by decide)).trans hdst)
  have v37 : V11 (D main_while0b_v47) = fun _ => T (Shape.ofLane ⟨k, hk⟩) := by
    rw [← e11, b11_v37 V10 k hk v35, d10]
  generalize e12 : after (b12 (F := F)) V11 = V12
  have k12 : ∀ r, r ∉ b12_W → V12 (D r) = V11 (D r) := fun r hr => e12 ▸ b12_keep V11 r hr
  have v40 := b12_v40 V11 _ (by omega : (T (Shape.ofLane ⟨k, hk⟩)).toNat < 2 ^ 31) v37
  rw [e12] at v40
  generalize e13 : after (b13 (F := F)) V12 = V13
  have k13 : ∀ r, r ∉ b13_W → V13 (D r) = V12 (D r) := fun r hr => e13 ▸ b13_keep V12 r hr
  have c12 : ∀ r, r ∉ b10_W → r ∉ b11_W → r ∉ b12_W → V12 (D r) = V9 (D r) := fun r q1 q2 q3 =>
    (k12 r q3).trans ((k11 r q2).trans (k10 r q1))
  have a12 : V12 (D main_v6_5) = fun j : S10000x1152.Idx => rag (wd S) (wd T) (XC X) k (j 0).val (j 1).val :=
    (c12 _ (by decide) (by decide) (by decide)).trans ((c9 _ (by decide) (by decide) (by decide) (by decide) (by decide) (by decide) (by decide) (by decide) (by decide)).trans hagg)
  have u12 := (c12 main_while0b_v41 (by decide) (by decide) (by decide)).trans v31
  have v41 : V13 (D main_while0b_v51) = fun j : S10000x1152.Idx => rag (wd S) (wd T) (XC X) (k + 1) (j 0).val (j 1).val := by
    rw [← e13, b13_v41 V12 _ ht v40.1 v40.2, a12, u12]
    funext j
    show (if (j 0).val = (T (Shape.ofLane ⟨k, hk⟩)).toNat
      then FloatOps.maximumf (rag (wd S) (wd T) (XC X) k (wd T k) (j 1).val) (XC X (wd S k) (j 1).val)
      else rag (wd S) (wd T) (XC X) k (j 0).val (j 1).val)
      = if wd T k = (j 0).val then FloatOps.maximumf (rag (wd S) (wd T) (XC X) k (j 0).val (j 1).val) (XC X (wd S k) (j 1).val)
        else rag (wd S) (wd T) (XC X) k (j 0).val (j 1).val
    rw [wd_at T k hk]
    by_cases hc : wd T k = (j 0).val
    · rw [if_pos hc.symm, if_pos hc, hc]
    · rw [if_neg (fun h => hc h.symm), if_neg hc]
  have c13 : ∀ r, r ∉ b1_W → r ∉ b2_W → r ∉ b3_W → r ∉ b4_W → r ∉ b5_W → r ∉ b6_W → r ∉ b7_W → r ∉ b8_W → r ∉ b9_W →
      r ∉ b10_W → r ∉ b11_W → r ∉ b12_W → r ∉ b13_W → V13 (D r) = V (D r) :=
    fun r q1 q2 q3 q4 q5 q6 q7 q8 q9 q10 q11 q12 q13 =>
      (k13 r q13).trans ((c12 r q10 q11 q12).trans (c9 r q1 q2 q3 q4 q5 q6 q7 q8 q9))
  have n13 : V13 (D main_while0b_v20) = fun _ => BitVec.ofNat 32 (k + 1) :=
    (k13 _ (by decide)).trans ((c12 _ (by decide) (by decide) (by decide)).trans ((k9 _ (by decide)).trans
      ((c8 _ (by decide) (by decide) (by decide)).trans ((k5 _ (by decide)).trans ((k4 _ (by decide)).trans ((k3 _ (by decide)).trans
        ((k2 _ (by decide)).trans v10)))))))
  have out := b14_out V13 k ((c13 _ (by decide) (by decide) (by decide) (by decide) (by decide) (by decide) (by decide) (by decide) (by decide)
    (by decide) (by decide) (by decide) (by decide)).trans hctr)
  exact {
    src := (b14_keep V13 _ (by decide)).trans ((c13 _ (by decide) (by decide) (by decide) (by decide) (by decide) (by decide) (by decide)
      (by decide) (by decide) (by decide) (by decide) (by decide) (by decide)).trans hsrc)
    row := (b14_keep V13 _ (by decide)).trans ((c13 _ (by decide) (by decide) (by decide) (by decide) (by decide) (by decide) (by decide)
      (by decide) (by decide) (by decide) (by decide) (by decide) (by decide)).trans hrow)
    dst := (b14_keep V13 _ (by decide)).trans ((c13 _ (by decide) (by decide) (by decide) (by decide) (by decide) (by decide) (by decide)
      (by decide) (by decide) (by decide) (by decide) (by decide) (by decide)).trans hdst)
    ctr := out.1
    pos := out.2.1.trans n13
    agg := out.2.2.trans v41 }

/-- The arguments. -/
abbrev argRefs : List (Ref sig .tc) := [main_arg0, main_arg1, main_arg2, main_arg3, main_arg4, main_arg5, main_arg6, main_arg7, main_arg8, main_arg9]

/-- No list of operations writes an argument. -/
theorem arg_not {r : Ref sig .tc} (h : r ∈ argRefs) (W : List (Ref sig .tc)) (hW : ∀ r ∈ argRefs, r ∉ W) : r ∉ W := hW r h

/-- The arguments through one trip. -/
theorem body_args (V : Valuation τ sig (Elt F)) (r : Ref sig .tc) (h : r ∈ argRefs) :
    afterL (bodyI (F := F)) V (D r) = V (D r) := by
  simp only [afterL_cons, afterL_nil]
  rw [b14_keep _ _ (arg_not h b14_W (by decide)), b13_keep _ _ (arg_not h b13_W (by decide)), b12_keep _ _ (arg_not h b12_W (by decide)), b11_keep _ _ (arg_not h b11_W (by decide)), b10_keep _ _ (arg_not h b10_W (by decide)), b9_keep _ _ (arg_not h b9_W (by decide)), b8_keep _ _ (arg_not h b8_W (by decide)), b7_keep _ _ (arg_not h b7_W (by decide)), b6_keep _ _ (arg_not h b6_W (by decide)), b5_keep _ _ (arg_not h b5_W (by decide)), b4_keep _ _ (arg_not h b4_W (by decide)), b3_keep _ _ (arg_not h b3_W (by decide)), b2_keep _ _ (arg_not h b2_W (by decide)), b1_keep _ _ (arg_not h b1_W (by decide))]

/-! ## From the launch to the end -/

variable (m : (ℓ : Loc nD τ sig) → Buf (Elt F) ℓ)

/-- The array an argument or result is, on a device. -/
abbrev loc (c : Dev nD) (r : Ref sig .tc) : Loc nD τ sig := (c.tc : Thread nD τ).loc r

/-- What the operations before the loop leave. -/
def W0 (c : Dev nD) : Valuation τ sig (Elt F) := after (pre (F := F)) (launchContents m c)
/-- The source words. -/
def Sw (c : Dev nD) : S320000.Idx → BitVec 32 := W0 m c (D main_v1)
/-- The destination words. -/
def Tw (c : Dev nD) : S320000.Idx → BitVec 32 := W0 m c (D main_v3)

/-- The nine arrays side by side. -/
def Cw (c : Dev nD) : S10000x1152.Idx → F .f32 := W0 m c (D main_v4)

/-- The edge arrays' words are node numbers. -/
def Ok : Prop := ∀ c, (∀ j, (Sw m c j).toNat < 10000) ∧ ∀ j, (Tw m c j).toNat < 10000

/-- What the loop is entered with. -/
theorem inv0 (c : Dev nD) : Inv (Sw m c) (Tw m c) (Cw m c) 0 (entryContents [pre (F := F)] m c) := by
  show Inv _ _ _ 0 (after (pre (F := F)) (launchContents m c))
  have ea : ∀ V : Valuation τ sig (Elt F), after (pre (F := F)) V (D main_v6_0) = after (pre (F := F)) V (D main_v1)
      ∧ after (pre (F := F)) V (D main_v6_1) = after (pre (F := F)) V (D main_v4) ∧ after (pre (F := F)) V (D main_v6_2) = after (pre (F := F)) V (D main_v3)
      ∧ after (pre (F := F)) V (D main_v6_3) = (fun _ => 0#32) ∧ after (pre (F := F)) V (D main_v6_4) = (fun _ => 0#32)
      ∧ after (pre (F := F)) V (D main_v6_5) = fun _ => FloatOps.ofBits .f32 0xFF800000#32 := fun V => by
    unfold pre
    refine ⟨?_, ?_, ?_, ?_, ?_, ?_⟩ <;> after_results <;> rfl
  obtain ⟨h0, h1, h2, h3, h4, h5⟩ := ea (launchContents m c)
  exact ⟨h0, h1, h2, h3, h4, h5⟩

/-- Every trip. -/
theorem inv (hok : Ok m) (c : Dev nD) (k : ℕ) (hk : k ≤ 320000) :
    Inv (Sw m c) (Tw m c) (Cw m c) k (atTrip (test (F := F)) bodyI (entryContents [pre] m) k c) := by
  induction k with
  | zero => exact inv0 m c
  | succ k ih =>
    rw [atTrip_succ]
    exact (ih (by omega)).cond.body (by omega) (hok c).1 (hok c).2

/-- The arguments, through every trip. -/
theorem args (c : Dev nD) (r : Ref sig .tc) (h : r ∈ argRefs) (k : ℕ) :
    atTrip (test (F := F)) bodyI (entryContents [pre] m) k c (D r) = m (loc c r) := by
  induction k with
  | zero =>
    show after (pre (F := F)) (launchContents m c) (D r) = _
    exact pre_keep _ _ (arg_not h pre_W (by decide))
  | succ k ih =>
    rw [atTrip_succ, body_args _ r h]
    exact (test_keep _ _ (arg_not h test_W (by decide))).trans ih

/-- The counter through one trip, whatever the edge arrays hold. -/
theorem body_ctr (V : Valuation τ sig (Elt F)) (k : ℕ) (h : V (D main_v6_3) = fun _ => BitVec.ofNat 32 k) :
    afterL (bodyI (F := F)) V (D main_v6_3) = fun _ => BitVec.ofNat 32 (k + 1) := by
  simp only [afterL_cons, afterL_nil]
  refine (b14_out _ k ?_).1
  rw [b13_keep _ _ (by decide), b12_keep _ _ (by decide), b11_keep _ _ (by decide), b10_keep _ _ (by decide),
    b9_keep _ _ (by decide), b8_keep _ _ (by decide), b7_keep _ _ (by decide), b6_keep _ _ (by decide), b5_keep _ _ (by decide),
    b4_keep _ _ (by decide), b3_keep _ _ (by decide), b2_keep _ _ (by decide), b1_keep _ _ (by decide)]
  exact h

/-- The counter, through every trip. -/
theorem ctr (c : Dev nD) (k : ℕ) :
    atTrip (test (F := F)) bodyI (entryContents [pre] m) k c (D main_v6_3) = fun _ => BitVec.ofNat 32 k := by
  induction k with
  | zero => exact (inv0 m c).ctr
  | succ k ih =>
    rw [atTrip_succ]
    exact body_ctr _ k ((test_keep _ _ (by decide)).trans ih)

/-- The loop goes on exactly while fewer than `320000` trips are behind it. -/
theorem cond_spec [∀ e, Nonempty (Elt F e)] :
    CondSpec (pcfgs (F := F)) defs₀ loops main_while0_cond (test (F := F)) bodyI (entryContents [pre] m) 320000 := by
  intro k hk c bd
  have hctr := ctr m c k
  generalize atTrip (test (F := F)) bodyI (entryContents [pre] m) k c = V at hctr ⊢
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb] <;> iassumption
  iintro ⟨Hb, Hh⟩
  erw [HostLoop.elt_apply]
  rw [wp_ret]; imodintro
  isplitr
  · ipureintro
    show Iff (IntOp.cmpi .slt (HloOp.result _ V (D main_v6_3) HostLoop.idx0) (HloOp.result _ V (D main_while0c_c_8) HostLoop.idx0) = 1#1) (k < 320000)
    rw [StableHlo.nullary_result_ne _ _ _ _ (by decide), StableHlo.nullary_result, hctr]
    show Iff (BitVec.ofBool ((BitVec.ofNat 32 k).slt 320000#32) = 1#1) (k < 320000)
    have e1 : (BitVec.ofNat 32 k).toInt = k := toInt_ofNat_of_lt (by omega)
    have e2 : (320000#32 : BitVec 32).toInt = 320000 := by decide
    unfold BitVec.slt
    rw [e1, e2]
    by_cases h : k < 320000
    · rw [decide_eq_true (by omega)]
      exact ⟨fun _ => h, fun _ => rfl⟩
    · rw [decide_eq_false (by omega)]
      exact ⟨fun h' => absurd h' (by decide), fun h' => absurd h' h⟩
  isplitl [Hb]; · iexact Hb
  unfold test
  rw [after_cons, after_cons, after_nil]
  iexact Hh

/-- The reference's aggregate of the nine arrays side by side, finished. -/
def RC (S T : S320000.Idx → BitVec 32) (X : S10000x1152.Idx → F .f32) (j : S10000x1152.Idx) : F .f32 :=
  if FloatOps.cmpf .olt (FloatOps.hostAbsf (rag (wd S) (wd T) (XC X) 320000 (j 0).val (j 1).val)) (FloatOps.ofBits .f32 0x7F800000#32) = 1#1
  then rag (wd S) (wd T) (XC X) 320000 (j 0).val (j 1).val else FloatOps.ofBits .f32 0#32

/-- The operations that finish the aggregate. -/
theorem tail_v10 (V : Valuation τ sig (Elt F)) (A : S10000x1152.Idx → F .f32) (h : V (D main_v6_5) = A) :
    after (sel (F := F)) (after (tail (F := F)) V) (D main_v10) = fun j : S10000x1152.Idx =>
      if FloatOps.cmpf .olt (FloatOps.hostAbsf (A j)) (FloatOps.ofBits .f32 0x7F800000#32) = 1#1 then A j else FloatOps.ofBits .f32 0#32 := by
  subst h
  have e1 : after (tail (F := F)) V (D main_v9) = cmpf .olt (Host.absf (V (D main_v6_5) : S10000x1152.Idx → F .f32))
      (broadcastInDim S10000x1152 ![] bcast_S_S10000x1152 (constant S_ .f32 0x7F800000#32)) := by
    unfold tail
    after_results
  have e2 : after (tail (F := F)) V (D main_cst_2) = constant S_ .f32 0#32 := by
    unfold tail
    after_results
  have e3 : after (tail (F := F)) V (D main_v6_5) = V (D main_v6_5) := tail_keep V _ (by decide)
  generalize after (tail (F := F)) V = W at e1 e2 e3 ⊢
  unfold sel
  after_results
  rw [← e3]
  funext j
  show select (W (D main_v9) : S10000x1152.Idx → BitVec 1) (W (D main_v6_5) : S10000x1152.Idx → F .f32)
    (broadcastInDim S10000x1152 ![] bcast_S_S10000x1152 (id (W (D main_cst_2) : S_.Idx → F .f32))) j = _
  rw [e1, e2, e3]
  rfl

/-- The nine results are the finished aggregate's column blocks. -/
theorem cols_out (V : Valuation τ sig (Elt F)) :
after (cols (F := F)) V (D main_v11) = extractStridedSlice S10000x128 ![0, 0] (V (D main_v10)) slices_S10000x1152_S10000x128_0_0
      ∧ after (cols (F := F)) V (D main_v12) = extractStridedSlice S10000x128 ![0, 128] (V (D main_v10)) slices_S10000x1152_S10000x128_0_128
      ∧ after (cols (F := F)) V (D main_v13) = extractStridedSlice S10000x128 ![0, 256] (V (D main_v10)) slices_S10000x1152_S10000x128_0_256
      ∧ after (cols (F := F)) V (D main_v14) = extractStridedSlice S10000x128 ![0, 384] (V (D main_v10)) slices_S10000x1152_S10000x128_0_384
      ∧ after (cols (F := F)) V (D main_v15) = extractStridedSlice S10000x128 ![0, 512] (V (D main_v10)) slices_S10000x1152_S10000x128_0_512
      ∧ after (cols (F := F)) V (D main_v16) = extractStridedSlice S10000x128 ![0, 640] (V (D main_v10)) slices_S10000x1152_S10000x128_0_640
      ∧ after (cols (F := F)) V (D main_v17) = extractStridedSlice S10000x128 ![0, 768] (V (D main_v10)) slices_S10000x1152_S10000x128_0_768
      ∧ after (cols (F := F)) V (D main_v18) = extractStridedSlice S10000x128 ![0, 896] (V (D main_v10)) slices_S10000x1152_S10000x128_0_896
      ∧ after (cols (F := F)) V (D main_v19) = extractStridedSlice S10000x128 ![0, 1024] (V (D main_v10)) slices_S10000x1152_S10000x128_0_1024 := by
  unfold cols
  refine ⟨?_, ?_, ?_, ?_, ?_, ?_, ?_, ?_, ?_⟩ <;> after_results <;> rfl

/-- The last operations write no argument. -/
theorem tail_args (V : Valuation τ sig (Elt F)) (r : Ref sig .tc) (h : r ∈ argRefs) :
    afterL (postI (F := F)) V (D r) = V (D r) := by
  simp only [afterL_cons, afterL_nil]
  rw [cols_keep _ _ (arg_not h cols_W (by decide)), sel_keep _ _ (arg_not h sel_W (by decide)), tail_keep _ _ (arg_not h tail_W (by decide))]

/-- The program has no semaphore. -/
theorem no_sem (s : GSem nD τ sig) : False := by
  obtain ⟨_, s⟩ := s
  cases s with
  | reg s => exact absurd s.isLt (Nat.not_lt_zero _)
  | dma s => exact absurd s.isLt (Nat.not_lt_zero _)

/-- The nine column blocks of the finished aggregate. -/
def Outs (c : Dev nD) (M : (ℓ : Loc nD τ sig) → Buf (Elt F) ℓ) : Prop :=
  M (loc c main_v11) = extractStridedSlice S10000x128 ![0, 0] (RC (Sw m c) (Tw m c) (Cw m c)) slices_S10000x1152_S10000x128_0_0
    ∧ M (loc c main_v12) = extractStridedSlice S10000x128 ![0, 128] (RC (Sw m c) (Tw m c) (Cw m c)) slices_S10000x1152_S10000x128_0_128
    ∧ M (loc c main_v13) = extractStridedSlice S10000x128 ![0, 256] (RC (Sw m c) (Tw m c) (Cw m c)) slices_S10000x1152_S10000x128_0_256
    ∧ M (loc c main_v14) = extractStridedSlice S10000x128 ![0, 384] (RC (Sw m c) (Tw m c) (Cw m c)) slices_S10000x1152_S10000x128_0_384
    ∧ M (loc c main_v15) = extractStridedSlice S10000x128 ![0, 512] (RC (Sw m c) (Tw m c) (Cw m c)) slices_S10000x1152_S10000x128_0_512
    ∧ M (loc c main_v16) = extractStridedSlice S10000x128 ![0, 640] (RC (Sw m c) (Tw m c) (Cw m c)) slices_S10000x1152_S10000x128_0_640
    ∧ M (loc c main_v17) = extractStridedSlice S10000x128 ![0, 768] (RC (Sw m c) (Tw m c) (Cw m c)) slices_S10000x1152_S10000x128_0_768
    ∧ M (loc c main_v18) = extractStridedSlice S10000x128 ![0, 896] (RC (Sw m c) (Tw m c) (Cw m c)) slices_S10000x1152_S10000x128_0_896
    ∧ M (loc c main_v19) = extractStridedSlice S10000x128 ![0, 1024] (RC (Sw m c) (Tw m c) (Cw m c)) slices_S10000x1152_S10000x128_0_1024

/-- The reference's run: the results where the words are node numbers, the arguments as they were, every counter at zero. -/
theorem run_ref [∀ e, Nonempty (Elt F e)] (ρ : Dev nD → PrngReg) :
    θ_run (Cert.ReferenceIdeal.defs (F := F)) (onTc (τ := τ) (Cert.ReferenceIdeal.main (F := F))) ⟨m, fun _ => 0, ρ⟩
      (fun r => (∀ c, (Ok m → Outs m c r.2.mem)
        ∧ r.2.mem (loc c main_arg0) = m (loc c main_arg0)
        ∧ r.2.mem (loc c main_arg1) = m (loc c main_arg1)
        ∧ r.2.mem (loc c main_arg2) = m (loc c main_arg2)
        ∧ r.2.mem (loc c main_arg3) = m (loc c main_arg3)
        ∧ r.2.mem (loc c main_arg4) = m (loc c main_arg4)
        ∧ r.2.mem (loc c main_arg5) = m (loc c main_arg5)
        ∧ r.2.mem (loc c main_arg6) = m (loc c main_arg6)
        ∧ r.2.mem (loc c main_arg7) = m (loc c main_arg7)
        ∧ r.2.mem (loc c main_arg8) = m (loc c main_arg8)
        ∧ r.2.mem (loc c main_arg9) = m (loc c main_arg9)) ∧ r.2.sem = fun _ => 0) := by
  refine (θ_run (Cert.ReferenceIdeal.defs (F := F)) _ _).mono (fun r h => ⟨fun c => ⟨?_, ?_, ?_, ?_, ?_, ?_, ?_, ?_, ?_, ?_, ?_⟩, funext fun s => (no_sem s).elim⟩)
    (run_loop (pcfgs (F := F)) defs₀ loops (Cert.ReferenceIdeal.main (F := F)) 0 main_while0_cond main_while0_body rfl [pre] bodyI postI test
      pre_plain body_plain post_plain main_eq body_eq 320000 m ρ (cond_spec m))
  · intro hok
    have hv := tail_v10 _ _ (inv m hok c 320000 le_rfl).cond.agg
    have ho := cols_out (after (sel (F := F)) (after (tail (F := F)) (after (test (F := F)) (atTrip (test (F := F)) bodyI (entryContents [pre] m) 320000 c))))
    rw [hv] at ho
    obtain ⟨o0, o1, o2, o3, o4, o5, o6, o7, o8⟩ := ho
    exact ⟨(h c main_v11 rfl).trans o0, (h c main_v12 rfl).trans o1, (h c main_v13 rfl).trans o2, (h c main_v14 rfl).trans o3, (h c main_v15 rfl).trans o4, (h c main_v16 rfl).trans o5, (h c main_v17 rfl).trans o6, (h c main_v18 rfl).trans o7, (h c main_v19 rfl).trans o8⟩
  all_goals exact (h c _ rfl).trans ((tail_args _ _ (by decide)).trans ((test_keep _ _ (by decide)).trans (args m c _ (by decide) _)))

/-! ## Column blocks -/

/-- The reference's result for one array. -/
def RV (S T : S320000.Idx → BitVec 32) (X : S10000x128.Idx → F .f32) (j : S10000x128.Idx) : F .f32 :=
  if FloatOps.cmpf .olt (FloatOps.hostAbsf (rag (wd S) (wd T) (XF X) 320000 (j 0).val (j 1).val)) (FloatOps.ofBits .f32 0x7F800000#32) = 1#1
  then rag (wd S) (wd T) (XF X) 320000 (j 0).val (j 1).val else FloatOps.ofBits .f32 0#32

/-- The aggregate of two tables that agree, a column against a column, at node numbers. -/
theorem rag_congr (S T : ℕ → ℕ) (X Y : ℕ → ℕ → F .f32) (a b : ℕ) (hS : ∀ e, e < 320000 → S e < 10000)
    (hXY : ∀ r, r < 10000 → X r a = Y r b) (v k : ℕ) (hk : k ≤ 320000) : rag S T X k v a = rag S T Y k v b := by
  induction k with
  | zero => rfl
  | succ k ih =>
    show (if T k = v then FloatOps.maximumf (rag S T X k v a) (X (S k) a) else rag S T X k v a)
      = if T k = v then FloatOps.maximumf (rag S T Y k v b) (Y (S k) b) else rag S T Y k v b
    rw [ih (by omega), hXY (S k) (hS k (by omega))]

/-- A column block of the finished aggregate is the array's own result. -/
theorem block_eq (S T : S320000.Idx → BitVec 32) (C : S10000x1152.Idx → F .f32) (X : S10000x128.Idx → F .f32) (o : ℕ) (ho : o + 128 ≤ 1152)
    (h : S10000x1152.Slices ![0, o] S10000x128) (hS : ∀ j, (S j).toNat < 10000)
    (hC : ∀ r c (hr : r < 10000) (hc : c < 128), C (at2 r hr ⟨o + c, by omega⟩) = X (Cert.Proof.Fold.ix2 (N := ![10000, 128]) r c hr hc)) :
    extractStridedSlice S10000x128 ![0, o] (RC S T C) h = RV S T X := by
  funext j
  have h0 : (j 0).val < 10000 := (j 0).isLt
  have h1 : (j 1).val < 128 := (j 1).isLt
  have hw : ∀ e, e < 320000 → wd S e < 10000 := fun e he => by
    unfold wd
    rw [dif_pos he]; exact hS _
  have e : rag (wd S) (wd T) (XC C) 320000 (0 + (j 0).val) (o + (j 1).val) = rag (wd S) (wd T) (XF X) 320000 (j 0).val (j 1).val := by
    rw [Nat.zero_add]
    refine rag_congr _ _ _ _ _ _ hw (fun r hr => ?_) _ _ le_rfl
    unfold XC XF
    rw [dif_pos ⟨hr, by omega⟩, dif_pos ⟨hr, h1⟩]
    exact hC r _ hr h1
  show (if FloatOps.cmpf .olt (FloatOps.hostAbsf (rag (wd S) (wd T) (XC C) 320000 (0 + (j 0).val) (o + (j 1).val))) (FloatOps.ofBits .f32 0x7F800000#32) = 1#1
    then rag (wd S) (wd T) (XC C) 320000 (0 + (j 0).val) (o + (j 1).val) else FloatOps.ofBits .f32 0#32) = _
  rw [e]
  rfl

/-- Columns 0 and on of nine arrays side by side are the first's. -/
theorem piece0 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨0 + c, by omega⟩) = x0 (Cert.Proof.Fold.ix2 (N := ![10000, 128]) r c hr hc) := by
  rw [concatenate_apply]
  rw [concatenateAt_cons, dif_pos (by show 0 + c < 128; omega)]
  rw [Shape.Idx.norm_def]
  refine congrArg x0 (funext fun a => ?_)
  match a with
  | ⟨0, _⟩ => rfl
  | ⟨1, _⟩ => exact Fin.ext (show 0 + c = c by omega)

/-- Columns 128 and on of nine arrays side by side are the second's. -/
theorem piece1 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨128 + c, by omega⟩) = x1 (Cert.Proof.Fold.ix2 (N := ![10000, 128]) r c hr hc) := by
  rw [concatenate_apply]
  rw [concatenateAt_cons, dif_neg (by show ¬ 128 + c < 128; omega)]
  rw [concatenateAt_cons, dif_pos (by show 128 + c - 128 < 128; omega)]
  rw [Shape.Idx.norm_def]
  refine congrArg x1 (funext fun a => ?_)
  match a with
  | ⟨0, _⟩ => rfl
  | ⟨1, _⟩ => exact Fin.ext (show 128 + c - 128 = c by omega)

/-- Columns 256 and on of nine arrays side by side are the third's. -/
theorem piece2 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨256 + c, by omega⟩) = x2 (Cert.Proof.Fold.ix2 (N := ![10000, 128]) r c hr hc) := by
  rw [concatenate_apply]
  rw [concatenateAt_cons, dif_neg (by show ¬ 256 + c < 128; omega)]
  rw [concatenateAt_cons, dif_neg (by show ¬ 256 + c - 128 < 128; omega)]
  rw [concatenateAt_cons, dif_pos (by show 256 + c - 128 - 128 < 128; omega)]
  rw [Shape.Idx.norm_def]
  refine congrArg x2 (funext fun a => ?_)
  match a with
  | ⟨0, _⟩ => rfl
  | ⟨1, _⟩ => exact Fin.ext (show 256 + c - 128 - 128 = c by omega)

/-- Columns 384 and on of nine arrays side by side are the fourth's. -/
theorem piece3 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨384 + c, by omega⟩) = x3 (Cert.Proof.Fold.ix2 (N := ![10000, 128]) r c hr hc) := by
  rw [concatenate_apply]
  rw [concatenateAt_cons, dif_neg (by show ¬ 384 + c < 128; omega)]
  rw [concatenateAt_cons, dif_neg (by show ¬ 384 + c - 128 < 128; omega)]
  rw [concatenateAt_cons, dif_neg (by show ¬ 384 + c - 128 - 128 < 128; omega)]
  rw [concatenateAt_cons, dif_pos (by show 384 + c - 128 - 128 - 128 < 128; omega)]
  rw [Shape.Idx.norm_def]
  refine congrArg x3 (funext fun a => ?_)
  match a with
  | ⟨0, _⟩ => rfl
  | ⟨1, _⟩ => exact Fin.ext (show 384 + c - 128 - 128 - 128 = c by omega)

/-- Columns 512 and on of nine arrays side by side are the fifth's. -/
theorem piece4 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨512 + c, by omega⟩) = x4 (Cert.Proof.Fold.ix2 (N := ![10000, 128]) r c hr hc) := by
  rw [concatenate_apply]
  rw [concatenateAt_cons, dif_neg (by show ¬ 512 + c < 128; omega)]
  rw [concatenateAt_cons, dif_neg (by show ¬ 512 + c - 128 < 128; omega)]
  rw [concatenateAt_cons, dif_neg (by show ¬ 512 + c - 128 - 128 < 128; omega)]
  rw [concatenateAt_cons, dif_neg (by show ¬ 512 + c - 128 - 128 - 128 < 128; omega)]
  rw [concatenateAt_cons, dif_pos (by show 512 + c - 128 - 128 - 128 - 128 < 128; omega)]
  rw [Shape.Idx.norm_def]
  refine congrArg x4 (funext fun a => ?_)
  match a with
  | ⟨0, _⟩ => rfl
  | ⟨1, _⟩ => exact Fin.ext (show 512 + c - 128 - 128 - 128 - 128 = c by omega)

/-- Columns 640 and on of nine arrays side by side are the sixth's. -/
theorem piece5 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨640 + c, by omega⟩) = x5 (Cert.Proof.Fold.ix2 (N := ![10000, 128]) r c hr hc) := by
  rw [concatenate_apply]
  rw [concatenateAt_cons, dif_neg (by show ¬ 640 + c < 128; omega)]
  rw [concatenateAt_cons, dif_neg (by show ¬ 640 + c - 128 < 128; omega)]
  rw [concatenateAt_cons, dif_neg (by show ¬ 640 + c - 128 - 128 < 128; omega)]
  rw [concatenateAt_cons, dif_neg (by show ¬ 640 + c - 128 - 128 - 128 < 128; omega)]
  rw [concatenateAt_cons, dif_neg (by show ¬ 640 + c - 128 - 128 - 128 - 128 < 128; omega)]
  rw [concatenateAt_cons, dif_pos (by show 640 + c - 128 - 128 - 128 - 128 - 128 < 128; omega)]
  rw [Shape.Idx.norm_def]
  refine congrArg x5 (funext fun a => ?_)
  match a with
  | ⟨0, _⟩ => rfl
  | ⟨1, _⟩ => exact Fin.ext (show 640 + c - 128 - 128 - 128 - 128 - 128 = c by omega)

/-- Columns 768 and on of nine arrays side by side are the seventh's. -/
theorem piece6 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨768 + c, by omega⟩) = x6 (Cert.Proof.Fold.ix2 (N := ![10000, 128]) r c hr hc) := by
  rw [concatenate_apply]
  rw [concatenateAt_cons, dif_neg (by show ¬ 768 + c < 128; omega)]
  rw [concatenateAt_cons, dif_neg (by show ¬ 768 + c - 128 < 128; omega)]
  rw [concatenateAt_cons, dif_neg (by show ¬ 768 + c - 128 - 128 < 128; omega)]
  rw [concatenateAt_cons, dif_neg (by show ¬ 768 + c - 128 - 128 - 128 < 128; omega)]
  rw [concatenateAt_cons, dif_neg (by show ¬ 768 + c - 128 - 128 - 128 - 128 < 128; omega)]
  rw [concatenateAt_cons, dif_neg (by show ¬ 768 + c - 128 - 128 - 128 - 128 - 128 < 128; omega)]
  rw [concatenateAt_cons, dif_pos (by show 768 + c - 128 - 128 - 128 - 128 - 128 - 128 < 128; omega)]
  rw [Shape.Idx.norm_def]
  refine congrArg x6 (funext fun a => ?_)
  match a with
  | ⟨0, _⟩ => rfl
  | ⟨1, _⟩ => exact Fin.ext (show 768 + c - 128 - 128 - 128 - 128 - 128 - 128 = c by omega)

/-- Columns 896 and on of nine arrays side by side are the eighth's. -/
theorem piece7 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨896 + c, by omega⟩) = x7 (Cert.Proof.Fold.ix2 (N := ![10000, 128]) r c hr hc) := by
  rw [concatenate_apply]
  rw [concatenateAt_cons, dif_neg (by show ¬ 896 + c < 128; omega)]
  rw [concatenateAt_cons, dif_neg (by show ¬ 896 + c - 128 < 128; omega)]
  rw [concatenateAt_cons, dif_neg (by show ¬ 896 + c - 128 - 128 < 128; omega)]
  rw [concatenateAt_cons, dif_neg (by show ¬ 896 + c - 128 - 128 - 128 < 128; omega)]
  rw [concatenateAt_cons, dif_neg (by show ¬ 896 + c - 128 - 128 - 128 - 128 < 128; omega)]
  rw [concatenateAt_cons, dif_neg (by show ¬ 896 + c - 128 - 128 - 128 - 128 - 128 < 128; omega)]
  rw [concatenateAt_cons, dif_neg (by show ¬ 896 + c - 128 - 128 - 128 - 128 - 128 - 128 < 128; omega)]
  rw [concatenateAt_cons, dif_pos (by show 896 + c - 128 - 128 - 128 - 128 - 128 - 128 - 128 < 128; omega)]
  rw [Shape.Idx.norm_def]
  refine congrArg x7 (funext fun a => ?_)
  match a with
  | ⟨0, _⟩ => rfl
  | ⟨1, _⟩ => exact Fin.ext (show 896 + c - 128 - 128 - 128 - 128 - 128 - 128 - 128 = c by omega)

/-- Columns 1024 and on of nine arrays side by side are the ninth's. -/
theorem piece8 (x0 x1 x2 x3 x4 x5 x6 x7 x8 : S10000x128.Idx → F .f32) (h : Shape.Concatenates (([⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] : List ((s : Shape) × (s.Idx → F .f32))).map (·.1)) S10000x1152 1)
    (r c : ℕ) (hr : r < 10000) (hc : c < 128) :
    concatenate S10000x1152 1 [⟨S10000x128, x0⟩, ⟨S10000x128, x1⟩, ⟨S10000x128, x2⟩, ⟨S10000x128, x3⟩, ⟨S10000x128, x4⟩, ⟨S10000x128, x5⟩, ⟨S10000x128, x6⟩, ⟨S10000x128, x7⟩, ⟨S10000x128, x8⟩] h (at2 r hr ⟨1024 + c, by omega⟩) = x8 (Cert.Proof.Fold.ix2 (N := ![10000, 128]) r c hr hc) := by
  rw [concatenate_apply]
  rw [concatenateAt_cons, dif_neg (by show ¬ 1024 + c < 128; omega)]
  rw [concatenateAt_cons, dif_neg (by show ¬ 1024 + c - 128 < 128; omega)]
  rw [concatenateAt_cons, dif_neg (by show ¬ 1024 + c - 128 - 128 < 128; omega)]
  rw [concatenateAt_cons, dif_neg (by show ¬ 1024 + c - 128 - 128 - 128 < 128; omega)]
  rw [concatenateAt_cons, dif_neg (by show ¬ 1024 + c - 128 - 128 - 128 - 128 < 128; omega)]
  rw [concatenateAt_cons, dif_neg (by show ¬ 1024 + c - 128 - 128 - 128 - 128 - 128 < 128; omega)]
  rw [concatenateAt_cons, dif_neg (by show ¬ 1024 + c - 128 - 128 - 128 - 128 - 128 - 128 < 128; omega)]
  rw [concatenateAt_cons, dif_neg (by show ¬ 1024 + c - 128 - 128 - 128 - 128 - 128 - 128 - 128 < 128; omega)]
  rw [concatenateAt_singleton]
  rw [Shape.Idx.norm_def]
  refine congrArg x8 (funext fun a => ?_)
  match a with
  | ⟨0, _⟩ => rfl
  | ⟨1, _⟩ => exact Fin.ext (show 1024 + c - 128 - 128 - 128 - 128 - 128 - 128 - 128 - 128 = c by omega)

/-- The nine arrays side by side are the arguments side by side. -/
theorem Cw_eq (c : Dev nD) : ∃ h, Cw m c = concatenate S10000x1152 1 [⟨S10000x128, (m (loc c main_arg0) : S10000x128.Idx → F .f32)⟩, ⟨S10000x128, (m (loc c main_arg1) : S10000x128.Idx → F .f32)⟩, ⟨S10000x128, (m (loc c main_arg2) : S10000x128.Idx → F .f32)⟩, ⟨S10000x128, (m (loc c main_arg3) : S10000x128.Idx → F .f32)⟩, ⟨S10000x128, (m (loc c main_arg4) : S10000x128.Idx → F .f32)⟩, ⟨S10000x128, (m (loc c main_arg5) : S10000x128.Idx → F .f32)⟩, ⟨S10000x128, (m (loc c main_arg6) : S10000x128.Idx → F .f32)⟩, ⟨S10000x128, (m (loc c main_arg7) : S10000x128.Idx → F .f32)⟩, ⟨S10000x128, (m (loc c main_arg8) : S10000x128.Idx → F .f32)⟩] h := by
  refine ⟨?_, ?_⟩
  rotate_left
  · unfold Cw W0 pre
    after_results
    rfl

/-- The reference's nine results, each the one of its own array. -/
theorem outs (c : Dev nD) (hok : Ok m) (M : (ℓ : Loc nD τ sig) → Buf (Elt F) ℓ) (ho : Outs m c M) :
    M (loc c main_v11) = RV (Sw m c) (Tw m c) (m (loc c main_arg0))
      ∧ M (loc c main_v12) = RV (Sw m c) (Tw m c) (m (loc c main_arg1))
      ∧ M (loc c main_v13) = RV (Sw m c) (Tw m c) (m (loc c main_arg2))
      ∧ M (loc c main_v14) = RV (Sw m c) (Tw m c) (m (loc c main_arg3))
      ∧ M (loc c main_v15) = RV (Sw m c) (Tw m c) (m (loc c main_arg4))
      ∧ M (loc c main_v16) = RV (Sw m c) (Tw m c) (m (loc c main_arg5))
      ∧ M (loc c main_v17) = RV (Sw m c) (Tw m c) (m (loc c main_arg6))
      ∧ M (loc c main_v18) = RV (Sw m c) (Tw m c) (m (loc c main_arg7))
      ∧ M (loc c main_v19) = RV (Sw m c) (Tw m c) (m (loc c main_arg8)) := by
  obtain ⟨h, e⟩ := Cw_eq m c
  obtain ⟨o0, o1, o2, o3, o4, o5, o6, o7, o8⟩ := ho
  refine ⟨o0.trans (block_eq _ _ _ _ 0 (by decide) _ (hok c).1 fun r i hr hi => ?_), o1.trans (block_eq _ _ _ _ 128 (by decide) _ (hok c).1 fun r i hr hi => ?_), o2.trans (block_eq _ _ _ _ 256 (by decide) _ (hok c).1 fun r i hr hi => ?_), o3.trans (block_eq _ _ _ _ 384 (by decide) _ (hok c).1 fun r i hr hi => ?_), o4.trans (block_eq _ _ _ _ 512 (by decide) _ (hok c).1 fun r i hr hi => ?_), o5.trans (block_eq _ _ _ _ 640 (by decide) _ (hok c).1 fun r i hr hi => ?_), o6.trans (block_eq _ _ _ _ 768 (by decide) _ (hok c).1 fun r i hr hi => ?_), o7.trans (block_eq _ _ _ _ 896 (by decide) _ (hok c).1 fun r i hr hi => ?_), o8.trans (block_eq _ _ _ _ 1024 (by decide) _ (hok c).1 fun r i hr hi => ?_)⟩ <;> rw [e]
  · exact piece0 _ _ _ _ _ _ _ _ _ h r i hr hi
  · exact piece1 _ _ _ _ _ _ _ _ _ h r i hr hi
  · exact piece2 _ _ _ _ _ _ _ _ _ h r i hr hi
  · exact piece3 _ _ _ _ _ _ _ _ _ h r i hr hi
  · exact piece4 _ _ _ _ _ _ _ _ _ h r i hr hi
  · exact piece5 _ _ _ _ _ _ _ _ _ h r i hr hi
  · exact piece6 _ _ _ _ _ _ _ _ _ h r i hr hi
  · exact piece7 _ _ _ _ _ _ _ _ _ h r i hr hi
  · exact piece8 _ _ _ _ _ _ _ _ _ h r i hr hi

end Cert.Proof.RefRun

end
-- ==== Proof.Inputs.lean ====
/-
  What the preconditions say of the arguments, and the edge arrays' words as words of the last argument.
-/
module

public import Idealize.ShloMosaic.Lib.ReduceAll
public import proofs.«01_k».proof.Pre_edges_in_range
public import proofs.«01_k».proof.Proof.Gen.Pre_edges_in_range_and_finite
public import proofs.«01_k».proof.Proof.Launch
public import proofs.«01_k».proof.Proof.RefRun

@[expose] public section

noncomputable section

namespace Cert.Proof.Inputs

open Idealize.ShloMosaic Idealize.ShloMosaic.StableHlo
open Cert.KernelIdeal (S10000x128 S2x320000 S1x320000 S320000)

/-! ## The preconditions -/

/-- The side conditions of the range's predicate. -/
instance rangeFacts : Cert.Pre_edges_in_range.Facts where
  bcast_S_S2x320000 := by decide
  reducesTo_S2x320000_S_d0_1 := by decide
  h_S_ := by decide

instance : Subsingleton Cert.Pre_edges_in_range.S_.Idx := ⟨fun _ _ => funext fun a => a.elim0⟩

/-- The conjunction of two truth words. -/
theorem andi_split (p q : BitVec 1) (h : IntOp.andi p q = 1#1) : p = 1#1 ∧ q = 1#1 := by
  revert p q; decide

/-- A word between zero and ten thousand, by the comparison's words. -/
theorem word_range (v : BitVec 32) (e : IntOp.andi (IntOp.cmpi .sge v 0#32) (IntOp.cmpi .slt v 10000#32) = 1#1) : v.toNat < 10000 := by
  obtain ⟨h1, h2⟩ := andi_split _ _ e
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond,
    BitVec.toNat_ofNat, Nat.reducePow, Nat.reduceMod] at h1 h2
  omega

variable {F : FTy → Type} [FloatOps F]

/-- Where the range's predicate holds, every word of the last argument is a node number. -/
theorem range_of (A0 A1 A2 A3 A4 A5 A6 A7 A8 : FVec F S10000x128 .f32) (A : IVec S2x320000 32)
    (h : Cert.Pre_edges_in_range.fn A0 A1 A2 A3 A4 A5 A6 A7 A8 A = fun _ => 1#1) (i : S2x320000.Idx) : (A i).toNat < 10000 := by
  have h := congrFun h (fun a => a.elim0)
  dsimp only [Cert.Pre_edges_in_range.fn] at h
  exact word_range _ (Host.reduce_andi_all _ _ _ _ _ h i)

/-- A magnitude below infinity. -/
def Below (v : F .f32) : Prop := FloatOps.cmpf .olt (FloatOps.hostAbsf v) (FloatOps.ofBits .f32 0x7F800000#32) = 1#1

/-- Where the second predicate holds, the first does, and every entry of the nine arrays side by side is below infinity. -/
theorem both_cat (A0 A1 A2 A3 A4 A5 A6 A7 A8 : FVec F S10000x128 .f32) (A : IVec S2x320000 32)
    (h : Cert.Pre_edges_in_range_and_finite.fn A0 A1 A2 A3 A4 A5 A6 A7 A8 A = fun _ => 1#1) :
    (∀ i, (A i).toNat < 10000) ∧ ∃ hc, ∀ i, Below (F := F) (concatenate Cert.ReferenceIdeal.S10000x1152 1 [⟨S10000x128, A0⟩, ⟨S10000x128, A1⟩, ⟨S10000x128, A2⟩, ⟨S10000x128, A3⟩, ⟨S10000x128, A4⟩, ⟨S10000x128, A5⟩, ⟨S10000x128, A6⟩, ⟨S10000x128, A7⟩, ⟨S10000x128, A8⟩] hc i) := by
  have h := congrFun h (fun a => a.elim0)
  dsimp only [Cert.Pre_edges_in_range_and_finite.fn] at h
  obtain ⟨h1, h2⟩ := andi_split _ _ h
  exact ⟨fun i => word_range _ (Host.reduce_andi_all _ _ _ _ _ h2 i), _, fun i => Host.reduce_andi_all _ _ _ _ _ h1 i⟩

/-- An index by its numbers. -/
theorem ix2_eta (i : S10000x128.Idx) : Cert.Proof.Fold.ix2 (N := ![10000, 128]) (i 0).val (i 1).val (i 0).isLt (i 1).isLt = i :=
  funext fun a => by match a with | ⟨0, _⟩ => rfl | ⟨1, _⟩ => rfl

/-- Where the second predicate holds, the first does, and every entry of every array is below infinity. -/
theorem both_of (A0 A1 A2 A3 A4 A5 A6 A7 A8 : FVec F S10000x128 .f32) (A : IVec S2x320000 32)
    (h : Cert.Pre_edges_in_range_and_finite.fn A0 A1 A2 A3 A4 A5 A6 A7 A8 A = fun _ => 1#1) :
    (∀ i, (A i).toNat < 10000)
      ∧ (∀ i, Below (F := F) (A0 i)) ∧ (∀ i, Below (F := F) (A1 i)) ∧ (∀ i, Below (F := F) (A2 i)) ∧ (∀ i, Below (F := F) (A3 i)) ∧ (∀ i, Below (F := F) (A4 i)) ∧ (∀ i, Below (F := F) (A5 i)) ∧ (∀ i, Below (F := F) (A6 i)) ∧ (∀ i, Below (F := F) (A7 i)) ∧ (∀ i, Below (F := F) (A8 i)) := by
  obtain ⟨hr, hc, hb⟩ := both_cat _ _ _ _ _ _ _ _ _ _ h
  refine ⟨hr, fun i => ?_, fun i => ?_, fun i => ?_, fun i => ?_, fun i => ?_, fun i => ?_, fun i => ?_, fun i => ?_, fun i => ?_⟩
  · have e := Cert.Proof.RefRun.piece0 A0 A1 A2 A3 A4 A5 A6 A7 A8 hc (i 0).val (i 1).val (i 0).isLt (i 1).isLt
    rw [ix2_eta] at e
    exact e ▸ hb _
  · have e := Cert.Proof.RefRun.piece1 A0 A1 A2 A3 A4 A5 A6 A7 A8 hc (i 0).val (i 1).val (i 0).isLt (i 1).isLt
    rw [ix2_eta] at e
    exact e ▸ hb _
  · have e := Cert.Proof.RefRun.piece2 A0 A1 A2 A3 A4 A5 A6 A7 A8 hc (i 0).val (i 1).val (i 0).isLt (i 1).isLt
    rw [ix2_eta] at e
    exact e ▸ hb _
  · have e := Cert.Proof.RefRun.piece3 A0 A1 A2 A3 A4 A5 A6 A7 A8 hc (i 0).val (i 1).val (i 0).isLt (i 1).isLt
    rw [ix2_eta] at e
    exact e ▸ hb _
  · have e := Cert.Proof.RefRun.piece4 A0 A1 A2 A3 A4 A5 A6 A7 A8 hc (i 0).val (i 1).val (i 0).isLt (i 1).isLt
    rw [ix2_eta] at e
    exact e ▸ hb _
  · have e := Cert.Proof.RefRun.piece5 A0 A1 A2 A3 A4 A5 A6 A7 A8 hc (i 0).val (i 1).val (i 0).isLt (i 1).isLt
    rw [ix2_eta] at e
    exact e ▸ hb _
  · have e := Cert.Proof.RefRun.piece6 A0 A1 A2 A3 A4 A5 A6 A7 A8 hc (i 0).val (i 1).val (i 0).isLt (i 1).isLt
    rw [ix2_eta] at e
    exact e ▸ hb _
  · have e := Cert.Proof.RefRun.piece7 A0 A1 A2 A3 A4 A5 A6 A7 A8 hc (i 0).val (i 1).val (i 0).isLt (i 1).isLt
    rw [ix2_eta] at e
    exact e ▸ hb _
  · have e := Cert.Proof.RefRun.piece8 A0 A1 A2 A3 A4 A5 A6 A7 A8 hc (i 0).val (i 1).val (i 0).isLt (i 1).isLt
    rw [ix2_eta] at e
    exact e ▸ hb _

/-- Over the extended reals the rows are below infinity there. -/
theorem lt_top_of (v : Ideal .f32) (h : Below v) : v < (⊤ : EReal) := by
  unfold Below at h
  have h2 : (FloatOps.ofBits .f32 0x7F800000#32 : Ideal .f32) = (⊤ : EReal) := by
    simp [Ideal.ofBits_def, Ideal.ofBits, Ideal.ieee]
  rw [h2] at h
  have h3 : (BitVec.ofBool (decide (max (v : EReal) (-v) < ⊤)) : BitVec 1) = 1#1 := h
  by_cases h4 : max (v : EReal) (-v) < ⊤
  · exact lt_of_le_of_lt (le_max_left _ _) h4
  · rw [decide_eq_false h4] at h3; exact absurd h3 (by decide)

/-! ## The edge arrays -/

/-- Row `r` of the last argument, as an array of one axis. -/
def row (r : ℕ) (h : S2x320000.Slices ![r, 0] S1x320000) (A1 : IVec S2x320000 32) : S320000.Idx → BitVec 32 :=
  shapeCast S320000 (extractStridedSlice S1x320000 ![r, 0] A1 h) Cert.KernelIdeal.Gen.shapeCasts_S1x320000_S320000

/-- Its words are words of the argument. -/
theorem row_lt (r : ℕ) (h : S2x320000.Slices ![r, 0] S1x320000) (A1 : IVec S2x320000 32) (hA : ∀ i, (A1 i).toNat < 10000) (j : S320000.Idx) :
    (row r h A1 j).toNat < 10000 := hA _

section
variable [Named F] (m : (ℓ : Loc Cert.KernelIdeal.nD Cert.KernelIdeal.τ Cert.KernelIdeal.sig) → Buf (Elt F) ℓ)

open Cert.Proof.Launch Cert.Proof.Setup

/-- The kernel's source words are the argument's first row. -/
theorem As_row (d : Dev Cert.KernelIdeal.nD) : As m d = row 0 Cert.KernelIdeal.Gen.slices_S2x320000_S1x320000_0_0 (m (eL d)) := by
  show after [StableHlo.unary Cert.KernelIdeal.main_arg9 Cert.KernelIdeal.main_v0 ((extractStridedSlice S1x320000 ![0, 0] · Cert.KernelIdeal.Gen.slices_S2x320000_S1x320000_0_0) : (⟨S2x320000, .i32⟩ : BufTy).Contents (Elt F) → (⟨S1x320000, .i32⟩ : BufTy).Contents (Elt F)),
    StableHlo.reshape Cert.KernelIdeal.main_v0 Cert.KernelIdeal.main_v1 (rfl : (.i32 : EltTy) = .i32) Cert.KernelIdeal.Gen.shapeCasts_S1x320000_S320000,
    StableHlo.unary Cert.KernelIdeal.main_arg9 Cert.KernelIdeal.main_v2 ((extractStridedSlice S1x320000 ![1, 0] · Cert.KernelIdeal.Gen.slices_S2x320000_S1x320000_1_0) : (⟨S2x320000, .i32⟩ : BufTy).Contents (Elt F) → (⟨S1x320000, .i32⟩ : BufTy).Contents (Elt F)),
    StableHlo.reshape Cert.KernelIdeal.main_v2 Cert.KernelIdeal.main_v3 (rfl : (.i32 : EltTy) = .i32) Cert.KernelIdeal.Gen.shapeCasts_S1x320000_S320000]
    (V0 m d) (Proc.devRef .tc Cert.KernelIdeal.main_v1) = _
  after_results
  rfl

/-- The kernel's destination words are the argument's second row. -/
theorem Ad_row (d : Dev Cert.KernelIdeal.nD) : Ad m d = row 1 Cert.KernelIdeal.Gen.slices_S2x320000_S1x320000_1_0 (m (eL d)) := by
  show after [StableHlo.unary Cert.KernelIdeal.main_arg9 Cert.KernelIdeal.main_v0 ((extractStridedSlice S1x320000 ![0, 0] · Cert.KernelIdeal.Gen.slices_S2x320000_S1x320000_0_0) : (⟨S2x320000, .i32⟩ : BufTy).Contents (Elt F) → (⟨S1x320000, .i32⟩ : BufTy).Contents (Elt F)),
    StableHlo.reshape Cert.KernelIdeal.main_v0 Cert.KernelIdeal.main_v1 (rfl : (.i32 : EltTy) = .i32) Cert.KernelIdeal.Gen.shapeCasts_S1x320000_S320000,
    StableHlo.unary Cert.KernelIdeal.main_arg9 Cert.KernelIdeal.main_v2 ((extractStridedSlice S1x320000 ![1, 0] · Cert.KernelIdeal.Gen.slices_S2x320000_S1x320000_1_0) : (⟨S2x320000, .i32⟩ : BufTy).Contents (Elt F) → (⟨S1x320000, .i32⟩ : BufTy).Contents (Elt F)),
    StableHlo.reshape Cert.KernelIdeal.main_v2 Cert.KernelIdeal.main_v3 (rfl : (.i32 : EltTy) = .i32) Cert.KernelIdeal.Gen.shapeCasts_S1x320000_S320000]
    (V0 m d) (Proc.devRef .tc Cert.KernelIdeal.main_v3) = _
  after_results
  rfl

/-- The kernel runs where every word of the last argument is a node number. -/
theorem ok_kernel (h : ∀ d i, ((m (eL d) : IVec S2x320000 32) i).toNat < 10000) : Ok m := fun d =>
  ⟨fun j => by rw [As_row]; exact row_lt _ _ _ (h d) j, fun j => by rw [Ad_row]; exact row_lt _ _ _ (h d) j⟩

end

section
variable (m : (ℓ : Loc Cert.ReferenceIdeal.nD Cert.ReferenceIdeal.τ Cert.ReferenceIdeal.sig) → Buf (Elt F) ℓ)

open Cert.Proof.RefRun Cert.ReferenceIdeal

/-- The reference's source words are the argument's first row. -/
theorem Sw_row (c : Dev nD) : Sw m c = row 0 Cert.KernelIdeal.Gen.slices_S2x320000_S1x320000_0_0 (m (loc c main_arg9)) := by
  unfold Sw W0 RefOps.pre
  after_results
  rfl

/-- The reference's destination words are the argument's second row. -/
theorem Tw_row (c : Dev nD) : Tw m c = row 1 Cert.KernelIdeal.Gen.slices_S2x320000_S1x320000_1_0 (m (loc c main_arg9)) := by
  unfold Tw W0 RefOps.pre
  after_results
  rfl

/-- The reference's words are node numbers where every word of the last argument is one. -/
theorem ok_reference (h : ∀ d i, ((m (loc d main_arg9) : IVec Cert.KernelIdeal.S2x320000 32) i).toNat < 10000) : RefRun.Ok m := fun d =>
  ⟨fun j => by rw [Sw_row]; exact row_lt _ _ _ (h d) j, fun j => by rw [Tw_row]; exact row_lt _ _ _ (h d) j⟩

end

end Cert.Proof.Inputs

end
-- ==== Proof.Same.lean ====
/-
  The kernel's program over machine words is the idealized program's text over machine words, piece by piece.
-/
module

public import proofs.«01_k».proof.Defs
public import proofs.«01_k».proof.Proof.Gen.Kernel
public import proofs.«01_k».proof.Proof.Gen.KernelIdeal
public import proofs.«01_k».proof.Proof.Twin

@[expose] public section

noncomputable section

namespace Cert.Proof.Same

open Idealize.ShloMosaic Idealize.SL.Sem

/-- Over machine words a named constant is the word printed beside its name. -/
instance wordNamed : Named Bits where
  named _ _ φ bits := FloatOps.ofBits φ bits

/-- The buffers and semaphores. -/
theorem sig_same : Cert.Kernel.sig = Cert.KernelIdeal.sig := rfl

/-- The first call's body. -/
theorem cc0__build_lists_same : Cert.Kernel.cc0__build_lists (F := Bits) = Cert.KernelIdeal.cc0__build_lists (F := Bits) := rfl
set_option maxHeartbeats 8000000 in
/-- The second call's body. -/
theorem cc1__segmax_same : Cert.Kernel.cc1__segmax (F := Bits) = Cert.KernelIdeal.cc1__segmax (F := Bits) := rfl
set_option maxHeartbeats 8000000 in
/-- The third call's body is the second's. -/
theorem kernel_twin2 : Cert.Kernel.cc2__segmax (F := Bits) = Cert.Kernel.cc1__segmax (F := Bits) := rfl
/-- The third call's body. -/
theorem cc2__segmax_same : Cert.Kernel.cc2__segmax (F := Bits) = Cert.KernelIdeal.cc2__segmax (F := Bits) :=
  kernel_twin2.trans (cc1__segmax_same.trans (Twin.twin2 (F := Bits)).symm)
set_option maxHeartbeats 8000000 in
/-- The fourth call's body is the second's. -/
theorem kernel_twin3 : Cert.Kernel.cc3__segmax (F := Bits) = Cert.Kernel.cc1__segmax (F := Bits) := rfl
/-- The fourth call's body. -/
theorem cc3__segmax_same : Cert.Kernel.cc3__segmax (F := Bits) = Cert.KernelIdeal.cc3__segmax (F := Bits) :=
  kernel_twin3.trans (cc1__segmax_same.trans (Twin.twin3 (F := Bits)).symm)
set_option maxHeartbeats 8000000 in
/-- The fifth call's body is the second's. -/
theorem kernel_twin4 : Cert.Kernel.cc4__segmax (F := Bits) = Cert.Kernel.cc1__segmax (F := Bits) := rfl
/-- The fifth call's body. -/
theorem cc4__segmax_same : Cert.Kernel.cc4__segmax (F := Bits) = Cert.KernelIdeal.cc4__segmax (F := Bits) :=
  kernel_twin4.trans (cc1__segmax_same.trans (Twin.twin4 (F := Bits)).symm)
set_option maxHeartbeats 8000000 in
/-- The sixth call's body is the second's. -/
theorem kernel_twin5 : Cert.Kernel.cc5__segmax (F := Bits) = Cert.Kernel.cc1__segmax (F := Bits) := rfl
/-- The sixth call's body. -/
theorem cc5__segmax_same : Cert.Kernel.cc5__segmax (F := Bits) = Cert.KernelIdeal.cc5__segmax (F := Bits) :=
  kernel_twin5.trans (cc1__segmax_same.trans (Twin.twin5 (F := Bits)).symm)
set_option maxHeartbeats 8000000 in
/-- The seventh call's body is the second's. -/
theorem kernel_twin6 : Cert.Kernel.cc6__segmax (F := Bits) = Cert.Kernel.cc1__segmax (F := Bits) := rfl
/-- The seventh call's body. -/
theorem cc6__segmax_same : Cert.Kernel.cc6__segmax (F := Bits) = Cert.KernelIdeal.cc6__segmax (F := Bits) :=
  kernel_twin6.trans (cc1__segmax_same.trans (Twin.twin6 (F := Bits)).symm)
set_option maxHeartbeats 8000000 in
/-- The eighth call's body is the second's. -/
theorem kernel_twin7 : Cert.Kernel.cc7__segmax (F := Bits) = Cert.Kernel.cc1__segmax (F := Bits) := rfl
/-- The eighth call's body. -/
theorem cc7__segmax_same : Cert.Kernel.cc7__segmax (F := Bits) = Cert.KernelIdeal.cc7__segmax (F := Bits) :=
  kernel_twin7.trans (cc1__segmax_same.trans (Twin.twin7 (F := Bits)).symm)
set_option maxHeartbeats 8000000 in
/-- The ninth call's body is the second's. -/
theorem kernel_twin8 : Cert.Kernel.cc8__segmax (F := Bits) = Cert.Kernel.cc1__segmax (F := Bits) := rfl
/-- The ninth call's body. -/
theorem cc8__segmax_same : Cert.Kernel.cc8__segmax (F := Bits) = Cert.KernelIdeal.cc8__segmax (F := Bits) :=
  kernel_twin8.trans (cc1__segmax_same.trans (Twin.twin8 (F := Bits)).symm)
set_option maxHeartbeats 8000000 in
/-- The tenth call's body is the second's. -/
theorem kernel_twin9 : Cert.Kernel.cc9__segmax (F := Bits) = Cert.Kernel.cc1__segmax (F := Bits) := rfl
/-- The tenth call's body. -/
theorem cc9__segmax_same : Cert.Kernel.cc9__segmax (F := Bits) = Cert.KernelIdeal.cc9__segmax (F := Bits) :=
  kernel_twin9.trans (cc1__segmax_same.trans (Twin.twin9 (F := Bits)).symm)
/-- A function takes equals to equals. -/
theorem lift {α β : Type _} {a b : α} (h : a = b) (f : α → β) : f a = f b := congrArg f h

section
open Cert.Kernel
open K0.Facts₀ K1.Facts₀ K2.Facts₀ K3.Facts₀ K4.Facts₀ K5.Facts₀ K6.Facts₀ K7.Facts₀ K8.Facts₀ K9.Facts₀

/-- The first call's row of the bodies' table. -/
theorem row0_same (c : Fin τ.nSC) (s : Fin τ.nSub) (a : Λ₀.Args 0) :
    Cert.Kernel.defs₀ (F := Bits) (.scVector c s) 0 a = Cert.KernelIdeal.defs₀ (F := Bits) (.scVector c s) 0 a :=
  lift cc0__build_lists_same (fun f => (SparseCore.onTile hcore0 hsub0 (fun c s => f (fun | 0 => c | 1 => s | ⟨_ + 2, h⟩ => absurd h (Nat.not_lt.2 (Nat.le_add_left _ _))) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4) ⟨⟩ c s : Prog (TpuEff nD τ sig (Elt Bits) Λ₀ (.scVector c s)) PUnit))

/-- The second call's row of the bodies' table. -/
theorem row1_same (c : Fin τ.nSC) (s : Fin τ.nSub) (a : Λ₀.Args 1) :
    Cert.Kernel.defs₀ (F := Bits) (.scVector c s) 1 a = Cert.KernelIdeal.defs₀ (F := Bits) (.scVector c s) 1 a :=
  lift cc1__segmax_same (fun f => (SparseCore.onTile hcore1 hsub1 (fun c s => f (fun | 0 => c | 1 => s | ⟨_ + 2, h⟩ => absurd h (Nat.not_lt.2 (Nat.le_add_left _ _))) (Memref.whole main_arg0_scv) (Memref.isWhole_whole _) (Memref.whole main_v4_0_scv) (Memref.isWhole_whole _) (Memref.whole main_v4_1_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1 cc1_scoped2 cc1_scoped3 cc1_scoped4) ⟨⟩ c s : Prog (TpuEff nD τ sig (Elt Bits) Λ₀ (.scVector c s)) PUnit))

/-- The third call's row of the bodies' table. -/
theorem row2_same (c : Fin τ.nSC) (s : Fin τ.nSub) (a : Λ₀.Args 2) :
    Cert.Kernel.defs₀ (F := Bits) (.scVector c s) 2 a = Cert.KernelIdeal.defs₀ (F := Bits) (.scVector c s) 2 a :=
  lift cc2__segmax_same (fun f => (SparseCore.onTile hcore2 hsub2 (fun c s => f (fun | 0 => c | 1 => s | ⟨_ + 2, h⟩ => absurd h (Nat.not_lt.2 (Nat.le_add_left _ _))) (Memref.whole main_arg1_scv) (Memref.isWhole_whole _) (Memref.whole main_v4_0_scv) (Memref.isWhole_whole _) (Memref.whole main_v4_1_scv) (Memref.isWhole_whole _) (Memref.whole main_v7_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scoped0 cc2_scoped1 cc2_scoped2 cc2_scoped3 cc2_scoped4) ⟨⟩ c s : Prog (TpuEff nD τ sig (Elt Bits) Λ₀ (.scVector c s)) PUnit))

/-- The fourth call's row of the bodies' table. -/
theorem row3_same (c : Fin τ.nSC) (s : Fin τ.nSub) (a : Λ₀.Args 3) :
    Cert.Kernel.defs₀ (F := Bits) (.scVector c s) 3 a = Cert.KernelIdeal.defs₀ (F := Bits) (.scVector c s) 3 a :=
  lift cc3__segmax_same (fun f => (SparseCore.onTile hcore3 hsub3 (fun c s => f (fun | 0 => c | 1 => s | ⟨_ + 2, h⟩ => absurd h (Nat.not_lt.2 (Nat.le_add_left _ _))) (Memref.whole main_arg2_scv) (Memref.isWhole_whole _) (Memref.whole main_v4_0_scv) (Memref.isWhole_whole _) (Memref.whole main_v4_1_scv) (Memref.isWhole_whole _) (Memref.whole main_v9_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) cc3_scratch5 cc3_scoped0 cc3_scoped1 cc3_scoped2 cc3_scoped3 cc3_scoped4) ⟨⟩ c s : Prog (TpuEff nD τ sig (Elt Bits) Λ₀ (.scVector c s)) PUnit))

/-- The fifth call's row of the bodies' table. -/
theorem row4_same (c : Fin τ.nSC) (s : Fin τ.nSub) (a : Λ₀.Args 4) :
    Cert.Kernel.defs₀ (F := Bits) (.scVector c s) 4 a = Cert.KernelIdeal.defs₀ (F := Bits) (.scVector c s) 4 a :=
  lift cc4__segmax_same (fun f => (SparseCore.onTile hcore4 hsub4 (fun c s => f (fun | 0 => c | 1 => s | ⟨_ + 2, h⟩ => absurd h (Nat.not_lt.2 (Nat.le_add_left _ _))) (Memref.whole main_arg3_scv) (Memref.isWhole_whole _) (Memref.whole main_v4_0_scv) (Memref.isWhole_whole _) (Memref.whole main_v4_1_scv) (Memref.isWhole_whole _) (Memref.whole main_v11_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) cc4_scratch5 cc4_scoped0 cc4_scoped1 cc4_scoped2 cc4_scoped3 cc4_scoped4) ⟨⟩ c s : Prog (TpuEff nD τ sig (Elt Bits) Λ₀ (.scVector c s)) PUnit))

/-- The sixth call's row of the bodies' table. -/
theorem row5_same (c : Fin τ.nSC) (s : Fin τ.nSub) (a : Λ₀.Args 5) :
    Cert.Kernel.defs₀ (F := Bits) (.scVector c s) 5 a = Cert.KernelIdeal.defs₀ (F := Bits) (.scVector c s) 5 a :=
  lift cc5__segmax_same (fun f => (SparseCore.onTile hcore5 hsub5 (fun c s => f (fun | 0 => c | 1 => s | ⟨_ + 2, h⟩ => absurd h (Nat.not_lt.2 (Nat.le_add_left _ _))) (Memref.whole main_arg4_scv) (Memref.isWhole_whole _) (Memref.whole main_v4_0_scv) (Memref.isWhole_whole _) (Memref.whole main_v4_1_scv) (Memref.isWhole_whole _) (Memref.whole main_v13_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) cc5_scratch5 cc5_scoped0 cc5_scoped1 cc5_scoped2 cc5_scoped3 cc5_scoped4) ⟨⟩ c s : Prog (TpuEff nD τ sig (Elt Bits) Λ₀ (.scVector c s)) PUnit))

/-- The seventh call's row of the bodies' table. -/
theorem row6_same (c : Fin τ.nSC) (s : Fin τ.nSub) (a : Λ₀.Args 6) :
    Cert.Kernel.defs₀ (F := Bits) (.scVector c s) 6 a = Cert.KernelIdeal.defs₀ (F := Bits) (.scVector c s) 6 a :=
  lift cc6__segmax_same (fun f => (SparseCore.onTile hcore6 hsub6 (fun c s => f (fun | 0 => c | 1 => s | ⟨_ + 2, h⟩ => absurd h (Nat.not_lt.2 (Nat.le_add_left _ _))) (Memref.whole main_arg5_scv) (Memref.isWhole_whole _) (Memref.whole main_v4_0_scv) (Memref.isWhole_whole _) (Memref.whole main_v4_1_scv) (Memref.isWhole_whole _) (Memref.whole main_v15_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) cc6_scratch5 cc6_scoped0 cc6_scoped1 cc6_scoped2 cc6_scoped3 cc6_scoped4) ⟨⟩ c s : Prog (TpuEff nD τ sig (Elt Bits) Λ₀ (.scVector c s)) PUnit))

/-- The eighth call's row of the bodies' table. -/
theorem row7_same (c : Fin τ.nSC) (s : Fin τ.nSub) (a : Λ₀.Args 7) :
    Cert.Kernel.defs₀ (F := Bits) (.scVector c s) 7 a = Cert.KernelIdeal.defs₀ (F := Bits) (.scVector c s) 7 a :=
  lift cc7__segmax_same (fun f => (SparseCore.onTile hcore7 hsub7 (fun c s => f (fun | 0 => c | 1 => s | ⟨_ + 2, h⟩ => absurd h (Nat.not_lt.2 (Nat.le_add_left _ _))) (Memref.whole main_arg6_scv) (Memref.isWhole_whole _) (Memref.whole main_v4_0_scv) (Memref.isWhole_whole _) (Memref.whole main_v4_1_scv) (Memref.isWhole_whole _) (Memref.whole main_v17_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) cc7_scratch5 cc7_scoped0 cc7_scoped1 cc7_scoped2 cc7_scoped3 cc7_scoped4) ⟨⟩ c s : Prog (TpuEff nD τ sig (Elt Bits) Λ₀ (.scVector c s)) PUnit))

/-- The ninth call's row of the bodies' table. -/
theorem row8_same (c : Fin τ.nSC) (s : Fin τ.nSub) (a : Λ₀.Args 8) :
    Cert.Kernel.defs₀ (F := Bits) (.scVector c s) 8 a = Cert.KernelIdeal.defs₀ (F := Bits) (.scVector c s) 8 a :=
  lift cc8__segmax_same (fun f => (SparseCore.onTile hcore8 hsub8 (fun c s => f (fun | 0 => c | 1 => s | ⟨_ + 2, h⟩ => absurd h (Nat.not_lt.2 (Nat.le_add_left _ _))) (Memref.whole main_arg7_scv) (Memref.isWhole_whole _) (Memref.whole main_v4_0_scv) (Memref.isWhole_whole _) (Memref.whole main_v4_1_scv) (Memref.isWhole_whole _) (Memref.whole main_v19_scv) (Memref.isWhole_whole _) (Memref.whole cc8_scratch0) (Memref.isWhole_whole _) (Memref.whole cc8_scratch1) (Memref.isWhole_whole _) (Memref.whole cc8_scratch2) (Memref.isWhole_whole _) (Memref.whole cc8_scratch3) (Memref.isWhole_whole _) (Memref.whole cc8_scratch4) (Memref.isWhole_whole _) cc8_scratch5 cc8_scoped0 cc8_scoped1 cc8_scoped2 cc8_scoped3 cc8_scoped4) ⟨⟩ c s : Prog (TpuEff nD τ sig (Elt Bits) Λ₀ (.scVector c s)) PUnit))

/-- The tenth call's row of the bodies' table. -/
theorem row9_same (c : Fin τ.nSC) (s : Fin τ.nSub) (a : Λ₀.Args 9) :
    Cert.Kernel.defs₀ (F := Bits) (.scVector c s) 9 a = Cert.KernelIdeal.defs₀ (F := Bits) (.scVector c s) 9 a :=
  lift cc9__segmax_same (fun f => (SparseCore.onTile hcore9 hsub9 (fun c s => f (fun | 0 => c | 1 => s | ⟨_ + 2, h⟩ => absurd h (Nat.not_lt.2 (Nat.le_add_left _ _))) (Memref.whole main_arg8_scv) (Memref.isWhole_whole _) (Memref.whole main_v4_0_scv) (Memref.isWhole_whole _) (Memref.whole main_v4_1_scv) (Memref.isWhole_whole _) (Memref.whole main_v21_scv) (Memref.isWhole_whole _) (Memref.whole cc9_scratch0) (Memref.isWhole_whole _) (Memref.whole cc9_scratch1) (Memref.isWhole_whole _) (Memref.whole cc9_scratch2) (Memref.isWhole_whole _) (Memref.whole cc9_scratch3) (Memref.isWhole_whole _) (Memref.whole cc9_scratch4) (Memref.isWhole_whole _) cc9_scratch5 cc9_scoped0 cc9_scoped1 cc9_scoped2 cc9_scoped3 cc9_scoped4) ⟨⟩ c s : Prog (TpuEff nD τ sig (Elt Bits) Λ₀ (.scVector c s)) PUnit))

end

/-- The bodies' table. -/
theorem defs₀_same : Cert.Kernel.defs₀ (F := Bits) = Cert.KernelIdeal.defs₀ (F := Bits) := by
  funext p ℓ a
  match p, ℓ, a with
  | .scVector c s, 0, a => exact row0_same c s a
  | .scVector c s, 1, a => exact row1_same c s a
  | .scVector c s, 2, a => exact row2_same c s a
  | .scVector c s, 3, a => exact row3_same c s a
  | .scVector c s, 4, a => exact row4_same c s a
  | .scVector c s, 5, a => exact row5_same c s a
  | .scVector c s, 6, a => exact row6_same c s a
  | .scVector c s, 7, a => exact row7_same c s a
  | .scVector c s, 8, a => exact row8_same c s a
  | .scVector c s, 9, a => exact row9_same c s a
  | .tc, _, _ => rfl
  | .scScalar _, _, _ => rfl

/-- The whole table. -/
theorem defs_same : Cert.Kernel.defs (F := Bits) = Cert.KernelIdeal.defs (F := Bits) :=
  congrArg (fun d => SparseCore.Cfg.defs (Cert.Kernel.sc (F := Bits)) (Pipeline.defs Cert.Kernel.pcfgs d)) defs₀_same

/-- The threads. -/
theorem threads_same : Cert.Kernel.threads (F := Bits) = Cert.KernelIdeal.threads (F := Bits) := rfl

end Cert.Proof.Same

end
-- ==== Proof.Run.lean ====
/-
  `@main` on the TensorCore: its host operations and the ten calls, and the run of the whole program.
-/
module

public import proofs.«01_k».proof.Proof.Launch

@[expose] public section

noncomputable section

namespace Cert.Proof.Launch

open Cert.KernelIdeal Cert.KernelIdeal.Gen Cert.Proof.Setup Cert.Proof.Fold Cert.Proof.Words Cert.Proof.Group Cert.Proof.RowAccess Cert.Proof.BuildTrip Cert.Proof.SegWords Cert.Proof.Tile Cert.Proof.Twin

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] [Named F]

local notation "𝕄" => MT nD τ sig (HIx 10) (Elt F) ℕ UU ℕ

variable (m : (ℓ : Loc nD τ sig) → Buf (Elt F) ℓ) (ρ : Dev nD → PrngReg)

/-! ## `@main` on the TensorCore -/

/-- A flat output, as rows of 128. -/
def RES (o : S1280000.Idx → F .f32) : S10000x128.Idx → F .f32 := shapeCast S10000x128 o shapeCasts_S1280000_S10000x128

/-- The host operations leave an argument. -/
theorem V4_arg (d : Dev nD) (b : DevRef τ sig) (h0 : b ≠ v0') (h1 : b ≠ v1') (h2 : b ≠ v2') (h3 : b ≠ v3') : V4 m d b = m (d, b) := by
  unfold V4
  rw [(opD (F := F)).result_of_not_mem _ (show b ∉ ({v3'} : Finset (DevRef τ sig)) from fun t => h3 (Finset.mem_singleton.mp t)),
    (opC (F := F)).result_of_not_mem _ (show b ∉ ({v2'} : Finset (DevRef τ sig)) from fun t => h2 (Finset.mem_singleton.mp t)),
    (opB (F := F)).result_of_not_mem _ (show b ∉ ({v1'} : Finset (DevRef τ sig)) from fun t => h1 (Finset.mem_singleton.mp t)),
    (opA (F := F)).result_of_not_mem _ (show b ∉ ({v0'} : Finset (DevRef τ sig)) from fun t => h0 (Finset.mem_singleton.mp t))]
  rfl

set_option maxRecDepth 65536 in
/-- The arrays before the calls. -/
theorem held_V4 (d : Dev nD) :
    (held (T d) SA ((opD (F := F)).result ((opC (F := F)).result ((opB (F := F)).result ((opA (F := F)).result (V0 m d))))) : sProp 𝕄)
      = iprop((x1L d ↦{fullShare} m (x1L d))
          ∗ (x2L d ↦{fullShare} m (x2L d))
          ∗ (x3L d ↦{fullShare} m (x3L d))
          ∗ (x4L d ↦{fullShare} m (x4L d))
          ∗ (x5L d ↦{fullShare} m (x5L d))
          ∗ (x6L d ↦{fullShare} m (x6L d))
          ∗ (x7L d ↦{fullShare} m (x7L d))
          ∗ (x8L d ↦{fullShare} m (x8L d))
          ∗ (x9L d ↦{fullShare} m (x9L d))
          ∗ (eL d ↦{fullShare} m (eL d))
          ∗ ((SparseCore.T d).loc main_v0 ↦{fullShare} V4 m d v0')
          ∗ (srcL d ↦{fullShare} As m d)
          ∗ ((SparseCore.T d).loc main_v2 ↦{fullShare} V4 m d v2')
          ∗ (dstL d ↦{fullShare} Ad m d)
          ∗ (lstL d ↦{fullShare} V4 m d v40')
          ∗ (cntL d ↦{fullShare} V4 m d v41')
          ∗ (o1L d ↦{fullShare} V4 m d o1')
          ∗ (o2L d ↦{fullShare} V4 m d o2')
          ∗ (o3L d ↦{fullShare} V4 m d o3')
          ∗ (o4L d ↦{fullShare} V4 m d o4')
          ∗ (o5L d ↦{fullShare} V4 m d o5')
          ∗ (o6L d ↦{fullShare} V4 m d o6')
          ∗ (o7L d ↦{fullShare} V4 m d o7')
          ∗ (o8L d ↦{fullShare} V4 m d o8')
          ∗ (o9L d ↦{fullShare} V4 m d o9')
          ∗ (r1L d ↦{fullShare} V4 m d r1')
          ∗ (r2L d ↦{fullShare} V4 m d r2')
          ∗ (r3L d ↦{fullShare} V4 m d r3')
          ∗ (r4L d ↦{fullShare} V4 m d r4')
          ∗ (r5L d ↦{fullShare} V4 m d r5')
          ∗ (r6L d ↦{fullShare} V4 m d r6')
          ∗ (r7L d ↦{fullShare} V4 m d r7')
          ∗ (r8L d ↦{fullShare} V4 m d r8')
          ∗ (r9L d ↦{fullShare} V4 m d r9')) := by
  show held (SparseCore.T d) SA (V4 m d) = _
  rw [held_SA, V4_arg m d x1' (by decide) (by decide) (by decide) (by decide), V4_arg m d x2' (by decide) (by decide) (by decide) (by decide), V4_arg m d x3' (by decide) (by decide) (by decide) (by decide), V4_arg m d x4' (by decide) (by decide) (by decide) (by decide), V4_arg m d x5' (by decide) (by decide) (by decide) (by decide), V4_arg m d x6' (by decide) (by decide) (by decide) (by decide), V4_arg m d x7' (by decide) (by decide) (by decide) (by decide), V4_arg m d x8' (by decide) (by decide) (by decide) (by decide), V4_arg m d x9' (by decide) (by decide) (by decide) (by decide), V4_arg m d e' (by decide) (by decide) (by decide) (by decide)]
  rfl

set_option maxRecDepth 65536 in
/-- The first operation's buffers are held. -/
theorem hA : (opA (F := F)).bufs ⊆ SA := show ({e', v0'} : Finset (DevRef τ sig)) ⊆ SA by decide
set_option maxRecDepth 65536 in
/-- The second operation's buffers are held. -/
theorem hB : (opB (F := F)).bufs ⊆ SA := show ({v0', v1'} : Finset (DevRef τ sig)) ⊆ SA by decide
set_option maxRecDepth 65536 in
/-- The third operation's buffers are held. -/
theorem hC : (opC (F := F)).bufs ⊆ SA := show ({e', v2'} : Finset (DevRef τ sig)) ⊆ SA by decide
set_option maxRecDepth 65536 in
/-- The fourth operation's buffers are held. -/
theorem hD : (opD (F := F)).bufs ⊆ SA := show ({v2', v3'} : Finset (DevRef τ sig)) ⊆ SA by decide

/-- The arrays before call 1's result is reshaped. -/
def W1 (d : Dev nD) : Valuation τ sig (Elt F) := Function.update (V4 m d) o1' (OUT (As m d) (Ad m d) (m (x1L d)))
/-- The arrays of that operation, before it. -/
theorem before1 (d : Dev nD) : iprop((o1L d ↦{fullShare} OUT (As m d) (Ad m d) (m (x1L d))) ∗ (r1L d ↦{fullShare} V4 m d r1'))
    ⊢ (held (T d) {o1', r1'} (W1 m d) : sProp 𝕄) := by
  rw [held_pair d main_v5 main_v6 (by decide), show W1 m d o1' = OUT (As m d) (Ad m d) (m (x1L d)) from Function.update_self _ _ _,
    show W1 m d r1' = V4 m d r1' from Function.update_of_ne (show r1' ≠ o1' by decide) _ _]
/-- The result after it. -/
theorem after1 (d : Dev nD) : (held (T d) {o1', r1'} ((op1 (F := F)).result (W1 m d)) : sProp 𝕄)
    ⊢ (r1L d ↦{fullShare} RES (OUT (As m d) (Ad m d) (m (x1L d)))) := by
  rw [held_pair d main_v5 main_v6 (by decide), show (op1 (F := F)).result (W1 m d) r1' = RES (OUT (As m d) (Ad m d) (m (x1L d))) from (StableHlo.reshape_result _ _ _ _ _ _ _).trans (by
    show (fun i => shapeCast S10000x128 (W1 m d o1') shapeCasts_S1280000_S10000x128 i) = _
    rw [show W1 m d o1' = OUT (As m d) (Ad m d) (m (x1L d)) from Function.update_self _ _ _]; rfl)]
  exact sep_elim_right

/-- The arrays before call 2's result is reshaped. -/
def W2 (d : Dev nD) : Valuation τ sig (Elt F) := Function.update (V4 m d) o2' (OUT (As m d) (Ad m d) (m (x2L d)))
/-- The arrays of that operation, before it. -/
theorem before2 (d : Dev nD) : iprop((o2L d ↦{fullShare} OUT (As m d) (Ad m d) (m (x2L d))) ∗ (r2L d ↦{fullShare} V4 m d r2'))
    ⊢ (held (T d) {o2', r2'} (W2 m d) : sProp 𝕄) := by
  rw [held_pair d main_v7 main_v8 (by decide), show W2 m d o2' = OUT (As m d) (Ad m d) (m (x2L d)) from Function.update_self _ _ _,
    show W2 m d r2' = V4 m d r2' from Function.update_of_ne (show r2' ≠ o2' by decide) _ _]
/-- The result after it. -/
theorem after2 (d : Dev nD) : (held (T d) {o2', r2'} ((op2 (F := F)).result (W2 m d)) : sProp 𝕄)
    ⊢ (r2L d ↦{fullShare} RES (OUT (As m d) (Ad m d) (m (x2L d)))) := by
  rw [held_pair d main_v7 main_v8 (by decide), show (op2 (F := F)).result (W2 m d) r2' = RES (OUT (As m d) (Ad m d) (m (x2L d))) from (StableHlo.reshape_result _ _ _ _ _ _ _).trans (by
    show (fun i => shapeCast S10000x128 (W2 m d o2') shapeCasts_S1280000_S10000x128 i) = _
    rw [show W2 m d o2' = OUT (As m d) (Ad m d) (m (x2L d)) from Function.update_self _ _ _]; rfl)]
  exact sep_elim_right

/-- The arrays before call 3's result is reshaped. -/
def W3 (d : Dev nD) : Valuation τ sig (Elt F) := Function.update (V4 m d) o3' (OUT (As m d) (Ad m d) (m (x3L d)))
/-- The arrays of that operation, before it. -/
theorem before3 (d : Dev nD) : iprop((o3L d ↦{fullShare} OUT (As m d) (Ad m d) (m (x3L d))) ∗ (r3L d ↦{fullShare} V4 m d r3'))
    ⊢ (held (T d) {o3', r3'} (W3 m d) : sProp 𝕄) := by
  rw [held_pair d main_v9 main_v10 (by decide), show W3 m d o3' = OUT (As m d) (Ad m d) (m (x3L d)) from Function.update_self _ _ _,
    show W3 m d r3' = V4 m d r3' from Function.update_of_ne (show r3' ≠ o3' by decide) _ _]
/-- The result after it. -/
theorem after3 (d : Dev nD) : (held (T d) {o3', r3'} ((op3 (F := F)).result (W3 m d)) : sProp 𝕄)
    ⊢ (r3L d ↦{fullShare} RES (OUT (As m d) (Ad m d) (m (x3L d)))) := by
  rw [held_pair d main_v9 main_v10 (by decide), show (op3 (F := F)).result (W3 m d) r3' = RES (OUT (As m d) (Ad m d) (m (x3L d))) from (StableHlo.reshape_result _ _ _ _ _ _ _).trans (by
    show (fun i => shapeCast S10000x128 (W3 m d o3') shapeCasts_S1280000_S10000x128 i) = _
    rw [show W3 m d o3' = OUT (As m d) (Ad m d) (m (x3L d)) from Function.update_self _ _ _]; rfl)]
  exact sep_elim_right

/-- The arrays before call 4's result is reshaped. -/
def W4 (d : Dev nD) : Valuation τ sig (Elt F) := Function.update (V4 m d) o4' (OUT (As m d) (Ad m d) (m (x4L d)))
/-- The arrays of that operation, before it. -/
theorem before4 (d : Dev nD) : iprop((o4L d ↦{fullShare} OUT (As m d) (Ad m d) (m (x4L d))) ∗ (r4L d ↦{fullShare} V4 m d r4'))
    ⊢ (held (T d) {o4', r4'} (W4 m d) : sProp 𝕄) := by
  rw [held_pair d main_v11 main_v12 (by decide), show W4 m d o4' = OUT (As m d) (Ad m d) (m (x4L d)) from Function.update_self _ _ _,
    show W4 m d r4' = V4 m d r4' from Function.update_of_ne (show r4' ≠ o4' by decide) _ _]
/-- The result after it. -/
theorem after4 (d : Dev nD) : (held (T d) {o4', r4'} ((op4 (F := F)).result (W4 m d)) : sProp 𝕄)
    ⊢ (r4L d ↦{fullShare} RES (OUT (As m d) (Ad m d) (m (x4L d)))) := by
  rw [held_pair d main_v11 main_v12 (by decide), show (op4 (F := F)).result (W4 m d) r4' = RES (OUT (As m d) (Ad m d) (m (x4L d))) from (StableHlo.reshape_result _ _ _ _ _ _ _).trans (by
    show (fun i => shapeCast S10000x128 (W4 m d o4') shapeCasts_S1280000_S10000x128 i) = _
    rw [show W4 m d o4' = OUT (As m d) (Ad m d) (m (x4L d)) from Function.update_self _ _ _]; rfl)]
  exact sep_elim_right

/-- The arrays before call 5's result is reshaped. -/
def W5 (d : Dev nD) : Valuation τ sig (Elt F) := Function.update (V4 m d) o5' (OUT (As m d) (Ad m d) (m (x5L d)))
/-- The arrays of that operation, before it. -/
theorem before5 (d : Dev nD) : iprop((o5L d ↦{fullShare} OUT (As m d) (Ad m d) (m (x5L d))) ∗ (r5L d ↦{fullShare} V4 m d r5'))
    ⊢ (held (T d) {o5', r5'} (W5 m d) : sProp 𝕄) := by
  rw [held_pair d main_v13 main_v14 (by decide), show W5 m d o5' = OUT (As m d) (Ad m d) (m (x5L d)) from Function.update_self _ _ _,
    show W5 m d r5' = V4 m d r5' from Function.update_of_ne (show r5' ≠ o5' by decide) _ _]
/-- The result after it. -/
theorem after5 (d : Dev nD) : (held (T d) {o5', r5'} ((op5 (F := F)).result (W5 m d)) : sProp 𝕄)
    ⊢ (r5L d ↦{fullShare} RES (OUT (As m d) (Ad m d) (m (x5L d)))) := by
  rw [held_pair d main_v13 main_v14 (by decide), show (op5 (F := F)).result (W5 m d) r5' = RES (OUT (As m d) (Ad m d) (m (x5L d))) from (StableHlo.reshape_result _ _ _ _ _ _ _).trans (by
    show (fun i => shapeCast S10000x128 (W5 m d o5') shapeCasts_S1280000_S10000x128 i) = _
    rw [show W5 m d o5' = OUT (As m d) (Ad m d) (m (x5L d)) from Function.update_self _ _ _]; rfl)]
  exact sep_elim_right

/-- The arrays before call 6's result is reshaped. -/
def W6 (d : Dev nD) : Valuation τ sig (Elt F) := Function.update (V4 m d) o6' (OUT (As m d) (Ad m d) (m (x6L d)))
/-- The arrays of that operation, before it. -/
theorem before6 (d : Dev nD) : iprop((o6L d ↦{fullShare} OUT (As m d) (Ad m d) (m (x6L d))) ∗ (r6L d ↦{fullShare} V4 m d r6'))
    ⊢ (held (T d) {o6', r6'} (W6 m d) : sProp 𝕄) := by
  rw [held_pair d main_v15 main_v16 (by decide), show W6 m d o6' = OUT (As m d) (Ad m d) (m (x6L d)) from Function.update_self _ _ _,
    show W6 m d r6' = V4 m d r6' from Function.update_of_ne (show r6' ≠ o6' by decide) _ _]
/-- The result after it. -/
theorem after6 (d : Dev nD) : (held (T d) {o6', r6'} ((op6 (F := F)).result (W6 m d)) : sProp 𝕄)
    ⊢ (r6L d ↦{fullShare} RES (OUT (As m d) (Ad m d) (m (x6L d)))) := by
  rw [held_pair d main_v15 main_v16 (by decide), show (op6 (F := F)).result (W6 m d) r6' = RES (OUT (As m d) (Ad m d) (m (x6L d))) from (StableHlo.reshape_result _ _ _ _ _ _ _).trans (by
    show (fun i => shapeCast S10000x128 (W6 m d o6') shapeCasts_S1280000_S10000x128 i) = _
    rw [show W6 m d o6' = OUT (As m d) (Ad m d) (m (x6L d)) from Function.update_self _ _ _]; rfl)]
  exact sep_elim_right

/-- The arrays before call 7's result is reshaped. -/
def W7 (d : Dev nD) : Valuation τ sig (Elt F) := Function.update (V4 m d) o7' (OUT (As m d) (Ad m d) (m (x7L d)))
/-- The arrays of that operation, before it. -/
theorem before7 (d : Dev nD) : iprop((o7L d ↦{fullShare} OUT (As m d) (Ad m d) (m (x7L d))) ∗ (r7L d ↦{fullShare} V4 m d r7'))
    ⊢ (held (T d) {o7', r7'} (W7 m d) : sProp 𝕄) := by
  rw [held_pair d main_v17 main_v18 (by decide), show W7 m d o7' = OUT (As m d) (Ad m d) (m (x7L d)) from Function.update_self _ _ _,
    show W7 m d r7' = V4 m d r7' from Function.update_of_ne (show r7' ≠ o7' by decide) _ _]
/-- The result after it. -/
theorem after7 (d : Dev nD) : (held (T d) {o7', r7'} ((op7 (F := F)).result (W7 m d)) : sProp 𝕄)
    ⊢ (r7L d ↦{fullShare} RES (OUT (As m d) (Ad m d) (m (x7L d)))) := by
  rw [held_pair d main_v17 main_v18 (by decide), show (op7 (F := F)).result (W7 m d) r7' = RES (OUT (As m d) (Ad m d) (m (x7L d))) from (StableHlo.reshape_result _ _ _ _ _ _ _).trans (by
    show (fun i => shapeCast S10000x128 (W7 m d o7') shapeCasts_S1280000_S10000x128 i) = _
    rw [show W7 m d o7' = OUT (As m d) (Ad m d) (m (x7L d)) from Function.update_self _ _ _]; rfl)]
  exact sep_elim_right

/-- The arrays before call 8's result is reshaped. -/
def W8 (d : Dev nD) : Valuation τ sig (Elt F) := Function.update (V4 m d) o8' (OUT (As m d) (Ad m d) (m (x8L d)))
/-- The arrays of that operation, before it. -/
theorem before8 (d : Dev nD) : iprop((o8L d ↦{fullShare} OUT (As m d) (Ad m d) (m (x8L d))) ∗ (r8L d ↦{fullShare} V4 m d r8'))
    ⊢ (held (T d) {o8', r8'} (W8 m d) : sProp 𝕄) := by
  rw [held_pair d main_v19 main_v20 (by decide), show W8 m d o8' = OUT (As m d) (Ad m d) (m (x8L d)) from Function.update_self _ _ _,
    show W8 m d r8' = V4 m d r8' from Function.update_of_ne (show r8' ≠ o8' by decide) _ _]
/-- The result after it. -/
theorem after8 (d : Dev nD) : (held (T d) {o8', r8'} ((op8 (F := F)).result (W8 m d)) : sProp 𝕄)
    ⊢ (r8L d ↦{fullShare} RES (OUT (As m d) (Ad m d) (m (x8L d)))) := by
  rw [held_pair d main_v19 main_v20 (by decide), show (op8 (F := F)).result (W8 m d) r8' = RES (OUT (As m d) (Ad m d) (m (x8L d))) from (StableHlo.reshape_result _ _ _ _ _ _ _).trans (by
    show (fun i => shapeCast S10000x128 (W8 m d o8') shapeCasts_S1280000_S10000x128 i) = _
    rw [show W8 m d o8' = OUT (As m d) (Ad m d) (m (x8L d)) from Function.update_self _ _ _]; rfl)]
  exact sep_elim_right

/-- The arrays before call 9's result is reshaped. -/
def W9 (d : Dev nD) : Valuation τ sig (Elt F) := Function.update (V4 m d) o9' (OUT (As m d) (Ad m d) (m (x9L d)))
/-- The arrays of that operation, before it. -/
theorem before9 (d : Dev nD) : iprop((o9L d ↦{fullShare} OUT (As m d) (Ad m d) (m (x9L d))) ∗ (r9L d ↦{fullShare} V4 m d r9'))
    ⊢ (held (T d) {o9', r9'} (W9 m d) : sProp 𝕄) := by
  rw [held_pair d main_v21 main_v22 (by decide), show W9 m d o9' = OUT (As m d) (Ad m d) (m (x9L d)) from Function.update_self _ _ _,
    show W9 m d r9' = V4 m d r9' from Function.update_of_ne (show r9' ≠ o9' by decide) _ _]
/-- The result after it. -/
theorem after9 (d : Dev nD) : (held (T d) {o9', r9'} ((op9 (F := F)).result (W9 m d)) : sProp 𝕄)
    ⊢ (r9L d ↦{fullShare} RES (OUT (As m d) (Ad m d) (m (x9L d)))) := by
  rw [held_pair d main_v21 main_v22 (by decide), show (op9 (F := F)).result (W9 m d) r9' = RES (OUT (As m d) (Ad m d) (m (x9L d))) from (StableHlo.reshape_result _ _ _ _ _ _ _).trans (by
    show (fun i => shapeCast S10000x128 (W9 m d o9') shapeCasts_S1280000_S10000x128 i) = _
    rw [show W9 m d o9' = OUT (As m d) (Ad m d) (m (x9L d)) from Function.update_self _ _ _]; rfl)]
  exact sep_elim_right

/-- What `@main` leaves: the results, and the arguments as at the launch. -/
abbrev FIN (d : Dev nD) : sProp 𝕄 := iprop((r1L d ↦{fullShare} RES (OUT (As m d) (Ad m d) (m (x1L d)))) ∗ (r2L d ↦{fullShare} RES (OUT (As m d) (Ad m d) (m (x2L d)))) ∗ (r3L d ↦{fullShare} RES (OUT (As m d) (Ad m d) (m (x3L d)))) ∗ (r4L d ↦{fullShare} RES (OUT (As m d) (Ad m d) (m (x4L d)))) ∗ (r5L d ↦{fullShare} RES (OUT (As m d) (Ad m d) (m (x5L d)))) ∗ (r6L d ↦{fullShare} RES (OUT (As m d) (Ad m d) (m (x6L d)))) ∗ (r7L d ↦{fullShare} RES (OUT (As m d) (Ad m d) (m (x7L d)))) ∗ (r8L d ↦{fullShare} RES (OUT (As m d) (Ad m d) (m (x8L d)))) ∗ (r9L d ↦{fullShare} RES (OUT (As m d) (Ad m d) (m (x9L d)))) ∗ (x1L d ↦{fullShare} m (x1L d)) ∗ (x2L d ↦{fullShare} m (x2L d)) ∗ (x3L d ↦{fullShare} m (x3L d)) ∗ (x4L d ↦{fullShare} m (x4L d)) ∗ (x5L d ↦{fullShare} m (x5L d)) ∗ (x6L d ↦{fullShare} m (x6L d)) ∗ (x7L d ↦{fullShare} m (x7L d)) ∗ (x8L d ↦{fullShare} m (x8L d)) ∗ (x9L d ↦{fullShare} m (x9L d)) ∗ (eL d ↦{fullShare} m (eL d)))

set_option maxHeartbeats 4000000 in
/-- `@main` runs its host operations and the ten calls. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 10 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := SA) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := SA) hB (V := (opA (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := SA) hC (V := (opB (F := F)).result ((opA (F := F)).result (V0 m d)))) $$ [Hb Hheld]
  · isplitl [Hb] <;> iassumption
  iintro ⟨Hb, Hheld⟩
  rw [wp_ret]; imodintro
  iapply (wp_hlo_within 𝒱 (SparseCore.T d) none Set.univ (op := opD) (S := SA) hD (V := (opC (F := F)).result ((opB (F := F)).result ((opA (F := F)).result (V0 m d))))) $$ [Hb Hheld]
  · isplitl [Hb] <;> iassumption
  iintro ⟨Hb, Hheld⟩
  rw [wp_ret]; imodintro
  ihave Hh := (Entails.of_eq (held_V4 (F := F) m d)) $$ Hheld
  icases Hh with ⟨Hx1, Hx2, Hx3, Hx4, Hx5, Hx6, Hx7, Hx8, Hx9, He, -, Hs, -, Hd, Hl, Hc, Ho1, Ho2, Ho3, Ho4, Ho5, Ho6, Ho7, Ho8, Ho9, Hr1, Hr2, Hr3, Hr4, Hr5, Hr6, Hr7, Hr8, Hr9⟩
  iapply ((K (F := F)).wp_run (D (F := F)) 𝒱 (EH := EH) (P := P m) κ d 0) $$ [Hst Hx1 Hx2 Hx3 Hx4 Hx5 Hx6 Hx7 Hx8 Hx9 He Hs Hd Hl Hc Ho1 Ho2 Ho3 Ho4 Ho5 Ho6 Ho7 Ho8 Ho9 Hr1 Hr2 Hr3 Hr4 Hr5 Hr6 Hr7 Hr8 Hr9 Hb Hts]
  isplitr; · iexact Hctx
  isplitl [Hst]; · iexact Hst
  isplitl [Hs Hd Hl Hc]
  · iapply (st0_intro m d _ _)
    isplitl [Hs]; · iexact Hs
    isplitl [Hd]; · iexact Hd
    isplitl [Hl]; · iexact Hl
    iexact Hc
  iintro ⟨Hst, Hdn⟩
  ihave Hdn := (dn0_elim m d) $$ Hdn
  iapply ((K (F := F)).wp_run (D (F := F)) 𝒱 (EH := EH) (P := P m) κ d 1) $$ [Hst Hx1 Hx2 Hx3 Hx4 Hx5 Hx6 Hx7 Hx8 Hx9 He Hdn Ho1 Ho2 Ho3 Ho4 Ho5 Ho6 Ho7 Ho8 Ho9 Hr1 Hr2 Hr3 Hr4 Hr5 Hr6 Hr7 Hr8 Hr9 Hb Hts]
  isplitr; · iexact Hctx
  isplitl [Hst]; · iexact Hst
  isplitl [Hx1 Hdn Ho1]
  · iapply (st1_intro m d _)
    isplitl [Hx1]; · iexact Hx1
    isplitl [Hdn]; · iexact Hdn
    iexact Ho1
  iintro ⟨Hst, Hdn⟩
  ihave Hdn := (dn1_elim m d) $$ Hdn
  icases Hdn with ⟨Hx1, Hdn, Ho1⟩
  ihave Hp := (before1 m d) $$ [Ho1 Hr1]
  · isplitl [Ho1] <;> iassumption
  iapply (wp_hlo_within 𝒱 (SparseCore.T d) none Set.univ (op := op1) (S := {o1', r1'}) (Finset.Subset.refl _) (V := W1 m d)) $$ [Hb Hp]
  · isplitl [Hb] <;> iassumption
  iintro ⟨Hb, Hp⟩
  ihave Hr1 := (after1 m d) $$ Hp
  rw [wp_ret]; imodintro
  iapply ((K (F := F)).wp_run (D (F := F)) 𝒱 (EH := EH) (P := P m) κ d 2) $$ [Hst Hx1 Hx2 Hx3 Hx4 Hx5 Hx6 Hx7 Hx8 Hx9 He Hdn Ho2 Ho3 Ho4 Ho5 Ho6 Ho7 Ho8 Ho9 Hr1 Hr2 Hr3 Hr4 Hr5 Hr6 Hr7 Hr8 Hr9 Hb Hts]
  isplitr; · iexact Hctx
  isplitl [Hst]; · iexact Hst
  isplitl [Hx2 Hdn Ho2]
  · iapply (st2_intro m d _)
    isplitl [Hx2]; · iexact Hx2
    isplitl [Hdn]; · iexact Hdn
    iexact Ho2
  iintro ⟨Hst, Hdn⟩
  ihave Hdn := (dn2_elim m d) $$ Hdn
  icases Hdn with ⟨Hx2, Hdn, Ho2⟩
  ihave Hp := (before2 m d) $$ [Ho2 Hr2]
  · isplitl [Ho2] <;> iassumption
  iapply (wp_hlo_within 𝒱 (SparseCore.T d) none Set.univ (op := op2) (S := {o2', r2'}) (Finset.Subset.refl _) (V := W2 m d)) $$ [Hb Hp]
  · isplitl [Hb] <;> iassumption
  iintro ⟨Hb, Hp⟩
  ihave Hr2 := (after2 m d) $$ Hp
  rw [wp_ret]; imodintro
  iapply ((K (F := F)).wp_run (D (F := F)) 𝒱 (EH := EH) (P := P m) κ d 3) $$ [Hst Hx1 Hx2 Hx3 Hx4 Hx5 Hx6 Hx7 Hx8 Hx9 He Hdn Ho3 Ho4 Ho5 Ho6 Ho7 Ho8 Ho9 Hr1 Hr2 Hr3 Hr4 Hr5 Hr6 Hr7 Hr8 Hr9 Hb Hts]
  isplitr; · iexact Hctx
  isplitl [Hst]; · iexact Hst
  isplitl [Hx3 Hdn Ho3]
  · iapply (st3_intro m d _)
    isplitl [Hx3]; · iexact Hx3
    isplitl [Hdn]; · iexact Hdn
    iexact Ho3
  iintro ⟨Hst, Hdn⟩
  ihave Hdn := (dn3_elim m d) $$ Hdn
  icases Hdn with ⟨Hx3, Hdn, Ho3⟩
  ihave Hp := (before3 m d) $$ [Ho3 Hr3]
  · isplitl [Ho3] <;> iassumption
  iapply (wp_hlo_within 𝒱 (SparseCore.T d) none Set.univ (op := op3) (S := {o3', r3'}) (Finset.Subset.refl _) (V := W3 m d)) $$ [Hb Hp]
  · isplitl [Hb] <;> iassumption
  iintro ⟨Hb, Hp⟩
  ihave Hr3 := (after3 m d) $$ Hp
  rw [wp_ret]; imodintro
  iapply ((K (F := F)).wp_run (D (F := F)) 𝒱 (EH := EH) (P := P m) κ d 4) $$ [Hst Hx1 Hx2 Hx3 Hx4 Hx5 Hx6 Hx7 Hx8 Hx9 He Hdn Ho4 Ho5 Ho6 Ho7 Ho8 Ho9 Hr1 Hr2 Hr3 Hr4 Hr5 Hr6 Hr7 Hr8 Hr9 Hb Hts]
  isplitr; · iexact Hctx
  isplitl [Hst]; · iexact Hst
  isplitl [Hx4 Hdn Ho4]
  · iapply (st4_intro m d _)
    isplitl [Hx4]; · iexact Hx4
    isplitl [Hdn]; · iexact Hdn
    iexact Ho4
  iintro ⟨Hst, Hdn⟩
  ihave Hdn := (dn4_elim m d) $$ Hdn
  icases Hdn with ⟨Hx4, Hdn, Ho4⟩
  ihave Hp := (before4 m d) $$ [Ho4 Hr4]
  · isplitl [Ho4] <;> iassumption
  iapply (wp_hlo_within 𝒱 (SparseCore.T d) none Set.univ (op := op4) (S := {o4', r4'}) (Finset.Subset.refl _) (V := W4 m d)) $$ [Hb Hp]
  · isplitl [Hb] <;> iassumption
  iintro ⟨Hb, Hp⟩
  ihave Hr4 := (after4 m d) $$ Hp
  rw [wp_ret]; imodintro
  iapply ((K (F := F)).wp_run (D (F := F)) 𝒱 (EH := EH) (P := P m) κ d 5) $$ [Hst Hx1 Hx2 Hx3 Hx4 Hx5 Hx6 Hx7 Hx8 Hx9 He Hdn Ho5 Ho6 Ho7 Ho8 Ho9 Hr1 Hr2 Hr3 Hr4 Hr5 Hr6 Hr7 Hr8 Hr9 Hb Hts]
  isplitr; · iexact Hctx
  isplitl [Hst]; · iexact Hst
  isplitl [Hx5 Hdn Ho5]
  · iapply (st5_intro m d _)
    isplitl [Hx5]; · iexact Hx5
    isplitl [Hdn]; · iexact Hdn
    iexact Ho5
  iintro ⟨Hst, Hdn⟩
  ihave Hdn := (dn5_elim m d) $$ Hdn
  icases Hdn with ⟨Hx5, Hdn, Ho5⟩
  ihave Hp := (before5 m d) $$ [Ho5 Hr5]
  · isplitl [Ho5] <;> iassumption
  iapply (wp_hlo_within 𝒱 (SparseCore.T d) none Set.univ (op := op5) (S := {o5', r5'}) (Finset.Subset.refl _) (V := W5 m d)) $$ [Hb Hp]
  · isplitl [Hb] <;> iassumption
  iintro ⟨Hb, Hp⟩
  ihave Hr5 := (after5 m d) $$ Hp
  rw [wp_ret]; imodintro
  iapply ((K (F := F)).wp_run (D (F := F)) 𝒱 (EH := EH) (P := P m) κ d 6) $$ [Hst Hx1 Hx2 Hx3 Hx4 Hx5 Hx6 Hx7 Hx8 Hx9 He Hdn Ho6 Ho7 Ho8 Ho9 Hr1 Hr2 Hr3 Hr4 Hr5 Hr6 Hr7 Hr8 Hr9 Hb Hts]
  isplitr; · iexact Hctx
  isplitl [Hst]; · iexact Hst
  isplitl [Hx6 Hdn Ho6]
  · iapply (st6_intro m d _)
    isplitl [Hx6]; · iexact Hx6
    isplitl [Hdn]; · iexact Hdn
    iexact Ho6
  iintro ⟨Hst, Hdn⟩
  ihave Hdn := (dn6_elim m d) $$ Hdn
  icases Hdn with ⟨Hx6, Hdn, Ho6⟩
  ihave Hp := (before6 m d) $$ [Ho6 Hr6]
  · isplitl [Ho6] <;> iassumption
  iapply (wp_hlo_within 𝒱 (SparseCore.T d) none Set.univ (op := op6) (S := {o6', r6'}) (Finset.Subset.refl _) (V := W6 m d)) $$ [Hb Hp]
  · isplitl [Hb] <;> iassumption
  iintro ⟨Hb, Hp⟩
  ihave Hr6 := (after6 m d) $$ Hp
  rw [wp_ret]; imodintro
  iapply ((K (F := F)).wp_run (D (F := F)) 𝒱 (EH := EH) (P := P m) κ d 7) $$ [Hst Hx1 Hx2 Hx3 Hx4 Hx5 Hx6 Hx7 Hx8 Hx9 He Hdn Ho7 Ho8 Ho9 Hr1 Hr2 Hr3 Hr4 Hr5 Hr6 Hr7 Hr8 Hr9 Hb Hts]
  isplitr; · iexact Hctx
  isplitl [Hst]; · iexact Hst
  isplitl [Hx7 Hdn Ho7]
  · iapply (st7_intro m d _)
    isplitl [Hx7]; · iexact Hx7
    isplitl [Hdn]; · iexact Hdn
    iexact Ho7
  iintro ⟨Hst, Hdn⟩
  ihave Hdn := (dn7_elim m d) $$ Hdn
  icases Hdn with ⟨Hx7, Hdn, Ho7⟩
  ihave Hp := (before7 m d) $$ [Ho7 Hr7]
  · isplitl [Ho7] <;> iassumption
  iapply (wp_hlo_within 𝒱 (SparseCore.T d) none Set.univ (op := op7) (S := {o7', r7'}) (Finset.Subset.refl _) (V := W7 m d)) $$ [Hb Hp]
  · isplitl [Hb] <;> iassumption
  iintro ⟨Hb, Hp⟩
  ihave Hr7 := (after7 m d) $$ Hp
  rw [wp_ret]; imodintro
  iapply ((K (F := F)).wp_run (D (F := F)) 𝒱 (EH := EH) (P := P m) κ d 8) $$ [Hst Hx1 Hx2 Hx3 Hx4 Hx5 Hx6 Hx7 Hx8 Hx9 He Hdn Ho8 Ho9 Hr1 Hr2 Hr3 Hr4 Hr5 Hr6 Hr7 Hr8 Hr9 Hb Hts]
  isplitr; · iexact Hctx
  isplitl [Hst]; · iexact Hst
  isplitl [Hx8 Hdn Ho8]
  · iapply (st8_intro m d _)
    isplitl [Hx8]; · iexact Hx8
    isplitl [Hdn]; · iexact Hdn
    iexact Ho8
  iintro ⟨Hst, Hdn⟩
  ihave Hdn := (dn8_elim m d) $$ Hdn
  icases Hdn with ⟨Hx8, Hdn, Ho8⟩
  ihave Hp := (before8 m d) $$ [Ho8 Hr8]
  · isplitl [Ho8] <;> iassumption
  iapply (wp_hlo_within 𝒱 (SparseCore.T d) none Set.univ (op := op8) (S := {o8', r8'}) (Finset.Subset.refl _) (V := W8 m d)) $$ [Hb Hp]
  · isplitl [Hb] <;> iassumption
  iintro ⟨Hb, Hp⟩
  ihave Hr8 := (after8 m d) $$ Hp
  rw [wp_ret]; imodintro
  iapply ((K (F := F)).wp_run (D (F := F)) 𝒱 (EH := EH) (P := P m) κ d 9) $$ [Hst Hx1 Hx2 Hx3 Hx4 Hx5 Hx6 Hx7 Hx8 Hx9 He Hdn Ho9 Hr1 Hr2 Hr3 Hr4 Hr5 Hr6 Hr7 Hr8 Hr9 Hb Hts]
  isplitr; · iexact Hctx
  isplitl [Hst]; · iexact Hst
  isplitl [Hx9 Hdn Ho9]
  · iapply (st9_intro m d _)
    isplitl [Hx9]; · iexact Hx9
    isplitl [Hdn]; · iexact Hdn
    iexact Ho9
  iintro ⟨Hst, Hdn⟩
  ihave Hdn := (dn9_elim m d) $$ Hdn
  icases Hdn with ⟨Hx9, Hdn, Ho9⟩
  ihave Hp := (before9 m d) $$ [Ho9 Hr9]
  · isplitl [Ho9] <;> iassumption
  iapply (wp_hlo_within 𝒱 (SparseCore.T d) none Set.univ (op := op9) (S := {o9', r9'}) (Finset.Subset.refl _) (V := W9 m d)) $$ [Hb Hp]
  · isplitl [Hb] <;> iassumption
  iintro ⟨Hb, Hp⟩
  ihave Hr9 := (after9 m d) $$ Hp
  rw [wp_ret]; imodintro
  imodintro
  isplitl [Hst]; · iexact Hst
  isplitr [Hb Hts]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    iexact He
  isplitl [Hb] <;> iassumption

/-- What is read of device `d`'s final memory. -/
def Rd (d : Dev nD) (M : (ℓ : Loc nD τ sig) → Buf (Elt F) ℓ) : Prop :=
  (M (r1L d) = RES (OUT (As m d) (Ad m d) (m (x1L d))) ∧ M (r2L d) = RES (OUT (As m d) (Ad m d) (m (x2L d))) ∧ M (r3L d) = RES (OUT (As m d) (Ad m d) (m (x3L d))) ∧ M (r4L d) = RES (OUT (As m d) (Ad m d) (m (x4L d))) ∧ M (r5L d) = RES (OUT (As m d) (Ad m d) (m (x5L d))) ∧ M (r6L d) = RES (OUT (As m d) (Ad m d) (m (x6L d))) ∧ M (r7L d) = RES (OUT (As m d) (Ad m d) (m (x7L d))) ∧ M (r8L d) = RES (OUT (As m d) (Ad m d) (m (x8L d))) ∧ M (r9L d) = RES (OUT (As m d) (Ad m d) (m (x9L d))))
    ∧ M (x1L d) = m (x1L d) ∧ M (x2L d) = m (x2L d) ∧ M (x3L d) = m (x3L d) ∧ M (x4L d) = m (x4L d) ∧ M (x5L d) = m (x5L d) ∧ M (x6L d) = m (x6L d) ∧ M (x7L d) = m (x7L d) ∧ M (x8L d) = m (x8L d) ∧ M (x9L d) = m (x9L d) ∧ M (eL d) = m (eL d)

/-- What is read of device `d`'s final state. -/
def fq (d : Dev nD) (s' : Phys nD τ sig (Elt F)) : Prop := Rd m d s'.mem.mem

/-- What `@main` leaves says so of the final state. -/
theorem hfin (d : Dev nD) (s' : Phys nD τ sig (Elt F)) : iprop(FIN m d ∗ SI s') ⊢ (⌜fq m d s'⌝ : sProp 𝕄) := by
  iintro ⟨⟨Hr1, Hr2, Hr3, Hr4, Hr5, Hr6, Hr7, Hr8, Hr9, Hx1, Hx2, Hx3, Hx4, Hx5, Hx6, Hx7, Hx8, Hx9, He⟩, HSI⟩
  ihave H := (persistent_entails_right (SI_pointsTo_agree (st := s') (ℓ := r1L d) (I := Finset.univ) (q := fullShare) (f := RES (OUT (As m d) (Ad m d) (m (x1L d)))))) $$ [HSI Hr1]
  · isplitl [HSI] <;> iassumption
  icases H with ⟨%hr1, HSI, -⟩
  ihave H := (persistent_entails_right (SI_pointsTo_agree (st := s') (ℓ := r2L d) (I := Finset.univ) (q := fullShare) (f := RES (OUT (As m d) (Ad m d) (m (x2L d)))))) $$ [HSI Hr2]
  · isplitl [HSI] <;> iassumption
  icases H with ⟨%hr2, HSI, -⟩
  ihave H := (persistent_entails_right (SI_pointsTo_agree (st := s') (ℓ := r3L d) (I := Finset.univ) (q := fullShare) (f := RES (OUT (As m d) (Ad m d) (m (x3L d)))))) $$ [HSI Hr3]
  · isplitl [HSI] <;> iassumption
  icases H with ⟨%hr3, HSI, -⟩
  ihave H := (persistent_entails_right (SI_pointsTo_agree (st := s') (ℓ := r4L d) (I := Finset.univ) (q := fullShare) (f := RES (OUT (As m d) (Ad m d) (m (x4L d)))))) $$ [HSI Hr4]
  · isplitl [HSI] <;> iassumption
  icases H with ⟨%hr4, HSI, -⟩
  ihave H := (persistent_entails_right (SI_pointsTo_agree (st := s') (ℓ := r5L d) (I := Finset.univ) (q := fullShare) (f := RES (OUT (As m d) (Ad m d) (m (x5L d)))))) $$ [HSI Hr5]
  · isplitl [HSI] <;> iassumption
  icases H with ⟨%hr5, HSI, -⟩
  ihave H := (persistent_entails_right (SI_pointsTo_agree (st := s') (ℓ := r6L d) (I := Finset.univ) (q := fullShare) (f := RES (OUT (As m d) (Ad m d) (m (x6L d)))))) $$ [HSI Hr6]
  · isplitl [HSI] <;> iassumption
  icases H with ⟨%hr6, HSI, -⟩
  ihave H := (persistent_entails_right (SI_pointsTo_agree (st := s') (ℓ := r7L d) (I := Finset.univ) (q := fullShare) (f := RES (OUT (As m d) (Ad m d) (m (x7L d)))))) $$ [HSI Hr7]
  · isplitl [HSI] <;> iassumption
  icases H with ⟨%hr7, HSI, -⟩
  ihave H := (persistent_entails_right (SI_pointsTo_agree (st := s') (ℓ := r8L d) (I := Finset.univ) (q := fullShare) (f := RES (OUT (As m d) (Ad m d) (m (x8L d)))))) $$ [HSI Hr8]
  · isplitl [HSI] <;> iassumption
  icases H with ⟨%hr8, HSI, -⟩
  ihave H := (persistent_entails_right (SI_pointsTo_agree (st := s') (ℓ := r9L d) (I := Finset.univ) (q := fullShare) (f := RES (OUT (As m d) (Ad m d) (m (x9L d)))))) $$ [HSI Hr9]
  · isplitl [HSI] <;> iassumption
  icases H with ⟨%hr9, HSI, -⟩
  ihave H := (persistent_entails_right (SI_pointsTo_agree (st := s') (ℓ := x1L d) (I := Finset.univ) (q := fullShare) (f := m (x1L d)))) $$ [HSI Hx1]
  · isplitl [HSI] <;> iassumption
  icases H with ⟨%hx1, HSI, -⟩
  ihave H := (persistent_entails_right (SI_pointsTo_agree (st := s') (ℓ := x2L d) (I := Finset.univ) (q := fullShare) (f := m (x2L d)))) $$ [HSI Hx2]
  · isplitl [HSI] <;> iassumption
  icases H with ⟨%hx2, HSI, -⟩
  ihave H := (persistent_entails_right (SI_pointsTo_agree (st := s') (ℓ := x3L d) (I := Finset.univ) (q := fullShare) (f := m (x3L d)))) $$ [HSI Hx3]
  · isplitl [HSI] <;> iassumption
  icases H with ⟨%hx3, HSI, -⟩
  ihave H := (persistent_entails_right (SI_pointsTo_agree (st := s') (ℓ := x4L d) (I := Finset.univ) (q := fullShare) (f := m (x4L d)))) $$ [HSI Hx4]
  · isplitl [HSI] <;> iassumption
  icases H with ⟨%hx4, HSI, -⟩
  ihave H := (persistent_entails_right (SI_pointsTo_agree (st := s') (ℓ := x5L d) (I := Finset.univ) (q := fullShare) (f := m (x5L d)))) $$ [HSI Hx5]
  · isplitl [HSI] <;> iassumption
  icases H with ⟨%hx5, HSI, -⟩
  ihave H := (persistent_entails_right (SI_pointsTo_agree (st := s') (ℓ := x6L d) (I := Finset.univ) (q := fullShare) (f := m (x6L d)))) $$ [HSI Hx6]
  · isplitl [HSI] <;> iassumption
  icases H with ⟨%hx6, HSI, -⟩
  ihave H := (persistent_entails_right (SI_pointsTo_agree (st := s') (ℓ := x7L d) (I := Finset.univ) (q := fullShare) (f := m (x7L d)))) $$ [HSI Hx7]
  · isplitl [HSI] <;> iassumption
  icases H with ⟨%hx7, HSI, -⟩
  ihave H := (persistent_entails_right (SI_pointsTo_agree (st := s') (ℓ := x8L d) (I := Finset.univ) (q := fullShare) (f := m (x8L d)))) $$ [HSI Hx8]
  · isplitl [HSI] <;> iassumption
  icases H with ⟨%hx8, HSI, -⟩
  ihave H := (persistent_entails_right (SI_pointsTo_agree (st := s') (ℓ := x9L d) (I := Finset.univ) (q := fullShare) (f := m (x9L d)))) $$ [HSI Hx9]
  · isplitl [HSI] <;> iassumption
  icases H with ⟨%hx9, HSI, -⟩
  ihave H := (SI_pointsTo_agree (st := s') (ℓ := eL d) (I := Finset.univ) (q := fullShare) (f := m (eL d))) $$ [HSI He]
  · isplitl [HSI] <;> iassumption
  icases H with %he
  ipureintro
  exact ⟨⟨funext fun i => hr1 i (Finset.mem_univ i), funext fun i => hr2 i (Finset.mem_univ i), funext fun i => hr3 i (Finset.mem_univ i), funext fun i => hr4 i (Finset.mem_univ i), funext fun i => hr5 i (Finset.mem_univ i), funext fun i => hr6 i (Finset.mem_univ i), funext fun i => hr7 i (Finset.mem_univ i), funext fun i => hr8 i (Finset.mem_univ i), funext fun i => hr9 i (Finset.mem_univ i)⟩, funext fun i => hx1 i (Finset.mem_univ i), funext fun i => hx2 i (Finset.mem_univ i), funext fun i => hx3 i (Finset.mem_univ i), funext fun i => hx4 i (Finset.mem_univ i), funext fun i => hx5 i (Finset.mem_univ i), funext fun i => hx6 i (Finset.mem_univ i), funext fun i => hx7 i (Finset.mem_univ i), funext fun i => hx8 i (Finset.mem_univ i), funext fun i => hx9 i (Finset.mem_univ i), funext fun i => he i (Finset.mem_univ i)⟩

/-! ## The run -/

/-- What the run leaves. -/
def QC : PUnit × MemSt nD τ sig (Elt F) → Prop := fun r => (∀ c : Dev nD, Rd m c r.2.mem) ∧ r.2.sem = fun _ => 0

/-- The program runs, over any floats, and leaves the results. -/
theorem run_main [∀ e, Nonempty (Elt F e)] (hok : Ok m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq | 4 => nomatch hq | 5 => nomatch hq | 6 => nomatch hq | 7 => nomatch hq | 8 => nomatch hq | 9 => nomatch hq)
    (fun q _ => match q with | 0 => tileObl0 m hok | 1 => tileObl1 m hok | 2 => tileObl2 m hok | 3 => tileObl3 m hok | 4 => tileObl4 m hok | 5 => tileObl5 m hok | 6 => tileObl6 m hok | 7 => tileObl7 m hok | 8 => tileObl8 m hok | 9 => tileObl9 m hok)
    (fun q _ => match q with | 0 => SparseCore.Cfg.VecSplit.of_plain (vecSplit0 m) | 1 => SparseCore.Cfg.VecSplit.of_plain (vecSplit1 m) | 2 => SparseCore.Cfg.VecSplit.of_plain (vecSplit2 m) | 3 => SparseCore.Cfg.VecSplit.of_plain (vecSplit3 m) | 4 => SparseCore.Cfg.VecSplit.of_plain (vecSplit4 m) | 5 => SparseCore.Cfg.VecSplit.of_plain (vecSplit5 m) | 6 => SparseCore.Cfg.VecSplit.of_plain (vecSplit6 m) | 7 => SparseCore.Cfg.VecSplit.of_plain (vecSplit7 m) | 8 => SparseCore.Cfg.VecSplit.of_plain (vecSplit8 m) | 9 => SparseCore.Cfg.VecSplit.of_plain (vecSplit9 m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Aggregate.lean ====
/-
  A kernel's result is the reference's of the same array, over the extended reals: a worker's list, folded, is the fold over all the
  edges, and the two ways of finishing a node without edges agree where the rows are below infinity.
-/
module

public import Idealize.ShloMosaic.Lib.Pipeline.Value
public import proofs.«01_k».proof.Proof.Run
public import proofs.«01_k».proof.Proof.RefRun

@[expose] public section

noncomputable section

namespace Cert.Proof.Aggregate

open Cert.Proof.Lists Cert.Proof.Fold Cert.Proof.SegWords Cert.Proof.Tile
open Cert.Proof.Setup (wd wd_eq wd_lt)
open Cert.Proof.RefRun (rag RV)
open Idealize.ShloMosaic

/-! ## The fold over a list is the fold over the edges -/

/-- Both folds start from minus infinity. -/
theorem start_eq : (ninf (F := Ideal)) = FloatOps.ofBits .f32 0xFF800000#32 := by
  have h1 : (ninf (F := Ideal)) = (⊥ : EReal) := IdealRules.named_const.ideal_named_scalar _ _ _ _ rfl
  rw [h1]
  simp [Ideal.ofBits_def, Ideal.ofBits, Ideal.ieee]

/-- The next edge of a worker, taken out of its list's entry. -/
theorem ent_cnt (dE sE : ℕ → ℕ) (w k : ℕ) (h : Mt dE w k) : ent dE sE w (cnt dE w k) = (dE k - 313 * w) * 16384 + sE k := by
  have hl : cnt dE w k < tot dE w := by
    have h1 := cnt_succ dE w k
    rw [if_pos h] at h1
    have h2 := cnt_mono dE w (show k + 1 ≤ 320000 by have := h.1; omega)
    unfold tot; omega
  unfold ent
  rw [if_pos hl, lst_cnt dE sE w h]; rfl

/-- A node's bucket after its worker's entries for the first `k` edges is the reference's aggregate after those edges. -/
theorem agg_cnt (dE sE : ℕ → ℕ) (X : ℕ → ℕ → Ideal .f32) (w b c : ℕ) (hb : b < 313) (hs : ∀ e, e < 320000 → sE e < 10000)
    (k : ℕ) (hk : k ≤ 320000) : agg (ent dE sE w) X (cnt dE w k) b c = rag sE dE X k (313 * w + b) c := by
  induction k with
  | zero =>
    rw [cnt_zero]
    exact start_eq
  | succ k ih =>
    have ih := ih (by omega)
    rw [cnt_succ]
    by_cases hm : Mt dE w k
    · have he := ent_cnt dE sE w k hm
      have hs := hs k (by omega)
      have hq : ent dE sE w (cnt dE w k) / 16384 = dE k - 313 * w := by omega
      have hr : ent dE sE w (cnt dE w k) % 16384 = sE k := by omega
      rw [if_pos hm]
      show (if ent dE sE w (cnt dE w k) / 16384 = b then FloatOps.maximumf (agg (ent dE sE w) X (cnt dE w k) b c) (X (ent dE sE w (cnt dE w k) % 16384) c)
          else agg (ent dE sE w) X (cnt dE w k) b c)
        = if dE k = 313 * w + b then FloatOps.maximumf (rag sE dE X k (313 * w + b) c) (X (sE k) c) else rag sE dE X k (313 * w + b) c
      rw [hq, hr, ih]
      obtain ⟨-, h1, h2⟩ := hm
      by_cases hd : dE k = 313 * w + b
      · rw [if_pos hd, if_pos (by omega)]
      · rw [if_neg hd, if_neg (by omega)]
    · rw [if_neg hm, Nat.add_zero, ih]
      show _ = if dE k = 313 * w + b then FloatOps.maximumf (rag sE dE X k (313 * w + b) c) (X (sE k) c) else rag sE dE X k (313 * w + b) c
      rw [if_neg]
      intro hd
      exact hm ⟨by omega, by omega, by omega⟩

/-- The padding's bucket is behind the nodes'. -/
theorem pad_bucket (b : ℕ) (hb : b < 313) (e : ℕ) (he : e = 5128192) : e / 16384 ≠ b := by omega

/-- The padding's entries leave the nodes' buckets as they are. -/
theorem agg_pad (dE sE : ℕ → ℕ) (X : ℕ → ℕ → Ideal .f32) (w b c : ℕ) (hb : b < 313) (i : ℕ) :
    agg (ent dE sE w) X (tot dE w + i) b c = agg (ent dE sE w) X (tot dE w) b c := by
  induction i with
  | zero => rw [Nat.add_zero]
  | succ i ih =>
    have he : ent dE sE w (tot dE w + i) = 5128192 := by
      unfold ent; rw [if_neg (by omega)]
    rw [← Nat.add_assoc]
    show (if ent dE sE w (tot dE w + i) / 16384 = b then FloatOps.maximumf (agg (ent dE sE w) X (tot dE w + i) b c) (X (ent dE sE w (tot dE w + i) % 16384) c)
        else agg (ent dE sE w) X (tot dE w + i) b c) = _
    rw [if_neg (pad_bucket b hb _ he), ih]

/-- A node's bucket after its worker's whole padded list is the reference's aggregate after all the edges. -/
theorem agg_len (dE sE : ℕ → ℕ) (X : ℕ → ℕ → Ideal .f32) (w b c : ℕ) (hb : b < 313) (hs : ∀ e, e < 320000 → sE e < 10000) :
    agg (ent dE sE w) X (len dE w) b c = rag sE dE X 320000 (313 * w + b) c := by
  have hl : len dE w = tot dE w + (len dE w - tot dE w) := by unfold len; omega
  rw [hl, agg_pad dE sE X w b c hb]
  exact agg_cnt dE sE X w b c hb hs 320000 le_rfl

/-! ## The two ways to finish -/

/-- The reference's aggregate stays below infinity where the rows do. -/
theorem rag_lt_top (S T : ℕ → ℕ) (X : ℕ → ℕ → Ideal .f32) (hX : ∀ r c, X r c < (⊤ : EReal)) (k v c : ℕ) :
    rag S T X k v c < (⊤ : EReal) := by
  induction k with
  | zero =>
    show (FloatOps.ofBits .f32 0xFF800000#32 : Ideal .f32) < (⊤ : EReal)
    rw [← start_eq, show (ninf (F := Ideal)) = (⊥ : EReal) from IdealRules.named_const.ideal_named_scalar _ _ _ _ rfl]
    exact bot_lt_top
  | succ k ih =>
    show (if T k = v then FloatOps.maximumf (rag S T X k v c) (X (S k) c) else rag S T X k v c) < (⊤ : EReal)
    split
    · exact max_lt ih (hX _ _)
    · exact ih

/-- What the kernel finishes a value to. -/
theorem fin_val (v : Ideal .f32) : fin (F := Ideal) v = if (⊥ : EReal) < v then v else (FloatOps.ofBits .f32 0#32 : Ideal .f32) := by
  have h1 : fin (F := Ideal) v = if FloatOps.cmpf .ogt v (Named.named (F := Ideal) Cert.KernelIdeal.κ "low" 0xFCF0BDC2#32 : Ideal .f32) = 1 then v
      else (FloatOps.ofBits .f32 0#32 : Ideal .f32) := rfl
  have h2 : (Named.named (F := Ideal) Cert.KernelIdeal.κ "low" 0xFCF0BDC2#32 : Ideal .f32) = (⊥ : EReal) :=
    IdealRules.named_const.ideal_named_scalar _ _ _ _ rfl
  rw [h1, h2]
  have h3 : (FloatOps.cmpf .ogt v (⊥ : EReal) : BitVec 1) = BitVec.ofBool (decide ((⊥ : EReal) < v)) := rfl
  rw [h3]
  by_cases h : (⊥ : EReal) < v
  · rw [if_pos h, decide_eq_true h]; exact if_pos rfl
  · rw [if_neg h, decide_eq_false h]; exact if_neg (by decide)

/-- What the reference finishes a value to. -/
theorem ref_val (v : Ideal .f32) :
    (if FloatOps.cmpf .olt (FloatOps.hostAbsf v) (FloatOps.ofBits .f32 0x7F800000#32 : Ideal .f32) = 1#1 then v else (FloatOps.ofBits .f32 0#32 : Ideal .f32))
      = if max (v : EReal) (-v) < ⊤ then v else (FloatOps.ofBits .f32 0#32 : Ideal .f32) := by
  have h2 : (FloatOps.ofBits .f32 0x7F800000#32 : Ideal .f32) = (⊤ : EReal) := by
    simp [Ideal.ofBits_def, Ideal.ofBits, Ideal.ieee]
  rw [h2]
  have h3 : (FloatOps.cmpf .olt (FloatOps.hostAbsf v) (⊤ : EReal) : BitVec 1) = BitVec.ofBool (decide (max (v : EReal) (-v) < ⊤)) := rfl
  rw [h3]
  by_cases h : max (v : EReal) (-v) < ⊤
  · rw [if_pos h, decide_eq_true h]; exact if_pos rfl
  · rw [if_neg h, decide_eq_false h]; exact if_neg (by decide)

/-- Below infinity the two agree. -/
theorem fin_ref (v : Ideal .f32) (hv : v < (⊤ : EReal)) : fin (F := Ideal) v
    = if FloatOps.cmpf .olt (FloatOps.hostAbsf v) (FloatOps.ofBits .f32 0x7F800000#32 : Ideal .f32) = 1#1 then v else (FloatOps.ofBits .f32 0#32 : Ideal .f32) := by
  rw [fin_val, ref_val]
  by_cases h : (⊥ : EReal) < v
  · rw [if_pos h, if_pos]
    refine max_lt hv (lt_top_iff_ne_top.mpr fun e => ?_)
    exact h.ne' (EReal.neg_eq_top_iff.mp e)
  · have e : v = (⊥ : EReal) := le_bot_iff.mp (not_lt.mp h)
    rw [if_neg h, if_neg]
    rw [e]; simp

/-! ## The results -/

/-- The kernel's array, reshaped, is the reference's. -/
theorem result_eq (S T : Cert.KernelIdeal.S320000.Idx → BitVec 32) (X : Cert.KernelIdeal.S10000x128.Idx → Ideal .f32)
    (hS : ∀ j, (S j).toNat < 10000) (hX : ∀ j, X j < (⊤ : EReal))
    (h : Cert.KernelIdeal.S1280000.ShapeCasts Cert.KernelIdeal.S10000x128) :
    shapeCast Cert.KernelIdeal.S10000x128 (OUT S T X) h = RV S T X := by
  funext j
  have h0 : (j 0).val < 10000 := (j 0).isLt
  have h1 : (j 1).val < 128 := (j 1).isLt
  have hw : ∀ e, e < 320000 → wd S e < 10000 := fun e he => by
    unfold wd
    rw [dif_pos he]; exact hS _
  have hXF : ∀ r c, XF X r c < (⊤ : EReal) := fun r c => by
    unfold XF
    split <;> exact hX _
  let k : Cert.KernelIdeal.S1280000.Idx := Cert.Proof.Setup.ix (N := ![1280000]) ((j 0).val * 128 + (j 1).val) (by show _ < 1280000; omega)
  have hk0 : (k 0).val = (j 0).val * 128 + (j 1).val := rfl
  rw [shapeCast_apply (OUT S T X) h j k (by
    rw [Shape.rowMajor_val_one, Shape.rowMajor_val_two]; exact hk0)]
  unfold OUT RV
  rw [hk0]
  have e1 : ((j 0).val * 128 + (j 1).val) / 40064 = (j 0).val / 313 := by omega
  have e2 : ((j 0).val * 128 + (j 1).val) % 128 = (j 1).val := by omega
  have e3 : ((j 0).val * 128 + (j 1).val - 40064 * ((j 0).val / 313)) / 128 = (j 0).val % 313 := by omega
  have e4 : 313 * ((j 0).val / 313) + (j 0).val % 313 = (j 0).val := by omega
  rw [e1, e2, e3, agg_len (wd T) (wd S) (XF X) ((j 0).val / 313) ((j 0).val % 313) (j 1).val (by omega) hw, e4]
  exact fin_ref _ (rag_lt_top _ _ _ hXF _ _ _)

end Cert.Proof.Aggregate

end
-- ==== Proof.Dense.lean ====
/-
  What one layer's linear maps compute, index by index, over the extended reals: a product with a transposed matrix, read
  as a sum, in a kernel's block and in the reference's whole array.
-/
module

public import Idealize.ShloMosaic.Lib.MatmulPlain
public import Idealize.ShloMosaic.Lib.StackMember
public import Idealize.ShloMosaic.Lib.KernelVsHost
public import Idealize.ShloMosaic.Lib.ValueLayout
public import Idealize.ShloMosaic.Lib.ValueIdx
public import Idealize.ShloMosaic.Lib.IdealHost
public import Idealize.ShloMosaic.Lib.Pipeline.Value

@[expose] public section

noncomputable section

namespace Cert.Proof.Dense

open Idealize.ShloMosaic Idealize.ShloMosaic.ValueIdx
open scoped BigOperators

/-- A matrix of extended reals. -/
abbrev Mat (a b : ℕ) : Type := FVec Ideal ⟨2, ![a, b]⟩ .f32

/-- Row `r` of a matrix times row `c` of another. -/
def dot {a b n : ℕ} (X : Mat a n) (Y : Mat b n) (r : Fin a) (c : Fin b) : EReal := ∑ k : Fin n, X (ix2 r k) * Y (ix2 c k)

/-- A block's product with a transposed matrix, onto zero, at an index. -/
theorem block_at {a b n : ℕ} (X : Mat a n) (Y : Mat b n) (r : Fin a) (c : Fin b) :
    matmul (F := Ideal) (DotDims.transposedRhs a n b) none X Y (constant ⟨2, ![a, b]⟩ .f32 0x00000000#32) (ix2 r c) = dot X Y r c := by
  show FloatOps.matmul (DotDims.transposedRhs a n b) none X Y _ (ix2 r c) = _
  rw [Ideal.matmul_transposedRhs_apply]
  rw [show (constant ⟨2, ![a, b]⟩ .f32 0x00000000#32 : Mat a b) (ix2 r c) = (0 : EReal) from Ideal.ofBits_zero_f32, zero_add]
  rfl

/-- The transpose of a matrix at an index. -/
theorem transpose_at {a b : ℕ} (Y : Mat a b) (h : Shape.Transposes ⟨2, ![a, b]⟩ [1, 0] ⟨2, ![b, a]⟩) (k : Fin b) (c : Fin a) :
    transpose ⟨2, ![b, a]⟩ [1, 0] Y h (ix2 k c) = Y (ix2 c k) :=
  transpose_apply _ Y h _ _ fun x => match x with | ⟨0, _⟩ => rfl | ⟨1, _⟩ => rfl

/-- The reference's product with the transpose of a matrix, at an index. -/
theorem host_at {a b n : ℕ} (X : Mat a n) (Y : Mat b n) (h : Shape.Transposes ⟨2, ![b, n]⟩ [1, 0] ⟨2, ![n, b]⟩) (r : Fin a) (c : Fin b) :
    Host.dotGeneral (DotDims.plain a n b) none X (transpose ⟨2, ![n, b]⟩ [1, 0] Y h) (ix2 r c) = dot X Y r c := by
  rw [StackMember.dotGeneral_plain_apply]
  exact Finset.sum_congr rfl fun k _ => by rw [transpose_at]

/-- The reference's bias, a vector spread over the rows, at an index. -/
theorem bias_at {a b : ℕ} (v : FVec Ideal ⟨1, ![b]⟩ .f32) (h : (⟨1, ![b]⟩ : Shape).BroadcastsInDim ⟨2, ![1, b]⟩ ![1])
    (h' : (⟨2, ![1, b]⟩ : Shape).BroadcastsInDim ⟨2, ![a, b]⟩ ![0, 1]) (r : Fin a) (c : Fin b) :
    broadcastInDim ⟨2, ![a, b]⟩ ![0, 1] h' (broadcastInDim ⟨2, ![1, b]⟩ ![1] h v) (ix2 r c) = v (ix1 c) := by
  rw [broadcastInDim_oneRow_apply]
  refine broadcastInDim_apply ![1] h v _ _ fun x => ?_
  match x with
  | ⟨0, _⟩ =>
    show c.val = if b = 1 then 0 else c.val
    split
    · have := c.isLt; omega
    · rfl

/-- The kernel's bias, a vector as one row, at an index. -/
theorem row_at {b : ℕ} (v : FVec Ideal ⟨1, ![b]⟩ .f32) (h : (⟨1, ![b]⟩ : Shape).ShapeCasts ⟨2, ![1, b]⟩) (c : Fin b) :
    shapeCast ⟨2, ![1, b]⟩ v h (ix2 (0 : Fin 1) c) = v (ix1 c) := by
  refine shapeCast_apply v h _ _ ?_
  rw [Shape.rowMajor_val_one, Shape.rowMajor_val_two]
  show c.val = 0 * b + c.val
  omega

/-- The left half of a matrix's columns. -/
def left (W : Mat 128 256) : Mat 128 128 := fun i => W (ix2 (i 0) (Fin.castAdd 128 (i 1)))
/-- The right half of a matrix's columns. -/
def right (W : Mat 128 256) : Mat 128 128 := fun i => W (ix2 (i 0) (Fin.natAdd 128 (i 1)))

/-- Two arrays side by side times a matrix: each times its half of the columns. -/
theorem dot_pair {a : ℕ} (X Y : Mat a 128) (W : Mat 128 256) (h : Shape.Concatenates [⟨2, ![a, 128]⟩, ⟨2, ![a, 128]⟩] ⟨2, ![a, 256]⟩ 1) (r : Fin a) (c : Fin 128) :
    dot (concatenate ⟨2, ![a, 256]⟩ 1 [⟨⟨2, ![a, 128]⟩, X⟩, ⟨⟨2, ![a, 128]⟩, Y⟩] h) W r c = dot X (left W) r c + dot Y (right W) r c := by
  refine (Fin.sum_univ_add (a := 128) (b := 128) _).trans ?_
  refine congrArg₂ (· + ·) (Finset.sum_congr rfl fun k _ => congrArg₂ (· * ·) ?_ rfl) (Finset.sum_congr rfl fun k _ => congrArg₂ (· * ·) ?_ rfl)
  · exact concatenate_pair_apply_left 1 X Y h (ix2 r (Fin.castAdd 128 k)) rfl (ix2 r k) fun b => match b with | ⟨0, _⟩ => rfl | ⟨1, _⟩ => rfl
  · refine concatenate_pair_apply_right 1 X Y h (ix2 r (Fin.natAdd 128 k)) rfl rfl (ix2 r k) (fun b hb => ?_) ?_
    · match b, hb with
      | ⟨0, _⟩, _ => rfl
      | ⟨1, _⟩, hb => exact absurd rfl hb
    · show k.val + 128 = 128 + k.val
      omega

end Cert.Proof.Dense

end
-- ==== Proof.LayerValue.lean ====
/-
  One layer's linear maps, from the aggregate and the layer's input: what one block of 2000 rows computes, what the sums
  over the rows hold after each block, what the arrays hold after the grid, what the reference computes.
-/
module

public import proofs.«01_k».proof.Proof.Gen.LayerIdeal.Value
public import proofs.«01_k».proof.Proof.Gen.LayerReferenceIdeal.Run
public import proofs.«01_k».proof.Proof.Dense
public import Idealize.ShloMosaic.Lib.Pointwise.Reduce
public import Idealize.ShloMosaic.Lib.Tactic

@[expose] public section

noncomputable section

namespace Cert.Proof.Layer

open Idealize.ShloMosaic hiding ix1 ix2 eq_ix2
open Idealize.ShloMosaic.TcCoe Idealize.ShloMosaic.ValueIdx Idealize.SL.Sem
open Cert.LayerIdeal Cert.LayerIdeal.Gen Cert.Proof.Dense
open scoped BigOperators

theorem zeros : (![0, 0] : Fin 2 → Nat) = fun _ => 0 := funext fun a => by fin_cases a <;> rfl

section Pieces

variable {F : FTy → Type} [FloatOps F]

/-- What the first point stores as its block. -/
theorem out_A_5 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S2000x128 .f32) (x2 x3 : Vec F S128x128 .f32) (x4 : Vec F S1x128 .f32) :
    out0_A_5 c i a1 h1 a2 h2 a3 h3 a4 h4 a5 h5 a6 h6 a7 h7 a8 h8 hc x0 x1 x2 x3 x4 = k0_pay1 x0 x2 x1 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero zeros]
  simp only [View.readAt_eq_ld, h1.read_unread, h2.read_unread, h3.read_unread, h4.read_unread, h5.read_unread, View.ld_unit_zero (S := S2000x128) zeros, View.ld_unit_zero (S := S128x128) zeros, View.ld_unit_zero (S := S1x128) zeros]

/-- What the first point leaves as the sums. -/
theorem out_A_6 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S2000x128 .f32) (x2 x3 : Vec F S128x128 .f32) (x4 : Vec F S1x128 .f32) :
    out0_A_6 c i a1 h1 a2 h2 a3 h3 a4 h4 a5 h5 a6 h6 a7 h7 a8 h8 hc x0 x1 x2 x3 x4 = k0_pay4 x0 x2 x1 x3 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) zeros, View.readCov_unit_zero (S := S1x128) _ zeros]
  simp only [View.readAt_eq_ld, h1.read_unread, h2.read_unread, h3.read_unread, h4.read_unread, h5.read_unread, View.ld_unit_zero (S := S2000x128) zeros, View.ld_unit_zero (S := S128x128) zeros, View.ld_unit_zero (S := S1x128) zeros]

/-- What the first point leaves as the sums of squares. -/
theorem out_A_7 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S2000x128 .f32) (x2 x3 : Vec F S128x128 .f32) (x4 : Vec F S1x128 .f32) :
    out0_A_7 c i a1 h1 a2 h2 a3 h3 a4 h4 a5 h5 a6 h6 a7 h7 a8 h8 hc x0 x1 x2 x3 x4 = k0_pay5 x0 x2 x1 x3 x4 k0_pay3 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) zeros, View.readCov_unit_zero (S := S1x128) _ zeros]
  simp only [View.readAt_eq_ld, h1.read_unread, h2.read_unread, h3.read_unread, h4.read_unread, h5.read_unread, View.ld_unit_zero (S := S2000x128) zeros, View.ld_unit_zero (S := S128x128) zeros, View.ld_unit_zero (S := S1x128) zeros]

/-- What a later point stores as its block. -/
theorem out_B_5 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S2000x128 .f32) (x2 x3 : Vec F S128x128 .f32) (x4 : Vec F S1x128 .f32) (y6 y7 : Vec F S1x128 .f32) :
    out0_B_5 c i a1 h1 a2 h2 a3 h3 a4 h4 a5 h5 a6 h6 a7 h7 a8 h8 hc x0 x1 x2 x3 x4 y6 y7 = k0_pay1 x0 x2 x1 x3 x4 := by
  unfold out0_B_5
  rw [View.read_writes_eq_canon _ _ _ (cover0_B_5 c i a1 h1 a2 h2 a3 h3 a4 h4 a5 h5 a6 h6 a7 h7 a8 h8 hc x0 x1 x2 x3 x4 y6 y7)]
  unfold kernelRun0_B
  dsimp only
  sl_unfold_words
  rw [View.canon_unit_zero zeros]
  simp only [View.readAt_eq_ld, h1.read_unread, h2.read_unread, h3.read_unread, h4.read_unread, h5.read_unread, View.ld_unit_zero (S := S2000x128) zeros, View.ld_unit_zero (S := S128x128) zeros, View.ld_unit_zero (S := S1x128) zeros]

/-- What a later point leaves as the sums. -/
theorem out_B_6 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S2000x128 .f32) (x2 x3 : Vec F S128x128 .f32) (x4 : Vec F S1x128 .f32) (y6 y7 : Vec F S1x128 .f32) :
    out0_B_6 c i a1 h1 a2 h2 a3 h3 a4 h4 a5 h5 a6 h6 a7 h7 a8 h8 hc x0 x1 x2 x3 x4 y6 y7 = k0_pay4 x0 x2 x1 x3 x4 y6 := by
  unfold out0_B_6
  rw [View.read_writes_eq_canon _ _ _ (cover0_B_6 c i a1 h1 a2 h2 a3 h3 a4 h4 a5 h5 a6 h6 a7 h7 a8 h8 hc x0 x1 x2 x3 x4 y6 y7)]
  unfold kernelRun0_B
  dsimp only
  sl_unfold_words
  rw [View.canon_unit_zero zeros]
  simp only [View.readAt_eq_ld, h1.read_unread, h2.read_unread, h3.read_unread, h4.read_unread, h5.read_unread, h7.read_unread, View.ld_unit_zero (S := S2000x128) zeros, View.ld_unit_zero (S := S128x128) zeros, View.ld_unit_zero (S := S1x128) zeros]

/-- What a later point leaves as the sums of squares. -/
theorem out_B_7 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S2000x128 .f32) (x2 x3 : Vec F S128x128 .f32) (x4 : Vec F S1x128 .f32) (y6 y7 : Vec F S1x128 .f32) :
    out0_B_7 c i a1 h1 a2 h2 a3 h3 a4 h4 a5 h5 a6 h6 a7 h7 a8 h8 hc x0 x1 x2 x3 x4 y6 y7 = k0_pay5 x0 x2 x1 x3 x4 y7 := by
  unfold out0_B_7
  rw [View.read_writes_eq_canon _ _ _ (cover0_B_7 c i a1 h1 a2 h2 a3 h3 a4 h4 a5 h5 a6 h6 a7 h7 a8 h8 hc x0 x1 x2 x3 x4 y6 y7)]
  unfold kernelRun0_B
  dsimp only
  sl_unfold_words
  rw [View.canon_unit_zero zeros]
  simp only [View.readAt_eq_ld, h1.read_unread, h2.read_unread, h3.read_unread, h4.read_unread, h5.read_unread, h8.read_unread, View.ld_unit_zero (S := S2000x128) zeros, View.ld_unit_zero (S := S128x128) zeros, View.ld_unit_zero (S := S1x128) zeros]

end Pieces

/-- A layer's output at a row and a column: the two products and the bias. -/
def at' (A H : Mat 10000 128) (Wl Wr : Mat 128 128) (b : FVec Ideal ⟨1, ![128]⟩ .f32) (r : Fin 10000) (c : Fin 128) : EReal :=
  dot A Wl r c + dot H Wr r c + b (ix1 c)

/-- What the body stores, at a row and a column of the block. -/
theorem pay1_at (v0 : Mat 2000 128) (v1 : Mat 128 128) (v3 : Mat 2000 128) (v4 : Mat 128 128) (v7 : Mat 1 128) (r : Fin 2000) (c : Fin 128) :
    k0_pay1 (F := Ideal) v0 v1 v3 v4 v7 (ix2 r c) = dot v0 v1 r c + dot v3 v4 r c + v7 (ix2 (0 : Fin 1) c) := by
  rw [← block_at v0 v1, ← block_at v3 v4, ← broadcastTo_1b_ab_apply v7 broadcasts_S1x128_S2000x128 r c]
  simp only [k0_pay1, shapeCast_self]
  rfl

/-- A block's sum over its rows, as one row, at a column. -/
theorem rows_at (x : Mat 2000 128) (k : Fin 128) :
    shapeCast S1x128 (multiReduction (F := Ideal) .add [0] S128 x 0x00000000#32 reduces_S2000x128_S128 (.inl rfl) rfl) shapeCasts_S128_S1x128 (ix2 (0 : Fin 1) k)
      = ∑ r : Fin 2000, x (ix2 r k) := by
  rw [row_at]
  exact Ideal.reduceAdd_r2_a0 reduces_S2000x128_S128 x (ix1 k)

/-- What the body adds to the sums. -/
theorem pay4_at (v0 : Mat 2000 128) (v1 : Mat 128 128) (v3 : Mat 2000 128) (v4 : Mat 128 128) (v7 v15 : Mat 1 128) (k : Fin 128) :
    k0_pay4 (F := Ideal) v0 v1 v3 v4 v7 v15 (ix2 (0 : Fin 1) k) = v15 (ix2 (0 : Fin 1) k) + ∑ r : Fin 2000, k0_pay1 (F := Ideal) v0 v1 v3 v4 v7 (ix2 r k) := by
  rw [← rows_at]
  simp only [k0_pay4, shapeCast_self]
  rfl

/-- What the body adds to the sums of squares. -/
theorem pay5_at (v0 : Mat 2000 128) (v1 : Mat 128 128) (v3 : Mat 2000 128) (v4 : Mat 128 128) (v7 v21 : Mat 1 128) (k : Fin 128) :
    k0_pay5 (F := Ideal) v0 v1 v3 v4 v7 v21 (ix2 (0 : Fin 1) k) = v21 (ix2 (0 : Fin 1) k)
      + ∑ r : Fin 2000, k0_pay1 (F := Ideal) v0 v1 v3 v4 v7 (ix2 r k) * k0_pay1 (F := Ideal) v0 v1 v3 v4 v7 (ix2 r k) := by
  refine Eq.trans ?_ (congrArg (v21 (ix2 (0 : Fin 1) k) + ·) (rows_at (mulf (k0_pay1 (F := Ideal) v0 v1 v3 v4 v7) (k0_pay1 (F := Ideal) v0 v1 v3 v4 v7)) k))
  simp only [k0_pay5, shapeCast_self]
  rfl

variable (m : (ℓ : Loc nD τ sig) → Buf (Elt Ideal) ℓ)

/-- Point `t`'s blocks of the row arrays start at row 2000 t; the weights, the bias and the sums are whole. -/
theorem at_rows : ∀ t : Fin cfg0.N, (win0_0.index t 0 = t.val ∧ win0_0.index t 1 = 0) ∧ (win0_1.index t 0 = t.val ∧ win0_1.index t 1 = 0)
    ∧ (win0_5.index t 0 = t.val ∧ win0_5.index t 1 = 0) :=
  (by decide +kernel : ∀ t : Fin grid0.N, (win0_0.index t 0 = t.val ∧ win0_0.index t 1 = 0) ∧ (win0_1.index t 0 = t.val ∧ win0_1.index t 1 = 0)
    ∧ (win0_5.index t 0 = t.val ∧ win0_5.index t 1 = 0))

theorem at_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_6.index t 0 = 0 ∧ win0_6.index t 1 = 0) ∧ (win0_7.index t 0 = 0 ∧ win0_7.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_6.index t 0 = 0 ∧ win0_6.index t 1 = 0) ∧ (win0_7.index t 0 = 0 ∧ win0_7.index t 1 = 0))

theorem N5 : cfg0.N = 5 := (by decide +kernel : grid0.N = 5)
theorem lt5 (t : Fin cfg0.N) : t.val < 5 := Nat.lt_of_lt_of_eq t.isLt N5

/-- Row `r` of point `t`'s block, as a row of the array. -/
def rowOf (t : Fin cfg0.N) (r : Fin 2000) : Fin 10000 := ⟨t.val * 2000 + r.val, by have := lt5 t; omega⟩

/-- The aggregate's block. -/
theorem blk0 (c : Dev nD) (t : Fin cfg0.N) (r : Fin 2000) (k : Fin 128) :
    iblk m c 0 t (ix2 r k) = m ((c : Thread nD τ).loc main_arg0) (ix2 (rowOf t r) k) := by
  rw [← V_main_arg0 m c]
  obtain ⟨h, h'⟩ := (at_rows t).1
  refine congrArg (V m c main_arg0) (funext fun a => Fin.ext ?_)
  match a with
  | ⟨0, _⟩ => show win0_0.index t 0 * 2000 + 1 * r.val = t.val * 2000 + r.val; rw [h]; omega
  | ⟨1, _⟩ => show win0_0.index t 1 * 128 + 1 * k.val = k.val; rw [h']; omega

/-- The block of the layer's input. -/
theorem blk1 (c : Dev nD) (t : Fin cfg0.N) (r : Fin 2000) (k : Fin 128) :
    iblk m c 1 t (ix2 r k) = m ((c : Thread nD τ).loc main_arg1) (ix2 (rowOf t r) k) := by
  rw [← V_main_arg1 m c]
  obtain ⟨h, h'⟩ := (at_rows t).2.1
  refine congrArg (V m c main_arg1) (funext fun a => Fin.ext ?_)
  match a with
  | ⟨0, _⟩ => show win0_1.index t 0 * 2000 + 1 * r.val = t.val * 2000 + r.val; rw [h]; omega
  | ⟨1, _⟩ => show win0_1.index t 1 * 128 + 1 * k.val = k.val; rw [h']; omega

/-- The left weights' block is the whole of them. -/
theorem blk2 (c : Dev nD) (t : Fin cfg0.N) : iblk m c 2 t = m ((c : Thread nD τ).loc main_arg2) := by
  rw [← V_main_arg2 m c]
  obtain ⟨h, h'⟩ := (at_whole t).1
  funext i
  refine congrArg (V m c main_arg2) (funext fun a => Fin.ext ?_)
  match a with
  | ⟨0, _⟩ => show win0_2.index t 0 * 128 + 1 * (i 0).val = (i 0).val; rw [h]; omega
  | ⟨1, _⟩ => show win0_2.index t 1 * 128 + 1 * (i 1).val = (i 1).val; rw [h']; omega

/-- The right weights' block is the whole of them. -/
theorem blk3 (c : Dev nD) (t : Fin cfg0.N) : iblk m c 3 t = m ((c : Thread nD τ).loc main_arg4) := by
  rw [← V_main_arg4 m c]
  obtain ⟨h, h'⟩ := (at_whole t).2.1
  funext i
  refine congrArg (V m c main_arg4) (funext fun a => Fin.ext ?_)
  match a with
  | ⟨0, _⟩ => show win0_3.index t 0 * 128 + 1 * (i 0).val = (i 0).val; rw [h]; omega
  | ⟨1, _⟩ => show win0_3.index t 1 * 128 + 1 * (i 1).val = (i 1).val; rw [h']; omega

/-- The bias as one row. -/
theorem V_v0 (c : Dev nD) : V m c main_v0 = shapeCast S1x128 (m ((c : Thread nD τ).loc main_arg3)) shapeCasts_S128_S1x128 := by
  show StableHlo.after hostOps0 (fun b => m (c, b)) main_v0 = _
  after_results
  rfl

/-- The bias's block, at a column. -/
theorem blk4 (c : Dev nD) (t : Fin cfg0.N) (k : Fin 128) : iblk m c 4 t (ix2 (0 : Fin 1) k) = m ((c : Thread nD τ).loc main_arg3) (ix1 k) := by
  refine Eq.trans ?_ (row_at (m ((c : Thread nD τ).loc main_arg3)) shapeCasts_S128_S1x128 k)
  rw [← V_v0]
  obtain ⟨h, h'⟩ := (at_whole t).2.2.1
  refine congrArg (V m c main_v0) (funext fun a => Fin.ext ?_)
  match a with
  | ⟨0, _⟩ => show win0_4.index t 0 * 1 + 1 * 0 = 0; rw [h]
  | ⟨1, _⟩ => show win0_4.index t 1 * 128 + 1 * k.val = k.val; rw [h']; omega

/-- The layer's output, from the launch's arrays, at a row and a column. -/
def goalAt (c : Dev nD) (r : Fin 10000) (k : Fin 128) : EReal :=
  at' (m ((c : Thread nD τ).loc main_arg0)) (m ((c : Thread nD τ).loc main_arg1)) (m ((c : Thread nD τ).loc main_arg2))
    (m ((c : Thread nD τ).loc main_arg4)) (m ((c : Thread nD τ).loc main_arg3)) r k

/-- The block of the layer's output that point `t` computes. -/
def block (c : Dev nD) (t : Fin cfg0.N) : Mat 2000 128 := k0_pay1 (F := Ideal) (iblk m c 0 t) (iblk m c 2 t) (iblk m c 1 t) (iblk m c 3 t) (iblk m c 4 t)

/-- It is that block of the layer's output. -/
theorem block_eq (c : Dev nD) (t : Fin cfg0.N) (r : Fin 2000) (k : Fin 128) : block m c t (ix2 r k) = goalAt m c (rowOf t r) k := by
  refine (pay1_at (iblk m c 0 t) (iblk m c 2 t) (iblk m c 1 t) (iblk m c 3 t) (iblk m c 4 t) r k).trans ?_
  rw [blk2, blk3, blk4]
  have e0 : ∀ W : Mat 128 128, dot (iblk m c 0 t) W r k = dot (m ((c : Thread nD τ).loc main_arg0)) W (rowOf t r) k := fun W =>
    Finset.sum_congr rfl fun j _ => by rw [blk0]
  have e1 : ∀ W : Mat 128 128, dot (iblk m c 1 t) W r k = dot (m ((c : Thread nD τ).loc main_arg1)) W (rowOf t r) k := fun W =>
    Finset.sum_congr rfl fun j _ => by rw [blk1]
  rw [e0, e1]
  rfl

/-- What the first point leaves as the sums. -/
theorem first6 (c : Dev nD) (t : Fin cfg0.N) (h0 : t.val % 5 = 0) : (outsAt0 m c t.val t.isLt).2.1
    = k0_pay4 (F := Ideal) (iblk m c 0 t) (iblk m c 2 t) (iblk m c 1 t) (iblk m c 3 t) (iblk m c 4 t) (k0_pay2 (F := Ideal)) := by
  rw [outsAt0_A m c t h0]
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)

/-- And a later point. -/
theorem later6 (c : Dev nD) (t : Fin cfg0.N) (h0 : ¬t.val % 5 = 0) : (outsAt0 m c t.val t.isLt).2.1
    = k0_pay4 (F := Ideal) (iblk m c 0 t) (iblk m c 2 t) (iblk m c 1 t) (iblk m c 3 t) (iblk m c 4 t)
      (outsAt0 m c (t.val - 1) (Nat.lt_of_le_of_lt (Nat.sub_le _ _) t.isLt)).2.1 := by
  rw [outsAt0_B m c t h0]
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2

/-- What the first point leaves as the sums of squares. -/
theorem first7 (c : Dev nD) (t : Fin cfg0.N) (h0 : t.val % 5 = 0) : (outsAt0 m c t.val t.isLt).2.2
    = k0_pay5 (F := Ideal) (iblk m c 0 t) (iblk m c 2 t) (iblk m c 1 t) (iblk m c 3 t) (iblk m c 4 t) (k0_pay3 (F := Ideal)) := by
  rw [outsAt0_A m c t h0]
  exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)

/-- And a later point. -/
theorem later7 (c : Dev nD) (t : Fin cfg0.N) (h0 : ¬t.val % 5 = 0) : (outsAt0 m c t.val t.isLt).2.2
    = k0_pay5 (F := Ideal) (iblk m c 0 t) (iblk m c 2 t) (iblk m c 1 t) (iblk m c 3 t) (iblk m c 4 t)
      (outsAt0 m c (t.val - 1) (Nat.lt_of_le_of_lt (Nat.sub_le _ _) t.isLt)).2.2 := by
  rw [outsAt0_B m c t h0]
  exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2

/-- A row's entry, read at any number: zero past the array. -/
def ext (f : Fin 10000 → EReal) (j : ℕ) : EReal := if h : j < 10000 then f ⟨j, h⟩ else 0

theorem ext_rowOf (f : Fin 10000 → EReal) (t : Fin cfg0.N) (r : Fin 2000) : ext f (t.val * 2000 + r.val) = f (rowOf t r) :=
  dif_pos (rowOf t r).isLt

/-- The sum over the first rows, one block further. -/
theorem sum_step (f : Fin 10000 → EReal) (t : Fin cfg0.N) :
    (∑ j ∈ Finset.range (t.val * 2000), ext f j) + ∑ r : Fin 2000, f (rowOf t r) = ∑ j ∈ Finset.range ((t.val + 1) * 2000), ext f j := by
  rw [Nat.add_mul, Nat.one_mul, Finset.sum_range_add, Finset.sum_range (fun x => ext f (t.val * 2000 + x))]
  exact congrArg (_ + ·) (Finset.sum_congr rfl fun r _ => (ext_rowOf f t r).symm)

theorem sum_whole (f : Fin 10000 → EReal) : ∑ j ∈ Finset.range 10000, ext f j = ∑ r : Fin 10000, f r := by
  rw [Finset.sum_range]
  exact Finset.sum_congr rfl fun r _ => dif_pos r.isLt

/-- The sums after each point: over the rows of the blocks so far. -/
theorem outs6 (c : Dev nD) (k : Fin 128) : ∀ (n : ℕ) (h : n < cfg0.N),
    (outsAt0 m c n h).2.1 (ix2 (0 : Fin 1) k) = ∑ j ∈ Finset.range ((n + 1) * 2000), ext (fun r => goalAt m c r k) j
  | 0, h => by
    rw [← sum_step (fun r => goalAt m c r k) ⟨0, h⟩]
    refine (congrFun (first6 m c ⟨0, h⟩ rfl) _).trans ((pay4_at ..).trans (congrArg₂ (· + ·) ?_ (Finset.sum_congr rfl fun r _ => block_eq m c ⟨0, h⟩ r k)))
    refine (Ideal.ofBits_zero_f32).trans ?_
    simp
  | n + 1, h => by
    have hB : ¬(⟨n + 1, h⟩ : Fin cfg0.N).val % 5 = 0 := by have := N5; dsimp only; omega
    rw [← sum_step (fun r => goalAt m c r k) ⟨n + 1, h⟩]
    refine (congrFun (later6 m c ⟨n + 1, h⟩ hB) _).trans ((pay4_at ..).trans (congrArg₂ (· + ·) ?_ (Finset.sum_congr rfl fun r _ => block_eq m c ⟨n + 1, h⟩ r k)))
    exact outs6 c k n (Nat.lt_of_succ_lt h)

/-- And the sums of squares. -/
theorem outs7 (c : Dev nD) (k : Fin 128) : ∀ (n : ℕ) (h : n < cfg0.N),
    (outsAt0 m c n h).2.2 (ix2 (0 : Fin 1) k) = ∑ j ∈ Finset.range ((n + 1) * 2000), ext (fun r => goalAt m c r k * goalAt m c r k) j
  | 0, h => by
    rw [← sum_step (fun r => goalAt m c r k * goalAt m c r k) ⟨0, h⟩]
    refine (congrFun (first7 m c ⟨0, h⟩ rfl) _).trans ((pay5_at ..).trans (congrArg₂ (· + ·) ?_ (Finset.sum_congr rfl fun r _ =>
      congrArg₂ (· * ·) (block_eq m c ⟨0, h⟩ r k) (block_eq m c ⟨0, h⟩ r k))))
    refine (Ideal.ofBits_zero_f32).trans ?_
    simp
  | n + 1, h => by
    have hB : ¬(⟨n + 1, h⟩ : Fin cfg0.N).val % 5 = 0 := by have := N5; dsimp only; omega
    rw [← sum_step (fun r => goalAt m c r k * goalAt m c r k) ⟨n + 1, h⟩]
    refine (congrFun (later7 m c ⟨n + 1, h⟩ hB) _).trans ((pay5_at ..).trans (congrArg₂ (· + ·) ?_ (Finset.sum_congr rfl fun r _ =>
      congrArg₂ (· * ·) (block_eq m c ⟨n + 1, h⟩ r k) (block_eq m c ⟨n + 1, h⟩ r k))))
    exact outs7 c k n (Nat.lt_of_succ_lt h)

/-- The layer's output, from the launch's arrays. -/
def goal (c : Dev nD) : S10000x128.Idx → EReal := fun i => goalAt m c (i 0) (i 1)
/-- Its sums over the rows. -/
def goalSum (c : Dev nD) : S1x128.Idx → EReal := fun i => ∑ r : Fin 10000, goalAt m c r (i 1)
/-- The sums of its squares over the rows. -/
def goalSquares (c : Dev nD) : S1x128.Idx → EReal := fun i => ∑ r : Fin 10000, goalAt m c r (i 1) * goalAt m c r (i 1)

/-- What point `t` writes back of the output. -/
theorem written (c : Dev nD) (t : Fin cfg0.N) (r : Fin 2000) (k : Fin 128) :
    (dats m 0 c).flushed 5 t (ix2 r k) = goal m c (ix2 (rowOf t r) k) := by
  refine Eq.trans ?_ (block_eq m c t r k)
  by_cases h0 : t.val % 5 = 0
  · rw [Value.flushed5_A m c t h0, out_A_5]
    rfl
  · rw [Value.flushed5_B m c t h0, out_B_5]
    rfl

/-- The output after the grid. -/
theorem final5 (c : Dev nD) : (dats m 0 c).arrAt 5 cfg0.N = goal m c := by
  funext i
  have hi : (i 0).val < 10000 := (i 0).isLt
  let t : Fin cfg0.N := ⟨(i 0).val / 2000, by rw [N5]; omega⟩
  let r : Fin 2000 := ⟨(i 0).val % 2000, by omega⟩
  have hr : rowOf t r = i 0 := Fin.ext (by show (i 0).val / 2000 * 2000 + (i 0).val % 2000 = (i 0).val; omega)
  have hb := congrFun (Value.blocks5 m c t (flush0_5 t)) (ix2 r (i 1))
  refine Eq.trans (congrArg ((dats m 0 c).arrAt 5 cfg0.N) ?_) (hb.trans ((written m c t r (i 1)).trans (congrArg (goal m c) ((congrArg (ix2 · (i 1)) hr).trans (eq_ix2 i).symm))))
  obtain ⟨h, h'⟩ := (at_rows t).2.2
  refine funext fun a => Fin.ext ?_
  match a with
  | ⟨0, _⟩ => show (i 0).val = win0_5.index t 0 * 2000 + 1 * ((i 0).val % 2000); rw [h]; show (i 0).val = (i 0).val / 2000 * 2000 + _; omega
  | ⟨1, _⟩ => show (i 1).val = win0_5.index t 1 * 128 + 1 * (i 1).val; rw [h']; omega

/-- The last point. -/
def last : Fin cfg0.N := ⟨4, by rw [N5]; decide⟩

theorem sums6 (c : Dev nD) : (outsAt0 m c last.val last.isLt).2.1 = goalSum m c := by
  funext i
  obtain ⟨z, k, rfl⟩ : ∃ (z : Fin 1) (k : Fin 128), i = ix2 z k := ⟨i 0, i 1, eq_ix2 i⟩
  obtain rfl : z = 0 := Subsingleton.elim _ _
  exact (outs6 m c k last.val last.isLt).trans (sum_whole _)

theorem sums7 (c : Dev nD) : (outsAt0 m c last.val last.isLt).2.2 = goalSquares m c := by
  funext i
  obtain ⟨z, k, rfl⟩ : ∃ (z : Fin 1) (k : Fin 128), i = ix2 z k := ⟨i 0, i 1, eq_ix2 i⟩
  obtain rfl : z = 0 := Subsingleton.elim _ _
  exact (outs7 m c k last.val last.isLt).trans (sum_whole _)

theorem is_last {t : Fin cfg0.N} (h : t.val % 5 = 4) : t = last := Fin.ext (by show t.val = 4; have := lt5 t; omega)

/-- The sums after the grid. -/
theorem final6 (c : Dev nD) : (dats m 0 c).arrAt 6 cfg0.N = goalSum m c := by
  refine (dats m 0 c).arrAt_eq_of_cover 6 (goalSum m c) (fun t hf => ?_) fun i => ⟨last, (flush0_6 last).mpr rfl, ?_⟩
  · obtain rfl := is_last ((flush0_6 t).mp hf)
    show (cfg0.win 6).cut (grid0.coords last) ((dats m 0 c).after 6 last) = _
    rw [after0_6, sums6]
    obtain ⟨h, h'⟩ := (at_whole last).2.2.2.1
    have hz : (fun a => win0_6.index last a * main_v1_1.ty.shape.size a) = fun _ => 0 := funext fun a => by
      match a with
      | ⟨0, _⟩ => show win0_6.index last 0 * 1 = 0; rw [h]
      | ⟨1, _⟩ => show win0_6.index last 1 * 128 = 0; rw [h']
    exact (Memref.read_access_unit_zero (Elt Ideal) main_v1_1 hz (fun a => by rw [congrFun hz a]; simp) (goalSum m c)).symm
  · obtain ⟨h, h'⟩ := (at_whole last).2.2.2.1
    show i ∈ ((View.whole main_v1_1).slice (win0_6.rect last)).set
    rw [View.set_slice_whole, Rect.mem_set_unit]
    intro a
    have h0 : (i 0 : Nat) < 1 := (i 0).isLt
    have h1 : (i 1 : Nat) < 128 := (i 1).isLt
    match a with
    | ⟨0, _⟩ => show win0_6.index last 0 * 1 ≤ (i 0 : Nat) ∧ (i 0 : Nat) < win0_6.index last 0 * 1 + 1; rw [h]; omega
    | ⟨1, _⟩ => show win0_6.index last 1 * 128 ≤ (i 1 : Nat) ∧ (i 1 : Nat) < win0_6.index last 1 * 128 + 128; rw [h']; omega

/-- The sums of squares after the grid. -/
theorem final7 (c : Dev nD) : (dats m 0 c).arrAt 7 cfg0.N = goalSquares m c := by
  refine (dats m 0 c).arrAt_eq_of_cover 7 (goalSquares m c) (fun t hf => ?_) fun i => ⟨last, (flush0_7 last).mpr rfl, ?_⟩
  · obtain rfl := is_last ((flush0_7 t).mp hf)
    show (cfg0.win 7).cut (grid0.coords last) ((dats m 0 c).after 7 last) = _
    rw [after0_7, sums7]
    obtain ⟨h, h'⟩ := (at_whole last).2.2.2.2
    have hz : (fun a => win0_7.index last a * main_v1_2.ty.shape.size a) = fun _ => 0 := funext fun a => by
      match a with
      | ⟨0, _⟩ => show win0_7.index last 0 * 1 = 0; rw [h]
      | ⟨1, _⟩ => show win0_7.index last 1 * 128 = 0; rw [h']
    exact (Memref.read_access_unit_zero (Elt Ideal) main_v1_2 hz (fun a => by rw [congrFun hz a]; simp) (goalSquares m c)).symm
  · obtain ⟨h, h'⟩ := (at_whole last).2.2.2.2
    show i ∈ ((View.whole main_v1_2).slice (win0_7.rect last)).set
    rw [View.set_slice_whole, Rect.mem_set_unit]
    intro a
    have h0 : (i 0 : Nat) < 1 := (i 0).isLt
    have h1 : (i 1 : Nat) < 128 := (i 1).isLt
    match a with
    | ⟨0, _⟩ => show win0_7.index last 0 * 1 ≤ (i 0 : Nat) ∧ (i 0 : Nat) < win0_7.index last 0 * 1 + 1; rw [h]; omega
    | ⟨1, _⟩ => show win0_7.index last 1 * 128 ≤ (i 1 : Nat) ∧ (i 1 : Nat) < win0_7.index last 1 * 128 + 128; rw [h']; omega

/-- The reference's output. -/
theorem reference_eq (A H : Mat 10000 128) (Wl Wr : Mat 128 128) (b : FVec Ideal ⟨1, ![128]⟩ .f32)
    (ht : Shape.Transposes ⟨2, ![128, 128]⟩ [1, 0] ⟨2, ![128, 128]⟩) (h1 : (⟨1, ![128]⟩ : Shape).BroadcastsInDim ⟨2, ![1, 128]⟩ ![1])
    (h2 : (⟨2, ![1, 128]⟩ : Shape).BroadcastsInDim ⟨2, ![10000, 128]⟩ ![0, 1]) :
    addf (addf (Host.dotGeneral (DotDims.plain 10000 128 128) none A (transpose ⟨2, ![128, 128]⟩ [1, 0] Wl ht))
        (broadcastInDim ⟨2, ![10000, 128]⟩ ![0, 1] h2 (broadcastInDim ⟨2, ![1, 128]⟩ ![1] h1 b)))
      (Host.dotGeneral (DotDims.plain 10000 128 128) none H (transpose ⟨2, ![128, 128]⟩ [1, 0] Wr ht))
    = (fun i => at' A H Wl Wr b (i 0) (i 1) : Mat 10000 128) := by
  funext i
  obtain ⟨r, c, rfl⟩ : ∃ (r : Fin 10000) (c : Fin 128), i = ix2 r c := ⟨i 0, i 1, eq_ix2 i⟩
  show Host.dotGeneral (F := Ideal) (DotDims.plain 10000 128 128) none _ _ (ix2 r c) + broadcastInDim _ _ h2 _ (ix2 r c) + Host.dotGeneral (F := Ideal) (DotDims.plain 10000 128 128) none _ _ (ix2 r c) = _
  rw [host_at, host_at, bias_at]
  show _ = dot A Wl r c + dot H Wr r c + b (ix1 c)
  abel

/-- A vector as one row, at an index. -/
theorem one_row {b : ℕ} (v : FVec Ideal ⟨1, ![b]⟩ .f32) (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply ![1] h v _ _ fun x => ?_
  match x with
  | ⟨0, _⟩ =>
    show c.val = if b = 1 then 0 else c.val
    split
    · have := c.isLt; omega
    · rfl

/-- The reference's sum over the rows, as one row. -/
theorem reference_sum (x : Mat 10000 128) (h1 : (⟨1, ![128]⟩ : Shape).BroadcastsInDim ⟨2, ![1, 128]⟩ ![1])
    (hr : (⟨2, ![10000, 128]⟩ : Shape).ReducesTo [0] ⟨1, ![128]⟩) (hu : 0 < (⟨0, ![]⟩ : Shape).numel) :
    broadcastInDim ⟨2, ![1, 128]⟩ ![1] h1 (Host.reduceAdd x (constant (F := Ideal) ⟨0, ![]⟩ .f32 0x00000000#32) hr hu)
      = (fun i => ∑ r : Fin 10000, x (ix2 r (i 1)) : Mat 1 128) := by
  funext i
  obtain ⟨z, c, rfl⟩ : ∃ (z : Fin 1) (c : Fin 128), i = ix2 z c := ⟨i 0, i 1, eq_ix2 i⟩
  rw [one_row, hostReduceAdd_apply, Ideal.hostReduceAdd_r2_a0, show (constant (F := Ideal) ⟨0, ![]⟩ .f32 0x00000000#32) (Shape.Idx.first hu) = (0 : EReal) from Ideal.ofBits_zero_f32, zero_add]
  rfl

/-- The same, of a matrix known to be another. -/
theorem reference_sum_of {x y : Mat 10000 128} (e : x = y) (h1 : (⟨1, ![128]⟩ : Shape).BroadcastsInDim ⟨2, ![1, 128]⟩ ![1])
    (hr : (⟨2, ![10000, 128]⟩ : Shape).ReducesTo [0] ⟨1, ![128]⟩) (hu : 0 < (⟨0, ![]⟩ : Shape).numel) :
    broadcastInDim ⟨2, ![1, 128]⟩ ![1] h1 (Host.reduceAdd x (constant (F := Ideal) ⟨0, ![]⟩ .f32 0x00000000#32) hr hu)
      = (fun i => ∑ r : Fin 10000, y (ix2 r (i 1)) : Mat 1 128) := by
  rw [e, reference_sum]

end Cert.Proof.Layer

end
-- ==== Proof.TailValue.lean ====
/-
  The tail's result, from the two aggregates, the head's output and the skip layer's output: what one block of 2000 rows
  computes, what the whole array holds after the grid, what the reference computes, and that they are equal.
-/
module

public import proofs.«01_k».proof.Proof.Gen.TailIdeal.Value
public import proofs.«01_k».proof.Proof.Gen.TailReferenceIdeal.Run
public import proofs.«01_k».proof.Proof.Dense

@[expose] public section

noncomputable section

namespace Cert.Proof.Tail

open Idealize.ShloMosaic Idealize.ShloMosaic.TcCoe Idealize.ShloMosaic.ValueIdx Idealize.SL.Sem
open Cert.TailIdeal Cert.TailIdeal.Gen Cert.Proof.Dense

/-- The tail's result at a row and a column: half the hyperbolic tangent of the four products and the bias. -/
def at' (A B H S : Mat 10000 128) (Wl Wr : Mat 128 256) (b : FVec Ideal ⟨1, ![128]⟩ .f32) (r : Fin 10000) (c : Fin 128) : EReal :=
  Ideal.tanh (dot A (left Wl) r c + dot B (right Wl) r c + dot H (left Wr) r c + dot S (right Wr) r c + b (ix1 c))
    * (Scalar.ofBits .f32 0x3F000000#32 : Ideal .f32)

/-- What the body stores, at a row and a column of the block. -/
theorem pay_at (v0 : Mat 2000 128) (v1 : Mat 128 128) (v4 : Mat 2000 128) (v5 : Mat 128 128) (v9 : Mat 2000 128) (v10 : Mat 128 128)
    (v14 : Mat 2000 128) (v15 : Mat 128 128) (v19 : Mat 1 128) (r : Fin 2000) (c : Fin 128) :
    k0_pay1 (F := Ideal) v0 v1 v4 v5 v9 v10 v14 v15 v19 (ix2 r c)
      = Ideal.tanh (dot v0 v1 r c + dot v4 v5 r c + dot v9 v10 r c + dot v14 v15 r c + v19 (ix2 (0 : Fin 1) c))
        * (Scalar.ofBits .f32 0x3F000000#32 : Ideal .f32) := by
  rw [← block_at v0 v1, ← block_at v4 v5, ← block_at v9 v10, ← block_at v14 v15,
    ← broadcastTo_1b_ab_apply v19 broadcasts_S1x128_S2000x128 r c]
  simp only [k0_pay1, shapeCast_self]
  rfl

variable (m : (ℓ : Loc nD τ sig) → Buf (Elt Ideal) ℓ)

/-- Point `t`'s blocks of the row arrays start at row 2000 t; the weights and the bias are whole. -/
theorem at_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0))

theorem at_whole : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0))

theorem lt5 (t : Fin cfg0.N) : t.val < 5 := Nat.lt_of_lt_of_eq t.isLt (by decide +kernel : grid0.N = 5)

/-- Row `r` of point `t`'s block, as a row of the array. -/
def rowOf (t : Fin cfg0.N) (r : Fin 2000) : Fin 10000 := ⟨t.val * 2000 + r.val, by have := lt5 t; omega⟩

/-- The first aggregate's block. -/
theorem blk0 (c : Dev nD) (t : Fin cfg0.N) (r : Fin 2000) (k : Fin 128) :
    iblk m c 0 t (ix2 r k) = m ((c : Thread nD τ).loc main_arg0) (ix2 (rowOf t r) k) := by
  rw [← V_main_arg0 m c]
  obtain ⟨h, h'⟩ := (at_rows t).1
  refine congrArg (V m c main_arg0) (funext fun a => Fin.ext ?_)
  match a with
  | ⟨0, _⟩ => show win0_0.index t 0 * 2000 + 1 * r.val = t.val * 2000 + r.val; rw [h]; omega
  | ⟨1, _⟩ => show win0_0.index t 1 * 128 + 1 * k.val = k.val; rw [h']; omega

/-- The second aggregate's block. -/
theorem blk1 (c : Dev nD) (t : Fin cfg0.N) (r : Fin 2000) (k : Fin 128) :
    iblk m c 1 t (ix2 r k) = m ((c : Thread nD τ).loc main_arg1) (ix2 (rowOf t r) k) := by
  rw [← V_main_arg1 m c]
  obtain ⟨h, h'⟩ := (at_rows t).2.1
  refine congrArg (V m c main_arg1) (funext fun a => Fin.ext ?_)
  match a with
  | ⟨0, _⟩ => show win0_1.index t 0 * 2000 + 1 * r.val = t.val * 2000 + r.val; rw [h]; omega
  | ⟨1, _⟩ => show win0_1.index t 1 * 128 + 1 * k.val = k.val; rw [h']; omega

/-- The block of the head's output. -/
theorem blk2 (c : Dev nD) (t : Fin cfg0.N) (r : Fin 2000) (k : Fin 128) :
    iblk m c 2 t (ix2 r k) = m ((c : Thread nD τ).loc main_arg2) (ix2 (rowOf t r) k) := by
  rw [← V_main_arg2 m c]
  obtain ⟨h, h'⟩ := (at_rows t).2.2.1
  refine congrArg (V m c main_arg2) (funext fun a => Fin.ext ?_)
  match a with
  | ⟨0, _⟩ => show win0_2.index t 0 * 2000 + 1 * r.val = t.val * 2000 + r.val; rw [h]; omega
  | ⟨1, _⟩ => show win0_2.index t 1 * 128 + 1 * k.val = k.val; rw [h']; omega

/-- The block of the skip layer's output. -/
theorem blk3 (c : Dev nD) (t : Fin cfg0.N) (r : Fin 2000) (k : Fin 128) :
    iblk m c 3 t (ix2 r k) = m ((c : Thread nD τ).loc main_arg3) (ix2 (rowOf t r) k) := by
  rw [← V_main_arg3 m c]
  obtain ⟨h, h'⟩ := (at_rows t).2.2.2.1
  refine congrArg (V m c main_arg3) (funext fun a => Fin.ext ?_)
  match a with
  | ⟨0, _⟩ => show win0_3.index t 0 * 2000 + 1 * r.val = t.val * 2000 + r.val; rw [h]; omega
  | ⟨1, _⟩ => show win0_3.index t 1 * 128 + 1 * k.val = k.val; rw [h']; omega

/-- The left half of the left weights. -/
theorem V_v0 (c : Dev nD) : V m c main_v0 = extractStridedSlice S128x128 ![0, 0] (m ((c : Thread nD τ).loc main_arg4)) slices_S128x256_S128x128_0_0 := by
  show StableHlo.after hostOps0 (fun b => m (c, b)) main_v0 = _
  after_results
/-- The right half of the left weights. -/
theorem V_v1 (c : Dev nD) : V m c main_v1 = extractStridedSlice S128x128 ![0, 128] (m ((c : Thread nD τ).loc main_arg4)) slices_S128x256_S128x128_0_128 := by
  show StableHlo.after hostOps0 (fun b => m (c, b)) main_v1 = _
  after_results
/-- The left half of the right weights. -/
theorem V_v2 (c : Dev nD) : V m c main_v2 = extractStridedSlice S128x128 ![0, 0] (m ((c : Thread nD τ).loc main_arg6)) slices_S128x256_S128x128_0_0 := by
  show StableHlo.after hostOps0 (fun b => m (c, b)) main_v2 = _
  after_results
/-- The right half of the right weights. -/
theorem V_v3 (c : Dev nD) : V m c main_v3 = extractStridedSlice S128x128 ![0, 128] (m ((c : Thread nD τ).loc main_arg6)) slices_S128x256_S128x128_0_128 := by
  show StableHlo.after hostOps0 (fun b => m (c, b)) main_v3 = _
  after_results
/-- The bias as one row. -/
theorem V_v4 (c : Dev nD) : V m c main_v4 = shapeCast S1x128 (m ((c : Thread nD τ).loc main_arg5)) shapeCasts_S128_S1x128 := by
  show StableHlo.after hostOps0 (fun b => m (c, b)) main_v4 = _
  after_results
  rfl

/-- A slice of the left columns, at an index. -/
theorem left_at (W : Mat 128 256) (i : S128x128.Idx) : extractStridedSlice S128x128 ![0, 0] W slices_S128x256_S128x128_0_0 i = left W i :=
  extractStridedSlice_apply _ W _ _ _ fun a => match a with
    | ⟨0, _⟩ => by show (i 0).val = 0 + (i 0).val; omega
    | ⟨1, _⟩ => by show (i 1).val = 0 + (i 1).val; omega
/-- A slice of the right columns, at an index. -/
theorem right_at (W : Mat 128 256) (i : S128x128.Idx) : extractStridedSlice S128x128 ![0, 128] W slices_S128x256_S128x128_0_128 i = right W i :=
  extractStridedSlice_apply _ W _ _ _ fun a => match a with
    | ⟨0, _⟩ => by show (i 0).val = 0 + (i 0).val; omega
    | ⟨1, _⟩ => by show 128 + (i 1).val = 128 + (i 1).val; rfl

/-- The block of the left half of the left weights is the whole of it. -/
theorem blk4 (c : Dev nD) (t : Fin cfg0.N) : iblk m c 4 t = left (m ((c : Thread nD τ).loc main_arg4)) := by
  funext i
  rw [← left_at, ← V_v0]
  obtain ⟨h, h'⟩ := (at_whole t).1
  refine congrArg (V m c main_v0) (funext fun a => Fin.ext ?_)
  match a with
  | ⟨0, _⟩ => show win0_4.index t 0 * 128 + 1 * (i 0).val = (i 0).val; rw [h]; omega
  | ⟨1, _⟩ => show win0_4.index t 1 * 128 + 1 * (i 1).val = (i 1).val; rw [h']; omega
/-- And of the right half. -/
theorem blk5 (c : Dev nD) (t : Fin cfg0.N) : iblk m c 5 t = right (m ((c : Thread nD τ).loc main_arg4)) := by
  funext i
  rw [← right_at, ← V_v1]
  obtain ⟨h, h'⟩ := (at_whole t).2.1
  refine congrArg (V m c main_v1) (funext fun a => Fin.ext ?_)
  match a with
  | ⟨0, _⟩ => show win0_5.index t 0 * 128 + 1 * (i 0).val = (i 0).val; rw [h]; omega
  | ⟨1, _⟩ => show win0_5.index t 1 * 128 + 1 * (i 1).val = (i 1).val; rw [h']; omega
/-- The same of the right weights' left half. -/
theorem blk6 (c : Dev nD) (t : Fin cfg0.N) : iblk m c 6 t = left (m ((c : Thread nD τ).loc main_arg6)) := by
  funext i
  rw [← left_at, ← V_v2]
  obtain ⟨h, h'⟩ := (at_whole t).2.2.1
  refine congrArg (V m c main_v2) (funext fun a => Fin.ext ?_)
  match a with
  | ⟨0, _⟩ => show win0_6.index t 0 * 128 + 1 * (i 0).val = (i 0).val; rw [h]; omega
  | ⟨1, _⟩ => show win0_6.index t 1 * 128 + 1 * (i 1).val = (i 1).val; rw [h']; omega
/-- And of their right half. -/
theorem blk7 (c : Dev nD) (t : Fin cfg0.N) : iblk m c 7 t = right (m ((c : Thread nD τ).loc main_arg6)) := by
  funext i
  rw [← right_at, ← V_v3]
  obtain ⟨h, h'⟩ := (at_whole t).2.2.2.1
  refine congrArg (V m c main_v3) (funext fun a => Fin.ext ?_)
  match a with
  | ⟨0, _⟩ => show win0_7.index t 0 * 128 + 1 * (i 0).val = (i 0).val; rw [h]; omega
  | ⟨1, _⟩ => show win0_7.index t 1 * 128 + 1 * (i 1).val = (i 1).val; rw [h']; omega
/-- The bias's block, at a column. -/
theorem blk8 (c : Dev nD) (t : Fin cfg0.N) (k : Fin 128) : iblk m c 8 t (ix2 (0 : Fin 1) k) = m ((c : Thread nD τ).loc main_arg5) (ix1 k) := by
  refine Eq.trans ?_ (row_at (m ((c : Thread nD τ).loc main_arg5)) shapeCasts_S128_S1x128 k)
  rw [← V_v4]
  obtain ⟨h, h'⟩ := (at_whole t).2.2.2.2
  refine congrArg (V m c main_v4) (funext fun a => Fin.ext ?_)
  match a with
  | ⟨0, _⟩ => show win0_8.index t 0 * 1 + 1 * 0 = 0; rw [h]
  | ⟨1, _⟩ => show win0_8.index t 1 * 128 + 1 * k.val = k.val; rw [h']; omega

theorem zeros : (![0, 0] : Fin 2 → Nat) = fun _ => 0 := funext fun a => by fin_cases a <;> rfl

/-- The block that the body leaves is what it stores. -/
theorem out_eq (x0 x1 x2 x3 : Mat 2000 128) (x4 x5 x6 x7 : Mat 128 128) (x8 : Mat 1 128) :
    out0_9 (F := Ideal) x0 x1 x2 x3 x4 x5 x6 x7 x8 = k0_pay1 (F := Ideal) x0 x4 x1 x5 x2 x6 x3 x7 x8 := by
  unfold out0_9
  rw [View.canon_unit_zero zeros, View.ld_unit_zero zeros, View.ld_unit_zero zeros, View.ld_unit_zero zeros, View.ld_unit_zero zeros,
    View.ld_unit_zero zeros, View.ld_unit_zero zeros, View.ld_unit_zero zeros, View.ld_unit_zero zeros, View.ld_unit_zero zeros]

/-- The tail's result, from the launch's arrays, at an index. -/
def goal (c : Dev nD) : S10000x128.Idx → EReal := fun i =>
  at' (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg5)) (i 0) (i 1)

/-- What point `t` writes back. -/
theorem written (c : Dev nD) (t : Fin cfg0.N) (r : Fin 2000) (k : Fin 128) :
    (dats m 0 c).flushed 9 t (ix2 r k) = goal m c (ix2 (rowOf t r) k) := by
  rw [Value.flushed9]
  refine (congrFun (out_eq (iblk m c 0 t) (iblk m c 1 t) (iblk m c 2 t) (iblk m c 3 t) (iblk m c 4 t) (iblk m c 5 t) (iblk m c 6 t) (iblk m c 7 t) (iblk m c 8 t)) (ix2 r k)).trans ?_
  refine (pay_at (iblk m c 0 t) (iblk m c 4 t) (iblk m c 1 t) (iblk m c 5 t) (iblk m c 2 t) (iblk m c 6 t) (iblk m c 3 t) (iblk m c 7 t) (iblk m c 8 t) r k).trans ?_
  rw [blk4, blk5, blk6, blk7, blk8]
  have e0 : ∀ W : Mat 128 128, dot (iblk m c 0 t) W r k = dot (m ((c : Thread nD τ).loc main_arg0)) W (rowOf t r) k := fun W =>
    Finset.sum_congr rfl fun j _ => by rw [blk0]
  have e1 : ∀ W : Mat 128 128, dot (iblk m c 1 t) W r k = dot (m ((c : Thread nD τ).loc main_arg1)) W (rowOf t r) k := fun W =>
    Finset.sum_congr rfl fun j _ => by rw [blk1]
  have e2 : ∀ W : Mat 128 128, dot (iblk m c 2 t) W r k = dot (m ((c : Thread nD τ).loc main_arg2)) W (rowOf t r) k := fun W =>
    Finset.sum_congr rfl fun j _ => by rw [blk2]
  have e3 : ∀ W : Mat 128 128, dot (iblk m c 3 t) W r k = dot (m ((c : Thread nD τ).loc main_arg3)) W (rowOf t r) k := fun W =>
    Finset.sum_congr rfl fun j _ => by rw [blk3]
  rw [e0, e1, e2, e3]
  rfl

/-- Every point writes back. -/
theorem writes : ∀ t : Fin cfg0.N, (cfg0.win 9).flush t = true := (by decide +kernel : ∀ t : Fin grid0.N, win0_9.flush t = true)

/-- The result after the grid. -/
theorem final (c : Dev nD) : (dats m 0 c).arrAt 9 cfg0.N = goal m c := by
  funext i
  have hi : (i 0).val < 10000 := (i 0).isLt
  have hN : cfg0.N = 5 := (by decide +kernel : grid0.N = 5)
  let t : Fin cfg0.N := ⟨(i 0).val / 2000, by rw [hN]; omega⟩
  let r : Fin 2000 := ⟨(i 0).val % 2000, by omega⟩
  have hr : rowOf t r = i 0 := Fin.ext (by show (i 0).val / 2000 * 2000 + (i 0).val % 2000 = (i 0).val; omega)
  have hb := congrFun (Value.blocks9 m c t (writes t)) (ix2 r (i 1))
  refine Eq.trans (congrArg ((dats m 0 c).arrAt 9 cfg0.N) ?_) (hb.trans ((written m c t r (i 1)).trans (congrArg (goal m c) ((congrArg (ix2 · (i 1)) hr).trans (eq_ix2 i).symm))))
  obtain ⟨h, h'⟩ := (at_rows t).2.2.2.2
  refine funext fun a => Fin.ext ?_
  match a with
  | ⟨0, _⟩ => show (i 0).val = win0_9.index t 0 * 2000 + 1 * ((i 0).val % 2000); rw [h]; show (i 0).val = (i 0).val / 2000 * 2000 + _; omega
  | ⟨1, _⟩ => show (i 1).val = win0_9.index t 1 * 128 + 1 * (i 1).val; rw [h']; omega

/-- The reference's result. -/
theorem reference_eq (A B H S : Mat 10000 128) (Wl Wr : Mat 128 256) (b : FVec Ideal ⟨1, ![128]⟩ .f32)
    (hc : Shape.Concatenates [⟨2, ![10000, 128]⟩, ⟨2, ![10000, 128]⟩] ⟨2, ![10000, 256]⟩ 1)
    (ht : Shape.Transposes ⟨2, ![128, 256]⟩ [1, 0] ⟨2, ![256, 128]⟩) (h1 : (⟨1, ![128]⟩ : Shape).BroadcastsInDim ⟨2, ![1, 128]⟩ ![1])
    (h2 : (⟨2, ![1, 128]⟩ : Shape).BroadcastsInDim ⟨2, ![10000, 128]⟩ ![0, 1]) (h3 : (⟨0, ![]⟩ : Shape).BroadcastsInDim ⟨2, ![10000, 128]⟩ ![]) :
    mulf (Host.tanh (addf (addf (Host.dotGeneral (DotDims.plain 10000 256 128) none (concatenate ⟨2, ![10000, 256]⟩ 1 [⟨⟨2, ![10000, 128]⟩, A⟩, ⟨⟨2, ![10000, 128]⟩, B⟩] hc) (transpose ⟨2, ![256, 128]⟩ [1, 0] Wl ht))
        (broadcastInDim ⟨2, ![10000, 128]⟩ ![0, 1] h2 (broadcastInDim ⟨2, ![1, 128]⟩ ![1] h1 b)))
        (Host.dotGeneral (DotDims.plain 10000 256 128) none (concatenate ⟨2, ![10000, 256]⟩ 1 [⟨⟨2, ![10000, 128]⟩, H⟩, ⟨⟨2, ![10000, 128]⟩, S⟩] hc) (transpose ⟨2, ![256, 128]⟩ [1, 0] Wr ht))))
      (broadcastInDim ⟨2, ![10000, 128]⟩ ![] h3 (constant ⟨0, ![]⟩ .f32 0x3F000000#32))
    = (fun i => at' A B H S Wl Wr b (i 0) (i 1) : Mat 10000 128) := by
  funext i
  obtain ⟨r, c, rfl⟩ : ∃ r c, i = ix2 r c := ⟨i 0, i 1, eq_ix2 i⟩
  show Ideal.tanh (Host.dotGeneral (F := Ideal) (DotDims.plain 10000 256 128) none _ _ (ix2 r c) + broadcastInDim _ _ h2 _ (ix2 r c) + Host.dotGeneral (F := Ideal) (DotDims.plain 10000 256 128) none _ _ (ix2 r c))
    * broadcastInDim _ _ h3 _ (ix2 r c) = _
  rw [host_at, host_at, dot_pair, dot_pair, bias_at, broadcastInDim_scalar_apply]
  refine congrArg (· * _) (congrArg Ideal.tanh ?_)
  show _ = dot A (left Wl) r c + dot B (right Wl) r c + dot H (left Wr) r c + dot S (right Wr) r c + b (ix1 c)
  abel

end Cert.Proof.Tail

end
-- ==== Proof.Moments.lean ====
/-
  The variance of finite numbers around a multiple of their mean: the mean of the squared differences is what the sums of the
  numbers and of their squares say of it, over the extended reals.
-/
module

public import Idealize.ShloMosaic.Lib.IdealHost
public import Mathlib.Tactic.FieldSimp
public import Mathlib.Tactic.Linarith

@[expose] public section

noncomputable section

namespace Cert.Proof.Moments

open Idealize.ShloMosaic
open scoped BigOperators

/-- Over the reals. -/
theorem real_variance (y : Fin 10000 → ℝ) (a : ℝ) :
    (∑ r, (y r - a * ((∑ j, y j) * (1 / 10000))) * (y r - a * ((∑ j, y j) * (1 / 10000)))) * (10000 : ℝ)⁻¹
      = (∑ r, y r * y r) * (1 / 10000) - 2 * (a * ((∑ j, y j) * (1 / 10000))) * ((∑ j, y j) * (1 / 10000))
        + a * ((∑ j, y j) * (1 / 10000)) * (a * ((∑ j, y j) * (1 / 10000))) := by
  generalize hs : (∑ j, y j) = s
  have e : ∀ r, (y r - a * (s * (1 / 10000))) * (y r - a * (s * (1 / 10000)))
      = y r * y r - 2 * (a * (s * (1 / 10000))) * y r + a * (s * (1 / 10000)) * (a * (s * (1 / 10000))) := fun r => by ring
  rw [Finset.sum_congr rfl fun r _ => e r, Finset.sum_add_distrib, Finset.sum_sub_distrib, ← Finset.mul_sum, hs]
  simp only [Finset.sum_const, Finset.card_univ, Fintype.card_fin, nsmul_eq_mul]
  push_cast
  ring

/-- A sum of real numbers, as extended reals. -/
theorem coe_sum {n : ℕ} (f : Fin n → ℝ) : ((∑ r, f r : ℝ) : EReal) = ∑ r, (f r : EReal) :=
  map_sum (⟨⟨(fun x : ℝ => (x : EReal)), EReal.coe_zero⟩, EReal.coe_add⟩ : ℝ →+ EReal) f Finset.univ

/-- The quotient by ten thousand. -/
theorem div_count (x : ℝ) : Ideal.div (x : EReal) ((10000 : ℝ) : EReal) = ((x * (10000 : ℝ)⁻¹ : ℝ) : EReal) := by
  unfold Ideal.div
  rw [if_neg (by simp), ← EReal.coe_inv, ← EReal.coe_mul]

/-- The mean from the sum. -/
theorem mean_eq (x : ℝ) : (x : EReal) * ((1 / 10000 : ℝ) : EReal) = Ideal.div (x : EReal) ((10000 : ℝ) : EReal) := by
  rw [div_count, ← EReal.coe_mul]
  congr 1
  ring

/-- The variance, from the sums and from the differences: one nonnegative real number. -/
theorem variance (Y : Fin 10000 → EReal) (A : EReal) (hY : ∀ r, Y r ≠ ⊤ ∧ Y r ≠ ⊥) (hA : A ≠ ⊤ ∧ A ≠ ⊥) :
    (∑ j, Y j) * ((1 / 10000 : ℝ) : EReal) = Ideal.div (∑ j, Y j) ((10000 : ℝ) : EReal)
    ∧ ∃ v : ℝ, 0 ≤ v
      ∧ (∑ j, Y j * Y j) * ((1 / 10000 : ℝ) : EReal)
          - ((2 : ℝ) : EReal) * (A * ((∑ j, Y j) * ((1 / 10000 : ℝ) : EReal))) * ((∑ j, Y j) * ((1 / 10000 : ℝ) : EReal))
          + A * ((∑ j, Y j) * ((1 / 10000 : ℝ) : EReal)) * (A * ((∑ j, Y j) * ((1 / 10000 : ℝ) : EReal))) = (v : EReal)
      ∧ Ideal.div (∑ r, (Y r - A * ((∑ j, Y j) * ((1 / 10000 : ℝ) : EReal))) * (Y r - A * ((∑ j, Y j) * ((1 / 10000 : ℝ) : EReal))))
          ((10000 : ℝ) : EReal) = (v : EReal) := by
  obtain ⟨y, rfl⟩ : ∃ y : Fin 10000 → ℝ, Y = fun r => (y r : EReal) :=
    ⟨fun r => (Y r).toReal, funext fun r => (EReal.coe_toReal (hY r).1 (hY r).2).symm⟩
  obtain ⟨a, rfl⟩ : ∃ a : ℝ, A = (a : EReal) := ⟨A.toReal, (EReal.coe_toReal hA.1 hA.2).symm⟩
  simp only [← coe_sum, ← EReal.coe_mul, ← EReal.coe_sub, ← EReal.coe_add]
  refine ⟨?_, _, ?_, rfl, ?_⟩
  · rw [div_count]; congr 1; ring
  · rw [← real_variance]
    exact mul_nonneg (Finset.sum_nonneg fun r _ => mul_self_nonneg _) (by norm_num)
  · rw [div_count, real_variance]

/-- The reciprocal root of a positive number, and the quotient by its root. -/
theorem root (x : EReal) (v : ℝ) (h : 0 < v) : x * Ideal.rsqrt (v : EReal) = Ideal.div x (Ideal.sqrt (v : EReal)) := by
  rw [Ideal.rsqrt_coe, Ideal.sqrt_coe, if_neg (not_lt.2 h.le), if_neg h.ne', if_neg (not_lt.2 h.le)]
  unfold Ideal.div
  rw [if_neg (by simpa using (Real.sqrt_pos.2 h).ne'), EReal.coe_inv]

/-- The constants. -/
theorem count_eq : (FloatOps.ofBits .f32 0x461C4000#32 : Ideal .f32) = ((10000 : ℝ) : EReal) := by
  show Ideal.ofBits .f32 0x461C4000#32 = _
  simp [Ideal.ofBits, Ideal.ieee, -EReal.coe_mul]
  norm_num
theorem two_eq : (FloatOps.ofBits .f32 0x40000000#32 : Ideal .f32) = ((2 : ℝ) : EReal) := by
  show Ideal.ofBits .f32 0x40000000#32 = _
  simp [Ideal.ofBits, Ideal.ieee, -EReal.coe_mul]
  norm_num
/-- What is added to the variance is a positive number. -/
theorem eps_eq : ∃ e : ℝ, 0 < e ∧ (FloatOps.ofBits .f32 0x3727C5AC#32 : Ideal .f32) = (e : EReal) := by
  refine ⟨10995116 * (2 ^ 40)⁻¹, by norm_num, ?_⟩
  show Ideal.ofBits .f32 0x3727C5AC#32 = _
  simp [Ideal.ofBits, Ideal.ieee, -EReal.coe_mul]

end Cert.Proof.Moments

end
-- ==== Proof.NormValue.lean ====
/-
  The graph norm's result, from the maps and the sums of their columns: what one block of 2000 rows computes, what the whole
  array holds after the grid, what the reference computes, and that they are equal where the sums are the columns' sums.
-/
module

public import proofs.«01_k».proof.Proof.Gen.NormIdeal.Value
public import proofs.«01_k».proof.Proof.Gen.NormReferenceIdeal.Run
public import proofs.«01_k».proof.Proof.Gen.Pre_column_sums
public import proofs.«01_k».proof.Proof.LayerValue
public import proofs.«01_k».proof.Proof.Inputs
public import proofs.«01_k».proof.Proof.Moments

@[expose] public section

noncomputable section

namespace Cert.Proof.Norm

open Idealize.ShloMosaic hiding ix1 ix2 eq_ix2
open Idealize.ShloMosaic.TcCoe Idealize.ShloMosaic.ValueIdx Idealize.SL.Sem
open Cert.Proof.Dense
open scoped BigOperators

/-- A vector of extended reals. -/
abbrev Row : Type := FVec Ideal ⟨1, ![128]⟩ .f32

/-- The leaky rectifier. -/
def leaky (z : EReal) : EReal :=
  Scalar.select (FloatOps.cmpf (F := Ideal) (φ := .f32) .oge z (FloatOps.ofBits .f32 0x00000000#32)) z ((FloatOps.ofBits .f32 0x3CA3D70A#32 : Ideal .f32) * z)

/-- One entry of the result, from the entry, its column's sums and its column's three parameters. -/
def entry (y s1 s2 g b a : EReal) : EReal :=
  leaky (g * (y - a * (s1 * (Named.named (F := Ideal) Cert.NormIdeal.κ "inv_n" (φ := .f32) 0x38D1B717#32)))
    * Ideal.rsqrt (s2 * (Named.named (F := Ideal) Cert.NormIdeal.κ "inv_n" (φ := .f32) 0x38D1B717#32)
        - (FloatOps.ofBits .f32 0x40000000#32 : Ideal .f32) * (a * (s1 * (Named.named (F := Ideal) Cert.NormIdeal.κ "inv_n" (φ := .f32) 0x38D1B717#32)))
          * (s1 * (Named.named (F := Ideal) Cert.NormIdeal.κ "inv_n" (φ := .f32) 0x38D1B717#32))
        + a * (s1 * (Named.named (F := Ideal) Cert.NormIdeal.κ "inv_n" (φ := .f32) 0x38D1B717#32)) * (a * (s1 * (Named.named (F := Ideal) Cert.NormIdeal.κ "inv_n" (φ := .f32) 0x38D1B717#32)))
        + (FloatOps.ofBits .f32 0x3727C5AC#32 : Ideal .f32))
    + b)

/-- One entry of the reference's result. -/
def plain (Y : Mat 10000 128) (g b a : Row) (r : Fin 10000) (c : Fin 128) : EReal :=
  leaky (Ideal.div (g (ix1 c) * (Y (ix2 r c) - a (ix1 c) * Ideal.div (∑ j : Fin 10000, Y (ix2 j c)) (FloatOps.ofBits .f32 0x461C4000#32 : Ideal .f32)))
      (Ideal.sqrt (Ideal.div (∑ k : Fin 10000, (Y (ix2 k c) - a (ix1 c) * Ideal.div (∑ j : Fin 10000, Y (ix2 j c)) (FloatOps.ofBits .f32 0x461C4000#32 : Ideal .f32))
          * (Y (ix2 k c) - a (ix1 c) * Ideal.div (∑ j : Fin 10000, Y (ix2 j c)) (FloatOps.ofBits .f32 0x461C4000#32 : Ideal .f32))) (FloatOps.ofBits .f32 0x461C4000#32 : Ideal .f32)
        + (FloatOps.ofBits .f32 0x3727C5AC#32 : Ideal .f32)))
    + b (ix1 c))

/-- Where the column and its shift are finite and the sums are the column's, the two entries are equal. -/
theorem entry_eq (Y : Mat 10000 128) (g b a : Row) (r : Fin 10000) (c : Fin 128) (s1 s2 : EReal)
    (hY : ∀ r, Y (ix2 r c) ≠ (⊤ : EReal) ∧ Y (ix2 r c) ≠ (⊥ : EReal)) (ha : a (ix1 c) ≠ (⊤ : EReal) ∧ a (ix1 c) ≠ (⊥ : EReal))
    (h1 : s1 = ∑ j : Fin 10000, Y (ix2 j c)) (h2 : s2 = ∑ j : Fin 10000, Y (ix2 j c) * Y (ix2 j c)) :
    entry (Y (ix2 r c)) s1 s2 (g (ix1 c)) (b (ix1 c)) (a (ix1 c)) = plain Y g b a r c := by
  obtain ⟨hm, v, hv, hk, hr⟩ := Moments.variance (fun r => Y (ix2 r c)) (a (ix1 c)) hY ha
  obtain ⟨e, he, hE⟩ := Moments.eps_eq
  have hN : Named.named (F := Ideal) Cert.NormIdeal.κ "inv_n" (φ := .f32) 0x38D1B717#32 = ((1 / 10000 : ℝ) : EReal) :=
    IdealRules.named_const.ideal_named_scalar _ _ _ _ rfl
  unfold entry plain
  rw [hN, Moments.two_eq, Moments.count_eq, hE, h1, h2, ← hm, hr, hk, ← EReal.coe_add]
  exact congrArg leaky (congrArg (· + b (ix1 c)) (Moments.root _ _ (by linarith)))

section
open Cert.NormReferenceIdeal

/-- The reference's differences from the shifted means. -/
def diff (Y : Mat 10000 128) (a : Row) : Mat 10000 128 :=
  subf Y (broadcastInDim S10000x128 ![0, 1] Gen.facts₀.bcast_S1x128_S10000x128_0_1 (mulf (broadcastInDim S1x128 ![1] Gen.facts₀.bcast_S128_S1x128_1 a)
    (Host.divf (broadcastInDim S1x128 ![1] Gen.facts₀.bcast_S128_S1x128_1 (Host.reduceAdd Y (constant S_ .f32 0x00000000#32) Gen.facts₀.reducesTo_S10000x128_S128_d0 Gen.facts₀.h_S_))
      (broadcastInDim S1x128 ![] Gen.facts₀.bcast_S_S1x128 (constant S_ .f32 0x461C4000#32)))))

/-- One of them. -/
theorem diff_at (Y : Mat 10000 128) (a : Row) (r : Fin 10000) (c : Fin 128) :
    diff Y a (ix2 r c) = Y (ix2 r c) - a (ix1 c) * Ideal.div (∑ j : Fin 10000, Y (ix2 j c)) (FloatOps.ofBits .f32 0x461C4000#32 : Ideal .f32) := by
  unfold diff
  rw [Layer.reference_sum]
  show Y (ix2 r c) - broadcastInDim _ _ _ _ (ix2 r c) = _
  rw [broadcastInDim_oneRow_apply]
  show Y (ix2 r c) - broadcastInDim _ _ _ _ (ix2 (0 : Fin 1) c) * Ideal.div _ (broadcastInDim _ _ _ _ (ix2 (0 : Fin 1) c)) = _
  rw [Layer.one_row, broadcastInDim_scalar_apply]
  rfl

/-- The reference's roots of the variances, as one row. -/
def roots (Y : Mat 10000 128) (a : Row) : Mat 1 128 :=
  Host.sqrt (addf (Host.divf (broadcastInDim S1x128 ![1] Gen.facts₀.bcast_S128_S1x128_1 (Host.reduceAdd (mulf (diff Y a) (diff Y a)) (constant S_ .f32 0x00000000#32) Gen.facts₀.reducesTo_S10000x128_S128_d0 Gen.facts₀.h_S_))
      (broadcastInDim S1x128 ![] Gen.facts₀.bcast_S_S1x128 (constant S_ .f32 0x461C4000#32)))
    (broadcastInDim S1x128 ![] Gen.facts₀.bcast_S_S1x128 (constant S_ .f32 0x3727C5AC#32)))

/-- One of them. -/
theorem roots_at (Y : Mat 10000 128) (a : Row) (c : Fin 128) :
    roots Y a (ix2 (0 : Fin 1) c) = Ideal.sqrt (Ideal.div (∑ k : Fin 10000, diff Y a (ix2 k c) * diff Y a (ix2 k c)) (FloatOps.ofBits .f32 0x461C4000#32 : Ideal .f32)
        + (FloatOps.ofBits .f32 0x3727C5AC#32 : Ideal .f32)) := by
  unfold roots
  rw [Layer.reference_sum]
  show Ideal.sqrt (Ideal.div _ (broadcastInDim _ _ _ _ (ix2 (0 : Fin 1) c)) + broadcastInDim _ _ _ _ (ix2 (0 : Fin 1) c)) = _
  rw [broadcastInDim_scalar_apply, broadcastInDim_scalar_apply]
  rfl

/-- The reference's result before the rectifier. -/
def scaled (Y : Mat 10000 128) (g b a : Row) : Mat 10000 128 :=
  addf (Host.divf (mulf (broadcastInDim S10000x128 ![0, 1] Gen.facts₀.bcast_S1x128_S10000x128_0_1 (broadcastInDim S1x128 ![1] Gen.facts₀.bcast_S128_S1x128_1 g)) (diff Y a))
      (broadcastInDim S10000x128 ![0, 1] Gen.facts₀.bcast_S1x128_S10000x128_0_1 (roots Y a)))
    (broadcastInDim S10000x128 ![0, 1] Gen.facts₀.bcast_S1x128_S10000x128_0_1 (broadcastInDim S1x128 ![1] Gen.facts₀.bcast_S128_S1x128_1 b))

/-- One entry of it. -/
theorem scaled_at (Y : Mat 10000 128) (g b a : Row) (r : Fin 10000) (c : Fin 128) :
    scaled Y g b a (ix2 r c) = Ideal.div (g (ix1 c) * diff Y a (ix2 r c)) (roots Y a (ix2 (0 : Fin 1) c)) + b (ix1 c) := by
  unfold scaled
  show Ideal.div (broadcastInDim _ _ _ _ (ix2 r c) * diff Y a (ix2 r c)) (broadcastInDim _ _ _ (roots Y a) (ix2 r c)) + broadcastInDim _ _ _ _ (ix2 r c) = _
  rw [bias_at, bias_at, broadcastInDim_oneRow_apply]

/-- The reference's result. -/
theorem reference_eq (m : (ℓ : Loc nD τ sig) → Buf (Elt Ideal) ℓ) (d : Dev nD) :
    Value.res_main_v28 m d = (fun i => plain (m ((d.tc : Thread nD τ).loc main_arg0)) (m ((d.tc : Thread nD τ).loc main_arg3)) (m ((d.tc : Thread nD τ).loc main_arg4))
      (m ((d.tc : Thread nD τ).loc main_arg5)) (i 0) (i 1) : Mat 10000 128) := by
  have e : ∀ Y g b a, m ((d.tc : Thread nD τ).loc main_arg0) = Y → m ((d.tc : Thread nD τ).loc main_arg3) = g → m ((d.tc : Thread nD τ).loc main_arg4) = b → m ((d.tc : Thread nD τ).loc main_arg5) = a →
      Value.res_main_v28 m d = select (cmpf .oge (scaled Y g b a) (broadcastInDim S10000x128 ![] Gen.facts₀.bcast_S_S10000x128 (constant S_ .f32 0x00000000#32))) (scaled Y g b a)
        (mulf (broadcastInDim S10000x128 ![] Gen.facts₀.bcast_S_S10000x128 (constant S_ .f32 0x3CA3D70A#32)) (scaled Y g b a)) := by
    rintro _ _ _ _ rfl rfl rfl rfl
    rfl
  rw [e _ _ _ _ rfl rfl rfl rfl]
  funext i
  obtain ⟨r, c, rfl⟩ : ∃ r c, i = ix2 r c := ⟨i 0, i 1, eq_ix2 i⟩
  refine Eq.trans (b := leaky (scaled _ _ _ _ (ix2 r c))) rfl ?_
  refine (congrArg leaky (scaled_at _ _ _ _ r c)).trans ?_
  rw [roots_at]
  simp only [diff_at]
  rfl

end

/-! ## What the precondition says -/

instance : Subsingleton Cert.Pre_column_sums.S_.Idx := ⟨fun _ _ => funext fun a => a.elim0⟩

/-- A number below infinity in magnitude is finite. -/
theorem finite_of (v : Ideal .f32) (h : Inputs.Below v) : v ≠ (⊤ : EReal) ∧ v ≠ (⊥ : EReal) := by
  refine ⟨(Inputs.lt_top_of v h).ne, ?_⟩
  rintro rfl
  unfold Inputs.Below at h
  have h2 : (FloatOps.ofBits .f32 0x7F800000#32 : Ideal .f32) = (⊤ : EReal) := by
    simp [Ideal.ofBits_def, Ideal.ofBits, Ideal.ieee]
  rw [h2] at h
  have h3 : (BitVec.ofBool (decide (max (⊥ : EReal) (-⊥) < ⊤)) : BitVec 1) = 1#1 := h
  rw [decide_eq_false (by simp)] at h3
  exact absurd h3 (by decide)

/-- Two numbers that compare as equal are equal. -/
theorem eq_of (x y : Ideal .f32) (h : FloatOps.cmpf .oeq x y = 1#1) : (x : EReal) = y := by
  have h3 : (BitVec.ofBool (decide ((x : EReal) = y)) : BitVec 1) = 1#1 := h
  by_contra hn
  rw [decide_eq_false hn] at h3
  exact absurd h3 (by decide)

/-- Where the predicate holds, the maps and the shifts are finite and the sums are the columns'. -/
theorem sums_of (Y : Mat 10000 128) (s1 s2 : Mat 1 128) (g b a : Row)
    (h : Cert.Pre_column_sums.fn (F := Ideal) Y s1 s2 g b a = fun _ => 1#1) (c : Fin 128) :
    (∀ r, Y (ix2 r c) ≠ (⊤ : EReal) ∧ Y (ix2 r c) ≠ (⊥ : EReal)) ∧ (a (ix1 c) ≠ (⊤ : EReal) ∧ a (ix1 c) ≠ (⊥ : EReal))
      ∧ s1 (ix2 (0 : Fin 1) c) = (∑ j : Fin 10000, Y (ix2 j c) : EReal)
      ∧ s2 (ix2 (0 : Fin 1) c) = (∑ j : Fin 10000, Y (ix2 j c) * Y (ix2 j c) : EReal) := by
  have h := congrFun h (fun a => a.elim0)
  dsimp only [Cert.Pre_column_sums.fn, Cert.Pre_column_sums.fn_part1] at h
  obtain ⟨hf, hs⟩ := Inputs.andi_split _ _ h
  obtain ⟨hy, ha⟩ := Inputs.andi_split _ _ hf
  obtain ⟨h1, h2⟩ := Inputs.andi_split _ _ hs
  rw [Layer.reference_sum] at h1 h2
  exact ⟨fun r => finite_of _ (Host.reduce_andi_all _ _ _ _ _ hy (ix2 r c)), finite_of _ (Host.reduce_andi_all _ _ _ _ _ ha (ix1 c)),
    eq_of _ _ (Host.reduce_andi_all _ _ _ _ _ h1 (ix2 (0 : Fin 1) c)), eq_of _ _ (Host.reduce_andi_all _ _ _ _ _ h2 (ix2 (0 : Fin 1) c))⟩

/-! ## The kernel -/

open Cert.NormIdeal Cert.NormIdeal.Gen

/-- The row of the reciprocal roots that the body computes. -/
def inverse (s1 s2 a : Mat 1 128) : Mat 1 128 :=
  rsqrt (addf (addf (subf (mulf s2 (broadcast S1x128 (Named.named κ "inv_n" 0x38D1B717#32)))
      (mulf (mulf (broadcast S1x128 (Scalar.ofBits .f32 0x40000000#32)) (mulf a (mulf s1 (broadcast S1x128 (Named.named κ "inv_n" 0x38D1B717#32))))) (mulf s1 (broadcast S1x128 (Named.named κ "inv_n" 0x38D1B717#32)))))
      (mulf (mulf a (mulf s1 (broadcast S1x128 (Named.named κ "inv_n" 0x38D1B717#32)))) (mulf a (mulf s1 (broadcast S1x128 (Named.named κ "inv_n" 0x38D1B717#32))))))
    (broadcast S1x128 (Scalar.ofBits .f32 0x3727C5AC#32)))

/-- What the body stores, at a row and a column of the block. -/
theorem pay_at (s1 s2 a : Mat 1 128) (Y : Mat 2000 128) (g b : Mat 1 128) (r : Fin 2000) (c : Fin 128) :
    k0_pay1 (F := Ideal) s1 s2 a Y g b (ix2 r c)
      = entry (Y (ix2 r c)) (s1 (ix2 (0 : Fin 1) c)) (s2 (ix2 (0 : Fin 1) c)) (g (ix2 (0 : Fin 1) c)) (b (ix2 (0 : Fin 1) c)) (a (ix2 (0 : Fin 1) c)) := by
  simp only [k0_pay1, shapeCast_self]
  refine Eq.trans (b := leaky (broadcastTo S2000x128 g broadcasts_S1x128_S2000x128 (ix2 r c)
    * (Y (ix2 r c) - broadcastTo S2000x128 (mulf a (mulf s1 (broadcast S1x128 (Named.named κ "inv_n" 0x38D1B717#32)))) broadcasts_S1x128_S2000x128 (ix2 r c))
    * broadcastTo S2000x128 (inverse s1 s2 a) broadcasts_S1x128_S2000x128 (ix2 r c) + broadcastTo S2000x128 b broadcasts_S1x128_S2000x128 (ix2 r c))) rfl ?_
  rw [broadcastTo_1b_ab_apply, broadcastTo_1b_ab_apply, broadcastTo_1b_ab_apply, broadcastTo_1b_ab_apply]
  rfl

variable (m : (ℓ : Loc nD τ sig) → Buf (Elt Ideal) ℓ)

/-- Point `t`'s blocks of the row arrays start at row 2000 t; the rest are whole. -/
theorem at_rows : ∀ t : Fin cfg0.N, (win0_0.index t 0 = t.val ∧ win0_0.index t 1 = 0) ∧ (win0_6.index t 0 = t.val ∧ win0_6.index t 1 = 0) :=
  (by decide +kernel : ∀ t : Fin grid0.N, (win0_0.index t 0 = t.val ∧ win0_0.index t 1 = 0) ∧ (win0_6.index t 0 = t.val ∧ win0_6.index t 1 = 0))

theorem at_whole : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0))

theorem lt5 (t : Fin cfg0.N) : t.val < 5 := Nat.lt_of_lt_of_eq t.isLt (by decide +kernel : grid0.N = 5)

/-- Row `r` of point `t`'s block, as a row of the array. -/
def rowOf (t : Fin cfg0.N) (r : Fin 2000) : Fin 10000 := ⟨t.val * 2000 + r.val, by have := lt5 t; omega⟩

/-- The maps' block. -/
theorem blk0 (c : Dev nD) (t : Fin cfg0.N) (r : Fin 2000) (k : Fin 128) :
    iblk m c 0 t (ix2 r k) = m ((c : Thread nD τ).loc main_arg0) (ix2 (rowOf t r) k) := by
  rw [← V_main_arg0 m c]
  obtain ⟨h, h'⟩ := (at_rows t).1
  refine congrArg (V m c main_arg0) (funext fun a => Fin.ext ?_)
  match a with
  | ⟨0, _⟩ => show win0_0.index t 0 * 2000 + 1 * r.val = t.val * 2000 + r.val; rw [h]; omega
  | ⟨1, _⟩ => show win0_0.index t 1 * 128 + 1 * k.val = k.val; rw [h']; omega

/-- The block of the sums. -/
theorem blk1 (c : Dev nD) (t : Fin cfg0.N) (k : Fin 128) : iblk m c 1 t (ix2 (0 : Fin 1) k) = m ((c : Thread nD τ).loc main_arg1) (ix2 (0 : Fin 1) k) := by
  rw [← V_main_arg1 m c]
  obtain ⟨h, h'⟩ := (at_whole t).1
  refine congrArg (V m c main_arg1) (funext fun a => Fin.ext ?_)
  match a with
  | ⟨0, _⟩ => show win0_1.index t 0 * 1 + 1 * 0 = 0; rw [h]
  | ⟨1, _⟩ => show win0_1.index t 1 * 128 + 1 * k.val = k.val; rw [h']; omega
/-- The block of the squares' sums. -/
theorem blk2 (c : Dev nD) (t : Fin cfg0.N) (k : Fin 128) : iblk m c 2 t (ix2 (0 : Fin 1) k) = m ((c : Thread nD τ).loc main_arg2) (ix2 (0 : Fin 1) k) := by
  rw [← V_main_arg2 m c]
  obtain ⟨h, h'⟩ := (at_whole t).2.1
  refine congrArg (V m c main_arg2) (funext fun a => Fin.ext ?_)
  match a with
  | ⟨0, _⟩ => show win0_2.index t 0 * 1 + 1 * 0 = 0; rw [h]
  | ⟨1, _⟩ => show win0_2.index t 1 * 128 + 1 * k.val = k.val; rw [h']; omega

/-- The scale as one row. -/
theorem V_v0 (c : Dev nD) : V m c main_v0 = shapeCast S1x128 (m ((c : Thread nD τ).loc main_arg3)) shapeCasts_S128_S1x128 := by
  show StableHlo.after hostOps0 (fun b => m (c, b)) main_v0 = _
  after_results
  rfl
/-- The bias as one row. -/
theorem V_v1 (c : Dev nD) : V m c main_v1 = shapeCast S1x128 (m ((c : Thread nD τ).loc main_arg4)) shapeCasts_S128_S1x128 := by
  show StableHlo.after hostOps0 (fun b => m (c, b)) main_v1 = _
  after_results
  rfl
/-- The shift as one row. -/
theorem V_v2 (c : Dev nD) : V m c main_v2 = shapeCast S1x128 (m ((c : Thread nD τ).loc main_arg5)) shapeCasts_S128_S1x128 := by
  show StableHlo.after hostOps0 (fun b => m (c, b)) main_v2 = _
  after_results
  rfl

/-- The scale's block, at a column. -/
theorem blk3 (c : Dev nD) (t : Fin cfg0.N) (k : Fin 128) : iblk m c 3 t (ix2 (0 : Fin 1) k) = m ((c : Thread nD τ).loc main_arg3) (ix1 k) := by
  refine Eq.trans ?_ (row_at (m ((c : Thread nD τ).loc main_arg3)) shapeCasts_S128_S1x128 k)
  rw [← V_v0]
  obtain ⟨h, h'⟩ := (at_whole t).2.2.1
  refine congrArg (V m c main_v0) (funext fun a => Fin.ext ?_)
  match a with
  | ⟨0, _⟩ => show win0_3.index t 0 * 1 + 1 * 0 = 0; rw [h]
  | ⟨1, _⟩ => show win0_3.index t 1 * 128 + 1 * k.val = k.val; rw [h']; omega
/-- The bias's. -/
theorem blk4 (c : Dev nD) (t : Fin cfg0.N) (k : Fin 128) : iblk m c 4 t (ix2 (0 : Fin 1) k) = m ((c : Thread nD τ).loc main_arg4) (ix1 k) := by
  refine Eq.trans ?_ (row_at (m ((c : Thread nD τ).loc main_arg4)) shapeCasts_S128_S1x128 k)
  rw [← V_v1]
  obtain ⟨h, h'⟩ := (at_whole t).2.2.2.1
  refine congrArg (V m c main_v1) (funext fun a => Fin.ext ?_)
  match a with
  | ⟨0, _⟩ => show win0_4.index t 0 * 1 + 1 * 0 = 0; rw [h]
  | ⟨1, _⟩ => show win0_4.index t 1 * 128 + 1 * k.val = k.val; rw [h']; omega
/-- And the shift's. -/
theorem blk5 (c : Dev nD) (t : Fin cfg0.N) (k : Fin 128) : iblk m c 5 t (ix2 (0 : Fin 1) k) = m ((c : Thread nD τ).loc main_arg5) (ix1 k) := by
  refine Eq.trans ?_ (row_at (m ((c : Thread nD τ).loc main_arg5)) shapeCasts_S128_S1x128 k)
  rw [← V_v2]
  obtain ⟨h, h'⟩ := (at_whole t).2.2.2.2
  refine congrArg (V m c main_v2) (funext fun a => Fin.ext ?_)
  match a with
  | ⟨0, _⟩ => show win0_5.index t 0 * 1 + 1 * 0 = 0; rw [h]
  | ⟨1, _⟩ => show win0_5.index t 1 * 128 + 1 * k.val = k.val; rw [h']; omega

theorem zeros : (![0, 0] : Fin 2 → Nat) = fun _ => 0 := funext fun a => by fin_cases a <;> rfl

/-- The block that the body leaves is what it stores. -/
theorem out_eq (x0 : Mat 2000 128) (x1 x2 x3 x4 x5 : Mat 1 128) :
    out0_6 (F := Ideal) x0 x1 x2 x3 x4 x5 = k0_pay1 (F := Ideal) x1 x2 x5 x0 x3 x4 := by
  unfold out0_6
  rw [View.canon_unit_zero zeros, View.ld_unit_zero zeros, View.ld_unit_zero zeros, View.ld_unit_zero zeros, View.ld_unit_zero zeros,
    View.ld_unit_zero zeros, View.ld_unit_zero zeros]

/-- The result, from the launch's arrays, at an index. -/
def goal (c : Dev nD) : S10000x128.Idx → EReal := fun i =>
  entry (m ((c : Thread nD τ).loc main_arg0) (ix2 (i 0) (i 1))) (m ((c : Thread nD τ).loc main_arg1) (ix2 (0 : Fin 1) (i 1))) (m ((c : Thread nD τ).loc main_arg2) (ix2 (0 : Fin 1) (i 1)))
    (m ((c : Thread nD τ).loc main_arg3) (ix1 (i 1))) (m ((c : Thread nD τ).loc main_arg4) (ix1 (i 1))) (m ((c : Thread nD τ).loc main_arg5) (ix1 (i 1)))

/-- What point `t` writes back. -/
theorem written (c : Dev nD) (t : Fin cfg0.N) (r : Fin 2000) (k : Fin 128) :
    (dats m 0 c).flushed 6 t (ix2 r k) = goal m c (ix2 (rowOf t r) k) := by
  rw [Value.flushed6]
  refine (congrFun (out_eq (iblk m c 0 t) (iblk m c 1 t) (iblk m c 2 t) (iblk m c 3 t) (iblk m c 4 t) (iblk m c 5 t)) (ix2 r k)).trans ?_
  refine (pay_at (iblk m c 1 t) (iblk m c 2 t) (iblk m c 5 t) (iblk m c 0 t) (iblk m c 3 t) (iblk m c 4 t) r k).trans ?_
  rw [blk0, blk1, blk2, blk3, blk4, blk5]
  rfl

/-- Every point writes back. -/
theorem writes : ∀ t : Fin cfg0.N, (cfg0.win 6).flush t = true := (by decide +kernel : ∀ t : Fin grid0.N, win0_6.flush t = true)

/-- The result after the grid. -/
theorem final (c : Dev nD) : (dats m 0 c).arrAt 6 cfg0.N = goal m c := by
  funext i
  have hi : (i 0).val < 10000 := (i 0).isLt
  have hN : cfg0.N = 5 := (by decide +kernel : grid0.N = 5)
  let t : Fin cfg0.N := ⟨(i 0).val / 2000, by rw [hN]; omega⟩
  let r : Fin 2000 := ⟨(i 0).val % 2000, by omega⟩
  have hr : rowOf t r = i 0 := Fin.ext (by show (i 0).val / 2000 * 2000 + (i 0).val % 2000 = (i 0).val; omega)
  have hb := congrFun (Value.blocks6 m c t (writes t)) (ix2 r (i 1))
  refine Eq.trans (congrArg ((dats m 0 c).arrAt 6 cfg0.N) ?_) (hb.trans ((written m c t r (i 1)).trans (congrArg (goal m c) ((congrArg (ix2 · (i 1)) hr).trans (eq_ix2 i).symm))))
  obtain ⟨h, h'⟩ := (at_rows t).2
  refine funext fun a => Fin.ext ?_
  match a with
  | ⟨0, _⟩ => show (i 0).val = win0_6.index t 0 * 2000 + 1 * ((i 0).val % 2000); rw [h]; show (i 0).val = (i 0).val / 2000 * 2000 + _; omega
  | ⟨1, _⟩ => show (i 1).val = win0_6.index t 1 * 128 + 1 * (i 1).val; rw [h']; omega

/-- Where the precondition holds, the result is the reference's. -/
theorem goal_eq (c : Dev nD) (h : Cert.Pre_column_sums.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) :
    goal m c = (fun i => plain (m ((c : Thread nD τ).loc main_arg0)) (m ((c : Thread nD τ).loc main_arg3)) (m ((c : Thread nD τ).loc main_arg4))
      (m ((c : Thread nD τ).loc main_arg5)) (i 0) (i 1) : Mat 10000 128) := by
  funext i
  obtain ⟨hy, ha, h1, h2⟩ := sums_of _ _ _ _ _ _ h (i 1)
  exact entry_eq _ _ _ _ (i 0) (i 1) _ _ hy ha h1 h2

end Cert.Proof.Norm

end
-- ==== Proof.Whole.lean ====
/-
  The three dense calls: their frames, over machine words and over the extended reals, and that each one's results are its
  reference's.
-/
module

public import proofs.«01_k».proof.Defs
public import proofs.«01_k».proof.Proof.LayerValue
public import proofs.«01_k».proof.Proof.TailValue
public import proofs.«01_k».proof.Proof.NormValue
public import proofs.«01_k».proof.Proof.Same

@[expose] public section

noncomputable section

namespace Cert.Proof.Whole

open Idealize.ShloMosaic Idealize.SL.Sem

/-- What the layer's program over machine words states of its shapes and windows: it is the idealized program's text. -/
instance layerFacts₀ : Cert.Layer.Facts₀ where
  shapeCasts_S128_S1x128 := Cert.LayerIdeal.Gen.facts₀.shapeCasts_S128_S1x128
  inb_S2000x128_S2000x128_0_0 := Cert.LayerIdeal.Gen.facts₀.inb_S2000x128_S2000x128_0_0
  h_S2000x128 := Cert.LayerIdeal.Gen.facts₀.h_S2000x128
  inb_S128x128_S128x128_0_0 := Cert.LayerIdeal.Gen.facts₀.inb_S128x128_S128x128_0_0
  h_S128x128 := Cert.LayerIdeal.Gen.facts₀.h_S128x128
  inb_S1x128_S1x128_0_0 := Cert.LayerIdeal.Gen.facts₀.inb_S1x128_S1x128_0_0
  h_S1x128 := Cert.LayerIdeal.Gen.facts₀.h_S1x128
  shapeCasts_S1x128_S1x128 := Cert.LayerIdeal.Gen.facts₀.shapeCasts_S1x128_S1x128
  broadcasts_S1x128_S2000x128 := Cert.LayerIdeal.Gen.facts₀.broadcasts_S1x128_S2000x128
  reduces_S2000x128_S128 := Cert.LayerIdeal.Gen.facts₀.reduces_S2000x128_S128
  dot_S2000x128_S128x128_S2000x128_1_1_0_0_n_n_wf := Cert.LayerIdeal.Gen.facts₀.dot_S2000x128_S128x128_S2000x128_1_1_0_0_n_n_wf
  hrank0 := Cert.LayerIdeal.Gen.facts₀.hrank0
  hstage0_0 := Cert.LayerIdeal.Gen.facts₀.hstage0_0
  nbuf0_0 := Cert.LayerIdeal.Gen.facts₀.nbuf0_0
  hreads0_0 := Cert.LayerIdeal.Gen.facts₀.hreads0_0
  hinb0_0 := Cert.LayerIdeal.Gen.facts₀.hinb0_0
  hwx0_0 := Cert.LayerIdeal.Gen.facts₀.hwx0_0
  hstage0_1 := Cert.LayerIdeal.Gen.facts₀.hstage0_1
  nbuf0_1 := Cert.LayerIdeal.Gen.facts₀.nbuf0_1
  hreads0_1 := Cert.LayerIdeal.Gen.facts₀.hreads0_1
  hinb0_1 := Cert.LayerIdeal.Gen.facts₀.hinb0_1
  hwx0_1 := Cert.LayerIdeal.Gen.facts₀.hwx0_1
  hstage0_2 := Cert.LayerIdeal.Gen.facts₀.hstage0_2
  nbuf0_2 := Cert.LayerIdeal.Gen.facts₀.nbuf0_2
  hreads0_2 := Cert.LayerIdeal.Gen.facts₀.hreads0_2
  hinb0_2 := Cert.LayerIdeal.Gen.facts₀.hinb0_2
  hwx0_2 := Cert.LayerIdeal.Gen.facts₀.hwx0_2
  hstage0_3 := Cert.LayerIdeal.Gen.facts₀.hstage0_3
  nbuf0_3 := Cert.LayerIdeal.Gen.facts₀.nbuf0_3
  hreads0_3 := Cert.LayerIdeal.Gen.facts₀.hreads0_3
  hinb0_3 := Cert.LayerIdeal.Gen.facts₀.hinb0_3
  hwx0_3 := Cert.LayerIdeal.Gen.facts₀.hwx0_3
  hstage0_4 := Cert.LayerIdeal.Gen.facts₀.hstage0_4
  nbuf0_4 := Cert.LayerIdeal.Gen.facts₀.nbuf0_4
  hreads0_4 := Cert.LayerIdeal.Gen.facts₀.hreads0_4
  hinb0_4 := Cert.LayerIdeal.Gen.facts₀.hinb0_4
  hwx0_4 := Cert.LayerIdeal.Gen.facts₀.hwx0_4
  hstage0_5 := Cert.LayerIdeal.Gen.facts₀.hstage0_5
  nbuf0_5 := Cert.LayerIdeal.Gen.facts₀.nbuf0_5
  hreads0_5 := Cert.LayerIdeal.Gen.facts₀.hreads0_5
  hinb0_5 := Cert.LayerIdeal.Gen.facts₀.hinb0_5
  hwx0_5 := Cert.LayerIdeal.Gen.facts₀.hwx0_5
  hstage0_6 := Cert.LayerIdeal.Gen.facts₀.hstage0_6
  nbuf0_6 := Cert.LayerIdeal.Gen.facts₀.nbuf0_6
  hreads0_6 := Cert.LayerIdeal.Gen.facts₀.hreads0_6
  hinb0_6 := Cert.LayerIdeal.Gen.facts₀.hinb0_6
  hwx0_6 := Cert.LayerIdeal.Gen.facts₀.hwx0_6
  hstage0_7 := Cert.LayerIdeal.Gen.facts₀.hstage0_7
  nbuf0_7 := Cert.LayerIdeal.Gen.facts₀.nbuf0_7
  hreads0_7 := Cert.LayerIdeal.Gen.facts₀.hreads0_7
  hinb0_7 := Cert.LayerIdeal.Gen.facts₀.hinb0_7
  hwx0_7 := Cert.LayerIdeal.Gen.facts₀.hwx0_7

instance layerFacts : Cert.Layer.Facts where

/-- The layer's body over machine words is the idealized program's. -/
theorem layer_body_same : Cert.Layer.cc0__lin_body (F := Bits) = Cert.LayerIdeal.cc0__lin_body (F := Bits) := rfl

/-- So is its table of bodies. -/
theorem layer_defs₀_same : Cert.Layer.defs₀ (F := Bits) = Cert.LayerIdeal.defs₀ (F := Bits) := by
  funext p ℓ a
  match p, ℓ, a with
  | .tc, 0, _ => rfl
  | .scScalar _, _, _ => rfl
  | .scVector _ _, _, _ => rfl

/-- And its whole table. -/
theorem layer_defs_same : Cert.Layer.defs (F := Bits) = Cert.LayerIdeal.defs (F := Bits) :=
  congrArg (fun d => Pipeline.defs Cert.Layer.pcfgs d) layer_defs₀_same

/-- The layer's frame over machine words: the one run. -/
theorem layer_frame : Cert.quiescent_Layer := fun m g _ => by
  refine Eq.mpr (congrArg (fun D => θ_run D (onTc (Cert.Layer.main (F := Bits))) ⟨m, fun _ => 0, g⟩ _) layer_defs_same) ?_
  exact Cert.LayerIdeal.Gen.frame (F := Bits) m g

/-- And over the extended reals. -/
theorem layer_frame_ideal : Cert.quiescent_LayerIdeal := fun m g _ => Cert.LayerIdeal.Gen.frame (F := Ideal) m g

/-- What the tail's program over machine words states of its shapes and windows: it is the idealized program's text. -/
instance tailFacts₀ : Cert.Tail.Facts₀ where
  slices_S128x256_S128x128_0_0 := Cert.TailIdeal.Gen.facts₀.slices_S128x256_S128x128_0_0
  slices_S128x256_S128x128_0_128 := Cert.TailIdeal.Gen.facts₀.slices_S128x256_S128x128_0_128
  shapeCasts_S128_S1x128 := Cert.TailIdeal.Gen.facts₀.shapeCasts_S128_S1x128
  inb_S2000x128_S2000x128_0_0 := Cert.TailIdeal.Gen.facts₀.inb_S2000x128_S2000x128_0_0
  h_S2000x128 := Cert.TailIdeal.Gen.facts₀.h_S2000x128
  inb_S128x128_S128x128_0_0 := Cert.TailIdeal.Gen.facts₀.inb_S128x128_S128x128_0_0
  h_S128x128 := Cert.TailIdeal.Gen.facts₀.h_S128x128
  shapeCasts_S128x128_S128x128 := Cert.TailIdeal.Gen.facts₀.shapeCasts_S128x128_S128x128
  inb_S1x128_S1x128_0_0 := Cert.TailIdeal.Gen.facts₀.inb_S1x128_S1x128_0_0
  h_S1x128 := Cert.TailIdeal.Gen.facts₀.h_S1x128
  shapeCasts_S1x128_S1x128 := Cert.TailIdeal.Gen.facts₀.shapeCasts_S1x128_S1x128
  broadcasts_S1x128_S2000x128 := Cert.TailIdeal.Gen.facts₀.broadcasts_S1x128_S2000x128
  dot_S2000x128_S128x128_S2000x128_1_1_0_0_n_n_wf := Cert.TailIdeal.Gen.facts₀.dot_S2000x128_S128x128_S2000x128_1_1_0_0_n_n_wf
  hrank0 := Cert.TailIdeal.Gen.facts₀.hrank0
  hstage0_0 := Cert.TailIdeal.Gen.facts₀.hstage0_0
  nbuf0_0 := Cert.TailIdeal.Gen.facts₀.nbuf0_0
  hreads0_0 := Cert.TailIdeal.Gen.facts₀.hreads0_0
  hinb0_0 := Cert.TailIdeal.Gen.facts₀.hinb0_0
  hwx0_0 := Cert.TailIdeal.Gen.facts₀.hwx0_0
  hstage0_1 := Cert.TailIdeal.Gen.facts₀.hstage0_1
  nbuf0_1 := Cert.TailIdeal.Gen.facts₀.nbuf0_1
  hreads0_1 := Cert.TailIdeal.Gen.facts₀.hreads0_1
  hinb0_1 := Cert.TailIdeal.Gen.facts₀.hinb0_1
  hwx0_1 := Cert.TailIdeal.Gen.facts₀.hwx0_1
  hstage0_2 := Cert.TailIdeal.Gen.facts₀.hstage0_2
  nbuf0_2 := Cert.TailIdeal.Gen.facts₀.nbuf0_2
  hreads0_2 := Cert.TailIdeal.Gen.facts₀.hreads0_2
  hinb0_2 := Cert.TailIdeal.Gen.facts₀.hinb0_2
  hwx0_2 := Cert.TailIdeal.Gen.facts₀.hwx0_2
  hstage0_3 := Cert.TailIdeal.Gen.facts₀.hstage0_3
  nbuf0_3 := Cert.TailIdeal.Gen.facts₀.nbuf0_3
  hreads0_3 := Cert.TailIdeal.Gen.facts₀.hreads0_3
  hinb0_3 := Cert.TailIdeal.Gen.facts₀.hinb0_3
  hwx0_3 := Cert.TailIdeal.Gen.facts₀.hwx0_3
  hstage0_4 := Cert.TailIdeal.Gen.facts₀.hstage0_4
  nbuf0_4 := Cert.TailIdeal.Gen.facts₀.nbuf0_4
  hreads0_4 := Cert.TailIdeal.Gen.facts₀.hreads0_4
  hinb0_4 := Cert.TailIdeal.Gen.facts₀.hinb0_4
  hwx0_4 := Cert.TailIdeal.Gen.facts₀.hwx0_4
  hstage0_5 := Cert.TailIdeal.Gen.facts₀.hstage0_5
  nbuf0_5 := Cert.TailIdeal.Gen.facts₀.nbuf0_5
  hreads0_5 := Cert.TailIdeal.Gen.facts₀.hreads0_5
  hinb0_5 := Cert.TailIdeal.Gen.facts₀.hinb0_5
  hwx0_5 := Cert.TailIdeal.Gen.facts₀.hwx0_5
  hstage0_6 := Cert.TailIdeal.Gen.facts₀.hstage0_6
  nbuf0_6 := Cert.TailIdeal.Gen.facts₀.nbuf0_6
  hreads0_6 := Cert.TailIdeal.Gen.facts₀.hreads0_6
  hinb0_6 := Cert.TailIdeal.Gen.facts₀.hinb0_6
  hwx0_6 := Cert.TailIdeal.Gen.facts₀.hwx0_6
  hstage0_7 := Cert.TailIdeal.Gen.facts₀.hstage0_7
  nbuf0_7 := Cert.TailIdeal.Gen.facts₀.nbuf0_7
  hreads0_7 := Cert.TailIdeal.Gen.facts₀.hreads0_7
  hinb0_7 := Cert.TailIdeal.Gen.facts₀.hinb0_7
  hwx0_7 := Cert.TailIdeal.Gen.facts₀.hwx0_7
  hstage0_8 := Cert.TailIdeal.Gen.facts₀.hstage0_8
  nbuf0_8 := Cert.TailIdeal.Gen.facts₀.nbuf0_8
  hreads0_8 := Cert.TailIdeal.Gen.facts₀.hreads0_8
  hinb0_8 := Cert.TailIdeal.Gen.facts₀.hinb0_8
  hwx0_8 := Cert.TailIdeal.Gen.facts₀.hwx0_8
  hstage0_9 := Cert.TailIdeal.Gen.facts₀.hstage0_9
  nbuf0_9 := Cert.TailIdeal.Gen.facts₀.nbuf0_9
  hreads0_9 := Cert.TailIdeal.Gen.facts₀.hreads0_9
  hinb0_9 := Cert.TailIdeal.Gen.facts₀.hinb0_9
  hwx0_9 := Cert.TailIdeal.Gen.facts₀.hwx0_9

instance tailFacts : Cert.Tail.Facts where

/-- The tail's body over machine words is the idealized program's. -/
theorem tail_body_same : Cert.Tail.cc0__tail_body (F := Bits) = Cert.TailIdeal.cc0__tail_body (F := Bits) := rfl

/-- So is its table of bodies. -/
theorem tail_defs₀_same : Cert.Tail.defs₀ (F := Bits) = Cert.TailIdeal.defs₀ (F := Bits) := by
  funext p ℓ a
  match p, ℓ, a with
  | .tc, 0, _ => rfl
  | .scScalar _, _, _ => rfl
  | .scVector _ _, _, _ => rfl

/-- And its whole table. -/
theorem tail_defs_same : Cert.Tail.defs (F := Bits) = Cert.TailIdeal.defs (F := Bits) :=
  congrArg (fun d => Pipeline.defs Cert.Tail.pcfgs d) tail_defs₀_same

/-- The tail's frame over machine words: the one run. -/
theorem tail_frame : Cert.quiescent_Tail := fun m g _ => by
  refine Eq.mpr (congrArg (fun D => θ_run D (onTc (Cert.Tail.main (F := Bits))) ⟨m, fun _ => 0, g⟩ _) tail_defs_same) ?_
  exact Cert.TailIdeal.Gen.frame (F := Bits) m g

/-- And over the extended reals. -/
theorem tail_frame_ideal : Cert.quiescent_TailIdeal := fun m g _ => Cert.TailIdeal.Gen.frame (F := Ideal) m g

/-- The layer's results are its reference's. -/
theorem layer_results : Cert.algebraic_LayerIdeal_LayerReferenceIdeal := fun m g m' g' _ hargs => by
  refine ⟨Layer.goal m, Layer.goalSum m, Layer.goalSquares m,
    (θ_run (Cert.LayerIdeal.defs (F := Ideal)) _ _).mono (fun _ h c => ?_) (Cert.LayerIdeal.Value.run_blocks (F := Ideal) m g),
    (θ_run (Cert.LayerReferenceIdeal.defs (F := Ideal)) _ _).mono (fun _ h c => ?_) (Cert.LayerReferenceIdeal.Value.run (F := Ideal) m' g')⟩
  · obtain ⟨h0, h1, h2, ha⟩ := h c
    exact ⟨h0.trans (Layer.final5 m c), h1.trans (Layer.final6 m c), h2.trans (Layer.final7 m c), ha⟩
  · obtain ⟨h0, h1, h2, ha⟩ := h c
    obtain ⟨e0, e1, e2, e3, e4⟩ := hargs c
    rw [e0, e1, e2, e3, e4] at h0 h1 h2
    have y := Layer.reference_eq (m ((c.tc : Thread Cert.LayerIdeal.nD Cert.LayerIdeal.τ).loc Cert.LayerIdeal.main_arg0)) (m ((c.tc : Thread Cert.LayerIdeal.nD Cert.LayerIdeal.τ).loc Cert.LayerIdeal.main_arg1))
      (m ((c.tc : Thread Cert.LayerIdeal.nD Cert.LayerIdeal.τ).loc Cert.LayerIdeal.main_arg2)) (m ((c.tc : Thread Cert.LayerIdeal.nD Cert.LayerIdeal.τ).loc Cert.LayerIdeal.main_arg4))
      (m ((c.tc : Thread Cert.LayerIdeal.nD Cert.LayerIdeal.τ).loc Cert.LayerIdeal.main_arg3))
      Cert.LayerReferenceIdeal.Gen.facts₀.transposes_S128x128_S128x128_1_0 Cert.LayerReferenceIdeal.Gen.facts₀.bcast_S128_S1x128_1 Cert.LayerReferenceIdeal.Gen.facts₀.bcast_S1x128_S10000x128_0_1
    refine ⟨h0.trans y, h1.trans ((Layer.reference_sum_of y _ _ _).trans ?_), h2.trans ((Layer.reference_sum_of (congrArg₂ mulf y y) _ _ _).trans ?_), ha⟩
    · exact funext fun i => Finset.sum_congr rfl fun r _ => rfl
    · exact funext fun i => Finset.sum_congr rfl fun r _ => rfl

/-- The tail's result is its reference's. -/
theorem tail_results : Cert.algebraic_TailIdeal_TailReferenceIdeal := fun m g m' g' _ hargs => by
  refine ⟨Tail.goal m,
    (θ_run (Cert.TailIdeal.defs (F := Ideal)) _ _).mono (fun _ h c => ?_) (Cert.TailIdeal.Value.run_blocks (F := Ideal) m g),
    (θ_run (Cert.TailReferenceIdeal.defs (F := Ideal)) _ _).mono (fun _ h c => ?_) (Cert.TailReferenceIdeal.Value.run (F := Ideal) m' g')⟩
  · obtain ⟨h0, ha⟩ := h c
    exact ⟨h0.trans (Tail.final m c), ha⟩
  · obtain ⟨h0, ha⟩ := h c
    obtain ⟨e0, e1, e2, e3, e4, e5, e6⟩ := hargs c
    rw [e0, e1, e2, e3, e4, e5, e6] at h0
    exact ⟨h0.trans (Tail.reference_eq _ _ _ _ _ _ _ _ _ _ _ _), ha⟩

/-- The layer's reference's frame. -/
theorem layer_frame_reference : Cert.quiescent_LayerReferenceIdeal := fun m g _ => (θ_run (Cert.LayerReferenceIdeal.defs (F := Ideal)) _ _).mono (fun _ h => ⟨fun c => (h c).2.2.2, sem_eq_zero_of_no_sems (by decide) _⟩)
  (Cert.LayerReferenceIdeal.Value.run (F := Ideal) m g)
/-- The tail's reference's frame. -/
theorem tail_frame_reference : Cert.quiescent_TailReferenceIdeal := fun m g _ => (θ_run (Cert.TailReferenceIdeal.defs (F := Ideal)) _ _).mono (fun _ h => ⟨fun c => (h c).2, sem_eq_zero_of_no_sems (by decide) _⟩)
  (Cert.TailReferenceIdeal.Value.run (F := Ideal) m g)

/-- What the graph norm's program over machine words states of its shapes and windows: it is the idealized program's text. -/
instance normFacts₀ : Cert.Norm.Facts₀ where
  shapeCasts_S128_S1x128 := Cert.NormIdeal.Gen.facts₀.shapeCasts_S128_S1x128
  inb_S1x128_S1x128_0_0 := Cert.NormIdeal.Gen.facts₀.inb_S1x128_S1x128_0_0
  h_S1x128 := Cert.NormIdeal.Gen.facts₀.h_S1x128
  shapeCasts_S1x128_S1x128 := Cert.NormIdeal.Gen.facts₀.shapeCasts_S1x128_S1x128
  inb_S2000x128_S2000x128_0_0 := Cert.NormIdeal.Gen.facts₀.inb_S2000x128_S2000x128_0_0
  h_S2000x128 := Cert.NormIdeal.Gen.facts₀.h_S2000x128
  broadcasts_S1x128_S2000x128 := Cert.NormIdeal.Gen.facts₀.broadcasts_S1x128_S2000x128
  hrank0 := Cert.NormIdeal.Gen.facts₀.hrank0
  hstage0_0 := Cert.NormIdeal.Gen.facts₀.hstage0_0
  nbuf0_0 := Cert.NormIdeal.Gen.facts₀.nbuf0_0
  hreads0_0 := Cert.NormIdeal.Gen.facts₀.hreads0_0
  hinb0_0 := Cert.NormIdeal.Gen.facts₀.hinb0_0
  hwx0_0 := Cert.NormIdeal.Gen.facts₀.hwx0_0
  hstage0_1 := Cert.NormIdeal.Gen.facts₀.hstage0_1
  nbuf0_1 := Cert.NormIdeal.Gen.facts₀.nbuf0_1
  hreads0_1 := Cert.NormIdeal.Gen.facts₀.hreads0_1
  hinb0_1 := Cert.NormIdeal.Gen.facts₀.hinb0_1
  hwx0_1 := Cert.NormIdeal.Gen.facts₀.hwx0_1
  hstage0_2 := Cert.NormIdeal.Gen.facts₀.hstage0_2
  nbuf0_2 := Cert.NormIdeal.Gen.facts₀.nbuf0_2
  hreads0_2 := Cert.NormIdeal.Gen.facts₀.hreads0_2
  hinb0_2 := Cert.NormIdeal.Gen.facts₀.hinb0_2
  hwx0_2 := Cert.NormIdeal.Gen.facts₀.hwx0_2
  hstage0_3 := Cert.NormIdeal.Gen.facts₀.hstage0_3
  nbuf0_3 := Cert.NormIdeal.Gen.facts₀.nbuf0_3
  hreads0_3 := Cert.NormIdeal.Gen.facts₀.hreads0_3
  hinb0_3 := Cert.NormIdeal.Gen.facts₀.hinb0_3
  hwx0_3 := Cert.NormIdeal.Gen.facts₀.hwx0_3
  hstage0_4 := Cert.NormIdeal.Gen.facts₀.hstage0_4
  nbuf0_4 := Cert.NormIdeal.Gen.facts₀.nbuf0_4
  hreads0_4 := Cert.NormIdeal.Gen.facts₀.hreads0_4
  hinb0_4 := Cert.NormIdeal.Gen.facts₀.hinb0_4
  hwx0_4 := Cert.NormIdeal.Gen.facts₀.hwx0_4
  hstage0_5 := Cert.NormIdeal.Gen.facts₀.hstage0_5
  nbuf0_5 := Cert.NormIdeal.Gen.facts₀.nbuf0_5
  hreads0_5 := Cert.NormIdeal.Gen.facts₀.hreads0_5
  hinb0_5 := Cert.NormIdeal.Gen.facts₀.hinb0_5
  hwx0_5 := Cert.NormIdeal.Gen.facts₀.hwx0_5
  hstage0_6 := Cert.NormIdeal.Gen.facts₀.hstage0_6
  nbuf0_6 := Cert.NormIdeal.Gen.facts₀.nbuf0_6
  hreads0_6 := Cert.NormIdeal.Gen.facts₀.hreads0_6
  hinb0_6 := Cert.NormIdeal.Gen.facts₀.hinb0_6
  hwx0_6 := Cert.NormIdeal.Gen.facts₀.hwx0_6

instance normFacts : Cert.Norm.Facts where

/-- The graph norm's body over machine words is the idealized program's, the named constant read as the word beside its name. -/
theorem norm_body_same : Cert.Norm.cc0__norm_body (F := Bits) = Cert.NormIdeal.cc0__norm_body (F := Bits) := rfl

/-- So is its table of bodies. -/
theorem norm_defs₀_same : Cert.Norm.defs₀ (F := Bits) = Cert.NormIdeal.defs₀ (F := Bits) := by
  funext p ℓ a
  match p, ℓ, a with
  | .tc, 0, _ => rfl
  | .scScalar _, _, _ => rfl
  | .scVector _ _, _, _ => rfl

/-- And its whole table. -/
theorem norm_defs_same : Cert.Norm.defs (F := Bits) = Cert.NormIdeal.defs (F := Bits) :=
  congrArg (fun d => Pipeline.defs Cert.Norm.pcfgs d) norm_defs₀_same

/-- The graph norm's frame over machine words: the one run. -/
theorem norm_frame : Cert.quiescent_Norm := fun m g _ => by
  refine Eq.mpr (congrArg (fun D => θ_run D (onTc (Cert.Norm.main (F := Bits))) ⟨m, fun _ => 0, g⟩ _) norm_defs_same) ?_
  exact Cert.NormIdeal.Gen.frame (F := Bits) m g

/-- And over the extended reals. -/
theorem norm_frame_ideal : Cert.quiescent_NormIdeal := fun m g _ => Cert.NormIdeal.Gen.frame (F := Ideal) m g

/-- Its named constant. -/
theorem norm_constant : Cert.preserves_Norm_NormIdeal :=
  IdealRules.named_const.statement Cert.NormIdeal.κ "inv_n" .f32 0x38D1B717#32 _ rfl

/-- The graph norm's result is its reference's, where the sums are the columns'. -/
theorem norm_results : Cert.algebraic_NormIdeal_NormReferenceIdeal_pre_column_sums := fun m g m' g' hpre hargs => by
  refine ⟨Norm.goal m,
    (θ_run (Cert.NormIdeal.defs (F := Ideal)) _ _).mono (fun _ h c => ?_) (Cert.NormIdeal.Value.run_blocks (F := Ideal) m g),
    (θ_run (Cert.NormReferenceIdeal.defs (F := Ideal)) _ _).mono (fun _ h c => ?_) (Cert.NormReferenceIdeal.Value.run (F := Ideal) m' g')⟩
  · obtain ⟨h0, ha⟩ := h c
    exact ⟨h0.trans (Norm.final m c), ha⟩
  · obtain ⟨h0, ha⟩ := h c
    obtain ⟨e0, -, -, e3, e4, e5⟩ := hargs c
    have y := Norm.reference_eq m' c
    rw [e0, e3, e4, e5] at y
    exact ⟨(h0.trans y).trans (Norm.goal_eq m c (hpre c)).symm, ha⟩

/-- The graph norm's reference's frame. -/
theorem norm_frame_reference : Cert.quiescent_NormReferenceIdeal := fun m g _ => (θ_run (Cert.NormReferenceIdeal.defs (F := Ideal)) _ _).mono (fun _ h => ⟨fun c => (h c).2, sem_eq_zero_of_no_sems (by decide) _⟩)
  (Cert.NormReferenceIdeal.Value.run (F := Ideal) m g)

end Cert.Proof.Whole

end
-- ==== Proof.lean ====
/-
  The proof of the claims: the two frames of the kernel are its one run, the reference's frame is its run, the named
  constants denote what the table says, and the results are equal, one by one, over the extended reals. The three dense calls
  are claimed beside it, each with its own reference (Whole.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_edges_in_range_and_finite
public import proofs.«01_k».proof.Proof.Gen.LayerIdeal.Value
public import proofs.«01_k».proof.Proof.Gen.LayerReferenceIdeal.Run
public import proofs.«01_k».proof.Proof.Gen.NormIdeal.Value
public import proofs.«01_k».proof.Proof.Gen.NormReferenceIdeal.Run
public import proofs.«01_k».proof.Proof.Gen.Pre_column_sums
public import proofs.«01_k».proof.Proof.Gen.TailIdeal.Value
public import proofs.«01_k».proof.Proof.Gen.TailReferenceIdeal.Run
public import proofs.«01_k».proof.Proof.Inputs
public import proofs.«01_k».proof.Proof.Same
public import proofs.«01_k».proof.Proof.Aggregate
public import proofs.«01_k».proof.Proof.Whole

@[expose] public section

noncomputable section

namespace Cert.Proof

open Idealize.ShloMosaic Idealize.SL.Sem

/-- The kernel's frame: the one run, over machine words. -/
theorem frame_kernel : Cert.quiescent_Kernel := fun m g hpre => by
  refine Eq.mpr (congrArg (fun D => θ_run D (Cert.Kernel.threads (F := Bits)) ⟨m, fun _ => 0, g⟩ _) Same.defs_same) ?_
  exact (θ_run (Cert.KernelIdeal.defs (F := Bits)) _ _).mono (fun _ h => ⟨fun c => (h.1 c).2, h.2⟩)
    (Launch.run_main (F := Bits) m g (Inputs.ok_kernel m fun d => Inputs.range_of _ _ _ _ _ _ _ _ _ _ (hpre d)))

/-- The idealized kernel's frame. -/
theorem frame_ideal : Cert.quiescent_KernelIdeal := fun m g hpre =>
  (θ_run (Cert.KernelIdeal.defs (F := Ideal)) _ _).mono (fun _ h => ⟨fun c => (h.1 c).2, h.2⟩)
    (Launch.run_main (F := Ideal) m g (Inputs.ok_kernel m fun d => Inputs.range_of _ _ _ _ _ _ _ _ _ _ (hpre d)))

/-- The same under the stronger precondition. -/
theorem frame_ideal_finite : Cert.quiescent_KernelIdeal_pre_edges_in_range_and_finite := fun m g hpre =>
  (θ_run (Cert.KernelIdeal.defs (F := Ideal)) _ _).mono (fun _ h => ⟨fun c => (h.1 c).2, h.2⟩)
    (Launch.run_main (F := Ideal) m g (Inputs.ok_kernel m fun d => (Inputs.both_of _ _ _ _ _ _ _ _ _ _ (hpre d)).1))

/-- The reference's frame. -/
theorem frame_reference : Cert.quiescent_ReferenceIdeal := fun m g _ =>
  (θ_run (Cert.ReferenceIdeal.defs (F := Ideal)) _ _).mono (fun _ h => ⟨fun c => (h.1 c).2, h.2⟩) (RefRun.run_ref m g)

/-- The named constants. -/
theorem constants : Cert.preserves_Kernel_KernelIdeal :=
  ⟨IdealRules.named_const.statement Cert.KernelIdeal.κ "neg" .f32 0xFF61B1E6#32 ⊥ rfl,
    IdealRules.named_const.statement Cert.KernelIdeal.κ "low" .f32 0xFCF0BDC2#32 ⊥ rfl⟩

/-- The kernel's results are the reference's. -/
theorem results : Cert.algebraic_KernelIdeal_ReferenceIdeal_pre_edges_in_range_and_finite := fun m g m' g' hpre hargs => by
  have hA : ∀ d i, _ := fun d => (Inputs.both_of _ _ _ _ _ _ _ _ _ _ (hpre d)).1
  have hok : RefRun.Ok m' := Inputs.ok_reference m' fun d => by rw [(hargs d).2.2.2.2.2.2.2.2.2]; exact hA d
  refine ⟨fun c => Launch.RES (F := Ideal) (Tile.OUT (Launch.As m c) (Launch.Ad m c) (m (Launch.x1L c))), fun c => Launch.RES (F := Ideal) (Tile.OUT (Launch.As m c) (Launch.Ad m c) (m (Launch.x2L c))), fun c => Launch.RES (F := Ideal) (Tile.OUT (Launch.As m c) (Launch.Ad m c) (m (Launch.x3L c))), fun c => Launch.RES (F := Ideal) (Tile.OUT (Launch.As m c) (Launch.Ad m c) (m (Launch.x4L c))), fun c => Launch.RES (F := Ideal) (Tile.OUT (Launch.As m c) (Launch.Ad m c) (m (Launch.x5L c))), fun c => Launch.RES (F := Ideal) (Tile.OUT (Launch.As m c) (Launch.Ad m c) (m (Launch.x6L c))), fun c => Launch.RES (F := Ideal) (Tile.OUT (Launch.As m c) (Launch.Ad m c) (m (Launch.x7L c))), fun c => Launch.RES (F := Ideal) (Tile.OUT (Launch.As m c) (Launch.Ad m c) (m (Launch.x8L c))), fun c => Launch.RES (F := Ideal) (Tile.OUT (Launch.As m c) (Launch.Ad m c) (m (Launch.x9L c))),
    (θ_run (Cert.KernelIdeal.defs (F := Ideal)) _ _).mono (fun _ h c => ?_) (Launch.run_main (F := Ideal) m g (Inputs.ok_kernel m hA)),
    (θ_run (Cert.ReferenceIdeal.defs (F := Ideal)) _ _).mono (fun _ h c => ?_) (RefRun.run_ref m' g')⟩
  · obtain ⟨⟨h1, h2, h3, h4, h5, h6, h7, h8, h9⟩, ha⟩ := h.1 c
    exact ⟨h1, h2, h3, h4, h5, h6, h7, h8, h9, ha⟩
  · obtain ⟨o0, o1, o2, o3, o4, o5, o6, o7, o8⟩ := RefRun.outs m' c hok _ ((h.1 c).1 hok)
    obtain ⟨-, f0, f1, f2, f3, f4, f5, f6, f7, f8⟩ := Inputs.both_of _ _ _ _ _ _ _ _ _ _ (hpre c)
    have es := (Inputs.Sw_row m' c).trans (Eq.trans (congrArg _ (hargs c).2.2.2.2.2.2.2.2.2) (Inputs.As_row m c).symm)
    have et := (Inputs.Tw_row m' c).trans (Eq.trans (congrArg _ (hargs c).2.2.2.2.2.2.2.2.2) (Inputs.Ad_row m c).symm)
    obtain ⟨a0, a1, a2, a3, a4, a5, a6, a7, a8, -⟩ := hargs c
    rw [es, et] at o0 o1 o2 o3 o4 o5 o6 o7 o8
    rw [a0] at o0
    rw [a1] at o1
    rw [a2] at o2
    rw [a3] at o3
    rw [a4] at o4
    rw [a5] at o5
    rw [a6] at o6
    rw [a7] at o7
    rw [a8] at o8
    have hS := (Inputs.ok_kernel m hA c).1
    have hsc := Cert.KernelIdeal.Gen.shapeCasts_S1280000_S10000x128
    exact ⟨o0.trans (Aggregate.result_eq _ _ _ hS (fun i => Inputs.lt_top_of _ (f0 i)) hsc).symm,
      o1.trans (Aggregate.result_eq _ _ _ hS (fun i => Inputs.lt_top_of _ (f1 i)) hsc).symm,
      o2.trans (Aggregate.result_eq _ _ _ hS (fun i => Inputs.lt_top_of _ (f2 i)) hsc).symm,
      o3.trans (Aggregate.result_eq _ _ _ hS (fun i => Inputs.lt_top_of _ (f3 i)) hsc).symm,
      o4.trans (Aggregate.result_eq _ _ _ hS (fun i => Inputs.lt_top_of _ (f4 i)) hsc).symm,
      o5.trans (Aggregate.result_eq _ _ _ hS (fun i => Inputs.lt_top_of _ (f5 i)) hsc).symm,
      o6.trans (Aggregate.result_eq _ _ _ hS (fun i => Inputs.lt_top_of _ (f6 i)) hsc).symm,
      o7.trans (Aggregate.result_eq _ _ _ hS (fun i => Inputs.lt_top_of _ (f7 i)) hsc).symm,
      o8.trans (Aggregate.result_eq _ _ _ hS (fun i => Inputs.lt_top_of _ (f8 i)) hsc).symm,
      (h.1 c).2⟩

/-- Every claim. -/
theorem claim : Cert.Claim := ⟨Cert.Kernel.Gen.facts, Cert.KernelIdeal.Gen.facts, Cert.ReferenceIdeal.Gen.facts,
  Whole.layerFacts, Cert.LayerIdeal.Gen.facts, Cert.LayerReferenceIdeal.Gen.facts,
  Whole.normFacts, Cert.NormIdeal.Gen.facts, Cert.NormReferenceIdeal.Gen.facts,
  Whole.tailFacts, Cert.TailIdeal.Gen.facts, Cert.TailReferenceIdeal.Gen.facts,
  Inputs.rangeFacts, Cert.Pre_edges_in_range_and_finite.Gen.facts, Cert.Pre_column_sums.Gen.facts,
  frame_kernel, frame_ideal, frame_ideal_finite, frame_reference, fun m g _ => frame_reference m g trivial,
  Whole.layer_frame, Whole.layer_frame_ideal, Whole.layer_frame_reference,
  Whole.norm_frame, Whole.norm_frame_ideal, fun m g _ => Whole.norm_frame_ideal m g trivial,
  Whole.norm_frame_reference, fun m g _ => Whole.norm_frame_reference m g trivial,
  Whole.tail_frame, Whole.tail_frame_ideal, Whole.tail_frame_reference,
  constants, results, trivial, Whole.layer_results, Whole.norm_constant, Whole.norm_results, trivial, Whole.tail_results⟩

end Cert.Proof

end
